-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)) (v3 : (c : Dev Cert.KernelIdeal.nD) → Buf (Elt Ideal) ((c.tc : Thread Cert.KernelIdeal.nD Cert.KernelIdeal.τ).loc Cert.KernelIdeal.main_v10_2)) (v4 : (c : Dev Cert.KernelIdeal.nD) → Buf (Elt Ideal) ((c.tc : Thread Cert.KernelIdeal.nD Cert.KernelIdeal.τ).loc Cert.KernelIdeal.main_v10_3)) (v5 : (c : Dev Cert.KernelIdeal.nD) → Buf (Elt Ideal) ((c.tc : Thread Cert.KernelIdeal.nD Cert.KernelIdeal.τ).loc Cert.KernelIdeal.main_v16)) (v6 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_v10_2) = v3 c
          ∧ r.2.mem ((c.tc : Thread Cert.KernelIdeal.nD Cert.KernelIdeal.τ).loc Cert.KernelIdeal.main_v10_3) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_v17) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_v148) = v5 c
          ∧ r.2.mem ((c.tc : Thread Cert.ReferenceIdeal.nD Cert.ReferenceIdeal.τ).loc Cert.ReferenceIdeal.main_v156) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)) (v2 : (c : Dev Cert.Kernel14Ideal.nD) → Buf (Elt Ideal) ((c.tc : Thread Cert.Kernel14Ideal.nD Cert.Kernel14Ideal.τ).loc Cert.Kernel14Ideal.main_v5_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v73) = v0 c
          ∧ r.2.mem ((c.tc : Thread Cert.Reference14Ideal.nD Cert.Reference14Ideal.τ).loc Cert.Reference14Ideal.main_v74) = v1 c
          ∧ r.2.mem ((c.tc : Thread Cert.Reference14Ideal.nD Cert.Reference14Ideal.τ).loc Cert.Reference14Ideal.main_v79) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v21) = v0 c
          ∧ r.2.mem ((c.tc : Thread Cert.Reference16Ideal.nD Cert.Reference16Ideal.τ).loc Cert.Reference16Ideal.main_v22) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v17) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v29) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Kernel.lean ====
abbrev S2x16384x1024 : Shape := ⟨3, ![2, 16384, 1024]⟩
abbrev S2x256x8x64x64 : Shape := ⟨5, ![2, 256, 8, 64, 64]⟩
abbrev S2x256x8 : Shape := ⟨3, ![2, 256, 8]⟩
abbrev S16384x1024 : Shape := ⟨2, ![16384, 1024]⟩
abbrev S2x256x4x64x64 : Shape := ⟨5, ![2, 256, 4, 64, 64]⟩
abbrev S_ : Shape := ⟨0, ![]⟩
abbrev S2x256x4x64x128 : Shape := ⟨5, ![2, 256, 4, 64, 128]⟩
abbrev S2x256x4x128x128 : Shape := ⟨5, ![2, 256, 4, 128, 128]⟩
abbrev S2x256x8x1 : Shape := ⟨4, ![2, 256, 8, 1]⟩
abbrev S2x256x8x128 : Shape := ⟨4, ![2, 256, 8, 128]⟩
abbrev S2x256x8x128x128 : Shape := ⟨5, ![2, 256, 8, 128, 128]⟩
abbrev S1x512x1024 : Shape := ⟨3, ![1, 512, 1024]⟩
abbrev S1x8x4x128x128 : Shape := ⟨5, ![1, 8, 4, 128, 128]⟩
abbrev S1x8x8x128 : Shape := ⟨4, ![1, 8, 8, 128]⟩
abbrev S1x8x8x128x128 : Shape := ⟨5, ![1, 8, 8, 128, 128]⟩
abbrev S8x128x128 : Shape := ⟨3, ![8, 128, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S1x64x128 : Shape := ⟨3, ![1, 64, 128]⟩
abbrev S64x128 : Shape := ⟨2, ![64, 128]⟩
abbrev S1x1x1x128 : Shape := ⟨4, ![1, 1, 1, 128]⟩
abbrev S1x128 : Shape := ⟨2, ![1, 128]⟩
abbrev S512x1024 : Shape := ⟨2, ![512, 1024]⟩
abbrev S128 : Shape := ⟨1, ![128]⟩
abbrev S2x256x4x1x64x64 : Shape := ⟨6, ![2, 256, 4, 1, 64, 64]⟩
abbrev S2x256x4x2x64x64 : Shape := ⟨6, ![2, 256, 4, 2, 64, 64]⟩

abbrev nBuf : Space → Nat
  | .hbm => 33
  | .vmem => 46
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x1024, .bf16⟩
  | .hbm, ⟨3, _⟩ => ⟨S2x16384x1024, .bf16⟩
  | .hbm, ⟨4, _⟩ => ⟨S2x256x8x64x64, .bf16⟩
  | .hbm, ⟨5, _⟩ => ⟨S2x256x8, .f32⟩
  | .hbm, ⟨6, _⟩ => ⟨S16384x1024, .bf16⟩
  | .hbm, ⟨7, _⟩ => ⟨S2x256x4x64x64, .bf16⟩
  | .hbm, ⟨8, _⟩ => ⟨S_, .bf16⟩
  | .hbm, ⟨9, _⟩ => ⟨S2x256x4x64x64, .bf16⟩
  | .hbm, ⟨10, _⟩ => ⟨S2x256x4x64x64, .bf16⟩
  | .hbm, ⟨11, _⟩ => ⟨S2x256x4x64x128, .bf16⟩
  | .hbm, ⟨12, _⟩ => ⟨S2x256x4x64x64, .bf16⟩
  | .hbm, ⟨13, _⟩ => ⟨S2x256x4x64x128, .bf16⟩
  | .hbm, ⟨14, _⟩ => ⟨S2x256x4x128x128, .bf16⟩
  | .hbm, ⟨15, _⟩ => ⟨S2x256x8x1, .f32⟩
  | .hbm, ⟨16, _⟩ => ⟨S2x256x8x128, .f32⟩
  | .hbm, ⟨17, _⟩ => ⟨S2x16384x1024, .f32⟩
  | .hbm, ⟨18, _⟩ => ⟨S2x256x8x128x128, .f32⟩
  | .hbm, ⟨19, _⟩ => ⟨S2x16384x1024, .bf16⟩
  | .hbm, ⟨20, _⟩ => ⟨S2x16384x1024, .bf16⟩
  | .hbm, ⟨21, _⟩ => ⟨S2x16384x1024, .f32⟩
  | .hbm, ⟨22, _⟩ => ⟨S2x16384x1024, .f32⟩
  | .hbm, ⟨23, _⟩ => ⟨S2x256x4x128x128, .f32⟩
  | .hbm, ⟨24, _⟩ => ⟨S2x256x8x128, .f32⟩
  | .hbm, ⟨25, _⟩ => ⟨S2x256x4x64x64, .f32⟩
  | .hbm, ⟨26, _⟩ => ⟨S2x256x4x64x64, .f32⟩
  | .hbm, ⟨27, _⟩ => ⟨S2x256x4x1x64x64, .f32⟩
  | .hbm, ⟨28, _⟩ => ⟨S2x256x4x1x64x64, .f32⟩
  | .hbm, ⟨29, _⟩ => ⟨S2x256x4x2x64x64, .f32⟩
  | .hbm, ⟨30, _⟩ => ⟨S2x256x8x64x64, .f32⟩
  | .hbm, ⟨31, _⟩ => ⟨S_, .f32⟩
  | .hbm, ⟨32, _⟩ => ⟨S2x256x8, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x8x4x128x128, .bf16⟩
  | .local _ .vmem, ⟨9, _⟩ => ⟨S1x8x4x128x128, .bf16⟩
  | .local _ .vmem, ⟨10, _⟩ => ⟨S1x8x8x128, .f32⟩
  | .local _ .vmem, ⟨11, _⟩ => ⟨S1x8x8x128, .f32⟩
  | .local _ .vmem, ⟨12, _⟩ => ⟨S1x512x1024, .f32⟩
  | .local _ .vmem, ⟨13, _⟩ => ⟨S1x512x1024, .f32⟩
  | .local _ .vmem, ⟨14, _⟩ => ⟨S1x8x8x128x128, .f32⟩
  | .local _ .vmem, ⟨15, _⟩ => ⟨S1x8x8x128x128, .f32⟩
  | .local _ .vmem, ⟨16, _⟩ => ⟨S8x128x128, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x8x4x128x128, .bf16⟩
  | .local _ .vmem, ⟨26, _⟩ => ⟨S1x8x4x128x128, .bf16⟩
  | .local _ .vmem, ⟨27, _⟩ => ⟨S1x8x8x128, .f32⟩
  | .local _ .vmem, ⟨28, _⟩ => ⟨S1x8x8x128, .f32⟩
  | .local _ .vmem, ⟨29, _⟩ => ⟨S1x8x8x128x128, .f32⟩
  | .local _ .vmem, ⟨30, _⟩ => ⟨S1x8x8x128x128, .f32⟩
  | .local _ .vmem, ⟨31, _⟩ => ⟨S512x1024, .bf16⟩
  | .local _ .vmem, ⟨32, _⟩ => ⟨S512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x1024, .f32⟩
  | .local _ .vmem, ⟨38, _⟩ => ⟨S1x512x1024, .f32⟩
  | .local _ .vmem, ⟨39, _⟩ => ⟨S1x512x1024, .f32⟩
  | .local _ .vmem, ⟨40, _⟩ => ⟨S1x512x1024, .f32⟩
  | .local _ .vmem, ⟨41, _⟩ => ⟨S1x8x4x128x128, .f32⟩
  | .local _ .vmem, ⟨42, _⟩ => ⟨S1x8x4x128x128, .f32⟩
  | .local _ .vmem, ⟨43, _⟩ => ⟨S1x8x8x128, .f32⟩
  | .local _ .vmem, ⟨44, _⟩ => ⟨S1x8x8x128, .f32⟩
  | .local _ .vmem, ⟨45, _⟩ => ⟨S8x128x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (i : grid0.Coords) (k0_t1 : Fin k0_t1_loop.trips) : BitVec 32 :=
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  v8
def k0_off1 (i : grid0.Coords) (k0_t1 : Fin k0_t1_loop.trips) : Fin 5 → Nat :=
  let c0_7 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v14 : Index := Scalar.indexCast v7
  let c0_8 : Index := 0#32
  let c0_9 : Index := 0#32
  let c0_10 : Index := 0#32
  ![0, v14.toNat, 0, 0, 0]
def k0_off2 (i : grid0.Coords) (k0_t1 : Fin k0_t1_loop.trips) : Fin 5 → Nat :=
  let c0_11 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v18 : Index := Scalar.indexCast v7
  let c1_12 : Index := 1#32
  let c0_13 : Index := 0#32
  let c0_14 : Index := 0#32
  ![0, v18.toNat, 1, 0, 0]
def k0_off3 (i : grid0.Coords) (k0_t1 : Fin k0_t1_loop.trips) : Fin 3 → Nat :=
  let c0_15 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v22 : Index := Scalar.indexCast v9
  let c0_16 : Index := 0#32
  ![0, v22.toNat, 0]
def k0_off4 (i : grid0.Coords) (k0_t1 : Fin k0_t1_loop.trips) : Fin 3 → Nat :=
  let c0_17 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v25 : Index := Scalar.indexCast v9
  let c128 : Index := 128#32
  ![0, v25.toNat, 128]
def k0_off5 (i : grid0.Coords) (k0_t1 : Fin k0_t1_loop.trips) : Fin 5 → Nat :=
  let c0_22 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v34 : Index := Scalar.indexCast v7
  let c0_23 : Index := 0#32
  let c0_24 : Index := 0#32
  let c0_25 : Index := 0#32
  ![0, v34.toNat, 0, 0, 0]
def k0_off6 (i : grid0.Coords) (k0_t1 : Fin k0_t1_loop.trips) : Fin 4 → Nat :=
  let c0_34 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v49 : Index := Scalar.indexCast v7
  let c0_35 : Index := 0#32
  let c0_36 : Index := 0#32
  ![0, v49.toNat, 0, 0]
def k0_off7 (i : grid0.Coords) (k0_t1 : Fin k0_t1_loop.trips) : Fin 4 → Nat :=
  let c0_37 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v52 : Index := Scalar.indexCast v7
  let c1_38 : Index := 1#32
  let c0_39 : Index := 0#32
  ![0, v52.toNat, 1, 0]
def k0_off8 (i : grid0.Coords) (k0_t1 : Fin k0_t1_loop.trips) : Fin 5 → Nat :=
  let c0_44 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v59 : Index := Scalar.indexCast v7
  let c2_45 : Index := 2#32
  let c0_46 : Index := 0#32
  let c0_47 : Index := 0#32
  ![0, v59.toNat, 2, 0, 0]
def k0_off9 (i : grid0.Coords) (k0_t1 : Fin k0_t1_loop.trips) : Fin 5 → Nat :=
  let c0_48 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v63 : Index := Scalar.indexCast v7
  let c3_49 : Index := 3#32
  let c0_50 : Index := 0#32
  let c0_51 : Index := 0#32
  ![0, v63.toNat, 3, 0, 0]
def k0_off10 (i : grid0.Coords) (k0_t1 : Fin k0_t1_loop.trips) : Fin 3 → Nat :=
  let c0_52 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v67 : Index := Scalar.indexCast v9
  let c256 : Index := 256#32
  ![0, v67.toNat, 256]
def k0_off11 (i : grid0.Coords) (k0_t1 : Fin k0_t1_loop.trips) : Fin 3 → Nat :=
  let c0_53 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v70 : Index := Scalar.indexCast v9
  let c384 : Index := 384#32
  ![0, v70.toNat, 384]
def k0_off12 (i : grid0.Coords) (k0_t1 : Fin k0_t1_loop.trips) : Fin 5 → Nat :=
  let c0_58 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v79 : Index := Scalar.indexCast v7
  let c1_59 : Index := 1#32
  let c0_60 : Index := 0#32
  let c0_61 : Index := 0#32
  ![0, v79.toNat, 1, 0, 0]
def k0_off13 (i : grid0.Coords) (k0_t1 : Fin k0_t1_loop.trips) : Fin 4 → Nat :=
  let c0_70 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v94 : Index := Scalar.indexCast v7
  let c2_71 : Index := 2#32
  let c0_72 : Index := 0#32
  ![0, v94.toNat, 2, 0]
def k0_off14 (i : grid0.Coords) (k0_t1 : Fin k0_t1_loop.trips) : Fin 4 → Nat :=
  let c0_73 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v97 : Index := Scalar.indexCast v7
  let c3_74 : Index := 3#32
  let c0_75 : Index := 0#32
  ![0, v97.toNat, 3, 0]
def k0_off15 (i : grid0.Coords) (k0_t1 : Fin k0_t1_loop.trips) : Fin 5 → Nat :=
  let c0_80 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v104 : Index := Scalar.indexCast v7
  let c4_81 : Index := 4#32
  let c0_82 : Index := 0#32
  let c0_83 : Index := 0#32
  ![0, v104.toNat, 4, 0, 0]
def k0_off16 (i : grid0.Coords) (k0_t1 : Fin k0_t1_loop.trips) : Fin 5 → Nat :=
  let c0_84 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v108 : Index := Scalar.indexCast v7
  let c5_85 : Index := 5#32
  let c0_86 : Index := 0#32
  let c0_87 : Index := 0#32
  ![0, v108.toNat, 5, 0, 0]
def k0_off17 (i : grid0.Coords) (k0_t1 : Fin k0_t1_loop.trips) : Fin 3 → Nat :=
  let c0_88 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v112 : Index := Scalar.indexCast v9
  let c512 : Index := 512#32
  ![0, v112.toNat, 512]
def k0_off18 (i : grid0.Coords) (k0_t1 : Fin k0_t1_loop.trips) : Fin 3 → Nat :=
  let c0_89 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v115 : Index := Scalar.indexCast v9
  let c640 : Index := 640#32
  ![0, v115.toNat, 640]
def k0_off19 (i : grid0.Coords) (k0_t1 : Fin k0_t1_loop.trips) : Fin 5 → Nat :=
  let c0_94 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v124 : Index := Scalar.indexCast v7
  let c2_95 : Index := 2#32
  let c0_96 : Index := 0#32
  let c0_97 : Index := 0#32
  ![0, v124.toNat, 2, 0, 0]
def k0_off20 (i : grid0.Coords) (k0_t1 : Fin k0_t1_loop.trips) : Fin 4 → Nat :=
  let c0_106 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v139 : Index := Scalar.indexCast v7
  let c4_107 : Index := 4#32
  let c0_108 : Index := 0#32
  ![0, v139.toNat, 4, 0]
def k0_off21 (i : grid0.Coords) (k0_t1 : Fin k0_t1_loop.trips) : Fin 4 → Nat :=
  let c0_109 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v142 : Index := Scalar.indexCast v7
  let c5_110 : Index := 5#32
  let c0_111 : Index := 0#32
  ![0, v142.toNat, 5, 0]
def k0_off22 (i : grid0.Coords) (k0_t1 : Fin k0_t1_loop.trips) : Fin 5 → Nat :=
  let c0_116 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v149 : Index := Scalar.indexCast v7
  let c6_117 : Index := 6#32
  let c0_118 : Index := 0#32
  let c0_119 : Index := 0#32
  ![0, v149.toNat, 6, 0, 0]
def k0_off23 (i : grid0.Coords) (k0_t1 : Fin k0_t1_loop.trips) : Fin 5 → Nat :=
  let c0_120 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v153 : Index := Scalar.indexCast v7
  let c7_121 : Index := 7#32
  let c0_122 : Index := 0#32
  let c0_123 : Index := 0#32
  ![0, v153.toNat, 7, 0, 0]
def k0_off24 (i : grid0.Coords) (k0_t1 : Fin k0_t1_loop.trips) : Fin 3 → Nat :=
  let c0_124 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v157 : Index := Scalar.indexCast v9
  let c768 : Index := 768#32
  ![0, v157.toNat, 768]
def k0_off25 (i : grid0.Coords) (k0_t1 : Fin k0_t1_loop.trips) : Fin 3 → Nat :=
  let c0_125 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let c64_i32 : BitVec 32 := 64#32
  let v8 : BitVec 32 := Scalar.muli v7 c64_i32
  let v9 : BitVec 32 := v8
  let v160 : Index := Scalar.indexCast v9
  let c896 : Index := 896#32
  ![0, v160.toNat, 896]
def k0_off26 (i : grid0.Coords) (k0_t1 : Fin k0_t1_loop.trips) : Fin 5 → Nat :=
  let c0_130 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v169 : Index := Scalar.indexCast v7
  let c3_131 : Index := 3#32
  let c0_132 : Index := 0#32
  let c0_133 : Index := 0#32
  ![0, v169.toNat, 3, 0, 0]
def k0_off27 (i : grid0.Coords) (k0_t1 : Fin k0_t1_loop.trips) : Fin 4 → Nat :=
  let c0_142 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v184 : Index := Scalar.indexCast v7
  let c6_143 : Index := 6#32
  let c0_144 : Index := 0#32
  ![0, v184.toNat, 6, 0]
def k0_off28 (i : grid0.Coords) (k0_t1 : Fin k0_t1_loop.trips) : Fin 4 → Nat :=
  let c0_145 : Index := 0#32
  let c0_i32_1 : BitVec 32 := 0#32
  let c1_i32 : BitVec 32 := 1#32
  let arg11 : BitVec 32 := Scf.iv c0_i32_1 c1_i32 k0_t1
  let arg0 : BitVec 32 := BitVec.ofNat 32 (i 0).val
  let c7_i32 : BitVec 32 := 7#32
  let c2_i32 : BitVec 32 := 2#32
  let v4 : BitVec 32 := Scalar.muli c2_i32 arg11
  let v5 : BitVec 32 := Scalar.subi c7_i32 v4
  let v6 : BitVec 32 := Scalar.muli arg0 v5
  let v7 : BitVec 32 := Scalar.addi arg11 v6
  let v187 : Index := Scalar.indexCast v7
  let c7_146 : Index := 7#32
  let c0_147 : Index := 0#32
  ![0, v187.toNat, 7, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  ![arg0.toNat, v3.toNat, c0_i32.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  let c0_i32_2 : BitVec 32 := 0#32
  ![arg0.toNat, v3.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![arg0.toNat, v3.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  ![arg0.toNat, v3.toNat, c0_i32.toNat]

def cc0_transform_7 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  let c0_i32_2 : BitVec 32 := 0#32
  ![arg0.toNat, v3.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 32], ![false, false]⟩

@[reducible] def k1_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k1_mult1 (i : grid1.Coords) (k1_t1 : Fin k1_t1_loop.trips) : BitVec 32 :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  v9
def k1_off1 (i : grid1.Coords) (k1_t1 : Fin k1_t1_loop.trips) : Fin 5 → Nat :=
  let c0 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v11 : Index := Scalar.indexCast v8
  let c0_4 : Index := 0#32
  let c0_5 : Index := 0#32
  let c0_6 : Index := 0#32
  ![0, v11.toNat, 0, 0, 0]
def k1_off2 (i : grid1.Coords) (k1_t1 : Fin k1_t1_loop.trips) : Fin 5 → Nat :=
  let c0_7 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v14 : Index := Scalar.indexCast v8
  let c1 : Index := 1#32
  let c0_8 : Index := 0#32
  let c0_9 : Index := 0#32
  ![0, v14.toNat, 1, 0, 0]
def k1_off3 (i : grid1.Coords) (k1_t1 : Fin k1_t1_loop.trips) : Fin 3 → Nat :=
  let c0_10 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v17 : Index := Scalar.indexCast v10
  let c0_11 : Index := 0#32
  ![0, v17.toNat, 0]
def k1_off4 (i : grid1.Coords) (k1_t1 : Fin k1_t1_loop.trips) : Fin 3 → Nat :=
  let c0_12 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v20 : Index := Scalar.indexCast v10
  let c128 : Index := 128#32
  ![0, v20.toNat, 128]
def k1_off5 (i : grid1.Coords) (k1_t1 : Fin k1_t1_loop.trips) : Fin 5 → Nat :=
  let c0_17 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v31 : Index := Scalar.indexCast v8
  let c0_18 : Index := 0#32
  let c0_19 : Index := 0#32
  let c0_20 : Index := 0#32
  ![0, v31.toNat, 0, 0, 0]
def k1_off6 (i : grid1.Coords) (k1_t1 : Fin k1_t1_loop.trips) : Fin 4 → Nat :=
  let c0_29 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v51 : Index := Scalar.indexCast v8
  let c0_30 : Index := 0#32
  let c0_31 : Index := 0#32
  ![0, v51.toNat, 0, 0]
def k1_off7 (i : grid1.Coords) (k1_t1 : Fin k1_t1_loop.trips) : Fin 4 → Nat :=
  let c0_32 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v54 : Index := Scalar.indexCast v8
  let c1_33 : Index := 1#32
  let c0_34 : Index := 0#32
  ![0, v54.toNat, 1, 0]
def k1_off8 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v57 : Index := Scalar.indexCast v10
  let c0_35 : Index := 0#32
  ![v57.toNat, 0]
def k1_off9 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v60 : Index := Scalar.indexCast v10
  let c128_36 : Index := 128#32
  ![v60.toNat, 128]
def k1_off10 (i : grid1.Coords) (k1_t1 : Fin k1_t1_loop.trips) : Fin 5 → Nat :=
  let c0_43 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v68 : Index := Scalar.indexCast v8
  let c2 : Index := 2#32
  let c0_44 : Index := 0#32
  let c0_45 : Index := 0#32
  ![0, v68.toNat, 2, 0, 0]
def k1_off11 (i : grid1.Coords) (k1_t1 : Fin k1_t1_loop.trips) : Fin 5 → Nat :=
  let c0_46 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v71 : Index := Scalar.indexCast v8
  let c3 : Index := 3#32
  let c0_47 : Index := 0#32
  let c0_48 : Index := 0#32
  ![0, v71.toNat, 3, 0, 0]
def k1_off12 (i : grid1.Coords) (k1_t1 : Fin k1_t1_loop.trips) : Fin 3 → Nat :=
  let c0_49 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v74 : Index := Scalar.indexCast v10
  let c256 : Index := 256#32
  ![0, v74.toNat, 256]
def k1_off13 (i : grid1.Coords) (k1_t1 : Fin k1_t1_loop.trips) : Fin 3 → Nat :=
  let c0_50 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v77 : Index := Scalar.indexCast v10
  let c384 : Index := 384#32
  ![0, v77.toNat, 384]
def k1_off14 (i : grid1.Coords) (k1_t1 : Fin k1_t1_loop.trips) : Fin 5 → Nat :=
  let c0_55 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v88 : Index := Scalar.indexCast v8
  let c1_56 : Index := 1#32
  let c0_57 : Index := 0#32
  let c0_58 : Index := 0#32
  ![0, v88.toNat, 1, 0, 0]
def k1_off15 (i : grid1.Coords) (k1_t1 : Fin k1_t1_loop.trips) : Fin 4 → Nat :=
  let c0_67 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v108 : Index := Scalar.indexCast v8
  let c2_68 : Index := 2#32
  let c0_69 : Index := 0#32
  ![0, v108.toNat, 2, 0]
def k1_off16 (i : grid1.Coords) (k1_t1 : Fin k1_t1_loop.trips) : Fin 4 → Nat :=
  let c0_70 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v111 : Index := Scalar.indexCast v8
  let c3_71 : Index := 3#32
  let c0_72 : Index := 0#32
  ![0, v111.toNat, 3, 0]
def k1_off17 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v114 : Index := Scalar.indexCast v10
  let c256_73 : Index := 256#32
  ![v114.toNat, 256]
def k1_off18 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v117 : Index := Scalar.indexCast v10
  let c384_74 : Index := 384#32
  ![v117.toNat, 384]
def k1_off19 (i : grid1.Coords) (k1_t1 : Fin k1_t1_loop.trips) : Fin 5 → Nat :=
  let c0_81 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v125 : Index := Scalar.indexCast v8
  let c4 : Index := 4#32
  let c0_82 : Index := 0#32
  let c0_83 : Index := 0#32
  ![0, v125.toNat, 4, 0, 0]
def k1_off20 (i : grid1.Coords) (k1_t1 : Fin k1_t1_loop.trips) : Fin 5 → Nat :=
  let c0_84 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v128 : Index := Scalar.indexCast v8
  let c5 : Index := 5#32
  let c0_85 : Index := 0#32
  let c0_86 : Index := 0#32
  ![0, v128.toNat, 5, 0, 0]
def k1_off21 (i : grid1.Coords) (k1_t1 : Fin k1_t1_loop.trips) : Fin 3 → Nat :=
  let c0_87 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v131 : Index := Scalar.indexCast v10
  let c512 : Index := 512#32
  ![0, v131.toNat, 512]
def k1_off22 (i : grid1.Coords) (k1_t1 : Fin k1_t1_loop.trips) : Fin 3 → Nat :=
  let c0_88 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v134 : Index := Scalar.indexCast v10
  let c640 : Index := 640#32
  ![0, v134.toNat, 640]
def k1_off23 (i : grid1.Coords) (k1_t1 : Fin k1_t1_loop.trips) : Fin 5 → Nat :=
  let c0_93 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v145 : Index := Scalar.indexCast v8
  let c2_94 : Index := 2#32
  let c0_95 : Index := 0#32
  let c0_96 : Index := 0#32
  ![0, v145.toNat, 2, 0, 0]
def k1_off24 (i : grid1.Coords) (k1_t1 : Fin k1_t1_loop.trips) : Fin 4 → Nat :=
  let c0_105 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v165 : Index := Scalar.indexCast v8
  let c4_106 : Index := 4#32
  let c0_107 : Index := 0#32
  ![0, v165.toNat, 4, 0]
def k1_off25 (i : grid1.Coords) (k1_t1 : Fin k1_t1_loop.trips) : Fin 4 → Nat :=
  let c0_108 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v168 : Index := Scalar.indexCast v8
  let c5_109 : Index := 5#32
  let c0_110 : Index := 0#32
  ![0, v168.toNat, 5, 0]
def k1_off26 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v171 : Index := Scalar.indexCast v10
  let c512_111 : Index := 512#32
  ![v171.toNat, 512]
def k1_off27 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v174 : Index := Scalar.indexCast v10
  let c640_112 : Index := 640#32
  ![v174.toNat, 640]
def k1_off28 (i : grid1.Coords) (k1_t1 : Fin k1_t1_loop.trips) : Fin 5 → Nat :=
  let c0_119 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v182 : Index := Scalar.indexCast v8
  let c6 : Index := 6#32
  let c0_120 : Index := 0#32
  let c0_121 : Index := 0#32
  ![0, v182.toNat, 6, 0, 0]
def k1_off29 (i : grid1.Coords) (k1_t1 : Fin k1_t1_loop.trips) : Fin 5 → Nat :=
  let c0_122 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v185 : Index := Scalar.indexCast v8
  let c7 : Index := 7#32
  let c0_123 : Index := 0#32
  let c0_124 : Index := 0#32
  ![0, v185.toNat, 7, 0, 0]
def k1_off30 (i : grid1.Coords) (k1_t1 : Fin k1_t1_loop.trips) : Fin 3 → Nat :=
  let c0_125 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v188 : Index := Scalar.indexCast v10
  let c768 : Index := 768#32
  ![0, v188.toNat, 768]
def k1_off31 (i : grid1.Coords) (k1_t1 : Fin k1_t1_loop.trips) : Fin 3 → Nat :=
  let c0_126 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v191 : Index := Scalar.indexCast v10
  let c896 : Index := 896#32
  ![0, v191.toNat, 896]
def k1_off32 (i : grid1.Coords) (k1_t1 : Fin k1_t1_loop.trips) : Fin 5 → Nat :=
  let c0_131 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v202 : Index := Scalar.indexCast v8
  let c3_132 : Index := 3#32
  let c0_133 : Index := 0#32
  let c0_134 : Index := 0#32
  ![0, v202.toNat, 3, 0, 0]
def k1_off33 (i : grid1.Coords) (k1_t1 : Fin k1_t1_loop.trips) : Fin 4 → Nat :=
  let c0_143 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v222 : Index := Scalar.indexCast v8
  let c6_144 : Index := 6#32
  let c0_145 : Index := 0#32
  ![0, v222.toNat, 6, 0]
def k1_off34 (i : grid1.Coords) (k1_t1 : Fin k1_t1_loop.trips) : Fin 4 → Nat :=
  let c0_146 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let v225 : Index := Scalar.indexCast v8
  let c7_147 : Index := 7#32
  let c0_148 : Index := 0#32
  ![0, v225.toNat, 7, 0]
def k1_off35 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v228 : Index := Scalar.indexCast v10
  let c768_149 : Index := 768#32
  ![v228.toNat, 768]
def k1_off36 (i : grid1.Coords) (k1_t1 : Fin k1_t1_loop.trips) : Fin 2 → Nat :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let arg0 : BitVec 32 := BitVec.ofNat 32 (i 0).val
  let c2_i32 : BitVec 32 := 2#32
  let v5 : BitVec 32 := Scalar.muli c2_i32 arg17
  let c7_i32_3 : BitVec 32 := 7#32
  let v6 : BitVec 32 := Scalar.subi v5 c7_i32_3
  let v7 : BitVec 32 := Scalar.muli arg0 v6
  let v8 : BitVec 32 := Scalar.addi v4 v7
  let c64_i32 : BitVec 32 := 64#32
  let v9 : BitVec 32 := Scalar.muli v8 c64_i32
  let v10 : BitVec 32 := v9
  let v231 : Index := Scalar.indexCast v10
  let c896_150 : Index := 896#32
  ![v231.toNat, 896]
def cc1_transform_0 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_1 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_2 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_3 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_4 (i : grid1.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  let c0_i32_3 : BitVec 32 := 0#32
  ![arg0.toNat, v4.toNat, c0_i32.toNat, c0_i32_1.toNat, c0_i32_2.toNat]

def cc1_transform_5 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  ![arg0.toNat, v4.toNat, c0_i32.toNat, c0_i32_1.toNat]

def cc1_transform_6 (i : grid1.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  let c0_i32_3 : BitVec 32 := 0#32
  ![arg0.toNat, v4.toNat, c0_i32.toNat, c0_i32_1.toNat, c0_i32_2.toNat]

def cc1_transform_7 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![v4.toNat, c0_i32.toNat]

def cc1_transform_8 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_9 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_10 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_11 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  ![arg0.toNat, v4.toNat, c0_i32.toNat]

def cc1_transform_12 (i : grid1.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  let c0_i32_3 : BitVec 32 := 0#32
  ![arg0.toNat, v4.toNat, c0_i32.toNat, c0_i32_1.toNat, c0_i32_2.toNat]

def cc1_transform_13 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 arg1
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  ![arg0.toNat, v4.toNat, c0_i32.toNat, c0_i32_1.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x4x128x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x8x4x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x8x8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S2x16384x1024 : Shape := ⟨3, ![2, 16384, 1024]⟩
abbrev S2x256x8x64x64 : Shape := ⟨5, ![2, 256, 8, 64, 64]⟩
abbrev S2x256x8 : Shape := ⟨3, ![2, 256, 8]⟩
abbrev S16384x1024 : Shape := ⟨2, ![16384, 1024]⟩
abbrev S2x256x64x8x128 : Shape := ⟨5, ![2, 256, 64, 8, 128]⟩
abbrev S2x256x8x64x128 : Shape := ⟨5, ![2, 256, 8, 64, 128]⟩
abbrev S1x256x8x64x128 : Shape := ⟨5, ![1, 256, 8, 64, 128]⟩
abbrev S256x8x64x128 : Shape := ⟨4, ![256, 8, 64, 128]⟩
abbrev S256x1x8x64x128 : Shape := ⟨5, ![256, 1, 8, 64, 128]⟩
abbrev S256x2x8x64x128 : Shape := ⟨5, ![256, 2, 8, 64, 128]⟩
abbrev S1x256x8x64x64 : Shape := ⟨5, ![1, 256, 8, 64, 64]⟩
abbrev S256x8x64x64 : Shape := ⟨4, ![256, 8, 64, 64]⟩
abbrev S256x1x8x64x64 : Shape := ⟨5, ![256, 1, 8, 64, 64]⟩
abbrev S256x2x8x64x64 : Shape := ⟨5, ![256, 2, 8, 64, 64]⟩
abbrev S1x256x8 : Shape := ⟨3, ![1, 256, 8]⟩
abbrev S256x8 : Shape := ⟨2, ![256, 8]⟩
abbrev S256x1x8 : Shape := ⟨3, ![256, 1, 8]⟩
abbrev S256x2x8 : Shape := ⟨3, ![256, 2, 8]⟩
abbrev S_ : Shape := ⟨0, ![]⟩
abbrev S2x8x128x128 : Shape := ⟨4, ![2, 8, 128, 128]⟩
abbrev S256x2x8x128x128 : Shape := ⟨5, ![256, 2, 8, 128, 128]⟩
abbrev S256x2x8x1x1 : Shape := ⟨5, ![256, 2, 8, 1, 1]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8 : Shape := ⟨3, ![1, 2, 8]⟩
abbrev S2x8 : Shape := ⟨2, ![2, 8]⟩
abbrev S2x8x1x1 : Shape := ⟨4, ![2, 8, 1, 1]⟩
abbrev S1x2x8x128x128 : Shape := ⟨5, ![1, 2, 8, 128, 128]⟩
abbrev S1x2x8x1x1 : Shape := ⟨5, ![1, 2, 8, 1, 1]⟩
abbrev S1x16384x1024 : Shape := ⟨3, ![1, 16384, 1024]⟩
abbrev S2x8x128x64 : Shape := ⟨4, ![2, 8, 128, 64]⟩

abbrev nBuf : Space → Nat
  | .hbm => 392
  | .vmem => 0
  | .smem => 0
  | _ => 0

abbrev hbmTy0_0 (i : Nat) : BufTy := match i % 128 with
  | 0 => ⟨S2x16384x1024, .f32⟩
  | 1 => ⟨S2x16384x1024, .bf16⟩
  | 2 => ⟨S2x16384x1024, .bf16⟩
  | 3 => ⟨S2x16384x1024, .bf16⟩
  | 4 => ⟨S2x256x8x64x64, .bf16⟩
  | 5 => ⟨S2x256x8, .f32⟩
  | 6 => ⟨S16384x1024, .bf16⟩
  | 7 => ⟨S2x256x64x8x128, .f32⟩
  | 8 => ⟨S2x256x8x64x128, .f32⟩
  | 9 => ⟨S1x256x8x64x128, .f32⟩
  | 10 => ⟨S256x8x64x128, .f32⟩
  | 11 => ⟨S1x256x8x64x128, .f32⟩
  | 12 => ⟨S1x256x8x64x128, .f32⟩
  | 13 => ⟨S256x8x64x128, .f32⟩
  | 14 => ⟨S256x1x8x64x128, .f32⟩
  | 15 => ⟨S256x1x8x64x128, .f32⟩
  | 16 => ⟨S256x2x8x64x128, .f32⟩
  | 17 => ⟨S2x16384x1024, .f32⟩
  | 18 => ⟨S2x256x64x8x128, .f32⟩
  | 19 => ⟨S2x256x8x64x128, .f32⟩
  | 20 => ⟨S1x256x8x64x128, .f32⟩
  | 21 => ⟨S256x8x64x128, .f32⟩
  | 22 => ⟨S1x256x8x64x128, .f32⟩
  | 23 => ⟨S1x256x8x64x128, .f32⟩
  | 24 => ⟨S256x8x64x128, .f32⟩
  | 25 => ⟨S256x1x8x64x128, .f32⟩
  | 26 => ⟨S256x1x8x64x128, .f32⟩
  | 27 => ⟨S256x2x8x64x128, .f32⟩
  | 28 => ⟨S2x256x8x64x64, .f32⟩
  | 29 => ⟨S1x256x8x64x64, .f32⟩
  | 30 => ⟨S256x8x64x64, .f32⟩
  | 31 => ⟨S1x256x8x64x64, .f32⟩
  | 32 => ⟨S1x256x8x64x64, .f32⟩
  | 33 => ⟨S256x8x64x64, .f32⟩
  | 34 => ⟨S256x1x8x64x64, .f32⟩
  | 35 => ⟨S256x1x8x64x64, .f32⟩
  | 36 => ⟨S256x2x8x64x64, .f32⟩
  | 37 => ⟨S2x16384x1024, .f32⟩
  | 38 => ⟨S2x256x64x8x128, .f32⟩
  | 39 => ⟨S2x256x8x64x128, .f32⟩
  | 40 => ⟨S1x256x8x64x128, .f32⟩
  | 41 => ⟨S256x8x64x128, .f32⟩
  | 42 => ⟨S1x256x8x64x128, .f32⟩
  | 43 => ⟨S1x256x8x64x128, .f32⟩
  | 44 => ⟨S256x8x64x128, .f32⟩
  | 45 => ⟨S256x1x8x64x128, .f32⟩
  | 46 => ⟨S256x1x8x64x128, .f32⟩
  | 47 => ⟨S256x2x8x64x128, .f32⟩
  | 48 => ⟨S2x16384x1024, .f32⟩
  | 49 => ⟨S2x256x64x8x128, .f32⟩
  | 50 => ⟨S2x256x8x64x128, .f32⟩
  | 51 => ⟨S1x256x8x64x128, .f32⟩
  | 52 => ⟨S256x8x64x128, .f32⟩
  | 53 => ⟨S1x256x8x64x128, .f32⟩
  | 54 => ⟨S1x256x8x64x128, .f32⟩
  | 55 => ⟨S256x8x64x128, .f32⟩
  | 56 => ⟨S256x1x8x64x128, .f32⟩
  | 57 => ⟨S256x1x8x64x128, .f32⟩
  | 58 => ⟨S256x2x8x64x128, .f32⟩
  | 59 => ⟨S1x256x8, .f32⟩
  | 60 => ⟨S256x8, .f32⟩
  | 61 => ⟨S1x256x8, .f32⟩
  | 62 => ⟨S1x256x8, .f32⟩
  | 63 => ⟨S256x8, .f32⟩
  | 64 => ⟨S256x1x8, .f32⟩
  | 65 => ⟨S256x1x8, .f32⟩
  | 66 => ⟨S256x2x8, .f32⟩
  | 67 => ⟨S_, .f32⟩
  | 68 => ⟨S2x8x128x128, .f32⟩
  | 69 => ⟨S_, .f32⟩
  | 70 => ⟨S256x2x8x64x128, .f32⟩
  | 71 => ⟨S_, .f32⟩
  | 72 => ⟨S256x2x8x128x128, .f32⟩
  | 73 => ⟨S_, .f32⟩
  | 74 => ⟨S256x2x8x64x128, .f32⟩
  | 75 => ⟨S_, .f32⟩
  | 76 => ⟨S256x2x8x1x1, .f32⟩
  | 77 => ⟨S_, .i32⟩
  | 78 => ⟨S256x2x8x64x128, .f32⟩
  | 79 => ⟨S256x2x8x64x128, .f32⟩
  | 80 => ⟨S256x2x8x64x64, .f32⟩
  | 81 => ⟨S256x2x8x64x128, .f32⟩
  | 82 => ⟨S256x2x8x64x128, .f32⟩
  | 83 => ⟨S256x2x8, .f32⟩
  | 84 => ⟨S_, .i32⟩
  | 85 => ⟨S2x8x128x128, .f32⟩
  | 86 => ⟨S256x2x8x64x128, .f32⟩
  | 87 => ⟨S256x2x8x128x128, .f32⟩
  | 88 => ⟨S256x2x8x64x128, .f32⟩
  | 89 => ⟨S256x2x8x1x1, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x2x8x64x128, .f32⟩
  | 97 => ⟨S2x8x64x128, .f32⟩
  | 98 => ⟨S_, .i32⟩
  | 99 => ⟨S_, .i32⟩
  | 100 => ⟨S_, .i32⟩
  | 101 => ⟨S_, .i32⟩
  | 102 => ⟨S1x2x8x64x128, .f32⟩
  | 103 => ⟨S2x8x64x128, .f32⟩
  | 104 => ⟨S_, .i32⟩
  | 105 => ⟨S_, .i32⟩
  | 106 => ⟨S_, .i32⟩
  | 107 => ⟨S_, .i32⟩
  | 108 => ⟨S1x2x8x64x64, .f32⟩
  | 109 => ⟨S2x8x64x64, .f32⟩
  | 110 => ⟨S_, .i32⟩
  | 111 => ⟨S_, .i32⟩
  | 112 => ⟨S_, .i32⟩
  | 113 => ⟨S_, .i32⟩
  | 114 => ⟨S1x2x8x64x128, .f32⟩
  | 115 => ⟨S2x8x64x128, .f32⟩
  | 116 => ⟨S_, .i32⟩
  | 117 => ⟨S_, .i32⟩
  | 118 => ⟨S_, .i32⟩
  | 119 => ⟨S_, .i32⟩
  | 120 => ⟨S1x2x8x64x128, .f32⟩
  | 121 => ⟨S2x8x64x128, .f32⟩
  | 122 => ⟨S_, .i32⟩
  | 123 => ⟨S_, .i32⟩
  | 124 => ⟨S1x2x8, .f32⟩
  | 125 => ⟨S2x8, .f32⟩
  | 126 => ⟨S2x8x64x128, .f32⟩
  | 127 => ⟨S2x8x64x128, .f32⟩
  | _ => ⟨S2x16384x1024, .f32⟩

abbrev hbmTy0_1 (i : Nat) : BufTy := match i % 128 with
  | 0 => ⟨S2x8x64x128, .f32⟩
  | 1 => ⟨S2x8x64x128, .f32⟩
  | 2 => ⟨S2x8x64x128, .f32⟩
  | 3 => ⟨S2x8x1x1, .f32⟩
  | 4 => ⟨S2x8x128x128, .f32⟩
  | 5 => ⟨S2x8x128x128, .f32⟩
  | 6 => ⟨S2x8x128x128, .f32⟩
  | 7 => ⟨S2x8x128x128, .f32⟩
  | 8 => ⟨S1x2x8x64x128, .f32⟩
  | 9 => ⟨S_, .i32⟩
  | 10 => ⟨S_, .i32⟩
  | 11 => ⟨S_, .i32⟩
  | 12 => ⟨S_, .i32⟩
  | 13 => ⟨S256x2x8x64x128, .f32⟩
  | 14 => ⟨S1x2x8x128x128, .f32⟩
  | 15 => ⟨S_, .i32⟩
  | 16 => ⟨S_, .i32⟩
  | 17 => ⟨S_, .i32⟩
  | 18 => ⟨S_, .i32⟩
  | 19 => ⟨S256x2x8x128x128, .f32⟩
  | 20 => ⟨S1x2x8x64x128, .f32⟩
  | 21 => ⟨S_, .i32⟩
  | 22 => ⟨S_, .i32⟩
  | 23 => ⟨S_, .i32⟩
  | 24 => ⟨S_, .i32⟩
  | 25 => ⟨S256x2x8x64x128, .f32⟩
  | 26 => ⟨S1x2x8x1x1, .f32⟩
  | 27 => ⟨S_, .i32⟩
  | 28 => ⟨S_, .i32⟩
  | 29 => ⟨S_, .i32⟩
  | 30 => ⟨S_, .i32⟩
  | 31 => ⟨S256x2x8x1x1, .f32⟩
  | 32 => ⟨S_, .i32⟩
  | 33 => ⟨S_, .i32⟩
  | 34 => ⟨S1x16384x1024, .bf16⟩
  | 35 => ⟨S1x16384x1024, .bf16⟩
  | 36 => ⟨S2x16384x1024, .bf16⟩
  | 37 => ⟨S2x16384x1024, .f32⟩
  | 38 => ⟨S2x256x64x8x128, .f32⟩
  | 39 => ⟨S2x256x8x64x128, .f32⟩
  | 40 => ⟨S1x256x8x64x128, .f32⟩
  | 41 => ⟨S256x8x64x128, .f32⟩
  | 42 => ⟨S1x256x8x64x128, .f32⟩
  | 43 => ⟨S1x256x8x64x128, .f32⟩
  | 44 => ⟨S256x8x64x128, .f32⟩
  | 45 => ⟨S256x1x8x64x128, .f32⟩
  | 46 => ⟨S256x1x8x64x128, .f32⟩
  | 47 => ⟨S256x2x8x64x128, .f32⟩
  | 48 => ⟨S_, .f32⟩
  | 49 => ⟨S2x8x128x128, .f32⟩
  | 50 => ⟨S_, .f32⟩
  | 51 => ⟨S2x8x128x128, .f32⟩
  | 52 => ⟨S_, .f32⟩
  | 53 => ⟨S256x2x8x64x128, .f32⟩
  | 54 => ⟨S_, .f32⟩
  | 55 => ⟨S256x2x8x64x128, .f32⟩
  | 56 => ⟨S_, .f32⟩
  | 57 => ⟨S256x2x8x64x64, .f32⟩
  | 58 => ⟨S_, .f32⟩
  | 59 => ⟨S256x2x8x64x128, .f32⟩
  | 60 => ⟨S_, .f32⟩
  | 61 => ⟨S256x2x8x64x128, .f32⟩
  | 62 => ⟨S_, .f32⟩
  | 63 => ⟨S256x2x8, .f32⟩
  | 64 => ⟨S_, .i32⟩
  | 65 => ⟨S256x2x8x64x128, .f32⟩
  | 66 => ⟨S256x2x8x128x128, .f32⟩
  | 67 => ⟨S256x2x8x64x128, .f32⟩
  | 68 => ⟨S256x2x8x64x128, .f32⟩
  | 69 => ⟨S256x2x8x64x128, .f32⟩
  | 70 => ⟨S256x2x8x64x64, .f32⟩
  | 71 => ⟨S256x2x8x1x1, .f32⟩
  | 72 => ⟨S256x2x8x64x128, .f32⟩
  | 73 => ⟨S_, .i32⟩
  | 74 => ⟨S2x8x128x128, .f32⟩
  | 75 => ⟨S256x2x8x64x128, .f32⟩
  | 76 => ⟨S256x2x8x64x128, .f32⟩
  | 77 => ⟨S256x2x8x64x64, .f32⟩
  | 78 => ⟨S256x2x8x64x128, .f32⟩
  | 79 => ⟨S256x2x8x64x128, .f32⟩
  | 80 => ⟨S256x2x8, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S1x2x8x64x128, .f32⟩
  | 92 => ⟨S2x8x64x128, .f32⟩
  | 93 => ⟨S_, .i32⟩
  | 94 => ⟨S_, .i32⟩
  | 95 => ⟨S_, .i32⟩
  | 96 => ⟨S_, .i32⟩
  | 97 => ⟨S1x2x8x128x128, .f32⟩
  | 98 => ⟨S2x8x128x128, .f32⟩
  | 99 => ⟨S_, .i32⟩
  | 100 => ⟨S_, .i32⟩
  | 101 => ⟨S_, .i32⟩
  | 102 => ⟨S_, .i32⟩
  | 103 => ⟨S1x2x8x64x128, .f32⟩
  | 104 => ⟨S2x8x64x128, .f32⟩
  | 105 => ⟨S_, .i32⟩
  | 106 => ⟨S_, .i32⟩
  | 107 => ⟨S_, .i32⟩
  | 108 => ⟨S_, .i32⟩
  | 109 => ⟨S1x2x8x64x128, .f32⟩
  | 110 => ⟨S2x8x64x128, .f32⟩
  | 111 => ⟨S_, .i32⟩
  | 112 => ⟨S_, .i32⟩
  | 113 => ⟨S_, .i32⟩
  | 114 => ⟨S_, .i32⟩
  | 115 => ⟨S1x2x8x64x128, .f32⟩
  | 116 => ⟨S2x8x64x128, .f32⟩
  | 117 => ⟨S_, .i32⟩
  | 118 => ⟨S_, .i32⟩
  | 119 => ⟨S_, .i32⟩
  | 120 => ⟨S_, .i32⟩
  | 121 => ⟨S1x2x8x64x64, .f32⟩
  | 122 => ⟨S2x8x64x64, .f32⟩
  | 123 => ⟨S_, .i32⟩
  | 124 => ⟨S_, .i32⟩
  | 125 => ⟨S_, .i32⟩
  | 126 => ⟨S_, .i32⟩
  | 127 => ⟨S1x2x8x1x1, .f32⟩
  | _ => ⟨S2x16384x1024, .f32⟩

abbrev hbmTy0_2 (i : Nat) : BufTy := match i % 128 with
  | 0 => ⟨S2x8x1x1, .f32⟩
  | 1 => ⟨S_, .i32⟩
  | 2 => ⟨S_, .i32⟩
  | 3 => ⟨S_, .i32⟩
  | 4 => ⟨S_, .i32⟩
  | 5 => ⟨S1x2x8x64x128, .f32⟩
  | 6 => ⟨S2x8x64x128, .f32⟩
  | 7 => ⟨S2x8x128x64, .f32⟩
  | 8 => ⟨S2x8x64x128, .f32⟩
  | 9 => ⟨S2x8x128x64, .f32⟩
  | 10 => ⟨S2x8x64x128, .f32⟩
  | 11 => ⟨S2x8x128x128, .f32⟩
  | 12 => ⟨S_, .f32⟩
  | 13 => ⟨S2x8, .f32⟩
  | 14 => ⟨S2x8x1x1, .f32⟩
  | 15 => ⟨S2x8x128x128, .f32⟩
  | 16 => ⟨S2x8x128x128, .f32⟩
  | 17 => ⟨S_, .f32⟩
  | 18 => ⟨S2x8, .f32⟩
  | 19 => ⟨S2x8x128x64, .f32⟩
  | 20 => ⟨S2x8x64x128, .f32⟩
  | 21 => ⟨S2x8x64x128, .f32⟩
  | 22 => ⟨S2x8x64x64, .f32⟩
  | 23 => ⟨S2x8x128x128, .f32⟩
  | 24 => ⟨S2x8x128x128, .f32⟩
  | 25 => ⟨S2x8x128x128, .f32⟩
  | 26 => ⟨S2x8x64x128, .f32⟩
  | 27 => ⟨S2x8x64x128, .f32⟩
  | 28 => ⟨S2x8x128x128, .f32⟩
  | 29 => ⟨S2x8x128x128, .f32⟩
  | 30 => ⟨S2x8x128x128, .f32⟩
  | 31 => ⟨S2x8x64x128, .f32⟩
  | 32 => ⟨S1x2x8x64x128, .f32⟩
  | 33 => ⟨S_, .i32⟩
  | 34 => ⟨S_, .i32⟩
  | 35 => ⟨S_, .i32⟩
  | 36 => ⟨S_, .i32⟩
  | 37 => ⟨S256x2x8x64x128, .f32⟩
  | 38 => ⟨S1x2x8x64x128, .f32⟩
  | 39 => ⟨S_, .i32⟩
  | 40 => ⟨S_, .i32⟩
  | 41 => ⟨S_, .i32⟩
  | 42 => ⟨S_, .i32⟩
  | 43 => ⟨S256x2x8x64x128, .f32⟩
  | 44 => ⟨S1x2x8x64x64, .f32⟩
  | 45 => ⟨S_, .i32⟩
  | 46 => ⟨S_, .i32⟩
  | 47 => ⟨S_, .i32⟩
  | 48 => ⟨S_, .i32⟩
  | 49 => ⟨S256x2x8x64x64, .f32⟩
  | 50 => ⟨S1x2x8x64x128, .f32⟩
  | 51 => ⟨S_, .i32⟩
  | 52 => ⟨S_, .i32⟩
  | 53 => ⟨S_, .i32⟩
  | 54 => ⟨S_, .i32⟩
  | 55 => ⟨S256x2x8x64x128, .f32⟩
  | 56 => ⟨S1x2x8x64x128, .f32⟩
  | 57 => ⟨S_, .i32⟩
  | 58 => ⟨S_, .i32⟩
  | 59 => ⟨S_, .i32⟩
  | 60 => ⟨S_, .i32⟩
  | 61 => ⟨S256x2x8x64x128, .f32⟩
  | 62 => ⟨S1x2x8, .f32⟩
  | 63 => ⟨S_, .i32⟩
  | 64 => ⟨S_, .i32⟩
  | 65 => ⟨S256x2x8, .f32⟩
  | 66 => ⟨S_, .i32⟩
  | 67 => ⟨S_, .i32⟩
  | 68 => ⟨S256x1x8x64x128, .f32⟩
  | 69 => ⟨S256x8x64x128, .f32⟩
  | 70 => ⟨S256x1x8x64x128, .f32⟩
  | 71 => ⟨S256x1x8x64x128, .f32⟩
  | 72 => ⟨S256x8x64x128, .f32⟩
  | 73 => ⟨S1x256x8x64x128, .f32⟩
  | 74 => ⟨S1x256x8x64x128, .f32⟩
  | 75 => ⟨S2x256x8x64x128, .f32⟩
  | 76 => ⟨S2x256x64x8x128, .f32⟩
  | 77 => ⟨S2x16384x1024, .f32⟩
  | 78 => ⟨S256x1x8x64x128, .f32⟩
  | 79 => ⟨S256x8x64x128, .f32⟩
  | 80 => ⟨S256x1x8x64x128, .f32⟩
  | 81 => ⟨S256x1x8x64x128, .f32⟩
  | 82 => ⟨S256x8x64x128, .f32⟩
  | 83 => ⟨S1x256x8x64x128, .f32⟩
  | 84 => ⟨S1x256x8x64x128, .f32⟩
  | 85 => ⟨S2x256x8x64x128, .f32⟩
  | 86 => ⟨S2x256x64x8x128, .f32⟩
  | 87 => ⟨S2x16384x1024, .f32⟩
  | 88 => ⟨S2x16384x1024, .bf16⟩
  | 89 => ⟨S256x1x8x64x128, .f32⟩
  | 90 => ⟨S256x8x64x128, .f32⟩
  | 91 => ⟨S256x1x8x64x128, .f32⟩
  | 92 => ⟨S256x1x8x64x128, .f32⟩
  | 93 => ⟨S256x8x64x128, .f32⟩
  | 94 => ⟨S1x256x8x64x128, .f32⟩
  | 95 => ⟨S1x256x8x64x128, .f32⟩
  | 96 => ⟨S2x256x8x64x128, .f32⟩
  | 97 => ⟨S2x256x64x8x128, .f32⟩
  | 98 => ⟨S2x16384x1024, .f32⟩
  | 99 => ⟨S2x16384x1024, .bf16⟩
  | 100 => ⟨S256x1x8x64x128, .f32⟩
  | 101 => ⟨S256x8x64x128, .f32⟩
  | 102 => ⟨S256x1x8x64x128, .f32⟩
  | 103 => ⟨S256x1x8x64x128, .f32⟩
  | 104 => ⟨S256x8x64x128, .f32⟩
  | 105 => ⟨S1x256x8x64x128, .f32⟩
  | 106 => ⟨S1x256x8x64x128, .f32⟩
  | 107 => ⟨S2x256x8x64x128, .f32⟩
  | 108 => ⟨S2x256x64x8x128, .f32⟩
  | 109 => ⟨S2x16384x1024, .f32⟩
  | 110 => ⟨S256x1x8x64x128, .f32⟩
  | 111 => ⟨S256x8x64x128, .f32⟩
  | 112 => ⟨S256x1x8x64x128, .f32⟩
  | 113 => ⟨S256x1x8x64x128, .f32⟩
  | 114 => ⟨S256x8x64x128, .f32⟩
  | 115 => ⟨S1x256x8x64x128, .f32⟩
  | 116 => ⟨S1x256x8x64x128, .f32⟩
  | 117 => ⟨S2x256x8x64x128, .f32⟩
  | 118 => ⟨S2x256x64x8x128, .f32⟩
  | 119 => ⟨S2x16384x1024, .f32⟩
  | 120 => ⟨S256x1x8x64x64, .f32⟩
  | 121 => ⟨S256x8x64x64, .f32⟩
  | 122 => ⟨S256x1x8x64x64, .f32⟩
  | 123 => ⟨S256x1x8x64x64, .f32⟩
  | 124 => ⟨S256x8x64x64, .f32⟩
  | 125 => ⟨S1x256x8x64x64, .f32⟩
  | 126 => ⟨S1x256x8x64x64, .f32⟩
  | 127 => ⟨S2x256x8x64x64, .f32⟩
  | _ => ⟨S2x16384x1024, .f32⟩

abbrev hbmTy0_3 (i : Nat) : BufTy := match i % 128 with
  | 0 => ⟨S256x1x8, .f32⟩
  | 1 => ⟨S256x8, .f32⟩
  | 2 => ⟨S256x1x8, .f32⟩
  | 3 => ⟨S256x1x8, .f32⟩
  | 4 => ⟨S256x8, .f32⟩
  | 5 => ⟨S1x256x8, .f32⟩
  | 6 => ⟨S1x256x8, .f32⟩
  | 7 => ⟨S2x256x8, .f32⟩
  | _ => ⟨S2x16384x1024, .f32⟩

abbrev hbmTy (i : Nat) : BufTy := match i / 128 with
  | 0 => hbmTy0_0 i
  | 1 => hbmTy0_1 i
  | 2 => hbmTy0_2 i
  | 3 => hbmTy0_3 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst : Ref sig .tc := ⟨.hbm, 67, rfl⟩
abbrev main_v60 : Ref sig .tc := ⟨.hbm, 68, rfl⟩
abbrev main_cst_0 : Ref sig .tc := ⟨.hbm, 69, rfl⟩
abbrev main_v61 : Ref sig .tc := ⟨.hbm, 70, rfl⟩
abbrev main_cst_1 : Ref sig .tc := ⟨.hbm, 71, rfl⟩
abbrev main_v62 : Ref sig .tc := ⟨.hbm, 72, rfl⟩
abbrev main_cst_2 : Ref sig .tc := ⟨.hbm, 73, rfl⟩
abbrev main_v63 : Ref sig .tc := ⟨.hbm, 74, rfl⟩
abbrev main_cst_3 : Ref sig .tc := ⟨.hbm, 75, rfl⟩
abbrev main_v64 : Ref sig .tc := ⟨.hbm, 76, rfl⟩
abbrev main_c : Ref sig .tc := ⟨.hbm, 77, rfl⟩
abbrev main_v65_0 : Ref sig .tc := ⟨.hbm, 78, rfl⟩
abbrev main_v65_1 : Ref sig .tc := ⟨.hbm, 79, rfl⟩
abbrev main_v65_2 : Ref sig .tc := ⟨.hbm, 80, rfl⟩
abbrev main_v65_3 : Ref sig .tc := ⟨.hbm, 81, rfl⟩
abbrev main_v65_4 : Ref sig .tc := ⟨.hbm, 82, rfl⟩
abbrev main_v65_5 : Ref sig .tc := ⟨.hbm, 83, rfl⟩
abbrev main_v65_6 : Ref sig .tc := ⟨.hbm, 84, rfl⟩
abbrev main_v65_7 : Ref sig .tc := ⟨.hbm, 85, rfl⟩
abbrev main_v65_8 : Ref sig .tc := ⟨.hbm, 86, rfl⟩
abbrev main_v65_9 : Ref sig .tc := ⟨.hbm, 87, rfl⟩
abbrev main_v65_10 : Ref sig .tc := ⟨.hbm, 88, rfl⟩
abbrev main_v65_11 : Ref sig .tc := ⟨.hbm, 89, rfl⟩
abbrev main_while0c_c_24 : Ref sig .tc := ⟨.hbm, 90, rfl⟩
abbrev main_while0c_v157 : Ref sig .tc := ⟨.hbm, 91, rfl⟩
abbrev main_while0b_call0_c : Ref sig .tc := ⟨.hbm, 92, rfl⟩
abbrev main_while0b_call0_c_0 : Ref sig .tc := ⟨.hbm, 93, rfl⟩
abbrev main_while0b_call0_c_1 : Ref sig .tc := ⟨.hbm, 94, rfl⟩
abbrev main_while0b_call0_c_2 : Ref sig .tc := ⟨.hbm, 95, rfl⟩
abbrev main_while0b_call0_v0 : Ref sig .tc := ⟨.hbm, 96, rfl⟩
abbrev main_while0b_v157 : Ref sig .tc := ⟨.hbm, 97, rfl⟩
abbrev main_while0b_call1_c : Ref sig .tc := ⟨.hbm, 98, rfl⟩
abbrev main_while0b_call1_c_0 : Ref sig .tc := ⟨.hbm, 99, rfl⟩
abbrev main_while0b_call1_c_1 : Ref sig .tc := ⟨.hbm, 100, rfl⟩
abbrev main_while0b_call1_c_2 : Ref sig .tc := ⟨.hbm, 101, rfl⟩
abbrev main_while0b_call1_v0 : Ref sig .tc := ⟨.hbm, 102, rfl⟩
abbrev main_while0b_v158 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_v0 : Ref sig .tc := ⟨.hbm, 108, rfl⟩
abbrev main_while0b_v159 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_call3_c_2 : Ref sig .tc := ⟨.hbm, 113, rfl⟩
abbrev main_while0b_call3_v0 : Ref sig .tc := ⟨.hbm, 114, rfl⟩
abbrev main_while0b_v160 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_call4_v0 : Ref sig .tc := ⟨.hbm, 120, rfl⟩
abbrev main_while0b_v161 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_v0 : Ref sig .tc := ⟨.hbm, 124, rfl⟩
abbrev main_while0b_v162 : Ref sig .tc := ⟨.hbm, 125, rfl⟩
abbrev main_while0b_v163 : Ref sig .tc := ⟨.hbm, 126, rfl⟩
abbrev main_while0b_v164 : Ref sig .tc := ⟨.hbm, 127, rfl⟩
abbrev main_while0b_v165 : Ref sig .tc := ⟨.hbm, 128, rfl⟩
abbrev main_while0b_v166 : Ref sig .tc := ⟨.hbm, 129, rfl⟩
abbrev main_while0b_v167 : Ref sig .tc := ⟨.hbm, 130, rfl⟩
abbrev main_while0b_v168 : Ref sig .tc := ⟨.hbm, 131, rfl⟩
abbrev main_while0b_v169 : Ref sig .tc := ⟨.hbm, 132, rfl⟩
abbrev main_while0b_v170 : Ref sig .tc := ⟨.hbm, 133, rfl⟩
abbrev main_while0b_v171 : Ref sig .tc := ⟨.hbm, 134, rfl⟩
abbrev main_while0b_v172 : Ref sig .tc := ⟨.hbm, 135, rfl⟩
abbrev main_while0b_call6_v0 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_c_2 : Ref sig .tc := ⟨.hbm, 140, rfl⟩
abbrev main_while0b_v173 : Ref sig .tc := ⟨.hbm, 141, rfl⟩
abbrev main_while0b_call7_v0 : Ref sig .tc := ⟨.hbm, 142, rfl⟩
abbrev main_while0b_call7_c : Ref sig .tc := ⟨.hbm, 143, rfl⟩
abbrev main_while0b_call7_c_0 : Ref sig .tc := ⟨.hbm, 144, rfl⟩
abbrev main_while0b_call7_c_1 : Ref sig .tc := ⟨.hbm, 145, rfl⟩
abbrev main_while0b_call7_c_2 : Ref sig .tc := ⟨.hbm, 146, rfl⟩
abbrev main_while0b_v174 : Ref sig .tc := ⟨.hbm, 147, rfl⟩
abbrev main_while0b_call8_v0 : Ref sig .tc := ⟨.hbm, 148, rfl⟩
abbrev main_while0b_call8_c : Ref sig .tc := ⟨.hbm, 149, rfl⟩
abbrev main_while0b_call8_c_0 : Ref sig .tc := ⟨.hbm, 150, rfl⟩
abbrev main_while0b_call8_c_1 : Ref sig .tc := ⟨.hbm, 151, rfl⟩
abbrev main_while0b_call8_c_2 : Ref sig .tc := ⟨.hbm, 152, rfl⟩
abbrev main_while0b_v175 : Ref sig .tc := ⟨.hbm, 153, rfl⟩
abbrev main_while0b_call9_v0 : Ref sig .tc := ⟨.hbm, 154, rfl⟩
abbrev main_while0b_call9_c : Ref sig .tc := ⟨.hbm, 155, rfl⟩
abbrev main_while0b_call9_c_0 : Ref sig .tc := ⟨.hbm, 156, rfl⟩
abbrev main_while0b_call9_c_1 : Ref sig .tc := ⟨.hbm, 157, rfl⟩
abbrev main_while0b_call9_c_2 : Ref sig .tc := ⟨.hbm, 158, rfl⟩
abbrev main_while0b_v176 : Ref sig .tc := ⟨.hbm, 159, rfl⟩
abbrev main_while0b_c_24 : Ref sig .tc := ⟨.hbm, 160, rfl⟩
abbrev main_while0b_v177 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_cst_4 : Ref sig .tc := ⟨.hbm, 176, rfl⟩
abbrev main_v80 : Ref sig .tc := ⟨.hbm, 177, rfl⟩
abbrev main_cst_5 : Ref sig .tc := ⟨.hbm, 178, rfl⟩
abbrev main_v81 : Ref sig .tc := ⟨.hbm, 179, rfl⟩
abbrev main_cst_6 : Ref sig .tc := ⟨.hbm, 180, rfl⟩
abbrev main_v82 : Ref sig .tc := ⟨.hbm, 181, rfl⟩
abbrev main_cst_7 : Ref sig .tc := ⟨.hbm, 182, rfl⟩
abbrev main_v83 : Ref sig .tc := ⟨.hbm, 183, rfl⟩
abbrev main_cst_8 : Ref sig .tc := ⟨.hbm, 184, rfl⟩
abbrev main_v84 : Ref sig .tc := ⟨.hbm, 185, rfl⟩
abbrev main_cst_9 : Ref sig .tc := ⟨.hbm, 186, rfl⟩
abbrev main_v85 : Ref sig .tc := ⟨.hbm, 187, rfl⟩
abbrev main_cst_10 : Ref sig .tc := ⟨.hbm, 188, rfl⟩
abbrev main_v86 : Ref sig .tc := ⟨.hbm, 189, rfl⟩
abbrev main_cst_11 : Ref sig .tc := ⟨.hbm, 190, rfl⟩
abbrev main_v87 : Ref sig .tc := ⟨.hbm, 191, rfl⟩
abbrev main_c_12 : Ref sig .tc := ⟨.hbm, 192, rfl⟩
abbrev main_v88_0 : Ref sig .tc := ⟨.hbm, 193, rfl⟩
abbrev main_v88_1 : Ref sig .tc := ⟨.hbm, 194, rfl⟩
abbrev main_v88_2 : Ref sig .tc := ⟨.hbm, 195, rfl⟩
abbrev main_v88_3 : Ref sig .tc := ⟨.hbm, 196, rfl⟩
abbrev main_v88_4 : Ref sig .tc := ⟨.hbm, 197, rfl⟩
abbrev main_v88_5 : Ref sig .tc := ⟨.hbm, 198, rfl⟩
abbrev main_v88_6 : Ref sig .tc := ⟨.hbm, 199, rfl⟩
abbrev main_v88_7 : Ref sig .tc := ⟨.hbm, 200, rfl⟩
abbrev main_v88_8 : Ref sig .tc := ⟨.hbm, 201, rfl⟩
abbrev main_v88_9 : Ref sig .tc := ⟨.hbm, 202, rfl⟩
abbrev main_v88_10 : Ref sig .tc := ⟨.hbm, 203, rfl⟩
abbrev main_v88_11 : Ref sig .tc := ⟨.hbm, 204, rfl⟩
abbrev main_v88_12 : Ref sig .tc := ⟨.hbm, 205, rfl⟩
abbrev main_v88_13 : Ref sig .tc := ⟨.hbm, 206, rfl⟩
abbrev main_v88_14 : Ref sig .tc := ⟨.hbm, 207, rfl⟩
abbrev main_v88_15 : Ref sig .tc := ⟨.hbm, 208, rfl⟩
abbrev main_while1c_c_28 : Ref sig .tc := ⟨.hbm, 209, rfl⟩
abbrev main_while1c_v157 : Ref sig .tc := ⟨.hbm, 210, rfl⟩
abbrev main_while1b_c_28 : Ref sig .tc := ⟨.hbm, 211, rfl⟩
abbrev main_while1b_v157 : Ref sig .tc := ⟨.hbm, 212, rfl⟩
abbrev main_while1b_c_29 : Ref sig .tc := ⟨.hbm, 213, rfl⟩
abbrev main_while1b_v158 : Ref sig .tc := ⟨.hbm, 214, rfl⟩
abbrev main_while1b_call10_c : Ref sig .tc := ⟨.hbm, 215, rfl⟩
abbrev main_while1b_call10_c_0 : Ref sig .tc := ⟨.hbm, 216, rfl⟩
abbrev main_while1b_call10_c_1 : Ref sig .tc := ⟨.hbm, 217, rfl⟩
abbrev main_while1b_call10_c_2 : Ref sig .tc := ⟨.hbm, 218, rfl⟩
abbrev main_while1b_call10_v0 : Ref sig .tc := ⟨.hbm, 219, rfl⟩
abbrev main_while1b_v159 : Ref sig .tc := ⟨.hbm, 220, rfl⟩
abbrev main_while1b_call11_c : Ref sig .tc := ⟨.hbm, 221, rfl⟩
abbrev main_while1b_call11_c_0 : Ref sig .tc := ⟨.hbm, 222, rfl⟩
abbrev main_while1b_call11_c_1 : Ref sig .tc := ⟨.hbm, 223, rfl⟩
abbrev main_while1b_call11_c_2 : Ref sig .tc := ⟨.hbm, 224, rfl⟩
abbrev main_while1b_call11_v0 : Ref sig .tc := ⟨.hbm, 225, rfl⟩
abbrev main_while1b_v160 : Ref sig .tc := ⟨.hbm, 226, rfl⟩
abbrev main_while1b_call12_c : Ref sig .tc := ⟨.hbm, 227, rfl⟩
abbrev main_while1b_call12_c_0 : Ref sig .tc := ⟨.hbm, 228, rfl⟩
abbrev main_while1b_call12_c_1 : Ref sig .tc := ⟨.hbm, 229, rfl⟩
abbrev main_while1b_call12_c_2 : Ref sig .tc := ⟨.hbm, 230, rfl⟩
abbrev main_while1b_call12_v0 : Ref sig .tc := ⟨.hbm, 231, rfl⟩
abbrev main_while1b_v161 : Ref sig .tc := ⟨.hbm, 232, rfl⟩
abbrev main_while1b_call13_c : Ref sig .tc := ⟨.hbm, 233, rfl⟩
abbrev main_while1b_call13_c_0 : Ref sig .tc := ⟨.hbm, 234, rfl⟩
abbrev main_while1b_call13_c_1 : Ref sig .tc := ⟨.hbm, 235, rfl⟩
abbrev main_while1b_call13_c_2 : Ref sig .tc := ⟨.hbm, 236, rfl⟩
abbrev main_while1b_call13_v0 : Ref sig .tc := ⟨.hbm, 237, rfl⟩
abbrev main_while1b_v162 : Ref sig .tc := ⟨.hbm, 238, rfl⟩
abbrev main_while1b_call14_c : Ref sig .tc := ⟨.hbm, 239, rfl⟩
abbrev main_while1b_call14_c_0 : Ref sig .tc := ⟨.hbm, 240, rfl⟩
abbrev main_while1b_call14_c_1 : Ref sig .tc := ⟨.hbm, 241, rfl⟩
abbrev main_while1b_call14_c_2 : Ref sig .tc := ⟨.hbm, 242, rfl⟩
abbrev main_while1b_call14_v0 : Ref sig .tc := ⟨.hbm, 243, rfl⟩
abbrev main_while1b_v163 : Ref sig .tc := ⟨.hbm, 244, rfl⟩
abbrev main_while1b_call15_c : Ref sig .tc := ⟨.hbm, 245, rfl⟩
abbrev main_while1b_call15_c_0 : Ref sig .tc := ⟨.hbm, 246, rfl⟩
abbrev main_while1b_call15_c_1 : Ref sig .tc := ⟨.hbm, 247, rfl⟩
abbrev main_while1b_call15_c_2 : Ref sig .tc := ⟨.hbm, 248, rfl⟩
abbrev main_while1b_call15_v0 : Ref sig .tc := ⟨.hbm, 249, rfl⟩
abbrev main_while1b_v164 : Ref sig .tc := ⟨.hbm, 250, rfl⟩
abbrev main_while1b_call16_c : Ref sig .tc := ⟨.hbm, 251, rfl⟩
abbrev main_while1b_call16_c_0 : Ref sig .tc := ⟨.hbm, 252, rfl⟩
abbrev main_while1b_call16_c_1 : Ref sig .tc := ⟨.hbm, 253, rfl⟩
abbrev main_while1b_call16_c_2 : Ref sig .tc := ⟨.hbm, 254, rfl⟩
abbrev main_while1b_call16_v0 : Ref sig .tc := ⟨.hbm, 255, rfl⟩
abbrev main_while1b_v165 : Ref sig .tc := ⟨.hbm, 256, rfl⟩
abbrev main_while1b_call17_c : Ref sig .tc := ⟨.hbm, 257, rfl⟩
abbrev main_while1b_call17_c_0 : Ref sig .tc := ⟨.hbm, 258, rfl⟩
abbrev main_while1b_call17_c_1 : Ref sig .tc := ⟨.hbm, 259, rfl⟩
abbrev main_while1b_call17_c_2 : Ref sig .tc := ⟨.hbm, 260, rfl⟩
abbrev main_while1b_call17_v0 : Ref sig .tc := ⟨.hbm, 261, rfl⟩
abbrev main_while1b_v166 : Ref sig .tc := ⟨.hbm, 262, rfl⟩
abbrev main_while1b_v167 : Ref sig .tc := ⟨.hbm, 263, rfl⟩
abbrev main_while1b_v168 : Ref sig .tc := ⟨.hbm, 264, rfl⟩
abbrev main_while1b_v169 : Ref sig .tc := ⟨.hbm, 265, rfl⟩
abbrev main_while1b_v170 : Ref sig .tc := ⟨.hbm, 266, rfl⟩
abbrev main_while1b_v171 : Ref sig .tc := ⟨.hbm, 267, rfl⟩
abbrev main_while1b_cst_30 : Ref sig .tc := ⟨.hbm, 268, rfl⟩
abbrev main_while1b_v172 : Ref sig .tc := ⟨.hbm, 269, rfl⟩
abbrev main_while1b_v173 : Ref sig .tc := ⟨.hbm, 270, rfl⟩
abbrev main_while1b_v174 : Ref sig .tc := ⟨.hbm, 271, rfl⟩
abbrev main_while1b_v175 : Ref sig .tc := ⟨.hbm, 272, rfl⟩
abbrev main_while1b_cst_31 : Ref sig .tc := ⟨.hbm, 273, rfl⟩
abbrev main_while1b_v176 : Ref sig .tc := ⟨.hbm, 274, rfl⟩
abbrev main_while1b_v177 : Ref sig .tc := ⟨.hbm, 275, rfl⟩
abbrev main_while1b_v178 : Ref sig .tc := ⟨.hbm, 276, rfl⟩
abbrev main_while1b_v179 : Ref sig .tc := ⟨.hbm, 277, rfl⟩
abbrev main_while1b_v180 : Ref sig .tc := ⟨.hbm, 278, rfl⟩
abbrev main_while1b_v181 : Ref sig .tc := ⟨.hbm, 279, rfl⟩
abbrev main_while1b_v182 : Ref sig .tc := ⟨.hbm, 280, rfl⟩
abbrev main_while1b_v183 : Ref sig .tc := ⟨.hbm, 281, rfl⟩
abbrev main_while1b_v184 : Ref sig .tc := ⟨.hbm, 282, rfl⟩
abbrev main_while1b_v185 : Ref sig .tc := ⟨.hbm, 283, rfl⟩
abbrev main_while1b_v186 : Ref sig .tc := ⟨.hbm, 284, rfl⟩
abbrev main_while1b_v187 : Ref sig .tc := ⟨.hbm, 285, rfl⟩
abbrev main_while1b_v188 : Ref sig .tc := ⟨.hbm, 286, rfl⟩
abbrev main_while1b_v189 : Ref sig .tc := ⟨.hbm, 287, rfl⟩
abbrev main_while1b_call18_v0 : Ref sig .tc := ⟨.hbm, 288, rfl⟩
abbrev main_while1b_call18_c : Ref sig .tc := ⟨.hbm, 289, rfl⟩
abbrev main_while1b_call18_c_0 : Ref sig .tc := ⟨.hbm, 290, rfl⟩
abbrev main_while1b_call18_c_1 : Ref sig .tc := ⟨.hbm, 291, rfl⟩
abbrev main_while1b_call18_c_2 : Ref sig .tc := ⟨.hbm, 292, rfl⟩
abbrev main_while1b_v190 : Ref sig .tc := ⟨.hbm, 293, rfl⟩
abbrev main_while1b_call19_v0 : Ref sig .tc := ⟨.hbm, 294, rfl⟩
abbrev main_while1b_call19_c : Ref sig .tc := ⟨.hbm, 295, rfl⟩
abbrev main_while1b_call19_c_0 : Ref sig .tc := ⟨.hbm, 296, rfl⟩
abbrev main_while1b_call19_c_1 : Ref sig .tc := ⟨.hbm, 297, rfl⟩
abbrev main_while1b_call19_c_2 : Ref sig .tc := ⟨.hbm, 298, rfl⟩
abbrev main_while1b_v191 : Ref sig .tc := ⟨.hbm, 299, rfl⟩
abbrev main_while1b_call20_v0 : Ref sig .tc := ⟨.hbm, 300, rfl⟩
abbrev main_while1b_call20_c : Ref sig .tc := ⟨.hbm, 301, rfl⟩
abbrev main_while1b_call20_c_0 : Ref sig .tc := ⟨.hbm, 302, rfl⟩
abbrev main_while1b_call20_c_1 : Ref sig .tc := ⟨.hbm, 303, rfl⟩
abbrev main_while1b_call20_c_2 : Ref sig .tc := ⟨.hbm, 304, rfl⟩
abbrev main_while1b_v192 : Ref sig .tc := ⟨.hbm, 305, rfl⟩
abbrev main_while1b_call21_v0 : Ref sig .tc := ⟨.hbm, 306, rfl⟩
abbrev main_while1b_call21_c : Ref sig .tc := ⟨.hbm, 307, rfl⟩
abbrev main_while1b_call21_c_0 : Ref sig .tc := ⟨.hbm, 308, rfl⟩
abbrev main_while1b_call21_c_1 : Ref sig .tc := ⟨.hbm, 309, rfl⟩
abbrev main_while1b_call21_c_2 : Ref sig .tc := ⟨.hbm, 310, rfl⟩
abbrev main_while1b_v193 : Ref sig .tc := ⟨.hbm, 311, rfl⟩
abbrev main_while1b_call22_v0 : Ref sig .tc := ⟨.hbm, 312, rfl⟩
abbrev main_while1b_call22_c : Ref sig .tc := ⟨.hbm, 313, rfl⟩
abbrev main_while1b_call22_c_0 : Ref sig .tc := ⟨.hbm, 314, rfl⟩
abbrev main_while1b_call22_c_1 : Ref sig .tc := ⟨.hbm, 315, rfl⟩
abbrev main_while1b_call22_c_2 : Ref sig .tc := ⟨.hbm, 316, rfl⟩
abbrev main_while1b_v194 : Ref sig .tc := ⟨.hbm, 317, rfl⟩
abbrev main_while1b_call23_v0 : Ref sig .tc := ⟨.hbm, 318, rfl⟩
abbrev main_while1b_call23_c : Ref sig .tc := ⟨.hbm, 319, rfl⟩
abbrev main_while1b_call23_c_0 : Ref sig .tc := ⟨.hbm, 320, rfl⟩
abbrev main_while1b_v195 : Ref sig .tc := ⟨.hbm, 321, rfl⟩
abbrev main_while1b_c_32 : Ref sig .tc := ⟨.hbm, 322, rfl⟩
abbrev main_while1b_v196 : Ref sig .tc := ⟨.hbm, 323, rfl⟩
abbrev main_v89 : Ref sig .tc := ⟨.hbm, 324, rfl⟩
abbrev main_v90 : Ref sig .tc := ⟨.hbm, 325, rfl⟩
abbrev main_v91 : Ref sig .tc := ⟨.hbm, 326, rfl⟩
abbrev main_v92 : Ref sig .tc := ⟨.hbm, 327, rfl⟩
abbrev main_v93 : Ref sig .tc := ⟨.hbm, 328, rfl⟩
abbrev main_v94 : Ref sig .tc := ⟨.hbm, 329, rfl⟩
abbrev main_v95 : Ref sig .tc := ⟨.hbm, 330, rfl⟩
abbrev main_v96 : Ref sig .tc := ⟨.hbm, 331, rfl⟩
abbrev main_v97 : Ref sig .tc := ⟨.hbm, 332, rfl⟩
abbrev main_v98 : Ref sig .tc := ⟨.hbm, 333, rfl⟩
abbrev main_v99 : Ref sig .tc := ⟨.hbm, 334, rfl⟩
abbrev main_v100 : Ref sig .tc := ⟨.hbm, 335, rfl⟩
abbrev main_v101 : Ref sig .tc := ⟨.hbm, 336, rfl⟩
abbrev main_v102 : Ref sig .tc := ⟨.hbm, 337, rfl⟩
abbrev main_v103 : Ref sig .tc := ⟨.hbm, 338, rfl⟩
abbrev main_v104 : Ref sig .tc := ⟨.hbm, 339, rfl⟩
abbrev main_v105 : Ref sig .tc := ⟨.hbm, 340, rfl⟩
abbrev main_v106 : Ref sig .tc := ⟨.hbm, 341, rfl⟩
abbrev main_v107 : Ref sig .tc := ⟨.hbm, 342, rfl⟩
abbrev main_v108 : Ref sig .tc := ⟨.hbm, 343, rfl⟩
abbrev main_v109 : Ref sig .tc := ⟨.hbm, 344, rfl⟩
abbrev main_v110 : Ref sig .tc := ⟨.hbm, 345, rfl⟩
abbrev main_v111 : Ref sig .tc := ⟨.hbm, 346, rfl⟩
abbrev main_v112 : Ref sig .tc := ⟨.hbm, 347, rfl⟩
abbrev main_v113 : Ref sig .tc := ⟨.hbm, 348, rfl⟩
abbrev main_v114 : Ref sig .tc := ⟨.hbm, 349, rfl⟩
abbrev main_v115 : Ref sig .tc := ⟨.hbm, 350, rfl⟩
abbrev main_v116 : Ref sig .tc := ⟨.hbm, 351, rfl⟩
abbrev main_v117 : Ref sig .tc := ⟨.hbm, 352, rfl⟩
abbrev main_v118 : Ref sig .tc := ⟨.hbm, 353, rfl⟩
abbrev main_v119 : Ref sig .tc := ⟨.hbm, 354, rfl⟩
abbrev main_v120 : Ref sig .tc := ⟨.hbm, 355, rfl⟩
abbrev main_v121 : Ref sig .tc := ⟨.hbm, 356, rfl⟩
abbrev main_v122 : Ref sig .tc := ⟨.hbm, 357, rfl⟩
abbrev main_v123 : Ref sig .tc := ⟨.hbm, 358, rfl⟩
abbrev main_v124 : Ref sig .tc := ⟨.hbm, 359, rfl⟩
abbrev main_v125 : Ref sig .tc := ⟨.hbm, 360, rfl⟩
abbrev main_v126 : Ref sig .tc := ⟨.hbm, 361, rfl⟩
abbrev main_v127 : Ref sig .tc := ⟨.hbm, 362, rfl⟩
abbrev main_v128 : Ref sig .tc := ⟨.hbm, 363, rfl⟩
abbrev main_v129 : Ref sig .tc := ⟨.hbm, 364, rfl⟩
abbrev main_v130 : Ref sig .tc := ⟨.hbm, 365, rfl⟩
abbrev main_v131 : Ref sig .tc := ⟨.hbm, 366, rfl⟩
abbrev main_v132 : Ref sig .tc := ⟨.hbm, 367, rfl⟩
abbrev main_v133 : Ref sig .tc := ⟨.hbm, 368, rfl⟩
abbrev main_v134 : Ref sig .tc := ⟨.hbm, 369, rfl⟩
abbrev main_v135 : Ref sig .tc := ⟨.hbm, 370, rfl⟩
abbrev main_v136 : Ref sig .tc := ⟨.hbm, 371, rfl⟩
abbrev main_v137 : Ref sig .tc := ⟨.hbm, 372, rfl⟩
abbrev main_v138 : Ref sig .tc := ⟨.hbm, 373, rfl⟩
abbrev main_v139 : Ref sig .tc := ⟨.hbm, 374, rfl⟩
abbrev main_v140 : Ref sig .tc := ⟨.hbm, 375, rfl⟩
abbrev main_v141 : Ref sig .tc := ⟨.hbm, 376, rfl⟩
abbrev main_v142 : Ref sig .tc := ⟨.hbm, 377, rfl⟩
abbrev main_v143 : Ref sig .tc := ⟨.hbm, 378, rfl⟩
abbrev main_v144 : Ref sig .tc := ⟨.hbm, 379, rfl⟩
abbrev main_v145 : Ref sig .tc := ⟨.hbm, 380, rfl⟩
abbrev main_v146 : Ref sig .tc := ⟨.hbm, 381, rfl⟩
abbrev main_v147 : Ref sig .tc := ⟨.hbm, 382, rfl⟩
abbrev main_v148 : Ref sig .tc := ⟨.hbm, 383, rfl⟩
abbrev main_v149 : Ref sig .tc := ⟨.hbm, 384, rfl⟩
abbrev main_v150 : Ref sig .tc := ⟨.hbm, 385, rfl⟩
abbrev main_v151 : Ref sig .tc := ⟨.hbm, 386, rfl⟩
abbrev main_v152 : Ref sig .tc := ⟨.hbm, 387, rfl⟩
abbrev main_v153 : Ref sig .tc := ⟨.hbm, 388, rfl⟩
abbrev main_v154 : Ref sig .tc := ⟨.hbm, 389, rfl⟩
abbrev main_v155 : Ref sig .tc := ⟨.hbm, 390, rfl⟩
abbrev main_v156 : Ref sig .tc := ⟨.hbm, 391, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== Kernel2.lean ====
abbrev S16384x1024 : Shape := ⟨2, ![16384, 1024]⟩
abbrev S16384x9216 : Shape := ⟨2, ![16384, 9216]⟩
abbrev S1024x9216 : Shape := ⟨2, ![1024, 9216]⟩
abbrev S1024x1024 : Shape := ⟨2, ![1024, 1024]⟩
abbrev S1024x2304 : Shape := ⟨2, ![1024, 2304]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x9216, .bf16⟩
  | .hbm, ⟨2, _⟩ => ⟨S1024x9216, .f32⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .f32⟩
  | .local _ .vmem, ⟨5, _⟩ => ⟨S1024x2304, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S16384x9216 : Shape := ⟨2, ![16384, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x9216, .bf16⟩
  | .hbm, ⟨2, _⟩ => ⟨S_, .f32⟩
  | .hbm, ⟨3, _⟩ => ⟨S1024x9216, .f32⟩
  | .hbm, ⟨4, _⟩ => ⟨S16384x1024, .f32⟩
  | .hbm, ⟨5, _⟩ => ⟨S16384x9216, .f32⟩
  | .hbm, ⟨6, _⟩ => ⟨S16384x9216, .f32⟩
  | .hbm, ⟨7, _⟩ => ⟨S9216x1024, .f32⟩
  | .hbm, ⟨8, _⟩ => ⟨S1024x9216, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x9216 : Shape := ⟨2, ![16384, 9216]⟩
abbrev S1024x9216 : Shape := ⟨2, ![1024, 9216]⟩
abbrev S16384x1024 : Shape := ⟨2, ![16384, 1024]⟩
abbrev S1024x3072 : Shape := ⟨2, ![1024, 3072]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x9216, .bf16⟩
  | .hbm, ⟨1, _⟩ => ⟨S1024x9216, .bf16⟩
  | .hbm, ⟨2, _⟩ => ⟨S16384x1024, .f32⟩
  | .hbm, ⟨3, _⟩ => ⟨S16384x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x9216 : Shape := ⟨2, ![16384, 9216]⟩
abbrev S1024x9216 : Shape := ⟨2, ![1024, 9216]⟩
abbrev S16384x1024 : Shape := ⟨2, ![16384, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x9216, .bf16⟩
  | .hbm, ⟨1, _⟩ => ⟨S1024x9216, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x9216, .f32⟩
  | .hbm, ⟨6, _⟩ => ⟨S16384x9216, .f32⟩
  | .hbm, ⟨7, _⟩ => ⟨S16384x9216, .f32⟩
  | .hbm, ⟨8, _⟩ => ⟨S16384x1024, .f32⟩
  | .hbm, ⟨9, _⟩ => ⟨S16384x1024, .f32⟩
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S16384x1024 : Shape := ⟨2, ![16384, 1024]⟩
abbrev S1024x9216 : Shape := ⟨2, ![1024, 9216]⟩
abbrev S16384x9216 : Shape := ⟨2, ![16384, 9216]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x9216, .bf16⟩
  | .hbm, ⟨2, _⟩ => ⟨S16384x9216, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024x9216 : Shape := ⟨2, ![1024, 9216]⟩
abbrev S16384x9216 : Shape := ⟨2, ![16384, 9216]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x9216, .bf16⟩
  | .hbm, ⟨2, _⟩ => ⟨S16384x1024, .f32⟩
  | .hbm, ⟨3, _⟩ => ⟨S1024x9216, .f32⟩
  | .hbm, ⟨4, _⟩ => ⟨S16384x9216, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x4096 : Shape := ⟨2, ![16384, 4096]⟩
abbrev S16384x1024 : Shape := ⟨2, ![16384, 1024]⟩
abbrev S4096x1024 : Shape := ⟨2, ![4096, 1024]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S_, .f32⟩
  | .hbm, ⟨3, _⟩ => ⟨S4096x1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S1024x4096, .f32⟩
  | .hbm, ⟨8, _⟩ => ⟨S4096x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S8x4096 : Shape := ⟨2, ![8, 4096]⟩
abbrev S2048x1024 : Shape := ⟨2, ![2048, 1024]⟩
abbrev S1024x1024 : Shape := ⟨2, ![1024, 1024]⟩
abbrev S8x1024 : Shape := ⟨2, ![8, 1024]⟩
abbrev S1024 : Shape := ⟨1, ![1024]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x1024, .bf16⟩
  | .hbm, ⟨2, _⟩ => ⟨S16384x1024, .bf16⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x4096, .bf16⟩
  | .hbm, ⟨11, _⟩ => ⟨S8x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S8x1024, .f32⟩
  | .local _ .vmem, ⟨9, _⟩ => ⟨S8x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference6Ideal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S4096 : Shape := ⟨1, ![4096]⟩
abbrev S1x4096 : Shape := ⟨2, ![1, 4096]⟩
abbrev S8x4096 : Shape := ⟨2, ![8, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .bf16⟩
  | .hbm, ⟨2, _⟩ => ⟨S16384x1024, .bf16⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S4096x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .bf16⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S_, .i32⟩
  | .hbm, ⟨30, _⟩ => ⟨S_, .f32⟩
  | .hbm, ⟨31, _⟩ => ⟨S8x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call1_v0 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Kernel7.lean ====
abbrev S16384x1024 : Shape := ⟨2, ![16384, 1024]⟩
abbrev S16384x4096 : Shape := ⟨2, ![16384, 4096]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S16384x4096 : Shape := ⟨2, ![16384, 4096]⟩
abbrev S1024x4096 : Shape := ⟨2, ![1024, 4096]⟩
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S16384x4096 : Shape := ⟨2, ![16384, 4096]⟩
abbrev S1024x4096 : Shape := ⟨2, ![1024, 4096]⟩
abbrev S16384x1024 : Shape := ⟨2, ![16384, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S16384x1024 : Shape := ⟨2, ![16384, 1024]⟩
abbrev S1024x4096 : Shape := ⟨2, ![1024, 4096]⟩
abbrev S4096 : Shape := ⟨1, ![4096]⟩
abbrev S1x4096 : Shape := ⟨2, ![1, 4096]⟩
abbrev S16384x4096 : Shape := ⟨2, ![16384, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096, .f32⟩
  | .hbm, ⟨3, _⟩ => ⟨S1x4096, .f32⟩
  | .hbm, ⟨4, _⟩ => ⟨S16384x4096, .bf16⟩
  | .hbm, ⟨5, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S16384x1024 : Shape := ⟨2, ![16384, 1024]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096, .f32⟩
  | .hbm, ⟨3, _⟩ => ⟨S16384x1024, .f32⟩
  | .hbm, ⟨4, _⟩ => ⟨S1024x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .bf16⟩
  | .hbm, ⟨16, _⟩ => ⟨S16384x4096, .f32⟩
  | .hbm, ⟨17, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel10.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x4096 : Shape := ⟨2, ![16384, 4096]⟩
abbrev S4096x1024 : Shape := ⟨2, ![4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x4096, .f32⟩
  | .hbm, ⟨3, _⟩ => ⟨S4096x1024, .f32⟩
  | .hbm, ⟨4, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S16384x1024 : Shape := ⟨2, ![16384, 1024]⟩
abbrev S1024 : Shape := ⟨1, ![1024]⟩
abbrev S1x1024 : Shape := ⟨2, ![1, 1024]⟩
abbrev S3x1024 : Shape := ⟨2, ![3, 1024]⟩
abbrev S_ : Shape := ⟨0, ![]⟩
abbrev S8x1024 : Shape := ⟨2, ![8, 1024]⟩
abbrev S1024x1024 : Shape := ⟨2, ![1024, 1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S3x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S16384x1024, .f32⟩
  | .hbm, ⟨14, _⟩ => ⟨S16384x1024, .bf16⟩
  | .hbm, ⟨15, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S16384x1024 : Shape := ⟨2, ![16384, 1024]⟩
abbrev S1024 : Shape := ⟨1, ![1024]⟩
abbrev S_ : Shape := ⟨0, ![]⟩
abbrev S1x1024 : Shape := ⟨2, ![1, 1024]⟩
abbrev S16384 : Shape := ⟨1, ![16384]⟩
abbrev S16384x1 : Shape := ⟨2, ![16384, 1]⟩
abbrev S3x1024 : Shape := ⟨2, ![3, 1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S16384x1, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x1024, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S_, .f32⟩
  | .hbm, ⟨98, _⟩ => ⟨S1024, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S16384x1024, .bf16⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S3x1024, .f32⟩
  | .hbm, ⟨107, _⟩ => ⟨S_, .i32⟩
  | .hbm, ⟨108, _⟩ => ⟨S_, .f32⟩
  | .hbm, ⟨109, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c : Ref sig .tc := ⟨.hbm, 107, rfl⟩
abbrev main_call0_v0 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Kernel15.lean ====
abbrev S16384x1024 : Shape := ⟨2, ![16384, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x128, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S16384x1024 : Shape := ⟨2, ![16384, 1024]⟩
abbrev S_ : Shape := ⟨0, ![]⟩
abbrev S16384 : Shape := ⟨1, ![16384]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel16.lean ====
abbrev S16384x1024 : Shape := ⟨2, ![16384, 1024]⟩
abbrev S16384x9216 : Shape := ⟨2, ![16384, 9216]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x9216, .f32⟩
  | .hbm, ⟨3, _⟩ => ⟨S16384x1024, .f32⟩
  | .hbm, ⟨4, _⟩ => ⟨S16384x1024, .bf16⟩
  | .hbm, ⟨5, _⟩ => ⟨S16384x1024, .bf16⟩
  | .hbm, ⟨6, _⟩ => ⟨S16384x9216, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S16384x1024 : Shape := ⟨2, ![16384, 1024]⟩
abbrev S16384x9216 : Shape := ⟨2, ![16384, 9216]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x9216, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .bf16⟩
  | .hbm, ⟨30, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel17.lean ====
abbrev S16384x1024 : Shape := ⟨2, ![16384, 1024]⟩
abbrev S16384x9216 : Shape := ⟨2, ![16384, 9216]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x9216, .f32⟩
  | .hbm, ⟨3, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S16384x1024 : Shape := ⟨2, ![16384, 1024]⟩
abbrev S16384x9216 : Shape := ⟨2, ![16384, 9216]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x9216, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel18.lean ====
abbrev S16384x1024 : Shape := ⟨2, ![16384, 1024]⟩
abbrev S1024 : Shape := ⟨1, ![1024]⟩
abbrev S1x1024 : Shape := ⟨2, ![1, 1024]⟩
abbrev S3x1024 : Shape := ⟨2, ![3, 1024]⟩
abbrev S_ : Shape := ⟨0, ![]⟩
abbrev S8x1024 : Shape := ⟨2, ![8, 1024]⟩
abbrev S1024x1024 : Shape := ⟨2, ![1024, 1024]⟩
abbrev S1024x1 : Shape := ⟨2, ![1024, 1]⟩

abbrev nBuf : Space → Nat
  | .hbm => 14
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S3x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S16384x1024, .f32⟩
  | .hbm, ⟨13, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S16384x1024 : Shape := ⟨2, ![16384, 1024]⟩
abbrev S1024 : Shape := ⟨1, ![1024]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Offsets.lean ====
/- Where the two scans of the kernel read and write: every offset that a trip of the chunk loop computes, in closed form. -/
module

public import proofs.«01_k».proof.Proof.Gen.KernelIdeal.Loops

@[expose] public section

set_option maxRecDepth 16384

noncomputable section

namespace Cert.Proof.KernelIdeal

open Cert.KernelIdeal
open Idealize.ShloMosaic Idealize.ShloMosaic.TcCoe Idealize.ShloMosaic.Tactic

/-- The chunk (of the eight of a block) that trip `k` of the forward scan treats: chunks in order in the first
direction, in reverse in the second. -/
def pcF (i : grid0.Coords) (k : Fin k0_t1_loop.trips) : ℕ := if (i 0).val = 0 then k.val else 7 - k.val

/-- The chunk that trip `k` of the backward scan treats: the forward order reversed. -/
def pcB (i : grid1.Coords) (k : Fin k1_t1_loop.trips) : ℕ := if (i 0).val = 0 then 7 - k.val else k.val

theorem pcF_lt (i : grid0.Coords) (k : Fin k0_t1_loop.trips) : pcF i k < 8 := by
  have : k.val < 8 := k.isLt
  unfold pcF; split <;> omega

theorem pcB_lt (i : grid1.Coords) (k : Fin k1_t1_loop.trips) : pcB i k < 8 := by
  have : k.val < 8 := k.isLt
  unfold pcB; split <;> omega

theorem k0_off1_eq : ∀ (i : grid0.Coords) (k : Fin k0_t1_loop.trips), k0_off1 i k = ![0, pcF i k, 0, 0, 0] := by decide +kernel
instance closedOff_k0_off1 (i : grid0.Coords) (k : Fin k0_t1_loop.trips) : ClosedOff (k0_off1 i k) := ⟨_, k0_off1_eq i k⟩
theorem k0_off2_eq : ∀ (i : grid0.Coords) (k : Fin k0_t1_loop.trips), k0_off2 i k = ![0, pcF i k, 1, 0, 0] := by decide +kernel
instance closedOff_k0_off2 (i : grid0.Coords) (k : Fin k0_t1_loop.trips) : ClosedOff (k0_off2 i k) := ⟨_, k0_off2_eq i k⟩
theorem k0_off3_eq : ∀ (i : grid0.Coords) (k : Fin k0_t1_loop.trips), k0_off3 i k = ![0, 64 * pcF i k, 0] := by decide +kernel
instance closedOff_k0_off3 (i : grid0.Coords) (k : Fin k0_t1_loop.trips) : ClosedOff (k0_off3 i k) := ⟨_, k0_off3_eq i k⟩
theorem k0_off4_eq : ∀ (i : grid0.Coords) (k : Fin k0_t1_loop.trips), k0_off4 i k = ![0, 64 * pcF i k, 128] := by decide +kernel
instance closedOff_k0_off4 (i : grid0.Coords) (k : Fin k0_t1_loop.trips) : ClosedOff (k0_off4 i k) := ⟨_, k0_off4_eq i k⟩
theorem k0_off5_eq : ∀ (i : grid0.Coords) (k : Fin k0_t1_loop.trips), k0_off5 i k = ![0, pcF i k, 0, 0, 0] := by decide +kernel
instance closedOff_k0_off5 (i : grid0.Coords) (k : Fin k0_t1_loop.trips) : ClosedOff (k0_off5 i k) := ⟨_, k0_off5_eq i k⟩
theorem k0_off6_eq : ∀ (i : grid0.Coords) (k : Fin k0_t1_loop.trips), k0_off6 i k = ![0, pcF i k, 0, 0] := by decide +kernel
instance closedOff_k0_off6 (i : grid0.Coords) (k : Fin k0_t1_loop.trips) : ClosedOff (k0_off6 i k) := ⟨_, k0_off6_eq i k⟩
theorem k0_off7_eq : ∀ (i : grid0.Coords) (k : Fin k0_t1_loop.trips), k0_off7 i k = ![0, pcF i k, 1, 0] := by decide +kernel
instance closedOff_k0_off7 (i : grid0.Coords) (k : Fin k0_t1_loop.trips) : ClosedOff (k0_off7 i k) := ⟨_, k0_off7_eq i k⟩
theorem k0_off8_eq : ∀ (i : grid0.Coords) (k : Fin k0_t1_loop.trips), k0_off8 i k = ![0, pcF i k, 2, 0, 0] := by decide +kernel
instance closedOff_k0_off8 (i : grid0.Coords) (k : Fin k0_t1_loop.trips) : ClosedOff (k0_off8 i k) := ⟨_, k0_off8_eq i k⟩
theorem k0_off9_eq : ∀ (i : grid0.Coords) (k : Fin k0_t1_loop.trips), k0_off9 i k = ![0, pcF i k, 3, 0, 0] := by decide +kernel
instance closedOff_k0_off9 (i : grid0.Coords) (k : Fin k0_t1_loop.trips) : ClosedOff (k0_off9 i k) := ⟨_, k0_off9_eq i k⟩
theorem k0_off10_eq : ∀ (i : grid0.Coords) (k : Fin k0_t1_loop.trips), k0_off10 i k = ![0, 64 * pcF i k, 256] := by decide +kernel
instance closedOff_k0_off10 (i : grid0.Coords) (k : Fin k0_t1_loop.trips) : ClosedOff (k0_off10 i k) := ⟨_, k0_off10_eq i k⟩
theorem k0_off11_eq : ∀ (i : grid0.Coords) (k : Fin k0_t1_loop.trips), k0_off11 i k = ![0, 64 * pcF i k, 384] := by decide +kernel
instance closedOff_k0_off11 (i : grid0.Coords) (k : Fin k0_t1_loop.trips) : ClosedOff (k0_off11 i k) := ⟨_, k0_off11_eq i k⟩
theorem k0_off12_eq : ∀ (i : grid0.Coords) (k : Fin k0_t1_loop.trips), k0_off12 i k = ![0, pcF i k, 1, 0, 0] := by decide +kernel
instance closedOff_k0_off12 (i : grid0.Coords) (k : Fin k0_t1_loop.trips) : ClosedOff (k0_off12 i k) := ⟨_, k0_off12_eq i k⟩
theorem k0_off13_eq : ∀ (i : grid0.Coords) (k : Fin k0_t1_loop.trips), k0_off13 i k = ![0, pcF i k, 2, 0] := by decide +kernel
instance closedOff_k0_off13 (i : grid0.Coords) (k : Fin k0_t1_loop.trips) : ClosedOff (k0_off13 i k) := ⟨_, k0_off13_eq i k⟩
theorem k0_off14_eq : ∀ (i : grid0.Coords) (k : Fin k0_t1_loop.trips), k0_off14 i k = ![0, pcF i k, 3, 0] := by decide +kernel
instance closedOff_k0_off14 (i : grid0.Coords) (k : Fin k0_t1_loop.trips) : ClosedOff (k0_off14 i k) := ⟨_, k0_off14_eq i k⟩
theorem k0_off15_eq : ∀ (i : grid0.Coords) (k : Fin k0_t1_loop.trips), k0_off15 i k = ![0, pcF i k, 4, 0, 0] := by decide +kernel
instance closedOff_k0_off15 (i : grid0.Coords) (k : Fin k0_t1_loop.trips) : ClosedOff (k0_off15 i k) := ⟨_, k0_off15_eq i k⟩
theorem k0_off16_eq : ∀ (i : grid0.Coords) (k : Fin k0_t1_loop.trips), k0_off16 i k = ![0, pcF i k, 5, 0, 0] := by decide +kernel
instance closedOff_k0_off16 (i : grid0.Coords) (k : Fin k0_t1_loop.trips) : ClosedOff (k0_off16 i k) := ⟨_, k0_off16_eq i k⟩
theorem k0_off17_eq : ∀ (i : grid0.Coords) (k : Fin k0_t1_loop.trips), k0_off17 i k = ![0, 64 * pcF i k, 512] := by decide +kernel
instance closedOff_k0_off17 (i : grid0.Coords) (k : Fin k0_t1_loop.trips) : ClosedOff (k0_off17 i k) := ⟨_, k0_off17_eq i k⟩
theorem k0_off18_eq : ∀ (i : grid0.Coords) (k : Fin k0_t1_loop.trips), k0_off18 i k = ![0, 64 * pcF i k, 640] := by decide +kernel
instance closedOff_k0_off18 (i : grid0.Coords) (k : Fin k0_t1_loop.trips) : ClosedOff (k0_off18 i k) := ⟨_, k0_off18_eq i k⟩
theorem k0_off19_eq : ∀ (i : grid0.Coords) (k : Fin k0_t1_loop.trips), k0_off19 i k = ![0, pcF i k, 2, 0, 0] := by decide +kernel
instance closedOff_k0_off19 (i : grid0.Coords) (k : Fin k0_t1_loop.trips) : ClosedOff (k0_off19 i k) := ⟨_, k0_off19_eq i k⟩
theorem k0_off20_eq : ∀ (i : grid0.Coords) (k : Fin k0_t1_loop.trips), k0_off20 i k = ![0, pcF i k, 4, 0] := by decide +kernel
instance closedOff_k0_off20 (i : grid0.Coords) (k : Fin k0_t1_loop.trips) : ClosedOff (k0_off20 i k) := ⟨_, k0_off20_eq i k⟩
theorem k0_off21_eq : ∀ (i : grid0.Coords) (k : Fin k0_t1_loop.trips), k0_off21 i k = ![0, pcF i k, 5, 0] := by decide +kernel
instance closedOff_k0_off21 (i : grid0.Coords) (k : Fin k0_t1_loop.trips) : ClosedOff (k0_off21 i k) := ⟨_, k0_off21_eq i k⟩
theorem k0_off22_eq : ∀ (i : grid0.Coords) (k : Fin k0_t1_loop.trips), k0_off22 i k = ![0, pcF i k, 6, 0, 0] := by decide +kernel
instance closedOff_k0_off22 (i : grid0.Coords) (k : Fin k0_t1_loop.trips) : ClosedOff (k0_off22 i k) := ⟨_, k0_off22_eq i k⟩
theorem k0_off23_eq : ∀ (i : grid0.Coords) (k : Fin k0_t1_loop.trips), k0_off23 i k = ![0, pcF i k, 7, 0, 0] := by decide +kernel
instance closedOff_k0_off23 (i : grid0.Coords) (k : Fin k0_t1_loop.trips) : ClosedOff (k0_off23 i k) := ⟨_, k0_off23_eq i k⟩
theorem k0_off24_eq : ∀ (i : grid0.Coords) (k : Fin k0_t1_loop.trips), k0_off24 i k = ![0, 64 * pcF i k, 768] := by decide +kernel
instance closedOff_k0_off24 (i : grid0.Coords) (k : Fin k0_t1_loop.trips) : ClosedOff (k0_off24 i k) := ⟨_, k0_off24_eq i k⟩
theorem k0_off25_eq : ∀ (i : grid0.Coords) (k : Fin k0_t1_loop.trips), k0_off25 i k = ![0, 64 * pcF i k, 896] := by decide +kernel
instance closedOff_k0_off25 (i : grid0.Coords) (k : Fin k0_t1_loop.trips) : ClosedOff (k0_off25 i k) := ⟨_, k0_off25_eq i k⟩
theorem k0_off26_eq : ∀ (i : grid0.Coords) (k : Fin k0_t1_loop.trips), k0_off26 i k = ![0, pcF i k, 3, 0, 0] := by decide +kernel
instance closedOff_k0_off26 (i : grid0.Coords) (k : Fin k0_t1_loop.trips) : ClosedOff (k0_off26 i k) := ⟨_, k0_off26_eq i k⟩
theorem k0_off27_eq : ∀ (i : grid0.Coords) (k : Fin k0_t1_loop.trips), k0_off27 i k = ![0, pcF i k, 6, 0] := by decide +kernel
instance closedOff_k0_off27 (i : grid0.Coords) (k : Fin k0_t1_loop.trips) : ClosedOff (k0_off27 i k) := ⟨_, k0_off27_eq i k⟩
theorem k0_off28_eq : ∀ (i : grid0.Coords) (k : Fin k0_t1_loop.trips), k0_off28 i k = ![0, pcF i k, 7, 0] := by decide +kernel
instance closedOff_k0_off28 (i : grid0.Coords) (k : Fin k0_t1_loop.trips) : ClosedOff (k0_off28 i k) := ⟨_, k0_off28_eq i k⟩
theorem k1_off1_eq : ∀ (i : grid1.Coords) (k : Fin k1_t1_loop.trips), k1_off1 i k = ![0, pcB i k, 0, 0, 0] := by decide +kernel
instance closedOff_k1_off1 (i : grid1.Coords) (k : Fin k1_t1_loop.trips) : ClosedOff (k1_off1 i k) := ⟨_, k1_off1_eq i k⟩
theorem k1_off2_eq : ∀ (i : grid1.Coords) (k : Fin k1_t1_loop.trips), k1_off2 i k = ![0, pcB i k, 1, 0, 0] := by decide +kernel
instance closedOff_k1_off2 (i : grid1.Coords) (k : Fin k1_t1_loop.trips) : ClosedOff (k1_off2 i k) := ⟨_, k1_off2_eq i k⟩
theorem k1_off3_eq : ∀ (i : grid1.Coords) (k : Fin k1_t1_loop.trips), k1_off3 i k = ![0, 64 * pcB i k, 0] := by decide +kernel
instance closedOff_k1_off3 (i : grid1.Coords) (k : Fin k1_t1_loop.trips) : ClosedOff (k1_off3 i k) := ⟨_, k1_off3_eq i k⟩
theorem k1_off4_eq : ∀ (i : grid1.Coords) (k : Fin k1_t1_loop.trips), k1_off4 i k = ![0, 64 * pcB i k, 128] := by decide +kernel
instance closedOff_k1_off4 (i : grid1.Coords) (k : Fin k1_t1_loop.trips) : ClosedOff (k1_off4 i k) := ⟨_, k1_off4_eq i k⟩
theorem k1_off5_eq : ∀ (i : grid1.Coords) (k : Fin k1_t1_loop.trips), k1_off5 i k = ![0, pcB i k, 0, 0, 0] := by decide +kernel
instance closedOff_k1_off5 (i : grid1.Coords) (k : Fin k1_t1_loop.trips) : ClosedOff (k1_off5 i k) := ⟨_, k1_off5_eq i k⟩
theorem k1_off6_eq : ∀ (i : grid1.Coords) (k : Fin k1_t1_loop.trips), k1_off6 i k = ![0, pcB i k, 0, 0] := by decide +kernel
instance closedOff_k1_off6 (i : grid1.Coords) (k : Fin k1_t1_loop.trips) : ClosedOff (k1_off6 i k) := ⟨_, k1_off6_eq i k⟩
theorem k1_off7_eq : ∀ (i : grid1.Coords) (k : Fin k1_t1_loop.trips), k1_off7 i k = ![0, pcB i k, 1, 0] := by decide +kernel
instance closedOff_k1_off7 (i : grid1.Coords) (k : Fin k1_t1_loop.trips) : ClosedOff (k1_off7 i k) := ⟨_, k1_off7_eq i k⟩
theorem k1_off8_eq : ∀ (i : grid1.Coords) (k : Fin k1_t1_loop.trips), k1_off8 i k = ![64 * pcB i k, 0] := by decide +kernel
instance closedOff_k1_off8 (i : grid1.Coords) (k : Fin k1_t1_loop.trips) : ClosedOff (k1_off8 i k) := ⟨_, k1_off8_eq i k⟩
theorem k1_off9_eq : ∀ (i : grid1.Coords) (k : Fin k1_t1_loop.trips), k1_off9 i k = ![64 * pcB i k, 128] := by decide +kernel
instance closedOff_k1_off9 (i : grid1.Coords) (k : Fin k1_t1_loop.trips) : ClosedOff (k1_off9 i k) := ⟨_, k1_off9_eq i k⟩
theorem k1_off10_eq : ∀ (i : grid1.Coords) (k : Fin k1_t1_loop.trips), k1_off10 i k = ![0, pcB i k, 2, 0, 0] := by decide +kernel
instance closedOff_k1_off10 (i : grid1.Coords) (k : Fin k1_t1_loop.trips) : ClosedOff (k1_off10 i k) := ⟨_, k1_off10_eq i k⟩
theorem k1_off11_eq : ∀ (i : grid1.Coords) (k : Fin k1_t1_loop.trips), k1_off11 i k = ![0, pcB i k, 3, 0, 0] := by decide +kernel
instance closedOff_k1_off11 (i : grid1.Coords) (k : Fin k1_t1_loop.trips) : ClosedOff (k1_off11 i k) := ⟨_, k1_off11_eq i k⟩
theorem k1_off12_eq : ∀ (i : grid1.Coords) (k : Fin k1_t1_loop.trips), k1_off12 i k = ![0, 64 * pcB i k, 256] := by decide +kernel
instance closedOff_k1_off12 (i : grid1.Coords) (k : Fin k1_t1_loop.trips) : ClosedOff (k1_off12 i k) := ⟨_, k1_off12_eq i k⟩
theorem k1_off13_eq : ∀ (i : grid1.Coords) (k : Fin k1_t1_loop.trips), k1_off13 i k = ![0, 64 * pcB i k, 384] := by decide +kernel
instance closedOff_k1_off13 (i : grid1.Coords) (k : Fin k1_t1_loop.trips) : ClosedOff (k1_off13 i k) := ⟨_, k1_off13_eq i k⟩
theorem k1_off14_eq : ∀ (i : grid1.Coords) (k : Fin k1_t1_loop.trips), k1_off14 i k = ![0, pcB i k, 1, 0, 0] := by decide +kernel
instance closedOff_k1_off14 (i : grid1.Coords) (k : Fin k1_t1_loop.trips) : ClosedOff (k1_off14 i k) := ⟨_, k1_off14_eq i k⟩
theorem k1_off15_eq : ∀ (i : grid1.Coords) (k : Fin k1_t1_loop.trips), k1_off15 i k = ![0, pcB i k, 2, 0] := by decide +kernel
instance closedOff_k1_off15 (i : grid1.Coords) (k : Fin k1_t1_loop.trips) : ClosedOff (k1_off15 i k) := ⟨_, k1_off15_eq i k⟩
theorem k1_off16_eq : ∀ (i : grid1.Coords) (k : Fin k1_t1_loop.trips), k1_off16 i k = ![0, pcB i k, 3, 0] := by decide +kernel
instance closedOff_k1_off16 (i : grid1.Coords) (k : Fin k1_t1_loop.trips) : ClosedOff (k1_off16 i k) := ⟨_, k1_off16_eq i k⟩
theorem k1_off17_eq : ∀ (i : grid1.Coords) (k : Fin k1_t1_loop.trips), k1_off17 i k = ![64 * pcB i k, 256] := by decide +kernel
instance closedOff_k1_off17 (i : grid1.Coords) (k : Fin k1_t1_loop.trips) : ClosedOff (k1_off17 i k) := ⟨_, k1_off17_eq i k⟩
theorem k1_off18_eq : ∀ (i : grid1.Coords) (k : Fin k1_t1_loop.trips), k1_off18 i k = ![64 * pcB i k, 384] := by decide +kernel
instance closedOff_k1_off18 (i : grid1.Coords) (k : Fin k1_t1_loop.trips) : ClosedOff (k1_off18 i k) := ⟨_, k1_off18_eq i k⟩
theorem k1_off19_eq : ∀ (i : grid1.Coords) (k : Fin k1_t1_loop.trips), k1_off19 i k = ![0, pcB i k, 4, 0, 0] := by decide +kernel
instance closedOff_k1_off19 (i : grid1.Coords) (k : Fin k1_t1_loop.trips) : ClosedOff (k1_off19 i k) := ⟨_, k1_off19_eq i k⟩
theorem k1_off20_eq : ∀ (i : grid1.Coords) (k : Fin k1_t1_loop.trips), k1_off20 i k = ![0, pcB i k, 5, 0, 0] := by decide +kernel
instance closedOff_k1_off20 (i : grid1.Coords) (k : Fin k1_t1_loop.trips) : ClosedOff (k1_off20 i k) := ⟨_, k1_off20_eq i k⟩
theorem k1_off21_eq : ∀ (i : grid1.Coords) (k : Fin k1_t1_loop.trips), k1_off21 i k = ![0, 64 * pcB i k, 512] := by decide +kernel
instance closedOff_k1_off21 (i : grid1.Coords) (k : Fin k1_t1_loop.trips) : ClosedOff (k1_off21 i k) := ⟨_, k1_off21_eq i k⟩
theorem k1_off22_eq : ∀ (i : grid1.Coords) (k : Fin k1_t1_loop.trips), k1_off22 i k = ![0, 64 * pcB i k, 640] := by decide +kernel
instance closedOff_k1_off22 (i : grid1.Coords) (k : Fin k1_t1_loop.trips) : ClosedOff (k1_off22 i k) := ⟨_, k1_off22_eq i k⟩
theorem k1_off23_eq : ∀ (i : grid1.Coords) (k : Fin k1_t1_loop.trips), k1_off23 i k = ![0, pcB i k, 2, 0, 0] := by decide +kernel
instance closedOff_k1_off23 (i : grid1.Coords) (k : Fin k1_t1_loop.trips) : ClosedOff (k1_off23 i k) := ⟨_, k1_off23_eq i k⟩
theorem k1_off24_eq : ∀ (i : grid1.Coords) (k : Fin k1_t1_loop.trips), k1_off24 i k = ![0, pcB i k, 4, 0] := by decide +kernel
instance closedOff_k1_off24 (i : grid1.Coords) (k : Fin k1_t1_loop.trips) : ClosedOff (k1_off24 i k) := ⟨_, k1_off24_eq i k⟩
theorem k1_off25_eq : ∀ (i : grid1.Coords) (k : Fin k1_t1_loop.trips), k1_off25 i k = ![0, pcB i k, 5, 0] := by decide +kernel
instance closedOff_k1_off25 (i : grid1.Coords) (k : Fin k1_t1_loop.trips) : ClosedOff (k1_off25 i k) := ⟨_, k1_off25_eq i k⟩
theorem k1_off26_eq : ∀ (i : grid1.Coords) (k : Fin k1_t1_loop.trips), k1_off26 i k = ![64 * pcB i k, 512] := by decide +kernel
instance closedOff_k1_off26 (i : grid1.Coords) (k : Fin k1_t1_loop.trips) : ClosedOff (k1_off26 i k) := ⟨_, k1_off26_eq i k⟩
theorem k1_off27_eq : ∀ (i : grid1.Coords) (k : Fin k1_t1_loop.trips), k1_off27 i k = ![64 * pcB i k, 640] := by decide +kernel
instance closedOff_k1_off27 (i : grid1.Coords) (k : Fin k1_t1_loop.trips) : ClosedOff (k1_off27 i k) := ⟨_, k1_off27_eq i k⟩
theorem k1_off28_eq : ∀ (i : grid1.Coords) (k : Fin k1_t1_loop.trips), k1_off28 i k = ![0, pcB i k, 6, 0, 0] := by decide +kernel
instance closedOff_k1_off28 (i : grid1.Coords) (k : Fin k1_t1_loop.trips) : ClosedOff (k1_off28 i k) := ⟨_, k1_off28_eq i k⟩
theorem k1_off29_eq : ∀ (i : grid1.Coords) (k : Fin k1_t1_loop.trips), k1_off29 i k = ![0, pcB i k, 7, 0, 0] := by decide +kernel
instance closedOff_k1_off29 (i : grid1.Coords) (k : Fin k1_t1_loop.trips) : ClosedOff (k1_off29 i k) := ⟨_, k1_off29_eq i k⟩
theorem k1_off30_eq : ∀ (i : grid1.Coords) (k : Fin k1_t1_loop.trips), k1_off30 i k = ![0, 64 * pcB i k, 768] := by decide +kernel
instance closedOff_k1_off30 (i : grid1.Coords) (k : Fin k1_t1_loop.trips) : ClosedOff (k1_off30 i k) := ⟨_, k1_off30_eq i k⟩
theorem k1_off31_eq : ∀ (i : grid1.Coords) (k : Fin k1_t1_loop.trips), k1_off31 i k = ![0, 64 * pcB i k, 896] := by decide +kernel
instance closedOff_k1_off31 (i : grid1.Coords) (k : Fin k1_t1_loop.trips) : ClosedOff (k1_off31 i k) := ⟨_, k1_off31_eq i k⟩
theorem k1_off32_eq : ∀ (i : grid1.Coords) (k : Fin k1_t1_loop.trips), k1_off32 i k = ![0, pcB i k, 3, 0, 0] := by decide +kernel
instance closedOff_k1_off32 (i : grid1.Coords) (k : Fin k1_t1_loop.trips) : ClosedOff (k1_off32 i k) := ⟨_, k1_off32_eq i k⟩
theorem k1_off33_eq : ∀ (i : grid1.Coords) (k : Fin k1_t1_loop.trips), k1_off33 i k = ![0, pcB i k, 6, 0] := by decide +kernel
instance closedOff_k1_off33 (i : grid1.Coords) (k : Fin k1_t1_loop.trips) : ClosedOff (k1_off33 i k) := ⟨_, k1_off33_eq i k⟩
theorem k1_off34_eq : ∀ (i : grid1.Coords) (k : Fin k1_t1_loop.trips), k1_off34 i k = ![0, pcB i k, 7, 0] := by decide +kernel
instance closedOff_k1_off34 (i : grid1.Coords) (k : Fin k1_t1_loop.trips) : ClosedOff (k1_off34 i k) := ⟨_, k1_off34_eq i k⟩
theorem k1_off35_eq : ∀ (i : grid1.Coords) (k : Fin k1_t1_loop.trips), k1_off35 i k = ![64 * pcB i k, 768] := by decide +kernel
instance closedOff_k1_off35 (i : grid1.Coords) (k : Fin k1_t1_loop.trips) : ClosedOff (k1_off35 i k) := ⟨_, k1_off35_eq i k⟩
theorem k1_off36_eq : ∀ (i : grid1.Coords) (k : Fin k1_t1_loop.trips), k1_off36 i k = ![64 * pcB i k, 896] := by decide +kernel
instance closedOff_k1_off36 (i : grid1.Coords) (k : Fin k1_t1_loop.trips) : ClosedOff (k1_off36 i k) := ⟨_, k1_off36_eq i k⟩

end Cert.Proof.KernelIdeal

end
-- ==== Proof.TripF.lean ====
/- One trip of the forward scan over a chunk of every head, run once at a symbolic trip. -/
module

public import proofs.«01_k».proof.Proof.Offsets
public import Idealize.ShloMosaic.Lib.HeldBySlice

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M`'s buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x512x1024 .f32) (harg8 : arg8.IsWhole) (arg9 : Memref sig .tc .vmem S1x8x8x128x128 .f32) (harg9 : arg9.IsWhole) (arg10 : Memref sig .tc .vmem S8x128x128 .f32) (harg10 : arg10.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10)

/-- What one trip of the chunk loop does to the buffers it writes: the lists of its stores, last store first. -/
def trip0 (k : Fin k0_t1_loop.trips) :
    (L8 : List (View.Piece (Elt F) S1x512x1024 .f32)) ×' (L9 : List (View.Piece (Elt F) S1x8x8x128x128 .f32)) ×' { L10 : List (View.Piece (Elt F) S8x128x128 .f32) //
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10)
    ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg0 k ())
        (fun _ => iprop(pt c arg2 f2 ∗ pt c arg3 f3 ∗ pt c arg4 f4 ∗ pt c arg5 f5 ∗ pt c arg6 f6 ∗ pt c arg7 f7 ∗ pt c arg8 (arg8.view.writes (Elt F) f8 L8) ∗ pt c arg9 (arg9.view.writes (Elt F) f9 L9) ∗ pt c arg10 (arg10.view.writes (Elt F) f10 L10))) } := by
  refine ⟨?_, ?_, ?_, ?run⟩
  case run =>
    unfold k0_t1_body
    iintro ⟨H2, H3, H4, H5, H6, H7, H8, H9, H10⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Proof.KernelIdeal

end
-- ==== Proof.Chunk.lean ====
/- What the scans of the kernel compute from one chunk of one head (or of one pair of heads), as functions of the blocks
   they read. Forward: `vnF` the corrected values, `oF` a pair's outputs, `stF` the state after the chunk. Backward: the
   gradients of the six operands of a chunk and of the state before it. -/
module

public import proofs.«01_k».proof.Proof.Offsets

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

/-! ## The forward scan -/

section Fwd

/-- The corrected values of a chunk, `u − w S`. -/
def vnF (u : Vec F S1x64x128 .f32) (w : Vec F S1x64x128 .bf16) (S : Vec F S1x128x128 .f32) : FVec F S64x128 .f32 :=
  subf (shapeCast S64x128 u shapeCasts_S1x64x128_S64x128)
    (matmul dot_S64x128_S128x128_S64x128_1_0_0_1_n_n none (shapeCast S64x128 w shapeCasts_S1x64x128_S64x128)
      (truncf .bf16 (shapeCast S128x128 S shapeCasts_S1x128x128_S128x128) bitsLt_bf16_f32) (constant S64x128 .f32 0x00000000#32))

/-- What the state adds to a chunk's outputs, `q S`. -/
def qsF (qd : Vec F S1x64x128 .bf16) (S : Vec F S1x128x128 .f32) : FVec F S64x128 .f32 :=
  matmul dot_S64x128_S128x128_S64x128_1_0_0_1_n_n none (shapeCast S64x128 qd shapeCasts_S1x64x128_S64x128)
    (truncf .bf16 (shapeCast S128x128 S shapeCasts_S1x128x128_S128x128) bitsLt_bf16_f32) (constant S64x128 .f32 0x00000000#32)

/-- The outputs of a pair of heads over a chunk, one head above the other: `q S + P vn`, `P` the pair's block-diagonal matrix. -/
def oF (S S' : Vec F S1x128x128 .f32) (u u' : Vec F S1x64x128 .f32) (w w' qd qd' : Vec F S1x64x128 .bf16)
    (P : Vec F S1x1x1x128x128 .bf16) : FVec F S128x128 .f32 :=
  addf (concatenate S128x128 0 [⟨S64x128, qsF qd S⟩, ⟨S64x128, qsF qd' S'⟩] concatenates_S64x128_S64x128_S128x128_d0)
    (matmul dot_S128x128_S128x128_S128x128_1_0_0_1_n_n none (shapeCast S128x128 P shapeCasts_S1x1x1x128x128_S128x128)
      (truncf .bf16 (concatenate S128x128 0 [⟨S64x128, vnF u w S⟩, ⟨S64x128, vnF u' w' S'⟩] concatenates_S64x128_S64x128_S128x128_d0) bitsLt_bf16_f32)
      (constant S128x128 .f32 0x00000000#32))

/-- The upper (`false`) or lower (`true`) half of a pair's matrix. -/
def half (j : Bool) (X : FVec F S128x128 .f32) : FVec F S64x128 .f32 :=
  match j with
  | false => extractStridedSlice S64x128 ![0, 0] X slices_S128x128_o0_0_S64x128
  | true => extractStridedSlice S64x128 ![64, 0] X slices_S128x128_o64_0_S64x128

/-- One head's outputs over a chunk. -/
def ohF (j : Bool) (S S' : Vec F S1x128x128 .f32) (u u' : Vec F S1x64x128 .f32) (w w' qd qd' : Vec F S1x64x128 .bf16)
    (P : Vec F S1x1x1x128x128 .bf16) : FVec F S1x64x128 .f32 :=
  shapeCast S1x64x128 (half j (oF S S' u u' w w' qd qd' P)) shapeCasts_S64x128_S1x64x128

/-- The state as saved. -/
def svF (S : Vec F S1x128x128 .f32) : FVec F S1x1x1x128x128 .f32 :=
  shapeCast S1x1x1x128x128 (shapeCast S128x128 S shapeCasts_S1x128x128_S128x128) shapeCasts_S128x128_S1x1x1x128x128

/-- The state after the chunk, `S · eg + kᵀ vn`. -/
def stF (S : Vec F S1x128x128 .f32) (u : Vec F S1x64x128 .f32) (w kd : Vec F S1x64x128 .bf16) (eg : Vec F S1x1x1x128 .f32) :
    FVec F S1x128x128 .f32 :=
  shapeCast S1x128x128
    (addf (mulf (shapeCast S128x128 S shapeCasts_S1x128x128_S128x128) (broadcastTo S128x128 (shapeCast S1x128 eg shapeCasts_S1x1x1x128_S1x128) broadcasts_S1x128_S128x128))
      (matmul dot_S64x128_S64x128_S128x128_0_0_1_1_n_n none (shapeCast S64x128 kd shapeCasts_S1x64x128_S64x128)
        (truncf .bf16 (vnF u w S) bitsLt_bf16_f32) (constant S128x128 .f32 0x00000000#32)))
    shapeCasts_S128x128_S1x128x128

end Fwd

/-! ## The backward scan -/

section Bwd

/-- A bf16 block widened and rounded again, as the backward scan multiplies it. -/
def wid (x : Vec F S1x64x128 .bf16) : FVec F S64x128 .bf16 :=
  truncf .bf16 (extf .f32 (shapeCast S64x128 x shapeCasts_S1x64x128_S64x128) bitsLt_bf16_f32) bitsLt_bf16_f32

/-- A saved state as a matrix of the products. -/
def s0m (S0 : Vec F S1x1x1x128x128 .f32) : FVec F S128x128 .f32 := shapeCast S128x128 S0 shapeCasts_S1x1x1x128x128_S128x128

/-- The gradient of a state as a matrix of the products. -/
def dsm (dS : Vec F S1x128x128 .f32) : FVec F S128x128 .f32 :=
  shapeCast S128x128 (shapeCast S128x128 dS shapeCasts_S1x128x128_S128x128) shapeCasts_S128x128_S128x128

/-- The corrected values of a chunk, recomputed from the saved state. -/
def vnB (u : Vec F S1x64x128 .f32) (w : Vec F S1x64x128 .bf16) (S0 : Vec F S1x1x1x128x128 .f32) : FVec F S64x128 .f32 :=
  subf (shapeCast S64x128 u shapeCasts_S1x64x128_S64x128)
    (matmul dot_S64x128_S128x128_S64x128_1_0_0_1_n_n none (wid w) (truncf .bf16 (s0m S0) bitsLt_bf16_f32) (constant S64x128 .f32 0x00000000#32))

/-- The cotangents of a pair's outputs, one head above the other. -/
def doB (d d' : Vec F S64x128 .bf16) : FVec F S128x128 .f32 :=
  concatenate S128x128 0 [⟨S64x128, extf .f32 d bitsLt_bf16_f32⟩, ⟨S64x128, extf .f32 d' bitsLt_bf16_f32⟩] concatenates_S64x128_S64x128_S128x128_d0

/-- The gradient of a pair's matrix, `do vnᵀ`. -/
def dpB (u u' : Vec F S1x64x128 .f32) (w w' : Vec F S1x64x128 .bf16) (S0 S0' : Vec F S1x1x1x128x128 .f32) (d d' : Vec F S64x128 .bf16) :
    FVec F S1x1x1x128x128 .f32 :=
  shapeCast S1x1x1x128x128
    (matmul dot_S128x128_S128x128_S128x128_1_1_0_0_n_n none (truncf .bf16 (doB d d') bitsLt_bf16_f32)
      (truncf .bf16 (concatenate S128x128 0 [⟨S64x128, vnB u w S0⟩, ⟨S64x128, vnB u' w' S0'⟩] concatenates_S64x128_S64x128_S128x128_d0) bitsLt_bf16_f32)
      (constant S128x128 .f32 0x00000000#32)) shapeCasts_S128x128_S1x1x1x128x128

/-- The gradient of a head's corrected values, `k dS + Pᵀ do`. -/
def dvB (j : Bool) (dS : Vec F S1x128x128 .f32) (kd : Vec F S1x64x128 .bf16) (P : Vec F S1x1x1x128x128 .bf16) (d d' : Vec F S64x128 .bf16) :
    FVec F S64x128 .f32 :=
  addf (matmul dot_S64x128_S128x128_S64x128_1_0_0_1_n_n none (wid kd)
      (truncf .bf16 (dsm dS) bitsLt_bf16_f32) (constant S64x128 .f32 0x00000000#32))
    (half j (matmul dot_S128x128_S128x128_S128x128_0_0_1_1_n_n none
      (truncf .bf16 (extf .f32 (shapeCast S128x128 P shapeCasts_S1x1x1x128x128_S128x128) bitsLt_bf16_f32) bitsLt_bf16_f32)
      (truncf .bf16 (doB d d') bitsLt_bf16_f32) (constant S128x128 .f32 0x00000000#32)))

/-- Its negative. -/
def ndvB (j : Bool) (dS : Vec F S1x128x128 .f32) (kd : Vec F S1x64x128 .bf16) (P : Vec F S1x1x1x128x128 .bf16) (d d' : Vec F S64x128 .bf16) :
    FVec F S64x128 .f32 :=
  subf (broadcast S64x128 (Scalar.ofBits .f32 0x00000000#32)) (dvB j dS kd P d d')

/-- The gradient of `u`. -/
def duB (j : Bool) (dS : Vec F S1x128x128 .f32) (kd : Vec F S1x64x128 .bf16) (P : Vec F S1x1x1x128x128 .bf16) (d d' : Vec F S64x128 .bf16) :
    FVec F S1x64x128 .bf16 :=
  shapeCast S1x64x128 (truncf .bf16 (dvB j dS kd P d d') bitsLt_bf16_f32) shapeCasts_S64x128_S1x64x128

/-- The gradient of `w`, `− dvn Sᵀ`. -/
def dwB (j : Bool) (dS : Vec F S1x128x128 .f32) (kd : Vec F S1x64x128 .bf16) (P : Vec F S1x1x1x128x128 .bf16) (d d' : Vec F S64x128 .bf16)
    (S0 : Vec F S1x1x1x128x128 .f32) : FVec F S1x64x128 .bf16 :=
  shapeCast S1x64x128 (truncf .bf16
    (matmul dot_S64x128_S128x128_S64x128_1_1_0_0_n_n none (truncf .bf16 (ndvB j dS kd P d d') bitsLt_bf16_f32)
      (truncf .bf16 (s0m S0) bitsLt_bf16_f32) (constant S64x128 .f32 0x00000000#32)) bitsLt_bf16_f32) shapeCasts_S64x128_S1x64x128

/-- The gradient of `qd`, `do Sᵀ`. -/
def dqB (j : Bool) (d d' : Vec F S64x128 .bf16) (S0 : Vec F S1x1x1x128x128 .f32) : FVec F S1x64x128 .f32 :=
  shapeCast S1x64x128
    (matmul dot_S64x128_S128x128_S64x128_1_1_0_0_n_n none (truncf .bf16 (half j (doB d d')) bitsLt_bf16_f32)
      (truncf .bf16 (s0m S0) bitsLt_bf16_f32) (constant S64x128 .f32 0x00000000#32)) shapeCasts_S64x128_S1x64x128

/-- The gradient of `kd`, `vn dSᵀ`. -/
def dkB (dS : Vec F S1x128x128 .f32) (u : Vec F S1x64x128 .f32) (w : Vec F S1x64x128 .bf16) (S0 : Vec F S1x1x1x128x128 .f32) :
    FVec F S1x64x128 .f32 :=
  shapeCast S1x64x128
    (matmul dot_S64x128_S128x128_S64x128_1_1_0_0_n_n none (truncf .bf16 (vnB u w S0) bitsLt_bf16_f32)
      (truncf .bf16 (dsm dS) bitsLt_bf16_f32) (constant S64x128 .f32 0x00000000#32)) shapeCasts_S64x128_S1x64x128

/-- The gradient of the decay, lane by lane: the column sums of `S · dS`. -/
def dgB (dS : Vec F S1x128x128 .f32) (S0 : Vec F S1x1x1x128x128 .f32) : FVec F S1x1x1x128 .f32 :=
  shapeCast S1x1x1x128 (shapeCast S1x128
    (multiReduction .add [0] S128 (mulf (s0m S0) (dsm dS)) 0x00000000#32 reduces_S128x128_S128 (.inl rfl) rfl)
    shapeCasts_S128_S1x128) shapeCasts_S1x128_S1x1x1x128

/-- The gradient of the state before the chunk, `dS · eg + qᵀ do − wᵀ dvn`. -/
def dsB (j : Bool) (dS : Vec F S1x128x128 .f32) (w qd kd : Vec F S1x64x128 .bf16) (P : Vec F S1x1x1x128x128 .bf16) (eg : Vec F S1x1x1x128 .f32)
    (d d' : Vec F S64x128 .bf16) : FVec F S1x128x128 .f32 :=
  shapeCast S1x128x128
    (addf (addf (mulf (dsm dS) (broadcastTo S128x128 (shapeCast S1x128 eg shapeCasts_S1x1x1x128_S1x128) broadcasts_S1x128_S128x128))
        (matmul dot_S64x128_S64x128_S128x128_0_0_1_1_n_n none (wid qd) (truncf .bf16 (half j (doB d d')) bitsLt_bf16_f32) (constant S128x128 .f32 0x00000000#32)))
      (matmul dot_S64x128_S64x128_S128x128_0_0_1_1_n_n none (wid w) (truncf .bf16 (ndvB j dS kd P d d') bitsLt_bf16_f32) (constant S128x128 .f32 0x00000000#32)))
    shapeCasts_S128x128_S1x128x128

end Bwd

end Cert.Proof.KernelIdeal

end
-- ==== Proof.Blocks.lean ====
/- Blocks of arrays, read at natural-number coordinates, and the arrays that the two scans leave. -/
module

public import proofs.«01_k».proof.Proof.Chunk
public import Idealize.ShloMosaic.Lib.Pipeline.ValueKit.Tiles

@[expose] public section

set_option maxRecDepth 16384

noncomputable section

namespace Cert.Proof.KernelIdeal

open Cert.KernelIdeal Cert.KernelIdeal.Gen
open Idealize.ShloMosaic Idealize.ShloMosaic.TcCoe

/-- No axis of the shape is empty. -/
class Pos (s : Shape) : Prop where
  pos : ∀ a, 0 < s.size a

instance : Pos S2x16384x1024 := ⟨by decide⟩
instance : Pos S16384x1024 := ⟨by decide⟩
instance : Pos S2x256x4x128x128 := ⟨by decide⟩
instance : Pos S2x256x8x128 := ⟨by decide⟩
instance : Pos S2x256x8x128x128 := ⟨by decide⟩
instance : Pos S1x512x1024 := ⟨by decide⟩
instance : Pos S512x1024 := ⟨by decide⟩
instance : Pos S1x8x4x128x128 := ⟨by decide⟩
instance : Pos S1x8x8x128 := ⟨by decide⟩
instance : Pos S1x8x8x128x128 := ⟨by decide⟩
instance : Pos S8x128x128 := ⟨by decide⟩
instance : Pos S1x64x128 := ⟨by decide⟩
instance : Pos S64x128 := ⟨by decide⟩
instance : Pos S1x128x128 := ⟨by decide⟩
instance : Pos S1x1x1x128x128 := ⟨by decide⟩
instance : Pos S1x1x1x128 := ⟨by decide⟩

/-- The index of a shape with the given coordinates (each taken modulo the axis). -/
def wr {s : Shape} [Pos s] (v : Fin s.rank → ℕ) : s.Idx := fun a => ⟨v a % s.size a, Nat.mod_lt _ (Pos.pos a)⟩

theorem wr_eq {s : Shape} [Pos s] (v : Fin s.rank → ℕ) (y : s.Idx) (h : ∀ a, v a = (y a).val) : wr v = y :=
  funext fun a => Fin.ext (by show v a % s.size a = _; rw [h a, Nat.mod_eq_of_lt (y a).isLt])

theorem wr_val {s : Shape} [Pos s] (v : Fin s.rank → ℕ) (a : Fin s.rank) (h : v a < s.size a) : ((wr v) a).val = v a :=
  Nat.mod_eq_of_lt h

/-- The block of an array of the given sizes at the given offsets. -/
def blk {s : Shape} [Pos s] {α : Type} (X : s.Idx → α) (size off : Fin s.rank → ℕ) : (⟨s.rank, size⟩ : Shape).Idx → α :=
  fun x => X (wr fun a => off a + (x a).val)

/-- A load through a rectangle reads the block at its offsets. -/
theorem ld_eq_blk {s : Shape} [Pos s] {Val : EltTy → Type} {e : EltTy} (X : s.Idx → Val e) {off off' size : Fin s.rank → ℕ}
    (inb : ∀ a, off a + size a ≤ s.size a) (h : off = off') : View.ld X (Rect.unit off size inb) = blk X size off' := by
  subst h
  funext x
  exact View.ld_unit_apply_of X off size inb x _ fun a => wr_val _ a (by
    have h1 : (x a).val < size a := (x a).isLt
    have h2 := inb a
    omega)

/-- A block of a block is a block. -/
theorem blk_blk {s : Shape} [Pos s] {α : Type} (X : s.Idx → α) {big off small off' off'' : Fin s.rank → ℕ} [Pos ⟨s.rank, big⟩]
    (h : ∀ a, off' a + small a ≤ big a) (ho : ∀ a, off'' a = off a + off' a) :
    blk (s := ⟨s.rank, big⟩) (blk X big off) small off' = blk X small off'' := by
  funext x
  refine congrArg X (congrArg wr (funext fun a => ?_))
  have h1 : (x a).val < small a := (x a).isLt
  have h2 := h a
  have h3 : (off' a + (x a).val) % big a = off' a + (x a).val := Nat.mod_eq_of_lt (by omega)
  show off a + (off' a + (x a).val) % big a = off'' a + (x a).val
  rw [h3, ho a, Nat.add_assoc]

/-- The whole block is the array. -/
theorem blk_zero {s : Shape} [Pos s] {α : Type} (X : s.Idx → α) (off : Fin s.rank → ℕ) (h : ∀ a, off a = 0) : blk X s.size off = X :=
  funext fun x => congrArg X (wr_eq _ x fun a => by rw [h a, Nat.zero_add])

variable {F : FTy → Type} [FloatOps F]

section Access

variable {α : Type}

/-- Rows of chunk `c`, lanes of head `h`, direction `d`. -/
def rowB (X : S2x16384x1024.Idx → α) (d c h : ℕ) : S1x64x128.Idx → α := blk X S1x64x128.size ![d, 64 * c, 128 * h]
/-- The pair `g`'s matrix at chunk `c`. -/
def pairB (X : S2x256x4x128x128.Idx → α) (d c g : ℕ) : S1x1x1x128x128.Idx → α := blk X S1x1x1x128x128.size ![d, c, g, 0, 0]
/-- The head `h`'s state at chunk `c`. -/
def stB (X : S2x256x8x128x128.Idx → α) (d c h : ℕ) : S1x1x1x128x128.Idx → α := blk X S1x1x1x128x128.size ![d, c, h, 0, 0]
/-- The head `h`'s row of lanes at chunk `c`. -/
def laneB (X : S2x256x8x128.Idx → α) (d c h : ℕ) : S1x1x1x128.Idx → α := blk X S1x1x1x128.size ![d, c, h, 0]
/-- Rows of chunk `c`, lanes of head `h`, of an array both directions share. -/
def rowC (X : S16384x1024.Idx → α) (c h : ℕ) : S64x128.Idx → α := blk X S64x128.size ![64 * c, 128 * h]
/-- Head `h` of a stack of eight matrices. -/
def hd (X : S8x128x128.Idx → α) (h : ℕ) : S1x128x128.Idx → α := blk X S1x128x128.size ![h, 0, 0]

end Access

/-! ## The forward scan over whole arrays -/

section Fwd

variable (U : Vec F S2x16384x1024 .f32) (W Q K : Vec F S2x16384x1024 .bf16) (P : Vec F S2x256x4x128x128 .bf16) (E : Vec F S2x256x8x128 .f32)

/-- The chunk that step `s` of direction `d` treats (and the step that treats chunk `s`). -/
def cF (d s : ℕ) : ℕ := if d = 0 then s else 255 - s

/-- The states of the eight heads before step `s`. -/
def StF (d : ℕ) : ℕ → Vec F S8x128x128 .f32
  | 0 => k0_pay1
  | s + 1 => fun y =>
    stF (hd (StF d s) (y 0).val) (rowB U d (cF d s) (y 0).val) (rowB W d (cF d s) (y 0).val) (rowB K d (cF d s) (y 0).val) (laneB E d (cF d s) (y 0).val)
      (wr ![0, (y 1).val, (y 2).val])

/-- The outputs of head `h` at step `s`. -/
def oC (d s h : ℕ) : Vec F S1x64x128 .f32 :=
  let g := h / 2
  let c := cF d s
  ohF (h % 2 == 1) (hd (StF U W K E d s) (2 * g)) (hd (StF U W K E d s) (2 * g + 1)) (rowB U d c (2 * g)) (rowB U d c (2 * g + 1))
    (rowB W d c (2 * g)) (rowB W d c (2 * g + 1)) (rowB Q d c (2 * g)) (rowB Q d c (2 * g + 1)) (pairB P d c g)

/-- The array of outputs. -/
def Go : Vec F S2x16384x1024 .f32 := fun y =>
  oC U W Q K P E (y 0).val (cF (y 0).val ((y 1).val / 64)) ((y 2).val / 128) (wr ![0, (y 1).val % 64, (y 2).val % 128])

/-- The array of saved states. -/
def Gs : Vec F S2x256x8x128x128 .f32 := fun y =>
  svF (hd (StF U W K E (y 0).val (cF (y 0).val (y 1).val)) (y 2).val) (wr ![0, 0, 0, (y 3).val, (y 4).val])

end Fwd

/-! ## The backward scan over whole arrays -/

section Bwd

variable (U : Vec F S2x16384x1024 .f32) (W Q K : Vec F S2x16384x1024 .bf16) (P : Vec F S2x256x4x128x128 .bf16) (E : Vec F S2x256x8x128 .f32)
  (S : Vec F S2x256x8x128x128 .f32) (D : Vec F S16384x1024 .bf16)

/-- The chunk that step `s` of direction `d` of the backward scan treats (and the step that treats chunk `s`). -/
def cB (d s : ℕ) : ℕ := if d = 0 then 255 - s else s

/-- The gradient of head `h`'s state after step `s` of the backward scan, from the gradients `dS` before it. -/
def dsC (dS : Vec F S8x128x128 .f32) (d s h : ℕ) : Vec F S1x128x128 .f32 :=
  let c := cB d s
  dsB (h % 2 == 1) (hd dS h) (rowB W d c h) (rowB Q d c h) (rowB K d c h) (pairB P d c (h / 2)) (laneB E d c h)
    (rowC D c (2 * (h / 2))) (rowC D c (2 * (h / 2) + 1))

/-- The gradients of the eight heads' states before step `s` of the backward scan, that is after its chunk. -/
def StB (d : ℕ) : ℕ → Vec F S8x128x128 .f32
  | 0 => k1_pay1
  | s + 1 => fun y => dsC W Q K P E D (StB d s) d s (y 0).val (wr ![0, (y 1).val, (y 2).val])

/-- The gradients of head `h` (of pair `h`, for the pair's matrix) at step `s`. -/
def duC (d s h : ℕ) : Vec F S1x64x128 .bf16 :=
  let c := cB d s
  duB (h % 2 == 1) (hd (StB W Q K P E D d s) h) (rowB K d c h) (pairB P d c (h / 2)) (rowC D c (2 * (h / 2))) (rowC D c (2 * (h / 2) + 1))
def dwC (d s h : ℕ) : Vec F S1x64x128 .bf16 :=
  let c := cB d s
  dwB (h % 2 == 1) (hd (StB W Q K P E D d s) h) (rowB K d c h) (pairB P d c (h / 2)) (rowC D c (2 * (h / 2))) (rowC D c (2 * (h / 2) + 1)) (stB S d c h)
def dqC (d s h : ℕ) : Vec F S1x64x128 .f32 :=
  let c := cB d s
  dqB (h % 2 == 1) (rowC D c (2 * (h / 2))) (rowC D c (2 * (h / 2) + 1)) (stB S d c h)
def dkC (d s h : ℕ) : Vec F S1x64x128 .f32 :=
  let c := cB d s
  dkB (hd (StB W Q K P E D d s) h) (rowB U d c h) (rowB W d c h) (stB S d c h)
def dpC (d s g : ℕ) : Vec F S1x1x1x128x128 .f32 :=
  let c := cB d s
  dpB (rowB U d c (2 * g)) (rowB U d c (2 * g + 1)) (rowB W d c (2 * g)) (rowB W d c (2 * g + 1)) (stB S d c (2 * g)) (stB S d c (2 * g + 1))
    (rowC D c (2 * g)) (rowC D c (2 * g + 1))
def dgC (d s h : ℕ) : Vec F S1x1x1x128 .f32 := dgB (hd (StB W Q K P E D d s) h) (stB S d (cB d s) h)

/-- The arrays of gradients. -/
def Gdu : Vec F S2x16384x1024 .bf16 := fun y =>
  duC W Q K P E D (y 0).val (cB (y 0).val ((y 1).val / 64)) ((y 2).val / 128) (wr ![0, (y 1).val % 64, (y 2).val % 128])
def Gdw : Vec F S2x16384x1024 .bf16 := fun y =>
  dwC W Q K P E S D (y 0).val (cB (y 0).val ((y 1).val / 64)) ((y 2).val / 128) (wr ![0, (y 1).val % 64, (y 2).val % 128])
def Gdq : Vec F S2x16384x1024 .f32 := fun y =>
  dqC S D (y 0).val (cB (y 0).val ((y 1).val / 64)) ((y 2).val / 128) (wr ![0, (y 1).val % 64, (y 2).val % 128])
def Gdk : Vec F S2x16384x1024 .f32 := fun y =>
  dkC U W Q K P E S D (y 0).val (cB (y 0).val ((y 1).val / 64)) ((y 2).val / 128) (wr ![0, (y 1).val % 64, (y 2).val % 128])
def Gdp : Vec F S2x256x4x128x128 .f32 := fun y =>
  dpC U W S D (y 0).val (cB (y 0).val (y 1).val) (y 2).val (wr ![0, 0, 0, (y 3).val, (y 4).val])
def Gdg : Vec F S2x256x8x128 .f32 := fun y =>
  dgC W Q K P E S D (y 0).val (cB (y 0).val (y 1).val) (y 2).val (wr ![0, 0, 0, (y 3).val])

end Bwd

end Cert.Proof.KernelIdeal

end
-- ==== Proof.ListF.lean ====
/- The stores of one trip of the forward scan, as the chunk functions of what the trip reads. -/
module

public import proofs.«01_k».proof.Proof.TripF
public import proofs.«01_k».proof.Proof.Blocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x512x1024 .f32) (harg8 : arg8.IsWhole) (arg9 : Memref sig .tc .vmem S1x8x8x128x128 .f32) (harg9 : arg9.IsWhole) (arg10 : Memref sig .tc .vmem S8x128x128 .f32) (harg10 : arg10.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (k : Fin k0_t1_loop.trips)

theorem trip0_o_raw : (trip0 (F := F) c i arg2 harg2 arg3 harg3 arg4 harg4 arg5 harg5 arg6 harg6 arg7 harg7 arg8 harg8 arg9 harg9 arg10 harg10 arg0 f2 f3 f4 f5 f6 f7 f8 f9 f10 k).1 =
     [⟨Rect.unit (k0_off25 i k) S1x64x128.size (k0_off25_inb i k), ohF true (View.ld (arg10.view.read (Elt F) f10) (Rect.unit ![6, 0, 0] S1x128x128.size inb_S8x128x128_S1x128x128_6_0_0)) (View.ld (arg10.view.read (Elt F) f10) (Rect.unit ![7, 0, 0] S1x128x128.size inb_S8x128x128_S1x128x128_7_0_0)) (View.ld (arg2.view.read (Elt F) f2) (Rect.unit (k0_off24 i k) S1x64x128.size (k0_off24_inb i k))) (View.ld (arg2.view.read (Elt F) f2) (Rect.unit (k0_off25 i k) S1x64x128.size (k0_off25_inb i k))) (View.ld (arg3.view.read (Elt F) f3) (Rect.unit (k0_off24 i k) S1x64x128.size (k0_off24_inb i k))) (View.ld (arg3.view.read (Elt F) f3) (Rect.unit (k0_off25 i k) S1x64x128.size (k0_off25_inb i k))) (View.ld (arg4.view.read (Elt F) f4) (Rect.unit (k0_off24 i k) S1x64x128.size (k0_off24_inb i k))) (View.ld (arg4.view.read (Elt F) f4) (Rect.unit (k0_off25 i k) S1x64x128.size (k0_off25_inb i k))) (View.ld (arg6.view.read (Elt F) f6) (Rect.unit (k0_off26 i k) S1x1x1x128x128.size (k0_off26_inb i k)))⟩,
      ⟨Rect.unit (k0_off24 i k) S1x64x128.size (k0_off24_inb i k), ohF false (View.ld (arg10.view.read (Elt F) f10) (Rect.unit ![6, 0, 0] S1x128x128.size inb_S8x128x128_S1x128x128_6_0_0)) (View.ld (arg10.view.read (Elt F) f10) (Rect.unit ![7, 0, 0] S1x128x128.size inb_S8x128x128_S1x128x128_7_0_0)) (View.ld (arg2.view.read (Elt F) f2) (Rect.unit (k0_off24 i k) S1x64x128.size (k0_off24_inb i k))) (View.ld (arg2.view.read (Elt F) f2) (Rect.unit (k0_off25 i k) S1x64x128.size (k0_off25_inb i k))) (View.ld (arg3.view.read (Elt F) f3) (Rect.unit (k0_off24 i k) S1x64x128.size (k0_off24_inb i k))) (View.ld (arg3.view.read (Elt F) f3) (Rect.unit (k0_off25 i k) S1x64x128.size (k0_off25_inb i k))) (View.ld (arg4.view.read (Elt F) f4) (Rect.unit (k0_off24 i k) S1x64x128.size (k0_off24_inb i k))) (View.ld (arg4.view.read (Elt F) f4) (Rect.unit (k0_off25 i k) S1x64x128.size (k0_off25_inb i k))) (View.ld (arg6.view.read (Elt F) f6) (Rect.unit (k0_off26 i k) S1x1x1x128x128.size (k0_off26_inb i k)))⟩,
      ⟨Rect.unit (k0_off18 i k) S1x64x128.size (k0_off18_inb i k), ohF true (View.ld (arg10.view.read (Elt F) f10) (Rect.unit ![4, 0, 0] S1x128x128.size inb_S8x128x128_S1x128x128_4_0_0)) (View.ld (arg10.view.read (Elt F) f10) (Rect.unit ![5, 0, 0] S1x128x128.size inb_S8x128x128_S1x128x128_5_0_0)) (View.ld (arg2.view.read (Elt F) f2) (Rect.unit (k0_off17 i k) S1x64x128.size (k0_off17_inb i k))) (View.ld (arg2.view.read (Elt F) f2) (Rect.unit (k0_off18 i k) S1x64x128.size (k0_off18_inb i k))) (View.ld (arg3.view.read (Elt F) f3) (Rect.unit (k0_off17 i k) S1x64x128.size (k0_off17_inb i k))) (View.ld (arg3.view.read (Elt F) f3) (Rect.unit (k0_off18 i k) S1x64x128.size (k0_off18_inb i k))) (View.ld (arg4.view.read (Elt F) f4) (Rect.unit (k0_off17 i k) S1x64x128.size (k0_off17_inb i k))) (View.ld (arg4.view.read (Elt F) f4) (Rect.unit (k0_off18 i k) S1x64x128.size (k0_off18_inb i k))) (View.ld (arg6.view.read (Elt F) f6) (Rect.unit (k0_off19 i k) S1x1x1x128x128.size (k0_off19_inb i k)))⟩,
      ⟨Rect.unit (k0_off17 i k) S1x64x128.size (k0_off17_inb i k), ohF false (View.ld (arg10.view.read (Elt F) f10) (Rect.unit ![4, 0, 0] S1x128x128.size inb_S8x128x128_S1x128x128_4_0_0)) (View.ld (arg10.view.read (Elt F) f10) (Rect.unit ![5, 0, 0] S1x128x128.size inb_S8x128x128_S1x128x128_5_0_0)) (View.ld (arg2.view.read (Elt F) f2) (Rect.unit (k0_off17 i k) S1x64x128.size (k0_off17_inb i k))) (View.ld (arg2.view.read (Elt F) f2) (Rect.unit (k0_off18 i k) S1x64x128.size (k0_off18_inb i k))) (View.ld (arg3.view.read (Elt F) f3) (Rect.unit (k0_off17 i k) S1x64x128.size (k0_off17_inb i k))) (View.ld (arg3.view.read (Elt F) f3) (Rect.unit (k0_off18 i k) S1x64x128.size (k0_off18_inb i k))) (View.ld (arg4.view.read (Elt F) f4) (Rect.unit (k0_off17 i k) S1x64x128.size (k0_off17_inb i k))) (View.ld (arg4.view.read (Elt F) f4) (Rect.unit (k0_off18 i k) S1x64x128.size (k0_off18_inb i k))) (View.ld (arg6.view.read (Elt F) f6) (Rect.unit (k0_off19 i k) S1x1x1x128x128.size (k0_off19_inb i k)))⟩,
      ⟨Rect.unit (k0_off11 i k) S1x64x128.size (k0_off11_inb i k), ohF true (View.ld (arg10.view.read (Elt F) f10) (Rect.unit ![2, 0, 0] S1x128x128.size inb_S8x128x128_S1x128x128_2_0_0)) (View.ld (arg10.view.read (Elt F) f10) (Rect.unit ![3, 0, 0] S1x128x128.size inb_S8x128x128_S1x128x128_3_0_0)) (View.ld (arg2.view.read (Elt F) f2) (Rect.unit (k0_off10 i k) S1x64x128.size (k0_off10_inb i k))) (View.ld (arg2.view.read (Elt F) f2) (Rect.unit (k0_off11 i k) S1x64x128.size (k0_off11_inb i k))) (View.ld (arg3.view.read (Elt F) f3) (Rect.unit (k0_off10 i k) S1x64x128.size (k0_off10_inb i k))) (View.ld (arg3.view.read (Elt F) f3) (Rect.unit (k0_off11 i k) S1x64x128.size (k0_off11_inb i k))) (View.ld (arg4.view.read (Elt F) f4) (Rect.unit (k0_off10 i k) S1x64x128.size (k0_off10_inb i k))) (View.ld (arg4.view.read (Elt F) f4) (Rect.unit (k0_off11 i k) S1x64x128.size (k0_off11_inb i k))) (View.ld (arg6.view.read (Elt F) f6) (Rect.unit (k0_off12 i k) S1x1x1x128x128.size (k0_off12_inb i k)))⟩,
      ⟨Rect.unit (k0_off10 i k) S1x64x128.size (k0_off10_inb i k), ohF false (View.ld (arg10.view.read (Elt F) f10) (Rect.unit ![2, 0, 0] S1x128x128.size inb_S8x128x128_S1x128x128_2_0_0)) (View.ld (arg10.view.read (Elt F) f10) (Rect.unit ![3, 0, 0] S1x128x128.size inb_S8x128x128_S1x128x128_3_0_0)) (View.ld (arg2.view.read (Elt F) f2) (Rect.unit (k0_off10 i k) S1x64x128.size (k0_off10_inb i k))) (View.ld (arg2.view.read (Elt F) f2) (Rect.unit (k0_off11 i k) S1x64x128.size (k0_off11_inb i k))) (View.ld (arg3.view.read (Elt F) f3) (Rect.unit (k0_off10 i k) S1x64x128.size (k0_off10_inb i k))) (View.ld (arg3.view.read (Elt F) f3) (Rect.unit (k0_off11 i k) S1x64x128.size (k0_off11_inb i k))) (View.ld (arg4.view.read (Elt F) f4) (Rect.unit (k0_off10 i k) S1x64x128.size (k0_off10_inb i k))) (View.ld (arg4.view.read (Elt F) f4) (Rect.unit (k0_off11 i k) S1x64x128.size (k0_off11_inb i k))) (View.ld (arg6.view.read (Elt F) f6) (Rect.unit (k0_off12 i k) S1x1x1x128x128.size (k0_off12_inb i k)))⟩,
      ⟨Rect.unit (k0_off4 i k) S1x64x128.size (k0_off4_inb i k), ohF true (View.ld (arg10.view.read (Elt F) f10) (Rect.unit ![0, 0, 0] S1x128x128.size inb_S8x128x128_S1x128x128_0_0_0)) (View.ld (arg10.view.read (Elt F) f10) (Rect.unit ![1, 0, 0] S1x128x128.size inb_S8x128x128_S1x128x128_1_0_0)) (View.ld (arg2.view.read (Elt F) f2) (Rect.unit (k0_off3 i k) S1x64x128.size (k0_off3_inb i k))) (View.ld (arg2.view.read (Elt F) f2) (Rect.unit (k0_off4 i k) S1x64x128.size (k0_off4_inb i k))) (View.ld (arg3.view.read (Elt F) f3) (Rect.unit (k0_off3 i k) S1x64x128.size (k0_off3_inb i k))) (View.ld (arg3.view.read (Elt F) f3) (Rect.unit (k0_off4 i k) S1x64x128.size (k0_off4_inb i k))) (View.ld (arg4.view.read (Elt F) f4) (Rect.unit (k0_off3 i k) S1x64x128.size (k0_off3_inb i k))) (View.ld (arg4.view.read (Elt F) f4) (Rect.unit (k0_off4 i k) S1x64x128.size (k0_off4_inb i k))) (View.ld (arg6.view.read (Elt F) f6) (Rect.unit (k0_off5 i k) S1x1x1x128x128.size (k0_off5_inb i k)))⟩,
      ⟨Rect.unit (k0_off3 i k) S1x64x128.size (k0_off3_inb i k), ohF false (View.ld (arg10.view.read (Elt F) f10) (Rect.unit ![0, 0, 0] S1x128x128.size inb_S8x128x128_S1x128x128_0_0_0)) (View.ld (arg10.view.read (Elt F) f10) (Rect.unit ![1, 0, 0] S1x128x128.size inb_S8x128x128_S1x128x128_1_0_0)) (View.ld (arg2.view.read (Elt F) f2) (Rect.unit (k0_off3 i k) S1x64x128.size (k0_off3_inb i k))) (View.ld (arg2.view.read (Elt F) f2) (Rect.unit (k0_off4 i k) S1x64x128.size (k0_off4_inb i k))) (View.ld (arg3.view.read (Elt F) f3) (Rect.unit (k0_off3 i k) S1x64x128.size (k0_off3_inb i k))) (View.ld (arg3.view.read (Elt F) f3) (Rect.unit (k0_off4 i k) S1x64x128.size (k0_off4_inb i k))) (View.ld (arg4.view.read (Elt F) f4) (Rect.unit (k0_off3 i k) S1x64x128.size (k0_off3_inb i k))) (View.ld (arg4.view.read (Elt F) f4) (Rect.unit (k0_off4 i k) S1x64x128.size (k0_off4_inb i k))) (View.ld (arg6.view.read (Elt F) f6) (Rect.unit (k0_off5 i k) S1x1x1x128x128.size (k0_off5_inb i k)))⟩] := rfl

theorem trip0_s_raw : (trip0 (F := F) c i arg2 harg2 arg3 harg3 arg4 harg4 arg5 harg5 arg6 harg6 arg7 harg7 arg8 harg8 arg9 harg9 arg10 harg10 arg0 f2 f3 f4 f5 f6 f7 f8 f9 f10 k).2.1 =
     [⟨Rect.unit (k0_off23 i k) S1x1x1x128x128.size (k0_off23_inb i k), svF (View.ld (arg10.view.read (Elt F) f10) (Rect.unit ![7, 0, 0] S1x128x128.size inb_S8x128x128_S1x128x128_7_0_0))⟩,
      ⟨Rect.unit (k0_off22 i k) S1x1x1x128x128.size (k0_off22_inb i k), svF (View.ld (arg10.view.read (Elt F) f10) (Rect.unit ![6, 0, 0] S1x128x128.size inb_S8x128x128_S1x128x128_6_0_0))⟩,
      ⟨Rect.unit (k0_off16 i k) S1x1x1x128x128.size (k0_off16_inb i k), svF (View.ld (arg10.view.read (Elt F) f10) (Rect.unit ![5, 0, 0] S1x128x128.size inb_S8x128x128_S1x128x128_5_0_0))⟩,
      ⟨Rect.unit (k0_off15 i k) S1x1x1x128x128.size (k0_off15_inb i k), svF (View.ld (arg10.view.read (Elt F) f10) (Rect.unit ![4, 0, 0] S1x128x128.size inb_S8x128x128_S1x128x128_4_0_0))⟩,
      ⟨Rect.unit (k0_off9 i k) S1x1x1x128x128.size (k0_off9_inb i k), svF (View.ld (arg10.view.read (Elt F) f10) (Rect.unit ![3, 0, 0] S1x128x128.size inb_S8x128x128_S1x128x128_3_0_0))⟩,
      ⟨Rect.unit (k0_off8 i k) S1x1x1x128x128.size (k0_off8_inb i k), svF (View.ld (arg10.view.read (Elt F) f10) (Rect.unit ![2, 0, 0] S1x128x128.size inb_S8x128x128_S1x128x128_2_0_0))⟩,
      ⟨Rect.unit (k0_off2 i k) S1x1x1x128x128.size (k0_off2_inb i k), svF (View.ld (arg10.view.read (Elt F) f10) (Rect.unit ![1, 0, 0] S1x128x128.size inb_S8x128x128_S1x128x128_1_0_0))⟩,
      ⟨Rect.unit (k0_off1 i k) S1x1x1x128x128.size (k0_off1_inb i k), svF (View.ld (arg10.view.read (Elt F) f10) (Rect.unit ![0, 0, 0] S1x128x128.size inb_S8x128x128_S1x128x128_0_0_0))⟩] := rfl

theorem trip0_st_raw : (trip0 (F := F) c i arg2 harg2 arg3 harg3 arg4 harg4 arg5 harg5 arg6 harg6 arg7 harg7 arg8 harg8 arg9 harg9 arg10 harg10 arg0 f2 f3 f4 f5 f6 f7 f8 f9 f10 k).2.2.1 =
     [⟨Rect.unit ![7, 0, 0] S1x128x128.size inb_S8x128x128_S1x128x128_7_0_0, stF (View.ld (arg10.view.read (Elt F) f10) (Rect.unit ![7, 0, 0] S1x128x128.size inb_S8x128x128_S1x128x128_7_0_0)) (View.ld (arg2.view.read (Elt F) f2) (Rect.unit (k0_off25 i k) S1x64x128.size (k0_off25_inb i k))) (View.ld (arg3.view.read (Elt F) f3) (Rect.unit (k0_off25 i k) S1x64x128.size (k0_off25_inb i k))) (View.ld (arg5.view.read (Elt F) f5) (Rect.unit (k0_off25 i k) S1x64x128.size (k0_off25_inb i k))) (View.ld (arg7.view.read (Elt F) f7) (Rect.unit (k0_off28 i k) S1x1x1x128.size (k0_off28_inb i k)))⟩,
      ⟨Rect.unit ![6, 0, 0] S1x128x128.size inb_S8x128x128_S1x128x128_6_0_0, stF (View.ld (arg10.view.read (Elt F) f10) (Rect.unit ![6, 0, 0] S1x128x128.size inb_S8x128x128_S1x128x128_6_0_0)) (View.ld (arg2.view.read (Elt F) f2) (Rect.unit (k0_off24 i k) S1x64x128.size (k0_off24_inb i k))) (View.ld (arg3.view.read (Elt F) f3) (Rect.unit (k0_off24 i k) S1x64x128.size (k0_off24_inb i k))) (View.ld (arg5.view.read (Elt F) f5) (Rect.unit (k0_off24 i k) S1x64x128.size (k0_off24_inb i k))) (View.ld (arg7.view.read (Elt F) f7) (Rect.unit (k0_off27 i k) S1x1x1x128.size (k0_off27_inb i k)))⟩,
      ⟨Rect.unit ![5, 0, 0] S1x128x128.size inb_S8x128x128_S1x128x128_5_0_0, stF (View.ld (arg10.view.read (Elt F) f10) (Rect.unit ![5, 0, 0] S1x128x128.size inb_S8x128x128_S1x128x128_5_0_0)) (View.ld (arg2.view.read (Elt F) f2) (Rect.unit (k0_off18 i k) S1x64x128.size (k0_off18_inb i k))) (View.ld (arg3.view.read (Elt F) f3) (Rect.unit (k0_off18 i k) S1x64x128.size (k0_off18_inb i k))) (View.ld (arg5.view.read (Elt F) f5) (Rect.unit (k0_off18 i k) S1x64x128.size (k0_off18_inb i k))) (View.ld (arg7.view.read (Elt F) f7) (Rect.unit (k0_off21 i k) S1x1x1x128.size (k0_off21_inb i k)))⟩,
      ⟨Rect.unit ![4, 0, 0] S1x128x128.size inb_S8x128x128_S1x128x128_4_0_0, stF (View.ld (arg10.view.read (Elt F) f10) (Rect.unit ![4, 0, 0] S1x128x128.size inb_S8x128x128_S1x128x128_4_0_0)) (View.ld (arg2.view.read (Elt F) f2) (Rect.unit (k0_off17 i k) S1x64x128.size (k0_off17_inb i k))) (View.ld (arg3.view.read (Elt F) f3) (Rect.unit (k0_off17 i k) S1x64x128.size (k0_off17_inb i k))) (View.ld (arg5.view.read (Elt F) f5) (Rect.unit (k0_off17 i k) S1x64x128.size (k0_off17_inb i k))) (View.ld (arg7.view.read (Elt F) f7) (Rect.unit (k0_off20 i k) S1x1x1x128.size (k0_off20_inb i k)))⟩,
      ⟨Rect.unit ![3, 0, 0] S1x128x128.size inb_S8x128x128_S1x128x128_3_0_0, stF (View.ld (arg10.view.read (Elt F) f10) (Rect.unit ![3, 0, 0] S1x128x128.size inb_S8x128x128_S1x128x128_3_0_0)) (View.ld (arg2.view.read (Elt F) f2) (Rect.unit (k0_off11 i k) S1x64x128.size (k0_off11_inb i k))) (View.ld (arg3.view.read (Elt F) f3) (Rect.unit (k0_off11 i k) S1x64x128.size (k0_off11_inb i k))) (View.ld (arg5.view.read (Elt F) f5) (Rect.unit (k0_off11 i k) S1x64x128.size (k0_off11_inb i k))) (View.ld (arg7.view.read (Elt F) f7) (Rect.unit (k0_off14 i k) S1x1x1x128.size (k0_off14_inb i k)))⟩,
      ⟨Rect.unit ![2, 0, 0] S1x128x128.size inb_S8x128x128_S1x128x128_2_0_0, stF (View.ld (arg10.view.read (Elt F) f10) (Rect.unit ![2, 0, 0] S1x128x128.size inb_S8x128x128_S1x128x128_2_0_0)) (View.ld (arg2.view.read (Elt F) f2) (Rect.unit (k0_off10 i k) S1x64x128.size (k0_off10_inb i k))) (View.ld (arg3.view.read (Elt F) f3) (Rect.unit (k0_off10 i k) S1x64x128.size (k0_off10_inb i k))) (View.ld (arg5.view.read (Elt F) f5) (Rect.unit (k0_off10 i k) S1x64x128.size (k0_off10_inb i k))) (View.ld (arg7.view.read (Elt F) f7) (Rect.unit (k0_off13 i k) S1x1x1x128.size (k0_off13_inb i k)))⟩,
      ⟨Rect.unit ![1, 0, 0] S1x128x128.size inb_S8x128x128_S1x128x128_1_0_0, stF (View.ld (arg10.view.read (Elt F) f10) (Rect.unit ![1, 0, 0] S1x128x128.size inb_S8x128x128_S1x128x128_1_0_0)) (View.ld (arg2.view.read (Elt F) f2) (Rect.unit (k0_off4 i k) S1x64x128.size (k0_off4_inb i k))) (View.ld (arg3.view.read (Elt F) f3) (Rect.unit (k0_off4 i k) S1x64x128.size (k0_off4_inb i k))) (View.ld (arg5.view.read (Elt F) f5) (Rect.unit (k0_off4 i k) S1x64x128.size (k0_off4_inb i k))) (View.ld (arg7.view.read (Elt F) f7) (Rect.unit (k0_off7 i k) S1x1x1x128.size (k0_off7_inb i k)))⟩,
      ⟨Rect.unit ![0, 0, 0] S1x128x128.size inb_S8x128x128_S1x128x128_0_0_0, stF (View.ld (arg10.view.read (Elt F) f10) (Rect.unit ![0, 0, 0] S1x128x128.size inb_S8x128x128_S1x128x128_0_0_0)) (View.ld (arg2.view.read (Elt F) f2) (Rect.unit (k0_off3 i k) S1x64x128.size (k0_off3_inb i k))) (View.ld (arg3.view.read (Elt F) f3) (Rect.unit (k0_off3 i k) S1x64x128.size (k0_off3_inb i k))) (View.ld (arg5.view.read (Elt F) f5) (Rect.unit (k0_off3 i k) S1x64x128.size (k0_off3_inb i k))) (View.ld (arg7.view.read (Elt F) f7) (Rect.unit (k0_off6 i k) S1x1x1x128.size (k0_off6_inb i k)))⟩] := rfl

end Cert.Proof.KernelIdeal

end
-- ==== Proof.Windows.lean ====
/- Loads from and stores to the windows of the two scans, chunk by chunk and head by head. -/
module

public import proofs.«01_k».proof.Proof.Blocks

@[expose] public section

set_option maxRecDepth 16384

noncomputable section

namespace Cert.Proof.KernelIdeal

open Cert.KernelIdeal Cert.KernelIdeal.Gen
open Idealize.ShloMosaic Idealize.ShloMosaic.TcCoe

variable {Val : EltTy → Type} {e : EltTy}

/-! ## Loads -/

section Loads

variable {b d p h c : ℕ}

theorem ld_row {A : S2x16384x1024.Idx → Val e} {X : S1x512x1024.Idx → Val e} (hX : X = blk A S1x512x1024.size ![d, 512 * b, 0]) (hp : p < 8) (hc : c = 8 * b + p)
    {off : Fin 3 → ℕ} (inb : ∀ a, off a + S1x64x128.size a ≤ S1x512x1024.size a) (ho : off = ![0, 64 * p, 128 * h]) (hh : h < 8) :
    View.ld X (Rect.unit (s := S1x512x1024) off S1x64x128.size inb) = rowB A d c h := by
  rw [ld_eq_blk (s := S1x512x1024) X inb ho, hX, hc]
  refine blk_blk (s := S2x16384x1024) A (big := S1x512x1024.size) ?_ ?_
  · intro a; fin_cases a <;> simp <;> omega
  · intro a; fin_cases a <;> simp <;> omega

theorem ld_rowC {A : S16384x1024.Idx → Val e} {X : S512x1024.Idx → Val e} (hX : X = blk A S512x1024.size ![512 * b, 0]) (hp : p < 8) (hc : c = 8 * b + p)
    {off : Fin 2 → ℕ} (inb : ∀ a, off a + S64x128.size a ≤ S512x1024.size a) (ho : off = ![64 * p, 128 * h]) (hh : h < 8) :
    View.ld X (Rect.unit (s := S512x1024) off S64x128.size inb) = rowC A c h := by
  rw [ld_eq_blk (s := S512x1024) X inb ho, hX, hc]
  refine blk_blk (s := S16384x1024) A (big := S512x1024.size) ?_ ?_
  · intro a; fin_cases a <;> simp <;> omega
  · intro a; fin_cases a <;> simp <;> omega

theorem ld_pair {A : S2x256x4x128x128.Idx → Val e} {X : S1x8x4x128x128.Idx → Val e} (hX : X = blk A S1x8x4x128x128.size ![d, 8 * b, 0, 0, 0]) (hp : p < 8) (hc : c = 8 * b + p)
    {off : Fin 5 → ℕ} (inb : ∀ a, off a + S1x1x1x128x128.size a ≤ S1x8x4x128x128.size a) (ho : off = ![0, p, h, 0, 0]) (hh : h < 4) :
    View.ld X (Rect.unit (s := S1x8x4x128x128) off S1x1x1x128x128.size inb) = pairB A d c h := by
  rw [ld_eq_blk (s := S1x8x4x128x128) X inb ho, hX, hc]
  refine blk_blk (s := S2x256x4x128x128) A (big := S1x8x4x128x128.size) ?_ ?_
  · intro a; fin_cases a <;> simp <;> omega
  · intro a; fin_cases a <;> simp

theorem ld_st {A : S2x256x8x128x128.Idx → Val e} {X : S1x8x8x128x128.Idx → Val e} (hX : X = blk A S1x8x8x128x128.size ![d, 8 * b, 0, 0, 0]) (hp : p < 8) (hc : c = 8 * b + p)
    {off : Fin 5 → ℕ} (inb : ∀ a, off a + S1x1x1x128x128.size a ≤ S1x8x8x128x128.size a) (ho : off = ![0, p, h, 0, 0]) (hh : h < 8) :
    View.ld X (Rect.unit (s := S1x8x8x128x128) off S1x1x1x128x128.size inb) = stB A d c h := by
  rw [ld_eq_blk (s := S1x8x8x128x128) X inb ho, hX, hc]
  refine blk_blk (s := S2x256x8x128x128) A (big := S1x8x8x128x128.size) ?_ ?_
  · intro a; fin_cases a <;> simp <;> omega
  · intro a; fin_cases a <;> simp

theorem ld_lane {A : S2x256x8x128.Idx → Val e} {X : S1x8x8x128.Idx → Val e} (hX : X = blk A S1x8x8x128.size ![d, 8 * b, 0, 0]) (hp : p < 8) (hc : c = 8 * b + p)
    {off : Fin 4 → ℕ} (inb : ∀ a, off a + S1x1x1x128.size a ≤ S1x8x8x128.size a) (ho : off = ![0, p, h, 0]) (hh : h < 8) :
    View.ld X (Rect.unit (s := S1x8x8x128) off S1x1x1x128.size inb) = laneB A d c h := by
  rw [ld_eq_blk (s := S1x8x8x128) X inb ho, hX, hc]
  refine blk_blk (s := S2x256x8x128) A (big := S1x8x8x128.size) ?_ ?_
  · intro a; fin_cases a <;> simp <;> omega
  · intro a; fin_cases a <;> simp

theorem ld_hd {A X : S8x128x128.Idx → Val e} (hX : X = A) (inb : ∀ a, (![h, 0, 0] : Fin 3 → ℕ) a + S1x128x128.size a ≤ S8x128x128.size a) :
    View.ld X (Rect.unit (s := S8x128x128) ![h, 0, 0] S1x128x128.size inb) = hd A h := by
  rw [ld_eq_blk (s := S8x128x128) X inb rfl, hX]; rfl

end Loads

/-! ## Stores -/

section Stores

variable {sig : RefSig} {κ : Kind} {sp : Space}

/-- The stores of one payload per head (or pair), last first. -/
def storesL {s : Shape} {n : ℕ} (o : Fin n → Fin s.rank → ℕ) (size : Fin s.rank → ℕ) (inb : ∀ h a, o h a + size a ≤ s.size a)
    (pay : Fin n → (⟨s.rank, size⟩ : Shape).Idx → Val e) : List (View.Piece Val s e) :=
  (List.finRange n).reverse.map fun h => ⟨Rect.unit (o h) size (inb h), pay h⟩

/-- What such stores leave: on the part `A` that they cover, where the head that covers is `hf`, its payload at `xf`; elsewhere what was there. -/
theorem read_storesL {s : Shape} {n : ℕ} (v : View sig κ sp s e) (f : v.ty.Contents Val) (o : Fin n → Fin s.rank → ℕ) (size : Fin s.rank → ℕ)
    (inb : ∀ h a, o h a + size a ≤ s.size a) (pay : Fin n → (⟨s.rank, size⟩ : Shape).Idx → Val e) (A : s.Idx → Prop) [DecidablePred A]
    (hf : s.Idx → Fin n) (xf : s.Idx → (⟨s.rank, size⟩ : Shape).Idx)
    (h1 : ∀ h x y, (∀ a, (y a).val = o h a + (x a).val) → A y ∧ hf y = h ∧ xf y = x)
    (h2 : ∀ y, A y → ∀ a, (y a).val = o (hf y) a + (xf y a).val) (y : s.Idx) :
    v.read Val (v.writes Val f (storesL o size inb pay)) y = if A y then pay (hf y) (xf y) else v.read Val f y := by
  by_cases hA : A y
  · rw [if_pos hA]
    refine View.read_writes_apply_of_pieces v f (fun y => pay (hf y) (xf y)) _ ?_ y ?_
    · intro p hp x
      obtain ⟨h, -, rfl⟩ := List.mem_map.mp hp
      obtain ⟨-, e1, e2⟩ := h1 h x ((Rect.unit (o h) size (inb h)).emb x) (fun a => Rect.idx_unit_val _ _ (inb h) x a)
      show pay h x = pay (hf _) (xf _)
      rw [e1, e2]
    · refine ⟨⟨Rect.unit (o (hf y)) size (inb (hf y)), pay (hf y)⟩, List.mem_map.mpr ⟨hf y, by simp, rfl⟩, ?_⟩
      show y ∈ (Rect.unit (o (hf y)) size (inb (hf y))).set
      rw [← Rect.map_emb_univ]
      refine Finset.mem_map.mpr ⟨xf y, Finset.mem_univ _, funext fun a => Fin.ext ?_⟩
      exact (Rect.idx_unit_val _ _ (inb (hf y)) (xf y) a).trans (h2 y hA a).symm
  · rw [if_neg hA]
    refine View.read_writes_apply_of_forall_not_mem v f y _ ?_
    intro p hp hy
    obtain ⟨h, -, rfl⟩ := List.mem_map.mp hp
    rw [← Rect.map_emb_univ] at hy
    obtain ⟨x, -, rfl⟩ := Finset.mem_map.mp hy
    exact hA (h1 h x _ (fun a => Rect.idx_unit_val _ _ (inb h) x a)).1

variable {p : ℕ}

/-- Eight heads' rows of chunk `p` stored. -/
theorem read_rows (v : View sig κ sp S1x512x1024 e) (f : v.ty.Contents Val) (o : Fin 8 → Fin 3 → ℕ) (ho : ∀ h, o h = ![0, 64 * p, 128 * h.val])
    (inb : ∀ h a, o h a + S1x64x128.size a ≤ S1x512x1024.size a) (pay : ℕ → S1x64x128.Idx → Val e) (y : S1x512x1024.Idx) :
    v.read Val (v.writes Val f (storesL (s := S1x512x1024) o S1x64x128.size inb fun h => pay h.val)) y
      = if (y 1).val / 64 = p then pay ((y 2).val / 128) (wr ![0, (y 1).val % 64, (y 2).val % 128]) else v.read Val f y := by
  refine read_storesL (s := S1x512x1024) v f o S1x64x128.size inb (fun h => pay h.val) (fun y => (y 1).val / 64 = p)
    (fun y => ⟨(y 2).val / 128, by have : (y 2).val < 1024 := (y 2).isLt; omega⟩) (fun y => wr (s := S1x64x128) ![0, (y 1).val % 64, (y 2).val % 128]) ?_ ?_ y
  · intro h x y hy
    rw [ho h] at hy
    have h0 := hy 0; have h1 := hy 1; have h2 := hy 2
    have l0 : (x 0).val < 1 := (x 0).isLt
    have l1 : (x 1).val < 64 := (x 1).isLt
    have l2 : (x 2).val < 128 := (x 2).isLt
    simp at h0 h1 h2
    refine ⟨by omega, Fin.ext (by show (y 2).val / 128 = h.val; omega), wr_eq _ x fun a => ?_⟩
    fin_cases a <;> simp <;> omega
  · intro y hy a
    refine Eq.trans ?_ (congrArg (fun n => n + _) (congrFun (ho _) a).symm)
    have l0 : (y 0).val < 1 := (y 0).isLt
    have l2 : (y 2).val < 1024 := (y 2).isLt
    fin_cases a
    · show (y 0).val = 0 + 0 % 1; omega
    · show (y 1).val = 64 * p + ((y 1).val % 64) % 64; omega
    · show (y 2).val = 128 * ((y 2).val / 128) + ((y 2).val % 128) % 128; omega

/-- The pairs' matrices of chunk `p` stored. -/
theorem read_pairs (v : View sig κ sp S1x8x4x128x128 e) (f : v.ty.Contents Val) (o : Fin 4 → Fin 5 → ℕ) (ho : ∀ h, o h = ![0, p, h.val, 0, 0])
    (inb : ∀ h a, o h a + S1x1x1x128x128.size a ≤ S1x8x4x128x128.size a) (pay : ℕ → S1x1x1x128x128.Idx → Val e) (y : S1x8x4x128x128.Idx) :
    v.read Val (v.writes Val f (storesL (s := S1x8x4x128x128) o S1x1x1x128x128.size inb fun h => pay h.val)) y
      = if (y 1).val = p then pay (y 2).val (wr ![0, 0, 0, (y 3).val, (y 4).val]) else v.read Val f y := by
  refine read_storesL (s := S1x8x4x128x128) v f o S1x1x1x128x128.size inb (fun h => pay h.val) (fun y => (y 1).val = p)
    (fun y => y 2) (fun y => wr (s := S1x1x1x128x128) ![0, 0, 0, (y 3).val, (y 4).val]) ?_ ?_ y
  · intro h x y hy
    rw [ho h] at hy
    have h0 := hy 0; have h1 := hy 1; have h2 := hy 2; have h3 := hy 3; have h4 := hy 4
    have l0 : (x 0).val < 1 := (x 0).isLt
    have l1 : (x 1).val < 1 := (x 1).isLt
    have l2 : (x 2).val < 1 := (x 2).isLt
    simp at h0 h1 h2 h3 h4
    refine ⟨by omega, Fin.ext (by show (y 2).val = h.val; omega), wr_eq _ x fun a => ?_⟩
    fin_cases a <;> simp <;> omega
  · intro y hy a
    refine Eq.trans ?_ (congrArg (fun n => n + _) (congrFun (ho _) a).symm)
    have l0 : (y 0).val < 1 := (y 0).isLt
    have l3 : (y 3).val < 128 := (y 3).isLt
    have l4 : (y 4).val < 128 := (y 4).isLt
    fin_cases a
    · show (y 0).val = 0 + 0 % 1; omega
    · show (y 1).val = p + 0 % 1; omega
    · show (y 2).val = (y 2).val + 0 % 1; omega
    · show (y 3).val = 0 + (y 3).val % 128; omega
    · show (y 4).val = 0 + (y 4).val % 128; omega

/-- The heads' states at chunk `p` stored. -/
theorem read_sts (v : View sig κ sp S1x8x8x128x128 e) (f : v.ty.Contents Val) (o : Fin 8 → Fin 5 → ℕ) (ho : ∀ h, o h = ![0, p, h.val, 0, 0])
    (inb : ∀ h a, o h a + S1x1x1x128x128.size a ≤ S1x8x8x128x128.size a) (pay : ℕ → S1x1x1x128x128.Idx → Val e) (y : S1x8x8x128x128.Idx) :
    v.read Val (v.writes Val f (storesL (s := S1x8x8x128x128) o S1x1x1x128x128.size inb fun h => pay h.val)) y
      = if (y 1).val = p then pay (y 2).val (wr ![0, 0, 0, (y 3).val, (y 4).val]) else v.read Val f y := by
  refine read_storesL (s := S1x8x8x128x128) v f o S1x1x1x128x128.size inb (fun h => pay h.val) (fun y => (y 1).val = p)
    (fun y => y 2) (fun y => wr (s := S1x1x1x128x128) ![0, 0, 0, (y 3).val, (y 4).val]) ?_ ?_ y
  · intro h x y hy
    rw [ho h] at hy
    have h0 := hy 0; have h1 := hy 1; have h2 := hy 2; have h3 := hy 3; have h4 := hy 4
    have l0 : (x 0).val < 1 := (x 0).isLt
    have l1 : (x 1).val < 1 := (x 1).isLt
    have l2 : (x 2).val < 1 := (x 2).isLt
    simp at h0 h1 h2 h3 h4
    refine ⟨by omega, Fin.ext (by show (y 2).val = h.val; omega), wr_eq _ x fun a => ?_⟩
    fin_cases a <;> simp <;> omega
  · intro y hy a
    refine Eq.trans ?_ (congrArg (fun n => n + _) (congrFun (ho _) a).symm)
    have l0 : (y 0).val < 1 := (y 0).isLt
    have l3 : (y 3).val < 128 := (y 3).isLt
    have l4 : (y 4).val < 128 := (y 4).isLt
    fin_cases a
    · show (y 0).val = 0 + 0 % 1; omega
    · show (y 1).val = p + 0 % 1; omega
    · show (y 2).val = (y 2).val + 0 % 1; omega
    · show (y 3).val = 0 + (y 3).val % 128; omega
    · show (y 4).val = 0 + (y 4).val % 128; omega

/-- The heads' rows of lanes at chunk `p` stored. -/
theorem read_lanes (v : View sig κ sp S1x8x8x128 e) (f : v.ty.Contents Val) (o : Fin 8 → Fin 4 → ℕ) (ho : ∀ h, o h = ![0, p, h.val, 0])
    (inb : ∀ h a, o h a + S1x1x1x128.size a ≤ S1x8x8x128.size a) (pay : ℕ → S1x1x1x128.Idx → Val e) (y : S1x8x8x128.Idx) :
    v.read Val (v.writes Val f (storesL (s := S1x8x8x128) o S1x1x1x128.size inb fun h => pay h.val)) y
      = if (y 1).val = p then pay (y 2).val (wr ![0, 0, 0, (y 3).val]) else v.read Val f y := by
  refine read_storesL (s := S1x8x8x128) v f o S1x1x1x128.size inb (fun h => pay h.val) (fun y => (y 1).val = p)
    (fun y => y 2) (fun y => wr (s := S1x1x1x128) ![0, 0, 0, (y 3).val]) ?_ ?_ y
  · intro h x y hy
    rw [ho h] at hy
    have h0 := hy 0; have h1 := hy 1; have h2 := hy 2; have h3 := hy 3
    have l0 : (x 0).val < 1 := (x 0).isLt
    have l1 : (x 1).val < 1 := (x 1).isLt
    have l2 : (x 2).val < 1 := (x 2).isLt
    simp at h0 h1 h2 h3
    refine ⟨by omega, Fin.ext (by show (y 2).val = h.val; omega), wr_eq _ x fun a => ?_⟩
    fin_cases a <;> simp <;> omega
  · intro y hy a
    refine Eq.trans ?_ (congrArg (fun n => n + _) (congrFun (ho _) a).symm)
    have l0 : (y 0).val < 1 := (y 0).isLt
    have l3 : (y 3).val < 128 := (y 3).isLt
    fin_cases a
    · show (y 0).val = 0 + 0 % 1; omega
    · show (y 1).val = p + 0 % 1; omega
    · show (y 2).val = (y 2).val + 0 % 1; omega
    · show (y 3).val = 0 + (y 3).val % 128; omega

/-- The eight matrices of a stack stored: nothing of the old stack remains. -/
theorem read_hds (v : View sig κ sp S8x128x128 e) (f : v.ty.Contents Val) (o : Fin 8 → Fin 3 → ℕ) (ho : ∀ h, o h = ![h.val, 0, 0])
    (inb : ∀ h a, o h a + S1x128x128.size a ≤ S8x128x128.size a) (pay : ℕ → S1x128x128.Idx → Val e) :
    v.read Val (v.writes Val f (storesL (s := S8x128x128) o S1x128x128.size inb fun h => pay h.val))
      = fun y => pay (y 0).val (wr ![0, (y 1).val, (y 2).val]) := by
  funext y
  refine (read_storesL (s := S8x128x128) v f o S1x128x128.size inb (fun h => pay h.val) (fun _ => True)
    (fun y => y 0) (fun y => wr (s := S1x128x128) ![0, (y 1).val, (y 2).val]) ?_ ?_ y).trans (if_pos trivial)
  · intro h x y hy
    rw [ho h] at hy
    have h0 := hy 0; have h1 := hy 1; have h2 := hy 2
    have l0 : (x 0).val < 1 := (x 0).isLt
    simp at h0 h1 h2
    refine ⟨trivial, Fin.ext (by show (y 0).val = h.val; omega), wr_eq _ x fun a => ?_⟩
    fin_cases a <;> simp <;> omega
  · intro y _ a
    refine Eq.trans ?_ (congrArg (fun n => n + _) (congrFun (ho _) a).symm)
    have l1 : (y 1).val < 128 := (y 1).isLt
    have l2 : (y 2).val < 128 := (y 2).isLt
    fin_cases a
    · show (y 0).val = (y 0).val + 0 % 1; omega
    · show (y 1).val = 0 + (y 1).val % 128; omega
    · show (y 2).val = 0 + (y 2).val % 128; omega

end Stores

end Cert.Proof.KernelIdeal

end
-- ==== Proof.StepF.lean ====
/- What one trip of the forward scan leaves: the outputs, the saved states and the carried states of its step. -/
module

public import proofs.«01_k».proof.Proof.ListF
public import proofs.«01_k».proof.Proof.Windows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x512x1024 .f32) (harg8 : arg8.IsWhole) (arg9 : Memref sig .tc .vmem S1x8x8x128x128 .f32) (harg9 : arg9.IsWhole) (arg10 : Memref sig .tc .vmem S8x128x128 .f32) (harg10 : arg10.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (k : Fin k0_t1_loop.trips)
variable {U : Vec F S2x16384x1024 .f32} {W Q K : Vec F S2x16384x1024 .bf16} {P : Vec F S2x256x4x128x128 .bf16} {E : Vec F S2x256x8x128 .f32} {b d s : ℕ}
  (h2 : arg2.view.read (Elt F) f2 = blk U S1x512x1024.size ![d, 512 * b, 0]) (h3 : arg3.view.read (Elt F) f3 = blk W S1x512x1024.size ![d, 512 * b, 0])
  (h4 : arg4.view.read (Elt F) f4 = blk Q S1x512x1024.size ![d, 512 * b, 0]) (h5 : arg5.view.read (Elt F) f5 = blk K S1x512x1024.size ![d, 512 * b, 0])
  (h6 : arg6.view.read (Elt F) f6 = blk P S1x8x4x128x128.size ![d, 8 * b, 0, 0, 0]) (h7 : arg7.view.read (Elt F) f7 = blk E S1x8x8x128.size ![d, 8 * b, 0, 0])
  (h10 : arg10.view.read (Elt F) f10 = StF U W K E d s) (hc : cF d s = 8 * b + pcF i k)

include h2 h3 h4 h6 h10 hc in
/-- The trip stores every head's outputs at its chunk, and nothing else in the window of outputs. -/
theorem trip0_o (y : S1x512x1024.Idx) : arg8.view.read (Elt F) (arg8.view.writes (Elt F) f8 (trip0 (F := F) c i arg2 harg2 arg3 harg3 arg4 harg4 arg5 harg5 arg6 harg6 arg7 harg7 arg8 harg8 arg9 harg9 arg10 harg10 arg0 f2 f3 f4 f5 f6 f7 f8 f9 f10 k).1) y
    = if (y 1).val / 64 = pcF i k then oC U W Q K P E d s ((y 2).val / 128) (wr ![0, (y 1).val % 64, (y 2).val % 128]) else arg8.view.read (Elt F) f8 y := by
  rw [trip0_o_raw]
  simp only [ld_hd h10 inb_S8x128x128_S1x128x128_0_0_0,
    ld_hd h10 inb_S8x128x128_S1x128x128_1_0_0,
    ld_hd h10 inb_S8x128x128_S1x128x128_2_0_0,
    ld_hd h10 inb_S8x128x128_S1x128x128_3_0_0,
    ld_hd h10 inb_S8x128x128_S1x128x128_4_0_0,
    ld_hd h10 inb_S8x128x128_S1x128x128_5_0_0,
    ld_hd h10 inb_S8x128x128_S1x128x128_6_0_0,
    ld_hd h10 inb_S8x128x128_S1x128x128_7_0_0,
    ld_row h2 (pcF_lt i k) hc (k0_off3_inb i k) (k0_off3_eq i k) (show 0 < 8 by decide),
    ld_row h2 (pcF_lt i k) hc (k0_off4_inb i k) (k0_off4_eq i k) (show 1 < 8 by decide),
    ld_row h2 (pcF_lt i k) hc (k0_off10_inb i k) (k0_off10_eq i k) (show 2 < 8 by decide),
    ld_row h2 (pcF_lt i k) hc (k0_off11_inb i k) (k0_off11_eq i k) (show 3 < 8 by decide),
    ld_row h2 (pcF_lt i k) hc (k0_off17_inb i k) (k0_off17_eq i k) (show 4 < 8 by decide),
    ld_row h2 (pcF_lt i k) hc (k0_off18_inb i k) (k0_off18_eq i k) (show 5 < 8 by decide),
    ld_row h2 (pcF_lt i k) hc (k0_off24_inb i k) (k0_off24_eq i k) (show 6 < 8 by decide),
    ld_row h2 (pcF_lt i k) hc (k0_off25_inb i k) (k0_off25_eq i k) (show 7 < 8 by decide),
    ld_row h3 (pcF_lt i k) hc (k0_off3_inb i k) (k0_off3_eq i k) (show 0 < 8 by decide),
    ld_row h3 (pcF_lt i k) hc (k0_off4_inb i k) (k0_off4_eq i k) (show 1 < 8 by decide),
    ld_row h3 (pcF_lt i k) hc (k0_off10_inb i k) (k0_off10_eq i k) (show 2 < 8 by decide),
    ld_row h3 (pcF_lt i k) hc (k0_off11_inb i k) (k0_off11_eq i k) (show 3 < 8 by decide),
    ld_row h3 (pcF_lt i k) hc (k0_off17_inb i k) (k0_off17_eq i k) (show 4 < 8 by decide),
    ld_row h3 (pcF_lt i k) hc (k0_off18_inb i k) (k0_off18_eq i k) (show 5 < 8 by decide),
    ld_row h3 (pcF_lt i k) hc (k0_off24_inb i k) (k0_off24_eq i k) (show 6 < 8 by decide),
    ld_row h3 (pcF_lt i k) hc (k0_off25_inb i k) (k0_off25_eq i k) (show 7 < 8 by decide),
    ld_row h4 (pcF_lt i k) hc (k0_off3_inb i k) (k0_off3_eq i k) (show 0 < 8 by decide),
    ld_row h4 (pcF_lt i k) hc (k0_off4_inb i k) (k0_off4_eq i k) (show 1 < 8 by decide),
    ld_row h4 (pcF_lt i k) hc (k0_off10_inb i k) (k0_off10_eq i k) (show 2 < 8 by decide),
    ld_row h4 (pcF_lt i k) hc (k0_off11_inb i k) (k0_off11_eq i k) (show 3 < 8 by decide),
    ld_row h4 (pcF_lt i k) hc (k0_off17_inb i k) (k0_off17_eq i k) (show 4 < 8 by decide),
    ld_row h4 (pcF_lt i k) hc (k0_off18_inb i k) (k0_off18_eq i k) (show 5 < 8 by decide),
    ld_row h4 (pcF_lt i k) hc (k0_off24_inb i k) (k0_off24_eq i k) (show 6 < 8 by decide),
    ld_row h4 (pcF_lt i k) hc (k0_off25_inb i k) (k0_off25_eq i k) (show 7 < 8 by decide),
    ld_pair h6 (pcF_lt i k) hc (k0_off5_inb i k) (k0_off5_eq i k) (show 0 < 4 by decide),
    ld_pair h6 (pcF_lt i k) hc (k0_off12_inb i k) (k0_off12_eq i k) (show 1 < 4 by decide),
    ld_pair h6 (pcF_lt i k) hc (k0_off19_inb i k) (k0_off19_eq i k) (show 2 < 4 by decide),
    ld_pair h6 (pcF_lt i k) hc (k0_off26_inb i k) (k0_off26_eq i k) (show 3 < 4 by decide)]
  exact read_rows arg8.view f8 ![k0_off3 i k, k0_off4 i k, k0_off10 i k, k0_off11 i k, k0_off17 i k, k0_off18 i k, k0_off24 i k, k0_off25 i k] (by intro h; fin_cases h; exacts [k0_off3_eq i k, k0_off4_eq i k, k0_off10_eq i k, k0_off11_eq i k, k0_off17_eq i k, k0_off18_eq i k, k0_off24_eq i k, k0_off25_eq i k]) (by intro h; fin_cases h; exacts [k0_off3_inb i k, k0_off4_inb i k, k0_off10_inb i k, k0_off11_inb i k, k0_off17_inb i k, k0_off18_inb i k, k0_off24_inb i k, k0_off25_inb i k]) (fun h => oC U W Q K P E d s h) y

include h10 in
/-- The trip stores every head's state at its chunk, and nothing else in the window of states. -/
theorem trip0_s (y : S1x8x8x128x128.Idx) : arg9.view.read (Elt F) (arg9.view.writes (Elt F) f9 (trip0 (F := F) c i arg2 harg2 arg3 harg3 arg4 harg4 arg5 harg5 arg6 harg6 arg7 harg7 arg8 harg8 arg9 harg9 arg10 harg10 arg0 f2 f3 f4 f5 f6 f7 f8 f9 f10 k).2.1) y
    = if (y 1).val = pcF i k then svF (hd (StF U W K E d s) (y 2).val) (wr ![0, 0, 0, (y 3).val, (y 4).val]) else arg9.view.read (Elt F) f9 y := by
  rw [trip0_s_raw]
  simp only [ld_hd h10 inb_S8x128x128_S1x128x128_0_0_0,
    ld_hd h10 inb_S8x128x128_S1x128x128_1_0_0,
    ld_hd h10 inb_S8x128x128_S1x128x128_2_0_0,
    ld_hd h10 inb_S8x128x128_S1x128x128_3_0_0,
    ld_hd h10 inb_S8x128x128_S1x128x128_4_0_0,
    ld_hd h10 inb_S8x128x128_S1x128x128_5_0_0,
    ld_hd h10 inb_S8x128x128_S1x128x128_6_0_0,
    ld_hd h10 inb_S8x128x128_S1x128x128_7_0_0]
  exact read_sts arg9.view f9 ![k0_off1 i k, k0_off2 i k, k0_off8 i k, k0_off9 i k, k0_off15 i k, k0_off16 i k, k0_off22 i k, k0_off23 i k] (by intro h; fin_cases h; exacts [k0_off1_eq i k, k0_off2_eq i k, k0_off8_eq i k, k0_off9_eq i k, k0_off15_eq i k, k0_off16_eq i k, k0_off22_eq i k, k0_off23_eq i k]) (by intro h; fin_cases h; exacts [k0_off1_inb i k, k0_off2_inb i k, k0_off8_inb i k, k0_off9_inb i k, k0_off15_inb i k, k0_off16_inb i k, k0_off22_inb i k, k0_off23_inb i k]) (fun h => svF (hd (StF U W K E d s) h)) y

include h2 h3 h5 h7 h10 hc in
/-- The trip advances the carried states by one step. -/
theorem trip0_st : arg10.view.read (Elt F) (arg10.view.writes (Elt F) f10 (trip0 (F := F) c i arg2 harg2 arg3 harg3 arg4 harg4 arg5 harg5 arg6 harg6 arg7 harg7 arg8 harg8 arg9 harg9 arg10 harg10 arg0 f2 f3 f4 f5 f6 f7 f8 f9 f10 k).2.2.1) = StF U W K E d (s + 1) := by
  rw [trip0_st_raw]
  simp only [ld_hd h10 inb_S8x128x128_S1x128x128_0_0_0,
    ld_hd h10 inb_S8x128x128_S1x128x128_1_0_0,
    ld_hd h10 inb_S8x128x128_S1x128x128_2_0_0,
    ld_hd h10 inb_S8x128x128_S1x128x128_3_0_0,
    ld_hd h10 inb_S8x128x128_S1x128x128_4_0_0,
    ld_hd h10 inb_S8x128x128_S1x128x128_5_0_0,
    ld_hd h10 inb_S8x128x128_S1x128x128_6_0_0,
    ld_hd h10 inb_S8x128x128_S1x128x128_7_0_0,
    ld_row h2 (pcF_lt i k) hc (k0_off3_inb i k) (k0_off3_eq i k) (show 0 < 8 by decide),
    ld_row h2 (pcF_lt i k) hc (k0_off4_inb i k) (k0_off4_eq i k) (show 1 < 8 by decide),
    ld_row h2 (pcF_lt i k) hc (k0_off10_inb i k) (k0_off10_eq i k) (show 2 < 8 by decide),
    ld_row h2 (pcF_lt i k) hc (k0_off11_inb i k) (k0_off11_eq i k) (show 3 < 8 by decide),
    ld_row h2 (pcF_lt i k) hc (k0_off17_inb i k) (k0_off17_eq i k) (show 4 < 8 by decide),
    ld_row h2 (pcF_lt i k) hc (k0_off18_inb i k) (k0_off18_eq i k) (show 5 < 8 by decide),
    ld_row h2 (pcF_lt i k) hc (k0_off24_inb i k) (k0_off24_eq i k) (show 6 < 8 by decide),
    ld_row h2 (pcF_lt i k) hc (k0_off25_inb i k) (k0_off25_eq i k) (show 7 < 8 by decide),
    ld_row h3 (pcF_lt i k) hc (k0_off3_inb i k) (k0_off3_eq i k) (show 0 < 8 by decide),
    ld_row h3 (pcF_lt i k) hc (k0_off4_inb i k) (k0_off4_eq i k) (show 1 < 8 by decide),
    ld_row h3 (pcF_lt i k) hc (k0_off10_inb i k) (k0_off10_eq i k) (show 2 < 8 by decide),
    ld_row h3 (pcF_lt i k) hc (k0_off11_inb i k) (k0_off11_eq i k) (show 3 < 8 by decide),
    ld_row h3 (pcF_lt i k) hc (k0_off17_inb i k) (k0_off17_eq i k) (show 4 < 8 by decide),
    ld_row h3 (pcF_lt i k) hc (k0_off18_inb i k) (k0_off18_eq i k) (show 5 < 8 by decide),
    ld_row h3 (pcF_lt i k) hc (k0_off24_inb i k) (k0_off24_eq i k) (show 6 < 8 by decide),
    ld_row h3 (pcF_lt i k) hc (k0_off25_inb i k) (k0_off25_eq i k) (show 7 < 8 by decide),
    ld_row h5 (pcF_lt i k) hc (k0_off3_inb i k) (k0_off3_eq i k) (show 0 < 8 by decide),
    ld_row h5 (pcF_lt i k) hc (k0_off4_inb i k) (k0_off4_eq i k) (show 1 < 8 by decide),
    ld_row h5 (pcF_lt i k) hc (k0_off10_inb i k) (k0_off10_eq i k) (show 2 < 8 by decide),
    ld_row h5 (pcF_lt i k) hc (k0_off11_inb i k) (k0_off11_eq i k) (show 3 < 8 by decide),
    ld_row h5 (pcF_lt i k) hc (k0_off17_inb i k) (k0_off17_eq i k) (show 4 < 8 by decide),
    ld_row h5 (pcF_lt i k) hc (k0_off18_inb i k) (k0_off18_eq i k) (show 5 < 8 by decide),
    ld_row h5 (pcF_lt i k) hc (k0_off24_inb i k) (k0_off24_eq i k) (show 6 < 8 by decide),
    ld_row h5 (pcF_lt i k) hc (k0_off25_inb i k) (k0_off25_eq i k) (show 7 < 8 by decide),
    ld_lane h7 (pcF_lt i k) hc (k0_off6_inb i k) (k0_off6_eq i k) (show 0 < 8 by decide),
    ld_lane h7 (pcF_lt i k) hc (k0_off7_inb i k) (k0_off7_eq i k) (show 1 < 8 by decide),
    ld_lane h7 (pcF_lt i k) hc (k0_off13_inb i k) (k0_off13_eq i k) (show 2 < 8 by decide),
    ld_lane h7 (pcF_lt i k) hc (k0_off14_inb i k) (k0_off14_eq i k) (show 3 < 8 by decide),
    ld_lane h7 (pcF_lt i k) hc (k0_off20_inb i k) (k0_off20_eq i k) (show 4 < 8 by decide),
    ld_lane h7 (pcF_lt i k) hc (k0_off21_inb i k) (k0_off21_eq i k) (show 5 < 8 by decide),
    ld_lane h7 (pcF_lt i k) hc (k0_off27_inb i k) (k0_off27_eq i k) (show 6 < 8 by decide),
    ld_lane h7 (pcF_lt i k) hc (k0_off28_inb i k) (k0_off28_eq i k) (show 7 < 8 by decide)]
  exact read_hds arg10.view f10 ![![0, 0, 0], ![1, 0, 0], ![2, 0, 0], ![3, 0, 0], ![4, 0, 0], ![5, 0, 0], ![6, 0, 0], ![7, 0, 0]] (by intro h; fin_cases h <;> rfl) (by intro h; fin_cases h; exacts [inb_S8x128x128_S1x128x128_0_0_0, inb_S8x128x128_S1x128x128_1_0_0, inb_S8x128x128_S1x128x128_2_0_0, inb_S8x128x128_S1x128x128_3_0_0, inb_S8x128x128_S1x128x128_4_0_0, inb_S8x128x128_S1x128x128_5_0_0, inb_S8x128x128_S1x128x128_6_0_0, inb_S8x128x128_S1x128x128_7_0_0]) (fun h => stF (hd (StF U W K E d s) h) (rowB U d (cF d s) h) (rowB W d (cF d s) h) (rowB K d (cF d s) h) (laneB E d (cF d s) h))

end Cert.Proof.KernelIdeal

end
-- ==== Proof.WindowsOut.lean ====
/- The blocks of the arrays that the two scans leave, at the rows and chunks of a window. -/
module

public import proofs.«01_k».proof.Proof.Windows

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

theorem cF_cF (d s : ℕ) (h : s < 256) : cF d (cF d s) = s := by unfold cF; split <;> omega
theorem cB_cB (d s : ℕ) (h : s < 256) : cB d (cB d s) = s := by unfold cB; split <;> omega

variable {α : Type}

/-- An array of rows whose value at a row and lane is a function of direction, step and head, in the window of eight chunks from chunk `8 b`. -/
theorem rows_window (cc : ℕ → ℕ → ℕ) (hcc : ∀ d s, s < 256 → cc d (cc d s) = s) (f : ℕ → ℕ → ℕ → S1x64x128.Idx → α) (G : S2x16384x1024.Idx → α)
    (hG : ∀ y : S2x16384x1024.Idx, G y = f (y 0).val (cc (y 0).val ((y 1).val / 64)) ((y 2).val / 128) (wr ![0, (y 1).val % 64, (y 2).val % 128]))
    {d b s p : ℕ} (hd : d < 2) (hb : b < 32) (hs : s < 256) (hp : p < 8) (hc : cc d s = 8 * b + p) (y : S1x512x1024.Idx) (hy : (y 1).val / 64 = p) :
    f d s ((y 2).val / 128) (wr ![0, (y 1).val % 64, (y 2).val % 128]) = blk G S1x512x1024.size ![d, 512 * b, 0] y := by
  have l0 : (y 0).val < 1 := (y 0).isLt
  have l1 : (y 1).val < 512 := (y 1).isLt
  have l2 : (y 2).val < 1024 := (y 2).isLt
  show _ = G (wr fun a => (![d, 512 * b, 0] : Fin 3 → ℕ) a + (y a).val)
  rw [hG]
  have e0 : ((wr (s := S2x16384x1024) fun a => (![d, 512 * b, 0] : Fin 3 → ℕ) a + (y a).val) 0).val = d := by
    show (d + (y 0).val) % 2 = d; omega
  have e1 : ((wr (s := S2x16384x1024) fun a => (![d, 512 * b, 0] : Fin 3 → ℕ) a + (y a).val) 1).val = 512 * b + (y 1).val := by
    show (512 * b + (y 1).val) % 16384 = _; omega
  have e2 : ((wr (s := S2x16384x1024) fun a => (![d, 512 * b, 0] : Fin 3 → ℕ) a + (y a).val) 2).val = (y 2).val := by
    show (0 + (y 2).val) % 1024 = _; omega
  rw [e0, e1, e2, show (512 * b + (y 1).val) / 64 = cc d s by omega, hcc d s hs, show (512 * b + (y 1).val) % 64 = (y 1).val % 64 by omega]

/-- The same for an array of matrices, one per head. -/
theorem sts_window (cc : ℕ → ℕ → ℕ) (hcc : ∀ d s, s < 256 → cc d (cc d s) = s) (f : ℕ → ℕ → ℕ → S1x1x1x128x128.Idx → α) (G : S2x256x8x128x128.Idx → α)
    (hG : ∀ y : S2x256x8x128x128.Idx, G y = f (y 0).val (cc (y 0).val (y 1).val) (y 2).val (wr ![0, 0, 0, (y 3).val, (y 4).val]))
    {d b s p : ℕ} (hd : d < 2) (hb : b < 32) (hs : s < 256) (hp : p < 8) (hc : cc d s = 8 * b + p) (y : S1x8x8x128x128.Idx) (hy : (y 1).val = p) :
    f d s (y 2).val (wr ![0, 0, 0, (y 3).val, (y 4).val]) = blk G S1x8x8x128x128.size ![d, 8 * b, 0, 0, 0] y := by
  have l0 : (y 0).val < 1 := (y 0).isLt
  have l1 : (y 1).val < 8 := (y 1).isLt
  have l2 : (y 2).val < 8 := (y 2).isLt
  have l3 : (y 3).val < 128 := (y 3).isLt
  have l4 : (y 4).val < 128 := (y 4).isLt
  show _ = G (wr fun a => (![d, 8 * b, 0, 0, 0] : Fin 5 → ℕ) a + (y a).val)
  rw [hG]
  have e0 : ((wr (s := S2x256x8x128x128) fun a => (![d, 8 * b, 0, 0, 0] : Fin 5 → ℕ) a + (y a).val) 0).val = d := by
    show (d + (y 0).val) % 2 = d; omega
  have e1 : ((wr (s := S2x256x8x128x128) fun a => (![d, 8 * b, 0, 0, 0] : Fin 5 → ℕ) a + (y a).val) 1).val = 8 * b + (y 1).val := by
    show (8 * b + (y 1).val) % 256 = _; omega
  have e2 : ((wr (s := S2x256x8x128x128) fun a => (![d, 8 * b, 0, 0, 0] : Fin 5 → ℕ) a + (y a).val) 2).val = (y 2).val := by
    show (0 + (y 2).val) % 8 = _; omega
  have e3 : ((wr (s := S2x256x8x128x128) fun a => (![d, 8 * b, 0, 0, 0] : Fin 5 → ℕ) a + (y a).val) 3).val = (y 3).val := by
    show (0 + (y 3).val) % 128 = _; omega
  have e4 : ((wr (s := S2x256x8x128x128) fun a => (![d, 8 * b, 0, 0, 0] : Fin 5 → ℕ) a + (y a).val) 4).val = (y 4).val := by
    show (0 + (y 4).val) % 128 = _; omega
  rw [e0, e1, e2, e3, e4, show 8 * b + (y 1).val = cc d s by omega, hcc d s hs]

/-- The same for an array of matrices, one per pair of heads. -/
theorem pairs_window (cc : ℕ → ℕ → ℕ) (hcc : ∀ d s, s < 256 → cc d (cc d s) = s) (f : ℕ → ℕ → ℕ → S1x1x1x128x128.Idx → α) (G : S2x256x4x128x128.Idx → α)
    (hG : ∀ y : S2x256x4x128x128.Idx, G y = f (y 0).val (cc (y 0).val (y 1).val) (y 2).val (wr ![0, 0, 0, (y 3).val, (y 4).val]))
    {d b s p : ℕ} (hd : d < 2) (hb : b < 32) (hs : s < 256) (hp : p < 8) (hc : cc d s = 8 * b + p) (y : S1x8x4x128x128.Idx) (hy : (y 1).val = p) :
    f d s (y 2).val (wr ![0, 0, 0, (y 3).val, (y 4).val]) = blk G S1x8x4x128x128.size ![d, 8 * b, 0, 0, 0] y := by
  have l0 : (y 0).val < 1 := (y 0).isLt
  have l1 : (y 1).val < 8 := (y 1).isLt
  have l2 : (y 2).val < 4 := (y 2).isLt
  have l3 : (y 3).val < 128 := (y 3).isLt
  have l4 : (y 4).val < 128 := (y 4).isLt
  show _ = G (wr fun a => (![d, 8 * b, 0, 0, 0] : Fin 5 → ℕ) a + (y a).val)
  rw [hG]
  have e0 : ((wr (s := S2x256x4x128x128) fun a => (![d, 8 * b, 0, 0, 0] : Fin 5 → ℕ) a + (y a).val) 0).val = d := by
    show (d + (y 0).val) % 2 = d; omega
  have e1 : ((wr (s := S2x256x4x128x128) fun a => (![d, 8 * b, 0, 0, 0] : Fin 5 → ℕ) a + (y a).val) 1).val = 8 * b + (y 1).val := by
    show (8 * b + (y 1).val) % 256 = _; omega
  have e2 : ((wr (s := S2x256x4x128x128) fun a => (![d, 8 * b, 0, 0, 0] : Fin 5 → ℕ) a + (y a).val) 2).val = (y 2).val := by
    show (0 + (y 2).val) % 4 = _; omega
  have e3 : ((wr (s := S2x256x4x128x128) fun a => (![d, 8 * b, 0, 0, 0] : Fin 5 → ℕ) a + (y a).val) 3).val = (y 3).val := by
    show (0 + (y 3).val) % 128 = _; omega
  have e4 : ((wr (s := S2x256x4x128x128) fun a => (![d, 8 * b, 0, 0, 0] : Fin 5 → ℕ) a + (y a).val) 4).val = (y 4).val := by
    show (0 + (y 4).val) % 128 = _; omega
  rw [e0, e1, e2, e3, e4, show 8 * b + (y 1).val = cc d s by omega, hcc d s hs]

/-- The same for an array of lanes. -/
theorem lanes_window (cc : ℕ → ℕ → ℕ) (hcc : ∀ d s, s < 256 → cc d (cc d s) = s) (f : ℕ → ℕ → ℕ → S1x1x1x128.Idx → α) (G : S2x256x8x128.Idx → α)
    (hG : ∀ y : S2x256x8x128.Idx, G y = f (y 0).val (cc (y 0).val (y 1).val) (y 2).val (wr ![0, 0, 0, (y 3).val]))
    {d b s p : ℕ} (hd : d < 2) (hb : b < 32) (hs : s < 256) (hp : p < 8) (hc : cc d s = 8 * b + p) (y : S1x8x8x128.Idx) (hy : (y 1).val = p) :
    f d s (y 2).val (wr ![0, 0, 0, (y 3).val]) = blk G S1x8x8x128.size ![d, 8 * b, 0, 0] y := by
  have l0 : (y 0).val < 1 := (y 0).isLt
  have l1 : (y 1).val < 8 := (y 1).isLt
  have l2 : (y 2).val < 8 := (y 2).isLt
  have l3 : (y 3).val < 128 := (y 3).isLt
  show _ = G (wr fun a => (![d, 8 * b, 0, 0] : Fin 4 → ℕ) a + (y a).val)
  rw [hG]
  have e0 : ((wr (s := S2x256x8x128) fun a => (![d, 8 * b, 0, 0] : Fin 4 → ℕ) a + (y a).val) 0).val = d := by
    show (d + (y 0).val) % 2 = d; omega
  have e1 : ((wr (s := S2x256x8x128) fun a => (![d, 8 * b, 0, 0] : Fin 4 → ℕ) a + (y a).val) 1).val = 8 * b + (y 1).val := by
    show (8 * b + (y 1).val) % 256 = _; omega
  have e2 : ((wr (s := S2x256x8x128) fun a => (![d, 8 * b, 0, 0] : Fin 4 → ℕ) a + (y a).val) 2).val = (y 2).val := by
    show (0 + (y 2).val) % 8 = _; omega
  have e3 : ((wr (s := S2x256x8x128) fun a => (![d, 8 * b, 0, 0] : Fin 4 → ℕ) a + (y a).val) 3).val = (y 3).val := by
    show (0 + (y 3).val) % 128 = _; omega
  rw [e0, e1, e2, e3, show 8 * b + (y 1).val = cc d s by omega, hcc d s hs]

end Cert.Proof.KernelIdeal

end
-- ==== Proof.BodyF.lean ====
/- The forward scan at one grid point: eight trips of the chunk loop, the carried states zeroed before the first point of a direction. -/
module

public import proofs.«01_k».proof.Proof.StepF
public import proofs.«01_k».proof.Proof.WindowsOut
public import proofs.«01_k».proof.Proof.Gen.KernelIdeal.Loops
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block of eight chunks that grid point `n` of direction `d` treats. -/
def bF (d n : ℕ) : ℕ := if d = 0 then n else 31 - n
/-- The trip that treats chunk `p` of a block. -/
def tF (d p : ℕ) : ℕ := if d = 0 then p else 7 - p

section Reads

variable (U : Vec F S2x16384x1024 .f32) (W Q K : Vec F S2x16384x1024 .bf16) (P : Vec F S2x256x4x128x128 .bf16) (E : Vec F S2x256x8x128 .f32)

/-- What the windows of outputs and of states and the carried states read before trip `k` of point `i`. -/
structure HF (i : grid0.Coords) (k : ℕ) (X8 : Vec F S1x512x1024 .f32) (X9 : Vec F S1x8x8x128x128 .f32) (X10 : Vec F S8x128x128 .f32) : Prop where
  o : ∀ y : S1x512x1024.Idx, tF (i 0).val ((y 1).val / 64) < k → X8 y = blk (Go U W Q K P E) S1x512x1024.size ![(i 0).val, 512 * bF (i 0).val (i 1).val, 0] y
  s : ∀ y : S1x8x8x128x128.Idx, tF (i 0).val (y 1).val < k → X9 y = blk (Gs U W K E) S1x8x8x128x128.size ![(i 0).val, 8 * bF (i 0).val (i 1).val, 0, 0, 0] y
  st : X10 = StF U W K E (i 0).val (8 * (i 1).val + k)

theorem cF_pcF (i : grid0.Coords) (k : Fin k0_t1_loop.trips) : cF (i 0).val (8 * (i 1).val + k.val) = 8 * bF (i 0).val (i 1).val + pcF i k := by
  have h1 : (i 1).val < 32 := (i 1).isLt
  have hk : k.val < 8 := k.isLt
  unfold cF bF pcF; split <;> omega

theorem tF_pcF (i : grid0.Coords) (k : Fin k0_t1_loop.trips) (p : ℕ) (hp : p < 8) : tF (i 0).val p = k.val ↔ p = pcF i k := by
  have hk : k.val < 8 := k.isLt
  unfold tF pcF; split <;> omega

variable {U W Q K P E}

/-- One trip's stores take the reads before it to the reads after it. -/
theorem HF.step {i : grid0.Coords} {k : Fin k0_t1_loop.trips} {X8 X8' : Vec F S1x512x1024 .f32} {X9 X9' : Vec F S1x8x8x128x128 .f32} {X10 X10' : Vec F S8x128x128 .f32}
    (H : HF U W Q K P E i k.val X8 X9 X10)
    (h8 : ∀ y, X8' y = if (y 1).val / 64 = pcF i k then oC U W Q K P E (i 0).val (8 * (i 1).val + k.val) ((y 2).val / 128) (wr ![0, (y 1).val % 64, (y 2).val % 128]) else X8 y)
    (h9 : ∀ y, X9' y = if (y 1).val = pcF i k then svF (hd (StF U W K E (i 0).val (8 * (i 1).val + k.val)) (y 2).val) (wr ![0, 0, 0, (y 3).val, (y 4).val]) else X9 y)
    (h10 : X10' = StF U W K E (i 0).val (8 * (i 1).val + k.val + 1)) : HF U W Q K P E i (k.val + 1) X8' X9' X10' := by
  have hd2 : (i 0).val < 2 := (i 0).isLt
  have h1 : (i 1).val < 32 := (i 1).isLt
  have hk : k.val < 8 := k.isLt
  have hb : bF (i 0).val (i 1).val < 32 := by unfold bF; split <;> omega
  refine ⟨fun y hy => ?_, fun y hy => ?_, h10⟩
  · have l1 : (y 1).val < 512 := (y 1).isLt
    rw [h8]
    by_cases e : (y 1).val / 64 = pcF i k
    · rw [if_pos e]
      exact rows_window cF cF_cF (oC U W Q K P E) (Go U W Q K P E) (fun _ => rfl) hd2 hb (by omega) (pcF_lt i k) (cF_pcF i k) y e
    · rw [if_neg e]
      have e' : tF (i 0).val ((y 1).val / 64) ≠ k.val := fun h => e ((tF_pcF i k _ (by omega)).mp h)
      exact H.o y (by omega)
  · have l1 : (y 1).val < 8 := (y 1).isLt
    rw [h9]
    by_cases e : (y 1).val = pcF i k
    · rw [if_pos e]
      exact sts_window cF cF_cF (fun d s h => svF (hd (StF U W K E d s) h)) (Gs U W K E) (fun _ => rfl) hd2 hb (by omega) (pcF_lt i k) (cF_pcF i k) y e
    · rw [if_neg e]
      have e' : tF (i 0).val (y 1).val ≠ k.val := fun h => e ((tF_pcF i k _ l1).mp h)
      exact H.s y (by omega)

/-- After the eight trips both windows read the arrays' blocks. -/
theorem HF.done {i : grid0.Coords} {X8 : Vec F S1x512x1024 .f32} {X9 : Vec F S1x8x8x128x128 .f32} {X10 : Vec F S8x128x128 .f32}
    (H : HF U W Q K P E i 8 X8 X9 X10) :
    X8 = blk (Go U W Q K P E) S1x512x1024.size ![(i 0).val, 512 * bF (i 0).val (i 1).val, 0]
      ∧ X9 = blk (Gs U W K E) S1x8x8x128x128.size ![(i 0).val, 8 * bF (i 0).val (i 1).val, 0, 0, 0]
      ∧ X10 = StF U W K E (i 0).val (8 * ((i 1).val + 1)) := by
  refine ⟨funext fun y => H.o y ?_, funext fun y => H.s y ?_, H.st⟩
  · have l1 : (y 1).val < 512 := (y 1).isLt
    unfold tF; split <;> omega
  · have l1 : (y 1).val < 8 := (y 1).isLt
    unfold tF; split <;> omega

end Reads

section Run

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x512x1024 .f32) (harg8 : arg8.IsWhole) (arg9 : Memref sig .tc .vmem S1x8x8x128x128 .f32) (harg9 : arg9.IsWhole) (arg10 : Memref sig .tc .vmem S8x128x128 .f32) (harg10 : arg10.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7)
  {U : Vec F S2x16384x1024 .f32} {W Q K : Vec F S2x16384x1024 .bf16} {P : Vec F S2x256x4x128x128 .bf16} {E : Vec F S2x256x8x128 .f32}

/-- Every window of the scan held, the inputs at the contents `f2`, … and the outputs and carried states at contents that read as `HF` says. -/
abbrev invF (U : Vec F S2x16384x1024 .f32) (W Q K : Vec F S2x16384x1024 .bf16) (P : Vec F S2x256x4x128x128 .bf16) (E : Vec F S2x256x8x128 .f32) (k : ℕ) : sProp 𝕄 :=
  iprop(∃ (f8 : Bf (F := F) c arg8) (f9 : Bf (F := F) c arg9) (f10 : Bf (F := F) c arg10),
    ⌜HF U W Q K P E i k (arg8.view.read (Elt F) f8) (arg9.view.read (Elt F) f9) (arg10.view.read (Elt F) f10)⌝ ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10)

variable (h2 : arg2.view.read (Elt F) f2 = blk U S1x512x1024.size ![(i 0).val, 512 * bF (i 0).val (i 1).val, 0]) (h3 : arg3.view.read (Elt F) f3 = blk W S1x512x1024.size ![(i 0).val, 512 * bF (i 0).val (i 1).val, 0])
  (h4 : arg4.view.read (Elt F) f4 = blk Q S1x512x1024.size ![(i 0).val, 512 * bF (i 0).val (i 1).val, 0]) (h5 : arg5.view.read (Elt F) f5 = blk K S1x512x1024.size ![(i 0).val, 512 * bF (i 0).val (i 1).val, 0])
  (h6 : arg6.view.read (Elt F) f6 = blk P S1x8x4x128x128.size ![(i 0).val, 8 * bF (i 0).val (i 1).val, 0, 0, 0]) (h7 : arg7.view.read (Elt F) f7 = blk E S1x8x8x128.size ![(i 0).val, 8 * bF (i 0).val (i 1).val, 0, 0])

set_option warn.classDefReducibility false in
include h2 h3 h4 h5 h6 h7 in
/-- The chunk loop keeps it: one trip takes it to the next. -/
def loopF : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg0 where
  inv k _ := invF c i arg2 arg3 arg4 arg5 arg6 arg7 arg8 arg9 arg10 f2 f3 f4 f5 f6 f7 U W Q K P E k
  step k _ := by
    iintro ⟨%f8, %f9, %f10, %hH, H⟩
    iapply (wp_wand_r Idealize.ShloMosaic.frame (wpE (defs₀ (F := F)) Variants.none (c : Thread nD τ) none) Set.univ)
    isplitl [H]
    · iapply (trip0 (F := F) c i arg2 harg2 arg3 harg3 arg4 harg4 arg5 harg5 arg6 harg6 arg7 harg7 arg8 harg8 arg9 harg9 arg10 harg10 arg0 f2 f3 f4 f5 f6 f7 f8 f9 f10 k).2.2.2
      iexact H
    · iintro %_ H'
      iexists _, _, _
      isplitr
      rotate_left
      · iexact H'
      ipureintro
      exact hH.step (fun y => trip0_o c i arg2 harg2 arg3 harg3 arg4 harg4 arg5 harg5 arg6 harg6 arg7 harg7 arg8 harg8 arg9 harg9 arg10 harg10 arg0 f2 f3 f4 f5 f6 f7 f8 f9 f10 k h2 h3 h4 h6 hH.st (cF_pcF i k) y)
        (fun y => trip0_s c i arg2 harg2 arg3 harg3 arg4 harg4 arg5 harg5 arg6 harg6 arg7 harg7 arg8 harg8 arg9 harg9 arg10 harg10 arg0 f2 f3 f4 f5 f6 f7 f8 f9 f10 k hH.st y)
        (trip0_st c i arg2 harg2 arg3 harg3 arg4 harg4 arg5 harg5 arg6 harg6 arg7 harg7 arg8 harg8 arg9 harg9 arg10 harg10 arg0 f2 f3 f4 f5 f6 f7 f8 f9 f10 k h2 h3 h5 h7 hH.st (cF_pcF i k))

theorem cond0 : ∀ i : grid0.Coords, Scalar.cmpi .ne (Scalar.extui (Scalar.cmpi .eq (BitVec.ofNat 32 (i 1).val) 0#32) : BitVec 32) 0#32 = 1#1 ↔ (i 1).val = 0 := by decide +kernel

include h2 h3 h4 h5 h6 h7 in
/-- The chunk loop run: from what holds before trip 0 to what holds after trip 7. -/
theorem loopRunF : invF c i arg2 arg3 arg4 arg5 arg6 arg7 arg8 arg9 arg10 f2 f3 f4 f5 f6 f7 U W Q K P E 0 ⊢ wp frame (wpE (defs₀ (F := F)) Variants.none (c : Thread nD τ) none) Set.univ
      (do Scf.Loop.for k0_t1_loop k0_t1_ok PUnit.unit (k0_t1_body (F := F) i arg2 harg2 arg3 harg3 arg4 harg4 arg5 harg5 arg6 harg6 arg7 harg7 arg8 harg8 arg9 harg9 arg10 harg10 arg0); Pure.pure PUnit.unit)
      (fun _ => invF c i arg2 arg3 arg4 arg5 arg6 arg7 arg8 arg9 arg10 f2 f3 f4 f5 f6 f7 U W Q K P E 8) := by
  iintro H
  irw [wp_bind]
  iapply (Scf.wp_for Idealize.ShloMosaic.frame (wpE (defs₀ (F := F)) Variants.none (c : Thread nD τ) none) Set.univ k0_t1_loop.lb k0_t1_loop.ub k0_t1_loop.st k0_t1_ok ()
    (k0_t1_body (F := F) i arg2 harg2 arg3 harg3 arg4 harg4 arg5 harg5 arg6 harg6 arg7 harg7 arg8 harg8 arg9 harg9 arg10 harg10 arg0) (fun k _ => invF c i arg2 arg3 arg4 arg5 arg6 arg7 arg8 arg9 arg10 f2 f3 f4 f5 f6 f7 U W Q K P E k) (loopF c i arg2 harg2 arg3 harg3 arg4 harg4 arg5 harg5 arg6 harg6 arg7 harg7 arg8 harg8 arg9 harg9 arg10 harg10 arg0 f2 f3 f4 f5 f6 f7 h2 h3 h4 h5 h6 h7).step)
  isplitl [H]; · iexact H
  iintro %_ H'
  irw [wp_pure]
  imodintro
  iexact H'

include h2 h3 h4 h5 h6 h7 in
/-- The forward scan at one point: its windows of outputs and of states read the arrays' blocks, the carried states are eight steps on. -/
theorem bodyF (f8 : Bf (F := F) c arg8) (f9 : Bf (F := F) c arg9) (f10 : Bf (F := F) c arg10)
    (h10 : (i 1).val ≠ 0 → arg10.view.read (Elt F) f10 = StF U W K E (i 0).val (8 * (i 1).val)) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10) ⊢ wp frame (wpE (defs₀ (F := F)) Variants.none (c : Thread nD τ) none) Set.univ
      (cc0_gdn_scan_fwd (F := F) i arg2 harg2 arg3 harg3 arg4 harg4 arg5 harg5 arg6 harg6 arg7 harg7 arg8 harg8 arg9 harg9 arg10 harg10) (fun _ => invF c i arg2 arg3 arg4 arg5 arg6 arg7 arg8 arg9 arg10 f2 f3 f4 f5 f6 f7 U W Q K P E 8) := by
  rw [cc0_gdn_scan_fwd_eq_skeleton]
  unfold cc0_gdn_scan_fwd_skel
  by_cases hn : (i 1).val = 0
  · rw [dif_pos ((cond0 i).mpr hn)]
    iintro ⟨H2, H3, H4, H5, H6, H7, H8, H9, H10⟩
    sl_exec
    iapply (loopRunF c i arg2 harg2 arg3 harg3 arg4 harg4 arg5 harg5 arg6 harg6 arg7 harg7 arg8 harg8 arg9 harg9 arg10 harg10 (BitVec.ofNat 32 (i 0).val) f2 f3 f4 f5 f6 f7 h2 h3 h4 h5 h6 h7)
    iexists f8, f9, _
    isplitr
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    ipureintro
    refine ⟨fun y h => absurd h (Nat.not_lt_zero _), fun y h => absurd h (Nat.not_lt_zero _), ?_⟩
    rw [hn]
    exact View.read_writes_full _ _ _ _ _
  · rw [dif_neg (fun h => hn ((cond0 i).mp h))]
    iintro ⟨H2, H3, H4, H5, H6, H7, H8, H9, H10⟩
    iapply (loopRunF c i arg2 harg2 arg3 harg3 arg4 harg4 arg5 harg5 arg6 harg6 arg7 harg7 arg8 harg8 arg9 harg9 arg10 harg10 (BitVec.ofNat 32 (i 0).val) f2 f3 f4 f5 f6 f7 h2 h3 h4 h5 h6 h7)
    iexists f8, f9, _
    isplitr
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    ipureintro
    refine ⟨fun y h => absurd h (Nat.not_lt_zero _), fun y h => absurd h (Nat.not_lt_zero _), ?_⟩
    exact h10 hn

end Run

end Cert.Proof.KernelIdeal

end
-- ==== Proof.Entry.lean ====
/- The arrays the two scans read, as a device's buffers hold them. -/
module

public import proofs.«01_k».proof.Proof.Blocks

@[expose] public section

noncomputable section

namespace Cert.Proof.KernelIdeal

open Cert.KernelIdeal
open Idealize.ShloMosaic Idealize.ShloMosaic.TcCoe

variable {F : FTy → Type} [FloatOps F] (V : Valuation τ sig (Elt F))

abbrev uA : Vec F S2x16384x1024 .f32 := V main_arg0
abbrev wA : Vec F S2x16384x1024 .bf16 := V main_arg1
abbrev qA : Vec F S2x16384x1024 .bf16 := V main_arg2
abbrev kA : Vec F S2x16384x1024 .bf16 := V main_arg3
abbrev pA : Vec F S2x256x4x128x128 .bf16 := V main_v6
abbrev eA : Vec F S2x256x8x128 .f32 := V main_v8
abbrev sA : Vec F S2x256x8x128x128 .f32 := V main_v9_1
abbrev dA : Vec F S16384x1024 .bf16 := V main_arg6

end Cert.Proof.KernelIdeal

end
-- ==== Proof.LaunchF.lean ====
/- The forward scan's pipeline: what its windows hold at every grid point, and the arrays it leaves. -/
module

public import proofs.«01_k».proof.Proof.BodyF
public import proofs.«01_k».proof.Proof.Entry
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArrays
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The block each window shows at a point -/

theorem index0_0 : ∀ t : Fin grid0.N, win0_0.index t = ![(grid0.coords t 0).val, bF (grid0.coords t 0).val (grid0.coords t 1).val, 0] := by decide +kernel
theorem index0_1 : ∀ t : Fin grid0.N, win0_1.index t = ![(grid0.coords t 0).val, bF (grid0.coords t 0).val (grid0.coords t 1).val, 0] := by decide +kernel
theorem index0_2 : ∀ t : Fin grid0.N, win0_2.index t = ![(grid0.coords t 0).val, bF (grid0.coords t 0).val (grid0.coords t 1).val, 0] := by decide +kernel
theorem index0_3 : ∀ t : Fin grid0.N, win0_3.index t = ![(grid0.coords t 0).val, bF (grid0.coords t 0).val (grid0.coords t 1).val, 0] := by decide +kernel
theorem index0_4 : ∀ t : Fin grid0.N, win0_4.index t = ![(grid0.coords t 0).val, bF (grid0.coords t 0).val (grid0.coords t 1).val, 0, 0, 0] := by decide +kernel
theorem index0_5 : ∀ t : Fin grid0.N, win0_5.index t = ![(grid0.coords t 0).val, bF (grid0.coords t 0).val (grid0.coords t 1).val, 0, 0] := by decide +kernel
theorem index0_6 : ∀ t : Fin grid0.N, win0_6.index t = ![(grid0.coords t 0).val, bF (grid0.coords t 0).val (grid0.coords t 1).val, 0] := by decide +kernel
theorem index0_7 : ∀ t : Fin grid0.N, win0_7.index t = ![(grid0.coords t 0).val, bF (grid0.coords t 0).val (grid0.coords t 1).val, 0, 0, 0] := by decide +kernel
theorem coord0_0 : ∀ t : Fin grid0.N, (grid0.coords t 0).val = t.val / 32 := by decide +kernel
theorem coord0_1 : ∀ t : Fin grid0.N, (grid0.coords t 1).val = t.val % 32 := by decide +kernel
/-- A whole buffer owned at contents `X` is that buffer held at something that reads as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

theorem owns_pt_1 (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) := by
  rw [owns_pt c M h X]

section

variable (V : Valuation τ sig (Elt F)) (c : Dev nD)

/-- What the carried states' buffer holds before point `t`: inside a direction, the states after the points before. -/
def carryF (t : ℕ) : sProp 𝕄 :=
  iprop(∃ f : Bf (F := F) c (Memref.whole cc0_scratch0), ⌜t % 32 ≠ 0 → (Memref.whole cc0_scratch0).view.read (Elt F) f = StF (uA V) (wA V) (kA V) (eA V) (t / 32) (8 * (t % 32))⌝ ∗ pt c (Memref.whole cc0_scratch0) f)

/-- The pipeline's data: the arrays at entry, the blocks the windows hold after each point, the carried states. -/
def datF : Dat τ (Elt F) Unit ℕ (UR sig nD τ) ℕ cfg0 c where
  A w := V (Pipeline.arrRef spec0 w)
  after w t := match w with
    | 0 => blk (uA V) S1x512x1024.size ![(grid0.coords t 0).val, 512 * bF (grid0.coords t 0).val (grid0.coords t 1).val, 0]
    | 1 => blk (wA V) S1x512x1024.size ![(grid0.coords t 0).val, 512 * bF (grid0.coords t 0).val (grid0.coords t 1).val, 0]
    | 2 => blk (qA V) S1x512x1024.size ![(grid0.coords t 0).val, 512 * bF (grid0.coords t 0).val (grid0.coords t 1).val, 0]
    | 3 => blk (kA V) S1x512x1024.size ![(grid0.coords t 0).val, 512 * bF (grid0.coords t 0).val (grid0.coords t 1).val, 0]
    | 4 => blk (pA V) S1x8x4x128x128.size ![(grid0.coords t 0).val, 8 * bF (grid0.coords t 0).val (grid0.coords t 1).val, 0, 0, 0]
    | 5 => blk (eA V) S1x8x8x128.size ![(grid0.coords t 0).val, 8 * bF (grid0.coords t 0).val (grid0.coords t 1).val, 0, 0]
    | 6 => blk (Go (uA V) (wA V) (qA V) (kA V) (pA V) (eA V)) S1x512x1024.size ![(grid0.coords t 0).val, 512 * bF (grid0.coords t 0).val (grid0.coords t 1).val, 0]
    | 7 => blk (Gs (uA V) (wA V) (kA V) (eA V)) S1x8x8x128x128.size ![(grid0.coords t 0).val, 8 * bF (grid0.coords t 0).val (grid0.coords t 1).val, 0, 0, 0]
    | ⟨_ + 8, h⟩ => absurd h (Nat.not_lt.2 (Nat.le_add_left _ _))
  Φ t := iprop(carryF V c t.val ∗ Pipeline.scopedRestBut (Ix := Unit) (Name := ℕ) (U := UR sig nD τ) (Lvl := ℕ) (Val := Elt F) spec0 c [cc0_scratch0])
  q _ := fullShare
  owed _ := 0

theorem emb0_0 (t : Fin grid0.N) (y : S1x512x1024.Idx) (a : Fin S1x512x1024.rank) :
    (![(grid0.coords t 0).val, 512 * bF (grid0.coords t 0).val (grid0.coords t 1).val, 0] : Fin S1x512x1024.rank → ℕ) a + (y a).val = ((win0_0.blk t).view.emb y a).val := by
  show _ = win0_0.index t a * S1x512x1024.size a + 1 * (y a).val
  rw [index0_0, Nat.one_mul]
  refine congrArg (· + (y a).val) ?_
  revert a
  refine ValueKit.forall_fin_iff_conj.mpr ?_
  dsimp only [ValueKit.finConj]
  simp [Nat.mul_comm]

theorem emb0_1 (t : Fin grid0.N) (y : S1x512x1024.Idx) (a : Fin S1x512x1024.rank) :
    (![(grid0.coords t 0).val, 512 * bF (grid0.coords t 0).val (grid0.coords t 1).val, 0] : Fin S1x512x1024.rank → ℕ) a + (y a).val = ((win0_1.blk t).view.emb y a).val := by
  show _ = win0_1.index t a * S1x512x1024.size a + 1 * (y a).val
  rw [index0_1, Nat.one_mul]
  refine congrArg (· + (y a).val) ?_
  revert a
  refine ValueKit.forall_fin_iff_conj.mpr ?_
  dsimp only [ValueKit.finConj]
  simp [Nat.mul_comm]

theorem emb0_2 (t : Fin grid0.N) (y : S1x512x1024.Idx) (a : Fin S1x512x1024.rank) :
    (![(grid0.coords t 0).val, 512 * bF (grid0.coords t 0).val (grid0.coords t 1).val, 0] : Fin S1x512x1024.rank → ℕ) a + (y a).val = ((win0_2.blk t).view.emb y a).val := by
  show _ = win0_2.index t a * S1x512x1024.size a + 1 * (y a).val
  rw [index0_2, Nat.one_mul]
  refine congrArg (· + (y a).val) ?_
  revert a
  refine ValueKit.forall_fin_iff_conj.mpr ?_
  dsimp only [ValueKit.finConj]
  simp [Nat.mul_comm]

theorem emb0_3 (t : Fin grid0.N) (y : S1x512x1024.Idx) (a : Fin S1x512x1024.rank) :
    (![(grid0.coords t 0).val, 512 * bF (grid0.coords t 0).val (grid0.coords t 1).val, 0] : Fin S1x512x1024.rank → ℕ) a + (y a).val = ((win0_3.blk t).view.emb y a).val := by
  show _ = win0_3.index t a * S1x512x1024.size a + 1 * (y a).val
  rw [index0_3, Nat.one_mul]
  refine congrArg (· + (y a).val) ?_
  revert a
  refine ValueKit.forall_fin_iff_conj.mpr ?_
  dsimp only [ValueKit.finConj]
  simp [Nat.mul_comm]

theorem emb0_4 (t : Fin grid0.N) (y : S1x8x4x128x128.Idx) (a : Fin S1x8x4x128x128.rank) :
    (![(grid0.coords t 0).val, 8 * bF (grid0.coords t 0).val (grid0.coords t 1).val, 0, 0, 0] : Fin S1x8x4x128x128.rank → ℕ) a + (y a).val = ((win0_4.blk t).view.emb y a).val := by
  show _ = win0_4.index t a * S1x8x4x128x128.size a + 1 * (y a).val
  rw [index0_4, Nat.one_mul]
  refine congrArg (· + (y a).val) ?_
  revert a
  refine ValueKit.forall_fin_iff_conj.mpr ?_
  dsimp only [ValueKit.finConj]
  simp [Nat.mul_comm]

theorem emb0_5 (t : Fin grid0.N) (y : S1x8x8x128.Idx) (a : Fin S1x8x8x128.rank) :
    (![(grid0.coords t 0).val, 8 * bF (grid0.coords t 0).val (grid0.coords t 1).val, 0, 0] : Fin S1x8x8x128.rank → ℕ) a + (y a).val = ((win0_5.blk t).view.emb y a).val := by
  show _ = win0_5.index t a * S1x8x8x128.size a + 1 * (y a).val
  rw [index0_5, Nat.one_mul]
  refine congrArg (· + (y a).val) ?_
  revert a
  refine ValueKit.forall_fin_iff_conj.mpr ?_
  dsimp only [ValueKit.finConj]
  simp [Nat.mul_comm]

theorem emb0_6 (t : Fin grid0.N) (y : S1x512x1024.Idx) (a : Fin S1x512x1024.rank) :
    (![(grid0.coords t 0).val, 512 * bF (grid0.coords t 0).val (grid0.coords t 1).val, 0] : Fin S1x512x1024.rank → ℕ) a + (y a).val = ((win0_6.blk t).view.emb y a).val := by
  show _ = win0_6.index t a * S1x512x1024.size a + 1 * (y a).val
  rw [index0_6, Nat.one_mul]
  refine congrArg (· + (y a).val) ?_
  revert a
  refine ValueKit.forall_fin_iff_conj.mpr ?_
  dsimp only [ValueKit.finConj]
  simp [Nat.mul_comm]

theorem emb0_7 (t : Fin grid0.N) (y : S1x8x8x128x128.Idx) (a : Fin S1x8x8x128x128.rank) :
    (![(grid0.coords t 0).val, 8 * bF (grid0.coords t 0).val (grid0.coords t 1).val, 0, 0, 0] : Fin S1x8x8x128x128.rank → ℕ) a + (y a).val = ((win0_7.blk t).view.emb y a).val := by
  show _ = win0_7.index t a * S1x8x8x128x128.size a + 1 * (y a).val
  rw [index0_7, Nat.one_mul]
  refine congrArg (· + (y a).val) ?_
  revert a
  refine ValueKit.forall_fin_iff_conj.mpr ?_
  dsimp only [ValueKit.finConj]
  simp [Nat.mul_comm]

theorem before0_0 (t : Fin cfg0.N) (d) : (datF V c).before 0 t d = blk (uA V) S1x512x1024.size ![(grid0.coords t 0).val, 512 * bF (grid0.coords t 0).val (grid0.coords t 1).val, 0] := by
  have hk : ∀ t : Fin cfg0.N, (cfg0.win 0).cut (cfg0.grid.coords t) ((datF V c).after 0 t) = (datF V c).blockOf 0 t := fun t => by
    funext y
    rw [Pipeline.Dat.blockOf_apply]
    exact congrArg (uA V) (wr_eq _ _ fun a => emb0_0 t y a)
  exact ((datF V c).before_in_eq_fetched 0 rfl (fun _ => rfl) (fun _ _ _ => rfl) hk t d).trans (hk t).symm

theorem before0_1 (t : Fin cfg0.N) (d) : (datF V c).before 1 t d = blk (wA V) S1x512x1024.size ![(grid0.coords t 0).val, 512 * bF (grid0.coords t 0).val (grid0.coords t 1).val, 0] := by
  have hk : ∀ t : Fin cfg0.N, (cfg0.win 1).cut (cfg0.grid.coords t) ((datF V c).after 1 t) = (datF V c).blockOf 1 t := fun t => by
    funext y
    rw [Pipeline.Dat.blockOf_apply]
    exact congrArg (wA V) (wr_eq _ _ fun a => emb0_1 t y a)
  exact ((datF V c).before_in_eq_fetched 1 rfl (fun _ => rfl) (fun _ _ _ => rfl) hk t d).trans (hk t).symm

theorem before0_2 (t : Fin cfg0.N) (d) : (datF V c).before 2 t d = blk (qA V) S1x512x1024.size ![(grid0.coords t 0).val, 512 * bF (grid0.coords t 0).val (grid0.coords t 1).val, 0] := by
  have hk : ∀ t : Fin cfg0.N, (cfg0.win 2).cut (cfg0.grid.coords t) ((datF V c).after 2 t) = (datF V c).blockOf 2 t := fun t => by
    funext y
    rw [Pipeline.Dat.blockOf_apply]
    exact congrArg (qA V) (wr_eq _ _ fun a => emb0_2 t y a)
  exact ((datF V c).before_in_eq_fetched 2 rfl (fun _ => rfl) (fun _ _ _ => rfl) hk t d).trans (hk t).symm

theorem before0_3 (t : Fin cfg0.N) (d) : (datF V c).before 3 t d = blk (kA V) S1x512x1024.size ![(grid0.coords t 0).val, 512 * bF (grid0.coords t 0).val (grid0.coords t 1).val, 0] := by
  have hk : ∀ t : Fin cfg0.N, (cfg0.win 3).cut (cfg0.grid.coords t) ((datF V c).after 3 t) = (datF V c).blockOf 3 t := fun t => by
    funext y
    rw [Pipeline.Dat.blockOf_apply]
    exact congrArg (kA V) (wr_eq _ _ fun a => emb0_3 t y a)
  exact ((datF V c).before_in_eq_fetched 3 rfl (fun _ => rfl) (fun _ _ _ => rfl) hk t d).trans (hk t).symm

theorem before0_4 (t : Fin cfg0.N) (d) : (datF V c).before 4 t d = blk (pA V) S1x8x4x128x128.size ![(grid0.coords t 0).val, 8 * bF (grid0.coords t 0).val (grid0.coords t 1).val, 0, 0, 0] := by
  have hk : ∀ t : Fin cfg0.N, (cfg0.win 4).cut (cfg0.grid.coords t) ((datF V c).after 4 t) = (datF V c).blockOf 4 t := fun t => by
    funext y
    rw [Pipeline.Dat.blockOf_apply]
    exact congrArg (pA V) (wr_eq _ _ fun a => emb0_4 t y a)
  exact ((datF V c).before_in_eq_fetched 4 rfl (fun _ => rfl) (fun _ _ _ => rfl) hk t d).trans (hk t).symm

theorem before0_5 (t : Fin cfg0.N) (d) : (datF V c).before 5 t d = blk (eA V) S1x8x8x128.size ![(grid0.coords t 0).val, 8 * bF (grid0.coords t 0).val (grid0.coords t 1).val, 0, 0] := by
  have hk : ∀ t : Fin cfg0.N, (cfg0.win 5).cut (cfg0.grid.coords t) ((datF V c).after 5 t) = (datF V c).blockOf 5 t := fun t => by
    funext y
    rw [Pipeline.Dat.blockOf_apply]
    exact congrArg (eA V) (wr_eq _ _ fun a => emb0_5 t y a)
  exact ((datF V c).before_in_eq_fetched 5 rfl (fun _ => rfl) (fun _ _ _ => rfl) hk t d).trans (hk t).symm

theorem final0_6 : (datF V c).arrAt 6 cfg0.N = (Go (uA V) (wA V) (qA V) (kA V) (pA V) (eA V)) :=
  (datF V c).arrAt_eq_of_covers 6 (Go (uA V) (wA V) (qA V) (kA V) (pA V) (eA V)) (by decide +kernel) fun t _ y => congrArg (Go (uA V) (wA V) (qA V) (kA V) (pA V) (eA V)) (wr_eq _ _ fun a => emb0_6 t y a)

theorem final0_7 : (datF V c).arrAt 7 cfg0.N = (Gs (uA V) (wA V) (kA V) (eA V)) :=
  (datF V c).arrAt_eq_of_covers 7 (Gs (uA V) (wA V) (kA V) (eA V)) (by decide +kernel) fun t _ y => congrArg (Gs (uA V) (wA V) (kA V) (eA V)) (wr_eq _ _ fun a => emb0_7 t y a)

set_option maxHeartbeats 2000000 in
/-- The scan's body keeps the pipeline's data. -/
theorem oblF : BodyObligation (datF V c) (defs₀ (F := F)) Variants.none () Set.univ := fun t => by
  rw [bigSep_W0, bigSep_W0]
  show iprop((carryF V c t.val ∗ Pipeline.scopedRestBut (Ix := Unit) (Name := ℕ) (U := UR sig nD τ) (Lvl := ℕ) (Val := Elt F) spec0 c [cc0_scratch0]) ∗ (datF V c).owesAt () t.castSucc
      ∗ (∃ d, owns (c : Thread nD τ) (st0_0 t) fullShare ((datF V c).before 0 t d)) ∗ (∃ d, owns (c : Thread nD τ) (st0_1 t) fullShare ((datF V c).before 1 t d)) ∗ (∃ d, owns (c : Thread nD τ) (st0_2 t) fullShare ((datF V c).before 2 t d)) ∗ (∃ d, owns (c : Thread nD τ) (st0_3 t) fullShare ((datF V c).before 3 t d)) ∗ (∃ d, owns (c : Thread nD τ) (st0_4 t) fullShare ((datF V c).before 4 t d)) ∗ (∃ d, owns (c : Thread nD τ) (st0_5 t) fullShare ((datF V c).before 5 t d)) ∗ (∃ d, owns (c : Thread nD τ) (st0_6 t) fullShare ((datF V c).before 6 t d)) ∗ (∃ d, owns (c : Thread nD τ) (st0_7 t) fullShare ((datF V c).before 7 t d)))
    ⊢ wp frame (wpE (defs₀ (F := F)) Variants.none (c : Thread nD τ) none) Set.univ (bodyAt0 t) (fun _ => iprop((carryF V c (t.val + 1) ∗ Pipeline.scopedRestBut (Ix := Unit) (Name := ℕ) (U := UR sig nD τ) (Lvl := ℕ) (Val := Elt F) spec0 c [cc0_scratch0]) ∗ (datF V c).owesAt () t.castSucc
      ∗ owns (c : Thread nD τ) (st0_0 t) fullShare ((datF V c).after 0 t) ∗ owns (c : Thread nD τ) (st0_1 t) fullShare ((datF V c).after 1 t) ∗ owns (c : Thread nD τ) (st0_2 t) fullShare ((datF V c).after 2 t) ∗ owns (c : Thread nD τ) (st0_3 t) fullShare ((datF V c).after 3 t) ∗ owns (c : Thread nD τ) (st0_4 t) fullShare ((datF V c).after 4 t) ∗ owns (c : Thread nD τ) (st0_5 t) fullShare ((datF V c).after 5 t) ∗ owns (c : Thread nD τ) (st0_6 t) fullShare ((datF V c).after 6 t) ∗ owns (c : Thread nD τ) (st0_7 t) fullShare ((datF V c).after 7 t)))
  simp only [before0_0 V c t, before0_1 V c t, before0_2 V c t, before0_3 V c t, before0_4 V c t, before0_5 V c t]
  rw [owns_pt c (st0_0 t) (hstage0_0 ((cfg0.slots t 0).cast nbuf0_0)) ((datF V c).after 0 t), owns_pt c (st0_1 t) (hstage0_1 ((cfg0.slots t 1).cast nbuf0_1)) ((datF V c).after 1 t), owns_pt c (st0_2 t) (hstage0_2 ((cfg0.slots t 2).cast nbuf0_2)) ((datF V c).after 2 t), owns_pt c (st0_3 t) (hstage0_3 ((cfg0.slots t 3).cast nbuf0_3)) ((datF V c).after 3 t), owns_pt c (st0_4 t) (hstage0_4 ((cfg0.slots t 4).cast nbuf0_4)) ((datF V c).after 4 t), owns_pt c (st0_5 t) (hstage0_5 ((cfg0.slots t 5).cast nbuf0_5)) ((datF V c).after 5 t), owns_pt c (st0_6 t) (hstage0_6 ((cfg0.slots t 6).cast nbuf0_6)) ((datF V c).after 6 t), owns_pt c (st0_7 t) (hstage0_7 ((cfg0.slots t 7).cast nbuf0_7)) ((datF V c).after 7 t)]
  have c0 : (grid0.coords t 0).val = t.val / 32 := coord0_0 t
  have c1 : (grid0.coords t 1).val = t.val % 32 := coord0_1 t
  unfold carryF
  iintro ⟨⟨⟨%fs, %hs, Hs⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (owns_pt_1 c (st0_0 t) (hstage0_0 ((cfg0.slots t 0).cast nbuf0_0)) _) $$ H0
  icases H0 with ⟨%f2, %h2, H0⟩
  ihave H1 := (owns_pt_1 c (st0_1 t) (hstage0_1 ((cfg0.slots t 1).cast nbuf0_1)) _) $$ H1
  icases H1 with ⟨%f3, %h3, H1⟩
  ihave H2 := (owns_pt_1 c (st0_2 t) (hstage0_2 ((cfg0.slots t 2).cast nbuf0_2)) _) $$ H2
  icases H2 with ⟨%f4, %h4, H2⟩
  ihave H3 := (owns_pt_1 c (st0_3 t) (hstage0_3 ((cfg0.slots t 3).cast nbuf0_3)) _) $$ H3
  icases H3 with ⟨%f5, %h5, H3⟩
  ihave H4 := (owns_pt_1 c (st0_4 t) (hstage0_4 ((cfg0.slots t 4).cast nbuf0_4)) _) $$ H4
  icases H4 with ⟨%f6, %h6, H4⟩
  ihave H5 := (owns_pt_1 c (st0_5 t) (hstage0_5 ((cfg0.slots t 5).cast nbuf0_5)) _) $$ H5
  icases H5 with ⟨%f7, %h7, H5⟩
  ihave H6 := (owns_pt_1 c (st0_6 t) (hstage0_6 ((cfg0.slots t 6).cast nbuf0_6)) _) $$ H6
  icases H6 with ⟨%f8, %h8, H6⟩
  ihave H7 := (owns_pt_1 c (st0_7 t) (hstage0_7 ((cfg0.slots t 7).cast nbuf0_7)) _) $$ H7
  icases H7 with ⟨%f9, %h9, H7⟩
  iapply (wp_wand_r Idealize.ShloMosaic.frame (wpE (defs₀ (F := F)) Variants.none (c : Thread nD τ) none) Set.univ)
  isplitl [H0 H1 H2 H3 H4 H5 H6 H7 Hs]
  · iapply (bodyF (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
      f2 f3 f4 f5 f6 f7 h2 h3 h4 h5 h6 h7 f8 f9 fs (fun h => by rw [c0, c1]; rw [c1] at h; exact hs h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hs
  · iintro %_ ⟨%g8, %g9, %gs, %hH, H0, H1, H2, H3, H4, H5, H6, H7, Hs⟩
    have hd := hH.done
    isplitl [Hs Hr]
    · isplitl [Hs]
      · iexists gs
        isplitr; swap; · iexact Hs
        ipureintro
        intro hne
        have e0 : (t.val + 1) / 32 = t.val / 32 := by omega
        have e1 : (t.val + 1) % 32 = t.val % 32 + 1 := by omega
        rw [e0, e1, ← c0, ← c1]
        exact hd.2.2
      iexact Hr
    isplitl [HO]; · iexact HO
    isplitl [H0]
    · iexists _; isplitr; swap; · iexact H0
      ipureintro; exact h2
    isplitl [H1]
    · iexists _; isplitr; swap; · iexact H1
      ipureintro; exact h3
    isplitl [H2]
    · iexists _; isplitr; swap; · iexact H2
      ipureintro; exact h4
    isplitl [H3]
    · iexists _; isplitr; swap; · iexact H3
      ipureintro; exact h5
    isplitl [H4]
    · iexists _; isplitr; swap; · iexact H4
      ipureintro; exact h6
    isplitl [H5]
    · iexists _; isplitr; swap; · iexact H5
      ipureintro; exact h7
    isplitl [H6]
    · iexists _; isplitr; swap; · iexact H6
      ipureintro; exact hd.1
    iexists _; isplitr; swap; · iexact H7
    ipureintro; exact hd.2.1

end

end Cert.Proof.KernelIdeal

end
-- ==== Proof.TripB.lean ====
/- One trip of the backward scan over a chunk of every head, run once at a symbolic trip. -/
module

public import proofs.«01_k».proof.Proof.TripF
public import Idealize.ShloMosaic.Lib.HeldBySlice

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid1.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x8x8x128x128 .f32) (harg8 : arg8.IsWhole) (arg9 : Memref sig .tc .vmem S512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S1x8x4x128x128 .f32) (harg14 : arg14.IsWhole) (arg15 : Memref sig .tc .vmem S1x8x8x128 .f32) (harg15 : arg15.IsWhole) (arg16 : Memref sig .tc .vmem S8x128x128 .f32) (harg16 : arg16.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)

/-- What one trip of the chunk loop does to the buffers it writes: the lists of its stores, last store first. -/
def trip1 (k : Fin k1_t1_loop.trips) :
    (L10 : List (View.Piece (Elt F) S1x512x1024 .bf16)) ×' (L11 : List (View.Piece (Elt F) S1x512x1024 .bf16)) ×' (L12 : List (View.Piece (Elt F) S1x512x1024 .f32)) ×' (L13 : List (View.Piece (Elt F) S1x512x1024 .f32)) ×' (L14 : List (View.Piece (Elt F) S1x8x4x128x128 .f32)) ×' (L15 : List (View.Piece (Elt F) S1x8x8x128 .f32)) ×' { L16 : List (View.Piece (Elt F) S8x128x128 .f32) //
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16)
    ⊢ wp frame (wpE (defs₀ (F := F)) Variants.none (c : Thread nD τ) none) Set.univ
        (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k ())
        (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 (arg10.view.writes (Elt F) f10 L10) ∗ pt c arg11 (arg11.view.writes (Elt F) f11 L11) ∗ pt c arg12 (arg12.view.writes (Elt F) f12 L12) ∗ pt c arg13 (arg13.view.writes (Elt F) f13 L13) ∗ pt c arg14 (arg14.view.writes (Elt F) f14 L14) ∗ pt c arg15 (arg15.view.writes (Elt F) f15 L15) ∗ pt c arg16 (arg16.view.writes (Elt F) f16 L16))) } := by
  refine ⟨?_, ?_, ?_, ?_, ?_, ?_, ?_, ?run⟩
  case run =>
    unfold k1_t1_body
    iintro ⟨H2, H3, H4, H5, H6, H7, H8, H9, H10, H11, H12, H13, H14, H15, H16⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof.KernelIdeal

end
-- ==== Proof.ListB.lean ====
/- The stores of one trip of the backward scan, as the chunk functions of what the trip reads. -/
module

public import proofs.«01_k».proof.Proof.TripB
public import proofs.«01_k».proof.Proof.Blocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid1.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x8x8x128x128 .f32) (harg8 : arg8.IsWhole) (arg9 : Memref sig .tc .vmem S512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S1x8x4x128x128 .f32) (harg14 : arg14.IsWhole) (arg15 : Memref sig .tc .vmem S1x8x8x128 .f32) (harg15 : arg15.IsWhole) (arg16 : Memref sig .tc .vmem S8x128x128 .f32) (harg16 : arg16.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (k : Fin k1_t1_loop.trips)

theorem trip1_du_raw : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).1 =
     [⟨Rect.unit (k1_off31 i k) S1x64x128.size (k1_off31_inb i k), duB true (View.ld (arg16.view.read (Elt F) f16) (Rect.unit ![7, 0, 0] S1x128x128.size inb_S8x128x128_S1x128x128_7_0_0)) (View.ld (arg5.view.read (Elt F) f5) (Rect.unit (k1_off31 i k) S1x64x128.size (k1_off31_inb i k))) (View.ld (arg6.view.read (Elt F) f6) (Rect.unit (k1_off32 i k) S1x1x1x128x128.size (k1_off32_inb i k))) (View.ld (arg9.view.read (Elt F) f9) (Rect.unit (k1_off35 i k) S64x128.size (k1_off35_inb i k))) (View.ld (arg9.view.read (Elt F) f9) (Rect.unit (k1_off36 i k) S64x128.size (k1_off36_inb i k)))⟩,
      ⟨Rect.unit (k1_off30 i k) S1x64x128.size (k1_off30_inb i k), duB false (View.ld (arg16.view.read (Elt F) f16) (Rect.unit ![6, 0, 0] S1x128x128.size inb_S8x128x128_S1x128x128_6_0_0)) (View.ld (arg5.view.read (Elt F) f5) (Rect.unit (k1_off30 i k) S1x64x128.size (k1_off30_inb i k))) (View.ld (arg6.view.read (Elt F) f6) (Rect.unit (k1_off32 i k) S1x1x1x128x128.size (k1_off32_inb i k))) (View.ld (arg9.view.read (Elt F) f9) (Rect.unit (k1_off35 i k) S64x128.size (k1_off35_inb i k))) (View.ld (arg9.view.read (Elt F) f9) (Rect.unit (k1_off36 i k) S64x128.size (k1_off36_inb i k)))⟩,
      ⟨Rect.unit (k1_off22 i k) S1x64x128.size (k1_off22_inb i k), duB true (View.ld (arg16.view.read (Elt F) f16) (Rect.unit ![5, 0, 0] S1x128x128.size inb_S8x128x128_S1x128x128_5_0_0)) (View.ld (arg5.view.read (Elt F) f5) (Rect.unit (k1_off22 i k) S1x64x128.size (k1_off22_inb i k))) (View.ld (arg6.view.read (Elt F) f6) (Rect.unit (k1_off23 i k) S1x1x1x128x128.size (k1_off23_inb i k))) (View.ld (arg9.view.read (Elt F) f9) (Rect.unit (k1_off26 i k) S64x128.size (k1_off26_inb i k))) (View.ld (arg9.view.read (Elt F) f9) (Rect.unit (k1_off27 i k) S64x128.size (k1_off27_inb i k)))⟩,
      ⟨Rect.unit (k1_off21 i k) S1x64x128.size (k1_off21_inb i k), duB false (View.ld (arg16.view.read (Elt F) f16) (Rect.unit ![4, 0, 0] S1x128x128.size inb_S8x128x128_S1x128x128_4_0_0)) (View.ld (arg5.view.read (Elt F) f5) (Rect.unit (k1_off21 i k) S1x64x128.size (k1_off21_inb i k))) (View.ld (arg6.view.read (Elt F) f6) (Rect.unit (k1_off23 i k) S1x1x1x128x128.size (k1_off23_inb i k))) (View.ld (arg9.view.read (Elt F) f9) (Rect.unit (k1_off26 i k) S64x128.size (k1_off26_inb i k))) (View.ld (arg9.view.read (Elt F) f9) (Rect.unit (k1_off27 i k) S64x128.size (k1_off27_inb i k)))⟩,
      ⟨Rect.unit (k1_off13 i k) S1x64x128.size (k1_off13_inb i k), duB true (View.ld (arg16.view.read (Elt F) f16) (Rect.unit ![3, 0, 0] S1x128x128.size inb_S8x128x128_S1x128x128_3_0_0)) (View.ld (arg5.view.read (Elt F) f5) (Rect.unit (k1_off13 i k) S1x64x128.size (k1_off13_inb i k))) (View.ld (arg6.view.read (Elt F) f6) (Rect.unit (k1_off14 i k) S1x1x1x128x128.size (k1_off14_inb i k))) (View.ld (arg9.view.read (Elt F) f9) (Rect.unit (k1_off17 i k) S64x128.size (k1_off17_inb i k))) (View.ld (arg9.view.read (Elt F) f9) (Rect.unit (k1_off18 i k) S64x128.size (k1_off18_inb i k)))⟩,
      ⟨Rect.unit (k1_off12 i k) S1x64x128.size (k1_off12_inb i k), duB false (View.ld (arg16.view.read (Elt F) f16) (Rect.unit ![2, 0, 0] S1x128x128.size inb_S8x128x128_S1x128x128_2_0_0)) (View.ld (arg5.view.read (Elt F) f5) (Rect.unit (k1_off12 i k) S1x64x128.size (k1_off12_inb i k))) (View.ld (arg6.view.read (Elt F) f6) (Rect.unit (k1_off14 i k) S1x1x1x128x128.size (k1_off14_inb i k))) (View.ld (arg9.view.read (Elt F) f9) (Rect.unit (k1_off17 i k) S64x128.size (k1_off17_inb i k))) (View.ld (arg9.view.read (Elt F) f9) (Rect.unit (k1_off18 i k) S64x128.size (k1_off18_inb i k)))⟩,
      ⟨Rect.unit (k1_off4 i k) S1x64x128.size (k1_off4_inb i k), duB true (View.ld (arg16.view.read (Elt F) f16) (Rect.unit ![1, 0, 0] S1x128x128.size inb_S8x128x128_S1x128x128_1_0_0)) (View.ld (arg5.view.read (Elt F) f5) (Rect.unit (k1_off4 i k) S1x64x128.size (k1_off4_inb i k))) (View.ld (arg6.view.read (Elt F) f6) (Rect.unit (k1_off5 i k) S1x1x1x128x128.size (k1_off5_inb i k))) (View.ld (arg9.view.read (Elt F) f9) (Rect.unit (k1_off8 i k) S64x128.size (k1_off8_inb i k))) (View.ld (arg9.view.read (Elt F) f9) (Rect.unit (k1_off9 i k) S64x128.size (k1_off9_inb i k)))⟩,
      ⟨Rect.unit (k1_off3 i k) S1x64x128.size (k1_off3_inb i k), duB false (View.ld (arg16.view.read (Elt F) f16) (Rect.unit ![0, 0, 0] S1x128x128.size inb_S8x128x128_S1x128x128_0_0_0)) (View.ld (arg5.view.read (Elt F) f5) (Rect.unit (k1_off3 i k) S1x64x128.size (k1_off3_inb i k))) (View.ld (arg6.view.read (Elt F) f6) (Rect.unit (k1_off5 i k) S1x1x1x128x128.size (k1_off5_inb i k))) (View.ld (arg9.view.read (Elt F) f9) (Rect.unit (k1_off8 i k) S64x128.size (k1_off8_inb i k))) (View.ld (arg9.view.read (Elt F) f9) (Rect.unit (k1_off9 i k) S64x128.size (k1_off9_inb i k)))⟩] := rfl

theorem trip1_dw_raw : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.1 =
     [⟨Rect.unit (k1_off31 i k) S1x64x128.size (k1_off31_inb i k), dwB true (View.ld (arg16.view.read (Elt F) f16) (Rect.unit ![7, 0, 0] S1x128x128.size inb_S8x128x128_S1x128x128_7_0_0)) (View.ld (arg5.view.read (Elt F) f5) (Rect.unit (k1_off31 i k) S1x64x128.size (k1_off31_inb i k))) (View.ld (arg6.view.read (Elt F) f6) (Rect.unit (k1_off32 i k) S1x1x1x128x128.size (k1_off32_inb i k))) (View.ld (arg9.view.read (Elt F) f9) (Rect.unit (k1_off35 i k) S64x128.size (k1_off35_inb i k))) (View.ld (arg9.view.read (Elt F) f9) (Rect.unit (k1_off36 i k) S64x128.size (k1_off36_inb i k))) (View.ld (arg8.view.read (Elt F) f8) (Rect.unit (k1_off29 i k) S1x1x1x128x128.size (k1_off29_inb i k)))⟩,
      ⟨Rect.unit (k1_off30 i k) S1x64x128.size (k1_off30_inb i k), dwB false (View.ld (arg16.view.read (Elt F) f16) (Rect.unit ![6, 0, 0] S1x128x128.size inb_S8x128x128_S1x128x128_6_0_0)) (View.ld (arg5.view.read (Elt F) f5) (Rect.unit (k1_off30 i k) S1x64x128.size (k1_off30_inb i k))) (View.ld (arg6.view.read (Elt F) f6) (Rect.unit (k1_off32 i k) S1x1x1x128x128.size (k1_off32_inb i k))) (View.ld (arg9.view.read (Elt F) f9) (Rect.unit (k1_off35 i k) S64x128.size (k1_off35_inb i k))) (View.ld (arg9.view.read (Elt F) f9) (Rect.unit (k1_off36 i k) S64x128.size (k1_off36_inb i k))) (View.ld (arg8.view.read (Elt F) f8) (Rect.unit (k1_off28 i k) S1x1x1x128x128.size (k1_off28_inb i k)))⟩,
      ⟨Rect.unit (k1_off22 i k) S1x64x128.size (k1_off22_inb i k), dwB true (View.ld (arg16.view.read (Elt F) f16) (Rect.unit ![5, 0, 0] S1x128x128.size inb_S8x128x128_S1x128x128_5_0_0)) (View.ld (arg5.view.read (Elt F) f5) (Rect.unit (k1_off22 i k) S1x64x128.size (k1_off22_inb i k))) (View.ld (arg6.view.read (Elt F) f6) (Rect.unit (k1_off23 i k) S1x1x1x128x128.size (k1_off23_inb i k))) (View.ld (arg9.view.read (Elt F) f9) (Rect.unit (k1_off26 i k) S64x128.size (k1_off26_inb i k))) (View.ld (arg9.view.read (Elt F) f9) (Rect.unit (k1_off27 i k) S64x128.size (k1_off27_inb i k))) (View.ld (arg8.view.read (Elt F) f8) (Rect.unit (k1_off20 i k) S1x1x1x128x128.size (k1_off20_inb i k)))⟩,
      ⟨Rect.unit (k1_off21 i k) S1x64x128.size (k1_off21_inb i k), dwB false (View.ld (arg16.view.read (Elt F) f16) (Rect.unit ![4, 0, 0] S1x128x128.size inb_S8x128x128_S1x128x128_4_0_0)) (View.ld (arg5.view.read (Elt F) f5) (Rect.unit (k1_off21 i k) S1x64x128.size (k1_off21_inb i k))) (View.ld (arg6.view.read (Elt F) f6) (Rect.unit (k1_off23 i k) S1x1x1x128x128.size (k1_off23_inb i k))) (View.ld (arg9.view.read (Elt F) f9) (Rect.unit (k1_off26 i k) S64x128.size (k1_off26_inb i k))) (View.ld (arg9.view.read (Elt F) f9) (Rect.unit (k1_off27 i k) S64x128.size (k1_off27_inb i k))) (View.ld (arg8.view.read (Elt F) f8) (Rect.unit (k1_off19 i k) S1x1x1x128x128.size (k1_off19_inb i k)))⟩,
      ⟨Rect.unit (k1_off13 i k) S1x64x128.size (k1_off13_inb i k), dwB true (View.ld (arg16.view.read (Elt F) f16) (Rect.unit ![3, 0, 0] S1x128x128.size inb_S8x128x128_S1x128x128_3_0_0)) (View.ld (arg5.view.read (Elt F) f5) (Rect.unit (k1_off13 i k) S1x64x128.size (k1_off13_inb i k))) (View.ld (arg6.view.read (Elt F) f6) (Rect.unit (k1_off14 i k) S1x1x1x128x128.size (k1_off14_inb i k))) (View.ld (arg9.view.read (Elt F) f9) (Rect.unit (k1_off17 i k) S64x128.size (k1_off17_inb i k))) (View.ld (arg9.view.read (Elt F) f9) (Rect.unit (k1_off18 i k) S64x128.size (k1_off18_inb i k))) (View.ld (arg8.view.read (Elt F) f8) (Rect.unit (k1_off11 i k) S1x1x1x128x128.size (k1_off11_inb i k)))⟩,
      ⟨Rect.unit (k1_off12 i k) S1x64x128.size (k1_off12_inb i k), dwB false (View.ld (arg16.view.read (Elt F) f16) (Rect.unit ![2, 0, 0] S1x128x128.size inb_S8x128x128_S1x128x128_2_0_0)) (View.ld (arg5.view.read (Elt F) f5) (Rect.unit (k1_off12 i k) S1x64x128.size (k1_off12_inb i k))) (View.ld (arg6.view.read (Elt F) f6) (Rect.unit (k1_off14 i k) S1x1x1x128x128.size (k1_off14_inb i k))) (View.ld (arg9.view.read (Elt F) f9) (Rect.unit (k1_off17 i k) S64x128.size (k1_off17_inb i k))) (View.ld (arg9.view.read (Elt F) f9) (Rect.unit (k1_off18 i k) S64x128.size (k1_off18_inb i k))) (View.ld (arg8.view.read (Elt F) f8) (Rect.unit (k1_off10 i k) S1x1x1x128x128.size (k1_off10_inb i k)))⟩,
      ⟨Rect.unit (k1_off4 i k) S1x64x128.size (k1_off4_inb i k), dwB true (View.ld (arg16.view.read (Elt F) f16) (Rect.unit ![1, 0, 0] S1x128x128.size inb_S8x128x128_S1x128x128_1_0_0)) (View.ld (arg5.view.read (Elt F) f5) (Rect.unit (k1_off4 i k) S1x64x128.size (k1_off4_inb i k))) (View.ld (arg6.view.read (Elt F) f6) (Rect.unit (k1_off5 i k) S1x1x1x128x128.size (k1_off5_inb i k))) (View.ld (arg9.view.read (Elt F) f9) (Rect.unit (k1_off8 i k) S64x128.size (k1_off8_inb i k))) (View.ld (arg9.view.read (Elt F) f9) (Rect.unit (k1_off9 i k) S64x128.size (k1_off9_inb i k))) (View.ld (arg8.view.read (Elt F) f8) (Rect.unit (k1_off2 i k) S1x1x1x128x128.size (k1_off2_inb i k)))⟩,
      ⟨Rect.unit (k1_off3 i k) S1x64x128.size (k1_off3_inb i k), dwB false (View.ld (arg16.view.read (Elt F) f16) (Rect.unit ![0, 0, 0] S1x128x128.size inb_S8x128x128_S1x128x128_0_0_0)) (View.ld (arg5.view.read (Elt F) f5) (Rect.unit (k1_off3 i k) S1x64x128.size (k1_off3_inb i k))) (View.ld (arg6.view.read (Elt F) f6) (Rect.unit (k1_off5 i k) S1x1x1x128x128.size (k1_off5_inb i k))) (View.ld (arg9.view.read (Elt F) f9) (Rect.unit (k1_off8 i k) S64x128.size (k1_off8_inb i k))) (View.ld (arg9.view.read (Elt F) f9) (Rect.unit (k1_off9 i k) S64x128.size (k1_off9_inb i k))) (View.ld (arg8.view.read (Elt F) f8) (Rect.unit (k1_off1 i k) S1x1x1x128x128.size (k1_off1_inb i k)))⟩] := rfl

theorem trip1_dq_raw : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.1 =
     [⟨Rect.unit (k1_off31 i k) S1x64x128.size (k1_off31_inb i k), dqB true (View.ld (arg9.view.read (Elt F) f9) (Rect.unit (k1_off35 i k) S64x128.size (k1_off35_inb i k))) (View.ld (arg9.view.read (Elt F) f9) (Rect.unit (k1_off36 i k) S64x128.size (k1_off36_inb i k))) (View.ld (arg8.view.read (Elt F) f8) (Rect.unit (k1_off29 i k) S1x1x1x128x128.size (k1_off29_inb i k)))⟩,
      ⟨Rect.unit (k1_off30 i k) S1x64x128.size (k1_off30_inb i k), dqB false (View.ld (arg9.view.read (Elt F) f9) (Rect.unit (k1_off35 i k) S64x128.size (k1_off35_inb i k))) (View.ld (arg9.view.read (Elt F) f9) (Rect.unit (k1_off36 i k) S64x128.size (k1_off36_inb i k))) (View.ld (arg8.view.read (Elt F) f8) (Rect.unit (k1_off28 i k) S1x1x1x128x128.size (k1_off28_inb i k)))⟩,
      ⟨Rect.unit (k1_off22 i k) S1x64x128.size (k1_off22_inb i k), dqB true (View.ld (arg9.view.read (Elt F) f9) (Rect.unit (k1_off26 i k) S64x128.size (k1_off26_inb i k))) (View.ld (arg9.view.read (Elt F) f9) (Rect.unit (k1_off27 i k) S64x128.size (k1_off27_inb i k))) (View.ld (arg8.view.read (Elt F) f8) (Rect.unit (k1_off20 i k) S1x1x1x128x128.size (k1_off20_inb i k)))⟩,
      ⟨Rect.unit (k1_off21 i k) S1x64x128.size (k1_off21_inb i k), dqB false (View.ld (arg9.view.read (Elt F) f9) (Rect.unit (k1_off26 i k) S64x128.size (k1_off26_inb i k))) (View.ld (arg9.view.read (Elt F) f9) (Rect.unit (k1_off27 i k) S64x128.size (k1_off27_inb i k))) (View.ld (arg8.view.read (Elt F) f8) (Rect.unit (k1_off19 i k) S1x1x1x128x128.size (k1_off19_inb i k)))⟩,
      ⟨Rect.unit (k1_off13 i k) S1x64x128.size (k1_off13_inb i k), dqB true (View.ld (arg9.view.read (Elt F) f9) (Rect.unit (k1_off17 i k) S64x128.size (k1_off17_inb i k))) (View.ld (arg9.view.read (Elt F) f9) (Rect.unit (k1_off18 i k) S64x128.size (k1_off18_inb i k))) (View.ld (arg8.view.read (Elt F) f8) (Rect.unit (k1_off11 i k) S1x1x1x128x128.size (k1_off11_inb i k)))⟩,
      ⟨Rect.unit (k1_off12 i k) S1x64x128.size (k1_off12_inb i k), dqB false (View.ld (arg9.view.read (Elt F) f9) (Rect.unit (k1_off17 i k) S64x128.size (k1_off17_inb i k))) (View.ld (arg9.view.read (Elt F) f9) (Rect.unit (k1_off18 i k) S64x128.size (k1_off18_inb i k))) (View.ld (arg8.view.read (Elt F) f8) (Rect.unit (k1_off10 i k) S1x1x1x128x128.size (k1_off10_inb i k)))⟩,
      ⟨Rect.unit (k1_off4 i k) S1x64x128.size (k1_off4_inb i k), dqB true (View.ld (arg9.view.read (Elt F) f9) (Rect.unit (k1_off8 i k) S64x128.size (k1_off8_inb i k))) (View.ld (arg9.view.read (Elt F) f9) (Rect.unit (k1_off9 i k) S64x128.size (k1_off9_inb i k))) (View.ld (arg8.view.read (Elt F) f8) (Rect.unit (k1_off2 i k) S1x1x1x128x128.size (k1_off2_inb i k)))⟩,
      ⟨Rect.unit (k1_off3 i k) S1x64x128.size (k1_off3_inb i k), dqB false (View.ld (arg9.view.read (Elt F) f9) (Rect.unit (k1_off8 i k) S64x128.size (k1_off8_inb i k))) (View.ld (arg9.view.read (Elt F) f9) (Rect.unit (k1_off9 i k) S64x128.size (k1_off9_inb i k))) (View.ld (arg8.view.read (Elt F) f8) (Rect.unit (k1_off1 i k) S1x1x1x128x128.size (k1_off1_inb i k)))⟩] := rfl

theorem trip1_dk_raw : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.1 =
     [⟨Rect.unit (k1_off31 i k) S1x64x128.size (k1_off31_inb i k), dkB (View.ld (arg16.view.read (Elt F) f16) (Rect.unit ![7, 0, 0] S1x128x128.size inb_S8x128x128_S1x128x128_7_0_0)) (View.ld (arg2.view.read (Elt F) f2) (Rect.unit (k1_off31 i k) S1x64x128.size (k1_off31_inb i k))) (View.ld (arg3.view.read (Elt F) f3) (Rect.unit (k1_off31 i k) S1x64x128.size (k1_off31_inb i k))) (View.ld (arg8.view.read (Elt F) f8) (Rect.unit (k1_off29 i k) S1x1x1x128x128.size (k1_off29_inb i k)))⟩,
      ⟨Rect.unit (k1_off30 i k) S1x64x128.size (k1_off30_inb i k), dkB (View.ld (arg16.view.read (Elt F) f16) (Rect.unit ![6, 0, 0] S1x128x128.size inb_S8x128x128_S1x128x128_6_0_0)) (View.ld (arg2.view.read (Elt F) f2) (Rect.unit (k1_off30 i k) S1x64x128.size (k1_off30_inb i k))) (View.ld (arg3.view.read (Elt F) f3) (Rect.unit (k1_off30 i k) S1x64x128.size (k1_off30_inb i k))) (View.ld (arg8.view.read (Elt F) f8) (Rect.unit (k1_off28 i k) S1x1x1x128x128.size (k1_off28_inb i k)))⟩,
      ⟨Rect.unit (k1_off22 i k) S1x64x128.size (k1_off22_inb i k), dkB (View.ld (arg16.view.read (Elt F) f16) (Rect.unit ![5, 0, 0] S1x128x128.size inb_S8x128x128_S1x128x128_5_0_0)) (View.ld (arg2.view.read (Elt F) f2) (Rect.unit (k1_off22 i k) S1x64x128.size (k1_off22_inb i k))) (View.ld (arg3.view.read (Elt F) f3) (Rect.unit (k1_off22 i k) S1x64x128.size (k1_off22_inb i k))) (View.ld (arg8.view.read (Elt F) f8) (Rect.unit (k1_off20 i k) S1x1x1x128x128.size (k1_off20_inb i k)))⟩,
      ⟨Rect.unit (k1_off21 i k) S1x64x128.size (k1_off21_inb i k), dkB (View.ld (arg16.view.read (Elt F) f16) (Rect.unit ![4, 0, 0] S1x128x128.size inb_S8x128x128_S1x128x128_4_0_0)) (View.ld (arg2.view.read (Elt F) f2) (Rect.unit (k1_off21 i k) S1x64x128.size (k1_off21_inb i k))) (View.ld (arg3.view.read (Elt F) f3) (Rect.unit (k1_off21 i k) S1x64x128.size (k1_off21_inb i k))) (View.ld (arg8.view.read (Elt F) f8) (Rect.unit (k1_off19 i k) S1x1x1x128x128.size (k1_off19_inb i k)))⟩,
      ⟨Rect.unit (k1_off13 i k) S1x64x128.size (k1_off13_inb i k), dkB (View.ld (arg16.view.read (Elt F) f16) (Rect.unit ![3, 0, 0] S1x128x128.size inb_S8x128x128_S1x128x128_3_0_0)) (View.ld (arg2.view.read (Elt F) f2) (Rect.unit (k1_off13 i k) S1x64x128.size (k1_off13_inb i k))) (View.ld (arg3.view.read (Elt F) f3) (Rect.unit (k1_off13 i k) S1x64x128.size (k1_off13_inb i k))) (View.ld (arg8.view.read (Elt F) f8) (Rect.unit (k1_off11 i k) S1x1x1x128x128.size (k1_off11_inb i k)))⟩,
      ⟨Rect.unit (k1_off12 i k) S1x64x128.size (k1_off12_inb i k), dkB (View.ld (arg16.view.read (Elt F) f16) (Rect.unit ![2, 0, 0] S1x128x128.size inb_S8x128x128_S1x128x128_2_0_0)) (View.ld (arg2.view.read (Elt F) f2) (Rect.unit (k1_off12 i k) S1x64x128.size (k1_off12_inb i k))) (View.ld (arg3.view.read (Elt F) f3) (Rect.unit (k1_off12 i k) S1x64x128.size (k1_off12_inb i k))) (View.ld (arg8.view.read (Elt F) f8) (Rect.unit (k1_off10 i k) S1x1x1x128x128.size (k1_off10_inb i k)))⟩,
      ⟨Rect.unit (k1_off4 i k) S1x64x128.size (k1_off4_inb i k), dkB (View.ld (arg16.view.read (Elt F) f16) (Rect.unit ![1, 0, 0] S1x128x128.size inb_S8x128x128_S1x128x128_1_0_0)) (View.ld (arg2.view.read (Elt F) f2) (Rect.unit (k1_off4 i k) S1x64x128.size (k1_off4_inb i k))) (View.ld (arg3.view.read (Elt F) f3) (Rect.unit (k1_off4 i k) S1x64x128.size (k1_off4_inb i k))) (View.ld (arg8.view.read (Elt F) f8) (Rect.unit (k1_off2 i k) S1x1x1x128x128.size (k1_off2_inb i k)))⟩,
      ⟨Rect.unit (k1_off3 i k) S1x64x128.size (k1_off3_inb i k), dkB (View.ld (arg16.view.read (Elt F) f16) (Rect.unit ![0, 0, 0] S1x128x128.size inb_S8x128x128_S1x128x128_0_0_0)) (View.ld (arg2.view.read (Elt F) f2) (Rect.unit (k1_off3 i k) S1x64x128.size (k1_off3_inb i k))) (View.ld (arg3.view.read (Elt F) f3) (Rect.unit (k1_off3 i k) S1x64x128.size (k1_off3_inb i k))) (View.ld (arg8.view.read (Elt F) f8) (Rect.unit (k1_off1 i k) S1x1x1x128x128.size (k1_off1_inb i k)))⟩] := rfl

theorem trip1_dp_raw : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.2.1 =
     [⟨Rect.unit (k1_off32 i k) S1x1x1x128x128.size (k1_off32_inb i k), dpB (View.ld (arg2.view.read (Elt F) f2) (Rect.unit (k1_off30 i k) S1x64x128.size (k1_off30_inb i k))) (View.ld (arg2.view.read (Elt F) f2) (Rect.unit (k1_off31 i k) S1x64x128.size (k1_off31_inb i k))) (View.ld (arg3.view.read (Elt F) f3) (Rect.unit (k1_off30 i k) S1x64x128.size (k1_off30_inb i k))) (View.ld (arg3.view.read (Elt F) f3) (Rect.unit (k1_off31 i k) S1x64x128.size (k1_off31_inb i k))) (View.ld (arg8.view.read (Elt F) f8) (Rect.unit (k1_off28 i k) S1x1x1x128x128.size (k1_off28_inb i k))) (View.ld (arg8.view.read (Elt F) f8) (Rect.unit (k1_off29 i k) S1x1x1x128x128.size (k1_off29_inb i k))) (View.ld (arg9.view.read (Elt F) f9) (Rect.unit (k1_off35 i k) S64x128.size (k1_off35_inb i k))) (View.ld (arg9.view.read (Elt F) f9) (Rect.unit (k1_off36 i k) S64x128.size (k1_off36_inb i k)))⟩,
      ⟨Rect.unit (k1_off23 i k) S1x1x1x128x128.size (k1_off23_inb i k), dpB (View.ld (arg2.view.read (Elt F) f2) (Rect.unit (k1_off21 i k) S1x64x128.size (k1_off21_inb i k))) (View.ld (arg2.view.read (Elt F) f2) (Rect.unit (k1_off22 i k) S1x64x128.size (k1_off22_inb i k))) (View.ld (arg3.view.read (Elt F) f3) (Rect.unit (k1_off21 i k) S1x64x128.size (k1_off21_inb i k))) (View.ld (arg3.view.read (Elt F) f3) (Rect.unit (k1_off22 i k) S1x64x128.size (k1_off22_inb i k))) (View.ld (arg8.view.read (Elt F) f8) (Rect.unit (k1_off19 i k) S1x1x1x128x128.size (k1_off19_inb i k))) (View.ld (arg8.view.read (Elt F) f8) (Rect.unit (k1_off20 i k) S1x1x1x128x128.size (k1_off20_inb i k))) (View.ld (arg9.view.read (Elt F) f9) (Rect.unit (k1_off26 i k) S64x128.size (k1_off26_inb i k))) (View.ld (arg9.view.read (Elt F) f9) (Rect.unit (k1_off27 i k) S64x128.size (k1_off27_inb i k)))⟩,
      ⟨Rect.unit (k1_off14 i k) S1x1x1x128x128.size (k1_off14_inb i k), dpB (View.ld (arg2.view.read (Elt F) f2) (Rect.unit (k1_off12 i k) S1x64x128.size (k1_off12_inb i k))) (View.ld (arg2.view.read (Elt F) f2) (Rect.unit (k1_off13 i k) S1x64x128.size (k1_off13_inb i k))) (View.ld (arg3.view.read (Elt F) f3) (Rect.unit (k1_off12 i k) S1x64x128.size (k1_off12_inb i k))) (View.ld (arg3.view.read (Elt F) f3) (Rect.unit (k1_off13 i k) S1x64x128.size (k1_off13_inb i k))) (View.ld (arg8.view.read (Elt F) f8) (Rect.unit (k1_off10 i k) S1x1x1x128x128.size (k1_off10_inb i k))) (View.ld (arg8.view.read (Elt F) f8) (Rect.unit (k1_off11 i k) S1x1x1x128x128.size (k1_off11_inb i k))) (View.ld (arg9.view.read (Elt F) f9) (Rect.unit (k1_off17 i k) S64x128.size (k1_off17_inb i k))) (View.ld (arg9.view.read (Elt F) f9) (Rect.unit (k1_off18 i k) S64x128.size (k1_off18_inb i k)))⟩,
      ⟨Rect.unit (k1_off5 i k) S1x1x1x128x128.size (k1_off5_inb i k), dpB (View.ld (arg2.view.read (Elt F) f2) (Rect.unit (k1_off3 i k) S1x64x128.size (k1_off3_inb i k))) (View.ld (arg2.view.read (Elt F) f2) (Rect.unit (k1_off4 i k) S1x64x128.size (k1_off4_inb i k))) (View.ld (arg3.view.read (Elt F) f3) (Rect.unit (k1_off3 i k) S1x64x128.size (k1_off3_inb i k))) (View.ld (arg3.view.read (Elt F) f3) (Rect.unit (k1_off4 i k) S1x64x128.size (k1_off4_inb i k))) (View.ld (arg8.view.read (Elt F) f8) (Rect.unit (k1_off1 i k) S1x1x1x128x128.size (k1_off1_inb i k))) (View.ld (arg8.view.read (Elt F) f8) (Rect.unit (k1_off2 i k) S1x1x1x128x128.size (k1_off2_inb i k))) (View.ld (arg9.view.read (Elt F) f9) (Rect.unit (k1_off8 i k) S64x128.size (k1_off8_inb i k))) (View.ld (arg9.view.read (Elt F) f9) (Rect.unit (k1_off9 i k) S64x128.size (k1_off9_inb i k)))⟩] := rfl

theorem trip1_dg_raw : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.2.2.1 =
     [⟨Rect.unit (k1_off34 i k) S1x1x1x128.size (k1_off34_inb i k), dgB (View.ld (arg16.view.read (Elt F) f16) (Rect.unit ![7, 0, 0] S1x128x128.size inb_S8x128x128_S1x128x128_7_0_0)) (View.ld (arg8.view.read (Elt F) f8) (Rect.unit (k1_off29 i k) S1x1x1x128x128.size (k1_off29_inb i k)))⟩,
      ⟨Rect.unit (k1_off33 i k) S1x1x1x128.size (k1_off33_inb i k), dgB (View.ld (arg16.view.read (Elt F) f16) (Rect.unit ![6, 0, 0] S1x128x128.size inb_S8x128x128_S1x128x128_6_0_0)) (View.ld (arg8.view.read (Elt F) f8) (Rect.unit (k1_off28 i k) S1x1x1x128x128.size (k1_off28_inb i k)))⟩,
      ⟨Rect.unit (k1_off25 i k) S1x1x1x128.size (k1_off25_inb i k), dgB (View.ld (arg16.view.read (Elt F) f16) (Rect.unit ![5, 0, 0] S1x128x128.size inb_S8x128x128_S1x128x128_5_0_0)) (View.ld (arg8.view.read (Elt F) f8) (Rect.unit (k1_off20 i k) S1x1x1x128x128.size (k1_off20_inb i k)))⟩,
      ⟨Rect.unit (k1_off24 i k) S1x1x1x128.size (k1_off24_inb i k), dgB (View.ld (arg16.view.read (Elt F) f16) (Rect.unit ![4, 0, 0] S1x128x128.size inb_S8x128x128_S1x128x128_4_0_0)) (View.ld (arg8.view.read (Elt F) f8) (Rect.unit (k1_off19 i k) S1x1x1x128x128.size (k1_off19_inb i k)))⟩,
      ⟨Rect.unit (k1_off16 i k) S1x1x1x128.size (k1_off16_inb i k), dgB (View.ld (arg16.view.read (Elt F) f16) (Rect.unit ![3, 0, 0] S1x128x128.size inb_S8x128x128_S1x128x128_3_0_0)) (View.ld (arg8.view.read (Elt F) f8) (Rect.unit (k1_off11 i k) S1x1x1x128x128.size (k1_off11_inb i k)))⟩,
      ⟨Rect.unit (k1_off15 i k) S1x1x1x128.size (k1_off15_inb i k), dgB (View.ld (arg16.view.read (Elt F) f16) (Rect.unit ![2, 0, 0] S1x128x128.size inb_S8x128x128_S1x128x128_2_0_0)) (View.ld (arg8.view.read (Elt F) f8) (Rect.unit (k1_off10 i k) S1x1x1x128x128.size (k1_off10_inb i k)))⟩,
      ⟨Rect.unit (k1_off7 i k) S1x1x1x128.size (k1_off7_inb i k), dgB (View.ld (arg16.view.read (Elt F) f16) (Rect.unit ![1, 0, 0] S1x128x128.size inb_S8x128x128_S1x128x128_1_0_0)) (View.ld (arg8.view.read (Elt F) f8) (Rect.unit (k1_off2 i k) S1x1x1x128x128.size (k1_off2_inb i k)))⟩,
      ⟨Rect.unit (k1_off6 i k) S1x1x1x128.size (k1_off6_inb i k), dgB (View.ld (arg16.view.read (Elt F) f16) (Rect.unit ![0, 0, 0] S1x128x128.size inb_S8x128x128_S1x128x128_0_0_0)) (View.ld (arg8.view.read (Elt F) f8) (Rect.unit (k1_off1 i k) S1x1x1x128x128.size (k1_off1_inb i k)))⟩] := rfl

theorem trip1_st_raw : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.2.2.2.1 =
     [⟨Rect.unit ![7, 0, 0] S1x128x128.size inb_S8x128x128_S1x128x128_7_0_0, dsB true (View.ld (arg16.view.read (Elt F) f16) (Rect.unit ![7, 0, 0] S1x128x128.size inb_S8x128x128_S1x128x128_7_0_0)) (View.ld (arg3.view.read (Elt F) f3) (Rect.unit (k1_off31 i k) S1x64x128.size (k1_off31_inb i k))) (View.ld (arg4.view.read (Elt F) f4) (Rect.unit (k1_off31 i k) S1x64x128.size (k1_off31_inb i k))) (View.ld (arg5.view.read (Elt F) f5) (Rect.unit (k1_off31 i k) S1x64x128.size (k1_off31_inb i k))) (View.ld (arg6.view.read (Elt F) f6) (Rect.unit (k1_off32 i k) S1x1x1x128x128.size (k1_off32_inb i k))) (View.ld (arg7.view.read (Elt F) f7) (Rect.unit (k1_off34 i k) S1x1x1x128.size (k1_off34_inb i k))) (View.ld (arg9.view.read (Elt F) f9) (Rect.unit (k1_off35 i k) S64x128.size (k1_off35_inb i k))) (View.ld (arg9.view.read (Elt F) f9) (Rect.unit (k1_off36 i k) S64x128.size (k1_off36_inb i k)))⟩,
      ⟨Rect.unit ![6, 0, 0] S1x128x128.size inb_S8x128x128_S1x128x128_6_0_0, dsB false (View.ld (arg16.view.read (Elt F) f16) (Rect.unit ![6, 0, 0] S1x128x128.size inb_S8x128x128_S1x128x128_6_0_0)) (View.ld (arg3.view.read (Elt F) f3) (Rect.unit (k1_off30 i k) S1x64x128.size (k1_off30_inb i k))) (View.ld (arg4.view.read (Elt F) f4) (Rect.unit (k1_off30 i k) S1x64x128.size (k1_off30_inb i k))) (View.ld (arg5.view.read (Elt F) f5) (Rect.unit (k1_off30 i k) S1x64x128.size (k1_off30_inb i k))) (View.ld (arg6.view.read (Elt F) f6) (Rect.unit (k1_off32 i k) S1x1x1x128x128.size (k1_off32_inb i k))) (View.ld (arg7.view.read (Elt F) f7) (Rect.unit (k1_off33 i k) S1x1x1x128.size (k1_off33_inb i k))) (View.ld (arg9.view.read (Elt F) f9) (Rect.unit (k1_off35 i k) S64x128.size (k1_off35_inb i k))) (View.ld (arg9.view.read (Elt F) f9) (Rect.unit (k1_off36 i k) S64x128.size (k1_off36_inb i k)))⟩,
      ⟨Rect.unit ![5, 0, 0] S1x128x128.size inb_S8x128x128_S1x128x128_5_0_0, dsB true (View.ld (arg16.view.read (Elt F) f16) (Rect.unit ![5, 0, 0] S1x128x128.size inb_S8x128x128_S1x128x128_5_0_0)) (View.ld (arg3.view.read (Elt F) f3) (Rect.unit (k1_off22 i k) S1x64x128.size (k1_off22_inb i k))) (View.ld (arg4.view.read (Elt F) f4) (Rect.unit (k1_off22 i k) S1x64x128.size (k1_off22_inb i k))) (View.ld (arg5.view.read (Elt F) f5) (Rect.unit (k1_off22 i k) S1x64x128.size (k1_off22_inb i k))) (View.ld (arg6.view.read (Elt F) f6) (Rect.unit (k1_off23 i k) S1x1x1x128x128.size (k1_off23_inb i k))) (View.ld (arg7.view.read (Elt F) f7) (Rect.unit (k1_off25 i k) S1x1x1x128.size (k1_off25_inb i k))) (View.ld (arg9.view.read (Elt F) f9) (Rect.unit (k1_off26 i k) S64x128.size (k1_off26_inb i k))) (View.ld (arg9.view.read (Elt F) f9) (Rect.unit (k1_off27 i k) S64x128.size (k1_off27_inb i k)))⟩,
      ⟨Rect.unit ![4, 0, 0] S1x128x128.size inb_S8x128x128_S1x128x128_4_0_0, dsB false (View.ld (arg16.view.read (Elt F) f16) (Rect.unit ![4, 0, 0] S1x128x128.size inb_S8x128x128_S1x128x128_4_0_0)) (View.ld (arg3.view.read (Elt F) f3) (Rect.unit (k1_off21 i k) S1x64x128.size (k1_off21_inb i k))) (View.ld (arg4.view.read (Elt F) f4) (Rect.unit (k1_off21 i k) S1x64x128.size (k1_off21_inb i k))) (View.ld (arg5.view.read (Elt F) f5) (Rect.unit (k1_off21 i k) S1x64x128.size (k1_off21_inb i k))) (View.ld (arg6.view.read (Elt F) f6) (Rect.unit (k1_off23 i k) S1x1x1x128x128.size (k1_off23_inb i k))) (View.ld (arg7.view.read (Elt F) f7) (Rect.unit (k1_off24 i k) S1x1x1x128.size (k1_off24_inb i k))) (View.ld (arg9.view.read (Elt F) f9) (Rect.unit (k1_off26 i k) S64x128.size (k1_off26_inb i k))) (View.ld (arg9.view.read (Elt F) f9) (Rect.unit (k1_off27 i k) S64x128.size (k1_off27_inb i k)))⟩,
      ⟨Rect.unit ![3, 0, 0] S1x128x128.size inb_S8x128x128_S1x128x128_3_0_0, dsB true (View.ld (arg16.view.read (Elt F) f16) (Rect.unit ![3, 0, 0] S1x128x128.size inb_S8x128x128_S1x128x128_3_0_0)) (View.ld (arg3.view.read (Elt F) f3) (Rect.unit (k1_off13 i k) S1x64x128.size (k1_off13_inb i k))) (View.ld (arg4.view.read (Elt F) f4) (Rect.unit (k1_off13 i k) S1x64x128.size (k1_off13_inb i k))) (View.ld (arg5.view.read (Elt F) f5) (Rect.unit (k1_off13 i k) S1x64x128.size (k1_off13_inb i k))) (View.ld (arg6.view.read (Elt F) f6) (Rect.unit (k1_off14 i k) S1x1x1x128x128.size (k1_off14_inb i k))) (View.ld (arg7.view.read (Elt F) f7) (Rect.unit (k1_off16 i k) S1x1x1x128.size (k1_off16_inb i k))) (View.ld (arg9.view.read (Elt F) f9) (Rect.unit (k1_off17 i k) S64x128.size (k1_off17_inb i k))) (View.ld (arg9.view.read (Elt F) f9) (Rect.unit (k1_off18 i k) S64x128.size (k1_off18_inb i k)))⟩,
      ⟨Rect.unit ![2, 0, 0] S1x128x128.size inb_S8x128x128_S1x128x128_2_0_0, dsB false (View.ld (arg16.view.read (Elt F) f16) (Rect.unit ![2, 0, 0] S1x128x128.size inb_S8x128x128_S1x128x128_2_0_0)) (View.ld (arg3.view.read (Elt F) f3) (Rect.unit (k1_off12 i k) S1x64x128.size (k1_off12_inb i k))) (View.ld (arg4.view.read (Elt F) f4) (Rect.unit (k1_off12 i k) S1x64x128.size (k1_off12_inb i k))) (View.ld (arg5.view.read (Elt F) f5) (Rect.unit (k1_off12 i k) S1x64x128.size (k1_off12_inb i k))) (View.ld (arg6.view.read (Elt F) f6) (Rect.unit (k1_off14 i k) S1x1x1x128x128.size (k1_off14_inb i k))) (View.ld (arg7.view.read (Elt F) f7) (Rect.unit (k1_off15 i k) S1x1x1x128.size (k1_off15_inb i k))) (View.ld (arg9.view.read (Elt F) f9) (Rect.unit (k1_off17 i k) S64x128.size (k1_off17_inb i k))) (View.ld (arg9.view.read (Elt F) f9) (Rect.unit (k1_off18 i k) S64x128.size (k1_off18_inb i k)))⟩,
      ⟨Rect.unit ![1, 0, 0] S1x128x128.size inb_S8x128x128_S1x128x128_1_0_0, dsB true (View.ld (arg16.view.read (Elt F) f16) (Rect.unit ![1, 0, 0] S1x128x128.size inb_S8x128x128_S1x128x128_1_0_0)) (View.ld (arg3.view.read (Elt F) f3) (Rect.unit (k1_off4 i k) S1x64x128.size (k1_off4_inb i k))) (View.ld (arg4.view.read (Elt F) f4) (Rect.unit (k1_off4 i k) S1x64x128.size (k1_off4_inb i k))) (View.ld (arg5.view.read (Elt F) f5) (Rect.unit (k1_off4 i k) S1x64x128.size (k1_off4_inb i k))) (View.ld (arg6.view.read (Elt F) f6) (Rect.unit (k1_off5 i k) S1x1x1x128x128.size (k1_off5_inb i k))) (View.ld (arg7.view.read (Elt F) f7) (Rect.unit (k1_off7 i k) S1x1x1x128.size (k1_off7_inb i k))) (View.ld (arg9.view.read (Elt F) f9) (Rect.unit (k1_off8 i k) S64x128.size (k1_off8_inb i k))) (View.ld (arg9.view.read (Elt F) f9) (Rect.unit (k1_off9 i k) S64x128.size (k1_off9_inb i k)))⟩,
      ⟨Rect.unit ![0, 0, 0] S1x128x128.size inb_S8x128x128_S1x128x128_0_0_0, dsB false (View.ld (arg16.view.read (Elt F) f16) (Rect.unit ![0, 0, 0] S1x128x128.size inb_S8x128x128_S1x128x128_0_0_0)) (View.ld (arg3.view.read (Elt F) f3) (Rect.unit (k1_off3 i k) S1x64x128.size (k1_off3_inb i k))) (View.ld (arg4.view.read (Elt F) f4) (Rect.unit (k1_off3 i k) S1x64x128.size (k1_off3_inb i k))) (View.ld (arg5.view.read (Elt F) f5) (Rect.unit (k1_off3 i k) S1x64x128.size (k1_off3_inb i k))) (View.ld (arg6.view.read (Elt F) f6) (Rect.unit (k1_off5 i k) S1x1x1x128x128.size (k1_off5_inb i k))) (View.ld (arg7.view.read (Elt F) f7) (Rect.unit (k1_off6 i k) S1x1x1x128.size (k1_off6_inb i k))) (View.ld (arg9.view.read (Elt F) f9) (Rect.unit (k1_off8 i k) S64x128.size (k1_off8_inb i k))) (View.ld (arg9.view.read (Elt F) f9) (Rect.unit (k1_off9 i k) S64x128.size (k1_off9_inb i k)))⟩] := rfl

end Cert.Proof.KernelIdeal

end
-- ==== Proof.StepB.lean ====
/- What one trip of the backward scan leaves: the gradients of its chunk and the carried gradients of the states. -/
module

public import proofs.«01_k».proof.Proof.ListB
public import proofs.«01_k».proof.Proof.Windows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid1.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x8x8x128x128 .f32) (harg8 : arg8.IsWhole) (arg9 : Memref sig .tc .vmem S512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S1x8x4x128x128 .f32) (harg14 : arg14.IsWhole) (arg15 : Memref sig .tc .vmem S1x8x8x128 .f32) (harg15 : arg15.IsWhole) (arg16 : Memref sig .tc .vmem S8x128x128 .f32) (harg16 : arg16.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (k : Fin k1_t1_loop.trips)

variable {U : Vec F S2x16384x1024 .f32} {W Q K : Vec F S2x16384x1024 .bf16} {P : Vec F S2x256x4x128x128 .bf16} {E : Vec F S2x256x8x128 .f32}
  {S : Vec F S2x256x8x128x128 .f32} {D : Vec F S16384x1024 .bf16} {b d s : ℕ}
  (h2 : arg2.view.read (Elt F) f2 = blk U S1x512x1024.size ![d, 512 * b, 0]) (h3 : arg3.view.read (Elt F) f3 = blk W S1x512x1024.size ![d, 512 * b, 0])
  (h4 : arg4.view.read (Elt F) f4 = blk Q S1x512x1024.size ![d, 512 * b, 0]) (h5 : arg5.view.read (Elt F) f5 = blk K S1x512x1024.size ![d, 512 * b, 0])
  (h6 : arg6.view.read (Elt F) f6 = blk P S1x8x4x128x128.size ![d, 8 * b, 0, 0, 0]) (h7 : arg7.view.read (Elt F) f7 = blk E S1x8x8x128.size ![d, 8 * b, 0, 0])
  (h8 : arg8.view.read (Elt F) f8 = blk S S1x8x8x128x128.size ![d, 8 * b, 0, 0, 0]) (h9 : arg9.view.read (Elt F) f9 = blk D S512x1024.size ![512 * b, 0])
  (h16 : arg16.view.read (Elt F) f16 = StB W Q K P E D d s) (hc : cB d s = 8 * b + pcB i k)

include h5 h6 h9 h16 hc in
/-- The trip stores the gradients of `u` at its chunk, and nothing else in their window. -/
theorem trip1_du (y : S1x512x1024.Idx) : arg10.view.read (Elt F) (arg10.view.writes (Elt F) f10 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).1) y
    = if (y 1).val / 64 = pcB i k then duC W Q K P E D d s ((y 2).val / 128) (wr ![0, (y 1).val % 64, (y 2).val % 128]) else arg10.view.read (Elt F) f10 y := by
  rw [trip1_du_raw]
  simp only [ld_hd h16 inb_S8x128x128_S1x128x128_0_0_0,
    ld_hd h16 inb_S8x128x128_S1x128x128_1_0_0,
    ld_hd h16 inb_S8x128x128_S1x128x128_2_0_0,
    ld_hd h16 inb_S8x128x128_S1x128x128_3_0_0,
    ld_hd h16 inb_S8x128x128_S1x128x128_4_0_0,
    ld_hd h16 inb_S8x128x128_S1x128x128_5_0_0,
    ld_hd h16 inb_S8x128x128_S1x128x128_6_0_0,
    ld_hd h16 inb_S8x128x128_S1x128x128_7_0_0,
    ld_row h5 (pcB_lt i k) hc (k1_off3_inb i k) (k1_off3_eq i k) (show 0 < 8 by decide),
    ld_row h5 (pcB_lt i k) hc (k1_off4_inb i k) (k1_off4_eq i k) (show 1 < 8 by decide),
    ld_row h5 (pcB_lt i k) hc (k1_off12_inb i k) (k1_off12_eq i k) (show 2 < 8 by decide),
    ld_row h5 (pcB_lt i k) hc (k1_off13_inb i k) (k1_off13_eq i k) (show 3 < 8 by decide),
    ld_row h5 (pcB_lt i k) hc (k1_off21_inb i k) (k1_off21_eq i k) (show 4 < 8 by decide),
    ld_row h5 (pcB_lt i k) hc (k1_off22_inb i k) (k1_off22_eq i k) (show 5 < 8 by decide),
    ld_row h5 (pcB_lt i k) hc (k1_off30_inb i k) (k1_off30_eq i k) (show 6 < 8 by decide),
    ld_row h5 (pcB_lt i k) hc (k1_off31_inb i k) (k1_off31_eq i k) (show 7 < 8 by decide),
    ld_pair h6 (pcB_lt i k) hc (k1_off5_inb i k) (k1_off5_eq i k) (show 0 < 4 by decide),
    ld_pair h6 (pcB_lt i k) hc (k1_off14_inb i k) (k1_off14_eq i k) (show 1 < 4 by decide),
    ld_pair h6 (pcB_lt i k) hc (k1_off23_inb i k) (k1_off23_eq i k) (show 2 < 4 by decide),
    ld_pair h6 (pcB_lt i k) hc (k1_off32_inb i k) (k1_off32_eq i k) (show 3 < 4 by decide),
    ld_rowC h9 (pcB_lt i k) hc (k1_off8_inb i k) (k1_off8_eq i k) (show 0 < 8 by decide),
    ld_rowC h9 (pcB_lt i k) hc (k1_off9_inb i k) (k1_off9_eq i k) (show 1 < 8 by decide),
    ld_rowC h9 (pcB_lt i k) hc (k1_off17_inb i k) (k1_off17_eq i k) (show 2 < 8 by decide),
    ld_rowC h9 (pcB_lt i k) hc (k1_off18_inb i k) (k1_off18_eq i k) (show 3 < 8 by decide),
    ld_rowC h9 (pcB_lt i k) hc (k1_off26_inb i k) (k1_off26_eq i k) (show 4 < 8 by decide),
    ld_rowC h9 (pcB_lt i k) hc (k1_off27_inb i k) (k1_off27_eq i k) (show 5 < 8 by decide),
    ld_rowC h9 (pcB_lt i k) hc (k1_off35_inb i k) (k1_off35_eq i k) (show 6 < 8 by decide),
    ld_rowC h9 (pcB_lt i k) hc (k1_off36_inb i k) (k1_off36_eq i k) (show 7 < 8 by decide)]
  exact read_rows arg10.view f10 ![k1_off3 i k, k1_off4 i k, k1_off12 i k, k1_off13 i k, k1_off21 i k, k1_off22 i k, k1_off30 i k, k1_off31 i k] (by intro h; fin_cases h; exacts [k1_off3_eq i k, k1_off4_eq i k, k1_off12_eq i k, k1_off13_eq i k, k1_off21_eq i k, k1_off22_eq i k, k1_off30_eq i k, k1_off31_eq i k]) (by intro h; fin_cases h; exacts [k1_off3_inb i k, k1_off4_inb i k, k1_off12_inb i k, k1_off13_inb i k, k1_off21_inb i k, k1_off22_inb i k, k1_off30_inb i k, k1_off31_inb i k]) (fun h => duC W Q K P E D d s h) y

include h5 h6 h8 h9 h16 hc in
/-- The trip stores the gradients of `w` at its chunk, and nothing else in their window. -/
theorem trip1_dw (y : S1x512x1024.Idx) : arg11.view.read (Elt F) (arg11.view.writes (Elt F) f11 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.1) y
    = if (y 1).val / 64 = pcB i k then dwC W Q K P E S D d s ((y 2).val / 128) (wr ![0, (y 1).val % 64, (y 2).val % 128]) else arg11.view.read (Elt F) f11 y := by
  rw [trip1_dw_raw]
  simp only [ld_hd h16 inb_S8x128x128_S1x128x128_0_0_0,
    ld_hd h16 inb_S8x128x128_S1x128x128_1_0_0,
    ld_hd h16 inb_S8x128x128_S1x128x128_2_0_0,
    ld_hd h16 inb_S8x128x128_S1x128x128_3_0_0,
    ld_hd h16 inb_S8x128x128_S1x128x128_4_0_0,
    ld_hd h16 inb_S8x128x128_S1x128x128_5_0_0,
    ld_hd h16 inb_S8x128x128_S1x128x128_6_0_0,
    ld_hd h16 inb_S8x128x128_S1x128x128_7_0_0,
    ld_row h5 (pcB_lt i k) hc (k1_off3_inb i k) (k1_off3_eq i k) (show 0 < 8 by decide),
    ld_row h5 (pcB_lt i k) hc (k1_off4_inb i k) (k1_off4_eq i k) (show 1 < 8 by decide),
    ld_row h5 (pcB_lt i k) hc (k1_off12_inb i k) (k1_off12_eq i k) (show 2 < 8 by decide),
    ld_row h5 (pcB_lt i k) hc (k1_off13_inb i k) (k1_off13_eq i k) (show 3 < 8 by decide),
    ld_row h5 (pcB_lt i k) hc (k1_off21_inb i k) (k1_off21_eq i k) (show 4 < 8 by decide),
    ld_row h5 (pcB_lt i k) hc (k1_off22_inb i k) (k1_off22_eq i k) (show 5 < 8 by decide),
    ld_row h5 (pcB_lt i k) hc (k1_off30_inb i k) (k1_off30_eq i k) (show 6 < 8 by decide),
    ld_row h5 (pcB_lt i k) hc (k1_off31_inb i k) (k1_off31_eq i k) (show 7 < 8 by decide),
    ld_pair h6 (pcB_lt i k) hc (k1_off5_inb i k) (k1_off5_eq i k) (show 0 < 4 by decide),
    ld_pair h6 (pcB_lt i k) hc (k1_off14_inb i k) (k1_off14_eq i k) (show 1 < 4 by decide),
    ld_pair h6 (pcB_lt i k) hc (k1_off23_inb i k) (k1_off23_eq i k) (show 2 < 4 by decide),
    ld_pair h6 (pcB_lt i k) hc (k1_off32_inb i k) (k1_off32_eq i k) (show 3 < 4 by decide),
    ld_rowC h9 (pcB_lt i k) hc (k1_off8_inb i k) (k1_off8_eq i k) (show 0 < 8 by decide),
    ld_rowC h9 (pcB_lt i k) hc (k1_off9_inb i k) (k1_off9_eq i k) (show 1 < 8 by decide),
    ld_rowC h9 (pcB_lt i k) hc (k1_off17_inb i k) (k1_off17_eq i k) (show 2 < 8 by decide),
    ld_rowC h9 (pcB_lt i k) hc (k1_off18_inb i k) (k1_off18_eq i k) (show 3 < 8 by decide),
    ld_rowC h9 (pcB_lt i k) hc (k1_off26_inb i k) (k1_off26_eq i k) (show 4 < 8 by decide),
    ld_rowC h9 (pcB_lt i k) hc (k1_off27_inb i k) (k1_off27_eq i k) (show 5 < 8 by decide),
    ld_rowC h9 (pcB_lt i k) hc (k1_off35_inb i k) (k1_off35_eq i k) (show 6 < 8 by decide),
    ld_rowC h9 (pcB_lt i k) hc (k1_off36_inb i k) (k1_off36_eq i k) (show 7 < 8 by decide),
    ld_st h8 (pcB_lt i k) hc (k1_off1_inb i k) (k1_off1_eq i k) (show 0 < 8 by decide),
    ld_st h8 (pcB_lt i k) hc (k1_off2_inb i k) (k1_off2_eq i k) (show 1 < 8 by decide),
    ld_st h8 (pcB_lt i k) hc (k1_off10_inb i k) (k1_off10_eq i k) (show 2 < 8 by decide),
    ld_st h8 (pcB_lt i k) hc (k1_off11_inb i k) (k1_off11_eq i k) (show 3 < 8 by decide),
    ld_st h8 (pcB_lt i k) hc (k1_off19_inb i k) (k1_off19_eq i k) (show 4 < 8 by decide),
    ld_st h8 (pcB_lt i k) hc (k1_off20_inb i k) (k1_off20_eq i k) (show 5 < 8 by decide),
    ld_st h8 (pcB_lt i k) hc (k1_off28_inb i k) (k1_off28_eq i k) (show 6 < 8 by decide),
    ld_st h8 (pcB_lt i k) hc (k1_off29_inb i k) (k1_off29_eq i k) (show 7 < 8 by decide)]
  exact read_rows arg11.view f11 ![k1_off3 i k, k1_off4 i k, k1_off12 i k, k1_off13 i k, k1_off21 i k, k1_off22 i k, k1_off30 i k, k1_off31 i k] (by intro h; fin_cases h; exacts [k1_off3_eq i k, k1_off4_eq i k, k1_off12_eq i k, k1_off13_eq i k, k1_off21_eq i k, k1_off22_eq i k, k1_off30_eq i k, k1_off31_eq i k]) (by intro h; fin_cases h; exacts [k1_off3_inb i k, k1_off4_inb i k, k1_off12_inb i k, k1_off13_inb i k, k1_off21_inb i k, k1_off22_inb i k, k1_off30_inb i k, k1_off31_inb i k]) (fun h => dwC W Q K P E S D d s h) y

include h8 h9 hc in
/-- The trip stores the gradients of `qd` at its chunk, and nothing else in their window. -/
theorem trip1_dq (y : S1x512x1024.Idx) : arg12.view.read (Elt F) (arg12.view.writes (Elt F) f12 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.1) y
    = if (y 1).val / 64 = pcB i k then dqC S D d s ((y 2).val / 128) (wr ![0, (y 1).val % 64, (y 2).val % 128]) else arg12.view.read (Elt F) f12 y := by
  rw [trip1_dq_raw]
  simp only [ld_rowC h9 (pcB_lt i k) hc (k1_off8_inb i k) (k1_off8_eq i k) (show 0 < 8 by decide),
    ld_rowC h9 (pcB_lt i k) hc (k1_off9_inb i k) (k1_off9_eq i k) (show 1 < 8 by decide),
    ld_rowC h9 (pcB_lt i k) hc (k1_off17_inb i k) (k1_off17_eq i k) (show 2 < 8 by decide),
    ld_rowC h9 (pcB_lt i k) hc (k1_off18_inb i k) (k1_off18_eq i k) (show 3 < 8 by decide),
    ld_rowC h9 (pcB_lt i k) hc (k1_off26_inb i k) (k1_off26_eq i k) (show 4 < 8 by decide),
    ld_rowC h9 (pcB_lt i k) hc (k1_off27_inb i k) (k1_off27_eq i k) (show 5 < 8 by decide),
    ld_rowC h9 (pcB_lt i k) hc (k1_off35_inb i k) (k1_off35_eq i k) (show 6 < 8 by decide),
    ld_rowC h9 (pcB_lt i k) hc (k1_off36_inb i k) (k1_off36_eq i k) (show 7 < 8 by decide),
    ld_st h8 (pcB_lt i k) hc (k1_off1_inb i k) (k1_off1_eq i k) (show 0 < 8 by decide),
    ld_st h8 (pcB_lt i k) hc (k1_off2_inb i k) (k1_off2_eq i k) (show 1 < 8 by decide),
    ld_st h8 (pcB_lt i k) hc (k1_off10_inb i k) (k1_off10_eq i k) (show 2 < 8 by decide),
    ld_st h8 (pcB_lt i k) hc (k1_off11_inb i k) (k1_off11_eq i k) (show 3 < 8 by decide),
    ld_st h8 (pcB_lt i k) hc (k1_off19_inb i k) (k1_off19_eq i k) (show 4 < 8 by decide),
    ld_st h8 (pcB_lt i k) hc (k1_off20_inb i k) (k1_off20_eq i k) (show 5 < 8 by decide),
    ld_st h8 (pcB_lt i k) hc (k1_off28_inb i k) (k1_off28_eq i k) (show 6 < 8 by decide),
    ld_st h8 (pcB_lt i k) hc (k1_off29_inb i k) (k1_off29_eq i k) (show 7 < 8 by decide)]
  exact read_rows arg12.view f12 ![k1_off3 i k, k1_off4 i k, k1_off12 i k, k1_off13 i k, k1_off21 i k, k1_off22 i k, k1_off30 i k, k1_off31 i k] (by intro h; fin_cases h; exacts [k1_off3_eq i k, k1_off4_eq i k, k1_off12_eq i k, k1_off13_eq i k, k1_off21_eq i k, k1_off22_eq i k, k1_off30_eq i k, k1_off31_eq i k]) (by intro h; fin_cases h; exacts [k1_off3_inb i k, k1_off4_inb i k, k1_off12_inb i k, k1_off13_inb i k, k1_off21_inb i k, k1_off22_inb i k, k1_off30_inb i k, k1_off31_inb i k]) (fun h => dqC S D d s h) y

include h2 h3 h8 h16 hc in
/-- The trip stores the gradients of `kd` at its chunk, and nothing else in their window. -/
theorem trip1_dk (y : S1x512x1024.Idx) : arg13.view.read (Elt F) (arg13.view.writes (Elt F) f13 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.1) y
    = if (y 1).val / 64 = pcB i k then dkC U W Q K P E S D d s ((y 2).val / 128) (wr ![0, (y 1).val % 64, (y 2).val % 128]) else arg13.view.read (Elt F) f13 y := by
  rw [trip1_dk_raw]
  simp only [ld_hd h16 inb_S8x128x128_S1x128x128_0_0_0,
    ld_hd h16 inb_S8x128x128_S1x128x128_1_0_0,
    ld_hd h16 inb_S8x128x128_S1x128x128_2_0_0,
    ld_hd h16 inb_S8x128x128_S1x128x128_3_0_0,
    ld_hd h16 inb_S8x128x128_S1x128x128_4_0_0,
    ld_hd h16 inb_S8x128x128_S1x128x128_5_0_0,
    ld_hd h16 inb_S8x128x128_S1x128x128_6_0_0,
    ld_hd h16 inb_S8x128x128_S1x128x128_7_0_0,
    ld_row h2 (pcB_lt i k) hc (k1_off3_inb i k) (k1_off3_eq i k) (show 0 < 8 by decide),
    ld_row h2 (pcB_lt i k) hc (k1_off4_inb i k) (k1_off4_eq i k) (show 1 < 8 by decide),
    ld_row h2 (pcB_lt i k) hc (k1_off12_inb i k) (k1_off12_eq i k) (show 2 < 8 by decide),
    ld_row h2 (pcB_lt i k) hc (k1_off13_inb i k) (k1_off13_eq i k) (show 3 < 8 by decide),
    ld_row h2 (pcB_lt i k) hc (k1_off21_inb i k) (k1_off21_eq i k) (show 4 < 8 by decide),
    ld_row h2 (pcB_lt i k) hc (k1_off22_inb i k) (k1_off22_eq i k) (show 5 < 8 by decide),
    ld_row h2 (pcB_lt i k) hc (k1_off30_inb i k) (k1_off30_eq i k) (show 6 < 8 by decide),
    ld_row h2 (pcB_lt i k) hc (k1_off31_inb i k) (k1_off31_eq i k) (show 7 < 8 by decide),
    ld_row h3 (pcB_lt i k) hc (k1_off3_inb i k) (k1_off3_eq i k) (show 0 < 8 by decide),
    ld_row h3 (pcB_lt i k) hc (k1_off4_inb i k) (k1_off4_eq i k) (show 1 < 8 by decide),
    ld_row h3 (pcB_lt i k) hc (k1_off12_inb i k) (k1_off12_eq i k) (show 2 < 8 by decide),
    ld_row h3 (pcB_lt i k) hc (k1_off13_inb i k) (k1_off13_eq i k) (show 3 < 8 by decide),
    ld_row h3 (pcB_lt i k) hc (k1_off21_inb i k) (k1_off21_eq i k) (show 4 < 8 by decide),
    ld_row h3 (pcB_lt i k) hc (k1_off22_inb i k) (k1_off22_eq i k) (show 5 < 8 by decide),
    ld_row h3 (pcB_lt i k) hc (k1_off30_inb i k) (k1_off30_eq i k) (show 6 < 8 by decide),
    ld_row h3 (pcB_lt i k) hc (k1_off31_inb i k) (k1_off31_eq i k) (show 7 < 8 by decide),
    ld_st h8 (pcB_lt i k) hc (k1_off1_inb i k) (k1_off1_eq i k) (show 0 < 8 by decide),
    ld_st h8 (pcB_lt i k) hc (k1_off2_inb i k) (k1_off2_eq i k) (show 1 < 8 by decide),
    ld_st h8 (pcB_lt i k) hc (k1_off10_inb i k) (k1_off10_eq i k) (show 2 < 8 by decide),
    ld_st h8 (pcB_lt i k) hc (k1_off11_inb i k) (k1_off11_eq i k) (show 3 < 8 by decide),
    ld_st h8 (pcB_lt i k) hc (k1_off19_inb i k) (k1_off19_eq i k) (show 4 < 8 by decide),
    ld_st h8 (pcB_lt i k) hc (k1_off20_inb i k) (k1_off20_eq i k) (show 5 < 8 by decide),
    ld_st h8 (pcB_lt i k) hc (k1_off28_inb i k) (k1_off28_eq i k) (show 6 < 8 by decide),
    ld_st h8 (pcB_lt i k) hc (k1_off29_inb i k) (k1_off29_eq i k) (show 7 < 8 by decide)]
  exact read_rows arg13.view f13 ![k1_off3 i k, k1_off4 i k, k1_off12 i k, k1_off13 i k, k1_off21 i k, k1_off22 i k, k1_off30 i k, k1_off31 i k] (by intro h; fin_cases h; exacts [k1_off3_eq i k, k1_off4_eq i k, k1_off12_eq i k, k1_off13_eq i k, k1_off21_eq i k, k1_off22_eq i k, k1_off30_eq i k, k1_off31_eq i k]) (by intro h; fin_cases h; exacts [k1_off3_inb i k, k1_off4_inb i k, k1_off12_inb i k, k1_off13_inb i k, k1_off21_inb i k, k1_off22_inb i k, k1_off30_inb i k, k1_off31_inb i k]) (fun h => dkC U W Q K P E S D d s h) y

include h2 h3 h8 h9 hc in
/-- The trip stores the gradients of the matrices at its chunk, and nothing else in their window. -/
theorem trip1_dp (y : S1x8x4x128x128.Idx) : arg14.view.read (Elt F) (arg14.view.writes (Elt F) f14 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.2.1) y
    = if (y 1).val = pcB i k then dpC U W S D d s (y 2).val (wr ![0, 0, 0, (y 3).val, (y 4).val]) else arg14.view.read (Elt F) f14 y := by
  rw [trip1_dp_raw]
  simp only [ld_row h2 (pcB_lt i k) hc (k1_off3_inb i k) (k1_off3_eq i k) (show 0 < 8 by decide),
    ld_row h2 (pcB_lt i k) hc (k1_off4_inb i k) (k1_off4_eq i k) (show 1 < 8 by decide),
    ld_row h2 (pcB_lt i k) hc (k1_off12_inb i k) (k1_off12_eq i k) (show 2 < 8 by decide),
    ld_row h2 (pcB_lt i k) hc (k1_off13_inb i k) (k1_off13_eq i k) (show 3 < 8 by decide),
    ld_row h2 (pcB_lt i k) hc (k1_off21_inb i k) (k1_off21_eq i k) (show 4 < 8 by decide),
    ld_row h2 (pcB_lt i k) hc (k1_off22_inb i k) (k1_off22_eq i k) (show 5 < 8 by decide),
    ld_row h2 (pcB_lt i k) hc (k1_off30_inb i k) (k1_off30_eq i k) (show 6 < 8 by decide),
    ld_row h2 (pcB_lt i k) hc (k1_off31_inb i k) (k1_off31_eq i k) (show 7 < 8 by decide),
    ld_row h3 (pcB_lt i k) hc (k1_off3_inb i k) (k1_off3_eq i k) (show 0 < 8 by decide),
    ld_row h3 (pcB_lt i k) hc (k1_off4_inb i k) (k1_off4_eq i k) (show 1 < 8 by decide),
    ld_row h3 (pcB_lt i k) hc (k1_off12_inb i k) (k1_off12_eq i k) (show 2 < 8 by decide),
    ld_row h3 (pcB_lt i k) hc (k1_off13_inb i k) (k1_off13_eq i k) (show 3 < 8 by decide),
    ld_row h3 (pcB_lt i k) hc (k1_off21_inb i k) (k1_off21_eq i k) (show 4 < 8 by decide),
    ld_row h3 (pcB_lt i k) hc (k1_off22_inb i k) (k1_off22_eq i k) (show 5 < 8 by decide),
    ld_row h3 (pcB_lt i k) hc (k1_off30_inb i k) (k1_off30_eq i k) (show 6 < 8 by decide),
    ld_row h3 (pcB_lt i k) hc (k1_off31_inb i k) (k1_off31_eq i k) (show 7 < 8 by decide),
    ld_st h8 (pcB_lt i k) hc (k1_off1_inb i k) (k1_off1_eq i k) (show 0 < 8 by decide),
    ld_st h8 (pcB_lt i k) hc (k1_off2_inb i k) (k1_off2_eq i k) (show 1 < 8 by decide),
    ld_st h8 (pcB_lt i k) hc (k1_off10_inb i k) (k1_off10_eq i k) (show 2 < 8 by decide),
    ld_st h8 (pcB_lt i k) hc (k1_off11_inb i k) (k1_off11_eq i k) (show 3 < 8 by decide),
    ld_st h8 (pcB_lt i k) hc (k1_off19_inb i k) (k1_off19_eq i k) (show 4 < 8 by decide),
    ld_st h8 (pcB_lt i k) hc (k1_off20_inb i k) (k1_off20_eq i k) (show 5 < 8 by decide),
    ld_st h8 (pcB_lt i k) hc (k1_off28_inb i k) (k1_off28_eq i k) (show 6 < 8 by decide),
    ld_st h8 (pcB_lt i k) hc (k1_off29_inb i k) (k1_off29_eq i k) (show 7 < 8 by decide),
    ld_rowC h9 (pcB_lt i k) hc (k1_off8_inb i k) (k1_off8_eq i k) (show 0 < 8 by decide),
    ld_rowC h9 (pcB_lt i k) hc (k1_off9_inb i k) (k1_off9_eq i k) (show 1 < 8 by decide),
    ld_rowC h9 (pcB_lt i k) hc (k1_off17_inb i k) (k1_off17_eq i k) (show 2 < 8 by decide),
    ld_rowC h9 (pcB_lt i k) hc (k1_off18_inb i k) (k1_off18_eq i k) (show 3 < 8 by decide),
    ld_rowC h9 (pcB_lt i k) hc (k1_off26_inb i k) (k1_off26_eq i k) (show 4 < 8 by decide),
    ld_rowC h9 (pcB_lt i k) hc (k1_off27_inb i k) (k1_off27_eq i k) (show 5 < 8 by decide),
    ld_rowC h9 (pcB_lt i k) hc (k1_off35_inb i k) (k1_off35_eq i k) (show 6 < 8 by decide),
    ld_rowC h9 (pcB_lt i k) hc (k1_off36_inb i k) (k1_off36_eq i k) (show 7 < 8 by decide)]
  exact read_pairs arg14.view f14 ![k1_off5 i k, k1_off14 i k, k1_off23 i k, k1_off32 i k] (by intro h; fin_cases h; exacts [k1_off5_eq i k, k1_off14_eq i k, k1_off23_eq i k, k1_off32_eq i k]) (by intro h; fin_cases h; exacts [k1_off5_inb i k, k1_off14_inb i k, k1_off23_inb i k, k1_off32_inb i k]) (fun h => dpC U W S D d s h) y

include h8 h16 hc in
/-- The trip stores the gradients of the decay at its chunk, and nothing else in their window. -/
theorem trip1_dg (y : S1x8x8x128.Idx) : arg15.view.read (Elt F) (arg15.view.writes (Elt F) f15 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.2.2.1) y
    = if (y 1).val = pcB i k then dgC W Q K P E S D d s (y 2).val (wr ![0, 0, 0, (y 3).val]) else arg15.view.read (Elt F) f15 y := by
  rw [trip1_dg_raw]
  simp only [ld_hd h16 inb_S8x128x128_S1x128x128_0_0_0,
    ld_hd h16 inb_S8x128x128_S1x128x128_1_0_0,
    ld_hd h16 inb_S8x128x128_S1x128x128_2_0_0,
    ld_hd h16 inb_S8x128x128_S1x128x128_3_0_0,
    ld_hd h16 inb_S8x128x128_S1x128x128_4_0_0,
    ld_hd h16 inb_S8x128x128_S1x128x128_5_0_0,
    ld_hd h16 inb_S8x128x128_S1x128x128_6_0_0,
    ld_hd h16 inb_S8x128x128_S1x128x128_7_0_0,
    ld_st h8 (pcB_lt i k) hc (k1_off1_inb i k) (k1_off1_eq i k) (show 0 < 8 by decide),
    ld_st h8 (pcB_lt i k) hc (k1_off2_inb i k) (k1_off2_eq i k) (show 1 < 8 by decide),
    ld_st h8 (pcB_lt i k) hc (k1_off10_inb i k) (k1_off10_eq i k) (show 2 < 8 by decide),
    ld_st h8 (pcB_lt i k) hc (k1_off11_inb i k) (k1_off11_eq i k) (show 3 < 8 by decide),
    ld_st h8 (pcB_lt i k) hc (k1_off19_inb i k) (k1_off19_eq i k) (show 4 < 8 by decide),
    ld_st h8 (pcB_lt i k) hc (k1_off20_inb i k) (k1_off20_eq i k) (show 5 < 8 by decide),
    ld_st h8 (pcB_lt i k) hc (k1_off28_inb i k) (k1_off28_eq i k) (show 6 < 8 by decide),
    ld_st h8 (pcB_lt i k) hc (k1_off29_inb i k) (k1_off29_eq i k) (show 7 < 8 by decide)]
  exact read_lanes arg15.view f15 ![k1_off6 i k, k1_off7 i k, k1_off15 i k, k1_off16 i k, k1_off24 i k, k1_off25 i k, k1_off33 i k, k1_off34 i k] (by intro h; fin_cases h; exacts [k1_off6_eq i k, k1_off7_eq i k, k1_off15_eq i k, k1_off16_eq i k, k1_off24_eq i k, k1_off25_eq i k, k1_off33_eq i k, k1_off34_eq i k]) (by intro h; fin_cases h; exacts [k1_off6_inb i k, k1_off7_inb i k, k1_off15_inb i k, k1_off16_inb i k, k1_off24_inb i k, k1_off25_inb i k, k1_off33_inb i k, k1_off34_inb i k]) (fun h => dgC W Q K P E S D d s h) y

include h3 h4 h5 h6 h7 h9 h16 hc in
/-- The trip advances the carried gradients by one step. -/
theorem trip1_st : arg16.view.read (Elt F) (arg16.view.writes (Elt F) f16 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.2.2.2.1) = StB W Q K P E D d (s + 1) := by
  rw [trip1_st_raw]
  simp only [ld_hd h16 inb_S8x128x128_S1x128x128_0_0_0,
    ld_hd h16 inb_S8x128x128_S1x128x128_1_0_0,
    ld_hd h16 inb_S8x128x128_S1x128x128_2_0_0,
    ld_hd h16 inb_S8x128x128_S1x128x128_3_0_0,
    ld_hd h16 inb_S8x128x128_S1x128x128_4_0_0,
    ld_hd h16 inb_S8x128x128_S1x128x128_5_0_0,
    ld_hd h16 inb_S8x128x128_S1x128x128_6_0_0,
    ld_hd h16 inb_S8x128x128_S1x128x128_7_0_0,
    ld_row h3 (pcB_lt i k) hc (k1_off3_inb i k) (k1_off3_eq i k) (show 0 < 8 by decide),
    ld_row h3 (pcB_lt i k) hc (k1_off4_inb i k) (k1_off4_eq i k) (show 1 < 8 by decide),
    ld_row h3 (pcB_lt i k) hc (k1_off12_inb i k) (k1_off12_eq i k) (show 2 < 8 by decide),
    ld_row h3 (pcB_lt i k) hc (k1_off13_inb i k) (k1_off13_eq i k) (show 3 < 8 by decide),
    ld_row h3 (pcB_lt i k) hc (k1_off21_inb i k) (k1_off21_eq i k) (show 4 < 8 by decide),
    ld_row h3 (pcB_lt i k) hc (k1_off22_inb i k) (k1_off22_eq i k) (show 5 < 8 by decide),
    ld_row h3 (pcB_lt i k) hc (k1_off30_inb i k) (k1_off30_eq i k) (show 6 < 8 by decide),
    ld_row h3 (pcB_lt i k) hc (k1_off31_inb i k) (k1_off31_eq i k) (show 7 < 8 by decide),
    ld_row h4 (pcB_lt i k) hc (k1_off3_inb i k) (k1_off3_eq i k) (show 0 < 8 by decide),
    ld_row h4 (pcB_lt i k) hc (k1_off4_inb i k) (k1_off4_eq i k) (show 1 < 8 by decide),
    ld_row h4 (pcB_lt i k) hc (k1_off12_inb i k) (k1_off12_eq i k) (show 2 < 8 by decide),
    ld_row h4 (pcB_lt i k) hc (k1_off13_inb i k) (k1_off13_eq i k) (show 3 < 8 by decide),
    ld_row h4 (pcB_lt i k) hc (k1_off21_inb i k) (k1_off21_eq i k) (show 4 < 8 by decide),
    ld_row h4 (pcB_lt i k) hc (k1_off22_inb i k) (k1_off22_eq i k) (show 5 < 8 by decide),
    ld_row h4 (pcB_lt i k) hc (k1_off30_inb i k) (k1_off30_eq i k) (show 6 < 8 by decide),
    ld_row h4 (pcB_lt i k) hc (k1_off31_inb i k) (k1_off31_eq i k) (show 7 < 8 by decide),
    ld_row h5 (pcB_lt i k) hc (k1_off3_inb i k) (k1_off3_eq i k) (show 0 < 8 by decide),
    ld_row h5 (pcB_lt i k) hc (k1_off4_inb i k) (k1_off4_eq i k) (show 1 < 8 by decide),
    ld_row h5 (pcB_lt i k) hc (k1_off12_inb i k) (k1_off12_eq i k) (show 2 < 8 by decide),
    ld_row h5 (pcB_lt i k) hc (k1_off13_inb i k) (k1_off13_eq i k) (show 3 < 8 by decide),
    ld_row h5 (pcB_lt i k) hc (k1_off21_inb i k) (k1_off21_eq i k) (show 4 < 8 by decide),
    ld_row h5 (pcB_lt i k) hc (k1_off22_inb i k) (k1_off22_eq i k) (show 5 < 8 by decide),
    ld_row h5 (pcB_lt i k) hc (k1_off30_inb i k) (k1_off30_eq i k) (show 6 < 8 by decide),
    ld_row h5 (pcB_lt i k) hc (k1_off31_inb i k) (k1_off31_eq i k) (show 7 < 8 by decide),
    ld_pair h6 (pcB_lt i k) hc (k1_off5_inb i k) (k1_off5_eq i k) (show 0 < 4 by decide),
    ld_pair h6 (pcB_lt i k) hc (k1_off14_inb i k) (k1_off14_eq i k) (show 1 < 4 by decide),
    ld_pair h6 (pcB_lt i k) hc (k1_off23_inb i k) (k1_off23_eq i k) (show 2 < 4 by decide),
    ld_pair h6 (pcB_lt i k) hc (k1_off32_inb i k) (k1_off32_eq i k) (show 3 < 4 by decide),
    ld_lane h7 (pcB_lt i k) hc (k1_off6_inb i k) (k1_off6_eq i k) (show 0 < 8 by decide),
    ld_lane h7 (pcB_lt i k) hc (k1_off7_inb i k) (k1_off7_eq i k) (show 1 < 8 by decide),
    ld_lane h7 (pcB_lt i k) hc (k1_off15_inb i k) (k1_off15_eq i k) (show 2 < 8 by decide),
    ld_lane h7 (pcB_lt i k) hc (k1_off16_inb i k) (k1_off16_eq i k) (show 3 < 8 by decide),
    ld_lane h7 (pcB_lt i k) hc (k1_off24_inb i k) (k1_off24_eq i k) (show 4 < 8 by decide),
    ld_lane h7 (pcB_lt i k) hc (k1_off25_inb i k) (k1_off25_eq i k) (show 5 < 8 by decide),
    ld_lane h7 (pcB_lt i k) hc (k1_off33_inb i k) (k1_off33_eq i k) (show 6 < 8 by decide),
    ld_lane h7 (pcB_lt i k) hc (k1_off34_inb i k) (k1_off34_eq i k) (show 7 < 8 by decide),
    ld_rowC h9 (pcB_lt i k) hc (k1_off8_inb i k) (k1_off8_eq i k) (show 0 < 8 by decide),
    ld_rowC h9 (pcB_lt i k) hc (k1_off9_inb i k) (k1_off9_eq i k) (show 1 < 8 by decide),
    ld_rowC h9 (pcB_lt i k) hc (k1_off17_inb i k) (k1_off17_eq i k) (show 2 < 8 by decide),
    ld_rowC h9 (pcB_lt i k) hc (k1_off18_inb i k) (k1_off18_eq i k) (show 3 < 8 by decide),
    ld_rowC h9 (pcB_lt i k) hc (k1_off26_inb i k) (k1_off26_eq i k) (show 4 < 8 by decide),
    ld_rowC h9 (pcB_lt i k) hc (k1_off27_inb i k) (k1_off27_eq i k) (show 5 < 8 by decide),
    ld_rowC h9 (pcB_lt i k) hc (k1_off35_inb i k) (k1_off35_eq i k) (show 6 < 8 by decide),
    ld_rowC h9 (pcB_lt i k) hc (k1_off36_inb i k) (k1_off36_eq i k) (show 7 < 8 by decide)]
  exact read_hds arg16.view f16 ![![0, 0, 0], ![1, 0, 0], ![2, 0, 0], ![3, 0, 0], ![4, 0, 0], ![5, 0, 0], ![6, 0, 0], ![7, 0, 0]] (by intro h; fin_cases h <;> rfl) (by intro h; fin_cases h; exacts [inb_S8x128x128_S1x128x128_0_0_0, inb_S8x128x128_S1x128x128_1_0_0, inb_S8x128x128_S1x128x128_2_0_0, inb_S8x128x128_S1x128x128_3_0_0, inb_S8x128x128_S1x128x128_4_0_0, inb_S8x128x128_S1x128x128_5_0_0, inb_S8x128x128_S1x128x128_6_0_0, inb_S8x128x128_S1x128x128_7_0_0])
    (fun h => dsC W Q K P E D (StB W Q K P E D d s) d s h)

end Cert.Proof.KernelIdeal

end
-- ==== Proof.BodyB.lean ====
/- The backward scan at one grid point: eight trips of the chunk loop, the carried gradients zeroed before the first point of a direction. -/
module

public import proofs.«01_k».proof.Proof.StepB
public import proofs.«01_k».proof.Proof.WindowsOut
public import proofs.«01_k».proof.Proof.Gen.KernelIdeal.Loops
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block of eight chunks that grid point `n` of direction `d` treats. -/
def bB (d n : ℕ) : ℕ := if d = 0 then 31 - n else n
/-- The trip that treats chunk `p` of a block. -/
def tB (d p : ℕ) : ℕ := if d = 0 then 7 - p else p

section Reads

variable (U : Vec F S2x16384x1024 .f32) (W Q K : Vec F S2x16384x1024 .bf16) (P : Vec F S2x256x4x128x128 .bf16) (E : Vec F S2x256x8x128 .f32)
  (S : Vec F S2x256x8x128x128 .f32) (D : Vec F S16384x1024 .bf16)

/-- What the windows of gradients and the carried gradients read before trip `k` of point `i`. -/
structure HB (i : grid1.Coords) (k : ℕ) (X10 : Vec F S1x512x1024 .bf16) (X11 : Vec F S1x512x1024 .bf16) (X12 : Vec F S1x512x1024 .f32) (X13 : Vec F S1x512x1024 .f32) (X14 : Vec F S1x8x4x128x128 .f32) (X15 : Vec F S1x8x8x128 .f32) (X16 : Vec F S8x128x128 .f32) : Prop where
  du : ∀ y : S1x512x1024.Idx, tB (i 0).val ((y 1).val / 64) < k → X10 y = blk (Gdu W Q K P E D) S1x512x1024.size ![(i 0).val, 512 * bB (i 0).val (i 1).val, 0] y
  dw : ∀ y : S1x512x1024.Idx, tB (i 0).val ((y 1).val / 64) < k → X11 y = blk (Gdw W Q K P E S D) S1x512x1024.size ![(i 0).val, 512 * bB (i 0).val (i 1).val, 0] y
  dq : ∀ y : S1x512x1024.Idx, tB (i 0).val ((y 1).val / 64) < k → X12 y = blk (Gdq S D) S1x512x1024.size ![(i 0).val, 512 * bB (i 0).val (i 1).val, 0] y
  dk : ∀ y : S1x512x1024.Idx, tB (i 0).val ((y 1).val / 64) < k → X13 y = blk (Gdk U W Q K P E S D) S1x512x1024.size ![(i 0).val, 512 * bB (i 0).val (i 1).val, 0] y
  dp : ∀ y : S1x8x4x128x128.Idx, tB (i 0).val (y 1).val < k → X14 y = blk (Gdp U W S D) S1x8x4x128x128.size ![(i 0).val, 8 * bB (i 0).val (i 1).val, 0, 0, 0] y
  dg : ∀ y : S1x8x8x128.Idx, tB (i 0).val (y 1).val < k → X15 y = blk (Gdg W Q K P E S D) S1x8x8x128.size ![(i 0).val, 8 * bB (i 0).val (i 1).val, 0, 0] y
  st : X16 = StB W Q K P E D (i 0).val (8 * (i 1).val + k)

theorem cB_pcB (i : grid1.Coords) (k : Fin k1_t1_loop.trips) : cB (i 0).val (8 * (i 1).val + k.val) = 8 * bB (i 0).val (i 1).val + pcB i k := by
  have h1 : (i 1).val < 32 := (i 1).isLt
  have hk : k.val < 8 := k.isLt
  unfold cB bB pcB; split <;> omega

theorem tB_pcB (i : grid1.Coords) (k : Fin k1_t1_loop.trips) (p : ℕ) (hp : p < 8) : tB (i 0).val p = k.val ↔ p = pcB i k := by
  have hk : k.val < 8 := k.isLt
  unfold tB pcB; split <;> omega

variable {U W Q K P E S D}

/-- One trip's stores take the reads before it to the reads after it. -/
theorem HB.step {i : grid1.Coords} {k : Fin k1_t1_loop.trips} {X10 X10' : Vec F S1x512x1024 .bf16} {X11 X11' : Vec F S1x512x1024 .bf16} {X12 X12' : Vec F S1x512x1024 .f32} {X13 X13' : Vec F S1x512x1024 .f32} {X14 X14' : Vec F S1x8x4x128x128 .f32} {X15 X15' : Vec F S1x8x8x128 .f32} {X16 X16' : Vec F S8x128x128 .f32}
    (H : HB U W Q K P E S D i k.val X10 X11 X12 X13 X14 X15 X16)
    (h10 : ∀ y, X10' y = if (y 1).val / 64 = pcB i k then duC W Q K P E D (i 0).val (8 * (i 1).val + k.val) ((y 2).val / 128) (wr ![0, (y 1).val % 64, (y 2).val % 128]) else X10 y)
    (h11 : ∀ y, X11' y = if (y 1).val / 64 = pcB i k then dwC W Q K P E S D (i 0).val (8 * (i 1).val + k.val) ((y 2).val / 128) (wr ![0, (y 1).val % 64, (y 2).val % 128]) else X11 y)
    (h12 : ∀ y, X12' y = if (y 1).val / 64 = pcB i k then dqC S D (i 0).val (8 * (i 1).val + k.val) ((y 2).val / 128) (wr ![0, (y 1).val % 64, (y 2).val % 128]) else X12 y)
    (h13 : ∀ y, X13' y = if (y 1).val / 64 = pcB i k then dkC U W Q K P E S D (i 0).val (8 * (i 1).val + k.val) ((y 2).val / 128) (wr ![0, (y 1).val % 64, (y 2).val % 128]) else X13 y)
    (h14 : ∀ y, X14' y = if (y 1).val = pcB i k then dpC U W S D (i 0).val (8 * (i 1).val + k.val) (y 2).val (wr ![0, 0, 0, (y 3).val, (y 4).val]) else X14 y)
    (h15 : ∀ y, X15' y = if (y 1).val = pcB i k then dgC W Q K P E S D (i 0).val (8 * (i 1).val + k.val) (y 2).val (wr ![0, 0, 0, (y 3).val]) else X15 y)
    (h16 : X16' = StB W Q K P E D (i 0).val (8 * (i 1).val + k.val + 1)) : HB U W Q K P E S D i (k.val + 1) X10' X11' X12' X13' X14' X15' X16' := by
  have hd2 : (i 0).val < 2 := (i 0).isLt
  have h1 : (i 1).val < 32 := (i 1).isLt
  have hk : k.val < 8 := k.isLt
  have hb : bB (i 0).val (i 1).val < 32 := by unfold bB; split <;> omega
  refine ⟨fun y hy => ?_, fun y hy => ?_, fun y hy => ?_, fun y hy => ?_, fun y hy => ?_, fun y hy => ?_, h16⟩
  · have l1 : (y 1).val < 512 := (y 1).isLt
    rw [h10]
    by_cases e : (y 1).val / 64 = pcB i k
    · rw [if_pos e]
      exact rows_window cB cB_cB (duC W Q K P E D) (Gdu W Q K P E D) (fun _ => rfl) hd2 hb (by omega) (pcB_lt i k) (cB_pcB i k) y e
    · rw [if_neg e]
      have e' : tB (i 0).val ((y 1).val / 64) ≠ k.val := fun h => e ((tB_pcB i k _ (by omega)).mp h)
      exact H.du y (by omega)
  · have l1 : (y 1).val < 512 := (y 1).isLt
    rw [h11]
    by_cases e : (y 1).val / 64 = pcB i k
    · rw [if_pos e]
      exact rows_window cB cB_cB (dwC W Q K P E S D) (Gdw W Q K P E S D) (fun _ => rfl) hd2 hb (by omega) (pcB_lt i k) (cB_pcB i k) y e
    · rw [if_neg e]
      have e' : tB (i 0).val ((y 1).val / 64) ≠ k.val := fun h => e ((tB_pcB i k _ (by omega)).mp h)
      exact H.dw y (by omega)
  · have l1 : (y 1).val < 512 := (y 1).isLt
    rw [h12]
    by_cases e : (y 1).val / 64 = pcB i k
    · rw [if_pos e]
      exact rows_window cB cB_cB (dqC S D) (Gdq S D) (fun _ => rfl) hd2 hb (by omega) (pcB_lt i k) (cB_pcB i k) y e
    · rw [if_neg e]
      have e' : tB (i 0).val ((y 1).val / 64) ≠ k.val := fun h => e ((tB_pcB i k _ (by omega)).mp h)
      exact H.dq y (by omega)
  · have l1 : (y 1).val < 512 := (y 1).isLt
    rw [h13]
    by_cases e : (y 1).val / 64 = pcB i k
    · rw [if_pos e]
      exact rows_window cB cB_cB (dkC U W Q K P E S D) (Gdk U W Q K P E S D) (fun _ => rfl) hd2 hb (by omega) (pcB_lt i k) (cB_pcB i k) y e
    · rw [if_neg e]
      have e' : tB (i 0).val ((y 1).val / 64) ≠ k.val := fun h => e ((tB_pcB i k _ (by omega)).mp h)
      exact H.dk y (by omega)
  · have l1 : (y 1).val < 8 := (y 1).isLt
    rw [h14]
    by_cases e : (y 1).val = pcB i k
    · rw [if_pos e]
      exact pairs_window cB cB_cB (dpC U W S D) (Gdp U W S D) (fun _ => rfl) hd2 hb (by omega) (pcB_lt i k) (cB_pcB i k) y e
    · rw [if_neg e]
      have e' : tB (i 0).val (y 1).val ≠ k.val := fun h => e ((tB_pcB i k _ (by omega)).mp h)
      exact H.dp y (by omega)
  · have l1 : (y 1).val < 8 := (y 1).isLt
    rw [h15]
    by_cases e : (y 1).val = pcB i k
    · rw [if_pos e]
      exact lanes_window cB cB_cB (dgC W Q K P E S D) (Gdg W Q K P E S D) (fun _ => rfl) hd2 hb (by omega) (pcB_lt i k) (cB_pcB i k) y e
    · rw [if_neg e]
      have e' : tB (i 0).val (y 1).val ≠ k.val := fun h => e ((tB_pcB i k _ (by omega)).mp h)
      exact H.dg y (by omega)

/-- After the eight trips the windows read the arrays' blocks. -/
theorem HB.done {i : grid1.Coords} {X10 : Vec F S1x512x1024 .bf16} {X11 : Vec F S1x512x1024 .bf16} {X12 : Vec F S1x512x1024 .f32} {X13 : Vec F S1x512x1024 .f32} {X14 : Vec F S1x8x4x128x128 .f32} {X15 : Vec F S1x8x8x128 .f32} {X16 : Vec F S8x128x128 .f32}
    (H : HB U W Q K P E S D i 8 X10 X11 X12 X13 X14 X15 X16) :
    X10 = blk (Gdu W Q K P E D) S1x512x1024.size ![(i 0).val, 512 * bB (i 0).val (i 1).val, 0]
      ∧ X11 = blk (Gdw W Q K P E S D) S1x512x1024.size ![(i 0).val, 512 * bB (i 0).val (i 1).val, 0]
      ∧ X12 = blk (Gdq S D) S1x512x1024.size ![(i 0).val, 512 * bB (i 0).val (i 1).val, 0]
      ∧ X13 = blk (Gdk U W Q K P E S D) S1x512x1024.size ![(i 0).val, 512 * bB (i 0).val (i 1).val, 0]
      ∧ X14 = blk (Gdp U W S D) S1x8x4x128x128.size ![(i 0).val, 8 * bB (i 0).val (i 1).val, 0, 0, 0]
      ∧ X15 = blk (Gdg W Q K P E S D) S1x8x8x128.size ![(i 0).val, 8 * bB (i 0).val (i 1).val, 0, 0]
      ∧ X16 = StB W Q K P E D (i 0).val (8 * ((i 1).val + 1)) := by
  refine ⟨funext fun y => H.du y ?_, funext fun y => H.dw y ?_, funext fun y => H.dq y ?_, funext fun y => H.dk y ?_, funext fun y => H.dp y ?_, funext fun y => H.dg y ?_, H.st⟩
  · have l1 : (y 1).val < 512 := (y 1).isLt
    unfold tB; split <;> omega
  · have l1 : (y 1).val < 512 := (y 1).isLt
    unfold tB; split <;> omega
  · have l1 : (y 1).val < 512 := (y 1).isLt
    unfold tB; split <;> omega
  · have l1 : (y 1).val < 512 := (y 1).isLt
    unfold tB; split <;> omega
  · have l1 : (y 1).val < 8 := (y 1).isLt
    unfold tB; split <;> omega
  · have l1 : (y 1).val < 8 := (y 1).isLt
    unfold tB; split <;> omega

end Reads

section Run

variable (c : Dev nD) (i : grid1.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x4x128x128 .bf16) (harg6 : arg6.IsWhole) (arg7 : Memref sig .tc .vmem S1x8x8x128 .f32) (harg7 : arg7.IsWhole) (arg8 : Memref sig .tc .vmem S1x8x8x128x128 .f32) (harg8 : arg8.IsWhole) (arg9 : Memref sig .tc .vmem S512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S1x8x4x128x128 .f32) (harg14 : arg14.IsWhole) (arg15 : Memref sig .tc .vmem S1x8x8x128 .f32) (harg15 : arg15.IsWhole) (arg16 : Memref sig .tc .vmem S8x128x128 .f32) (harg16 : arg16.IsWhole)
  (arg0 : BitVec 32)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
  {U : Vec F S2x16384x1024 .f32} {W Q K : Vec F S2x16384x1024 .bf16} {P : Vec F S2x256x4x128x128 .bf16} {E : Vec F S2x256x8x128 .f32}
  {S : Vec F S2x256x8x128x128 .f32} {D : Vec F S16384x1024 .bf16}

/-- Every window of the scan held, the inputs at the contents `f2`, … and the gradients and carried gradients at contents that read as `HB` says. -/
abbrev invB (U : Vec F S2x16384x1024 .f32) (W Q K : Vec F S2x16384x1024 .bf16) (P : Vec F S2x256x4x128x128 .bf16) (E : Vec F S2x256x8x128 .f32)
  (S : Vec F S2x256x8x128x128 .f32) (D : Vec F S16384x1024 .bf16) (k : ℕ) : sProp 𝕄 :=
  iprop(∃ (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16),
    ⌜HB U W Q K P E S D i k (arg10.view.read (Elt F) f10) (arg11.view.read (Elt F) f11) (arg12.view.read (Elt F) f12) (arg13.view.read (Elt F) f13) (arg14.view.read (Elt F) f14) (arg15.view.read (Elt F) f15) (arg16.view.read (Elt F) f16)⌝ ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16)

variable (h2 : arg2.view.read (Elt F) f2 = blk U S1x512x1024.size ![(i 0).val, 512 * bB (i 0).val (i 1).val, 0]) (h3 : arg3.view.read (Elt F) f3 = blk W S1x512x1024.size ![(i 0).val, 512 * bB (i 0).val (i 1).val, 0]) (h4 : arg4.view.read (Elt F) f4 = blk Q S1x512x1024.size ![(i 0).val, 512 * bB (i 0).val (i 1).val, 0]) (h5 : arg5.view.read (Elt F) f5 = blk K S1x512x1024.size ![(i 0).val, 512 * bB (i 0).val (i 1).val, 0]) (h6 : arg6.view.read (Elt F) f6 = blk P S1x8x4x128x128.size ![(i 0).val, 8 * bB (i 0).val (i 1).val, 0, 0, 0]) (h7 : arg7.view.read (Elt F) f7 = blk E S1x8x8x128.size ![(i 0).val, 8 * bB (i 0).val (i 1).val, 0, 0])
  (h8 : arg8.view.read (Elt F) f8 = blk S S1x8x8x128x128.size ![(i 0).val, 8 * bB (i 0).val (i 1).val, 0, 0, 0]) (h9 : arg9.view.read (Elt F) f9 = blk D S512x1024.size ![512 * bB (i 0).val (i 1).val, 0])

set_option warn.classDefReducibility false in
include h2 h3 h4 h5 h6 h7 h8 h9 in
/-- The chunk loop keeps it: one trip takes it to the next. -/
def loopB : LoopInvTy_k1_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 where
  inv k _ := invB c i arg2 arg3 arg4 arg5 arg6 arg7 arg8 arg9 arg10 arg11 arg12 arg13 arg14 arg15 arg16 f2 f3 f4 f5 f6 f7 f8 f9 U W Q K P E S D k
  step k _ := by
    iintro ⟨%f10, %f11, %f12, %f13, %f14, %f15, %f16, %hH, H⟩
    iapply (wp_wand_r Idealize.ShloMosaic.frame (wpE (defs₀ (F := F)) Variants.none (c : Thread nD τ) none) Set.univ)
    isplitl [H]
    · iapply (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k).2.2.2.2.2.2.2
      iexact H
    · iintro %_ H'
      iexists _, _, _, _, _, _, _
      isplitr
      rotate_left
      · iexact H'
      ipureintro
      exact hH.step (fun y => trip1_du c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k h5 h6 h9 hH.st (cB_pcB i k) y)
        (fun y => trip1_dw c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k h5 h6 h8 h9 hH.st (cB_pcB i k) y)
        (fun y => trip1_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k h8 h9 (cB_pcB i k) y)
        (fun y => trip1_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k h2 h3 h8 hH.st (cB_pcB i k) y)
        (fun y => trip1_dp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k h2 h3 h8 h9 (cB_pcB i k) y)
        (fun y => trip1_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k h8 hH.st (cB_pcB i k) y)
        (trip1_st c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 f10 f11 f12 f13 f14 f15 f16 k h3 h4 h5 h6 h7 h9 hH.st (cB_pcB i k))

theorem cond1 : ∀ i : grid1.Coords, Scalar.cmpi .ne (Scalar.extui (Scalar.cmpi .eq (BitVec.ofNat 32 (i 1).val) 0#32) : BitVec 32) 0#32 = 1#1 ↔ (i 1).val = 0 := by decide +kernel

include h2 h3 h4 h5 h6 h7 h8 h9 in
/-- The chunk loop run: from what holds before trip 0 to what holds after trip 7. -/
theorem loopRunB : invB c i arg2 arg3 arg4 arg5 arg6 arg7 arg8 arg9 arg10 arg11 arg12 arg13 arg14 arg15 arg16 f2 f3 f4 f5 f6 f7 f8 f9 U W Q K P E S D 0 ⊢ wp frame (wpE (defs₀ (F := F)) Variants.none (c : Thread nD τ) none) Set.univ
      (do Scf.Loop.for k1_t1_loop k1_t1_ok PUnit.unit (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0); Pure.pure PUnit.unit)
      (fun _ => invB c i arg2 arg3 arg4 arg5 arg6 arg7 arg8 arg9 arg10 arg11 arg12 arg13 arg14 arg15 arg16 f2 f3 f4 f5 f6 f7 f8 f9 U W Q K P E S D 8) := by
  iintro H
  irw [wp_bind]
  iapply (Scf.wp_for Idealize.ShloMosaic.frame (wpE (defs₀ (F := F)) Variants.none (c : Thread nD τ) none) Set.univ k1_t1_loop.lb k1_t1_loop.ub k1_t1_loop.st k1_t1_ok ()
    (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0) (fun k _ => invB c i arg2 arg3 arg4 arg5 arg6 arg7 arg8 arg9 arg10 arg11 arg12 arg13 arg14 arg15 arg16 f2 f3 f4 f5 f6 f7 f8 f9 U W Q K P E S D k) (loopB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 f2 f3 f4 f5 f6 f7 f8 f9 h2 h3 h4 h5 h6 h7 h8 h9).step)
  isplitl [H]; · iexact H
  iintro %_ H'
  irw [wp_pure]
  imodintro
  iexact H'

include h2 h3 h4 h5 h6 h7 h8 h9 in
/-- The backward scan at one point: its windows of gradients read the arrays' blocks, the carried gradients are eight steps on. -/
theorem bodyB (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (h16 : (i 1).val ≠ 0 → arg16.view.read (Elt F) f16 = StB W Q K P E D (i 0).val (8 * (i 1).val)) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16) ⊢ wp frame (wpE (defs₀ (F := F)) Variants.none (c : Thread nD τ) none) Set.univ
      (cc1_gdn_scan_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => invB c i arg2 arg3 arg4 arg5 arg6 arg7 arg8 arg9 arg10 arg11 arg12 arg13 arg14 arg15 arg16 f2 f3 f4 f5 f6 f7 f8 f9 U W Q K P E S D 8) := by
  rw [cc1_gdn_scan_bwd_eq_skeleton]
  unfold cc1_gdn_scan_bwd_skel
  by_cases hn : (i 1).val = 0
  · rw [dif_pos ((cond1 i).mpr hn)]
    iintro ⟨H2, H3, H4, H5, H6, H7, H8, H9, H10, H11, H12, H13, H14, H15, H16⟩
    sl_exec
    iapply (loopRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) f2 f3 f4 f5 f6 f7 f8 f9 h2 h3 h4 h5 h6 h7 h8 h9)
    iexists f10, f11, f12, f13, f14, f15, _
    isplitr
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    ipureintro
    refine ⟨fun y h => absurd h (Nat.not_lt_zero _), fun y h => absurd h (Nat.not_lt_zero _), fun y h => absurd h (Nat.not_lt_zero _), fun y h => absurd h (Nat.not_lt_zero _), fun y h => absurd h (Nat.not_lt_zero _), fun y h => absurd h (Nat.not_lt_zero _), ?_⟩
    rw [hn]
    exact View.read_writes_full _ _ _ _ _
  · rw [dif_neg (fun h => hn ((cond1 i).mp h))]
    iintro ⟨H2, H3, H4, H5, H6, H7, H8, H9, H10, H11, H12, H13, H14, H15, H16⟩
    iapply (loopRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) f2 f3 f4 f5 f6 f7 f8 f9 h2 h3 h4 h5 h6 h7 h8 h9)
    iexists f10, f11, f12, f13, f14, f15, _
    isplitr
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    ipureintro
    refine ⟨fun y h => absurd h (Nat.not_lt_zero _), fun y h => absurd h (Nat.not_lt_zero _), fun y h => absurd h (Nat.not_lt_zero _), fun y h => absurd h (Nat.not_lt_zero _), fun y h => absurd h (Nat.not_lt_zero _), fun y h => absurd h (Nat.not_lt_zero _), ?_⟩
    exact h16 hn

end Run

end Cert.Proof.KernelIdeal

end
-- ==== Proof.LaunchB.lean ====
/- The backward scan's pipeline: what its windows hold at every grid point, and the arrays it leaves. -/
module

public import proofs.«01_k».proof.Proof.BodyB
public import proofs.«01_k».proof.Proof.LaunchF
public import proofs.«01_k».proof.Proof.Entry
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArrays
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The block each window shows at a point -/

theorem index1_0 : ∀ t : Fin grid1.N, win1_0.index t = ![(grid1.coords t 0).val, bB (grid1.coords t 0).val (grid1.coords t 1).val, 0] := by decide +kernel
theorem index1_1 : ∀ t : Fin grid1.N, win1_1.index t = ![(grid1.coords t 0).val, bB (grid1.coords t 0).val (grid1.coords t 1).val, 0] := by decide +kernel
theorem index1_2 : ∀ t : Fin grid1.N, win1_2.index t = ![(grid1.coords t 0).val, bB (grid1.coords t 0).val (grid1.coords t 1).val, 0] := by decide +kernel
theorem index1_3 : ∀ t : Fin grid1.N, win1_3.index t = ![(grid1.coords t 0).val, bB (grid1.coords t 0).val (grid1.coords t 1).val, 0] := by decide +kernel
theorem index1_4 : ∀ t : Fin grid1.N, win1_4.index t = ![(grid1.coords t 0).val, bB (grid1.coords t 0).val (grid1.coords t 1).val, 0, 0, 0] := by decide +kernel
theorem index1_5 : ∀ t : Fin grid1.N, win1_5.index t = ![(grid1.coords t 0).val, bB (grid1.coords t 0).val (grid1.coords t 1).val, 0, 0] := by decide +kernel
theorem index1_6 : ∀ t : Fin grid1.N, win1_6.index t = ![(grid1.coords t 0).val, bB (grid1.coords t 0).val (grid1.coords t 1).val, 0, 0, 0] := by decide +kernel
theorem index1_7 : ∀ t : Fin grid1.N, win1_7.index t = ![bB (grid1.coords t 0).val (grid1.coords t 1).val, 0] := by decide +kernel
theorem index1_8 : ∀ t : Fin grid1.N, win1_8.index t = ![(grid1.coords t 0).val, bB (grid1.coords t 0).val (grid1.coords t 1).val, 0] := by decide +kernel
theorem index1_9 : ∀ t : Fin grid1.N, win1_9.index t = ![(grid1.coords t 0).val, bB (grid1.coords t 0).val (grid1.coords t 1).val, 0] := by decide +kernel
theorem index1_10 : ∀ t : Fin grid1.N, win1_10.index t = ![(grid1.coords t 0).val, bB (grid1.coords t 0).val (grid1.coords t 1).val, 0] := by decide +kernel
theorem index1_11 : ∀ t : Fin grid1.N, win1_11.index t = ![(grid1.coords t 0).val, bB (grid1.coords t 0).val (grid1.coords t 1).val, 0] := by decide +kernel
theorem index1_12 : ∀ t : Fin grid1.N, win1_12.index t = ![(grid1.coords t 0).val, bB (grid1.coords t 0).val (grid1.coords t 1).val, 0, 0, 0] := by decide +kernel
theorem index1_13 : ∀ t : Fin grid1.N, win1_13.index t = ![(grid1.coords t 0).val, bB (grid1.coords t 0).val (grid1.coords t 1).val, 0, 0] := by decide +kernel
theorem coord1_0 : ∀ t : Fin grid1.N, (grid1.coords t 0).val = t.val / 32 := by decide +kernel
theorem coord1_1 : ∀ t : Fin grid1.N, (grid1.coords t 1).val = t.val % 32 := by decide +kernel

section

variable (V : Valuation τ sig (Elt F)) (c : Dev nD)

/-- What the carried states' buffer holds before point `t`: inside a direction, the states after the points before. -/
def carryB (t : ℕ) : sProp 𝕄 :=
  iprop(∃ f : Bf (F := F) c (Memref.whole cc1_scratch0), ⌜t % 32 ≠ 0 → (Memref.whole cc1_scratch0).view.read (Elt F) f = StB (wA V) (qA V) (kA V) (pA V) (eA V) (dA V) (t / 32) (8 * (t % 32))⌝ ∗ pt c (Memref.whole cc1_scratch0) f)

/-- The pipeline's data: the arrays at entry, the blocks the windows hold after each point, the carried states. -/
def datB : Dat τ (Elt F) Unit ℕ (UR sig nD τ) ℕ cfg1 c where
  A w := V (Pipeline.arrRef spec1 w)
  after w t := match w with
    | 0 => blk (uA V) S1x512x1024.size ![(grid1.coords t 0).val, 512 * bB (grid1.coords t 0).val (grid1.coords t 1).val, 0]
    | 1 => blk (wA V) S1x512x1024.size ![(grid1.coords t 0).val, 512 * bB (grid1.coords t 0).val (grid1.coords t 1).val, 0]
    | 2 => blk (qA V) S1x512x1024.size ![(grid1.coords t 0).val, 512 * bB (grid1.coords t 0).val (grid1.coords t 1).val, 0]
    | 3 => blk (kA V) S1x512x1024.size ![(grid1.coords t 0).val, 512 * bB (grid1.coords t 0).val (grid1.coords t 1).val, 0]
    | 4 => blk (pA V) S1x8x4x128x128.size ![(grid1.coords t 0).val, 8 * bB (grid1.coords t 0).val (grid1.coords t 1).val, 0, 0, 0]
    | 5 => blk (eA V) S1x8x8x128.size ![(grid1.coords t 0).val, 8 * bB (grid1.coords t 0).val (grid1.coords t 1).val, 0, 0]
    | 6 => blk (sA V) S1x8x8x128x128.size ![(grid1.coords t 0).val, 8 * bB (grid1.coords t 0).val (grid1.coords t 1).val, 0, 0, 0]
    | 7 => blk (dA V) S512x1024.size ![512 * bB (grid1.coords t 0).val (grid1.coords t 1).val, 0]
    | 8 => blk (Gdu (wA V) (qA V) (kA V) (pA V) (eA V) (dA V)) S1x512x1024.size ![(grid1.coords t 0).val, 512 * bB (grid1.coords t 0).val (grid1.coords t 1).val, 0]
    | 9 => blk (Gdw (wA V) (qA V) (kA V) (pA V) (eA V) (sA V) (dA V)) S1x512x1024.size ![(grid1.coords t 0).val, 512 * bB (grid1.coords t 0).val (grid1.coords t 1).val, 0]
    | 10 => blk (Gdq (sA V) (dA V)) S1x512x1024.size ![(grid1.coords t 0).val, 512 * bB (grid1.coords t 0).val (grid1.coords t 1).val, 0]
    | 11 => blk (Gdk (uA V) (wA V) (qA V) (kA V) (pA V) (eA V) (sA V) (dA V)) S1x512x1024.size ![(grid1.coords t 0).val, 512 * bB (grid1.coords t 0).val (grid1.coords t 1).val, 0]
    | 12 => blk (Gdp (uA V) (wA V) (sA V) (dA V)) S1x8x4x128x128.size ![(grid1.coords t 0).val, 8 * bB (grid1.coords t 0).val (grid1.coords t 1).val, 0, 0, 0]
    | 13 => blk (Gdg (wA V) (qA V) (kA V) (pA V) (eA V) (sA V) (dA V)) S1x8x8x128.size ![(grid1.coords t 0).val, 8 * bB (grid1.coords t 0).val (grid1.coords t 1).val, 0, 0]
    | ⟨_ + 14, h⟩ => absurd h (Nat.not_lt.2 (Nat.le_add_left _ _))
  Φ t := iprop(carryB V c t.val ∗ Pipeline.scopedRestBut (Ix := Unit) (Name := ℕ) (U := UR sig nD τ) (Lvl := ℕ) (Val := Elt F) spec1 c [cc1_scratch0])
  q _ := fullShare
  owed _ := 0

theorem emb1_0 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_0.blk t).view.emb y a).val := by
  show _ = win1_0.index t a * S1x512x1024.size a + 1 * (y a).val
  rw [index1_0, Nat.one_mul]
  refine congrArg (· + (y a).val) ?_
  revert a
  refine ValueKit.forall_fin_iff_conj.mpr ?_
  dsimp only [ValueKit.finConj]
  simp [Nat.mul_comm]

theorem emb1_1 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_1.blk t).view.emb y a).val := by
  show _ = win1_1.index t a * S1x512x1024.size a + 1 * (y a).val
  rw [index1_1, Nat.one_mul]
  refine congrArg (· + (y a).val) ?_
  revert a
  refine ValueKit.forall_fin_iff_conj.mpr ?_
  dsimp only [ValueKit.finConj]
  simp [Nat.mul_comm]

theorem emb1_2 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_2.blk t).view.emb y a).val := by
  show _ = win1_2.index t a * S1x512x1024.size a + 1 * (y a).val
  rw [index1_2, Nat.one_mul]
  refine congrArg (· + (y a).val) ?_
  revert a
  refine ValueKit.forall_fin_iff_conj.mpr ?_
  dsimp only [ValueKit.finConj]
  simp [Nat.mul_comm]

theorem emb1_3 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_3.blk t).view.emb y a).val := by
  show _ = win1_3.index t a * S1x512x1024.size a + 1 * (y a).val
  rw [index1_3, Nat.one_mul]
  refine congrArg (· + (y a).val) ?_
  revert a
  refine ValueKit.forall_fin_iff_conj.mpr ?_
  dsimp only [ValueKit.finConj]
  simp [Nat.mul_comm]

theorem emb1_4 (t : Fin grid1.N) (y : S1x8x4x128x128.Idx) (a : Fin S1x8x4x128x128.rank) :
    (![(grid1.coords t 0).val, 8 * bB (grid1.coords t 0).val (grid1.coords t 1).val, 0, 0, 0] : Fin S1x8x4x128x128.rank → ℕ) a + (y a).val = ((win1_4.blk t).view.emb y a).val := by
  show _ = win1_4.index t a * S1x8x4x128x128.size a + 1 * (y a).val
  rw [index1_4, Nat.one_mul]
  refine congrArg (· + (y a).val) ?_
  revert a
  refine ValueKit.forall_fin_iff_conj.mpr ?_
  dsimp only [ValueKit.finConj]
  simp [Nat.mul_comm]

theorem emb1_5 (t : Fin grid1.N) (y : S1x8x8x128.Idx) (a : Fin S1x8x8x128.rank) :
    (![(grid1.coords t 0).val, 8 * bB (grid1.coords t 0).val (grid1.coords t 1).val, 0, 0] : Fin S1x8x8x128.rank → ℕ) a + (y a).val = ((win1_5.blk t).view.emb y a).val := by
  show _ = win1_5.index t a * S1x8x8x128.size a + 1 * (y a).val
  rw [index1_5, Nat.one_mul]
  refine congrArg (· + (y a).val) ?_
  revert a
  refine ValueKit.forall_fin_iff_conj.mpr ?_
  dsimp only [ValueKit.finConj]
  simp [Nat.mul_comm]

theorem emb1_6 (t : Fin grid1.N) (y : S1x8x8x128x128.Idx) (a : Fin S1x8x8x128x128.rank) :
    (![(grid1.coords t 0).val, 8 * bB (grid1.coords t 0).val (grid1.coords t 1).val, 0, 0, 0] : Fin S1x8x8x128x128.rank → ℕ) a + (y a).val = ((win1_6.blk t).view.emb y a).val := by
  show _ = win1_6.index t a * S1x8x8x128x128.size a + 1 * (y a).val
  rw [index1_6, Nat.one_mul]
  refine congrArg (· + (y a).val) ?_
  revert a
  refine ValueKit.forall_fin_iff_conj.mpr ?_
  dsimp only [ValueKit.finConj]
  simp [Nat.mul_comm]

theorem emb1_7 (t : Fin grid1.N) (y : S512x1024.Idx) (a : Fin S512x1024.rank) :
    (![512 * bB (grid1.coords t 0).val (grid1.coords t 1).val, 0] : Fin S512x1024.rank → ℕ) a + (y a).val = ((win1_7.blk t).view.emb y a).val := by
  show _ = win1_7.index t a * S512x1024.size a + 1 * (y a).val
  rw [index1_7, Nat.one_mul]
  refine congrArg (· + (y a).val) ?_
  revert a
  refine ValueKit.forall_fin_iff_conj.mpr ?_
  dsimp only [ValueKit.finConj]
  simp [Nat.mul_comm]

theorem emb1_8 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_8.blk t).view.emb y a).val := by
  show _ = win1_8.index t a * S1x512x1024.size a + 1 * (y a).val
  rw [index1_8, Nat.one_mul]
  refine congrArg (· + (y a).val) ?_
  revert a
  refine ValueKit.forall_fin_iff_conj.mpr ?_
  dsimp only [ValueKit.finConj]
  simp [Nat.mul_comm]

theorem emb1_9 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_9.blk t).view.emb y a).val := by
  show _ = win1_9.index t a * S1x512x1024.size a + 1 * (y a).val
  rw [index1_9, Nat.one_mul]
  refine congrArg (· + (y a).val) ?_
  revert a
  refine ValueKit.forall_fin_iff_conj.mpr ?_
  dsimp only [ValueKit.finConj]
  simp [Nat.mul_comm]

theorem emb1_10 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_10.blk t).view.emb y a).val := by
  show _ = win1_10.index t a * S1x512x1024.size a + 1 * (y a).val
  rw [index1_10, Nat.one_mul]
  refine congrArg (· + (y a).val) ?_
  revert a
  refine ValueKit.forall_fin_iff_conj.mpr ?_
  dsimp only [ValueKit.finConj]
  simp [Nat.mul_comm]

theorem emb1_11 (t : Fin grid1.N) (y : S1x512x1024.Idx) (a : Fin S1x512x1024.rank) :
    (![(grid1.coords t 0).val, 512 * bB (grid1.coords t 0).val (grid1.coords t 1).val, 0] : Fin S1x512x1024.rank → ℕ) a + (y a).val = ((win1_11.blk t).view.emb y a).val := by
  show _ = win1_11.index t a * S1x512x1024.size a + 1 * (y a).val
  rw [index1_11, Nat.one_mul]
  refine congrArg (· + (y a).val) ?_
  revert a
  refine ValueKit.forall_fin_iff_conj.mpr ?_
  dsimp only [ValueKit.finConj]
  simp [Nat.mul_comm]

theorem emb1_12 (t : Fin grid1.N) (y : S1x8x4x128x128.Idx) (a : Fin S1x8x4x128x128.rank) :
    (![(grid1.coords t 0).val, 8 * bB (grid1.coords t 0).val (grid1.coords t 1).val, 0, 0, 0] : Fin S1x8x4x128x128.rank → ℕ) a + (y a).val = ((win1_12.blk t).view.emb y a).val := by
  show _ = win1_12.index t a * S1x8x4x128x128.size a + 1 * (y a).val
  rw [index1_12, Nat.one_mul]
  refine congrArg (· + (y a).val) ?_
  revert a
  refine ValueKit.forall_fin_iff_conj.mpr ?_
  dsimp only [ValueKit.finConj]
  simp [Nat.mul_comm]

theorem emb1_13 (t : Fin grid1.N) (y : S1x8x8x128.Idx) (a : Fin S1x8x8x128.rank) :
    (![(grid1.coords t 0).val, 8 * bB (grid1.coords t 0).val (grid1.coords t 1).val, 0, 0] : Fin S1x8x8x128.rank → ℕ) a + (y a).val = ((win1_13.blk t).view.emb y a).val := by
  show _ = win1_13.index t a * S1x8x8x128.size a + 1 * (y a).val
  rw [index1_13, Nat.one_mul]
  refine congrArg (· + (y a).val) ?_
  revert a
  refine ValueKit.forall_fin_iff_conj.mpr ?_
  dsimp only [ValueKit.finConj]
  simp [Nat.mul_comm]

theorem before1_0 (t : Fin cfg1.N) (d) : (datB V c).before 0 t d = blk (uA V) S1x512x1024.size ![(grid1.coords t 0).val, 512 * bB (grid1.coords t 0).val (grid1.coords t 1).val, 0] := by
  have hk : ∀ t : Fin cfg1.N, (cfg1.win 0).cut (cfg1.grid.coords t) ((datB V c).after 0 t) = (datB V c).blockOf 0 t := fun t => by
    funext y
    rw [Pipeline.Dat.blockOf_apply]
    exact congrArg (uA V) (wr_eq _ _ fun a => emb1_0 t y a)
  exact ((datB V c).before_in_eq_fetched 0 rfl (fun _ => rfl) (fun _ _ _ => rfl) hk t d).trans (hk t).symm

theorem before1_1 (t : Fin cfg1.N) (d) : (datB V c).before 1 t d = blk (wA V) S1x512x1024.size ![(grid1.coords t 0).val, 512 * bB (grid1.coords t 0).val (grid1.coords t 1).val, 0] := by
  have hk : ∀ t : Fin cfg1.N, (cfg1.win 1).cut (cfg1.grid.coords t) ((datB V c).after 1 t) = (datB V c).blockOf 1 t := fun t => by
    funext y
    rw [Pipeline.Dat.blockOf_apply]
    exact congrArg (wA V) (wr_eq _ _ fun a => emb1_1 t y a)
  exact ((datB V c).before_in_eq_fetched 1 rfl (fun _ => rfl) (fun _ _ _ => rfl) hk t d).trans (hk t).symm

theorem before1_2 (t : Fin cfg1.N) (d) : (datB V c).before 2 t d = blk (qA V) S1x512x1024.size ![(grid1.coords t 0).val, 512 * bB (grid1.coords t 0).val (grid1.coords t 1).val, 0] := by
  have hk : ∀ t : Fin cfg1.N, (cfg1.win 2).cut (cfg1.grid.coords t) ((datB V c).after 2 t) = (datB V c).blockOf 2 t := fun t => by
    funext y
    rw [Pipeline.Dat.blockOf_apply]
    exact congrArg (qA V) (wr_eq _ _ fun a => emb1_2 t y a)
  exact ((datB V c).before_in_eq_fetched 2 rfl (fun _ => rfl) (fun _ _ _ => rfl) hk t d).trans (hk t).symm

theorem before1_3 (t : Fin cfg1.N) (d) : (datB V c).before 3 t d = blk (kA V) S1x512x1024.size ![(grid1.coords t 0).val, 512 * bB (grid1.coords t 0).val (grid1.coords t 1).val, 0] := by
  have hk : ∀ t : Fin cfg1.N, (cfg1.win 3).cut (cfg1.grid.coords t) ((datB V c).after 3 t) = (datB V c).blockOf 3 t := fun t => by
    funext y
    rw [Pipeline.Dat.blockOf_apply]
    exact congrArg (kA V) (wr_eq _ _ fun a => emb1_3 t y a)
  exact ((datB V c).before_in_eq_fetched 3 rfl (fun _ => rfl) (fun _ _ _ => rfl) hk t d).trans (hk t).symm

theorem before1_4 (t : Fin cfg1.N) (d) : (datB V c).before 4 t d = blk (pA V) S1x8x4x128x128.size ![(grid1.coords t 0).val, 8 * bB (grid1.coords t 0).val (grid1.coords t 1).val, 0, 0, 0] := by
  have hk : ∀ t : Fin cfg1.N, (cfg1.win 4).cut (cfg1.grid.coords t) ((datB V c).after 4 t) = (datB V c).blockOf 4 t := fun t => by
    funext y
    rw [Pipeline.Dat.blockOf_apply]
    exact congrArg (pA V) (wr_eq _ _ fun a => emb1_4 t y a)
  exact ((datB V c).before_in_eq_fetched 4 rfl (fun _ => rfl) (fun _ _ _ => rfl) hk t d).trans (hk t).symm

theorem before1_5 (t : Fin cfg1.N) (d) : (datB V c).before 5 t d = blk (eA V) S1x8x8x128.size ![(grid1.coords t 0).val, 8 * bB (grid1.coords t 0).val (grid1.coords t 1).val, 0, 0] := by
  have hk : ∀ t : Fin cfg1.N, (cfg1.win 5).cut (cfg1.grid.coords t) ((datB V c).after 5 t) = (datB V c).blockOf 5 t := fun t => by
    funext y
    rw [Pipeline.Dat.blockOf_apply]
    exact congrArg (eA V) (wr_eq _ _ fun a => emb1_5 t y a)
  exact ((datB V c).before_in_eq_fetched 5 rfl (fun _ => rfl) (fun _ _ _ => rfl) hk t d).trans (hk t).symm

theorem before1_6 (t : Fin cfg1.N) (d) : (datB V c).before 6 t d = blk (sA V) S1x8x8x128x128.size ![(grid1.coords t 0).val, 8 * bB (grid1.coords t 0).val (grid1.coords t 1).val, 0, 0, 0] := by
  have hk : ∀ t : Fin cfg1.N, (cfg1.win 6).cut (cfg1.grid.coords t) ((datB V c).after 6 t) = (datB V c).blockOf 6 t := fun t => by
    funext y
    rw [Pipeline.Dat.blockOf_apply]
    exact congrArg (sA V) (wr_eq _ _ fun a => emb1_6 t y a)
  exact ((datB V c).before_in_eq_fetched 6 rfl (fun _ => rfl) (fun _ _ _ => rfl) hk t d).trans (hk t).symm

theorem before1_7 (t : Fin cfg1.N) (d) : (datB V c).before 7 t d = blk (dA V) S512x1024.size ![512 * bB (grid1.coords t 0).val (grid1.coords t 1).val, 0] := by
  have hk : ∀ t : Fin cfg1.N, (cfg1.win 7).cut (cfg1.grid.coords t) ((datB V c).after 7 t) = (datB V c).blockOf 7 t := fun t => by
    funext y
    rw [Pipeline.Dat.blockOf_apply]
    exact congrArg (dA V) (wr_eq _ _ fun a => emb1_7 t y a)
  exact ((datB V c).before_in_eq_fetched 7 rfl (fun _ => rfl) (fun _ _ _ => rfl) hk t d).trans (hk t).symm

theorem final1_8 : (datB V c).arrAt 8 cfg1.N = (Gdu (wA V) (qA V) (kA V) (pA V) (eA V) (dA V)) :=
  (datB V c).arrAt_eq_of_covers 8 (Gdu (wA V) (qA V) (kA V) (pA V) (eA V) (dA V)) (by decide +kernel) fun t _ y => congrArg (Gdu (wA V) (qA V) (kA V) (pA V) (eA V) (dA V)) (wr_eq _ _ fun a => emb1_8 t y a)

theorem final1_9 : (datB V c).arrAt 9 cfg1.N = (Gdw (wA V) (qA V) (kA V) (pA V) (eA V) (sA V) (dA V)) :=
  (datB V c).arrAt_eq_of_covers 9 (Gdw (wA V) (qA V) (kA V) (pA V) (eA V) (sA V) (dA V)) (by decide +kernel) fun t _ y => congrArg (Gdw (wA V) (qA V) (kA V) (pA V) (eA V) (sA V) (dA V)) (wr_eq _ _ fun a => emb1_9 t y a)

theorem final1_10 : (datB V c).arrAt 10 cfg1.N = (Gdq (sA V) (dA V)) :=
  (datB V c).arrAt_eq_of_covers 10 (Gdq (sA V) (dA V)) (by decide +kernel) fun t _ y => congrArg (Gdq (sA V) (dA V)) (wr_eq _ _ fun a => emb1_10 t y a)

theorem final1_11 : (datB V c).arrAt 11 cfg1.N = (Gdk (uA V) (wA V) (qA V) (kA V) (pA V) (eA V) (sA V) (dA V)) :=
  (datB V c).arrAt_eq_of_covers 11 (Gdk (uA V) (wA V) (qA V) (kA V) (pA V) (eA V) (sA V) (dA V)) (by decide +kernel) fun t _ y => congrArg (Gdk (uA V) (wA V) (qA V) (kA V) (pA V) (eA V) (sA V) (dA V)) (wr_eq _ _ fun a => emb1_11 t y a)

theorem final1_12 : (datB V c).arrAt 12 cfg1.N = (Gdp (uA V) (wA V) (sA V) (dA V)) :=
  (datB V c).arrAt_eq_of_covers 12 (Gdp (uA V) (wA V) (sA V) (dA V)) (by decide +kernel) fun t _ y => congrArg (Gdp (uA V) (wA V) (sA V) (dA V)) (wr_eq _ _ fun a => emb1_12 t y a)

theorem final1_13 : (datB V c).arrAt 13 cfg1.N = (Gdg (wA V) (qA V) (kA V) (pA V) (eA V) (sA V) (dA V)) :=
  (datB V c).arrAt_eq_of_covers 13 (Gdg (wA V) (qA V) (kA V) (pA V) (eA V) (sA V) (dA V)) (by decide +kernel) fun t _ y => congrArg (Gdg (wA V) (qA V) (kA V) (pA V) (eA V) (sA V) (dA V)) (wr_eq _ _ fun a => emb1_13 t y a)

set_option maxHeartbeats 2000000 in
/-- The scan's body keeps the pipeline's data. -/
theorem oblB : BodyObligation (datB V c) (defs₀ (F := F)) Variants.none () Set.univ := fun t => by
  rw [bigSep_W1, bigSep_W1]
  show iprop((carryB V c t.val ∗ Pipeline.scopedRestBut (Ix := Unit) (Name := ℕ) (U := UR sig nD τ) (Lvl := ℕ) (Val := Elt F) spec1 c [cc1_scratch0]) ∗ (datB V c).owesAt () t.castSucc
      ∗ (∃ d, owns (c : Thread nD τ) (st1_0 t) fullShare ((datB V c).before 0 t d)) ∗ (∃ d, owns (c : Thread nD τ) (st1_1 t) fullShare ((datB V c).before 1 t d)) ∗ (∃ d, owns (c : Thread nD τ) (st1_2 t) fullShare ((datB V c).before 2 t d)) ∗ (∃ d, owns (c : Thread nD τ) (st1_3 t) fullShare ((datB V c).before 3 t d)) ∗ (∃ d, owns (c : Thread nD τ) (st1_4 t) fullShare ((datB V c).before 4 t d)) ∗ (∃ d, owns (c : Thread nD τ) (st1_5 t) fullShare ((datB V c).before 5 t d)) ∗ (∃ d, owns (c : Thread nD τ) (st1_6 t) fullShare ((datB V c).before 6 t d)) ∗ (∃ d, owns (c : Thread nD τ) (st1_7 t) fullShare ((datB V c).before 7 t d)) ∗ (∃ d, owns (c : Thread nD τ) (st1_8 t) fullShare ((datB V c).before 8 t d)) ∗ (∃ d, owns (c : Thread nD τ) (st1_9 t) fullShare ((datB V c).before 9 t d)) ∗ (∃ d, owns (c : Thread nD τ) (st1_10 t) fullShare ((datB V c).before 10 t d)) ∗ (∃ d, owns (c : Thread nD τ) (st1_11 t) fullShare ((datB V c).before 11 t d)) ∗ (∃ d, owns (c : Thread nD τ) (st1_12 t) fullShare ((datB V c).before 12 t d)) ∗ (∃ d, owns (c : Thread nD τ) (st1_13 t) fullShare ((datB V c).before 13 t d)))
    ⊢ wp frame (wpE (defs₀ (F := F)) Variants.none (c : Thread nD τ) none) Set.univ (bodyAt1 t) (fun _ => iprop((carryB V c (t.val + 1) ∗ Pipeline.scopedRestBut (Ix := Unit) (Name := ℕ) (U := UR sig nD τ) (Lvl := ℕ) (Val := Elt F) spec1 c [cc1_scratch0]) ∗ (datB V c).owesAt () t.castSucc
      ∗ owns (c : Thread nD τ) (st1_0 t) fullShare ((datB V c).after 0 t) ∗ owns (c : Thread nD τ) (st1_1 t) fullShare ((datB V c).after 1 t) ∗ owns (c : Thread nD τ) (st1_2 t) fullShare ((datB V c).after 2 t) ∗ owns (c : Thread nD τ) (st1_3 t) fullShare ((datB V c).after 3 t) ∗ owns (c : Thread nD τ) (st1_4 t) fullShare ((datB V c).after 4 t) ∗ owns (c : Thread nD τ) (st1_5 t) fullShare ((datB V c).after 5 t) ∗ owns (c : Thread nD τ) (st1_6 t) fullShare ((datB V c).after 6 t) ∗ owns (c : Thread nD τ) (st1_7 t) fullShare ((datB V c).after 7 t) ∗ owns (c : Thread nD τ) (st1_8 t) fullShare ((datB V c).after 8 t) ∗ owns (c : Thread nD τ) (st1_9 t) fullShare ((datB V c).after 9 t) ∗ owns (c : Thread nD τ) (st1_10 t) fullShare ((datB V c).after 10 t) ∗ owns (c : Thread nD τ) (st1_11 t) fullShare ((datB V c).after 11 t) ∗ owns (c : Thread nD τ) (st1_12 t) fullShare ((datB V c).after 12 t) ∗ owns (c : Thread nD τ) (st1_13 t) fullShare ((datB V c).after 13 t)))
  simp only [before1_0 V c t, before1_1 V c t, before1_2 V c t, before1_3 V c t, before1_4 V c t, before1_5 V c t, before1_6 V c t, before1_7 V c t]
  rw [owns_pt c (st1_0 t) (hstage1_0 ((cfg1.slots t 0).cast nbuf1_0)) ((datB V c).after 0 t), owns_pt c (st1_1 t) (hstage1_1 ((cfg1.slots t 1).cast nbuf1_1)) ((datB V c).after 1 t), owns_pt c (st1_2 t) (hstage1_2 ((cfg1.slots t 2).cast nbuf1_2)) ((datB V c).after 2 t), owns_pt c (st1_3 t) (hstage1_3 ((cfg1.slots t 3).cast nbuf1_3)) ((datB V c).after 3 t), owns_pt c (st1_4 t) (hstage1_4 ((cfg1.slots t 4).cast nbuf1_4)) ((datB V c).after 4 t), owns_pt c (st1_5 t) (hstage1_5 ((cfg1.slots t 5).cast nbuf1_5)) ((datB V c).after 5 t), owns_pt c (st1_6 t) (hstage1_6 ((cfg1.slots t 6).cast nbuf1_6)) ((datB V c).after 6 t), owns_pt c (st1_7 t) (hstage1_7 ((cfg1.slots t 7).cast nbuf1_7)) ((datB V c).after 7 t), owns_pt c (st1_8 t) (hstage1_8 ((cfg1.slots t 8).cast nbuf1_8)) ((datB V c).after 8 t), owns_pt c (st1_9 t) (hstage1_9 ((cfg1.slots t 9).cast nbuf1_9)) ((datB V c).after 9 t), owns_pt c (st1_10 t) (hstage1_10 ((cfg1.slots t 10).cast nbuf1_10)) ((datB V c).after 10 t), owns_pt c (st1_11 t) (hstage1_11 ((cfg1.slots t 11).cast nbuf1_11)) ((datB V c).after 11 t), owns_pt c (st1_12 t) (hstage1_12 ((cfg1.slots t 12).cast nbuf1_12)) ((datB V c).after 12 t), owns_pt c (st1_13 t) (hstage1_13 ((cfg1.slots t 13).cast nbuf1_13)) ((datB V c).after 13 t)]
  have c0 : (grid1.coords t 0).val = t.val / 32 := coord1_0 t
  have c1 : (grid1.coords t 1).val = t.val % 32 := coord1_1 t
  unfold carryB
  iintro ⟨⟨⟨%fs, %hs, Hs⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave H0 := (owns_pt_1 c (st1_0 t) (hstage1_0 ((cfg1.slots t 0).cast nbuf1_0)) _) $$ H0
  icases H0 with ⟨%f2, %h2, H0⟩
  ihave H1 := (owns_pt_1 c (st1_1 t) (hstage1_1 ((cfg1.slots t 1).cast nbuf1_1)) _) $$ H1
  icases H1 with ⟨%f3, %h3, H1⟩
  ihave H2 := (owns_pt_1 c (st1_2 t) (hstage1_2 ((cfg1.slots t 2).cast nbuf1_2)) _) $$ H2
  icases H2 with ⟨%f4, %h4, H2⟩
  ihave H3 := (owns_pt_1 c (st1_3 t) (hstage1_3 ((cfg1.slots t 3).cast nbuf1_3)) _) $$ H3
  icases H3 with ⟨%f5, %h5, H3⟩
  ihave H4 := (owns_pt_1 c (st1_4 t) (hstage1_4 ((cfg1.slots t 4).cast nbuf1_4)) _) $$ H4
  icases H4 with ⟨%f6, %h6, H4⟩
  ihave H5 := (owns_pt_1 c (st1_5 t) (hstage1_5 ((cfg1.slots t 5).cast nbuf1_5)) _) $$ H5
  icases H5 with ⟨%f7, %h7, H5⟩
  ihave H6 := (owns_pt_1 c (st1_6 t) (hstage1_6 ((cfg1.slots t 6).cast nbuf1_6)) _) $$ H6
  icases H6 with ⟨%f8, %h8, H6⟩
  ihave H7 := (owns_pt_1 c (st1_7 t) (hstage1_7 ((cfg1.slots t 7).cast nbuf1_7)) _) $$ H7
  icases H7 with ⟨%f9, %h9, H7⟩
  ihave H8 := (owns_pt_1 c (st1_8 t) (hstage1_8 ((cfg1.slots t 8).cast nbuf1_8)) _) $$ H8
  icases H8 with ⟨%f10, %h10, H8⟩
  ihave H9 := (owns_pt_1 c (st1_9 t) (hstage1_9 ((cfg1.slots t 9).cast nbuf1_9)) _) $$ H9
  icases H9 with ⟨%f11, %h11, H9⟩
  ihave H10 := (owns_pt_1 c (st1_10 t) (hstage1_10 ((cfg1.slots t 10).cast nbuf1_10)) _) $$ H10
  icases H10 with ⟨%f12, %h12, H10⟩
  ihave H11 := (owns_pt_1 c (st1_11 t) (hstage1_11 ((cfg1.slots t 11).cast nbuf1_11)) _) $$ H11
  icases H11 with ⟨%f13, %h13, H11⟩
  ihave H12 := (owns_pt_1 c (st1_12 t) (hstage1_12 ((cfg1.slots t 12).cast nbuf1_12)) _) $$ H12
  icases H12 with ⟨%f14, %h14, H12⟩
  ihave H13 := (owns_pt_1 c (st1_13 t) (hstage1_13 ((cfg1.slots t 13).cast nbuf1_13)) _) $$ H13
  icases H13 with ⟨%f15, %h15, H13⟩
  iapply (wp_wand_r Idealize.ShloMosaic.frame (wpE (defs₀ (F := F)) Variants.none (c : Thread nD τ) none) Set.univ)
  isplitl [H0 H1 H2 H3 H4 H5 H6 H7 H8 H9 H10 H11 H12 H13 Hs]
  · iapply (bodyB (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (Memref.whole cc1_scratch0) (Memref.isWhole_whole _)
      f2 f3 f4 f5 f6 f7 f8 f9 h2 h3 h4 h5 h6 h7 h8 h9 f10 f11 f12 f13 f14 f15 fs (fun h => by rw [c0, c1]; rw [c1] at h; exact hs h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact Hs
  · iintro %_ ⟨%g10, %g11, %g12, %g13, %g14, %g15, %gs, %hH, H0, H1, H2, H3, H4, H5, H6, H7, H8, H9, H10, H11, H12, H13, Hs⟩
    have hd := hH.done
    isplitl [Hs Hr]
    · isplitl [Hs]
      · iexists gs
        isplitr; swap; · iexact Hs
        ipureintro
        intro hne
        have e0 : (t.val + 1) / 32 = t.val / 32 := by omega
        have e1 : (t.val + 1) % 32 = t.val % 32 + 1 := by omega
        rw [e0, e1, ← c0, ← c1]
        exact hd.2.2.2.2.2.2
      iexact Hr
    isplitl [HO]; · iexact HO
    isplitl [H0]
    · iexists _; isplitr; swap; · iexact H0
      ipureintro; exact h2
    isplitl [H1]
    · iexists _; isplitr; swap; · iexact H1
      ipureintro; exact h3
    isplitl [H2]
    · iexists _; isplitr; swap; · iexact H2
      ipureintro; exact h4
    isplitl [H3]
    · iexists _; isplitr; swap; · iexact H3
      ipureintro; exact h5
    isplitl [H4]
    · iexists _; isplitr; swap; · iexact H4
      ipureintro; exact h6
    isplitl [H5]
    · iexists _; isplitr; swap; · iexact H5
      ipureintro; exact h7
    isplitl [H6]
    · iexists _; isplitr; swap; · iexact H6
      ipureintro; exact h8
    isplitl [H7]
    · iexists _; isplitr; swap; · iexact H7
      ipureintro; exact h9
    isplitl [H8]
    · iexists _; isplitr; swap; · iexact H8
      ipureintro; exact hd.1
    isplitl [H9]
    · iexists _; isplitr; swap; · iexact H9
      ipureintro; exact hd.2.1
    isplitl [H10]
    · iexists _; isplitr; swap; · iexact H10
      ipureintro; exact hd.2.2.1
    isplitl [H11]
    · iexists _; isplitr; swap; · iexact H11
      ipureintro; exact hd.2.2.2.1
    isplitl [H12]
    · iexists _; isplitr; swap; · iexact H12
      ipureintro; exact hd.2.2.2.2.1
    iexists _; isplitr; swap; · iexact H13
    ipureintro; exact hd.2.2.2.2.2.1

end

end Cert.Proof.KernelIdeal

end
-- ==== Proof.Run.lean ====
/- The kernel's run: the two scans between the host operations before and after them, and what memory holds at the end. -/
module

public import proofs.«01_k».proof.Proof.LaunchF
public import proofs.«01_k».proof.Proof.LaunchB
public import proofs.«01_k».proof.Proof.Gen.KernelIdeal.Launch
public import proofs.«01_k».proof.Proof.Gen.KernelIdeal.Regions
public import Idealize.ShloMosaic.Lib.Pipeline.Regions
public import Idealize.ShloMosaic.Lib.Pipeline.RegionArrays

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the stretches of the program -/

/-- When the forward scan is entered: the host operations before it have run. -/
def W1 (c : Dev nD) : Valuation τ sig (Elt F) := StableHlo.after hostOps0 (fun b => m (c, b))

/-- After the forward scan: its two outputs written. -/
def W2 (c : Dev nD) : Valuation τ sig (Elt F) :=
  Function.update (Function.update (W1 m c) main_v9_0 (Go (uA (W1 m c)) (wA (W1 m c)) (qA (W1 m c)) (kA (W1 m c)) (pA (W1 m c)) (eA (W1 m c))))
    main_v9_1 (Gs (uA (W1 m c)) (wA (W1 m c)) (kA (W1 m c)) (eA (W1 m c)))

/-- After the backward scan: its six outputs written. -/
def W3 (c : Dev nD) : Valuation τ sig (Elt F) :=
  Function.update (Function.update (Function.update (Function.update (Function.update (Function.update (W2 m c)
    main_v10_0 (Gdu (wA (W2 m c)) (qA (W2 m c)) (kA (W2 m c)) (pA (W2 m c)) (eA (W2 m c)) (dA (W2 m c))))
    main_v10_1 (Gdw (wA (W2 m c)) (qA (W2 m c)) (kA (W2 m c)) (pA (W2 m c)) (eA (W2 m c)) (sA (W2 m c)) (dA (W2 m c))))
    main_v10_2 (Gdq (sA (W2 m c)) (dA (W2 m c))))
    main_v10_3 (Gdk (uA (W2 m c)) (wA (W2 m c)) (qA (W2 m c)) (kA (W2 m c)) (pA (W2 m c)) (eA (W2 m c)) (sA (W2 m c)) (dA (W2 m c))))
    main_v10_4 (Gdp (uA (W2 m c)) (wA (W2 m c)) (sA (W2 m c)) (dA (W2 m c))))
    main_v10_5 (Gdg (wA (W2 m c)) (qA (W2 m c)) (kA (W2 m c)) (pA (W2 m c)) (eA (W2 m c)) (sA (W2 m c)) (dA (W2 m c)))

/-- At the end: the host operations after the scans have run. -/
def W4 (c : Dev nD) : Valuation τ sig (Elt F) := StableHlo.after hostOps2 (W3 m c)

theorem W1_of (c : Dev nD) (r : Ref sig .tc) (h : r ∉ hostOps0_W) : W1 m c r = m (c, r) := V1_of m c r h

theorem W2_of (c : Dev nD) (r : Ref sig .tc) (h : r ∉ ([main_v9_0, main_v9_1] : List (Ref sig .tc))) : W2 m c r = W1 m c r := by
  have ne : ∀ x ∈ ([main_v9_0, main_v9_1] : List (Ref sig .tc)), (Proc.devRef .tc r : DevRef τ sig) ≠ Proc.devRef .tc x :=
    fun x hx => StableHlo.devRef_ne_of_ne fun e => h (e ▸ hx)
  unfold W2
  rw [Function.update_of_ne (ne main_v9_1 (by simp)), Function.update_of_ne (ne main_v9_0 (by simp))]

theorem W3_of (c : Dev nD) (r : Ref sig .tc)
    (h : r ∉ ([main_v10_0, main_v10_1, main_v10_2, main_v10_3, main_v10_4, main_v10_5] : List (Ref sig .tc))) : W3 m c r = W2 m c r := by
  have ne : ∀ x ∈ ([main_v10_0, main_v10_1, main_v10_2, main_v10_3, main_v10_4, main_v10_5] : List (Ref sig .tc)),
      (Proc.devRef .tc r : DevRef τ sig) ≠ Proc.devRef .tc x := fun x hx => StableHlo.devRef_ne_of_ne fun e => h (e ▸ hx)
  unfold W3
  rw [Function.update_of_ne (ne main_v10_5 (by simp)), Function.update_of_ne (ne main_v10_4 (by simp)), Function.update_of_ne (ne main_v10_3 (by simp)),
    Function.update_of_ne (ne main_v10_2 (by simp)), Function.update_of_ne (ne main_v10_1 (by simp)), Function.update_of_ne (ne main_v10_0 (by simp))]

theorem W4_of (c : Dev nD) (r : Ref sig .tc) (h : r ∉ hostOps2_W) : W4 m c r = W3 m c r :=
  StableHlo.after_of_writes_sub hostOps2 _ hostOps2_writes h

/-! ## The two launches -/

/-- The two pipelines' data. -/
def pdats : (p : Fin 2) → (c : Dev nD) → Dat τ (Elt F) Unit ℕ (UR sig nD τ) ℕ (cfgs p) c
  | 0, c => datF (W1 m c) c
  | 1, c => datB (W2 m c) c

/-- No core owes another anything: no level is assigned. -/
abbrev Lv : GSem nD τ sig → Finset Unit := fun _ => ∅
abbrev lv : GSem nD τ sig → Unit → ℕ := fun _ _ => 0

/-- What rides beside the buffers. -/
abbrev Rd (c : Dev nD) : sProp 𝕄 := iprop(∃ W, owes (c : Thread nD τ) (0 : CellTallies nD τ sig Unit) W)

abbrev hd0 (c : Dev nD) (W : Valuation τ sig (Elt F)) : sProp 𝕄 := StableHlo.held (c : Thread nD τ) (Pipeline.ucRefs τ sig) W

theorem fin_last0 : ∀ w : Fin cfg0.W, w = 0 ∨ w = 1 ∨ w = 2 ∨ w = 3 ∨ w = 4 ∨ w = 5 ∨ w = 6 ∨ w = 7 := by decide

theorem W2_0 (c : Dev nD) : W2 m c main_v9_0 = Go (uA (W1 m c)) (wA (W1 m c)) (qA (W1 m c)) (kA (W1 m c)) (pA (W1 m c)) (eA (W1 m c)) := by
  unfold W2
  rw [Function.update_of_ne (StableHlo.devRef_ne_of_ne (by decide)), Function.update_self]

theorem W2_1 (c : Dev nD) : W2 m c main_v9_1 = Gs (uA (W1 m c)) (wA (W1 m c)) (kA (W1 m c)) (eA (W1 m c)) := by
  unfold W2
  rw [Function.update_self]

theorem exit0 (c : Dev nD) (w : Fin cfg0.W) : (datF (W1 m c) c).arrAt w cfg0.N = W2 m c (Pipeline.arrRef spec0 w) := by
  rcases fin_last0 w with rfl | rfl | rfl | rfl | rfl | rfl | rfl | rfl
  · exact ((datF (W1 m c) c).arrAt_in 0 rfl _).trans (W2_of m c main_arg0 (by decide)).symm
  · exact ((datF (W1 m c) c).arrAt_in 1 rfl _).trans (W2_of m c main_arg1 (by decide)).symm
  · exact ((datF (W1 m c) c).arrAt_in 2 rfl _).trans (W2_of m c main_arg2 (by decide)).symm
  · exact ((datF (W1 m c) c).arrAt_in 3 rfl _).trans (W2_of m c main_arg3 (by decide)).symm
  · exact ((datF (W1 m c) c).arrAt_in 4 rfl _).trans (W2_of m c main_v6 (by decide)).symm
  · exact ((datF (W1 m c) c).arrAt_in 5 rfl _).trans (W2_of m c main_v8 (by decide)).symm
  · exact (final0_6 (W1 m c) c).trans (W2_0 m c).symm
  · exact (final0_7 (W1 m c) c).trans (W2_1 m c).symm

theorem fin_last1 : ∀ w : Fin cfg1.W, w = 0 ∨ w = 1 ∨ w = 2 ∨ w = 3 ∨ w = 4 ∨ w = 5 ∨ w = 6 ∨ w = 7 ∨ w = 8 ∨ w = 9 ∨ w = 10 ∨ w = 11 ∨ w = 12 ∨ w = 13 := by decide

theorem W3_0 (c : Dev nD) : W3 m c main_v10_0 = Gdu (wA (W2 m c)) (qA (W2 m c)) (kA (W2 m c)) (pA (W2 m c)) (eA (W2 m c)) (dA (W2 m c)) := by
  unfold W3
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide)), Function.update_self]

theorem W3_1 (c : Dev nD) : W3 m c main_v10_1 = Gdw (wA (W2 m c)) (qA (W2 m c)) (kA (W2 m c)) (pA (W2 m c)) (eA (W2 m c)) (sA (W2 m c)) (dA (W2 m c)) := by
  unfold W3
  rw [Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide)), Function.update_self]

theorem W3_2 (c : Dev nD) : W3 m c main_v10_2 = Gdq (sA (W2 m c)) (dA (W2 m c)) := by
  unfold W3
  rw [Function.update_of_ne (StableHlo.devRef_ne_of_ne (by decide)), Function.update_of_ne (StableHlo.devRef_ne_of_ne (by decide)),
    Function.update_of_ne (StableHlo.devRef_ne_of_ne (by decide)), Function.update_self]

theorem W3_3 (c : Dev nD) : W3 m c main_v10_3 = Gdk (uA (W2 m c)) (wA (W2 m c)) (qA (W2 m c)) (kA (W2 m c)) (pA (W2 m c)) (eA (W2 m c)) (sA (W2 m c)) (dA (W2 m c)) := by
  unfold W3
  rw [Function.update_of_ne (StableHlo.devRef_ne_of_ne (by decide)),
    Function.update_of_ne (StableHlo.devRef_ne_of_ne (by decide)), Function.update_self]

theorem W3_4 (c : Dev nD) : W3 m c main_v10_4 = Gdp (uA (W2 m c)) (wA (W2 m c)) (sA (W2 m c)) (dA (W2 m c)) := by
  unfold W3
  rw [Function.update_of_ne (StableHlo.devRef_ne_of_ne (by decide)), Function.update_self]

theorem W3_5 (c : Dev nD) : W3 m c main_v10_5 = Gdg (wA (W2 m c)) (qA (W2 m c)) (kA (W2 m c)) (pA (W2 m c)) (eA (W2 m c)) (sA (W2 m c)) (dA (W2 m c)) := by
  unfold W3
  rw [Function.update_self]

theorem exit1 (c : Dev nD) (w : Fin cfg1.W) : (datB (W2 m c) c).arrAt w cfg1.N = W3 m c (Pipeline.arrRef spec1 w) := by
  rcases fin_last1 w with rfl | rfl | rfl | rfl | rfl | rfl | rfl | rfl | rfl | rfl | rfl | rfl | rfl | rfl
  · exact ((datB (W2 m c) c).arrAt_in 0 rfl _).trans (W3_of m c main_arg0 (by decide)).symm
  · exact ((datB (W2 m c) c).arrAt_in 1 rfl _).trans (W3_of m c main_arg1 (by decide)).symm
  · exact ((datB (W2 m c) c).arrAt_in 2 rfl _).trans (W3_of m c main_arg2 (by decide)).symm
  · exact ((datB (W2 m c) c).arrAt_in 3 rfl _).trans (W3_of m c main_arg3 (by decide)).symm
  · exact ((datB (W2 m c) c).arrAt_in 4 rfl _).trans (W3_of m c main_v6 (by decide)).symm
  · exact ((datB (W2 m c) c).arrAt_in 5 rfl _).trans (W3_of m c main_v8 (by decide)).symm
  · exact ((datB (W2 m c) c).arrAt_in 6 rfl _).trans (W3_of m c main_v9_1 (by decide)).symm
  · exact ((datB (W2 m c) c).arrAt_in 7 rfl _).trans (W3_of m c main_arg6 (by decide)).symm
  · exact (final1_8 (W2 m c) c).trans (W3_0 m c).symm
  · exact (final1_9 (W2 m c) c).trans (W3_1 m c).symm
  · exact (final1_10 (W2 m c) c).trans (W3_2 m c).symm
  · exact (final1_11 (W2 m c) c).trans (W3_3 m c).symm
  · exact (final1_12 (W2 m c) c).trans (W3_4 m c).symm
  · exact (final1_13 (W2 m c) c).trans (W3_5 m c).symm

/-- Nothing but the launch's outputs changes across it. -/
theorem rest0 (c : Dev nD) : ∀ b ∈ Pipeline.ucRefs τ sig \ Pipeline.arrRefs (τ := τ) spec0, W1 m c b = W2 m c b := fun b hb => by
  obtain ⟨hb, hn⟩ := Finset.mem_sdiff.mp hb
  obtain ⟨r, -, rfl⟩ := Finset.mem_map.mp (Finset.mem_filter.mp hb).1
  refine (W2_of m c r fun hr => hn ?_).symm
  have hall : ∀ r ∈ ([main_v9_0, main_v9_1] : List (Ref sig .tc)), r ∈ Finset.univ.image (Pipeline.arrRef spec0) := by decide
  exact Finset.mem_map.mpr ⟨r, hall r hr, rfl⟩

theorem entry0 (c : Dev nD) : ((pdats m 0 c).arrays ((pdats m 0 c).arrAt · 0) : sProp 𝕄) = StableHlo.held (c : Thread nD τ) (Pipeline.arrRefs spec0) (W1 m c) :=
  Pipeline.arrays_held (pcfgs (F := F)) adm (pdats m) 0 launch0.toP c ((pdats m 0 c).share_full fun _ => rfl) _ _ fun _ => rfl

theorem leave0 (c : Dev nD) : ((pdats m 0 c).arrays ((pdats m 0 c).arrAt · cfg0.N) : sProp 𝕄) = StableHlo.held (c : Thread nD τ) (Pipeline.arrRefs spec0) (W2 m c) :=
  Pipeline.arrays_held (pcfgs (F := F)) adm (pdats m) 0 launch0.toP c ((pdats m 0 c).share_full fun _ => rfl) _ _ fun w => exit0 m c w

theorem split0 (c : Dev nD) (W : Valuation τ sig (Elt F)) : (hd0 c W : sProp 𝕄)
    = iprop(StableHlo.held (c : Thread nD τ) (Pipeline.arrRefs spec0) W ∗ StableHlo.held (c : Thread nD τ) (Pipeline.ucRefs τ sig \ Pipeline.arrRefs spec0) W) :=
  StableHlo.held_sub_split c.tc (Pipeline.arrRefs_sub_ucRefs spec0 launch0.win.arr_unscoped) W

/-- The scratch, apart from the launch's other scoped buffers. -/
theorem scr0 (c : Dev nD) : (Pipeline.scopedRest (Ix := Unit) (Name := ℕ) (U := UR sig nD τ) (Lvl := ℕ) (Val := Elt F) spec0 c : sProp 𝕄)
    = iprop((∃ f : Bf (F := F) c (Memref.whole cc0_scratch0), pt c (Memref.whole cc0_scratch0) f)
        ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

set_option backward.isDefEq.respectTransparency.types false in
set_option maxHeartbeats 1000000 in
/-- The forward scan's launch. -/
def reg0 : Pipeline.RegionSeg (pcfgs (F := F)) adm (pdats m) () defs₀ Variants.none Lv lv 0 where
  win := launch0.win.to₀
  block_pos := launch0.block_pos
  stage_whole := launch0.stage_whole
  K := PEmpty
  osem k := k.elim
  ho := Pipeline.OwnSemFacts.none _
  hbody c := (oblF (W1 m c) c).loose
  hwaits := Pipeline.hwaits_of_owed_zero _ _ _ _ Lv lv 0 fun c t => rfl
  pre c := iprop(hd0 c (W1 m c) ∗ Rd c)
  post c := iprop(hd0 c (W2 m c) ∗ Rd c)
  X c := iprop(emp)
  Y c := iprop(emp)
  Z c := StableHlo.held (c : Thread nD τ) (Pipeline.ucRefs τ sig \ Pipeline.arrRefs spec0) (W1 m c)
  hentry c := by
    rw [Pipeline.ownSems0_none, Pipeline.prefHeld_of_none _ rfl, split0, ← entry0]
    iintro ⟨⟨⟨Ha, HZ⟩, HO⟩, -, -⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [Pipeline.prefHeld_of_none _ rfl]
    show iprop(emp ∗ BI.emp ∗ Pipeline.scopedRest (Ix := Unit) (Name := ℕ) (U := UR sig nD τ) (Lvl := ℕ) (Val := Elt F) spec0 c) ⊢ iprop(carryF (W1 m c) c 0 ∗ Pipeline.scopedRestBut (Ix := Unit) (Name := ℕ) (U := UR sig nD τ) (Lvl := ℕ) (Val := Elt F) spec0 c [cc0_scratch0])
    rw [scr0]
    unfold carryF
    iintro ⟨-, -, ⟨%f, Hf⟩, Hr⟩
    isplitl [Hf]
    · iexists f; isplitr; · ipureintro; exact fun h => absurd rfl h
      iexact Hf
    iexact Hr
  hout c := by
    rw [Pipeline.ownSems0_none]
    show iprop(carryF (W1 m c) c cfg0.N ∗ Pipeline.scopedRestBut (Ix := Unit) (Name := ℕ) (U := UR sig nD τ) (Lvl := ℕ) (Val := Elt F) spec0 c [cc0_scratch0]) ⊢ iprop(emp ∗ BI.emp ∗ Pipeline.scopedRest (Ix := Unit) (Name := ℕ) (U := UR sig nD τ) (Lvl := ℕ) (Val := Elt F) spec0 c)
    rw [scr0]
    unfold carryF
    iintro ⟨⟨%f, -, Hf⟩, Hr⟩
    isplitr; · iempintro
    isplitr; · iempintro
    isplitl [Hf]; · iexists f; iexact Hf
    iexact Hr
  hexit c := by
    rw [split0 c (W2 m c), ← leave0, ← StableHlo.held_congr c.tc (rest0 m c)]
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-- Nothing but the launch's outputs changes across it. -/
theorem rest1 (c : Dev nD) : ∀ b ∈ Pipeline.ucRefs τ sig \ Pipeline.arrRefs (τ := τ) spec1, W2 m c b = W3 m c b := fun b hb => by
  obtain ⟨hb, hn⟩ := Finset.mem_sdiff.mp hb
  obtain ⟨r, -, rfl⟩ := Finset.mem_map.mp (Finset.mem_filter.mp hb).1
  refine (W3_of m c r fun hr => hn ?_).symm
  have hall : ∀ r ∈ ([main_v10_0, main_v10_1, main_v10_2, main_v10_3, main_v10_4, main_v10_5] : List (Ref sig .tc)), r ∈ Finset.univ.image (Pipeline.arrRef spec1) := by decide
  exact Finset.mem_map.mpr ⟨r, hall r hr, rfl⟩

theorem entry1 (c : Dev nD) : ((pdats m 1 c).arrays ((pdats m 1 c).arrAt · 0) : sProp 𝕄) = StableHlo.held (c : Thread nD τ) (Pipeline.arrRefs spec1) (W2 m c) :=
  Pipeline.arrays_held (pcfgs (F := F)) adm (pdats m) 1 launch1.toP c ((pdats m 1 c).share_full fun _ => rfl) _ _ fun _ => rfl

theorem leave1 (c : Dev nD) : ((pdats m 1 c).arrays ((pdats m 1 c).arrAt · cfg1.N) : sProp 𝕄) = StableHlo.held (c : Thread nD τ) (Pipeline.arrRefs spec1) (W3 m c) :=
  Pipeline.arrays_held (pcfgs (F := F)) adm (pdats m) 1 launch1.toP c ((pdats m 1 c).share_full fun _ => rfl) _ _ fun w => exit1 m c w

theorem split1 (c : Dev nD) (W : Valuation τ sig (Elt F)) : (hd0 c W : sProp 𝕄)
    = iprop(StableHlo.held (c : Thread nD τ) (Pipeline.arrRefs spec1) W ∗ StableHlo.held (c : Thread nD τ) (Pipeline.ucRefs τ sig \ Pipeline.arrRefs spec1) W) :=
  StableHlo.held_sub_split c.tc (Pipeline.arrRefs_sub_ucRefs spec1 launch1.win.arr_unscoped) W

/-- The scratch, apart from the launch's other scoped buffers. -/
theorem scr1 (c : Dev nD) : (Pipeline.scopedRest (Ix := Unit) (Name := ℕ) (U := UR sig nD τ) (Lvl := ℕ) (Val := Elt F) spec1 c : sProp 𝕄)
    = iprop((∃ f : Bf (F := F) c (Memref.whole cc1_scratch0), pt c (Memref.whole cc1_scratch0) f)
        ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

set_option backward.isDefEq.respectTransparency.types false in
set_option maxHeartbeats 1000000 in
/-- The backward scan's launch. -/
def reg1 : Pipeline.RegionSeg (pcfgs (F := F)) adm (pdats m) () defs₀ Variants.none Lv lv 1 where
  win := launch1.win.to₀
  block_pos := launch1.block_pos
  stage_whole := launch1.stage_whole
  K := PEmpty
  osem k := k.elim
  ho := Pipeline.OwnSemFacts.none _
  hbody c := (oblB (W2 m c) c).loose
  hwaits := Pipeline.hwaits_of_owed_zero _ _ _ _ Lv lv 1 fun c t => rfl
  pre c := iprop(hd0 c (W2 m c) ∗ Rd c)
  post c := iprop(hd0 c (W3 m c) ∗ Rd c)
  X c := iprop(emp)
  Y c := iprop(emp)
  Z c := StableHlo.held (c : Thread nD τ) (Pipeline.ucRefs τ sig \ Pipeline.arrRefs spec1) (W2 m c)
  hentry c := by
    rw [Pipeline.ownSems0_none, Pipeline.prefHeld_of_none _ rfl, split1, ← entry1]
    iintro ⟨⟨⟨Ha, HZ⟩, HO⟩, -, -⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [Pipeline.prefHeld_of_none _ rfl]
    show iprop(emp ∗ BI.emp ∗ Pipeline.scopedRest (Ix := Unit) (Name := ℕ) (U := UR sig nD τ) (Lvl := ℕ) (Val := Elt F) spec1 c) ⊢ iprop(carryB (W2 m c) c 0 ∗ Pipeline.scopedRestBut (Ix := Unit) (Name := ℕ) (U := UR sig nD τ) (Lvl := ℕ) (Val := Elt F) spec1 c [cc1_scratch0])
    rw [scr1]
    unfold carryB
    iintro ⟨-, -, ⟨%f, Hf⟩, Hr⟩
    isplitl [Hf]
    · iexists f; isplitr; · ipureintro; exact fun h => absurd rfl h
      iexact Hf
    iexact Hr
  hout c := by
    rw [Pipeline.ownSems0_none]
    show iprop(carryB (W2 m c) c cfg1.N ∗ Pipeline.scopedRestBut (Ix := Unit) (Name := ℕ) (U := UR sig nD τ) (Lvl := ℕ) (Val := Elt F) spec1 c [cc1_scratch0]) ⊢ iprop(emp ∗ BI.emp ∗ Pipeline.scopedRest (Ix := Unit) (Name := ℕ) (U := UR sig nD τ) (Lvl := ℕ) (Val := Elt F) spec1 c)
    rw [scr1]
    unfold carryB
    iintro ⟨⟨%f, -, Hf⟩, Hr⟩
    isplitr; · iempintro
    isplitr; · iempintro
    isplitl [Hf]; · iexists f; iexact Hf
    iexact Hr
  hexit c := by
    rw [split1 c (W3 m c), ← leave1, ← StableHlo.held_congr c.tc (rest1 m c)]
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-! ## The run -/

/-- The host operations before the scans, and those after them. -/
def segA : Pipeline.HostSeg (Name := ℕ) (U := UR sig nD τ) (pcfgs (F := F)) defs₀ Variants.none Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) Rd

def segZ : Pipeline.HostSeg (Name := ℕ) (U := UR sig nD τ) (pcfgs (F := F)) defs₀ Variants.none Lv lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) Rd

abbrev segList : List (Pipeline.Seg (pcfgs (F := F)) adm (pdats m) () defs₀ Variants.none Lv lv) :=
  [.host (segA m), .region (reg0 m), .region (reg1 m), .host (segZ m)]

set_option backward.isDefEq.respectTransparency.types false in
set_option maxHeartbeats 1000000 in
/-- Every weakly fair execution terminates, and every final state has each buffer as the host operations after the scans
    leave it, and every counter at zero. -/
theorem run_all : θ_run defs (onTc (τ := τ) (main (F := F))) ⟨m, fun _ => 0, ρ⟩
    (fun r => (∀ c : Dev nD, ∀ b ∈ Pipeline.ucRefs τ sig, r.2.mem (c, b) = W4 m c b) ∧ r.2.sem = fun _ => 0) :=
  Pipeline.θ_run_regions_kit_sems (pcfgs (F := F)) adm (pdats m) () cellOf_inj (emb₁ : Emb (UR sig nD τ) 𝕄) defs₀ Variants.none Lv lv m ρ main (segList m)
    (fun c Q => by rw [main_segs adm (pdats m) () Variants.none Lv lv (segA m) (segZ m) (reg0 m) (reg1 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(hd0 c (fun b => m (c, b)) ∗ Rd c)) (Tₙ := fun c => hd0 c (W4 m c))
    (hch := ⟨fun _ => .rfl, fun _ => .rfl, fun _ => .rfl, fun _ => .rfl, fun _ => .rfl⟩)
    (hinit := by
      refine Pipeline.initEach Lv lv fun c => ?_
      rw [show unscopedBufs c (fun b => m ((c : Thread nD τ).loc b)) = hd0 c (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => ∀ b ∈ Pipeline.ucRefs τ sig, s.mem (c, b) = W4 m c b)
    (hfin := fun c s' => by
      dsimp only [hd0]; unfold StableHlo.held
      iintro ⟨Hh, HSI⟩
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr; · ipureintro; exact h
      iexact HSI)
    (hQ := fun _ h hz => ⟨h, funext fun g => hz g (.inr (regions_no_unscoped g.2))⟩)

/-- An argument reaches the end as launched. -/
theorem W4_arg (c : Dev nD) (r : Ref sig .tc) (h : r ∉ hostOps0_W ++ [main_v9_0, main_v9_1] ++ [main_v10_0, main_v10_1, main_v10_2, main_v10_3, main_v10_4, main_v10_5] ++ hostOps2_W) :
    W4 m c r = m (c, r) := by
  simp only [List.mem_append, not_or] at h
  exact (W4_of m c r h.2).trans ((W3_of m c r h.1.2).trans ((W2_of m c r h.1.1.2).trans (W1_of m c r h.1.1.1)))

/-- A reference's place among the buffers the run accounts for. -/
theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, fun h' => Bool.false_ne_true (h.symm.trans h')⟩

end Cert.Proof.KernelIdeal

end
-- ==== Proof.Frames.lean ====
/- The kernel's run keeps its arguments and leaves every counter at zero, over any float values. -/
module

public import proofs.«01_k».proof.Defs
public import proofs.«01_k».proof.Proof.Run
public import proofs.«01_k».proof.Proof.Gen.Kernel

@[expose] public section

set_option maxRecDepth 16384

noncomputable section

namespace Cert.Proof.KernelIdeal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- What the run leaves in one unscoped buffer. -/
theorem read_at {r : PUnit × MemSt nD τ sig (Elt F)} (h : ∀ c : Dev nD, ∀ b ∈ Pipeline.ucRefs τ sig, r.2.mem (c, b) = W4 m c b) (c : Dev nD)
    (b : Ref sig .tc) (hb : (Proc.devRef (τ := τ) .tc b).isScoped = false) : r.2.mem ((c.tc : Thread nD τ).loc b) = W4 m c b :=
  h c _ (mem_uc b hb)

/-- Every weakly fair execution terminates with the arguments unchanged and the counters zero. -/
def Keeps : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem run_frame : Keeps m ρ :=
  (θ_run defs _ _).mono (fun r h => ⟨fun c =>
    ⟨(read_at m h.1 c main_arg0 (by decide)).trans (W4_arg m c main_arg0 (by decide)),
     (read_at m h.1 c main_arg1 (by decide)).trans (W4_arg m c main_arg1 (by decide)),
     (read_at m h.1 c main_arg2 (by decide)).trans (W4_arg m c main_arg2 (by decide)),
     (read_at m h.1 c main_arg3 (by decide)).trans (W4_arg m c main_arg3 (by decide)),
     (read_at m h.1 c main_arg4 (by decide)).trans (W4_arg m c main_arg4 (by decide)),
     (read_at m h.1 c main_arg5 (by decide)).trans (W4_arg m c main_arg5 (by decide)),
     (read_at m h.1 c main_arg6 (by decide)).trans (W4_arg m c main_arg6 (by decide))⟩, h.2⟩) (run_all m ρ)

end Cert.Proof.KernelIdeal

namespace Cert.Proof

open Idealize.ShloMosaic Idealize.SL.Sem

/-- The idealised kernel's frame: the run at the exact numbers. -/
theorem frame_ideal [Cert.KernelIdeal.Facts] : Cert.quiescent_KernelIdeal := fun m ρ _ => KernelIdeal.run_frame (F := Ideal) m ρ

/-- The kernel and its idealisation are one text, so the kernel's frame is that text's at the bit patterns. -/
theorem frame_same [Cert.Kernel.Facts] : Cert.quiescent_Kernel
    = ∀ (m : (ℓ : Loc Cert.KernelIdeal.nD Cert.KernelIdeal.τ Cert.KernelIdeal.sig) → Buf (Elt Bits) ℓ) (ρ : Dev Cert.KernelIdeal.nD → PrngReg),
        True → KernelIdeal.Keeps (F := Bits) m ρ := by chain_rfl

/-- The kernel's frame. -/
theorem frame_kernel [Cert.Kernel.Facts] : Cert.quiescent_Kernel :=
  frame_same.mpr fun m ρ _ => KernelIdeal.run_frame (F := Bits) m ρ

end Cert.Proof

end
-- ==== Proof.RefOps.lean ====
/- The reference's host operations as lists: what it lays out before its two loops, what one trip of each loop does, and
   what it lays out after them. -/
module

public import proofs.«01_k».proof.Proof.Gen.ReferenceIdeal
public import Idealize.ShloMosaic.Lib.StableHlo.RunLoop

@[expose] public section

set_option maxRecDepth 16384

noncomputable section

namespace Cert.Proof.ReferenceIdeal

open Cert.ReferenceIdeal Cert.ReferenceIdeal.Facts₀ Cert.ReferenceIdeal.Facts
open Idealize.ShloMosaic Idealize.ShloMosaic.StableHlo Idealize.ShloMosaic.TcCoe Idealize.SL.Sem

/-- The arrays of floats that the operations take and leave. -/
abbrev Arr (F : FTy → Type) [FloatOps F] (s : Shape) : Type := (⟨s, .f32⟩ : BufTy).Contents (Elt F)

variable {F : FTy → Type} [FloatOps F]

/-- What a call of `fn_dynamic_index_in_dim` does. -/
abbrev fn_dynamic_index_in_dim.ops (arg0 : TRef sig ⟨S256x2x8x64x128, .f32⟩) (arg1 : TRef sig ⟨S_, .i32⟩) (φ : fn_dynamic_index_in_dim.Bufs) : List (HloOp τ sig (Elt F)) :=
  [TRef.nullary φ.c (constantI S_ 32 0#32),
   TRef.nullary φ.c_0 (constantI S_ 32 0#32),
   TRef.nullary φ.c_1 (constantI S_ 32 0#32),
   TRef.nullary φ.c_2 (constantI S_ 32 0#32),
   TRef.unaryIndexed arg0 ![arg1, φ.c, φ.c_0, φ.c_1, φ.c_2] φ.v0 (fun x i => Host.dynamicSlice S1x2x8x64x128 x (fun k => (i k (Shape.Idx.first h_S_)).toInt) sliceFits_S256x2x8x64x128_S1x2x8x64x128),
   TRef.reshape φ.v0 φ.v1 rfl shapeCasts_S1x2x8x64x128_S2x8x64x128]

/-- What a call of `fn_dynamic_index_in_dim_0` does. -/
abbrev fn_dynamic_index_in_dim_0.ops (arg0 : TRef sig ⟨S256x2x8x64x64, .f32⟩) (arg1 : TRef sig ⟨S_, .i32⟩) (φ : fn_dynamic_index_in_dim_0.Bufs) : List (HloOp τ sig (Elt F)) :=
  [TRef.nullary φ.c (constantI S_ 32 0#32),
   TRef.nullary φ.c_0 (constantI S_ 32 0#32),
   TRef.nullary φ.c_1 (constantI S_ 32 0#32),
   TRef.nullary φ.c_2 (constantI S_ 32 0#32),
   TRef.unaryIndexed arg0 ![arg1, φ.c, φ.c_0, φ.c_1, φ.c_2] φ.v0 (fun x i => Host.dynamicSlice S1x2x8x64x64 x (fun k => (i k (Shape.Idx.first h_S_)).toInt) sliceFits_S256x2x8x64x64_S1x2x8x64x64),
   TRef.reshape φ.v0 φ.v1 rfl shapeCasts_S1x2x8x64x64_S2x8x64x64]

/-- What a call of `fn_dynamic_index_in_dim_1` does. -/
abbrev fn_dynamic_index_in_dim_1.ops (arg0 : TRef sig ⟨S256x2x8, .f32⟩) (arg1 : TRef sig ⟨S_, .i32⟩) (φ : fn_dynamic_index_in_dim_1.Bufs) : List (HloOp τ sig (Elt F)) :=
  [TRef.nullary φ.c (constantI S_ 32 0#32),
   TRef.nullary φ.c_0 (constantI S_ 32 0#32),
   TRef.unaryIndexed arg0 ![arg1, φ.c, φ.c_0] φ.v0 (fun x i => Host.dynamicSlice S1x2x8 x (fun k => (i k (Shape.Idx.first h_S_)).toInt) sliceFits_S256x2x8_S1x2x8),
   TRef.reshape φ.v0 φ.v1 rfl shapeCasts_S1x2x8_S2x8]

/-- What a call of `fn_dynamic_update_index_in_dim` does. -/
abbrev fn_dynamic_update_index_in_dim.ops (arg0 : TRef sig ⟨S256x2x8x64x128, .f32⟩) (arg1 : TRef sig ⟨S2x8x64x128, .f32⟩) (arg2 : TRef sig ⟨S_, .i32⟩) (φ : fn_dynamic_update_index_in_dim.Bufs) : List (HloOp τ sig (Elt F)) :=
  [TRef.unary arg1 φ.v0 (broadcastInDim S1x2x8x64x128 ![1, 2, 3, 4] bcast_S2x8x64x128_S1x2x8x64x128_1_2_3_4),
   TRef.nullary φ.c (constantI S_ 32 0#32),
   TRef.nullary φ.c_0 (constantI S_ 32 0#32),
   TRef.nullary φ.c_1 (constantI S_ 32 0#32),
   TRef.nullary φ.c_2 (constantI S_ 32 0#32),
   TRef.binaryIndexed arg0 φ.v0 ![arg2, φ.c, φ.c_0, φ.c_1, φ.c_2] φ.v1 (fun x u i => Host.dynamicUpdateSlice x u (fun k => (i k (Shape.Idx.first h_S_)).toInt) updateFits_S256x2x8x64x128_S1x2x8x64x128)]

/-- What a call of `fn_dynamic_update_index_in_dim_2` does. -/
abbrev fn_dynamic_update_index_in_dim_2.ops (arg0 : TRef sig ⟨S256x2x8x128x128, .f32⟩) (arg1 : TRef sig ⟨S2x8x128x128, .f32⟩) (arg2 : TRef sig ⟨S_, .i32⟩) (φ : fn_dynamic_update_index_in_dim_2.Bufs) : List (HloOp τ sig (Elt F)) :=
  [TRef.unary arg1 φ.v0 (broadcastInDim S1x2x8x128x128 ![1, 2, 3, 4] bcast_S2x8x128x128_S1x2x8x128x128_1_2_3_4),
   TRef.nullary φ.c (constantI S_ 32 0#32),
   TRef.nullary φ.c_0 (constantI S_ 32 0#32),
   TRef.nullary φ.c_1 (constantI S_ 32 0#32),
   TRef.nullary φ.c_2 (constantI S_ 32 0#32),
   TRef.binaryIndexed arg0 φ.v0 ![arg2, φ.c, φ.c_0, φ.c_1, φ.c_2] φ.v1 (fun x u i => Host.dynamicUpdateSlice x u (fun k => (i k (Shape.Idx.first h_S_)).toInt) updateFits_S256x2x8x128x128_S1x2x8x128x128)]

/-- What a call of `fn_dynamic_update_index_in_dim_3` does. -/
abbrev fn_dynamic_update_index_in_dim_3.ops (arg0 : TRef sig ⟨S256x2x8x1x1, .f32⟩) (arg1 : TRef sig ⟨S2x8x1x1, .f32⟩) (arg2 : TRef sig ⟨S_, .i32⟩) (φ : fn_dynamic_update_index_in_dim_3.Bufs) : List (HloOp τ sig (Elt F)) :=
  [TRef.unary arg1 φ.v0 (broadcastInDim S1x2x8x1x1 ![1, 2, 3, 4] bcast_S2x8x1x1_S1x2x8x1x1_1_2_3_4),
   TRef.nullary φ.c (constantI S_ 32 0#32),
   TRef.nullary φ.c_0 (constantI S_ 32 0#32),
   TRef.nullary φ.c_1 (constantI S_ 32 0#32),
   TRef.nullary φ.c_2 (constantI S_ 32 0#32),
   TRef.binaryIndexed arg0 φ.v0 ![arg2, φ.c, φ.c_0, φ.c_1, φ.c_2] φ.v1 (fun x u i => Host.dynamicUpdateSlice x u (fun k => (i k (Shape.Idx.first h_S_)).toInt) updateFits_S256x2x8x1x1_S1x2x8x1x1)]

/-- What a call of `fn_dynamic_index_in_dim_4` does. -/
abbrev fn_dynamic_index_in_dim_4.ops (arg0 : TRef sig ⟨S256x2x8x128x128, .f32⟩) (arg1 : TRef sig ⟨S_, .i32⟩) (φ : fn_dynamic_index_in_dim_4.Bufs) : List (HloOp τ sig (Elt F)) :=
  [TRef.nullary φ.c (constantI S_ 32 0#32),
   TRef.nullary φ.c_0 (constantI S_ 32 0#32),
   TRef.nullary φ.c_1 (constantI S_ 32 0#32),
   TRef.nullary φ.c_2 (constantI S_ 32 0#32),
   TRef.unaryIndexed arg0 ![arg1, φ.c, φ.c_0, φ.c_1, φ.c_2] φ.v0 (fun x i => Host.dynamicSlice S1x2x8x128x128 x (fun k => (i k (Shape.Idx.first h_S_)).toInt) sliceFits_S256x2x8x128x128_S1x2x8x128x128),
   TRef.reshape φ.v0 φ.v1 rfl shapeCasts_S1x2x8x128x128_S2x8x128x128]

/-- What a call of `fn_dynamic_index_in_dim_5` does. -/
abbrev fn_dynamic_index_in_dim_5.ops (arg0 : TRef sig ⟨S256x2x8x1x1, .f32⟩) (arg1 : TRef sig ⟨S_, .i32⟩) (φ : fn_dynamic_index_in_dim_5.Bufs) : List (HloOp τ sig (Elt F)) :=
  [TRef.nullary φ.c (constantI S_ 32 0#32),
   TRef.nullary φ.c_0 (constantI S_ 32 0#32),
   TRef.nullary φ.c_1 (constantI S_ 32 0#32),
   TRef.nullary φ.c_2 (constantI S_ 32 0#32),
   TRef.unaryIndexed arg0 ![arg1, φ.c, φ.c_0, φ.c_1, φ.c_2] φ.v0 (fun x i => Host.dynamicSlice S1x2x8x1x1 x (fun k => (i k (Shape.Idx.first h_S_)).toInt) sliceFits_S256x2x8x1x1_S1x2x8x1x1),
   TRef.reshape φ.v0 φ.v1 rfl shapeCasts_S1x2x8x1x1_S2x8x1x1]

/-- What a call of `fn_dynamic_update_index_in_dim_6` does. -/
abbrev fn_dynamic_update_index_in_dim_6.ops (arg0 : TRef sig ⟨S256x2x8x64x64, .f32⟩) (arg1 : TRef sig ⟨S2x8x64x64, .f32⟩) (arg2 : TRef sig ⟨S_, .i32⟩) (φ : fn_dynamic_update_index_in_dim_6.Bufs) : List (HloOp τ sig (Elt F)) :=
  [TRef.unary arg1 φ.v0 (broadcastInDim S1x2x8x64x64 ![1, 2, 3, 4] bcast_S2x8x64x64_S1x2x8x64x64_1_2_3_4),
   TRef.nullary φ.c (constantI S_ 32 0#32),
   TRef.nullary φ.c_0 (constantI S_ 32 0#32),
   TRef.nullary φ.c_1 (constantI S_ 32 0#32),
   TRef.nullary φ.c_2 (constantI S_ 32 0#32),
   TRef.binaryIndexed arg0 φ.v0 ![arg2, φ.c, φ.c_0, φ.c_1, φ.c_2] φ.v1 (fun x u i => Host.dynamicUpdateSlice x u (fun k => (i k (Shape.Idx.first h_S_)).toInt) updateFits_S256x2x8x64x64_S1x2x8x64x64)]

/-- What a call of `fn_dynamic_update_index_in_dim_7` does. -/
abbrev fn_dynamic_update_index_in_dim_7.ops (arg0 : TRef sig ⟨S256x2x8, .f32⟩) (arg1 : TRef sig ⟨S2x8, .f32⟩) (arg2 : TRef sig ⟨S_, .i32⟩) (φ : fn_dynamic_update_index_in_dim_7.Bufs) : List (HloOp τ sig (Elt F)) :=
  [TRef.unary arg1 φ.v0 (broadcastInDim S1x2x8 ![1, 2] bcast_S2x8_S1x2x8_1_2),
   TRef.nullary φ.c (constantI S_ 32 0#32),
   TRef.nullary φ.c_0 (constantI S_ 32 0#32),
   TRef.binaryIndexed arg0 φ.v0 ![arg2, φ.c, φ.c_0] φ.v1 (fun x u i => Host.dynamicUpdateSlice x u (fun k => (i k (Shape.Idx.first h_S_)).toInt) updateFits_S256x2x8_S1x2x8)]

/-- The values `u`, chunk by chunk in the order of the scan. -/
abbrev opsU : List (HloOp τ sig (Elt F)) :=
  [reshape main_arg0 main_v0 rfl shapeCasts_S2x16384x1024_S2x256x64x8x128,
   unary main_v0 main_v1 ((transpose S2x256x8x64x128 [0, 1, 3, 2, 4] · transposes_S2x256x64x8x128_S2x256x8x64x128_0_1_3_2_4)),
   unary main_v1 main_v2 ((extractStridedSlice S1x256x8x64x128 ![0, 0, 0, 0, 0] · slices_S2x256x8x64x128_S1x256x8x64x128_0_0_0_0_0)),
   reshape main_v2 main_v3 rfl shapeCasts_S1x256x8x64x128_S256x8x64x128,
   unary main_v1 main_v4 ((extractStridedSlice S1x256x8x64x128 ![1, 0, 0, 0, 0] · slices_S2x256x8x64x128_S1x256x8x64x128_1_0_0_0_0)),
   unary main_v4 main_v5 (Host.reverse [1]),
   reshape main_v5 main_v6 rfl shapeCasts_S1x256x8x64x128_S256x8x64x128,
   unary main_v3 main_v7 (broadcastInDim S256x1x8x64x128 ![0, 2, 3, 4] bcast_S256x8x64x128_S256x1x8x64x128_0_2_3_4),
   unary main_v6 main_v8 (broadcastInDim S256x1x8x64x128 ![0, 2, 3, 4] bcast_S256x8x64x128_S256x1x8x64x128_0_2_3_4),
   binary main_v7 main_v8 main_v9 ((fun a b => concatenate S256x2x8x64x128 1 [⟨S256x1x8x64x128, a⟩, ⟨S256x1x8x64x128, b⟩] concatenates_S256x1x8x64x128_S256x1x8x64x128_S256x2x8x64x128_d1))]

/-- The keys `w`, likewise. -/
abbrev opsW : List (HloOp τ sig (Elt F)) :=
  [unary main_arg1 main_v10 ((extf .f32 · bitsLt_bf16_f32) : (⟨S2x16384x1024, .bf16⟩ : BufTy).Contents (Elt F) → Arr F S2x16384x1024),
   reshape main_v10 main_v11 rfl shapeCasts_S2x16384x1024_S2x256x64x8x128,
   unary main_v11 main_v12 ((transpose S2x256x8x64x128 [0, 1, 3, 2, 4] · transposes_S2x256x64x8x128_S2x256x8x64x128_0_1_3_2_4)),
   unary main_v12 main_v13 ((extractStridedSlice S1x256x8x64x128 ![0, 0, 0, 0, 0] · slices_S2x256x8x64x128_S1x256x8x64x128_0_0_0_0_0)),
   reshape main_v13 main_v14 rfl shapeCasts_S1x256x8x64x128_S256x8x64x128,
   unary main_v12 main_v15 ((extractStridedSlice S1x256x8x64x128 ![1, 0, 0, 0, 0] · slices_S2x256x8x64x128_S1x256x8x64x128_1_0_0_0_0)),
   unary main_v15 main_v16 (Host.reverse [1]),
   reshape main_v16 main_v17 rfl shapeCasts_S1x256x8x64x128_S256x8x64x128,
   unary main_v14 main_v18 (broadcastInDim S256x1x8x64x128 ![0, 2, 3, 4] bcast_S256x8x64x128_S256x1x8x64x128_0_2_3_4),
   unary main_v17 main_v19 (broadcastInDim S256x1x8x64x128 ![0, 2, 3, 4] bcast_S256x8x64x128_S256x1x8x64x128_0_2_3_4),
   binary main_v18 main_v19 main_v20 ((fun a b => concatenate S256x2x8x64x128 1 [⟨S256x1x8x64x128, a⟩, ⟨S256x1x8x64x128, b⟩] concatenates_S256x1x8x64x128_S256x1x8x64x128_S256x2x8x64x128_d1))]

/-- The matrices within a chunk. -/
abbrev opsA : List (HloOp τ sig (Elt F)) :=
  [unary main_arg4 main_v21 ((extf .f32 · bitsLt_bf16_f32) : (⟨S2x256x8x64x64, .bf16⟩ : BufTy).Contents (Elt F) → Arr F S2x256x8x64x64),
   unary main_v21 main_v22 ((extractStridedSlice S1x256x8x64x64 ![0, 0, 0, 0, 0] · slices_S2x256x8x64x64_S1x256x8x64x64_0_0_0_0_0)),
   reshape main_v22 main_v23 rfl shapeCasts_S1x256x8x64x64_S256x8x64x64,
   unary main_v21 main_v24 ((extractStridedSlice S1x256x8x64x64 ![1, 0, 0, 0, 0] · slices_S2x256x8x64x64_S1x256x8x64x64_1_0_0_0_0)),
   unary main_v24 main_v25 (Host.reverse [1]),
   reshape main_v25 main_v26 rfl shapeCasts_S1x256x8x64x64_S256x8x64x64,
   unary main_v23 main_v27 (broadcastInDim S256x1x8x64x64 ![0, 2, 3, 4] bcast_S256x8x64x64_S256x1x8x64x64_0_2_3_4),
   unary main_v26 main_v28 (broadcastInDim S256x1x8x64x64 ![0, 2, 3, 4] bcast_S256x8x64x64_S256x1x8x64x64_0_2_3_4),
   binary main_v27 main_v28 main_v29 ((fun a b => concatenate S256x2x8x64x64 1 [⟨S256x1x8x64x64, a⟩, ⟨S256x1x8x64x64, b⟩] concatenates_S256x1x8x64x64_S256x1x8x64x64_S256x2x8x64x64_d1))]

/-- The queries. -/
abbrev opsQ : List (HloOp τ sig (Elt F)) :=
  [unary main_arg2 main_v30 ((extf .f32 · bitsLt_bf16_f32) : (⟨S2x16384x1024, .bf16⟩ : BufTy).Contents (Elt F) → Arr F S2x16384x1024),
   reshape main_v30 main_v31 rfl shapeCasts_S2x16384x1024_S2x256x64x8x128,
   unary main_v31 main_v32 ((transpose S2x256x8x64x128 [0, 1, 3, 2, 4] · transposes_S2x256x64x8x128_S2x256x8x64x128_0_1_3_2_4)),
   unary main_v32 main_v33 ((extractStridedSlice S1x256x8x64x128 ![0, 0, 0, 0, 0] · slices_S2x256x8x64x128_S1x256x8x64x128_0_0_0_0_0)),
   reshape main_v33 main_v34 rfl shapeCasts_S1x256x8x64x128_S256x8x64x128,
   unary main_v32 main_v35 ((extractStridedSlice S1x256x8x64x128 ![1, 0, 0, 0, 0] · slices_S2x256x8x64x128_S1x256x8x64x128_1_0_0_0_0)),
   unary main_v35 main_v36 (Host.reverse [1]),
   reshape main_v36 main_v37 rfl shapeCasts_S1x256x8x64x128_S256x8x64x128,
   unary main_v34 main_v38 (broadcastInDim S256x1x8x64x128 ![0, 2, 3, 4] bcast_S256x8x64x128_S256x1x8x64x128_0_2_3_4),
   unary main_v37 main_v39 (broadcastInDim S256x1x8x64x128 ![0, 2, 3, 4] bcast_S256x8x64x128_S256x1x8x64x128_0_2_3_4),
   binary main_v38 main_v39 main_v40 ((fun a b => concatenate S256x2x8x64x128 1 [⟨S256x1x8x64x128, a⟩, ⟨S256x1x8x64x128, b⟩] concatenates_S256x1x8x64x128_S256x1x8x64x128_S256x2x8x64x128_d1))]

/-- The keys of the update. -/
abbrev opsK : List (HloOp τ sig (Elt F)) :=
  [unary main_arg3 main_v41 ((extf .f32 · bitsLt_bf16_f32) : (⟨S2x16384x1024, .bf16⟩ : BufTy).Contents (Elt F) → Arr F S2x16384x1024),
   reshape main_v41 main_v42 rfl shapeCasts_S2x16384x1024_S2x256x64x8x128,
   unary main_v42 main_v43 ((transpose S2x256x8x64x128 [0, 1, 3, 2, 4] · transposes_S2x256x64x8x128_S2x256x8x64x128_0_1_3_2_4)),
   unary main_v43 main_v44 ((extractStridedSlice S1x256x8x64x128 ![0, 0, 0, 0, 0] · slices_S2x256x8x64x128_S1x256x8x64x128_0_0_0_0_0)),
   reshape main_v44 main_v45 rfl shapeCasts_S1x256x8x64x128_S256x8x64x128,
   unary main_v43 main_v46 ((extractStridedSlice S1x256x8x64x128 ![1, 0, 0, 0, 0] · slices_S2x256x8x64x128_S1x256x8x64x128_1_0_0_0_0)),
   unary main_v46 main_v47 (Host.reverse [1]),
   reshape main_v47 main_v48 rfl shapeCasts_S1x256x8x64x128_S256x8x64x128,
   unary main_v45 main_v49 (broadcastInDim S256x1x8x64x128 ![0, 2, 3, 4] bcast_S256x8x64x128_S256x1x8x64x128_0_2_3_4),
   unary main_v48 main_v50 (broadcastInDim S256x1x8x64x128 ![0, 2, 3, 4] bcast_S256x8x64x128_S256x1x8x64x128_0_2_3_4),
   binary main_v49 main_v50 main_v51 ((fun a b => concatenate S256x2x8x64x128 1 [⟨S256x1x8x64x128, a⟩, ⟨S256x1x8x64x128, b⟩] concatenates_S256x1x8x64x128_S256x1x8x64x128_S256x2x8x64x128_d1))]

/-- The decays. -/
abbrev opsG : List (HloOp τ sig (Elt F)) :=
  [unary main_arg5 main_v52 ((extractStridedSlice S1x256x8 ![0, 0, 0] · slices_S2x256x8_S1x256x8_0_0_0)),
   reshape main_v52 main_v53 rfl shapeCasts_S1x256x8_S256x8,
   unary main_arg5 main_v54 ((extractStridedSlice S1x256x8 ![1, 0, 0] · slices_S2x256x8_S1x256x8_1_0_0)),
   unary main_v54 main_v55 (Host.reverse [1]),
   reshape main_v55 main_v56 rfl shapeCasts_S1x256x8_S256x8,
   unary main_v53 main_v57 (broadcastInDim S256x1x8 ![0, 2] bcast_S256x8_S256x1x8_0_2),
   unary main_v56 main_v58 (broadcastInDim S256x1x8 ![0, 2] bcast_S256x8_S256x1x8_0_2),
   binary main_v57 main_v58 main_v59 ((fun a b => concatenate S256x2x8 1 [⟨S256x1x8, a⟩, ⟨S256x1x8, b⟩] concatenates_S256x1x8_S256x1x8_S256x2x8_d1))]

/-- What the forward loop starts from. -/
abbrev opsI : List (HloOp τ sig (Elt F)) :=
  [nullary main_cst (constant S_ .f32 0x00000000#32),
   unary main_cst main_v60 (broadcastInDim S2x8x128x128 ![] bcast_S_S2x8x128x128),
   nullary main_cst_0 (constant S_ .f32 0x00000000#32),
   unary main_cst_0 main_v61 (broadcastInDim S256x2x8x64x128 ![] bcast_S_S256x2x8x64x128),
   nullary main_cst_1 (constant S_ .f32 0x00000000#32),
   unary main_cst_1 main_v62 (broadcastInDim S256x2x8x128x128 ![] bcast_S_S256x2x8x128x128),
   nullary main_cst_2 (constant S_ .f32 0x00000000#32),
   unary main_cst_2 main_v63 (broadcastInDim S256x2x8x64x128 ![] bcast_S_S256x2x8x64x128),
   nullary main_cst_3 (constant S_ .f32 0x00000000#32),
   unary main_cst_3 main_v64 (broadcastInDim S256x2x8x1x1 ![] bcast_S_S256x2x8x1x1),
   nullary main_c (constantI S_ 32 0#32),
   unary main_v9 main_v65_0 id,
   unary main_v20 main_v65_1 id,
   unary main_v29 main_v65_2 id,
   unary main_v40 main_v65_3 id,
   unary main_v51 main_v65_4 id,
   unary main_v59 main_v65_5 id,
   unary main_c main_v65_6 id,
   unary main_v60 main_v65_7 id,
   unary main_v61 main_v65_8 id,
   unary main_v62 main_v65_9 id,
   unary main_v63 main_v65_10 id,
   unary main_v64 main_v65_11 id]

/-- Trip of the forward loop: its chunk read. -/
abbrev f_read : List (HloOp τ sig (Elt F)) :=
  fn_dynamic_index_in_dim.ops (.of main_v65_0) (.of main_v65_6) main_while0b_call0 ++
    fn_dynamic_index_in_dim.ops (.of main_v65_1) (.of main_v65_6) main_while0b_call1 ++
    fn_dynamic_index_in_dim_0.ops (.of main_v65_2) (.of main_v65_6) main_while0b_call2 ++
    fn_dynamic_index_in_dim.ops (.of main_v65_3) (.of main_v65_6) main_while0b_call3 ++
    fn_dynamic_index_in_dim.ops (.of main_v65_4) (.of main_v65_6) main_while0b_call4 ++
    fn_dynamic_index_in_dim_1.ops (.of main_v65_5) (.of main_v65_6) main_while0b_call5

/-- Its arithmetic. -/
abbrev f_core : List (HloOp τ sig (Elt F)) :=
  [binary main_while0b_v158 main_v65_7 main_while0b_v163 ((fun l r => Host.dotGeneral dot_S2x8x64x128_S2x8x128x128_S2x8x64x128_3_2_2_3_01_01 none l r)),
   binary main_while0b_v157 main_while0b_v163 main_while0b_v164 (subf),
   binary main_while0b_v160 main_v65_7 main_while0b_v165 ((fun l r => Host.dotGeneral dot_S2x8x64x128_S2x8x128x128_S2x8x64x128_3_2_2_3_01_01 none l r)),
   binary main_while0b_v159 main_while0b_v164 main_while0b_v166 ((fun l r => Host.dotGeneral dot_S2x8x64x64_S2x8x64x128_S2x8x64x128_3_2_2_3_01_01 none l r)),
   binary main_while0b_v165 main_while0b_v166 main_while0b_v167 (addf),
   unary main_while0b_v162 main_while0b_v168 (broadcastInDim S2x8x1x1 ![0, 1] bcast_S2x8_S2x8x1x1_0_1),
   unary main_while0b_v168 main_while0b_v169 (broadcastInDim S2x8x128x128 ![0, 1, 2, 3] bcast_S2x8x1x1_S2x8x128x128_0_1_2_3),
   binary main_v65_7 main_while0b_v169 main_while0b_v170 (mulf),
   binary main_while0b_v161 main_while0b_v164 main_while0b_v171 ((fun l r => Host.dotGeneral dot_S2x8x64x128_S2x8x64x128_S2x8x128x128_2_2_3_3_01_01 none l r)),
   binary main_while0b_v170 main_while0b_v171 main_while0b_v172 (addf)]

/-- Its results written. -/
abbrev f_write : List (HloOp τ sig (Elt F)) :=
  fn_dynamic_update_index_in_dim.ops (.of main_v65_8) (.of main_while0b_v167) (.of main_v65_6) main_while0b_call6 ++
    fn_dynamic_update_index_in_dim_2.ops (.of main_v65_9) (.of main_v65_7) (.of main_v65_6) main_while0b_call7 ++
    fn_dynamic_update_index_in_dim.ops (.of main_v65_10) (.of main_while0b_v164) (.of main_v65_6) main_while0b_call8 ++
    fn_dynamic_update_index_in_dim_3.ops (.of main_v65_11) (.of main_while0b_v168) (.of main_v65_6) main_while0b_call9

/-- Its carried values. -/
abbrev f_next : List (HloOp τ sig (Elt F)) :=
  [nullary main_while0b_c_24 (constantI S_ 32 1#32),
   binary main_v65_6 main_while0b_c_24 main_while0b_v177 (addi : (⟨S_, .i32⟩ : BufTy).Contents (Elt F) → (⟨S_, .i32⟩ : BufTy).Contents (Elt F) → (⟨S_, .i32⟩ : BufTy).Contents (Elt F)),
   unary main_while0b_v177 main_v65_6 id,
   unary main_while0b_v172 main_v65_7 id,
   unary main_while0b_v173 main_v65_8 id,
   unary main_while0b_v174 main_v65_9 id,
   unary main_while0b_v175 main_v65_10 id,
   unary main_while0b_v176 main_v65_11 id]

/-- The cotangent of the outputs, chunk by chunk. -/
abbrev opsD : List (HloOp τ sig (Elt F)) :=
  [unary main_arg6 main_v66 (broadcastInDim S1x16384x1024 ![1, 2] bcast_S16384x1024_S1x16384x1024_1_2 : (⟨S16384x1024, .bf16⟩ : BufTy).Contents (Elt F) → (⟨S1x16384x1024, .bf16⟩ : BufTy).Contents (Elt F)),
   unary main_arg6 main_v67 (broadcastInDim S1x16384x1024 ![1, 2] bcast_S16384x1024_S1x16384x1024_1_2 : (⟨S16384x1024, .bf16⟩ : BufTy).Contents (Elt F) → (⟨S1x16384x1024, .bf16⟩ : BufTy).Contents (Elt F)),
   binary main_v66 main_v67 main_v68 ((fun a b => concatenate S2x16384x1024 0 [⟨S1x16384x1024, a⟩, ⟨S1x16384x1024, b⟩] concatenates_S1x16384x1024_S1x16384x1024_S2x16384x1024_d0) : (⟨S1x16384x1024, .bf16⟩ : BufTy).Contents (Elt F) → (⟨S1x16384x1024, .bf16⟩ : BufTy).Contents (Elt F) → (⟨S2x16384x1024, .bf16⟩ : BufTy).Contents (Elt F)),
   unary main_v68 main_v69 ((extf .f32 · bitsLt_bf16_f32) : (⟨S2x16384x1024, .bf16⟩ : BufTy).Contents (Elt F) → Arr F S2x16384x1024),
   reshape main_v69 main_v70 rfl shapeCasts_S2x16384x1024_S2x256x64x8x128,
   unary main_v70 main_v71 ((transpose S2x256x8x64x128 [0, 1, 3, 2, 4] · transposes_S2x256x64x8x128_S2x256x8x64x128_0_1_3_2_4)),
   unary main_v71 main_v72 ((extractStridedSlice S1x256x8x64x128 ![0, 0, 0, 0, 0] · slices_S2x256x8x64x128_S1x256x8x64x128_0_0_0_0_0)),
   reshape main_v72 main_v73 rfl shapeCasts_S1x256x8x64x128_S256x8x64x128,
   unary main_v71 main_v74 ((extractStridedSlice S1x256x8x64x128 ![1, 0, 0, 0, 0] · slices_S2x256x8x64x128_S1x256x8x64x128_1_0_0_0_0)),
   unary main_v74 main_v75 (Host.reverse [1]),
   reshape main_v75 main_v76 rfl shapeCasts_S1x256x8x64x128_S256x8x64x128,
   unary main_v73 main_v77 (broadcastInDim S256x1x8x64x128 ![0, 2, 3, 4] bcast_S256x8x64x128_S256x1x8x64x128_0_2_3_4),
   unary main_v76 main_v78 (broadcastInDim S256x1x8x64x128 ![0, 2, 3, 4] bcast_S256x8x64x128_S256x1x8x64x128_0_2_3_4),
   binary main_v77 main_v78 main_v79 ((fun a b => concatenate S256x2x8x64x128 1 [⟨S256x1x8x64x128, a⟩, ⟨S256x1x8x64x128, b⟩] concatenates_S256x1x8x64x128_S256x1x8x64x128_S256x2x8x64x128_d1))]

/-- What the backward loop starts from. -/
abbrev opsJ : List (HloOp τ sig (Elt F)) :=
  [nullary main_cst_4 (constant S_ .f32 0x00000000#32),
   unary main_cst_4 main_v80 (broadcastInDim S2x8x128x128 ![] bcast_S_S2x8x128x128),
   nullary main_cst_5 (constant S_ .f32 0x00000000#32),
   unary main_cst_5 main_v81 (broadcastInDim S2x8x128x128 ![] bcast_S_S2x8x128x128),
   nullary main_cst_6 (constant S_ .f32 0x00000000#32),
   unary main_cst_6 main_v82 (broadcastInDim S256x2x8x64x128 ![] bcast_S_S256x2x8x64x128),
   nullary main_cst_7 (constant S_ .f32 0x00000000#32),
   unary main_cst_7 main_v83 (broadcastInDim S256x2x8x64x128 ![] bcast_S_S256x2x8x64x128),
   nullary main_cst_8 (constant S_ .f32 0x00000000#32),
   unary main_cst_8 main_v84 (broadcastInDim S256x2x8x64x64 ![] bcast_S_S256x2x8x64x64),
   nullary main_cst_9 (constant S_ .f32 0x00000000#32),
   unary main_cst_9 main_v85 (broadcastInDim S256x2x8x64x128 ![] bcast_S_S256x2x8x64x128),
   nullary main_cst_10 (constant S_ .f32 0x00000000#32),
   unary main_cst_10 main_v86 (broadcastInDim S256x2x8x64x128 ![] bcast_S_S256x2x8x64x128),
   nullary main_cst_11 (constant S_ .f32 0x00000000#32),
   unary main_cst_11 main_v87 (broadcastInDim S256x2x8 ![] bcast_S_S256x2x8),
   nullary main_c_12 (constantI S_ 32 0#32),
   unary main_v79 main_v88_0 id,
   unary main_v65_9 main_v88_1 id,
   unary main_v20 main_v88_2 id,
   unary main_v40 main_v88_3 id,
   unary main_v65_10 main_v88_4 id,
   unary main_v29 main_v88_5 id,
   unary main_v65_11 main_v88_6 id,
   unary main_v51 main_v88_7 id,
   unary main_c_12 main_v88_8 id,
   unary main_v81 main_v88_9 id,
   unary main_v82 main_v88_10 id,
   unary main_v83 main_v88_11 id,
   unary main_v84 main_v88_12 id,
   unary main_v85 main_v88_13 id,
   unary main_v86 main_v88_14 id,
   unary main_v87 main_v88_15 id]

/-- Trip of the backward loop: the chunk it treats. -/
abbrev b_pos : List (HloOp τ sig (Elt F)) :=
  [nullary main_while1b_c_28 (constantI S_ 32 256#32),
   binary main_while1b_c_28 main_v88_8 main_while1b_v157 (subi : (⟨S_, .i32⟩ : BufTy).Contents (Elt F) → (⟨S_, .i32⟩ : BufTy).Contents (Elt F) → (⟨S_, .i32⟩ : BufTy).Contents (Elt F)),
   nullary main_while1b_c_29 (constantI S_ 32 1#32),
   binary main_while1b_v157 main_while1b_c_29 main_while1b_v158 (subi : (⟨S_, .i32⟩ : BufTy).Contents (Elt F) → (⟨S_, .i32⟩ : BufTy).Contents (Elt F) → (⟨S_, .i32⟩ : BufTy).Contents (Elt F))]

/-- That chunk read. -/
abbrev b_read : List (HloOp τ sig (Elt F)) :=
  fn_dynamic_index_in_dim.ops (.of main_v88_0) (.of main_while1b_v158) main_while1b_call10 ++
    fn_dynamic_index_in_dim_4.ops (.of main_v88_1) (.of main_while1b_v158) main_while1b_call11 ++
    fn_dynamic_index_in_dim.ops (.of main_v88_2) (.of main_while1b_v158) main_while1b_call12 ++
    fn_dynamic_index_in_dim.ops (.of main_v88_3) (.of main_while1b_v158) main_while1b_call13 ++
    fn_dynamic_index_in_dim.ops (.of main_v88_4) (.of main_while1b_v158) main_while1b_call14 ++
    fn_dynamic_index_in_dim_0.ops (.of main_v88_5) (.of main_while1b_v158) main_while1b_call15 ++
    fn_dynamic_index_in_dim_5.ops (.of main_v88_6) (.of main_while1b_v158) main_while1b_call16 ++
    fn_dynamic_index_in_dim.ops (.of main_v88_7) (.of main_while1b_v158) main_while1b_call17

/-- Its arithmetic. -/
abbrev b_core : List (HloOp τ sig (Elt F)) :=
  [binary main_v88_9 main_while1b_v166 main_while1b_v167 ((fun l r => Host.dotGeneral dot_S2x8x128x128_S2x8x64x128_S2x8x128x64_2_3_3_2_01_01 none l r)),
   unary main_while1b_v167 main_while1b_v168 ((transpose S2x8x64x128 [0, 1, 3, 2] · transposes_S2x8x128x64_S2x8x64x128_0_1_3_2)),
   binary main_v88_9 main_while1b_v163 main_while1b_v169 ((fun l r => Host.dotGeneral dot_S2x8x128x128_S2x8x64x128_S2x8x128x64_3_3_2_2_01_01 none l r)),
   unary main_while1b_v169 main_while1b_v170 ((transpose S2x8x64x128 [0, 1, 3, 2] · transposes_S2x8x128x64_S2x8x64x128_0_1_3_2)),
   binary main_while1b_v160 main_v88_9 main_while1b_v171 (mulf),
   nullary main_while1b_cst_30 (constant S_ .f32 0x00000000#32),
   binary main_while1b_v171 main_while1b_cst_30 main_while1b_v172 ((fun x v => Host.reduceAdd x v reducesTo_S2x8x128x128_S2x8_d2_3 h_S_)),
   reshape main_while1b_v172 main_while1b_v173 rfl shapeCasts_S2x8_S2x8x1x1,
   unary main_while1b_v165 main_while1b_v174 (broadcastInDim S2x8x128x128 ![0, 1, 2, 3] bcast_S2x8x1x1_S2x8x128x128_0_1_2_3),
   binary main_v88_9 main_while1b_v174 main_while1b_v175 (mulf),
   nullary main_while1b_cst_31 (constant S_ .f32 0x00000000#32),
   binary main_while1b_v173 main_while1b_cst_31 main_while1b_v176 ((fun x v => Host.reduceAdd x v reducesTo_S2x8x1x1_S2x8_d2_3 h_S_)),
   binary main_while1b_v159 main_while1b_v164 main_while1b_v177 ((fun l r => Host.dotGeneral dot_S2x8x64x128_S2x8x64x64_S2x8x128x64_2_2_3_3_01_01 none l r)),
   unary main_while1b_v177 main_while1b_v178 ((transpose S2x8x64x128 [0, 1, 3, 2] · transposes_S2x8x128x64_S2x8x64x128_0_1_3_2)),
   binary main_while1b_v168 main_while1b_v178 main_while1b_v179 (addf),
   binary main_while1b_v159 main_while1b_v163 main_while1b_v180 ((fun l r => Host.dotGeneral dot_S2x8x64x128_S2x8x64x128_S2x8x64x64_3_3_2_2_01_01 none l r)),
   binary main_while1b_v159 main_while1b_v162 main_while1b_v181 ((fun l r => Host.dotGeneral dot_S2x8x64x128_S2x8x64x128_S2x8x128x128_2_2_3_3_01_01 none l r)),
   unary main_while1b_v181 main_while1b_v182 ((transpose S2x8x128x128 [0, 1, 3, 2] · transposes_S2x8x128x128_S2x8x128x128_0_1_3_2)),
   binary main_while1b_v175 main_while1b_v182 main_while1b_v183 (addf),
   binary main_while1b_v159 main_while1b_v160 main_while1b_v184 ((fun l r => Host.dotGeneral dot_S2x8x64x128_S2x8x128x128_S2x8x64x128_3_3_2_2_01_01 none l r)),
   unary main_while1b_v179 main_while1b_v185 (Host.negf),
   binary main_while1b_v185 main_while1b_v161 main_while1b_v186 ((fun l r => Host.dotGeneral dot_S2x8x64x128_S2x8x64x128_S2x8x128x128_2_2_3_3_01_01 none l r)),
   unary main_while1b_v186 main_while1b_v187 ((transpose S2x8x128x128 [0, 1, 3, 2] · transposes_S2x8x128x128_S2x8x128x128_0_1_3_2)),
   binary main_while1b_v183 main_while1b_v187 main_while1b_v188 (addf),
   binary main_while1b_v185 main_while1b_v160 main_while1b_v189 ((fun l r => Host.dotGeneral dot_S2x8x64x128_S2x8x128x128_S2x8x64x128_3_3_2_2_01_01 none l r))]

/-- Its results written. -/
abbrev b_write : List (HloOp τ sig (Elt F)) :=
  fn_dynamic_update_index_in_dim.ops (.of main_v88_10) (.of main_while1b_v179) (.of main_while1b_v158) main_while1b_call18 ++
    fn_dynamic_update_index_in_dim.ops (.of main_v88_11) (.of main_while1b_v189) (.of main_while1b_v158) main_while1b_call19 ++
    fn_dynamic_update_index_in_dim_6.ops (.of main_v88_12) (.of main_while1b_v180) (.of main_while1b_v158) main_while1b_call20 ++
    fn_dynamic_update_index_in_dim.ops (.of main_v88_13) (.of main_while1b_v184) (.of main_while1b_v158) main_while1b_call21 ++
    fn_dynamic_update_index_in_dim.ops (.of main_v88_14) (.of main_while1b_v170) (.of main_while1b_v158) main_while1b_call22 ++
    fn_dynamic_update_index_in_dim_7.ops (.of main_v88_15) (.of main_while1b_v176) (.of main_while1b_v158) main_while1b_call23

/-- Its carried values. -/
abbrev b_next : List (HloOp τ sig (Elt F)) :=
  [nullary main_while1b_c_32 (constantI S_ 32 1#32),
   binary main_v88_8 main_while1b_c_32 main_while1b_v196 (addi : (⟨S_, .i32⟩ : BufTy).Contents (Elt F) → (⟨S_, .i32⟩ : BufTy).Contents (Elt F) → (⟨S_, .i32⟩ : BufTy).Contents (Elt F)),
   unary main_while1b_v196 main_v88_8 id,
   unary main_while1b_v188 main_v88_9 id,
   unary main_while1b_v190 main_v88_10 id,
   unary main_while1b_v191 main_v88_11 id,
   unary main_while1b_v192 main_v88_12 id,
   unary main_while1b_v193 main_v88_13 id,
   unary main_while1b_v194 main_v88_14 id,
   unary main_while1b_v195 main_v88_15 id]

/-- The outputs, laid out as the kernel returns them. -/
abbrev opsO : List (HloOp τ sig (Elt F)) :=
  [unary main_v65_8 main_v89 ((extractStridedSlice S256x1x8x64x128 ![0, 0, 0, 0, 0] · slices_S256x2x8x64x128_S256x1x8x64x128_0_0_0_0_0)),
   reshape main_v89 main_v90 rfl shapeCasts_S256x1x8x64x128_S256x8x64x128,
   unary main_v65_8 main_v91 ((extractStridedSlice S256x1x8x64x128 ![0, 1, 0, 0, 0] · slices_S256x2x8x64x128_S256x1x8x64x128_0_1_0_0_0)),
   unary main_v91 main_v92 (Host.reverse [0]),
   reshape main_v92 main_v93 rfl shapeCasts_S256x1x8x64x128_S256x8x64x128,
   unary main_v90 main_v94 (broadcastInDim S1x256x8x64x128 ![1, 2, 3, 4] bcast_S256x8x64x128_S1x256x8x64x128_1_2_3_4),
   unary main_v93 main_v95 (broadcastInDim S1x256x8x64x128 ![1, 2, 3, 4] bcast_S256x8x64x128_S1x256x8x64x128_1_2_3_4),
   binary main_v94 main_v95 main_v96 ((fun a b => concatenate S2x256x8x64x128 0 [⟨S1x256x8x64x128, a⟩, ⟨S1x256x8x64x128, b⟩] concatenates_S1x256x8x64x128_S1x256x8x64x128_S2x256x8x64x128_d0)),
   unary main_v96 main_v97 ((transpose S2x256x64x8x128 [0, 1, 3, 2, 4] · transposes_S2x256x8x64x128_S2x256x64x8x128_0_1_3_2_4)),
   reshape main_v97 main_v98 rfl shapeCasts_S2x256x64x8x128_S2x16384x1024]

/-- The gradient of `u`. -/
abbrev opsDu : List (HloOp τ sig (Elt F)) :=
  [unary main_v88_10 main_v99 ((extractStridedSlice S256x1x8x64x128 ![0, 0, 0, 0, 0] · slices_S256x2x8x64x128_S256x1x8x64x128_0_0_0_0_0)),
   reshape main_v99 main_v100 rfl shapeCasts_S256x1x8x64x128_S256x8x64x128,
   unary main_v88_10 main_v101 ((extractStridedSlice S256x1x8x64x128 ![0, 1, 0, 0, 0] · slices_S256x2x8x64x128_S256x1x8x64x128_0_1_0_0_0)),
   unary main_v101 main_v102 (Host.reverse [0]),
   reshape main_v102 main_v103 rfl shapeCasts_S256x1x8x64x128_S256x8x64x128,
   unary main_v100 main_v104 (broadcastInDim S1x256x8x64x128 ![1, 2, 3, 4] bcast_S256x8x64x128_S1x256x8x64x128_1_2_3_4),
   unary main_v103 main_v105 (broadcastInDim S1x256x8x64x128 ![1, 2, 3, 4] bcast_S256x8x64x128_S1x256x8x64x128_1_2_3_4),
   binary main_v104 main_v105 main_v106 ((fun a b => concatenate S2x256x8x64x128 0 [⟨S1x256x8x64x128, a⟩, ⟨S1x256x8x64x128, b⟩] concatenates_S1x256x8x64x128_S1x256x8x64x128_S2x256x8x64x128_d0)),
   unary main_v106 main_v107 ((transpose S2x256x64x8x128 [0, 1, 3, 2, 4] · transposes_S2x256x8x64x128_S2x256x64x8x128_0_1_3_2_4)),
   reshape main_v107 main_v108 rfl shapeCasts_S2x256x64x8x128_S2x16384x1024,
   unary main_v108 main_v109 ((truncf .bf16 · bitsLt_bf16_f32) : Arr F S2x16384x1024 → (⟨S2x16384x1024, .bf16⟩ : BufTy).Contents (Elt F))]

/-- The gradient of `w`. -/
abbrev opsDw : List (HloOp τ sig (Elt F)) :=
  [unary main_v88_11 main_v110 ((extractStridedSlice S256x1x8x64x128 ![0, 0, 0, 0, 0] · slices_S256x2x8x64x128_S256x1x8x64x128_0_0_0_0_0)),
   reshape main_v110 main_v111 rfl shapeCasts_S256x1x8x64x128_S256x8x64x128,
   unary main_v88_11 main_v112 ((extractStridedSlice S256x1x8x64x128 ![0, 1, 0, 0, 0] · slices_S256x2x8x64x128_S256x1x8x64x128_0_1_0_0_0)),
   unary main_v112 main_v113 (Host.reverse [0]),
   reshape main_v113 main_v114 rfl shapeCasts_S256x1x8x64x128_S256x8x64x128,
   unary main_v111 main_v115 (broadcastInDim S1x256x8x64x128 ![1, 2, 3, 4] bcast_S256x8x64x128_S1x256x8x64x128_1_2_3_4),
   unary main_v114 main_v116 (broadcastInDim S1x256x8x64x128 ![1, 2, 3, 4] bcast_S256x8x64x128_S1x256x8x64x128_1_2_3_4),
   binary main_v115 main_v116 main_v117 ((fun a b => concatenate S2x256x8x64x128 0 [⟨S1x256x8x64x128, a⟩, ⟨S1x256x8x64x128, b⟩] concatenates_S1x256x8x64x128_S1x256x8x64x128_S2x256x8x64x128_d0)),
   unary main_v117 main_v118 ((transpose S2x256x64x8x128 [0, 1, 3, 2, 4] · transposes_S2x256x8x64x128_S2x256x64x8x128_0_1_3_2_4)),
   reshape main_v118 main_v119 rfl shapeCasts_S2x256x64x8x128_S2x16384x1024,
   unary main_v119 main_v120 ((truncf .bf16 · bitsLt_bf16_f32) : Arr F S2x16384x1024 → (⟨S2x16384x1024, .bf16⟩ : BufTy).Contents (Elt F))]

/-- The gradient of the queries. -/
abbrev opsDq : List (HloOp τ sig (Elt F)) :=
  [unary main_v88_13 main_v121 ((extractStridedSlice S256x1x8x64x128 ![0, 0, 0, 0, 0] · slices_S256x2x8x64x128_S256x1x8x64x128_0_0_0_0_0)),
   reshape main_v121 main_v122 rfl shapeCasts_S256x1x8x64x128_S256x8x64x128,
   unary main_v88_13 main_v123 ((extractStridedSlice S256x1x8x64x128 ![0, 1, 0, 0, 0] · slices_S256x2x8x64x128_S256x1x8x64x128_0_1_0_0_0)),
   unary main_v123 main_v124 (Host.reverse [0]),
   reshape main_v124 main_v125 rfl shapeCasts_S256x1x8x64x128_S256x8x64x128,
   unary main_v122 main_v126 (broadcastInDim S1x256x8x64x128 ![1, 2, 3, 4] bcast_S256x8x64x128_S1x256x8x64x128_1_2_3_4),
   unary main_v125 main_v127 (broadcastInDim S1x256x8x64x128 ![1, 2, 3, 4] bcast_S256x8x64x128_S1x256x8x64x128_1_2_3_4),
   binary main_v126 main_v127 main_v128 ((fun a b => concatenate S2x256x8x64x128 0 [⟨S1x256x8x64x128, a⟩, ⟨S1x256x8x64x128, b⟩] concatenates_S1x256x8x64x128_S1x256x8x64x128_S2x256x8x64x128_d0)),
   unary main_v128 main_v129 ((transpose S2x256x64x8x128 [0, 1, 3, 2, 4] · transposes_S2x256x8x64x128_S2x256x64x8x128_0_1_3_2_4)),
   reshape main_v129 main_v130 rfl shapeCasts_S2x256x64x8x128_S2x16384x1024]

/-- The gradient of the keys of the update. -/
abbrev opsDk : List (HloOp τ sig (Elt F)) :=
  [unary main_v88_14 main_v131 ((extractStridedSlice S256x1x8x64x128 ![0, 0, 0, 0, 0] · slices_S256x2x8x64x128_S256x1x8x64x128_0_0_0_0_0)),
   reshape main_v131 main_v132 rfl shapeCasts_S256x1x8x64x128_S256x8x64x128,
   unary main_v88_14 main_v133 ((extractStridedSlice S256x1x8x64x128 ![0, 1, 0, 0, 0] · slices_S256x2x8x64x128_S256x1x8x64x128_0_1_0_0_0)),
   unary main_v133 main_v134 (Host.reverse [0]),
   reshape main_v134 main_v135 rfl shapeCasts_S256x1x8x64x128_S256x8x64x128,
   unary main_v132 main_v136 (broadcastInDim S1x256x8x64x128 ![1, 2, 3, 4] bcast_S256x8x64x128_S1x256x8x64x128_1_2_3_4),
   unary main_v135 main_v137 (broadcastInDim S1x256x8x64x128 ![1, 2, 3, 4] bcast_S256x8x64x128_S1x256x8x64x128_1_2_3_4),
   binary main_v136 main_v137 main_v138 ((fun a b => concatenate S2x256x8x64x128 0 [⟨S1x256x8x64x128, a⟩, ⟨S1x256x8x64x128, b⟩] concatenates_S1x256x8x64x128_S1x256x8x64x128_S2x256x8x64x128_d0)),
   unary main_v138 main_v139 ((transpose S2x256x64x8x128 [0, 1, 3, 2, 4] · transposes_S2x256x8x64x128_S2x256x64x8x128_0_1_3_2_4)),
   reshape main_v139 main_v140 rfl shapeCasts_S2x256x64x8x128_S2x16384x1024]

/-- The gradient of the matrices. -/
abbrev opsDa : List (HloOp τ sig (Elt F)) :=
  [unary main_v88_12 main_v141 ((extractStridedSlice S256x1x8x64x64 ![0, 0, 0, 0, 0] · slices_S256x2x8x64x64_S256x1x8x64x64_0_0_0_0_0)),
   reshape main_v141 main_v142 rfl shapeCasts_S256x1x8x64x64_S256x8x64x64,
   unary main_v88_12 main_v143 ((extractStridedSlice S256x1x8x64x64 ![0, 1, 0, 0, 0] · slices_S256x2x8x64x64_S256x1x8x64x64_0_1_0_0_0)),
   unary main_v143 main_v144 (Host.reverse [0]),
   reshape main_v144 main_v145 rfl shapeCasts_S256x1x8x64x64_S256x8x64x64,
   unary main_v142 main_v146 (broadcastInDim S1x256x8x64x64 ![1, 2, 3, 4] bcast_S256x8x64x64_S1x256x8x64x64_1_2_3_4),
   unary main_v145 main_v147 (broadcastInDim S1x256x8x64x64 ![1, 2, 3, 4] bcast_S256x8x64x64_S1x256x8x64x64_1_2_3_4),
   binary main_v146 main_v147 main_v148 ((fun a b => concatenate S2x256x8x64x64 0 [⟨S1x256x8x64x64, a⟩, ⟨S1x256x8x64x64, b⟩] concatenates_S1x256x8x64x64_S1x256x8x64x64_S2x256x8x64x64_d0))]

/-- The gradient of the decays. -/
abbrev opsDg : List (HloOp τ sig (Elt F)) :=
  [unary main_v88_15 main_v149 ((extractStridedSlice S256x1x8 ![0, 0, 0] · slices_S256x2x8_S256x1x8_0_0_0)),
   reshape main_v149 main_v150 rfl shapeCasts_S256x1x8_S256x8,
   unary main_v88_15 main_v151 ((extractStridedSlice S256x1x8 ![0, 1, 0] · slices_S256x2x8_S256x1x8_0_1_0)),
   unary main_v151 main_v152 (Host.reverse [0]),
   reshape main_v152 main_v153 rfl shapeCasts_S256x1x8_S256x8,
   unary main_v150 main_v154 (broadcastInDim S1x256x8 ![1, 2] bcast_S256x8_S1x256x8_1_2),
   unary main_v153 main_v155 (broadcastInDim S1x256x8 ![1, 2] bcast_S256x8_S1x256x8_1_2),
   binary main_v154 main_v155 main_v156 ((fun a b => concatenate S2x256x8 0 [⟨S1x256x8, a⟩, ⟨S1x256x8, b⟩] concatenates_S1x256x8_S1x256x8_S2x256x8_d0))]

/-- The test of a loop. -/
abbrev c0 : List (HloOp τ sig (Elt F)) :=
  [nullary main_while0c_c_24 (constantI S_ 32 256#32),
   binary main_v65_6 main_while0c_c_24 main_while0c_v157 (cmpi .slt : (⟨S_, .i32⟩ : BufTy).Contents (Elt F) → (⟨S_, .i32⟩ : BufTy).Contents (Elt F) → (⟨S_, .i1⟩ : BufTy).Contents (Elt F))]

/-- The test of a loop. -/
abbrev c1 : List (HloOp τ sig (Elt F)) :=
  [nullary main_while1c_c_28 (constantI S_ 32 256#32),
   binary main_v88_8 main_while1c_c_28 main_while1c_v157 (cmpi .slt : (⟨S_, .i32⟩ : BufTy).Contents (Elt F) → (⟨S_, .i32⟩ : BufTy).Contents (Elt F) → (⟨S_, .i1⟩ : BufTy).Contents (Elt F))]

end Cert.Proof.ReferenceIdeal

end
-- ==== Proof.RefChain.lean ====
/- The reference as its lists of host operations: the bodies of its two loops and its main program are the lists run one
   after the other, and no operation of theirs touches anything but TensorCore buffers. -/
module

public import proofs.«01_k».proof.Proof.RefOps
public import Idealize.ShloMosaic.Lib.Scf.ExitTest

@[expose] public section

set_option maxRecDepth 16384

noncomputable section

namespace Cert.Proof.ReferenceIdeal

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (afterL after atTrip Plain segsOf loopSeg LoopCond seq held)
open Idealize.ShloMosaic.Pipeline (CSeg ucRefs)

variable {F : FTy → Type} [FloatOps F]

/-! ## The program as its lists -/

abbrev preI : List (List (HloOp τ sig (Elt F))) := [opsU, opsW, opsA, opsQ, opsK, opsG, opsI]
abbrev fwdI : List (List (HloOp τ sig (Elt F))) := [f_read, f_core, f_write, f_next]
abbrev midI : List (List (HloOp τ sig (Elt F))) := [opsD, opsJ]
abbrev bwdI : List (List (HloOp τ sig (Elt F))) := [b_pos, b_read, b_core, b_write, b_next]
abbrev postI : List (List (HloOp τ sig (Elt F))) := [opsO, opsDu, opsDw, opsDq, opsDk, opsDa, opsDg]

theorem fwd_chain : main_while0_body (F := F) = Pipeline.chain (fwdI.map fun ops => seq ops) := by chain_rfl
theorem bwd_chain : main_while1_body (F := F) = Pipeline.chain (bwdI.map fun ops => seq ops) := by chain_rfl
theorem main_chain (c : Dev nD) : main (F := F) c = Pipeline.chain ((preI.map fun ops => seq ops) ++ HostLoop.enter 0 ::
    ((midI.map fun ops => seq ops) ++ HostLoop.enter 1 :: postI.map fun ops => seq ops)) := by chain_rfl

/-! ## Its lists touch TensorCore buffers only -/

/-- Every operation touches TensorCore buffers only and allocates none. -/
def Fine (ops : List (HloOp τ sig (Elt F))) : Prop := ∀ op ∈ ops, op.bufs ⊆ StableHlo.tcRefs τ sig ∧ op.fresh = ∅

theorem Fine.of {ops : List (HloOp τ sig (Elt F))} (h : ops.Forall fun op => op.bufs ⊆ StableHlo.tcRefs τ sig)
    (hf : ∀ op ∈ ops, op.fresh = ∅ := by intro _ h; (repeat (cases h with | head => rfl | tail _ h => ?_)); exact nomatch h) : Fine ops :=
  fun op ho => ⟨List.forall_iff_forall_mem.mp h op ho, hf op ho⟩
theorem Fine.append {a b : List (HloOp τ sig (Elt F))} (ha : Fine a) (hb : Fine b) : Fine (a ++ b) :=
  fun o ho => (List.mem_append.mp ho).elim (ha o) (hb o)

theorem plain_nil : Plain ([] : List (List (HloOp τ sig (Elt F)))) := Plain.nil
theorem plain_cons {ops : List (HloOp τ sig (Elt F))} {rest} (h : Fine ops) (hr : Plain rest) : Plain (ops :: rest) :=
  Plain.cons (List.forall_iff_forall_mem.mpr fun op ho => (h op ho).1) hr fun op ho => (h op ho).2

theorem fine_opsU : Fine (opsU (F := F)) :=
  .of ⟨StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsW : Fine (opsW (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsA : Fine (opsA (F := F)) :=
  .of ⟨StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsQ : Fine (opsQ (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsK : Fine (opsK (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsG : Fine (opsG (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsI : Fine (opsI (F := F)) :=
  .of ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem fine_f_core : Fine (f_core (F := F)) :=
  .of ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩
theorem fine_f_next : Fine (f_next (F := F)) :=
  .of ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem fine_opsD : Fine (opsD (F := F)) :=
  .of ⟨StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsJ : Fine (opsJ (F := F)) :=
  .of ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem fine_b_pos : Fine (b_pos (F := F)) :=
  .of ⟨StableHlo.nullary_bufs_sub .., StableHlo.binary_bufs_sub .., StableHlo.nullary_bufs_sub .., StableHlo.binary_bufs_sub ..⟩
theorem fine_b_core : Fine (b_core (F := F)) :=
  .of ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩
theorem fine_b_next : Fine (b_next (F := F)) :=
  .of ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem fine_opsO : Fine (opsO (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub ..⟩
theorem fine_opsDu : Fine (opsDu (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub ..⟩
theorem fine_opsDw : Fine (opsDw (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub ..⟩
theorem fine_opsDq : Fine (opsDq (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub ..⟩
theorem fine_opsDk : Fine (opsDk (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub ..⟩
theorem fine_opsDa : Fine (opsDa (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_opsDg : Fine (opsDg (F := F)) :=
  .of ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩
theorem fine_index {a i φ} : Fine (fn_dynamic_index_in_dim.ops (F := F) a i φ) :=
  .of ⟨StableHlo.nullary_bufs_sub .., StableHlo.nullary_bufs_sub .., StableHlo.nullary_bufs_sub .., StableHlo.nullary_bufs_sub .., StableHlo.unaryIndexed_bufs_sub .., StableHlo.reshape_bufs_sub ..⟩
theorem fine_index_0 {a i φ} : Fine (fn_dynamic_index_in_dim_0.ops (F := F) a i φ) :=
  .of ⟨StableHlo.nullary_bufs_sub .., StableHlo.nullary_bufs_sub .., StableHlo.nullary_bufs_sub .., StableHlo.nullary_bufs_sub .., StableHlo.unaryIndexed_bufs_sub .., StableHlo.reshape_bufs_sub ..⟩
theorem fine_index_1 {a i φ} : Fine (fn_dynamic_index_in_dim_1.ops (F := F) a i φ) :=
  .of ⟨StableHlo.nullary_bufs_sub .., StableHlo.nullary_bufs_sub .., StableHlo.unaryIndexed_bufs_sub .., StableHlo.reshape_bufs_sub ..⟩
theorem fine_index_4 {a i φ} : Fine (fn_dynamic_index_in_dim_4.ops (F := F) a i φ) :=
  .of ⟨StableHlo.nullary_bufs_sub .., StableHlo.nullary_bufs_sub .., StableHlo.nullary_bufs_sub .., StableHlo.nullary_bufs_sub .., StableHlo.unaryIndexed_bufs_sub .., StableHlo.reshape_bufs_sub ..⟩
theorem fine_index_5 {a i φ} : Fine (fn_dynamic_index_in_dim_5.ops (F := F) a i φ) :=
  .of ⟨StableHlo.nullary_bufs_sub .., StableHlo.nullary_bufs_sub .., StableHlo.nullary_bufs_sub .., StableHlo.nullary_bufs_sub .., StableHlo.unaryIndexed_bufs_sub .., StableHlo.reshape_bufs_sub ..⟩
theorem fine_update_index {a b i φ} : Fine (fn_dynamic_update_index_in_dim.ops (F := F) a b i φ) :=
  .of ⟨StableHlo.unary_bufs_sub .., StableHlo.nullary_bufs_sub .., StableHlo.nullary_bufs_sub .., StableHlo.nullary_bufs_sub .., StableHlo.nullary_bufs_sub .., StableHlo.binaryIndexed_bufs_sub ..⟩
theorem fine_update_index_2 {a b i φ} : Fine (fn_dynamic_update_index_in_dim_2.ops (F := F) a b i φ) :=
  .of ⟨StableHlo.unary_bufs_sub .., StableHlo.nullary_bufs_sub .., StableHlo.nullary_bufs_sub .., StableHlo.nullary_bufs_sub .., StableHlo.nullary_bufs_sub .., StableHlo.binaryIndexed_bufs_sub ..⟩
theorem fine_update_index_3 {a b i φ} : Fine (fn_dynamic_update_index_in_dim_3.ops (F := F) a b i φ) :=
  .of ⟨StableHlo.unary_bufs_sub .., StableHlo.nullary_bufs_sub .., StableHlo.nullary_bufs_sub .., StableHlo.nullary_bufs_sub .., StableHlo.nullary_bufs_sub .., StableHlo.binaryIndexed_bufs_sub ..⟩
theorem fine_update_index_6 {a b i φ} : Fine (fn_dynamic_update_index_in_dim_6.ops (F := F) a b i φ) :=
  .of ⟨StableHlo.unary_bufs_sub .., StableHlo.nullary_bufs_sub .., StableHlo.nullary_bufs_sub .., StableHlo.nullary_bufs_sub .., StableHlo.nullary_bufs_sub .., StableHlo.binaryIndexed_bufs_sub ..⟩
theorem fine_update_index_7 {a b i φ} : Fine (fn_dynamic_update_index_in_dim_7.ops (F := F) a b i φ) :=
  .of ⟨StableHlo.unary_bufs_sub .., StableHlo.nullary_bufs_sub .., StableHlo.nullary_bufs_sub .., StableHlo.binaryIndexed_bufs_sub ..⟩

theorem fine_f_read : Fine (f_read (F := F)) := (fine_index.append (fine_index.append (fine_index_0.append (fine_index.append (fine_index.append fine_index_1)))))
theorem fine_f_write : Fine (f_write (F := F)) := (fine_update_index.append (fine_update_index_2.append (fine_update_index.append fine_update_index_3)))
theorem fine_b_read : Fine (b_read (F := F)) := (fine_index.append (fine_index_4.append (fine_index.append (fine_index.append (fine_index.append (fine_index_0.append (fine_index_5.append fine_index)))))))
theorem fine_b_write : Fine (b_write (F := F)) := (fine_update_index.append (fine_update_index.append (fine_update_index_6.append (fine_update_index.append (fine_update_index.append fine_update_index_7)))))

theorem plain_pre : Plain (preI (F := F)) := plain_cons fine_opsU (plain_cons fine_opsW (plain_cons fine_opsA (plain_cons fine_opsQ (plain_cons fine_opsK (plain_cons fine_opsG (plain_cons fine_opsI (plain_nil)))))))
theorem plain_fwd : Plain (fwdI (F := F)) := plain_cons fine_f_read (plain_cons fine_f_core (plain_cons fine_f_write (plain_cons fine_f_next (plain_nil))))
theorem plain_mid : Plain (midI (F := F)) := plain_cons fine_opsD (plain_cons fine_opsJ (plain_nil))
theorem plain_bwd : Plain (bwdI (F := F)) := plain_cons fine_b_pos (plain_cons fine_b_read (plain_cons fine_b_core (plain_cons fine_b_write (plain_cons fine_b_next (plain_nil)))))
theorem plain_post : Plain (postI (F := F)) := plain_cons fine_opsO (plain_cons fine_opsDu (plain_cons fine_opsDw (plain_cons fine_opsDq (plain_cons fine_opsDk (plain_cons fine_opsDa (plain_cons fine_opsDg (plain_nil)))))))

end Cert.Proof.ReferenceIdeal

end
-- ==== Proof.RefRun.lean ====
/- The reference's run: every weakly fair execution terminates with each buffer as its host operations and the 256 trips of
   its two loops leave it, and every counter at zero. -/
module

public import proofs.«01_k».proof.Proof.RefChain
public import Idealize.ShloMosaic.Lib.StableHlo.RunRead
public import Idealize.ShloMosaic.Lib.StableHlo.RunLoop

@[expose] public section

set_option maxRecDepth 16384

noncomputable section

namespace Cert.Proof.ReferenceIdeal

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (afterL after atTrip Plain segsOf segsOf_chains segsOf_prog loopSeg LoopCond seq held)
open Idealize.ShloMosaic.Pipeline (CSeg ucRefs sub_ucRefs)

variable {F : FTy → Type} [FloatOps F]

/-! ## The counters -/

theorem ctr0_step (V : Valuation τ sig (Elt F)) : afterL fwdI (after c0 V) main_v65_6 = addi (V main_v65_6) (constantI S_ 32 1#32) := by
  dsimp only [StableHlo.afterL_cons, StableHlo.afterL_nil]
  after_reads_simp
  rfl
theorem ctr1_step (V : Valuation τ sig (Elt F)) : afterL bwdI (after c1 V) main_v88_8 = addi (V main_v88_8) (constantI S_ 32 1#32) := by
  dsimp only [StableHlo.afterL_cons, StableHlo.afterL_nil]
  after_reads_simp
  rfl

theorem ctr0 (W₀ : Dev nD → Valuation τ sig (Elt F)) (h : ∀ c, W₀ c main_v65_6 = constantI S_ 32 0#32) (k : ℕ) (c : Dev nD) :
    atTrip c0 fwdI W₀ k c main_v65_6 = constantI S_ 32 (Scf.iv 0#32 1#32 k) := by
  induction k with
  | zero => rw [StableHlo.atTrip_zero, h c, Scf.iv_zero]
  | succ k ih => rw [StableHlo.atTrip_succ, ctr0_step, ih, Scf.iv_succ]; rfl
theorem ctr1 (W₀ : Dev nD → Valuation τ sig (Elt F)) (h : ∀ c, W₀ c main_v88_8 = constantI S_ 32 0#32) (k : ℕ) (c : Dev nD) :
    atTrip c1 bwdI W₀ k c main_v88_8 = constantI S_ 32 (Scf.iv 0#32 1#32 k) := by
  induction k with
  | zero => rw [StableHlo.atTrip_zero, h c, Scf.iv_zero]
  | succ k ih => rw [StableHlo.atTrip_succ, ctr1_step, ih, Scf.iv_succ]; rfl

/-! ## The contents, stage by stage -/

section Stages

variable (m : (ℓ : Loc nD τ sig) → Buf (Elt F) ℓ) (ρ : Dev nD → PrngReg)

/-- Before the forward loop. -/
def XA (c : Dev nD) : Valuation τ sig (Elt F) := afterL preI (fun b => m (c, b))
/-- After the forward loop. -/
def XB (c : Dev nD) : Valuation τ sig (Elt F) := after c0 (atTrip c0 fwdI (XA m) 256 c)
/-- Before the backward loop. -/
def XC (c : Dev nD) : Valuation τ sig (Elt F) := afterL midI (XB m c)
/-- After the backward loop. -/
def XD (c : Dev nD) : Valuation τ sig (Elt F) := after c1 (atTrip c1 bwdI (XC m) 256 c)
/-- At the end. -/
def XE (c : Dev nD) : Valuation τ sig (Elt F) := afterL postI (XD m c)

theorem start0 (c : Dev nD) : XA m c main_v65_6 = constantI S_ 32 0#32 := by
  unfold XA
  dsimp only [StableHlo.afterL_cons, StableHlo.afterL_nil]
  after_reads_simp
  rfl
theorem start1 (c : Dev nD) : XC m c main_v88_8 = constantI S_ 32 0#32 := by
  unfold XC
  dsimp only [StableHlo.afterL_cons, StableHlo.afterL_nil]
  after_reads_simp
  rfl

end Stages

/-! ## The run -/

local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev Lv : GSem nD τ sig → Finset Unit := fun _ => ∅
abbrev lv : GSem nD τ sig → Unit → ℕ := fun _ _ => 0
theorem cell_inj : Function.Injective (Pipeline.cellOf (nD := nD) (τ := τ) (Pipeline.pin (pcfgs (F := F)) adm)) := fun k => k.1.elim0
/-- What rides along beside the buffers. -/
abbrev Rw (c : Dev nD) : sProp 𝕄 := iprop(∃ W, owes (c : Thread nD τ) (0 : CellTallies nD τ sig Unit) W)

set_option backward.isDefEq.respectTransparency.types false in
/-- The forward loop's test, before trip `k`. -/
theorem test0 (W₀ : Dev nD → Valuation τ sig (Elt F)) (h : ∀ c, W₀ c main_v65_6 = constantI S_ 32 0#32) :
    LoopCond (pcfgs (F := F)) defs₀ Variants.none loops (Rw (F := F)) main_while0_cond c0 fwdI W₀ 256 := fun k hk c bd => by
  have hctr := ctr0 W₀ h k c
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip c0 fwdI W₀ k c) main_v65_6 HostLoop.idx0)
        (HloOp.result _ (atTrip c0 fwdI W₀ k c) main_while0c_c_24 HostLoop.idx0) = 1#1) (k < 256)
    rw [StableHlo.nullary_result_ne _ _ _ _ (by decide), StableHlo.nullary_result, hctr]
    exact Scf.cmpi_slt_iv_ub_iff (lb := 0#32) (ub := 256#32) (st := 1#32) main_while0_ok hk
  isplitl [Hb]; · iexact Hb
  isplitl [Hh]; · iexact Hh
  iexact HR

set_option backward.isDefEq.respectTransparency.types false in
/-- The backward loop's test, before trip `k`. -/
theorem test1 (W₀ : Dev nD → Valuation τ sig (Elt F)) (h : ∀ c, W₀ c main_v88_8 = constantI S_ 32 0#32) :
    LoopCond (pcfgs (F := F)) defs₀ Variants.none loops (Rw (F := F)) main_while1_cond c1 bwdI W₀ 256 := fun k hk c bd => by
  have hctr := ctr1 W₀ h k c
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip c1 bwdI W₀ k c) main_v88_8 HostLoop.idx0)
        (HloOp.result _ (atTrip c1 bwdI W₀ k c) main_while1c_c_28 HostLoop.idx0) = 1#1) (k < 256)
    rw [StableHlo.nullary_result_ne _ _ _ _ (by decide), StableHlo.nullary_result, hctr]
    exact Scf.cmpi_slt_iv_ub_iff (lb := 0#32) (ub := 256#32) (st := 1#32) main_while1_ok hk
  isplitl [Hb]; · iexact Hb
  isplitl [Hh]; · iexact Hh
  iexact HR

/-- The program declares no semaphore that outlives a launch. -/
theorem no_unscoped : ∀ sm : SemLoc sig, sm.isScoped .tc = true := by decide

section Main

variable (m : (ℓ : Loc nD τ sig) → Buf (Elt F) ℓ) (ρ : Dev nD → PrngReg)

def tailSegs : List (CSeg (pcfgs (F := F)) adm defs₀ Variants.none Lv lv loops tk) :=
  segsOf _ _ _ _ _ _ _ _ Rw midI plain_mid (XB m)
    ++ loopSeg _ _ _ _ _ _ _ _ 1 main_while1_cond main_while1_body rfl c1 bwdI plain_bwd bwd_chain 256 (XC m) Rw (test1 _ (start1 m))
      :: segsOf _ _ _ _ _ _ _ _ Rw postI plain_post (XD m)

/-- The program's stretches and loops, in order. -/
def allSegs : List (CSeg (pcfgs (F := F)) adm defs₀ Variants.none Lv lv loops tk) :=
  segsOf _ _ _ _ _ _ _ _ Rw preI plain_pre (fun c b => m (c, b))
    ++ loopSeg _ _ _ _ _ _ _ _ 0 main_while0_cond main_while0_body rfl c0 fwdI plain_fwd fwd_chain 256 (XA m) Rw (test0 _ (start0 m)) :: tailSegs m

theorem allSegs_prog : (allSegs m).map CSeg.prog = (preI.map fun ops => seq ops) ++ HostLoop.enter 0 ::
    ((midI.map fun ops => seq ops) ++ HostLoop.enter 1 :: postI.map fun ops => seq ops) := by
  unfold allSegs tailSegs
  rw [List.map_append, List.map_cons, List.map_append, List.map_cons, segsOf_prog, segsOf_prog, segsOf_prog]
  rfl

theorem main_segs (c : Dev nD) : main (F := F) c = Pipeline.chain ((allSegs m).map CSeg.prog) :=
  (main_chain c).trans (congrArg Pipeline.chain (allSegs_prog m).symm)

theorem allSegs_chains : CSeg.Chains (fun c => iprop(held (c : Thread nD τ) (ucRefs τ sig) (fun b => m (c, b)) ∗ Rw c)) (allSegs m)
    (fun c => iprop(iprop(held (c : Thread nD τ) (ucRefs τ sig) (XE m c)) ∗ ∃ W, owes (c : Thread nD τ) (0 : CellTallies nD τ sig Unit) W)) :=
  CSeg.Chains.append (segsOf_chains _ _ _ _ _ _ _ _ Rw preI plain_pre _) ⟨fun _ => .rfl,
    CSeg.Chains.append (segsOf_chains _ _ _ _ _ _ _ _ Rw midI plain_mid _) ⟨fun _ => .rfl, segsOf_chains _ _ _ _ _ _ _ _ Rw postI plain_post _⟩⟩

set_option backward.isDefEq.respectTransparency.types false in
/-- Every weakly fair execution terminates, and every final state has each buffer at `XE` and every counter at zero. -/
theorem run_all : θ_run defs (onTc (τ := τ) (main (F := F))) ⟨m, fun _ => 0, ρ⟩
    (fun r => (∀ c : Dev nD, ∀ b ∈ ucRefs τ sig, r.2.mem (c, b) = XE m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cell_inj defs₀ Variants.none Lv lv loops tk m ρ main (allSegs m)
    (fun c Q => by rw [main_segs m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (fun b => m (c, b)) ∗ Rw c))
    (Tₙ := fun c => iprop(held (c : Thread nD τ) (ucRefs τ sig) (XE m c)))
    (hch := allSegs_chains m)
    (hinit := by
      refine Pipeline.initEach Lv lv fun c => ?_
      rw [show unscopedBufs c (fun b => m ((c : Thread nD τ).loc b)) = held (c : Thread nD τ) (ucRefs τ sig) (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => ∀ b ∈ ucRefs τ sig, s.mem (c, b) = XE m c b)
    (hfin := fun c s' => by
      unfold held
      iintro ⟨Hh, HSI⟩
      ihave Hr := (pointsTo_read_all (ucRefs τ sig) (fun b => ((c : Dev nD), b)) (XE m c) s') $$ [Hh HSI]
      · isplitl [Hh] <;> iassumption
      icases Hr with ⟨%h, HSI⟩
      imodintro
      isplitr; · ipureintro; exact h
      iexact HSI)
    (hQ := fun _ h hz => ⟨h, funext fun g => hz g (.inr (no_unscoped g.2))⟩)

end Main

end Cert.Proof.ReferenceIdeal

end
-- ==== Proof.RefFrame.lean ====
/- The reference's run keeps its arguments and leaves every counter at zero. -/
module

public import proofs.«01_k».proof.Defs
public import proofs.«01_k».proof.Proof.RefRun

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.StableHlo Idealize.SL.Sem

variable {F : FTy → Type} [FloatOps F]

/-- Two valuations agree on the arguments. -/
def Same (V V' : Valuation τ sig (Elt F)) : Prop :=
  V main_arg0 = V' main_arg0 ∧ V main_arg1 = V' main_arg1 ∧ V main_arg2 = V' main_arg2 ∧ V main_arg3 = V' main_arg3
    ∧ V main_arg4 = V' main_arg4 ∧ V main_arg5 = V' main_arg5 ∧ V main_arg6 = V' main_arg6

theorem Same.trans {V V' V'' : Valuation τ sig (Elt F)} (h : Same V V') (h' : Same V' V'') : Same V V'' :=
  ⟨h.1.trans h'.1, h.2.1.trans h'.2.1, h.2.2.1.trans h'.2.2.1, h.2.2.2.1.trans h'.2.2.2.1, h.2.2.2.2.1.trans h'.2.2.2.2.1,
    h.2.2.2.2.2.1.trans h'.2.2.2.2.2.1, h.2.2.2.2.2.2.trans h'.2.2.2.2.2.2⟩

theorem same_pre (V : Valuation τ sig (Elt F)) : Same (afterL preI V) V := by
  refine ⟨?_, ?_, ?_, ?_, ?_, ?_, ?_⟩ <;> (dsimp only [afterL_cons, afterL_nil]; after_reads_simp)
theorem same_mid (V : Valuation τ sig (Elt F)) : Same (afterL midI V) V := by
  refine ⟨?_, ?_, ?_, ?_, ?_, ?_, ?_⟩ <;> (dsimp only [afterL_cons, afterL_nil]; after_reads_simp)
theorem same_post (V : Valuation τ sig (Elt F)) : Same (afterL postI V) V := by
  refine ⟨?_, ?_, ?_, ?_, ?_, ?_, ?_⟩ <;> (dsimp only [afterL_cons, afterL_nil]; after_reads_simp)
theorem same_fwd (V : Valuation τ sig (Elt F)) : Same (afterL fwdI (after c0 V)) V := by
  refine ⟨?_, ?_, ?_, ?_, ?_, ?_, ?_⟩ <;> (dsimp only [afterL_cons, afterL_nil]; after_reads_simp)
theorem same_bwd (V : Valuation τ sig (Elt F)) : Same (afterL bwdI (after c1 V)) V := by
  refine ⟨?_, ?_, ?_, ?_, ?_, ?_, ?_⟩ <;> (dsimp only [afterL_cons, afterL_nil]; after_reads_simp)
theorem same_c0 (V : Valuation τ sig (Elt F)) : Same (after c0 V) V := by
  refine ⟨?_, ?_, ?_, ?_, ?_, ?_, ?_⟩ <;> after_reads_simp
theorem same_c1 (V : Valuation τ sig (Elt F)) : Same (after c1 V) V := by
  refine ⟨?_, ?_, ?_, ?_, ?_, ?_, ?_⟩ <;> after_reads_simp

/-- Trips keep what one trip keeps. -/
theorem same_trips (condOps : List (HloOp τ sig (Elt F))) (bodyI : List (List (HloOp τ sig (Elt F)))) (W₀ : Dev nD → Valuation τ sig (Elt F))
    (h : ∀ V, Same (afterL bodyI (after condOps V)) V) (k : ℕ) (c : Dev nD) : Same (atTrip condOps bodyI W₀ k c) (W₀ c) := by
  induction k with
  | zero => rw [atTrip_zero]; exact ⟨rfl, rfl, rfl, rfl, rfl, rfl, rfl⟩
  | succ k ih => rw [atTrip_succ]; exact (h _).trans ih

variable (m : (ℓ : Loc nD τ sig) → Buf (Elt F) ℓ) (ρ : Dev nD → PrngReg)

theorem same_end (c : Dev nD) : Same (XE m c) (fun b => m (c, b)) :=
  (same_post _).trans <| (same_c1 _).trans <| (same_trips _ _ _ same_bwd _ _).trans <| (same_mid _).trans <|
    (same_c0 _).trans <| (same_trips _ _ _ same_fwd _ _).trans (same_pre _)

/-- What the run leaves in one unscoped buffer. -/
theorem read_at {r : PUnit × MemSt nD τ sig (Elt F)} (h : ∀ c : Dev nD, ∀ b ∈ Pipeline.ucRefs τ sig, r.2.mem (c, b) = XE m c b) (c : Dev nD)
    (b : Ref sig .tc) (hb : (Proc.devRef (τ := τ) .tc b).isScoped = false) : r.2.mem ((c.tc : Thread nD τ).loc b) = XE m c b :=
  h c _ (devRef_mem_ucRefs b hb)

end Cert.Proof.ReferenceIdeal

namespace Cert.Proof

open Cert.ReferenceIdeal Idealize.ShloMosaic Idealize.SL.Sem
open Cert.Proof.ReferenceIdeal (read_at same_end run_all)

/-- The reference's frame. -/
theorem frame_reference [Cert.ReferenceIdeal.Facts] : Cert.quiescent_ReferenceIdeal := fun m ρ _ =>
  (θ_run Cert.ReferenceIdeal.defs _ _).mono (fun r h => ⟨fun c =>
    have e := same_end m c
    ⟨(read_at m h.1 c main_arg0 (by decide)).trans e.1,
     (read_at m h.1 c main_arg1 (by decide)).trans e.2.1,
     (read_at m h.1 c main_arg2 (by decide)).trans e.2.2.1,
     (read_at m h.1 c main_arg3 (by decide)).trans e.2.2.2.1,
     (read_at m h.1 c main_arg4 (by decide)).trans e.2.2.2.2.1,
     (read_at m h.1 c main_arg5 (by decide)).trans e.2.2.2.2.2.1,
     (read_at m h.1 c main_arg6 (by decide)).trans e.2.2.2.2.2.2⟩, h.2⟩) (run_all m ρ)

end Cert.Proof

end
-- ==== Proof.Spec.lean ====
/- The mathematics of the scan over one direction and one head, as the reference's text has it: the states, the outputs, and
   the gradients of all that enters, from the gradient of the outputs. Positions of the scan are natural numbers. -/
module

public import Mathlib.Data.EReal.Operations
public import Mathlib.Algebra.BigOperators.Fin

@[expose] public section

noncomputable section

namespace Cert.Proof

/-- What the scan of one direction and one head reads, chunk by chunk in the order of the scan. -/
structure Chain where
  u : ℕ → Fin 64 → Fin 128 → EReal
  w : ℕ → Fin 64 → Fin 128 → EReal
  q : ℕ → Fin 64 → Fin 128 → EReal
  k : ℕ → Fin 64 → Fin 128 → EReal
  a : ℕ → Fin 64 → Fin 64 → EReal
  g : ℕ → EReal
  /-- the gradient of the outputs -/
  o' : ℕ → Fin 64 → Fin 128 → EReal

namespace Chain

variable (C : Chain)

/-- The corrected values of chunk `s` from a state, `u − w S`. -/
def vn (S : Fin 128 → Fin 128 → EReal) (s : ℕ) (i : Fin 64) (j : Fin 128) : EReal := C.u s i j - ∑ x : Fin 128, C.w s i x * S x j

/-- The state before chunk `s`. -/
def st : ℕ → Fin 128 → Fin 128 → EReal
  | 0 => fun _ _ => 0
  | s + 1 => fun i j => st s i j * C.g s + ∑ x : Fin 64, C.k s x i * C.vn (st s) s x j

/-- The corrected values of chunk `s`. -/
def v (s : ℕ) : Fin 64 → Fin 128 → EReal := C.vn (C.st s) s

/-- The outputs of chunk `s`. -/
def o (s : ℕ) (i : Fin 64) (j : Fin 128) : EReal := ∑ x : Fin 128, C.q s i x * C.st s x j + ∑ x : Fin 64, C.a s i x * C.v s x j

/-- The gradient of the corrected values of chunk `s`, from the gradient of the state after it. -/
def v' (D : Fin 128 → Fin 128 → EReal) (s : ℕ) (i : Fin 64) (j : Fin 128) : EReal :=
  ∑ x : Fin 128, C.k s i x * D x j + ∑ x : Fin 64, C.a s x i * C.o' s x j

/-- The gradient of the state before the last `t` chunks. -/
def st' : ℕ → Fin 128 → Fin 128 → EReal
  | 0 => fun _ _ => 0
  | t + 1 => fun i j => st' t i j * C.g (255 - t) + ∑ x : Fin 64, C.q (255 - t) x i * C.o' (255 - t) x j
      + ∑ x : Fin 64, C.w (255 - t) x i * - C.v' (st' t) (255 - t) x j

/-- The gradient of the state after chunk `s`. -/
def D (s : ℕ) : Fin 128 → Fin 128 → EReal := C.st' (255 - s)

/-- The gradients of what chunk `s` reads. -/
def u' (s : ℕ) (i : Fin 64) (j : Fin 128) : EReal := C.v' (C.D s) s i j
def w' (s : ℕ) (i : Fin 64) (j : Fin 128) : EReal := ∑ e : Fin 128, - C.u' s i e * C.st s j e
def q' (s : ℕ) (i : Fin 64) (j : Fin 128) : EReal := ∑ e : Fin 128, C.o' s i e * C.st s j e
def k' (s : ℕ) (i : Fin 64) (j : Fin 128) : EReal := ∑ e : Fin 128, C.v s i e * C.D s j e
def a' (s : ℕ) (i j : Fin 64) : EReal := ∑ e : Fin 128, C.o' s i e * C.v s j e
def g' (s : ℕ) : EReal := ∑ j : Fin 128, ∑ i : Fin 128, C.st s i j * C.D s i j

end Chain

end Cert.Proof

end
-- ==== Proof.ChunkVal.lean ====
/- The kernel's chunk computations over the exact numbers, read at an index. -/
module

public import proofs.«01_k».proof.Proof.Chunk
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

variable (u u' : Vec Ideal S1x64x128 .f32) (w w' q q' k : Vec Ideal S1x64x128 .bf16) (S S' D : Vec Ideal S1x128x128 .f32)
  (P : Vec Ideal S1x1x1x128x128 .bf16) (E : Vec Ideal S1x1x1x128 .f32) (S0 S0' : Vec Ideal S1x1x1x128x128 .f32) (d d' : Vec Ideal S64x128 .bf16)

/-- Row `i` of the first half of 128 rows. -/
abbrev lo (i : Fin 64) : Fin 128 := ⟨i.val, by omega⟩
/-- Row `i` of the second half of 128 rows. -/
abbrev up (i : Fin 64) : Fin 128 := ⟨64 + i.val, by omega⟩

theorem vnF_at (i : Fin 64) (j : Fin 128) : vnF u w S (ix2 i j) = u (ix3 0 i j) - ∑ x : Fin 128, w (ix3 0 i x) * S (ix3 0 x j) := by
  pointwise [vnF]

theorem ohF_lo (i : Fin 64) (j : Fin 128) : ohF false S S' u u' w w' q q' P (ix3 0 i j)
    = ∑ x : Fin 128, q (ix3 0 i x) * S (ix3 0 x j) + (∑ x : Fin 64, P (ix5 0 0 0 (lo i) (lo x)) * vnF u w S (ix2 x j)
        + ∑ x : Fin 64, P (ix5 0 0 0 (lo i) (up x)) * vnF u' w' S' (ix2 x j)) := by
  pointwise [ohF, half, oF, qsF]
theorem ohF_up (i : Fin 64) (j : Fin 128) : ohF true S S' u u' w w' q q' P (ix3 0 i j)
    = ∑ x : Fin 128, q' (ix3 0 i x) * S' (ix3 0 x j) + (∑ x : Fin 64, P (ix5 0 0 0 (up i) (lo x)) * vnF u w S (ix2 x j)
        + ∑ x : Fin 64, P (ix5 0 0 0 (up i) (up x)) * vnF u' w' S' (ix2 x j)) := by
  pointwise [ohF, half, oF, qsF]

theorem svF_at (i j : Fin 128) : svF S (ix5 0 0 0 i j) = S (ix3 0 i j) := by
  pointwise [svF]

theorem stF_at (i j : Fin 128) : stF S u w k E (ix3 0 i j)
    = S (ix3 0 i j) * E (ix4 0 0 0 j) + ∑ x : Fin 64, k (ix3 0 x i) * vnF u w S (ix2 x j) := by
  pointwise [stF]

theorem vnB_at (i : Fin 64) (j : Fin 128) : vnB u w S0 (ix2 i j) = u (ix3 0 i j) - ∑ x : Fin 128, w (ix3 0 i x) * S0 (ix5 0 0 0 x j) := by
  pointwise [vnB, wid, s0m]

theorem dvB_lo (i : Fin 64) (j : Fin 128) : dvB false D k P d d' (ix2 i j)
    = ∑ x : Fin 128, k (ix3 0 i x) * D (ix3 0 x j) + (∑ x : Fin 64, P (ix5 0 0 0 (lo x) (lo i)) * d (ix2 x j)
        + ∑ x : Fin 64, P (ix5 0 0 0 (up x) (lo i)) * d' (ix2 x j)) := by
  pointwise [dvB, half, doB, wid, dsm]
theorem dvB_up (i : Fin 64) (j : Fin 128) : dvB true D k P d d' (ix2 i j)
    = ∑ x : Fin 128, k (ix3 0 i x) * D (ix3 0 x j) + (∑ x : Fin 64, P (ix5 0 0 0 (lo x) (up i)) * d (ix2 x j)
        + ∑ x : Fin 64, P (ix5 0 0 0 (up x) (up i)) * d' (ix2 x j)) := by
  pointwise [dvB, half, doB, wid, dsm]
theorem duB_at (b : Bool) (i : Fin 64) (j : Fin 128) : duB b D k P d d' (ix3 0 i j) = dvB b D k P d d' (ix2 i j) := by
  pointwise [duB]
theorem ndvB_at (b : Bool) (i : Fin 64) (j : Fin 128) : ndvB b D k P d d' (ix2 i j) = - dvB b D k P d d' (ix2 i j) := by
  pointwise [ndvB]
  exact zero_sub _
theorem dwB_at (b : Bool) (i : Fin 64) (j : Fin 128) : dwB b D k P d d' S0 (ix3 0 i j)
    = ∑ e : Fin 128, - dvB b D k P d d' (ix2 i e) * S0 (ix5 0 0 0 j e) := by
  pointwise [dwB, s0m]
  exact Finset.sum_congr rfl fun e _ => by rw [ndvB_at]
theorem dqB_lo (i : Fin 64) (j : Fin 128) : dqB false d d' S0 (ix3 0 i j) = ∑ e : Fin 128, d (ix2 i e) * S0 (ix5 0 0 0 j e) := by
  pointwise [dqB, half, doB, s0m]
theorem dqB_up (i : Fin 64) (j : Fin 128) : dqB true d d' S0 (ix3 0 i j) = ∑ e : Fin 128, d' (ix2 i e) * S0 (ix5 0 0 0 j e) := by
  pointwise [dqB, half, doB, s0m]
theorem dkB_at (i : Fin 64) (j : Fin 128) : dkB D u w S0 (ix3 0 i j) = ∑ e : Fin 128, vnB u w S0 (ix2 i e) * D (ix3 0 j e) := by
  pointwise [dkB, dsm]
theorem dgB_at (j : Fin 128) : dgB D S0 (ix4 0 0 0 j) = ∑ i : Fin 128, S0 (ix5 0 0 0 i j) * D (ix3 0 i j) := by
  pointwise [dgB, s0m, dsm]
theorem dsB_lo (i j : Fin 128) : dsB false D w q k P E d d' (ix3 0 i j)
    = D (ix3 0 i j) * E (ix4 0 0 0 j) + ∑ x : Fin 64, q (ix3 0 x i) * d (ix2 x j)
        + ∑ x : Fin 64, w (ix3 0 x i) * - dvB false D k P d d' (ix2 x j) := by
  pointwise [dsB, half, doB, wid, dsm]
  exact congrArg _ (Finset.sum_congr rfl fun e _ => by rw [ndvB_at])
theorem dsB_up (i j : Fin 128) : dsB true D w q k P E d d' (ix3 0 i j)
    = D (ix3 0 i j) * E (ix4 0 0 0 j) + ∑ x : Fin 64, q (ix3 0 x i) * d' (ix2 x j)
        + ∑ x : Fin 64, w (ix3 0 x i) * - dvB true D k P d d' (ix2 x j) := by
  pointwise [dsB, half, doB, wid, dsm]
  exact congrArg _ (Finset.sum_congr rfl fun e _ => by rw [ndvB_at])
theorem dpB_lo (i j : Fin 64) : dpB u u' w w' S0 S0' d d' (ix5 0 0 0 (lo i) (lo j))
    = ∑ e : Fin 128, d (ix2 i e) * vnB u w S0 (ix2 j e) := by
  have hi := i.isLt
  have hj := j.isLt
  pointwise [dpB, doB]
theorem dpB_up (i j : Fin 64) : dpB u u' w w' S0 S0' d d' (ix5 0 0 0 (up i) (up j))
    = ∑ e : Fin 128, d' (ix2 i e) * vnB u' w' S0' (ix2 j e) := by
  pointwise [dpB, doB]

end Cert.Proof.KernelIdeal

end
-- ==== Proof.KVal.lean ====
/- The arrays the kernel's two scans leave, over the exact numbers, are the mathematics of `Spec.lean`, one chain for each
   direction and head. -/
module

public import proofs.«01_k».proof.Proof.Spec
public import proofs.«01_k».proof.Proof.ChunkVal
public import proofs.«01_k».proof.Proof.Blocks

@[expose] public section

set_option maxRecDepth 16384

noncomputable section

namespace Cert.Proof.KernelIdeal

open Cert.KernelIdeal Cert.KernelIdeal.Gen
open Idealize.ShloMosaic Idealize.ShloMosaic.TcCoe

instance : Pos S2x256x8x64x64 := ⟨by decide⟩
instance : Pos S2x256x8 := ⟨by decide⟩

/-! ## The order of the chunks -/

theorem cF_cF (d s : ℕ) (h : s < 256) : cF d (cF d s) = s := by unfold cF; split <;> omega
theorem cB_eq (d t : ℕ) (h : t < 256) : cB d t = cF d (255 - t) := by unfold cB cF; split <;> omega
theorem cB_cB (d t : ℕ) (h : t < 256) : cB d (cB d t) = t := by unfold cB; split <;> omega
theorem cB_cF (d c : ℕ) (h : c < 256) : cB d c = 255 - cF d c := by unfold cB cF; split <;> omega
theorem cF_lt (d s : ℕ) (h : s < 256) : cF d s < 256 := by unfold cF; split <;> omega
theorem cB_lt (d s : ℕ) (h : s < 256) : cB d s < 256 := by unfold cB; split <;> omega

/-! ## Blocks at an index -/

theorem wr_row (i : Fin 64) (j : Fin 128) : wr (s := S1x64x128) ![0, i.val, j.val] = ix3 0 i j :=
  wr_eq _ _ fun a => by fin_cases a <;> rfl
theorem wr_mat (i j : Fin 128) : wr (s := S1x128x128) ![0, i.val, j.val] = ix3 0 i j :=
  wr_eq _ _ fun a => by fin_cases a <;> rfl
theorem wr_mat5 (i j : Fin 128) : wr (s := S1x1x1x128x128) ![0, 0, 0, i.val, j.val] = ix5 0 0 0 i j :=
  wr_eq _ _ fun a => by fin_cases a <;> rfl
theorem wr_lane (j : Fin 128) : wr (s := S1x1x1x128) ![0, 0, 0, j.val] = ix4 0 0 0 j :=
  wr_eq _ _ fun a => by fin_cases a <;> rfl

theorem hd_at {α : Type} (X : S8x128x128.Idx → α) (h : Fin 8) (i j : Fin 128) : hd X h.val (ix3 0 i j) = X (ix3 h i j) :=
  congrArg X (wr_eq _ _ fun a => by fin_cases a <;> first | rfl | exact Nat.zero_add _)

theorem stB_at {α : Type} (X : S2x256x8x128x128.Idx → α) (d : Fin 2) (c : Fin 256) (h : Fin 8) (i j : Fin 128) :
    stB X d.val c.val h.val (ix5 0 0 0 i j) = X (ix5 d c h i j) :=
  congrArg X (wr_eq _ _ fun a => by fin_cases a <;> first | rfl | exact Nat.zero_add _)

/-! ## The chains -/

variable (U : Vec Ideal S2x16384x1024 .f32) (W Q K : Vec Ideal S2x16384x1024 .bf16) (A : Vec Ideal S2x256x8x64x64 .bf16)
  (G : Vec Ideal S2x256x8 .f32) (D : Vec Ideal S16384x1024 .bf16)
  (P : Vec Ideal S2x256x4x128x128 .bf16) (E : Vec Ideal S2x256x8x128 .f32)

/-- What direction `d` and head `h` reads. -/
def chain (d h : ℕ) : Chain where
  u s i j := rowB U d (cF d s) h (ix3 0 i j)
  w s i j := rowB W d (cF d s) h (ix3 0 i j)
  q s i j := rowB Q d (cF d s) h (ix3 0 i j)
  k s i j := rowB K d (cF d s) h (ix3 0 i j)
  a s i j := A (wr ![d, cF d s, h, i.val, j.val])
  g s := G (wr ![d, cF d s, h])
  o' s i j := rowC D (cF d s) h (ix2 i j)

/-- The pairs' matrices hold the heads' matrices on their diagonals and zeros beside them. -/
structure Paired : Prop where
  lo : ∀ (d c g : ℕ) (i j : Fin 64), g < 4 → pairB P d c g (ix5 0 0 0 (lo i) (lo j)) = A (wr ![d, c, 2 * g, i.val, j.val])
  lu : ∀ (d c g : ℕ) (i j : Fin 64), pairB P d c g (ix5 0 0 0 (KernelIdeal.lo i) (up j)) = 0
  ul : ∀ (d c g : ℕ) (i j : Fin 64), pairB P d c g (ix5 0 0 0 (up i) (KernelIdeal.lo j)) = 0
  up : ∀ (d c g : ℕ) (i j : Fin 64), g < 4 → pairB P d c g (ix5 0 0 0 (KernelIdeal.up i) (KernelIdeal.up j)) = A (wr ![d, c, 2 * g + 1, i.val, j.val])

/-- The lanes' array repeats the decays along its lanes. -/
def Spread : Prop := ∀ (d c h : ℕ) (j : Fin 128), laneB E d c h (ix4 0 0 0 j) = G (wr ![d, c, h])

variable {A G P E}

section Values

variable (hP : Paired A P) (hE : Spread G E)

include hE in
/-- The states. -/
theorem StF_at (d s : ℕ) (h : Fin 8) (i j : Fin 128) : StF U W K E d s (ix3 h i j) = (chain U W Q K A G D d h.val).st s i j := by
  induction s generalizing i j with
  | zero =>
    show k0_pay1 (F := Ideal) (ix3 h i j) = 0
    pointwise [k0_pay1]
  | succ s ih =>
    show stF (hd (StF U W K E d s) h.val) _ _ _ _ (wr ![0, i.val, j.val]) = _
    rw [wr_mat, stF_at, hE, hd_at, ih]
    refine congrArg₂ (· + ·) rfl (Finset.sum_congr rfl fun x _ => congrArg₂ (· * ·) rfl ?_)
    rw [vnF_at]
    exact congrArg₂ (· - ·) rfl (Finset.sum_congr rfl fun y _ => by rw [hd_at, ih]; rfl)

include hE in
/-- A head's state as the scan reads it. -/
theorem st_at (d s : ℕ) (h : Fin 8) (i j : Fin 128) : hd (StF U W K E d s) h.val (ix3 0 i j) = (chain U W Q K A G D d h.val).st s i j := by
  rw [hd_at, StF_at U W Q K D hE]

include hE in
/-- A head's corrected values. -/
theorem vn_at (d s : ℕ) (h : Fin 8) (i : Fin 64) (j : Fin 128) :
    vnF (rowB U d (cF d s) h.val) (rowB W d (cF d s) h.val) (hd (StF U W K E d s) h.val) (ix2 i j) = (chain U W Q K A G D d h.val).v s i j := by
  rw [vnF_at]
  exact congrArg₂ (· - ·) rfl (Finset.sum_congr rfl fun y _ => by rw [st_at U W Q K D hE]; rfl)

/-- A head is the first or the second of its pair. -/
theorem pair_cases (h : Fin 8) : ∃ g, ∃ hg : g < 4, h = ⟨2 * g, by omega⟩ ∨ h = ⟨2 * g + 1, by omega⟩ := by
  refine ⟨h.val / 2, by omega, ?_⟩
  rcases Nat.mod_two_eq_zero_or_one h.val with h0 | h0
  · exact .inl (Fin.ext (by show h.val = 2 * (h.val / 2); omega))
  · exact .inr (Fin.ext (by show h.val = 2 * (h.val / 2) + 1; omega))

theorem even_div (g : ℕ) : 2 * g / 2 = g := by omega
theorem odd_div (g : ℕ) : (2 * g + 1) / 2 = g := by omega
theorem even_par (g : ℕ) : (2 * g % 2 == 1) = false := by rw [Nat.mul_mod_right]; rfl
theorem odd_par (g : ℕ) : ((2 * g + 1) % 2 == 1) = true := by rw [Nat.mul_add_mod]; rfl

/-- A sum of zeros times anything. -/
theorem sum_zero_mul {n : ℕ} (f r : Fin n → EReal) (h : ∀ x, f x = 0) : ∑ x, f x * r x = 0 :=
  Finset.sum_eq_zero fun x _ => by rw [h x, zero_mul]

include hP hE in
/-- The outputs. -/
theorem oC_at (d s : ℕ) (h : Fin 8) (i : Fin 64) (j : Fin 128) : oC U W Q K P E d s h.val (ix3 0 i j) = (chain U W Q K A G D d h.val).o s i j := by
  obtain ⟨g, hg, rfl | rfl⟩ := pair_cases h
  · unfold oC
    simp only [even_div, even_par]
    rw [ohF_lo, sum_zero_mul _ _ fun x => hP.lu _ _ _ _ _, add_zero]
    refine congrArg₂ (· + ·) (Finset.sum_congr rfl fun x _ => ?_) (Finset.sum_congr rfl fun x _ => ?_)
    · exact congrArg₂ (· * ·) rfl (st_at U W Q K D hE d s ⟨2 * g, by omega⟩ x j)
    · exact congrArg₂ (· * ·) (hP.lo _ _ _ _ _ hg) (vn_at U W Q K D hE d s ⟨2 * g, by omega⟩ x j)
  · unfold oC
    simp only [odd_div, odd_par]
    rw [ohF_up, sum_zero_mul _ _ fun x => hP.ul _ _ _ _ _, zero_add]
    refine congrArg₂ (· + ·) (Finset.sum_congr rfl fun x _ => ?_) (Finset.sum_congr rfl fun x _ => ?_)
    · exact congrArg₂ (· * ·) rfl (st_at U W Q K D hE d s ⟨2 * g + 1, by omega⟩ x j)
    · exact congrArg₂ (· * ·) (hP.up _ _ _ _ _ hg) (vn_at U W Q K D hE d s ⟨2 * g + 1, by omega⟩ x j)

/-- Row `i` of chunk `c`. -/
abbrev rw64 (c : Fin 256) (i : Fin 64) : Fin 16384 := ⟨64 * c.val + i.val, by omega⟩
/-- Lane `j` of head `h`. -/
abbrev ln128 (h : Fin 8) (j : Fin 128) : Fin 1024 := ⟨128 * h.val + j.val, by omega⟩

theorem rw_div (c : Fin 256) (i : Fin 64) : (rw64 c i).val / 64 = c.val := by show (64 * c.val + i.val) / 64 = _; omega
theorem rw_mod (c : Fin 256) (i : Fin 64) : (rw64 c i).val % 64 = i.val := by show (64 * c.val + i.val) % 64 = _; omega
theorem ln_div (h : Fin 8) (j : Fin 128) : (ln128 h j).val / 128 = h.val := by show (128 * h.val + j.val) / 128 = _; omega
theorem ln_mod (h : Fin 8) (j : Fin 128) : (ln128 h j).val % 128 = j.val := by show (128 * h.val + j.val) % 128 = _; omega

include hP hE in
theorem Go_at (d : Fin 2) (c : Fin 256) (h : Fin 8) (i : Fin 64) (j : Fin 128) :
    Go U W Q K P E (ix3 d (rw64 c i) (ln128 h j)) = (chain U W Q K A G D d.val h.val).o (cF d.val c.val) i j := by
  show oC U W Q K P E d.val (cF d.val ((rw64 c i).val / 64)) ((ln128 h j).val / 128) (wr ![0, (rw64 c i).val % 64, (ln128 h j).val % 128]) = _
  rw [rw_div, rw_mod, ln_div, ln_mod, wr_row, oC_at U W Q K D hP hE]

include hE in
/-- The saved states. -/
theorem Gs_at (d : Fin 2) (c : Fin 256) (h : Fin 8) (i j : Fin 128) :
    Gs U W K E (ix5 d c h i j) = (chain U W Q K A G D d.val h.val).st (cF d.val c.val) i j := by
  show svF (hd (StF U W K E d.val (cF d.val c.val)) h.val) (wr ![0, 0, 0, i.val, j.val]) = _
  rw [wr_mat5, svF_at, st_at U W Q K D hE]

end Values

end Cert.Proof.KernelIdeal

end
-- ==== Proof.KBwd.lean ====
/- The arrays of gradients the kernel's backward scan leaves, over the exact numbers, are the mathematics of `Spec.lean`. -/
module

public import proofs.«01_k».proof.Proof.KVal

@[expose] public section

set_option maxRecDepth 16384

noncomputable section

namespace Cert.Proof.KernelIdeal

open Cert.KernelIdeal Cert.KernelIdeal.Gen
open Idealize.ShloMosaic Idealize.ShloMosaic.TcCoe

variable (U : Vec Ideal S2x16384x1024 .f32) (W Q K : Vec Ideal S2x16384x1024 .bf16) {A : Vec Ideal S2x256x8x64x64 .bf16}
  {G : Vec Ideal S2x256x8 .f32} (D : Vec Ideal S16384x1024 .bf16)
  {P : Vec Ideal S2x256x4x128x128 .bf16} {E : Vec Ideal S2x256x8x128 .f32}

variable (hP : Paired A P) (hE : Spread G E)

include hP in
/-- The gradient of a head's corrected values, from the gradient `M` of its state. -/
theorem dv_at (d s : ℕ) (h : Fin 8) (X : Vec Ideal S8x128x128 .f32) (M : Fin 128 → Fin 128 → EReal)
    (hX : ∀ i j, hd X h.val (ix3 0 i j) = M i j) (i : Fin 64) (j : Fin 128) :
    dvB (h.val % 2 == 1) (hd X h.val) (rowB K d (cF d s) h.val) (pairB P d (cF d s) (h.val / 2)) (rowC D (cF d s) (2 * (h.val / 2)))
      (rowC D (cF d s) (2 * (h.val / 2) + 1)) (ix2 i j) = (chain U W Q K A G D d h.val).v' M s i j := by
  obtain ⟨g, hg, rfl | rfl⟩ := pair_cases h
  · simp only [even_div, even_par] at hX ⊢
    rw [dvB_lo, sum_zero_mul (fun x => pairB P d (cF d s) g (ix5 0 0 0 (up x) (lo i))) _ fun x => hP.ul _ _ _ _ _, add_zero]
    refine congrArg₂ (· + ·) (Finset.sum_congr rfl fun x _ => ?_) (Finset.sum_congr rfl fun x _ => ?_)
    · exact congrArg₂ (· * ·) rfl (hX x j)
    · exact congrArg₂ (· * ·) (hP.lo _ _ _ _ _ hg) rfl
  · simp only [odd_div, odd_par] at hX ⊢
    rw [dvB_up, sum_zero_mul (fun x => pairB P d (cF d s) g (ix5 0 0 0 (lo x) (up i))) _ fun x => hP.lu _ _ _ _ _, zero_add]
    refine congrArg₂ (· + ·) (Finset.sum_congr rfl fun x _ => ?_) (Finset.sum_congr rfl fun x _ => ?_)
    · exact congrArg₂ (· * ·) rfl (hX x j)
    · exact congrArg₂ (· * ·) (hP.up _ _ _ _ _ hg) rfl

include hP hE in
/-- One step of the gradient of a head's state. -/
theorem ds_at (d s : ℕ) (h : Fin 8) (X : Vec Ideal S8x128x128 .f32) (M : Fin 128 → Fin 128 → EReal)
    (hX : ∀ i j, hd X h.val (ix3 0 i j) = M i j) (i j : Fin 128) :
    dsB (h.val % 2 == 1) (hd X h.val) (rowB W d (cF d s) h.val) (rowB Q d (cF d s) h.val) (rowB K d (cF d s) h.val)
      (pairB P d (cF d s) (h.val / 2)) (laneB E d (cF d s) h.val) (rowC D (cF d s) (2 * (h.val / 2)))
      (rowC D (cF d s) (2 * (h.val / 2) + 1)) (ix3 0 i j)
    = M i j * (chain U W Q K A G D d h.val).g s + ∑ x : Fin 64, (chain U W Q K A G D d h.val).q s x i * (chain U W Q K A G D d h.val).o' s x j
        + ∑ x : Fin 64, (chain U W Q K A G D d h.val).w s x i * - (chain U W Q K A G D d h.val).v' M s x j := by
  have hv := dv_at U W Q K (G := G) D hP d s h X M hX
  obtain ⟨g, hg, rfl | rfl⟩ := pair_cases h
  · simp only [even_div, even_par] at hX hv ⊢
    rw [dsB_lo, hE, hX]
    exact congrArg₂ (· + ·) rfl (Finset.sum_congr rfl fun x _ => by rw [hv]; rfl)
  · simp only [odd_div, odd_par] at hX hv ⊢
    rw [dsB_up, hE, hX]
    exact congrArg₂ (· + ·) rfl (Finset.sum_congr rfl fun x _ => by rw [hv]; rfl)

include hP hE in
/-- The gradients of the states. -/
theorem StB_at (d t : ℕ) (ht : t ≤ 256) (h : Fin 8) (i j : Fin 128) : StB W Q K P E D d t (ix3 h i j) = (chain U W Q K A G D d h.val).st' t i j := by
  induction t generalizing i j with
  | zero =>
    show k1_pay1 (F := Ideal) (ix3 h i j) = 0
    pointwise [k1_pay1]
  | succ t ih =>
    show dsC W Q K P E D (StB W Q K P E D d t) d t h.val (wr ![0, i.val, j.val]) = _
    unfold dsC
    simp only [cB_eq d t (by omega)]
    rw [wr_mat, ds_at U W Q K D hP hE d (255 - t) h _ _ (fun i j => (hd_at _ h i j).trans (ih (by omega) i j))]
    rfl

include hP hE in
/-- A head's gradient of the state as chunk `c` finds it. -/
theorem gr_at (d : ℕ) (c : Fin 256) (h : Fin 8) (i j : Fin 128) :
    hd (StB W Q K P E D d (cB d c.val)) h.val (ix3 0 i j) = (chain U W Q K A G D d h.val).D (cF d c.val) i j := by
  rw [hd_at, StB_at U W Q K D hP hE d _ (Nat.le_of_lt (cB_lt d _ c.isLt))]
  unfold Chain.D
  rw [cB_cF d _ c.isLt]

include hP hE in
/-- The gradient of `u`. -/
theorem du_at (d : ℕ) (c : Fin 256) (h : Fin 8) (i : Fin 64) (j : Fin 128) :
    dvB (h.val % 2 == 1) (hd (StB W Q K P E D d (cB d c.val)) h.val) (rowB K d c.val h.val) (pairB P d c.val (h.val / 2))
      (rowC D c.val (2 * (h.val / 2))) (rowC D c.val (2 * (h.val / 2) + 1)) (ix2 i j) = (chain U W Q K A G D d h.val).u' (cF d c.val) i j := by
  have hv := dv_at U W Q K (G := G) D hP d (cF d c.val) h _ _ (gr_at U W Q K D hP hE d c h) i j
  rw [cF_cF d _ c.isLt] at hv
  exact hv

include hP hE in
theorem Gdu_at (d : Fin 2) (c : Fin 256) (h : Fin 8) (i : Fin 64) (j : Fin 128) :
    Gdu W Q K P E D (ix3 d (rw64 c i) (ln128 h j)) = (chain U W Q K A G D d.val h.val).u' (cF d.val c.val) i j := by
  show duC W Q K P E D d.val (cB d.val ((rw64 c i).val / 64)) ((ln128 h j).val / 128) (wr ![0, (rw64 c i).val % 64, (ln128 h j).val % 128]) = _
  rw [rw_div, rw_mod, ln_div, ln_mod, wr_row]
  unfold duC
  simp only [cB_cB d.val c.val c.isLt]
  rw [duB_at, du_at U W Q K D hP hE]

include hE in
theorem s0_at (d : Fin 2) (c : Fin 256) (h : Fin 8) (i j : Fin 128) :
    stB (Gs U W K E) d.val c.val h.val (ix5 0 0 0 i j) = (chain U W Q K A G D d.val h.val).st (cF d.val c.val) i j := by
  rw [stB_at, Gs_at U W Q K D hE]

include hP hE in
theorem Gdw_at (d : Fin 2) (c : Fin 256) (h : Fin 8) (i : Fin 64) (j : Fin 128) :
    Gdw W Q K P E (Gs U W K E) D (ix3 d (rw64 c i) (ln128 h j)) = (chain U W Q K A G D d.val h.val).w' (cF d.val c.val) i j := by
  show dwC W Q K P E _ D d.val (cB d.val ((rw64 c i).val / 64)) ((ln128 h j).val / 128) (wr ![0, (rw64 c i).val % 64, (ln128 h j).val % 128]) = _
  rw [rw_div, rw_mod, ln_div, ln_mod, wr_row]
  unfold dwC
  simp only [cB_cB d.val c.val c.isLt]
  rw [dwB_at]
  exact Finset.sum_congr rfl fun e _ => by rw [du_at U W Q K D hP hE, s0_at U W Q K D hE]

theorem do_at (d : ℕ) (c : Fin 256) (h : ℕ) (i : Fin 64) (j : Fin 128) : rowC D c.val h (ix2 i j) = (chain U W Q K A G D d h).o' (cF d c.val) i j := by
  show _ = rowC D (cF d (cF d c.val)) h (ix2 i j)
  rw [cF_cF d _ c.isLt]

include hE in
theorem Gdq_at (d : Fin 2) (c : Fin 256) (h : Fin 8) (i : Fin 64) (j : Fin 128) :
    Gdq (Gs U W K E) D (ix3 d (rw64 c i) (ln128 h j)) = (chain U W Q K A G D d.val h.val).q' (cF d.val c.val) i j := by
  show dqC _ D d.val (cB d.val ((rw64 c i).val / 64)) ((ln128 h j).val / 128) (wr ![0, (rw64 c i).val % 64, (ln128 h j).val % 128]) = _
  rw [rw_div, rw_mod, ln_div, ln_mod, wr_row]
  unfold dqC
  simp only [cB_cB d.val c.val c.isLt]
  have hs := s0_at U W Q K (A := A) D hE d c h
  have hd := do_at U W Q K (A := A) (G := G) D d.val c h.val
  obtain ⟨g, hg, rfl | rfl⟩ := pair_cases h
  · simp only [even_div, even_par] at hs hd ⊢
    rw [dqB_lo]
    exact Finset.sum_congr rfl fun e _ => by rw [hs, hd]
  · simp only [odd_div, odd_par] at hs hd ⊢
    rw [dqB_up]
    exact Finset.sum_congr rfl fun e _ => by rw [hs, hd]

include hE in
/-- The corrected values, recomputed from the saved state. -/
theorem vB_at (d : Fin 2) (c : Fin 256) (h : Fin 8) (i : Fin 64) (j : Fin 128) :
    vnB (rowB U d.val c.val h.val) (rowB W d.val c.val h.val) (stB (Gs U W K E) d.val c.val h.val) (ix2 i j)
      = (chain U W Q K A G D d.val h.val).v (cF d.val c.val) i j := by
  rw [vnB_at]
  show _ = rowB U d.val (cF d.val (cF d.val c.val)) h.val (ix3 0 i j)
    - ∑ x : Fin 128, rowB W d.val (cF d.val (cF d.val c.val)) h.val (ix3 0 i x) * _
  rw [cF_cF d.val _ c.isLt]
  exact congrArg₂ (· - ·) rfl (Finset.sum_congr rfl fun x _ => by rw [s0_at U W Q K D hE])

include hP hE in
theorem Gdk_at (d : Fin 2) (c : Fin 256) (h : Fin 8) (i : Fin 64) (j : Fin 128) :
    Gdk U W Q K P E (Gs U W K E) D (ix3 d (rw64 c i) (ln128 h j)) = (chain U W Q K A G D d.val h.val).k' (cF d.val c.val) i j := by
  show dkC U W Q K P E _ D d.val (cB d.val ((rw64 c i).val / 64)) ((ln128 h j).val / 128) (wr ![0, (rw64 c i).val % 64, (ln128 h j).val % 128]) = _
  rw [rw_div, rw_mod, ln_div, ln_mod, wr_row]
  unfold dkC
  simp only [cB_cB d.val c.val c.isLt]
  rw [dkB_at]
  exact Finset.sum_congr rfl fun e _ => by rw [vB_at U W Q K D hE, gr_at U W Q K D hP hE]

include hE in
/-- The first block on the diagonal of a pair's gradient is the first head's. -/
theorem Gdp_lo (d : Fin 2) (c : Fin 256) (g : Fin 4) (i j : Fin 64) :
    Gdp U W (Gs U W K E) D (ix5 d c g (lo i) (lo j)) = (chain U W Q K A G D d.val (2 * g.val)).a' (cF d.val c.val) i j := by
  show dpC U W _ D d.val (cB d.val c.val) g.val (wr ![0, 0, 0, (lo i).val, (lo j).val]) = _
  rw [wr_mat5]
  unfold dpC
  simp only [cB_cB d.val c.val c.isLt]
  rw [dpB_lo]
  exact Finset.sum_congr rfl fun e _ => congrArg₂ (· * ·) (do_at U W Q K D d.val c _ i e) (vB_at U W Q K D hE d c ⟨2 * g.val, by omega⟩ j e)

include hE in
/-- The second is the second head's. -/
theorem Gdp_up (d : Fin 2) (c : Fin 256) (g : Fin 4) (i j : Fin 64) :
    Gdp U W (Gs U W K E) D (ix5 d c g (up i) (up j)) = (chain U W Q K A G D d.val (2 * g.val + 1)).a' (cF d.val c.val) i j := by
  show dpC U W _ D d.val (cB d.val c.val) g.val (wr ![0, 0, 0, (up i).val, (up j).val]) = _
  rw [wr_mat5]
  unfold dpC
  simp only [cB_cB d.val c.val c.isLt]
  rw [dpB_up]
  exact Finset.sum_congr rfl fun e _ => congrArg₂ (· * ·) (do_at U W Q K D d.val c _ i e) (vB_at U W Q K D hE d c ⟨2 * g.val + 1, by omega⟩ j e)

include hP hE in
/-- The gradients of the decays, before the sum over the lanes. -/
theorem Gdg_at (d : Fin 2) (c : Fin 256) (h : Fin 8) (j : Fin 128) :
    Gdg W Q K P E (Gs U W K E) D (ix4 d c h j)
      = ∑ i : Fin 128, (chain U W Q K A G D d.val h.val).st (cF d.val c.val) i j * (chain U W Q K A G D d.val h.val).D (cF d.val c.val) i j := by
  show dgC W Q K P E _ D d.val (cB d.val c.val) h.val (wr ![0, 0, 0, j.val]) = _
  rw [wr_lane]
  unfold dgC
  simp only [cB_cB d.val c.val c.isLt]
  rw [dgB_at]
  exact Finset.sum_congr rfl fun e _ => by rw [s0_at U W Q K D hE, gr_at U W Q K D hP hE]

end Cert.Proof.KernelIdeal

end
-- ==== Proof.KHost.lean ====
/- What the kernel's host operations compute around the two scans: the pairs' matrices and the decays' lanes before, the
   gradients of the matrices and of the decays after. -/
module

public import proofs.«01_k».proof.Proof.KBwd
public import proofs.«01_k».proof.Proof.Run
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe

variable (V : Valuation τ sig (Elt Ideal))

theorem pp_ll (d : Fin 2) (c : Fin 256) (g : Fin 4) (x y : Fin 64) :
    StableHlo.after hostOps0 V main_v6 (ix5 d c g (lo x) (lo y)) = V main_arg4 (ix5 d c ⟨2 * g.val, by omega⟩ x y) := by
  after_reads_at
  after_reads_at
  try after_reads_at
theorem pp_lu (d : Fin 2) (c : Fin 256) (g : Fin 4) (x y : Fin 64) :
    StableHlo.after hostOps0 V main_v6 (ix5 d c g (lo x) (up y)) = (0 : EReal) := by
  after_reads_at
  after_reads_at
  try after_reads_at
theorem pp_ul (d : Fin 2) (c : Fin 256) (g : Fin 4) (x y : Fin 64) :
    StableHlo.after hostOps0 V main_v6 (ix5 d c g (up x) (lo y)) = (0 : EReal) := by
  after_reads_at
  after_reads_at
  try after_reads_at
theorem pp_uu (d : Fin 2) (c : Fin 256) (g : Fin 4) (x y : Fin 64) :
    StableHlo.after hostOps0 V main_v6 (ix5 d c g (up x) (up y)) = V main_arg4 (ix5 d c ⟨2 * g.val + 1, by omega⟩ x y) := by
  after_reads_at
  after_reads_at
  exact congrArg (fun z => V main_arg4 (ix5 d c z x y)) (Fin.ext (Nat.add_comm _ _))
theorem eg_at (d : Fin 2) (c : Fin 256) (h : Fin 8) (j : Fin 128) :
    StableHlo.after hostOps0 V main_v8 (ix4 d c h j) = V main_arg5 (ix3 d c h) := by
  after_reads_at
theorem da_at (d : Fin 2) (c : Fin 256) (h : Fin 8) (x y : Fin 64) :
    StableHlo.after hostOps2 V main_v16 (ix5 d c h x y)
      = if h.val % 2 < 1 then V main_v10_4 (ix5 d c ⟨h.val / 2, by omega⟩ (lo x) (lo y)) else V main_v10_4 (ix5 d c ⟨h.val / 2, by omega⟩ (up x) (up y)) := by
  after_reads_at
  after_reads_at
  split <;> rfl
theorem dg_at (d : Fin 2) (c : Fin 256) (h : Fin 8) :
    StableHlo.after hostOps2 V main_v17 (ix3 d c h) = (∑ j : Fin 128, (V main_v10_5 (ix4 d c h j) : EReal) : EReal) := by
  after_reads_at

/-! ## The results of the whole run -/

theorem pairB_at {α : Type} (X : S2x256x4x128x128.Idx → α) (d c g : ℕ) (x y : Fin 128) :
    pairB X d c g (ix5 0 0 0 x y) = X (ix5 ⟨d % 2, Nat.mod_lt _ (by decide)⟩ ⟨c % 256, Nat.mod_lt _ (by decide)⟩ ⟨g % 4, Nat.mod_lt _ (by decide)⟩ x y) := by
  refine congrArg X (funext fun a => Fin.ext ?_)
  have hx := x.isLt
  have hy := y.isLt
  fin_cases a
  · rfl
  · rfl
  · rfl
  · show (0 + x.val) % 128 = x.val; omega
  · show (0 + y.val) % 128 = y.val; omega
theorem laneB_at {α : Type} (X : S2x256x8x128.Idx → α) (d c h : ℕ) (x : Fin 128) :
    laneB X d c h (ix4 0 0 0 x) = X (ix4 ⟨d % 2, Nat.mod_lt _ (by decide)⟩ ⟨c % 256, Nat.mod_lt _ (by decide)⟩ ⟨h % 8, Nat.mod_lt _ (by decide)⟩ x) := by
  refine congrArg X (funext fun a => Fin.ext ?_)
  have hx := x.isLt
  fin_cases a
  · rfl
  · rfl
  · rfl
  · show (0 + x.val) % 128 = x.val; omega
theorem wr_attn (d c h : ℕ) (hh : h < 8) (x y : Fin 64) : wr (s := S2x256x8x64x64) ![d, c, h, x.val, y.val]
    = ix5 ⟨d % 2, Nat.mod_lt _ (by decide)⟩ ⟨c % 256, Nat.mod_lt _ (by decide)⟩ ⟨h, hh⟩ x y := by
  have hx := x.isLt
  have hy := y.isLt
  refine funext fun a => Fin.ext ?_
  fin_cases a
  · rfl
  · rfl
  · show h % 8 = h; omega
  · show x.val % 64 = x.val; omega
  · show y.val % 64 = y.val; omega

theorem paired : Paired (V main_arg4) (StableHlo.after hostOps0 V main_v6) where
  lo d c g i j hg := by
    rw [pairB_at, pp_ll, wr_attn _ _ _ (by omega)]
    exact congrArg (fun z => V main_arg4 (ix5 _ _ z i j)) (Fin.ext (by show 2 * (g % 4) = 2 * g; omega))
  lu d c g i j := by rw [pairB_at, pp_lu]
  ul d c g i j := by rw [pairB_at, pp_ul]
  up d c g i j hg := by
    rw [pairB_at, pp_uu, wr_attn _ _ _ (by omega)]
    exact congrArg (fun z => V main_arg4 (ix5 _ _ z i j)) (Fin.ext (by show 2 * (g % 4) + 1 = 2 * g + 1; omega))

theorem spread : Spread (V main_arg5) (StableHlo.after hostOps0 V main_v8) := fun d c h j => by
  rw [laneB_at, eg_at]
  exact congrArg (V main_arg5) (funext fun a => by fin_cases a <;> rfl)

section Results

variable (m : (ℓ : Loc nD τ sig) → Buf (Elt Ideal) ℓ) (c : Dev nD)

/-- The chain of direction `d` and head `h` over a device's arguments. -/
def devChain (d h : ℕ) : Chain :=
  chain (m (c, main_arg0)) (m (c, main_arg1)) (m (c, main_arg2)) (m (c, main_arg3)) (m (c, main_arg4)) (m (c, main_arg5)) (m (c, main_arg6)) d h

theorem W2_in (r : Ref sig .tc) (h : r ∉ hostOps0_W ++ [main_v9_0, main_v9_1]) : W2 m c r = m (c, r) := by
  simp only [List.mem_append, not_or] at h
  exact (W2_of m c r h.2).trans (W1_of m c r h.1)

theorem paired_dev : Paired (m (c, main_arg4)) (W1 m c main_v6) := paired (fun b => m (c, b))
theorem spread_dev : Spread (m (c, main_arg5)) (W1 m c main_v8) := spread (fun b => m (c, b))

variable (d : Fin 2) (n : Fin 256) (h : Fin 8) (i : Fin 64) (j : Fin 128)

theorem res_o : W4 m c main_v9_0 (ix3 d (rw64 n i) (ln128 h j)) = (devChain m c d.val h.val).o (cF d.val n.val) i j := by
  rw [W4_of m c main_v9_0 (by decide), W3_of m c main_v9_0 (by decide), W2_0]
  dsimp only [uA, wA, qA, kA, pA, eA, sA, dA]
  rw [W1_of m c main_arg0 (by decide), W1_of m c main_arg1 (by decide),
    W1_of m c main_arg2 (by decide), W1_of m c main_arg3 (by decide)]
  exact Go_at _ _ _ _ (m (c, main_arg6)) (paired_dev m c) (spread_dev m c) d n h i j

theorem W2_s : W2 m c main_v9_1 = Gs (m (c, main_arg0)) (m (c, main_arg1)) (m (c, main_arg3)) (W1 m c main_v8) := by
  rw [W2_1]
  dsimp only [uA, wA, qA, kA, pA, eA, sA, dA]
  rw [W1_of m c main_arg0 (by decide), W1_of m c main_arg1 (by decide), W1_of m c main_arg3 (by decide)]

theorem res_u' : W4 m c main_v10_0 (ix3 d (rw64 n i) (ln128 h j)) = (devChain m c d.val h.val).u' (cF d.val n.val) i j := by
  rw [W4_of m c main_v10_0 (by decide), W3_0]
  dsimp only [uA, wA, qA, kA, pA, eA, sA, dA]
  rw [W2_in m c main_arg1 (by decide), W2_in m c main_arg2 (by decide), W2_in m c main_arg3 (by decide),
    W2_in m c main_arg6 (by decide), W2_of m c main_v6 (by decide), W2_of m c main_v8 (by decide)]
  exact Gdu_at (m (c, main_arg0)) _ _ _ _ (paired_dev m c) (spread_dev m c) d n h i j

theorem res_w' : W4 m c main_v10_1 (ix3 d (rw64 n i) (ln128 h j)) = (devChain m c d.val h.val).w' (cF d.val n.val) i j := by
  rw [W4_of m c main_v10_1 (by decide), W3_1]
  dsimp only [uA, wA, qA, kA, pA, eA, sA, dA]
  rw [W2_s, W2_in m c main_arg1 (by decide), W2_in m c main_arg2 (by decide), W2_in m c main_arg3 (by decide),
    W2_in m c main_arg6 (by decide), W2_of m c main_v6 (by decide), W2_of m c main_v8 (by decide)]
  exact Gdw_at (m (c, main_arg0)) _ _ _ _ (paired_dev m c) (spread_dev m c) d n h i j

theorem res_q' : W4 m c main_v10_2 (ix3 d (rw64 n i) (ln128 h j)) = (devChain m c d.val h.val).q' (cF d.val n.val) i j := by
  rw [W4_of m c main_v10_2 (by decide), W3_2]
  dsimp only [uA, wA, qA, kA, pA, eA, sA, dA]
  rw [W2_s, W2_in m c main_arg6 (by decide)]
  exact Gdq_at (m (c, main_arg0)) _ (m (c, main_arg2)) _ _ (spread_dev m c) d n h i j

theorem res_k' : W4 m c main_v10_3 (ix3 d (rw64 n i) (ln128 h j)) = (devChain m c d.val h.val).k' (cF d.val n.val) i j := by
  rw [W4_of m c main_v10_3 (by decide), W3_3]
  dsimp only [uA, wA, qA, kA, pA, eA, sA, dA]
  rw [W2_s, W2_in m c main_arg0 (by decide), W2_in m c main_arg1 (by decide), W2_in m c main_arg2 (by decide),
    W2_in m c main_arg3 (by decide), W2_in m c main_arg6 (by decide), W2_of m c main_v6 (by decide), W2_of m c main_v8 (by decide)]
  exact Gdk_at (m (c, main_arg0)) _ _ _ _ (paired_dev m c) (spread_dev m c) d n h i j

theorem res_a' (x y : Fin 64) : W4 m c main_v16 (ix5 d n h x y) = (devChain m c d.val h.val).a' (cF d.val n.val) x y := by
  show StableHlo.after hostOps2 (W3 m c) main_v16 _ = _
  rw [da_at, W3_4]
  dsimp only [uA, wA, qA, kA, pA, eA, sA, dA]
  rw [W2_s, W2_in m c main_arg0 (by decide), W2_in m c main_arg1 (by decide), W2_in m c main_arg6 (by decide)]
  obtain ⟨g, hg, rfl | rfl⟩ := pair_cases h
  · rw [if_pos (by show 2 * g % 2 < 1; omega)]
    refine Eq.trans (congrArg (fun z => Gdp _ _ _ _ (ix5 d n z (lo x) (lo y))) (show (⟨2 * g / 2, by omega⟩ : Fin 4) = ⟨g, hg⟩ from Fin.ext (even_div g))) ?_
    exact Gdp_lo _ _ (m (c, main_arg2)) _ _ (spread_dev m c) d n ⟨g, hg⟩ x y
  · rw [if_neg (by show ¬ (2 * g + 1) % 2 < 1; omega)]
    refine Eq.trans (congrArg (fun z => Gdp _ _ _ _ (ix5 d n z (up x) (up y))) (show (⟨(2 * g + 1) / 2, by omega⟩ : Fin 4) = ⟨g, hg⟩ from Fin.ext (odd_div g))) ?_
    exact Gdp_up _ _ (m (c, main_arg2)) _ _ (spread_dev m c) d n ⟨g, hg⟩ x y

theorem res_g' : W4 m c main_v17 (ix3 d n h) = (devChain m c d.val h.val).g' (cF d.val n.val) := by
  show StableHlo.after hostOps2 (W3 m c) main_v17 _ = _
  rw [dg_at, W3_5]
  dsimp only [uA, wA, qA, kA, pA, eA, sA, dA]
  rw [W2_s, W2_in m c main_arg1 (by decide), W2_in m c main_arg2 (by decide),
    W2_in m c main_arg3 (by decide), W2_in m c main_arg6 (by decide), W2_of m c main_v6 (by decide), W2_of m c main_v8 (by decide)]
  show (_ : EReal) = _
  exact Finset.sum_congr (M := EReal) rfl fun j _ => Gdg_at (m (c, main_arg0)) _ _ _ _ (paired_dev m c) (spread_dev m c) d n h j

end Results

end Cert.Proof.KernelIdeal

end
-- ==== Proof.RefSlices.lean ====
/- One position of an array of 256, read and written as the reference's loops do it: a dynamic slice whose first start is the
   position and whose other starts are zero. -/
module

public import proofs.«01_k».proof.Proof.Gen.ReferenceIdeal
public import Idealize.ShloMosaic.Lib.Pointwise

@[expose] public section

set_option maxRecDepth 16384

noncomputable section

namespace Cert.Proof.ReferenceIdeal

open Cert.ReferenceIdeal Cert.ReferenceIdeal.Facts₀
open Idealize.ShloMosaic

section General

variable {s t : Shape} {α : Type}

/-- A dynamic slice that fits, at an index. -/
theorem slice_at (x : s.Idx → α) (st : Fin s.rank → ℤ) (h : s.Slices (fun _ => 0) t) (off : Fin s.rank → ℕ) (hs : ∀ a, st a = off a)
    (hf : ∀ a, off a + t.size (a.cast h.1.symm) ≤ s.size a) (j : t.Idx) (y : s.Idx) (hy : ∀ a, (y a).val = off a + (j (a.cast h.1.symm)).val) :
    Host.dynamicSlice t x st h j = x y := by
  rw [Host.dynamicSlice_apply]
  refine congrArg x (funext fun a => Fin.ext ?_)
  show Host.clampedStart s t h.1 st a + (j (a.cast h.1.symm)).val = _
  rw [Host.clampedStart_of_le h.1 st a (off a) (hs a) (hf a), hy]

/-- A dynamic update that fits, at an index inside it. -/
theorem put_hit (x : s.Idx → α) (upd : t.Idx → α) (st : Fin s.rank → ℤ) (h : s.Slices (fun _ => 0) t) (off : Fin s.rank → ℕ) (hs : ∀ a, st a = off a)
    (hf : ∀ a, off a + t.size (a.cast h.1.symm) ≤ s.size a) (i : s.Idx)
    (hi : ∀ a, off a ≤ (i a).val ∧ (i a).val < off a + t.size (a.cast h.1.symm)) (y : t.Idx)
    (hy : ∀ b : Fin t.rank, (y b).val = (i (b.cast h.1)).val - off (b.cast h.1)) : Host.dynamicUpdateSlice x upd st h i = upd y := by
  have hc : ∀ a, Host.clampedStart s t h.1 st a = off a := fun a => Host.clampedStart_of_le h.1 st a (off a) (hs a) (hf a)
  rw [Host.dynamicUpdateSlice_apply, dif_pos fun a => by rw [hc a]; exact hi a]
  refine congrArg upd (funext fun b => Fin.ext ?_)
  show (i (b.cast h.1)).val - Host.clampedStart s t h.1 st (b.cast h.1) = _
  rw [hc, hy]

/-- A dynamic update that fits, at an index outside it. -/
theorem put_miss (x : s.Idx → α) (upd : t.Idx → α) (st : Fin s.rank → ℤ) (h : s.Slices (fun _ => 0) t) (off : Fin s.rank → ℕ) (hs : ∀ a, st a = off a)
    (hf : ∀ a, off a + t.size (a.cast h.1.symm) ≤ s.size a) (i : s.Idx)
    (a : Fin s.rank) (hi : ¬ (off a ≤ (i a).val ∧ (i a).val < off a + t.size (a.cast h.1.symm))) : Host.dynamicUpdateSlice x upd st h i = x i := by
  have hc : ∀ a, Host.clampedStart s t h.1 st a = off a := fun a => Host.clampedStart_of_le h.1 st a (off a) (hs a) (hf a)
  rw [Host.dynamicUpdateSlice_apply, dif_neg fun hin => hi (by have := hin a; rw [hc a] at this; exact this)]

end General

/-- The starts of a slice of rank five: a position, then zeros. -/
def st5 (c : S_.Idx → BitVec 32) : Fin 5 → ℤ := fun a =>
  ((![c, constantI S_ 32 0#32, constantI S_ 32 0#32, constantI S_ 32 0#32, constantI S_ 32 0#32] : Fin 5 → S_.Idx → BitVec 32) a (Shape.Idx.first h_S_)).toInt
/-- The starts of a slice of rank three. -/
def st3 (c : S_.Idx → BitVec 32) : Fin 3 → ℤ := fun a =>
  ((![c, constantI S_ 32 0#32, constantI S_ 32 0#32] : Fin 3 → S_.Idx → BitVec 32) a (Shape.Idx.first h_S_)).toInt

/-- A counter holds the position `k`. -/
def At (c : S_.Idx → BitVec 32) (k : Fin 256) : Prop := (c (Shape.Idx.first h_S_)).toInt = k.val

theorem st5_at {c : S_.Idx → BitVec 32} {k : Fin 256} (h : At c k) (a : Fin 5) : st5 c a = ((![k.val, 0, 0, 0, 0] : Fin 5 → ℕ) a : ℤ) := by
  fin_cases a
  · exact h
  all_goals rfl
theorem st3_at {c : S_.Idx → BitVec 32} {k : Fin 256} (h : At c k) (a : Fin 3) : st3 c a = ((![k.val, 0, 0] : Fin 3 → ℕ) a : ℤ) := by
  fin_cases a
  · exact h
  all_goals rfl

variable {α : Type} {c : S_.Idx → BitVec 32} {k : Fin 256} (hk : At c k)

include hk

/-! ## Reading position `k` -/

theorem take_rows (X : S256x2x8x64x128.Idx → α) (d : Fin 2) (h : Fin 8) (i : Fin 64) (j : Fin 128) :
    shapeCast S2x8x64x128 (Host.dynamicSlice S1x2x8x64x128 X (st5 c) sliceFits_S256x2x8x64x128_S1x2x8x64x128) shapeCasts_S1x2x8x64x128_S2x8x64x128 (ix4 d h i j)
      = X (ix5 k d h i j) := by
  have e : ∀ Y : S1x2x8x64x128.Idx → α, shapeCast S2x8x64x128 Y shapeCasts_S1x2x8x64x128_S2x8x64x128 (ix4 d h i j) = Y (ix5 0 d h i j) := fun Y => by pointwise
  rw [e]
  exact slice_at _ _ _ _ (st5_at hk) (fun a => by have := k.isLt; fin_cases a <;> simp <;> omega) _ _ (fun a => by fin_cases a <;> simp)

theorem take_sq (X : S256x2x8x64x64.Idx → α) (d : Fin 2) (h : Fin 8) (i j : Fin 64) :
    shapeCast S2x8x64x64 (Host.dynamicSlice S1x2x8x64x64 X (st5 c) sliceFits_S256x2x8x64x64_S1x2x8x64x64) shapeCasts_S1x2x8x64x64_S2x8x64x64 (ix4 d h i j)
      = X (ix5 k d h i j) := by
  have e : ∀ Y : S1x2x8x64x64.Idx → α, shapeCast S2x8x64x64 Y shapeCasts_S1x2x8x64x64_S2x8x64x64 (ix4 d h i j) = Y (ix5 0 d h i j) := fun Y => by pointwise
  rw [e]
  exact slice_at _ _ _ _ (st5_at hk) (fun a => by have := k.isLt; fin_cases a <;> simp <;> omega) _ _ (fun a => by fin_cases a <;> simp)

theorem take_mats (X : S256x2x8x128x128.Idx → α) (d : Fin 2) (h : Fin 8) (i j : Fin 128) :
    shapeCast S2x8x128x128 (Host.dynamicSlice S1x2x8x128x128 X (st5 c) sliceFits_S256x2x8x128x128_S1x2x8x128x128) shapeCasts_S1x2x8x128x128_S2x8x128x128 (ix4 d h i j)
      = X (ix5 k d h i j) := by
  have e : ∀ Y : S1x2x8x128x128.Idx → α, shapeCast S2x8x128x128 Y shapeCasts_S1x2x8x128x128_S2x8x128x128 (ix4 d h i j) = Y (ix5 0 d h i j) := fun Y => by pointwise
  rw [e]
  exact slice_at _ _ _ _ (st5_at hk) (fun a => by have := k.isLt; fin_cases a <;> simp <;> omega) _ _ (fun a => by fin_cases a <;> simp)

theorem take_ones (X : S256x2x8x1x1.Idx → α) (d : Fin 2) (h : Fin 8) :
    shapeCast S2x8x1x1 (Host.dynamicSlice S1x2x8x1x1 X (st5 c) sliceFits_S256x2x8x1x1_S1x2x8x1x1) shapeCasts_S1x2x8x1x1_S2x8x1x1 (ix4 d h 0 0)
      = X (ix5 k d h 0 0) := by
  have e : ∀ Y : S1x2x8x1x1.Idx → α, shapeCast S2x8x1x1 Y shapeCasts_S1x2x8x1x1_S2x8x1x1 (ix4 d h 0 0) = Y (ix5 0 d h 0 0) := fun Y => by pointwise
  rw [e]
  exact slice_at _ _ _ _ (st5_at hk) (fun a => by have := k.isLt; fin_cases a <;> simp <;> omega) _ _ (fun a => by fin_cases a <;> simp)

theorem take_dec (X : S256x2x8.Idx → α) (d : Fin 2) (h : Fin 8) :
    shapeCast S2x8 (Host.dynamicSlice S1x2x8 X (st3 c) sliceFits_S256x2x8_S1x2x8) shapeCasts_S1x2x8_S2x8 (ix2 d h) = X (ix3 k d h) := by
  have e : ∀ Y : S1x2x8.Idx → α, shapeCast S2x8 Y shapeCasts_S1x2x8_S2x8 (ix2 d h) = Y (ix3 0 d h) := fun Y => by pointwise
  rw [e]
  exact slice_at _ _ _ _ (st3_at hk) (fun a => by have := k.isLt; fin_cases a <;> simp <;> omega) _ _ (fun a => by fin_cases a <;> simp)

/-! ## Writing position `k` -/

theorem put_rows (X : S256x2x8x64x128.Idx → α) (Y : S2x8x64x128.Idx → α) (n : Fin 256) (d : Fin 2) (h : Fin 8) (i : Fin 64) (j : Fin 128) :
    Host.dynamicUpdateSlice X (broadcastInDim S1x2x8x64x128 ![1, 2, 3, 4] bcast_S2x8x64x128_S1x2x8x64x128_1_2_3_4 Y) (st5 c)
      updateFits_S256x2x8x64x128_S1x2x8x64x128 (ix5 n d h i j) = if n = k then Y (ix4 d h i j) else X (ix5 n d h i j) := by
  have hf : ∀ a, (![k.val, 0, 0, 0, 0] : Fin 5 → ℕ) a + S1x2x8x64x128.size a ≤ S256x2x8x64x128.size a := fun a => by
    have := k.isLt; fin_cases a <;> simp <;> omega
  split
  · rename_i e
    subst e
    refine (put_hit _ _ _ _ _ (st5_at hk) hf _ (fun a => ?_) (ix5 0 d h i j) (fun a => ?_)).trans ?_
    · fin_cases a <;> simp <;> omega
    · fin_cases a <;> simp
    · pointwise
  · rename_i e
    exact put_miss _ _ _ _ _ (st5_at hk) hf _ 0 (fun hin => e (Fin.ext (by
      have h1 : k.val ≤ n.val := hin.1
      have h2 : n.val < k.val + 1 := hin.2
      omega)))

theorem put_sq (X : S256x2x8x64x64.Idx → α) (Y : S2x8x64x64.Idx → α) (n : Fin 256) (d : Fin 2) (h : Fin 8) (i j : Fin 64) :
    Host.dynamicUpdateSlice X (broadcastInDim S1x2x8x64x64 ![1, 2, 3, 4] bcast_S2x8x64x64_S1x2x8x64x64_1_2_3_4 Y) (st5 c)
      updateFits_S256x2x8x64x64_S1x2x8x64x64 (ix5 n d h i j) = if n = k then Y (ix4 d h i j) else X (ix5 n d h i j) := by
  have hf : ∀ a, (![k.val, 0, 0, 0, 0] : Fin 5 → ℕ) a + S1x2x8x64x64.size a ≤ S256x2x8x64x64.size a := fun a => by
    have := k.isLt; fin_cases a <;> simp <;> omega
  split
  · rename_i e
    subst e
    refine (put_hit _ _ _ _ _ (st5_at hk) hf _ (fun a => ?_) (ix5 0 d h i j) (fun a => ?_)).trans ?_
    · fin_cases a <;> simp <;> omega
    · fin_cases a <;> simp
    · pointwise
  · rename_i e
    exact put_miss _ _ _ _ _ (st5_at hk) hf _ 0 (fun hin => e (Fin.ext (by
      have h1 : k.val ≤ n.val := hin.1
      have h2 : n.val < k.val + 1 := hin.2
      omega)))

theorem put_mats (X : S256x2x8x128x128.Idx → α) (Y : S2x8x128x128.Idx → α) (n : Fin 256) (d : Fin 2) (h : Fin 8) (i j : Fin 128) :
    Host.dynamicUpdateSlice X (broadcastInDim S1x2x8x128x128 ![1, 2, 3, 4] bcast_S2x8x128x128_S1x2x8x128x128_1_2_3_4 Y) (st5 c)
      updateFits_S256x2x8x128x128_S1x2x8x128x128 (ix5 n d h i j) = if n = k then Y (ix4 d h i j) else X (ix5 n d h i j) := by
  have hf : ∀ a, (![k.val, 0, 0, 0, 0] : Fin 5 → ℕ) a + S1x2x8x128x128.size a ≤ S256x2x8x128x128.size a := fun a => by
    have := k.isLt; fin_cases a <;> simp <;> omega
  split
  · rename_i e
    subst e
    refine (put_hit _ _ _ _ _ (st5_at hk) hf _ (fun a => ?_) (ix5 0 d h i j) (fun a => ?_)).trans ?_
    · fin_cases a <;> simp <;> omega
    · fin_cases a <;> simp
    · pointwise
  · rename_i e
    exact put_miss _ _ _ _ _ (st5_at hk) hf _ 0 (fun hin => e (Fin.ext (by
      have h1 : k.val ≤ n.val := hin.1
      have h2 : n.val < k.val + 1 := hin.2
      omega)))

theorem put_ones (X : S256x2x8x1x1.Idx → α) (Y : S2x8x1x1.Idx → α) (n : Fin 256) (d : Fin 2) (h : Fin 8) :
    Host.dynamicUpdateSlice X (broadcastInDim S1x2x8x1x1 ![1, 2, 3, 4] bcast_S2x8x1x1_S1x2x8x1x1_1_2_3_4 Y) (st5 c)
      updateFits_S256x2x8x1x1_S1x2x8x1x1 (ix5 n d h 0 0) = if n = k then Y (ix4 d h 0 0) else X (ix5 n d h 0 0) := by
  have hf : ∀ a, (![k.val, 0, 0, 0, 0] : Fin 5 → ℕ) a + S1x2x8x1x1.size a ≤ S256x2x8x1x1.size a := fun a => by
    have := k.isLt; fin_cases a <;> simp <;> omega
  split
  · rename_i e
    subst e
    refine (put_hit _ _ _ _ _ (st5_at hk) hf _ (fun a => ?_) (ix5 0 d h 0 0) (fun a => ?_)).trans ?_
    · fin_cases a <;> simp <;> omega
    · fin_cases a <;> simp
    · pointwise
  · rename_i e
    exact put_miss _ _ _ _ _ (st5_at hk) hf _ 0 (fun hin => e (Fin.ext (by
      have h1 : k.val ≤ n.val := hin.1
      have h2 : n.val < k.val + 1 := hin.2
      omega)))

theorem put_dec (X : S256x2x8.Idx → α) (Y : S2x8.Idx → α) (n : Fin 256) (d : Fin 2) (h : Fin 8) :
    Host.dynamicUpdateSlice X (broadcastInDim S1x2x8 ![1, 2] bcast_S2x8_S1x2x8_1_2 Y) (st3 c)
      updateFits_S256x2x8_S1x2x8 (ix3 n d h) = if n = k then Y (ix2 d h) else X (ix3 n d h) := by
  have hf : ∀ a, (![k.val, 0, 0] : Fin 3 → ℕ) a + S1x2x8.size a ≤ S256x2x8.size a := fun a => by
    have := k.isLt; fin_cases a <;> simp <;> omega
  split
  · rename_i e
    subst e
    refine (put_hit _ _ _ _ _ (st3_at hk) hf _ (fun a => ?_) (ix3 0 d h) (fun a => ?_)).trans ?_
    · fin_cases a <;> simp <;> omega
    · fin_cases a <;> simp
    · pointwise
  · rename_i e
    exact put_miss _ _ _ _ _ (st3_at hk) hf _ 0 (fun hin => e (Fin.ext (by
      have h1 : k.val ≤ n.val := hin.1
      have h2 : n.val < k.val + 1 := hin.2
      omega)))

end Cert.Proof.ReferenceIdeal

end
-- ==== Proof.RefFwd.lean ====
/- One trip of the reference's forward loop, over the exact numbers: what it reads of its position, what it computes, what it
   writes there, and so what the whole loop leaves. -/
module

public import proofs.«01_k».proof.Proof.RefRun
public import proofs.«01_k».proof.Proof.RefSlices
public import proofs.«01_k».proof.Proof.Spec
public import Idealize.ShloMosaic.Lib.StableHlo.ReadAt

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.StableHlo

variable (V : Valuation τ sig (Elt Ideal))

/-! ## What the trip computes -/

/-- The trip has loaded the chunk `s` of a chain, and the state is the chain's. -/
structure Loaded (V : Valuation τ sig (Elt Ideal)) (C : Chain) (s : ℕ) (d : Fin 2) (h : Fin 8) : Prop where
  u : ∀ i j, V main_while0b_v157 (ix4 d h i j) = C.u s i j
  w : ∀ i j, V main_while0b_v158 (ix4 d h i j) = C.w s i j
  a : ∀ i j, V main_while0b_v159 (ix4 d h i j) = C.a s i j
  q : ∀ i j, V main_while0b_v160 (ix4 d h i j) = C.q s i j
  k : ∀ i j, V main_while0b_v161 (ix4 d h i j) = C.k s i j
  g : V main_while0b_v162 (ix2 d h) = C.g s
  st : ∀ i j, V main_v65_7 (ix4 d h i j) = C.st s i j

section Core

variable {V} {C : Chain} {s : ℕ} {d : Fin 2} {h : Fin 8} (R : Loaded V C s d h)
include R

theorem core_o (i : Fin 64) (j : Fin 128) : after f_core V main_while0b_v167 (ix4 d h i j) = C.o s i j := by
  after_reads_at
  simp only [R.u, R.w, R.a, R.q, R.st]
  rfl
theorem core_s (i j : Fin 128) : after f_core V main_while0b_v172 (ix4 d h i j) = C.st (s + 1) i j := by
  after_reads_at
  simp only [R.u, R.w, R.k, R.g, R.st]
  rfl
theorem core_v (i : Fin 64) (j : Fin 128) : after f_core V main_while0b_v164 (ix4 d h i j) = C.v s i j := by
  after_reads_at
  simp only [R.u, R.w, R.st]
  rfl
theorem core_g : after f_core V main_while0b_v168 (ix4 d h 0 0) = C.g s := by
  after_reads_at
  exact R.g

end Core

/-! ## What it reads and writes -/

section Position

variable {V} {k : Fin 256} (hk : At (V main_v65_6) k)
include hk

theorem read_u (d : Fin 2) (h : Fin 8) (i : Fin 64) (j : Fin 128) : after f_read V main_while0b_v157 (ix4 d h i j) = V main_v65_0 (ix5 k d h i j) := by
  after_reads_simp [unaryIndexed_result_read, binaryIndexed_result_read, indexContents_tref_cons, indexContents_tref_empty, TRef.ofBuf_toBuf]
  exact take_rows hk (V main_v65_0) d h i j
theorem read_w (d : Fin 2) (h : Fin 8) (i : Fin 64) (j : Fin 128) : after f_read V main_while0b_v158 (ix4 d h i j) = V main_v65_1 (ix5 k d h i j) := by
  after_reads_simp [unaryIndexed_result_read, binaryIndexed_result_read, indexContents_tref_cons, indexContents_tref_empty, TRef.ofBuf_toBuf]
  exact take_rows hk (V main_v65_1) d h i j
theorem read_a (d : Fin 2) (h : Fin 8) (i j : Fin 64) : after f_read V main_while0b_v159 (ix4 d h i j) = V main_v65_2 (ix5 k d h i j) := by
  after_reads_simp [unaryIndexed_result_read, binaryIndexed_result_read, indexContents_tref_cons, indexContents_tref_empty, TRef.ofBuf_toBuf]
  exact take_sq hk (V main_v65_2) d h i j
theorem read_q (d : Fin 2) (h : Fin 8) (i : Fin 64) (j : Fin 128) : after f_read V main_while0b_v160 (ix4 d h i j) = V main_v65_3 (ix5 k d h i j) := by
  after_reads_simp [unaryIndexed_result_read, binaryIndexed_result_read, indexContents_tref_cons, indexContents_tref_empty, TRef.ofBuf_toBuf]
  exact take_rows hk (V main_v65_3) d h i j
theorem read_k (d : Fin 2) (h : Fin 8) (i : Fin 64) (j : Fin 128) : after f_read V main_while0b_v161 (ix4 d h i j) = V main_v65_4 (ix5 k d h i j) := by
  after_reads_simp [unaryIndexed_result_read, binaryIndexed_result_read, indexContents_tref_cons, indexContents_tref_empty, TRef.ofBuf_toBuf]
  exact take_rows hk (V main_v65_4) d h i j
theorem read_g (d : Fin 2) (h : Fin 8) : after f_read V main_while0b_v162 (ix2 d h) = V main_v65_5 (ix3 k d h) := by
  after_reads_simp [unaryIndexed_result_read, binaryIndexed_result_read, indexContents_tref_cons, indexContents_tref_empty, TRef.ofBuf_toBuf]
  exact take_dec hk (V main_v65_5) d h

theorem write_o (n : Fin 256) (d : Fin 2) (h : Fin 8) (i : Fin 64) (j : Fin 128) :
    after f_write V main_while0b_v173 (ix5 n d h i j) = if n = k then V main_while0b_v167 (ix4 d h i j) else V main_v65_8 (ix5 n d h i j) := by
  after_reads_simp [unaryIndexed_result_read, binaryIndexed_result_read, indexContents_tref_cons, indexContents_tref_empty, TRef.ofBuf_toBuf]
  exact put_rows hk (V main_v65_8) (V main_while0b_v167) n d h i j
theorem write_st (n : Fin 256) (d : Fin 2) (h : Fin 8) (i j : Fin 128) :
    after f_write V main_while0b_v174 (ix5 n d h i j) = if n = k then V main_v65_7 (ix4 d h i j) else V main_v65_9 (ix5 n d h i j) := by
  after_reads_simp [unaryIndexed_result_read, binaryIndexed_result_read, indexContents_tref_cons, indexContents_tref_empty, TRef.ofBuf_toBuf]
  exact put_mats hk (V main_v65_9) (V main_v65_7) n d h i j
theorem write_v (n : Fin 256) (d : Fin 2) (h : Fin 8) (i : Fin 64) (j : Fin 128) :
    after f_write V main_while0b_v175 (ix5 n d h i j) = if n = k then V main_while0b_v164 (ix4 d h i j) else V main_v65_10 (ix5 n d h i j) := by
  after_reads_simp [unaryIndexed_result_read, binaryIndexed_result_read, indexContents_tref_cons, indexContents_tref_empty, TRef.ofBuf_toBuf]
  exact put_rows hk (V main_v65_10) (V main_while0b_v164) n d h i j
theorem write_g (n : Fin 256) (d : Fin 2) (h : Fin 8) :
    after f_write V main_while0b_v176 (ix5 n d h 0 0) = if n = k then V main_while0b_v168 (ix4 d h 0 0) else V main_v65_11 (ix5 n d h 0 0) := by
  after_reads_simp [unaryIndexed_result_read, binaryIndexed_result_read, indexContents_tref_cons, indexContents_tref_empty, TRef.ofBuf_toBuf]
  exact put_ones hk (V main_v65_11) (V main_while0b_v168) n d h

end Position

/-! ## The trip, and the loop -/

/-- The loop's operands are those of a family of chains. -/
structure Held (V : Valuation τ sig (Elt Ideal)) (C : Fin 2 → Fin 8 → Chain) : Prop where
  u : ∀ (s : Fin 256) d h i j, V main_v65_0 (ix5 s d h i j) = (C d h).u s.val i j
  w : ∀ (s : Fin 256) d h i j, V main_v65_1 (ix5 s d h i j) = (C d h).w s.val i j
  a : ∀ (s : Fin 256) d h i j, V main_v65_2 (ix5 s d h i j) = (C d h).a s.val i j
  q : ∀ (s : Fin 256) d h i j, V main_v65_3 (ix5 s d h i j) = (C d h).q s.val i j
  k : ∀ (s : Fin 256) d h i j, V main_v65_4 (ix5 s d h i j) = (C d h).k s.val i j
  g : ∀ (s : Fin 256) d h, V main_v65_5 (ix3 s d h) = (C d h).g s.val

/-- After `t` trips the state is the chains', and so are the first `t` positions of what the loop saves. -/
structure Saved (V : Valuation τ sig (Elt Ideal)) (C : Fin 2 → Fin 8 → Chain) (t : ℕ) : Prop where
  st : ∀ d h i j, V main_v65_7 (ix4 d h i j) = (C d h).st t i j
  o : ∀ s : Fin 256, s.val < t → ∀ d h i j, V main_v65_8 (ix5 s d h i j) = (C d h).o s.val i j
  sts : ∀ s : Fin 256, s.val < t → ∀ d h i j, V main_v65_9 (ix5 s d h i j) = (C d h).st s.val i j
  v : ∀ s : Fin 256, s.val < t → ∀ d h i j, V main_v65_10 (ix5 s d h i j) = (C d h).v s.val i j
  g : ∀ s : Fin 256, s.val < t → ∀ d h, V main_v65_11 (ix5 s d h 0 0) = (C d h).g s.val

variable {V} {C : Fin 2 → Fin 8 → Chain}

theorem held_trip (H : Held V C) : Held (afterL fwdI (after c0 V)) C where
  u s d h i j := by
    refine Eq.trans ?_ (H.u s d h i j)
    dsimp only [afterL_cons, afterL_nil]
    after_reads_simp
  w s d h i j := by
    refine Eq.trans ?_ (H.w s d h i j)
    dsimp only [afterL_cons, afterL_nil]
    after_reads_simp
  a s d h i j := by
    refine Eq.trans ?_ (H.a s d h i j)
    dsimp only [afterL_cons, afterL_nil]
    after_reads_simp
  q s d h i j := by
    refine Eq.trans ?_ (H.q s d h i j)
    dsimp only [afterL_cons, afterL_nil]
    after_reads_simp
  k s d h i j := by
    refine Eq.trans ?_ (H.k s d h i j)
    dsimp only [afterL_cons, afterL_nil]
    after_reads_simp
  g s d h := by
    refine Eq.trans ?_ (H.g s d h)
    dsimp only [afterL_cons, afterL_nil]
    after_reads_simp

/-- What the trip has loaded once it has read. -/
theorem loaded_trip {k : Fin 256} (hk : At (V main_v65_6) k) (H : Held V C) (S : Saved V C k.val) (d : Fin 2) (h : Fin 8) :
    Loaded (after f_read (after c0 V)) (C d h) k.val d h := by
  have hk' : At (after c0 V main_v65_6) k := by after_reads_simp; exact hk
  constructor
  · intro i j
    refine (read_u hk' d h i j).trans (Eq.trans ?_ (H.u k d h i j))
    after_reads_simp
  · intro i j
    refine (read_w hk' d h i j).trans (Eq.trans ?_ (H.w k d h i j))
    after_reads_simp
  · intro i j
    refine (read_a hk' d h i j).trans (Eq.trans ?_ (H.a k d h i j))
    after_reads_simp
  · intro i j
    refine (read_q hk' d h i j).trans (Eq.trans ?_ (H.q k d h i j))
    after_reads_simp
  · intro i j
    refine (read_k hk' d h i j).trans (Eq.trans ?_ (H.k k d h i j))
    after_reads_simp
  · refine (read_g hk' d h).trans (Eq.trans ?_ (H.g k d h))
    after_reads_simp
  · intro i j
    refine Eq.trans ?_ (S.st d h i j)
    after_reads_simp

section Next

variable (V)

theorem next_st : after f_next V main_v65_7 = V main_while0b_v172 := by after_reads_simp; rfl
theorem next_o : after f_next V main_v65_8 = V main_while0b_v173 := by after_reads_simp; rfl
theorem next_sts : after f_next V main_v65_9 = V main_while0b_v174 := by after_reads_simp; rfl
theorem next_v : after f_next V main_v65_10 = V main_while0b_v175 := by after_reads_simp; rfl
theorem next_g : after f_next V main_v65_11 = V main_while0b_v176 := by after_reads_simp; rfl

end Next

theorem saved_trip {k : Fin 256} (hk : At (V main_v65_6) k) (H : Held V C) (S : Saved V C k.val) :
    Saved (afterL fwdI (after c0 V)) C (k.val + 1) := by
  have L := loaded_trip hk H S
  dsimp only [afterL_cons, afterL_nil]
  have e6 : after f_core (after f_read (after c0 V)) main_v65_6 = V main_v65_6 := by after_reads_simp
  have e7 : after f_core (after f_read (after c0 V)) main_v65_7 = V main_v65_7 := by after_reads_simp
  have e8 : after f_core (after f_read (after c0 V)) main_v65_8 = V main_v65_8 := by after_reads_simp
  have e9 : after f_core (after f_read (after c0 V)) main_v65_9 = V main_v65_9 := by after_reads_simp
  have e10 : after f_core (after f_read (after c0 V)) main_v65_10 = V main_v65_10 := by after_reads_simp
  have e11 : after f_core (after f_read (after c0 V)) main_v65_11 = V main_v65_11 := by after_reads_simp
  have co := fun d h => core_o (L d h)
  have cs := fun d h => core_s (L d h)
  have cv := fun d h => core_v (L d h)
  have cg := fun d h => core_g (L d h)
  generalize after f_core (after f_read (after c0 V)) = Q at *
  have hk' : At (Q main_v65_6) k := by rw [e6]; exact hk
  have ew : after f_write Q main_while0b_v172 = Q main_while0b_v172 := by after_reads_simp
  constructor
  · intro d h i j
    rw [next_st, ew]
    exact cs d h i j
  · intro s hs d h i j
    rw [next_o, write_o hk']
    split
    · rename_i hsk
      subst hsk
      exact co d h i j
    · rename_i hsk
      rw [e8]
      exact S.o s (by have := Fin.val_ne_of_ne hsk; omega) d h i j
  · intro s hs d h i j
    rw [next_sts, write_st hk']
    split
    · rename_i hsk
      subst hsk
      rw [e7]; exact S.st d h i j
    · rename_i hsk
      rw [e9]
      exact S.sts s (by have := Fin.val_ne_of_ne hsk; omega) d h i j
  · intro s hs d h i j
    rw [next_v, write_v hk']
    split
    · rename_i hsk
      subst hsk
      exact cv d h i j
    · rename_i hsk
      rw [e10]
      exact S.v s (by have := Fin.val_ne_of_ne hsk; omega) d h i j
  · intro s hs d h
    rw [next_g, write_g hk']
    split
    · rename_i hsk
      subst hsk
      exact cg d h
    · rename_i hsk
      rw [e11]
      exact S.g s (by have := Fin.val_ne_of_ne hsk; omega) d h

/-- The loop's counter after `k` trips. -/
theorem at_iv (k : Fin 256) : At (constantI S_ 32 (Scf.iv 0#32 1#32 k.val)) k := by
  show (Scf.iv 0#32 1#32 k.val).toInt = k.val
  have := k.isLt
  rw [Scf.iv, BitVec.zero_add, BitVec.mul_one, BitVec.toInt_eq_toNat_cond, BitVec.toNat_ofNat]
  split <;> omega

/-- The whole loop. -/
theorem loop_fwd (W₀ : Dev nD → Valuation τ sig (Elt Ideal)) (c : Dev nD) (h0 : ∀ c, W₀ c main_v65_6 = constantI S_ 32 0#32) (H : Held (W₀ c) C)
    (S : Saved (W₀ c) C 0) (t : ℕ) (ht : t ≤ 256) : Held (atTrip c0 fwdI W₀ t c) C ∧ Saved (atTrip c0 fwdI W₀ t c) C t := by
  induction t with
  | zero => rw [atTrip_zero]; exact ⟨H, S⟩
  | succ t ih =>
    obtain ⟨H', S'⟩ := ih (by omega)
    have hk : At (atTrip c0 fwdI W₀ t c main_v65_6) ⟨t, by omega⟩ := by rw [ctr0 W₀ h0]; exact at_iv ⟨t, by omega⟩
    rw [atTrip_succ]
    exact ⟨held_trip H', saved_trip hk H' S'⟩

end Cert.Proof.ReferenceIdeal

end
-- ==== Proof.RefBwd.lean ====
/- One trip of the reference's backward loop, over the exact numbers: what it reads of its position, what it computes, what it
   writes there, and so what the whole loop leaves. -/
module

public import proofs.«01_k».proof.Proof.RefFwd

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.StableHlo

variable (V : Valuation τ sig (Elt Ideal))

/-- The gradient of the corrected values, its factors in the reference's order. -/
theorem _root_.Cert.Proof.Chain.u'_eq (C : Chain) (s : ℕ) (i : Fin 64) (j : Fin 128) :
    C.u' s i j = ∑ x : Fin 128, C.D s x j * C.k s i x + ∑ x : Fin 64, C.o' s x j * C.a s x i :=
  congrArg₂ (· + ·) (Finset.sum_congr rfl fun x _ => mul_comm _ _) (Finset.sum_congr rfl fun x _ => mul_comm _ _)

/-! ## What the trip computes -/

/-- The trip has loaded the chunk `s` of a chain, and the gradient of the state is the chain's. -/
structure Taken (V : Valuation τ sig (Elt Ideal)) (C : Chain) (s : ℕ) (d : Fin 2) (h : Fin 8) : Prop where
  o' : ∀ i j, V main_while1b_v159 (ix4 d h i j) = C.o' s i j
  st : ∀ i j, V main_while1b_v160 (ix4 d h i j) = C.st s i j
  w : ∀ i j, V main_while1b_v161 (ix4 d h i j) = C.w s i j
  q : ∀ i j, V main_while1b_v162 (ix4 d h i j) = C.q s i j
  v : ∀ i j, V main_while1b_v163 (ix4 d h i j) = C.v s i j
  a : ∀ i j, V main_while1b_v164 (ix4 d h i j) = C.a s i j
  g : V main_while1b_v165 (ix4 d h 0 0) = C.g s
  k : ∀ i j, V main_while1b_v166 (ix4 d h i j) = C.k s i j
  D : ∀ i j, V main_v88_9 (ix4 d h i j) = C.D s i j

section Core

variable {V} {C : Chain} {s : ℕ} {d : Fin 2} {h : Fin 8} (R : Taken V C s d h)
include R

theorem core_u' (i : Fin 64) (j : Fin 128) : after b_core V main_while1b_v179 (ix4 d h i j) = C.u' s i j := by
  after_reads_at
  simp only [R.o', R.a, R.k, R.D]
  exact (C.u'_eq s i j).symm
theorem core_w' (i : Fin 64) (j : Fin 128) : after b_core V main_while1b_v189 (ix4 d h i j) = C.w' s i j := by
  after_reads_at
  simp only [R.o', R.a, R.k, R.D, R.st, ← C.u'_eq]
  rfl
theorem core_q' (i : Fin 64) (j : Fin 128) : after b_core V main_while1b_v184 (ix4 d h i j) = C.q' s i j := by
  after_reads_at
  simp only [R.o', R.st]
  rfl
theorem core_k' (i : Fin 64) (j : Fin 128) : after b_core V main_while1b_v170 (ix4 d h i j) = C.k' s i j := by
  after_reads_at
  simp only [R.v, R.D]
  exact Finset.sum_congr rfl fun x _ => mul_comm _ _
theorem core_a' (i j : Fin 64) : after b_core V main_while1b_v180 (ix4 d h i j) = C.a' s i j := by
  after_reads_at
  simp only [R.o', R.v]
  rfl
theorem core_g' : after b_core V main_while1b_v176 (ix2 d h) = C.g' s := by
  after_reads_at
  simp only [R.st, R.D, Fin.sum_univ_one]
  exact Finset.sum_comm
theorem core_D (i j : Fin 128) : after b_core V main_while1b_v188 (ix4 d h i j)
    = C.D s i j * C.g s + ∑ x : Fin 64, C.q s x i * C.o' s x j + ∑ x : Fin 64, C.w s x i * - C.u' s x j := by
  after_reads_at
  simp only [R.o', R.w, R.q, R.a, R.g, R.k, R.D, ← C.u'_eq]
  exact congrArg₂ (· + ·) (congrArg₂ (· + ·) rfl (Finset.sum_congr rfl fun x _ => mul_comm _ _)) (Finset.sum_congr rfl fun x _ => mul_comm _ _)

end Core

/-! ## What it reads and writes -/

section Position

variable {V} {k : Fin 256} (hk : At (V main_while1b_v158) k)
include hk

theorem load_o' (d : Fin 2) (h : Fin 8) (i : Fin 64) (j : Fin 128) : after b_read V main_while1b_v159 (ix4 d h i j) = V main_v88_0 (ix5 k d h i j) := by
  after_reads_simp [unaryIndexed_result_read, binaryIndexed_result_read, indexContents_tref_cons, indexContents_tref_empty, TRef.ofBuf_toBuf]
  exact take_rows hk (V main_v88_0) d h i j
theorem load_st (d : Fin 2) (h : Fin 8) (i j : Fin 128) : after b_read V main_while1b_v160 (ix4 d h i j) = V main_v88_1 (ix5 k d h i j) := by
  after_reads_simp [unaryIndexed_result_read, binaryIndexed_result_read, indexContents_tref_cons, indexContents_tref_empty, TRef.ofBuf_toBuf]
  exact take_mats hk (V main_v88_1) d h i j
theorem load_w (d : Fin 2) (h : Fin 8) (i : Fin 64) (j : Fin 128) : after b_read V main_while1b_v161 (ix4 d h i j) = V main_v88_2 (ix5 k d h i j) := by
  after_reads_simp [unaryIndexed_result_read, binaryIndexed_result_read, indexContents_tref_cons, indexContents_tref_empty, TRef.ofBuf_toBuf]
  exact take_rows hk (V main_v88_2) d h i j
theorem load_q (d : Fin 2) (h : Fin 8) (i : Fin 64) (j : Fin 128) : after b_read V main_while1b_v162 (ix4 d h i j) = V main_v88_3 (ix5 k d h i j) := by
  after_reads_simp [unaryIndexed_result_read, binaryIndexed_result_read, indexContents_tref_cons, indexContents_tref_empty, TRef.ofBuf_toBuf]
  exact take_rows hk (V main_v88_3) d h i j
theorem load_v (d : Fin 2) (h : Fin 8) (i : Fin 64) (j : Fin 128) : after b_read V main_while1b_v163 (ix4 d h i j) = V main_v88_4 (ix5 k d h i j) := by
  after_reads_simp [unaryIndexed_result_read, binaryIndexed_result_read, indexContents_tref_cons, indexContents_tref_empty, TRef.ofBuf_toBuf]
  exact take_rows hk (V main_v88_4) d h i j
theorem load_a (d : Fin 2) (h : Fin 8) (i j : Fin 64) : after b_read V main_while1b_v164 (ix4 d h i j) = V main_v88_5 (ix5 k d h i j) := by
  after_reads_simp [unaryIndexed_result_read, binaryIndexed_result_read, indexContents_tref_cons, indexContents_tref_empty, TRef.ofBuf_toBuf]
  exact take_sq hk (V main_v88_5) d h i j
theorem load_g (d : Fin 2) (h : Fin 8) : after b_read V main_while1b_v165 (ix4 d h 0 0) = V main_v88_6 (ix5 k d h 0 0) := by
  after_reads_simp [unaryIndexed_result_read, binaryIndexed_result_read, indexContents_tref_cons, indexContents_tref_empty, TRef.ofBuf_toBuf]
  exact take_ones hk (V main_v88_6) d h
theorem load_k (d : Fin 2) (h : Fin 8) (i : Fin 64) (j : Fin 128) : after b_read V main_while1b_v166 (ix4 d h i j) = V main_v88_7 (ix5 k d h i j) := by
  after_reads_simp [unaryIndexed_result_read, binaryIndexed_result_read, indexContents_tref_cons, indexContents_tref_empty, TRef.ofBuf_toBuf]
  exact take_rows hk (V main_v88_7) d h i j

theorem put_u' (n : Fin 256) (d : Fin 2) (h : Fin 8) (i : Fin 64) (j : Fin 128) :
    after b_write V main_while1b_v190 (ix5 n d h i j) = if n = k then V main_while1b_v179 (ix4 d h i j) else V main_v88_10 (ix5 n d h i j) := by
  after_reads_simp [unaryIndexed_result_read, binaryIndexed_result_read, indexContents_tref_cons, indexContents_tref_empty, TRef.ofBuf_toBuf]
  exact put_rows hk (V main_v88_10) (V main_while1b_v179) n d h i j
theorem put_w' (n : Fin 256) (d : Fin 2) (h : Fin 8) (i : Fin 64) (j : Fin 128) :
    after b_write V main_while1b_v191 (ix5 n d h i j) = if n = k then V main_while1b_v189 (ix4 d h i j) else V main_v88_11 (ix5 n d h i j) := by
  after_reads_simp [unaryIndexed_result_read, binaryIndexed_result_read, indexContents_tref_cons, indexContents_tref_empty, TRef.ofBuf_toBuf]
  exact put_rows hk (V main_v88_11) (V main_while1b_v189) n d h i j
theorem put_a' (n : Fin 256) (d : Fin 2) (h : Fin 8) (i j : Fin 64) :
    after b_write V main_while1b_v192 (ix5 n d h i j) = if n = k then V main_while1b_v180 (ix4 d h i j) else V main_v88_12 (ix5 n d h i j) := by
  after_reads_simp [unaryIndexed_result_read, binaryIndexed_result_read, indexContents_tref_cons, indexContents_tref_empty, TRef.ofBuf_toBuf]
  exact put_sq hk (V main_v88_12) (V main_while1b_v180) n d h i j
theorem put_q' (n : Fin 256) (d : Fin 2) (h : Fin 8) (i : Fin 64) (j : Fin 128) :
    after b_write V main_while1b_v193 (ix5 n d h i j) = if n = k then V main_while1b_v184 (ix4 d h i j) else V main_v88_13 (ix5 n d h i j) := by
  after_reads_simp [unaryIndexed_result_read, binaryIndexed_result_read, indexContents_tref_cons, indexContents_tref_empty, TRef.ofBuf_toBuf]
  exact put_rows hk (V main_v88_13) (V main_while1b_v184) n d h i j
theorem put_k' (n : Fin 256) (d : Fin 2) (h : Fin 8) (i : Fin 64) (j : Fin 128) :
    after b_write V main_while1b_v194 (ix5 n d h i j) = if n = k then V main_while1b_v170 (ix4 d h i j) else V main_v88_14 (ix5 n d h i j) := by
  after_reads_simp [unaryIndexed_result_read, binaryIndexed_result_read, indexContents_tref_cons, indexContents_tref_empty, TRef.ofBuf_toBuf]
  exact put_rows hk (V main_v88_14) (V main_while1b_v170) n d h i j
theorem put_g' (n : Fin 256) (d : Fin 2) (h : Fin 8) :
    after b_write V main_while1b_v195 (ix3 n d h) = if n = k then V main_while1b_v176 (ix2 d h) else V main_v88_15 (ix3 n d h) := by
  after_reads_simp [unaryIndexed_result_read, binaryIndexed_result_read, indexContents_tref_cons, indexContents_tref_empty, TRef.ofBuf_toBuf]
  exact put_dec hk (V main_v88_15) (V main_while1b_v176) n d h

end Position

section Next

theorem after_D : after b_next V main_v88_9 = V main_while1b_v188 := by after_reads_simp; rfl
theorem after_u' : after b_next V main_v88_10 = V main_while1b_v190 := by after_reads_simp; rfl
theorem after_w' : after b_next V main_v88_11 = V main_while1b_v191 := by after_reads_simp; rfl
theorem after_a' : after b_next V main_v88_12 = V main_while1b_v192 := by after_reads_simp; rfl
theorem after_q' : after b_next V main_v88_13 = V main_while1b_v193 := by after_reads_simp; rfl
theorem after_k' : after b_next V main_v88_14 = V main_while1b_v194 := by after_reads_simp; rfl
theorem after_g' : after b_next V main_v88_15 = V main_while1b_v195 := by after_reads_simp; rfl

end Next

/-! ## The trip, and the loop -/

/-- The loop's operands are those of a family of chains. -/
structure Given (V : Valuation τ sig (Elt Ideal)) (C : Fin 2 → Fin 8 → Chain) : Prop where
  o' : ∀ (s : Fin 256) d h i j, V main_v88_0 (ix5 s d h i j) = (C d h).o' s.val i j
  st : ∀ (s : Fin 256) d h i j, V main_v88_1 (ix5 s d h i j) = (C d h).st s.val i j
  w : ∀ (s : Fin 256) d h i j, V main_v88_2 (ix5 s d h i j) = (C d h).w s.val i j
  q : ∀ (s : Fin 256) d h i j, V main_v88_3 (ix5 s d h i j) = (C d h).q s.val i j
  v : ∀ (s : Fin 256) d h i j, V main_v88_4 (ix5 s d h i j) = (C d h).v s.val i j
  a : ∀ (s : Fin 256) d h i j, V main_v88_5 (ix5 s d h i j) = (C d h).a s.val i j
  g : ∀ (s : Fin 256) d h, V main_v88_6 (ix5 s d h 0 0) = (C d h).g s.val
  k : ∀ (s : Fin 256) d h i j, V main_v88_7 (ix5 s d h i j) = (C d h).k s.val i j

/-- After `t` trips the gradient of the state is the chains', and so are the last `t` positions of the gradients. -/
structure Made (V : Valuation τ sig (Elt Ideal)) (C : Fin 2 → Fin 8 → Chain) (t : ℕ) : Prop where
  D : ∀ d h i j, V main_v88_9 (ix4 d h i j) = (C d h).st' t i j
  u' : ∀ s : Fin 256, 256 ≤ s.val + t → ∀ d h i j, V main_v88_10 (ix5 s d h i j) = (C d h).u' s.val i j
  w' : ∀ s : Fin 256, 256 ≤ s.val + t → ∀ d h i j, V main_v88_11 (ix5 s d h i j) = (C d h).w' s.val i j
  a' : ∀ s : Fin 256, 256 ≤ s.val + t → ∀ d h i j, V main_v88_12 (ix5 s d h i j) = (C d h).a' s.val i j
  q' : ∀ s : Fin 256, 256 ≤ s.val + t → ∀ d h i j, V main_v88_13 (ix5 s d h i j) = (C d h).q' s.val i j
  k' : ∀ s : Fin 256, 256 ≤ s.val + t → ∀ d h i j, V main_v88_14 (ix5 s d h i j) = (C d h).k' s.val i j
  g' : ∀ s : Fin 256, 256 ≤ s.val + t → ∀ d h, V main_v88_15 (ix3 s d h) = (C d h).g' s.val

variable {V} {C : Fin 2 → Fin 8 → Chain}

theorem given_trip (H : Given V C) : Given (afterL bwdI (after c1 V)) C where
  o' s d h i j := by
    refine Eq.trans ?_ (H.o' s d h i j)
    dsimp only [afterL_cons, afterL_nil]
    after_reads_simp
  st s d h i j := by
    refine Eq.trans ?_ (H.st s d h i j)
    dsimp only [afterL_cons, afterL_nil]
    after_reads_simp
  w s d h i j := by
    refine Eq.trans ?_ (H.w s d h i j)
    dsimp only [afterL_cons, afterL_nil]
    after_reads_simp
  q s d h i j := by
    refine Eq.trans ?_ (H.q s d h i j)
    dsimp only [afterL_cons, afterL_nil]
    after_reads_simp
  v s d h i j := by
    refine Eq.trans ?_ (H.v s d h i j)
    dsimp only [afterL_cons, afterL_nil]
    after_reads_simp
  a s d h i j := by
    refine Eq.trans ?_ (H.a s d h i j)
    dsimp only [afterL_cons, afterL_nil]
    after_reads_simp
  g s d h := by
    refine Eq.trans ?_ (H.g s d h)
    dsimp only [afterL_cons, afterL_nil]
    after_reads_simp
  k s d h i j := by
    refine Eq.trans ?_ (H.k s d h i j)
    dsimp only [afterL_cons, afterL_nil]
    after_reads_simp

/-- The position of trip `t`, the last first. -/
def back (t : Fin 256) : Fin 256 := ⟨255 - t.val, by omega⟩

theorem at_back (t : Fin 256) (c : S_.Idx → BitVec 32) (hc : c = constantI S_ 32 (Scf.iv 0#32 1#32 t.val)) :
    At (subi (subi (constantI S_ 32 256#32) c) (constantI S_ 32 1#32)) (back t) := by
  subst hc
  have := t.isLt
  show (256#32 - Scf.iv 0#32 1#32 t.val - 1#32).toInt = ((255 - t.val : ℕ) : ℤ)
  rw [Scf.iv, BitVec.zero_add, BitVec.mul_one, BitVec.toInt_eq_toNat_cond]
  simp only [BitVec.toNat_sub, BitVec.toNat_ofNat]
  split <;> omega

theorem pos_trip {t : Fin 256} (hc : V main_v88_8 = constantI S_ 32 (Scf.iv 0#32 1#32 t.val)) :
    At (after b_pos (after c1 V) main_while1b_v158) (back t) := by
  have e : after b_pos (after c1 V) main_while1b_v158 = subi (subi (constantI S_ 32 256#32) (V main_v88_8)) (constantI S_ 32 1#32) := by
    after_reads_simp
  rw [e]
  exact at_back t _ hc

/-- What the trip has loaded once it has read. -/
theorem taken_trip {t : Fin 256} (hk : At (after b_pos (after c1 V) main_while1b_v158) (back t)) (H : Given V C) (S : Made V C t.val) (d : Fin 2) (h : Fin 8) :
    Taken (after b_read (after b_pos (after c1 V))) (C d h) (back t).val d h := by
  have hb : 255 - (back t).val = t.val := by have := t.isLt; show 255 - (255 - t.val) = t.val; omega
  constructor
  · intro i j
    refine (load_o' hk d h i j).trans (Eq.trans ?_ (H.o' (back t) d h i j))
    after_reads_simp
  · intro i j
    refine (load_st hk d h i j).trans (Eq.trans ?_ (H.st (back t) d h i j))
    after_reads_simp
  · intro i j
    refine (load_w hk d h i j).trans (Eq.trans ?_ (H.w (back t) d h i j))
    after_reads_simp
  · intro i j
    refine (load_q hk d h i j).trans (Eq.trans ?_ (H.q (back t) d h i j))
    after_reads_simp
  · intro i j
    refine (load_v hk d h i j).trans (Eq.trans ?_ (H.v (back t) d h i j))
    after_reads_simp
  · intro i j
    refine (load_a hk d h i j).trans (Eq.trans ?_ (H.a (back t) d h i j))
    after_reads_simp
  · refine (load_g hk d h).trans (Eq.trans ?_ (H.g (back t) d h))
    after_reads_simp
  · intro i j
    refine (load_k hk d h i j).trans (Eq.trans ?_ (H.k (back t) d h i j))
    after_reads_simp
  · intro i j
    rw [Chain.D, hb]
    refine Eq.trans ?_ (S.D d h i j)
    after_reads_simp

theorem made_trip {t : Fin 256} (hc : V main_v88_8 = constantI S_ 32 (Scf.iv 0#32 1#32 t.val)) (H : Given V C) (S : Made V C t.val) :
    Made (afterL bwdI (after c1 V)) C (t.val + 1) := by
  have hk := pos_trip hc
  have L := taken_trip hk H S
  have ht := t.isLt
  have hb : 255 - (back t).val = t.val := by show 255 - (255 - t.val) = t.val; omega
  dsimp only [afterL_cons, afterL_nil]
  have ep : after b_core (after b_read (after b_pos (after c1 V))) main_while1b_v158 = after b_pos (after c1 V) main_while1b_v158 := by
    generalize after b_pos (after c1 V) = P
    after_reads_simp
  have e10 : after b_core (after b_read (after b_pos (after c1 V))) main_v88_10 = V main_v88_10 := by after_reads_simp
  have e11 : after b_core (after b_read (after b_pos (after c1 V))) main_v88_11 = V main_v88_11 := by after_reads_simp
  have e12 : after b_core (after b_read (after b_pos (after c1 V))) main_v88_12 = V main_v88_12 := by after_reads_simp
  have e13 : after b_core (after b_read (after b_pos (after c1 V))) main_v88_13 = V main_v88_13 := by after_reads_simp
  have e14 : after b_core (after b_read (after b_pos (after c1 V))) main_v88_14 = V main_v88_14 := by after_reads_simp
  have e15 : after b_core (after b_read (after b_pos (after c1 V))) main_v88_15 = V main_v88_15 := by after_reads_simp
  have cu' := fun d h => core_u' (L d h)
  have cw' := fun d h => core_w' (L d h)
  have ca' := fun d h => core_a' (L d h)
  have cq' := fun d h => core_q' (L d h)
  have ck' := fun d h => core_k' (L d h)
  have cg' := fun d h => core_g' (L d h)
  have cD := fun d h => core_D (L d h)
  have hk' : At (after b_core (after b_read (after b_pos (after c1 V))) main_while1b_v158) (back t) := by rw [ep]; exact hk
  clear ep hk L
  generalize after b_core (after b_read (after b_pos (after c1 V))) = Q at *
  have ew : after b_write Q main_while1b_v188 = Q main_while1b_v188 := by after_reads_simp
  have other : ∀ s : Fin 256, 256 ≤ s.val + (t.val + 1) → ¬ s = back t → 256 ≤ s.val + t.val := fun s hs hn => by
    have : ¬ s.val = 255 - t.val := fun e => hn (Fin.ext e)
    omega
  constructor
  · intro d h i j
    rw [after_D, ew]
    refine (cD d h i j).trans ?_
    simp only [Chain.u', Chain.D, hb]
    rfl
  · intro s hs d h i j
    rw [after_u', put_u' hk']
    split
    · rename_i hsk
      subst hsk
      exact cu' d h i j
    · rename_i hsk
      rw [e10]
      exact S.u' s (other s hs hsk) d h i j
  · intro s hs d h i j
    rw [after_w', put_w' hk']
    split
    · rename_i hsk
      subst hsk
      exact cw' d h i j
    · rename_i hsk
      rw [e11]
      exact S.w' s (other s hs hsk) d h i j
  · intro s hs d h i j
    rw [after_a', put_a' hk']
    split
    · rename_i hsk
      subst hsk
      exact ca' d h i j
    · rename_i hsk
      rw [e12]
      exact S.a' s (other s hs hsk) d h i j
  · intro s hs d h i j
    rw [after_q', put_q' hk']
    split
    · rename_i hsk
      subst hsk
      exact cq' d h i j
    · rename_i hsk
      rw [e13]
      exact S.q' s (other s hs hsk) d h i j
  · intro s hs d h i j
    rw [after_k', put_k' hk']
    split
    · rename_i hsk
      subst hsk
      exact ck' d h i j
    · rename_i hsk
      rw [e14]
      exact S.k' s (other s hs hsk) d h i j
  · intro s hs d h
    rw [after_g', put_g' hk']
    split
    · rename_i hsk
      subst hsk
      exact cg' d h
    · rename_i hsk
      rw [e15]
      exact S.g' s (other s hs hsk) d h

/-- The whole loop. -/
theorem loop_bwd (W₀ : Dev nD → Valuation τ sig (Elt Ideal)) (c : Dev nD) (h0 : ∀ c, W₀ c main_v88_8 = constantI S_ 32 0#32) (H : Given (W₀ c) C)
    (S : Made (W₀ c) C 0) (t : ℕ) (ht : t ≤ 256) : Given (atTrip c1 bwdI W₀ t c) C ∧ Made (atTrip c1 bwdI W₀ t c) C t := by
  induction t with
  | zero => rw [atTrip_zero]; exact ⟨H, S⟩
  | succ t ih =>
    obtain ⟨H', S'⟩ := ih (by omega)
    have hc : atTrip c1 bwdI W₀ t c main_v88_8 = constantI S_ 32 (Scf.iv 0#32 1#32 (⟨t, by omega⟩ : Fin 256).val) := ctr1 W₀ h0 t c
    rw [atTrip_succ]
    exact ⟨given_trip H', made_trip hc H' S'⟩

end Cert.Proof.ReferenceIdeal

end
-- ==== Proof.RefLayout.lean ====
/- How the reference lays its operands out before a loop, and its results after: the first direction in the order of the chunks,
   the second in the reverse order, a chunk's rows and a head's lanes as axes of their own. -/
module

public import proofs.«01_k».proof.Proof.RefRun
public import Idealize.ShloMosaic.Lib.StableHlo.ReadAt
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.StableHlo

variable (V : Valuation τ sig (Elt Ideal))

/-- The chunk that position `s` of direction `d` holds: the second direction runs backwards. -/
def dir (d : Fin 2) (s : Fin 256) : Fin 256 := if d.val < 1 then s else s.rev

/-- Row `i` of chunk `c`. -/
abbrev row (c : Fin 256) (i : Fin 64) : Fin 16384 := ⟨c.val * 64 + i.val, by omega⟩
/-- Lane `j` of head `h`. -/
abbrev lane (h : Fin 8) (j : Fin 128) : Fin 1024 := ⟨h.val * 128 + j.val, by omega⟩

/-! ## Before the loops -/

theorem lay_u (s : Fin 256) (d : Fin 2) (h : Fin 8) (i : Fin 64) (j : Fin 128) : after opsU V main_v9 (ix5 s d h i j) = V main_arg0 (ix3 d (row (dir d s) i) (lane h j)) := by
  after_reads_at
  fin_cases d <;> rfl
theorem lay_w (s : Fin 256) (d : Fin 2) (h : Fin 8) (i : Fin 64) (j : Fin 128) : after opsW V main_v20 (ix5 s d h i j) = V main_arg1 (ix3 d (row (dir d s) i) (lane h j)) := by
  after_reads_at
  fin_cases d <;> rfl
theorem lay_a (s : Fin 256) (d : Fin 2) (h : Fin 8) (i j : Fin 64) : after opsA V main_v29 (ix5 s d h i j) = V main_arg4 (ix5 d (dir d s) h i j) := by
  after_reads_at
  fin_cases d <;> rfl
theorem lay_q (s : Fin 256) (d : Fin 2) (h : Fin 8) (i : Fin 64) (j : Fin 128) : after opsQ V main_v40 (ix5 s d h i j) = V main_arg2 (ix3 d (row (dir d s) i) (lane h j)) := by
  after_reads_at
  fin_cases d <;> rfl
theorem lay_k (s : Fin 256) (d : Fin 2) (h : Fin 8) (i : Fin 64) (j : Fin 128) : after opsK V main_v51 (ix5 s d h i j) = V main_arg3 (ix3 d (row (dir d s) i) (lane h j)) := by
  after_reads_at
  fin_cases d <;> rfl
theorem lay_g (s : Fin 256) (d : Fin 2) (h : Fin 8) : after opsG V main_v59 (ix3 s d h) = V main_arg5 (ix3 d (dir d s) h) := by
  after_reads_at
  fin_cases d <;> rfl
theorem lay_o' (s : Fin 256) (d : Fin 2) (h : Fin 8) (i : Fin 64) (j : Fin 128) : after opsD V main_v79 (ix5 s d h i j) = V main_arg6 (ix2 (row (dir d s) i) (lane h j)) := by
  after_reads_at
  after_reads_at
  fin_cases d <;> rfl

/-! ## After the loops -/

theorem out_o (d : Fin 2) (r : Fin 16384) (l : Fin 1024) : after opsO V main_v98 (ix3 d r l)
    = V main_v65_8 (ix5 (dir d ⟨r.val / 64, by omega⟩) d ⟨l.val / 128, by omega⟩ ⟨r.val % 64, by omega⟩ ⟨l.val % 128, by omega⟩) := by
  after_reads_at
  after_reads_at
  fin_cases d <;> rfl
theorem out_u' (d : Fin 2) (r : Fin 16384) (l : Fin 1024) : after opsDu V main_v109 (ix3 d r l)
    = V main_v88_10 (ix5 (dir d ⟨r.val / 64, by omega⟩) d ⟨l.val / 128, by omega⟩ ⟨r.val % 64, by omega⟩ ⟨l.val % 128, by omega⟩) := by
  after_reads_at
  after_reads_at
  fin_cases d <;> rfl
theorem out_w' (d : Fin 2) (r : Fin 16384) (l : Fin 1024) : after opsDw V main_v120 (ix3 d r l)
    = V main_v88_11 (ix5 (dir d ⟨r.val / 64, by omega⟩) d ⟨l.val / 128, by omega⟩ ⟨r.val % 64, by omega⟩ ⟨l.val % 128, by omega⟩) := by
  after_reads_at
  after_reads_at
  fin_cases d <;> rfl
theorem out_q' (d : Fin 2) (r : Fin 16384) (l : Fin 1024) : after opsDq V main_v130 (ix3 d r l)
    = V main_v88_13 (ix5 (dir d ⟨r.val / 64, by omega⟩) d ⟨l.val / 128, by omega⟩ ⟨r.val % 64, by omega⟩ ⟨l.val % 128, by omega⟩) := by
  after_reads_at
  after_reads_at
  fin_cases d <;> rfl
theorem out_k' (d : Fin 2) (r : Fin 16384) (l : Fin 1024) : after opsDk V main_v140 (ix3 d r l)
    = V main_v88_14 (ix5 (dir d ⟨r.val / 64, by omega⟩) d ⟨l.val / 128, by omega⟩ ⟨r.val % 64, by omega⟩ ⟨l.val % 128, by omega⟩) := by
  after_reads_at
  after_reads_at
  fin_cases d <;> rfl
theorem out_a' (d : Fin 2) (n : Fin 256) (h : Fin 8) (i j : Fin 64) : after opsDa V main_v148 (ix5 d n h i j) = V main_v88_12 (ix5 (dir d n) d h i j) := by
  after_reads_at
  fin_cases d <;> rfl
theorem out_g' (d : Fin 2) (n : Fin 256) (h : Fin 8) : after opsDg V main_v156 (ix3 d n h) = V main_v88_15 (ix3 (dir d n) d h) := by
  after_reads_at
  fin_cases d <;> rfl

end Cert.Proof.ReferenceIdeal

end
-- ==== Proof.RefVal.lean ====
/- The reference's results over the exact numbers: from the layout of its operands, through its two loops, to the layout of its
   results. -/
module

public import proofs.«01_k».proof.Proof.RefBwd
public import proofs.«01_k».proof.Proof.RefLayout
public import proofs.«01_k».proof.Proof.RefFrame

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.StableHlo

/-- A family of chains reads the arguments: the second direction in the reverse order of the chunks. -/
structure Fits (V : Valuation τ sig (Elt Ideal)) (C : Fin 2 → Fin 8 → Chain) : Prop where
  u : ∀ (s : Fin 256) d h i j, V main_arg0 (ix3 d (row (dir d s) i) (lane h j)) = (C d h).u s.val i j
  w : ∀ (s : Fin 256) d h i j, V main_arg1 (ix3 d (row (dir d s) i) (lane h j)) = (C d h).w s.val i j
  q : ∀ (s : Fin 256) d h i j, V main_arg2 (ix3 d (row (dir d s) i) (lane h j)) = (C d h).q s.val i j
  k : ∀ (s : Fin 256) d h i j, V main_arg3 (ix3 d (row (dir d s) i) (lane h j)) = (C d h).k s.val i j
  a : ∀ (s : Fin 256) d h i j, V main_arg4 (ix5 d (dir d s) h i j) = (C d h).a s.val i j
  g : ∀ (s : Fin 256) d h, V main_arg5 (ix3 d (dir d s) h) = (C d h).g s.val
  o' : ∀ (s : Fin 256) d h i j, V main_arg6 (ix2 (row (dir d s) i) (lane h j)) = (C d h).o' s.val i j

/-! ## Where the forward loop starts -/

section Start

variable (V : Valuation τ sig (Elt Ideal))

theorem pre_u : after opsI (after opsG (after opsK (after opsQ (after opsA (after opsW V))))) main_v65_0 = V main_v9 := by after_reads_simp; rfl
theorem pre_u' : after opsI (after opsG (after opsK (after opsQ (after opsA (after opsW V))))) main_v9 = V main_v9 := by after_reads_simp
theorem pre_w : after opsI (after opsG (after opsK (after opsQ (after opsA V)))) main_v65_1 = V main_v20 := by after_reads_simp; rfl
theorem pre_w' : after opsI (after opsG (after opsK (after opsQ (after opsA V)))) main_v20 = V main_v20 := by after_reads_simp
theorem pre_a : after opsI (after opsG (after opsK (after opsQ V))) main_v65_2 = V main_v29 := by after_reads_simp; rfl
theorem pre_a' : after opsI (after opsG (after opsK (after opsQ V))) main_v29 = V main_v29 := by after_reads_simp
theorem pre_q : after opsI (after opsG (after opsK V)) main_v65_3 = V main_v40 := by after_reads_simp; rfl
theorem pre_q' : after opsI (after opsG (after opsK V)) main_v40 = V main_v40 := by after_reads_simp
theorem pre_k : after opsI (after opsG V) main_v65_4 = V main_v51 := by after_reads_simp; rfl
theorem pre_k' : after opsI (after opsG V) main_v51 = V main_v51 := by after_reads_simp
theorem pre_g : after opsI V main_v65_5 = V main_v59 := by after_reads_simp; rfl
theorem pre_g' : after opsI V main_v59 = V main_v59 := by after_reads_simp

variable {V} {C : Fin 2 → Fin 8 → Chain} (F : Fits V C)
include F

theorem held_start : Held (afterL preI V) C where
  u s d h i j := by
    dsimp only [afterL_cons, afterL_nil]
    rw [pre_u]
    exact (lay_u V s d h i j).trans (F.u s d h i j)
  w s d h i j := by
    dsimp only [afterL_cons, afterL_nil]
    rw [pre_w]
    refine (lay_w (after opsU V) s d h i j).trans (Eq.trans ?_ (F.w s d h i j))
    after_reads_simp
  a s d h i j := by
    dsimp only [afterL_cons, afterL_nil]
    rw [pre_a]
    refine (lay_a (after opsW (after opsU V)) s d h i j).trans (Eq.trans ?_ (F.a s d h i j))
    after_reads_simp
  q s d h i j := by
    dsimp only [afterL_cons, afterL_nil]
    rw [pre_q]
    refine (lay_q (after opsA (after opsW (after opsU V))) s d h i j).trans (Eq.trans ?_ (F.q s d h i j))
    after_reads_simp
  k s d h i j := by
    dsimp only [afterL_cons, afterL_nil]
    rw [pre_k]
    refine (lay_k (after opsQ (after opsA (after opsW (after opsU V)))) s d h i j).trans (Eq.trans ?_ (F.k s d h i j))
    after_reads_simp
  g s d h := by
    dsimp only [afterL_cons, afterL_nil]
    rw [pre_g]
    refine (lay_g (after opsK (after opsQ (after opsA (after opsW (after opsU V))))) s d h).trans (Eq.trans ?_ (F.g s d h))
    after_reads_simp

/-- The laid-out operands the backward loop also reads. -/
structure Kept (V : Valuation τ sig (Elt Ideal)) (C : Fin 2 → Fin 8 → Chain) : Prop where
  w : ∀ (s : Fin 256) d h i j, V main_v20 (ix5 s d h i j) = (C d h).w s.val i j
  a : ∀ (s : Fin 256) d h i j, V main_v29 (ix5 s d h i j) = (C d h).a s.val i j
  q : ∀ (s : Fin 256) d h i j, V main_v40 (ix5 s d h i j) = (C d h).q s.val i j
  k : ∀ (s : Fin 256) d h i j, V main_v51 (ix5 s d h i j) = (C d h).k s.val i j
  o' : ∀ (s : Fin 256) d h i j, V main_arg6 (ix2 (row (dir d s) i) (lane h j)) = (C d h).o' s.val i j

theorem kept_start : Kept (afterL preI V) C where
  w s d h i j := by
    dsimp only [afterL_cons, afterL_nil]
    rw [pre_w']
    refine (lay_w (after opsU V) s d h i j).trans (Eq.trans ?_ (F.w s d h i j))
    after_reads_simp
  a s d h i j := by
    dsimp only [afterL_cons, afterL_nil]
    rw [pre_a']
    refine (lay_a (after opsW (after opsU V)) s d h i j).trans (Eq.trans ?_ (F.a s d h i j))
    after_reads_simp
  q s d h i j := by
    dsimp only [afterL_cons, afterL_nil]
    rw [pre_q']
    refine (lay_q (after opsA (after opsW (after opsU V))) s d h i j).trans (Eq.trans ?_ (F.q s d h i j))
    after_reads_simp
  k s d h i j := by
    dsimp only [afterL_cons, afterL_nil]
    rw [pre_k']
    refine (lay_k (after opsQ (after opsA (after opsW (after opsU V)))) s d h i j).trans (Eq.trans ?_ (F.k s d h i j))
    after_reads_simp
  o' s d h i j := by
    refine Eq.trans ?_ (F.o' s d h i j)
    dsimp only [afterL_cons, afterL_nil]
    after_reads_simp

omit F in
theorem saved_start : Saved (afterL preI V) C 0 where
  st d h i j := by
    dsimp only [afterL_cons, afterL_nil]
    have e : ∀ W : Valuation τ sig (Elt Ideal), after opsI W main_v65_7 (ix4 d h i j) = (0 : EReal) := fun W => by
      after_reads_simp
      dsimp only [id]
      pointwise
    exact e _
  o s hs := absurd hs (Nat.not_lt_zero _)
  sts s hs := absurd hs (Nat.not_lt_zero _)
  v s hs := absurd hs (Nat.not_lt_zero _)
  g s hs := absurd hs (Nat.not_lt_zero _)

end Start

/-! ## Between the loops -/

section Middle

variable {V : Valuation τ sig (Elt Ideal)} {C : Fin 2 → Fin 8 → Chain}

theorem kept_fwd (K : Kept V C) : Kept (afterL fwdI (after c0 V)) C := by
  constructor
  · intro s d h i j
    refine Eq.trans ?_ (K.w s d h i j)
    dsimp only [afterL_cons, afterL_nil]
    after_reads_simp
  · intro s d h i j
    refine Eq.trans ?_ (K.a s d h i j)
    dsimp only [afterL_cons, afterL_nil]
    after_reads_simp
  · intro s d h i j
    refine Eq.trans ?_ (K.q s d h i j)
    dsimp only [afterL_cons, afterL_nil]
    after_reads_simp
  · intro s d h i j
    refine Eq.trans ?_ (K.k s d h i j)
    dsimp only [afterL_cons, afterL_nil]
    after_reads_simp
  · intro s d h i j
    refine Eq.trans ?_ (K.o' s d h i j)
    dsimp only [afterL_cons, afterL_nil]
    after_reads_simp

theorem kept_loop (W₀ : Dev nD → Valuation τ sig (Elt Ideal)) (c : Dev nD) (K : Kept (W₀ c) C) (t : ℕ) : Kept (atTrip c0 fwdI W₀ t c) C := by
  induction t with
  | zero => rw [atTrip_zero]; exact K
  | succ t ih => rw [atTrip_succ]; exact kept_fwd ih

theorem kept_test (K : Kept V C) : Kept (after c0 V) C := by
  constructor
  · intro s d h i j
    refine Eq.trans ?_ (K.w s d h i j)
    after_reads_simp
  · intro s d h i j
    refine Eq.trans ?_ (K.a s d h i j)
    after_reads_simp
  · intro s d h i j
    refine Eq.trans ?_ (K.q s d h i j)
    after_reads_simp
  · intro s d h i j
    refine Eq.trans ?_ (K.k s d h i j)
    after_reads_simp
  · intro s d h i j
    refine Eq.trans ?_ (K.o' s d h i j)
    after_reads_simp

theorem saved_test {t : ℕ} (S : Saved V C t) : Saved (after c0 V) C t := by
  constructor
  · intro d h i j
    refine Eq.trans ?_ (S.st d h i j)
    after_reads_simp
  · intro s hs d h i j
    refine Eq.trans ?_ (S.o s hs d h i j)
    after_reads_simp
  · intro s hs d h i j
    refine Eq.trans ?_ (S.sts s hs d h i j)
    after_reads_simp
  · intro s hs d h i j
    refine Eq.trans ?_ (S.v s hs d h i j)
    after_reads_simp
  · intro s hs d h
    refine Eq.trans ?_ (S.g s hs d h)
    after_reads_simp

theorem given_start (K : Kept V C) (S : Saved V C 256) : Given (afterL midI V) C := by
  have lt : ∀ s : Fin 256, s.val < 256 := fun s => s.isLt
  constructor
  · intro s d h i j
    refine Eq.trans ?_ ((lay_o' V s d h i j).trans (K.o' s d h i j))
    dsimp only [afterL_cons, afterL_nil]
    generalize after opsD V = W
    after_reads_simp
    rfl
  · intro s d h i j
    refine Eq.trans ?_ (S.sts s (lt s) d h i j)
    dsimp only [afterL_cons, afterL_nil]
    after_reads_simp
    rfl
  · intro s d h i j
    refine Eq.trans ?_ (K.w s d h i j)
    dsimp only [afterL_cons, afterL_nil]
    after_reads_simp
    rfl
  · intro s d h i j
    refine Eq.trans ?_ (K.q s d h i j)
    dsimp only [afterL_cons, afterL_nil]
    after_reads_simp
    rfl
  · intro s d h i j
    refine Eq.trans ?_ (S.v s (lt s) d h i j)
    dsimp only [afterL_cons, afterL_nil]
    after_reads_simp
    rfl
  · intro s d h i j
    refine Eq.trans ?_ (K.a s d h i j)
    dsimp only [afterL_cons, afterL_nil]
    after_reads_simp
    rfl
  · intro s d h
    refine Eq.trans ?_ (S.g s (lt s) d h)
    dsimp only [afterL_cons, afterL_nil]
    after_reads_simp
    rfl
  · intro s d h i j
    refine Eq.trans ?_ (K.k s d h i j)
    dsimp only [afterL_cons, afterL_nil]
    after_reads_simp
    rfl

theorem made_start : Made (afterL midI V) C 0 := by
  have no : ∀ s : Fin 256, ¬ 256 ≤ s.val + 0 := fun s => by have := s.isLt; omega
  constructor
  · intro d h i j
    dsimp only [afterL_cons, afterL_nil]
    have e : ∀ W : Valuation τ sig (Elt Ideal), after opsJ W main_v88_9 (ix4 d h i j) = (0 : EReal) := fun W => by
      after_reads_simp
      dsimp only [id]
      pointwise
    exact e _
  all_goals exact fun s hs => absurd hs (no s)

theorem made_test {t : ℕ} (S : Made V C t) : Made (after c1 V) C t := by
  constructor
  · intro d h i j
    refine Eq.trans ?_ (S.D d h i j)
    after_reads_simp
  · intro s hs d h i j
    refine Eq.trans ?_ (S.u' s hs d h i j)
    after_reads_simp
  · intro s hs d h i j
    refine Eq.trans ?_ (S.w' s hs d h i j)
    after_reads_simp
  · intro s hs d h i j
    refine Eq.trans ?_ (S.a' s hs d h i j)
    after_reads_simp
  · intro s hs d h i j
    refine Eq.trans ?_ (S.q' s hs d h i j)
    after_reads_simp
  · intro s hs d h i j
    refine Eq.trans ?_ (S.k' s hs d h i j)
    after_reads_simp
  · intro s hs d h
    refine Eq.trans ?_ (S.g' s hs d h)
    after_reads_simp

/-- The forward loop's outputs survive the backward loop. -/
theorem mid_o : afterL midI V main_v65_8 = V main_v65_8 := by dsimp only [afterL_cons, afterL_nil]; after_reads_simp
theorem bwd_o : afterL bwdI (after c1 V) main_v65_8 = V main_v65_8 := by dsimp only [afterL_cons, afterL_nil]; after_reads_simp
theorem test_o : after c1 V main_v65_8 = V main_v65_8 := by after_reads_simp
theorem loop_o (W₀ : Dev nD → Valuation τ sig (Elt Ideal)) (c : Dev nD) (t : ℕ) : atTrip c1 bwdI W₀ t c main_v65_8 = W₀ c main_v65_8 := by
  induction t with
  | zero => rw [atTrip_zero]
  | succ t ih => rw [atTrip_succ, bwd_o, ih]

end Middle

/-! ## Where it ends -/

section End

variable (V : Valuation τ sig (Elt Ideal))

theorem post_o : after opsDg (after opsDa (after opsDk (after opsDq (after opsDw (after opsDu V))))) main_v98 = V main_v98 := by after_reads_simp
theorem post_u' : after opsDg (after opsDa (after opsDk (after opsDq (after opsDw V)))) main_v109 = V main_v109 := by after_reads_simp
theorem post_w' : after opsDg (after opsDa (after opsDk (after opsDq V))) main_v120 = V main_v120 := by after_reads_simp
theorem post_q' : after opsDg (after opsDa (after opsDk V)) main_v130 = V main_v130 := by after_reads_simp
theorem post_k' : after opsDg (after opsDa V) main_v140 = V main_v140 := by after_reads_simp
theorem post_a' : after opsDg V main_v148 = V main_v148 := by after_reads_simp

end End

section Results

variable (m : (ℓ : Loc nD τ sig) → Buf (Elt Ideal) ℓ) (c : Dev nD) {C : Fin 2 → Fin 8 → Chain} (F : Fits (fun b => m (c, b)) C)
include F

theorem saved_end : Saved (XB m c) C 256 ∧ Kept (XB m c) C :=
  ⟨saved_test (loop_fwd (XA m) c (start0 m) (held_start F) saved_start 256 (le_refl _)).2, kept_test (kept_loop (XA m) c (kept_start F) 256)⟩

theorem made_end : Made (XD m c) C 256 :=
  made_test (loop_bwd (XC m) c (start1 m) (given_start (saved_end m c F).2 (saved_end m c F).1) made_start 256 (le_refl _)).2

omit F in
theorem o_end : XD m c main_v65_8 = XB m c main_v65_8 := (test_o).trans ((loop_o (XC m) c 256).trans mid_o)

theorem ref_o (d : Fin 2) (r : Fin 16384) (l : Fin 1024) : XE m c main_v98 (ix3 d r l)
    = (C d ⟨l.val / 128, by omega⟩).o (dir d ⟨r.val / 64, by omega⟩).val ⟨r.val % 64, by omega⟩ ⟨l.val % 128, by omega⟩ := by
  show afterL postI (XD m c) main_v98 _ = _
  dsimp only [afterL_cons, afterL_nil]
  rw [post_o, out_o]
  rw [o_end]
  exact (saved_end m c F).1.o _ (Fin.isLt _) _ _ _ _
theorem ref_u' (d : Fin 2) (r : Fin 16384) (l : Fin 1024) : XE m c main_v109 (ix3 d r l)
    = (C d ⟨l.val / 128, by omega⟩).u' (dir d ⟨r.val / 64, by omega⟩).val ⟨r.val % 64, by omega⟩ ⟨l.val % 128, by omega⟩ := by
  show afterL postI (XD m c) main_v109 _ = _
  dsimp only [afterL_cons, afterL_nil]
  rw [post_u', out_u']
  refine Eq.trans ?_ ((made_end m c F).u' _ (Nat.le_add_left _ _) _ _ _ _)
  generalize XD m c = W
  after_reads_simp
theorem ref_w' (d : Fin 2) (r : Fin 16384) (l : Fin 1024) : XE m c main_v120 (ix3 d r l)
    = (C d ⟨l.val / 128, by omega⟩).w' (dir d ⟨r.val / 64, by omega⟩).val ⟨r.val % 64, by omega⟩ ⟨l.val % 128, by omega⟩ := by
  show afterL postI (XD m c) main_v120 _ = _
  dsimp only [afterL_cons, afterL_nil]
  rw [post_w', out_w']
  refine Eq.trans ?_ ((made_end m c F).w' _ (Nat.le_add_left _ _) _ _ _ _)
  generalize XD m c = W
  after_reads_simp
theorem ref_q' (d : Fin 2) (r : Fin 16384) (l : Fin 1024) : XE m c main_v130 (ix3 d r l)
    = (C d ⟨l.val / 128, by omega⟩).q' (dir d ⟨r.val / 64, by omega⟩).val ⟨r.val % 64, by omega⟩ ⟨l.val % 128, by omega⟩ := by
  show afterL postI (XD m c) main_v130 _ = _
  dsimp only [afterL_cons, afterL_nil]
  rw [post_q', out_q']
  refine Eq.trans ?_ ((made_end m c F).q' _ (Nat.le_add_left _ _) _ _ _ _)
  generalize XD m c = W
  after_reads_simp
theorem ref_k' (d : Fin 2) (r : Fin 16384) (l : Fin 1024) : XE m c main_v140 (ix3 d r l)
    = (C d ⟨l.val / 128, by omega⟩).k' (dir d ⟨r.val / 64, by omega⟩).val ⟨r.val % 64, by omega⟩ ⟨l.val % 128, by omega⟩ := by
  show afterL postI (XD m c) main_v140 _ = _
  dsimp only [afterL_cons, afterL_nil]
  rw [post_k', out_k']
  refine Eq.trans ?_ ((made_end m c F).k' _ (Nat.le_add_left _ _) _ _ _ _)
  generalize XD m c = W
  after_reads_simp
theorem ref_a' (d : Fin 2) (n : Fin 256) (h : Fin 8) (i j : Fin 64) : XE m c main_v148 (ix5 d n h i j) = (C d h).a' (dir d n).val i j := by
  show afterL postI (XD m c) main_v148 _ = _
  dsimp only [afterL_cons, afterL_nil]
  rw [post_a', out_a']
  refine Eq.trans ?_ ((made_end m c F).a' _ (Nat.le_add_left _ _) _ _ _ _)
  generalize XD m c = W
  after_reads_simp
theorem ref_g' (d : Fin 2) (n : Fin 256) (h : Fin 8) : XE m c main_v156 (ix3 d n h) = (C d h).g' (dir d n).val := by
  show afterL postI (XD m c) main_v156 _ = _
  dsimp only [afterL_cons, afterL_nil]
  rw [out_g']
  refine Eq.trans ?_ ((made_end m c F).g' _ (Nat.le_add_left _ _) _ _)
  generalize XD m c = W
  after_reads_simp

end Results

end Cert.Proof.ReferenceIdeal

end
-- ==== Proof.Algebraic.lean ====
/- Kernel and reference, over the exact numbers, leave the same values: both are read as the same chains. -/
module

public import proofs.«01_k».proof.Defs
public import proofs.«01_k».proof.Proof.KHost
public import proofs.«01_k».proof.Proof.Frames
public import proofs.«01_k».proof.Proof.RefVal

@[expose] public section

set_option maxRecDepth 16384

noncomputable section

namespace Cert.Proof

open Idealize.ShloMosaic Idealize.ShloMosaic.TcCoe Idealize.SL.Sem
open Cert.Proof.KernelIdeal (devChain rowB rowC cF wr rw64 ln128)
open Cert.Proof.ReferenceIdeal (dir row lane Fits)

/-! ## The two readings of a chunk agree -/

theorem cF_dir (d : Fin 2) (s : Fin 256) : cF d.val s.val = (dir d s).val := by
  have := s.isLt
  fin_cases d
  · rfl
  · show 255 - s.val = 256 - (s.val + 1); omega

theorem rowB_row (X : Cert.KernelIdeal.S2x16384x1024.Idx → EReal) (d : Fin 2) (c : Fin 256) (h : Fin 8) (i : Fin 64) (j : Fin 128) :
    rowB X d.val c.val h.val (ix3 0 i j) = X (ix3 d (row c i) (lane h j)) := by
  refine congrArg X (Cert.Proof.KernelIdeal.wr_eq _ _ fun a => ?_)
  fin_cases a
  · show d.val + 0 = d.val; omega
  · show 64 * c.val + i.val = c.val * 64 + i.val; omega
  · show 128 * h.val + j.val = h.val * 128 + j.val; omega

theorem rowC_row (X : Cert.KernelIdeal.S16384x1024.Idx → EReal) (c : Fin 256) (h : Fin 8) (i : Fin 64) (j : Fin 128) :
    rowC X c.val h.val (ix2 i j) = X (ix2 (row c i) (lane h j)) := by
  refine congrArg X (Cert.Proof.KernelIdeal.wr_eq _ _ fun a => ?_)
  fin_cases a
  · show 64 * c.val + i.val = c.val * 64 + i.val; omega
  · show 128 * h.val + j.val = h.val * 128 + j.val; omega

theorem wr_five (d : Fin 2) (c : Fin 256) (h : Fin 8) (i j : Fin 64) :
    wr (s := Cert.KernelIdeal.S2x256x8x64x64) ![d.val, c.val, h.val, i.val, j.val] = ix5 d c h i j :=
  Cert.Proof.KernelIdeal.wr_eq _ _ fun a => by fin_cases a <;> rfl
theorem wr_three (d : Fin 2) (c : Fin 256) (h : Fin 8) :
    wr (s := Cert.KernelIdeal.S2x256x8) ![d.val, c.val, h.val] = ix3 d c h :=
  Cert.Proof.KernelIdeal.wr_eq _ _ fun a => by fin_cases a <;> rfl

/-- Two arrays of rows that agree at every chunk, row, head and lane are one. -/
theorem rows_ext {α : Type} (X Y : Cert.KernelIdeal.S2x16384x1024.Idx → α)
    (e : ∀ (d : Fin 2) (n : Fin 256) (i : Fin 64) (h : Fin 8) (j : Fin 128), X (ix3 d (rw64 n i) (ln128 h j)) = Y (ix3 d (rw64 n i) (ln128 h j))) : X = Y := by
  funext y
  have hr : (y 1).val < 16384 := (y 1).isLt
  have hl : (y 2).val < 1024 := (y 2).isLt
  have ey : y = ix3 (y 0) (rw64 ⟨(y 1).val / 64, by omega⟩ ⟨(y 1).val % 64, by omega⟩) (ln128 ⟨(y 2).val / 128, by omega⟩ ⟨(y 2).val % 128, by omega⟩) := by
    funext a
    refine Fin.ext ?_
    fin_cases a
    · rfl
    · show (y 1).val = 64 * ((y 1).val / 64) + (y 1).val % 64; omega
    · show (y 2).val = 128 * ((y 2).val / 128) + (y 2).val % 128; omega
  rw [ey]
  exact e _ _ _ _ _

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Two memories whose arguments agree on a device. -/
structure Agree : Prop where
  e0 : m' (c, Cert.ReferenceIdeal.main_arg0) = m (c, Cert.KernelIdeal.main_arg0)
  e1 : m' (c, Cert.ReferenceIdeal.main_arg1) = m (c, Cert.KernelIdeal.main_arg1)
  e2 : m' (c, Cert.ReferenceIdeal.main_arg2) = m (c, Cert.KernelIdeal.main_arg2)
  e3 : m' (c, Cert.ReferenceIdeal.main_arg3) = m (c, Cert.KernelIdeal.main_arg3)
  e4 : m' (c, Cert.ReferenceIdeal.main_arg4) = m (c, Cert.KernelIdeal.main_arg4)
  e5 : m' (c, Cert.ReferenceIdeal.main_arg5) = m (c, Cert.KernelIdeal.main_arg5)
  e6 : m' (c, Cert.ReferenceIdeal.main_arg6) = m (c, Cert.KernelIdeal.main_arg6)

variable {m m' c} (A : Agree m m' c)
include A

/-- The kernel's chains read the reference's arguments. -/
theorem fits : Fits (fun b => m' (c, b)) (fun d h => devChain m c d.val h.val) where
  u s d h i j := by
    show _ = rowB (m (c, Cert.KernelIdeal.main_arg0)) d.val (cF d.val s.val) h.val (ix3 0 i j)
    rw [cF_dir]
    exact (congrFun A.e0 _).trans (rowB_row _ d (dir d s) h i j).symm
  w s d h i j := by
    show _ = rowB (m (c, Cert.KernelIdeal.main_arg1)) d.val (cF d.val s.val) h.val (ix3 0 i j)
    rw [cF_dir]
    exact (congrFun A.e1 _).trans (rowB_row _ d (dir d s) h i j).symm
  q s d h i j := by
    show _ = rowB (m (c, Cert.KernelIdeal.main_arg2)) d.val (cF d.val s.val) h.val (ix3 0 i j)
    rw [cF_dir]
    exact (congrFun A.e2 _).trans (rowB_row _ d (dir d s) h i j).symm
  k s d h i j := by
    show _ = rowB (m (c, Cert.KernelIdeal.main_arg3)) d.val (cF d.val s.val) h.val (ix3 0 i j)
    rw [cF_dir]
    exact (congrFun A.e3 _).trans (rowB_row _ d (dir d s) h i j).symm
  a s d h i j := by
    show _ = m (c, Cert.KernelIdeal.main_arg4) (wr (s := Cert.KernelIdeal.S2x256x8x64x64) ![d.val, cF d.val s.val, h.val, i.val, j.val])
    rw [cF_dir, wr_five]
    exact congrFun A.e4 _
  g s d h := by
    show _ = m (c, Cert.KernelIdeal.main_arg5) (wr (s := Cert.KernelIdeal.S2x256x8) ![d.val, cF d.val s.val, h.val])
    rw [cF_dir, wr_three]
    exact congrFun A.e5 _
  o' s d h i j := by
    show _ = rowC (m (c, Cert.KernelIdeal.main_arg6)) (cF d.val s.val) h.val (ix2 i j)
    rw [cF_dir]
    exact (congrFun A.e6 _).trans (rowC_row _ (dir d s) h i j).symm

omit A in
/-- A row's chunk and a lane's head are the ones it was made from. -/
theorem split_at (f : Fin 256 → Fin 8 → Fin 64 → Fin 128 → EReal) (n : Fin 256) (h : Fin 8) (i : Fin 64) (j : Fin 128) :
    f ⟨(rw64 n i).val / 64, by have := (rw64 n i).isLt; omega⟩ ⟨(ln128 h j).val / 128, by have := (ln128 h j).isLt; omega⟩
      ⟨(rw64 n i).val % 64, by omega⟩ ⟨(ln128 h j).val % 128, by omega⟩ = f n h i j := by
  have e1 : (⟨(rw64 n i).val / 64, by have := (rw64 n i).isLt; omega⟩ : Fin 256) = n := Fin.ext (KernelIdeal.rw_div n i)
  have e2 : (⟨(ln128 h j).val / 128, by have := (ln128 h j).isLt; omega⟩ : Fin 8) = h := Fin.ext (KernelIdeal.ln_div h j)
  have e3 : (⟨(rw64 n i).val % 64, by omega⟩ : Fin 64) = i := Fin.ext (KernelIdeal.rw_mod n i)
  have e4 : (⟨(ln128 h j).val % 128, by omega⟩ : Fin 128) = j := Fin.ext (KernelIdeal.ln_mod h j)
  rw [e1, e2, e3, e4]

theorem same_o : ReferenceIdeal.XE m' c Cert.ReferenceIdeal.main_v98 = KernelIdeal.W4 m c Cert.KernelIdeal.main_v9_0 :=
  rows_ext (α := EReal) _ _ fun d n i h j => ((ReferenceIdeal.ref_o m' c (fits A) d (rw64 n i) (ln128 h j)).trans
    (split_at (fun n h i j => (devChain m c d.val h.val).o (dir d n).val i j) n h i j)).trans
      (by rw [← cF_dir]; exact (KernelIdeal.res_o m c d n h i j).symm)
theorem same_u' : ReferenceIdeal.XE m' c Cert.ReferenceIdeal.main_v109 = KernelIdeal.W4 m c Cert.KernelIdeal.main_v10_0 :=
  rows_ext (α := EReal) _ _ fun d n i h j => ((ReferenceIdeal.ref_u' m' c (fits A) d (rw64 n i) (ln128 h j)).trans
    (split_at (fun n h i j => (devChain m c d.val h.val).u' (dir d n).val i j) n h i j)).trans
      (by rw [← cF_dir]; exact (KernelIdeal.res_u' m c d n h i j).symm)
theorem same_w' : ReferenceIdeal.XE m' c Cert.ReferenceIdeal.main_v120 = KernelIdeal.W4 m c Cert.KernelIdeal.main_v10_1 :=
  rows_ext (α := EReal) _ _ fun d n i h j => ((ReferenceIdeal.ref_w' m' c (fits A) d (rw64 n i) (ln128 h j)).trans
    (split_at (fun n h i j => (devChain m c d.val h.val).w' (dir d n).val i j) n h i j)).trans
      (by rw [← cF_dir]; exact (KernelIdeal.res_w' m c d n h i j).symm)
theorem same_q' : ReferenceIdeal.XE m' c Cert.ReferenceIdeal.main_v130 = KernelIdeal.W4 m c Cert.KernelIdeal.main_v10_2 :=
  rows_ext (α := EReal) _ _ fun d n i h j => ((ReferenceIdeal.ref_q' m' c (fits A) d (rw64 n i) (ln128 h j)).trans
    (split_at (fun n h i j => (devChain m c d.val h.val).q' (dir d n).val i j) n h i j)).trans
      (by rw [← cF_dir]; exact (KernelIdeal.res_q' m c d n h i j).symm)
theorem same_k' : ReferenceIdeal.XE m' c Cert.ReferenceIdeal.main_v140 = KernelIdeal.W4 m c Cert.KernelIdeal.main_v10_3 :=
  rows_ext (α := EReal) _ _ fun d n i h j => ((ReferenceIdeal.ref_k' m' c (fits A) d (rw64 n i) (ln128 h j)).trans
    (split_at (fun n h i j => (devChain m c d.val h.val).k' (dir d n).val i j) n h i j)).trans
      (by rw [← cF_dir]; exact (KernelIdeal.res_k' m c d n h i j).symm)
theorem same_a' : ReferenceIdeal.XE m' c Cert.ReferenceIdeal.main_v148 = KernelIdeal.W4 m c Cert.KernelIdeal.main_v16 := by
  funext y
  obtain ⟨d, n, h, i, j, rfl⟩ : ∃ (d : Fin 2) (n : Fin 256) (h : Fin 8) (i j : Fin 64), y = ix5 d n h i j :=
    ⟨y 0, y 1, y 2, y 3, y 4, by funext a; fin_cases a <;> rfl⟩
  refine (ReferenceIdeal.ref_a' m' c (fits A) d n h i j).trans ?_
  rw [← cF_dir]
  exact (KernelIdeal.res_a' m c d n h i j).symm
theorem same_g' : ReferenceIdeal.XE m' c Cert.ReferenceIdeal.main_v156 = KernelIdeal.W4 m c Cert.KernelIdeal.main_v17 := by
  funext y
  obtain ⟨d, n, h, rfl⟩ : ∃ (d : Fin 2) (n : Fin 256) (h : Fin 8), y = ix3 d n h := ⟨y 0, y 1, y 2, by funext a; fin_cases a <;> rfl⟩
  refine (ReferenceIdeal.ref_g' m' c (fits A) d n h).trans ?_
  rw [← cF_dir]
  exact (KernelIdeal.res_g' m c d n h).symm

end Values

/-- The value claim: over the exact numbers the kernel and the reference leave the same results. -/
theorem algebraic [Cert.KernelIdeal.Facts] [Cert.ReferenceIdeal.Facts] : Cert.algebraic_KernelIdeal_ReferenceIdeal := fun m g m' g' _ ha =>
  ⟨fun c => KernelIdeal.W4 m c Cert.KernelIdeal.main_v9_0, fun c => KernelIdeal.W4 m c Cert.KernelIdeal.main_v10_0,
   fun c => KernelIdeal.W4 m c Cert.KernelIdeal.main_v10_1, fun c => KernelIdeal.W4 m c Cert.KernelIdeal.main_v10_2,
   fun c => KernelIdeal.W4 m c Cert.KernelIdeal.main_v10_3, fun c => KernelIdeal.W4 m c Cert.KernelIdeal.main_v16,
   fun c => KernelIdeal.W4 m c Cert.KernelIdeal.main_v17,
   (θ_run Cert.KernelIdeal.defs _ _).mono (fun r h c =>
      ⟨KernelIdeal.read_at m h.1 c Cert.KernelIdeal.main_v9_0 (by decide),
       KernelIdeal.read_at m h.1 c Cert.KernelIdeal.main_v10_0 (by decide),
       KernelIdeal.read_at m h.1 c Cert.KernelIdeal.main_v10_1 (by decide),
       KernelIdeal.read_at m h.1 c Cert.KernelIdeal.main_v10_2 (by decide),
       KernelIdeal.read_at m h.1 c Cert.KernelIdeal.main_v10_3 (by decide),
       KernelIdeal.read_at m h.1 c Cert.KernelIdeal.main_v16 (by decide),
       KernelIdeal.read_at m h.1 c Cert.KernelIdeal.main_v17 (by decide),
       (KernelIdeal.read_at m h.1 c Cert.KernelIdeal.main_arg0 (by decide)).trans (KernelIdeal.W4_arg m c Cert.KernelIdeal.main_arg0 (by decide)),
       (KernelIdeal.read_at m h.1 c Cert.KernelIdeal.main_arg1 (by decide)).trans (KernelIdeal.W4_arg m c Cert.KernelIdeal.main_arg1 (by decide)),
       (KernelIdeal.read_at m h.1 c Cert.KernelIdeal.main_arg2 (by decide)).trans (KernelIdeal.W4_arg m c Cert.KernelIdeal.main_arg2 (by decide)),
       (KernelIdeal.read_at m h.1 c Cert.KernelIdeal.main_arg3 (by decide)).trans (KernelIdeal.W4_arg m c Cert.KernelIdeal.main_arg3 (by decide)),
       (KernelIdeal.read_at m h.1 c Cert.KernelIdeal.main_arg4 (by decide)).trans (KernelIdeal.W4_arg m c Cert.KernelIdeal.main_arg4 (by decide)),
       (KernelIdeal.read_at m h.1 c Cert.KernelIdeal.main_arg5 (by decide)).trans (KernelIdeal.W4_arg m c Cert.KernelIdeal.main_arg5 (by decide)),
       (KernelIdeal.read_at m h.1 c Cert.KernelIdeal.main_arg6 (by decide)).trans (KernelIdeal.W4_arg m c Cert.KernelIdeal.main_arg6 (by decide))⟩) (KernelIdeal.run_all m g),
   (θ_run Cert.ReferenceIdeal.defs _ _).mono (fun r h c =>
      have A : Agree m m' c := ⟨(ha c).1, (ha c).2.1, (ha c).2.2.1, (ha c).2.2.2.1, (ha c).2.2.2.2.1, (ha c).2.2.2.2.2.1, (ha c).2.2.2.2.2.2⟩
      have e := ReferenceIdeal.same_end m' c
      ⟨(ReferenceIdeal.read_at m' h.1 c Cert.ReferenceIdeal.main_v98 (by decide)).trans (same_o A),
       (ReferenceIdeal.read_at m' h.1 c Cert.ReferenceIdeal.main_v109 (by decide)).trans (same_u' A),
       (ReferenceIdeal.read_at m' h.1 c Cert.ReferenceIdeal.main_v120 (by decide)).trans (same_w' A),
       (ReferenceIdeal.read_at m' h.1 c Cert.ReferenceIdeal.main_v130 (by decide)).trans (same_q' A),
       (ReferenceIdeal.read_at m' h.1 c Cert.ReferenceIdeal.main_v140 (by decide)).trans (same_k' A),
       (ReferenceIdeal.read_at m' h.1 c Cert.ReferenceIdeal.main_v148 (by decide)).trans (same_a' A),
       (ReferenceIdeal.read_at m' h.1 c Cert.ReferenceIdeal.main_v156 (by decide)).trans (same_g' A),
       (ReferenceIdeal.read_at m' h.1 c Cert.ReferenceIdeal.main_arg0 (by decide)).trans e.1,
       (ReferenceIdeal.read_at m' h.1 c Cert.ReferenceIdeal.main_arg1 (by decide)).trans e.2.1,
       (ReferenceIdeal.read_at m' h.1 c Cert.ReferenceIdeal.main_arg2 (by decide)).trans e.2.2.1,
       (ReferenceIdeal.read_at m' h.1 c Cert.ReferenceIdeal.main_arg3 (by decide)).trans e.2.2.2.1,
       (ReferenceIdeal.read_at m' h.1 c Cert.ReferenceIdeal.main_arg4 (by decide)).trans e.2.2.2.2.1,
       (ReferenceIdeal.read_at m' h.1 c Cert.ReferenceIdeal.main_arg5 (by decide)).trans e.2.2.2.2.2.1,
       (ReferenceIdeal.read_at m' h.1 c Cert.ReferenceIdeal.main_arg6 (by decide)).trans e.2.2.2.2.2.2⟩) (ReferenceIdeal.run_all m' g')⟩

end Cert.Proof

end
-- ==== Proof.Tiles.lean ====
/- Sums over tiles: a long sum cut into equal blocks is the sum of the blocks' sums, over the extended reals. -/
module

public import Idealize.ShloMosaic.Lib.Pointwise
public import Idealize.ShloMosaic.Lib.Pipeline.ValueKit
public import Idealize.ShloMosaic.Lib.Claim
public import Idealize.ShloMosaic.Lib.KernelVsHost
public import Idealize.ShloMosaic.Lib.StableHlo.Run
public import proofs.«01_k».proof.Defs

@[expose] public section

noncomputable section

namespace Cert.Proof

open Idealize.ShloMosaic

/-- The sum over `K = n * b` terms is the sum over `n` blocks of `b` terms each, `M s` being block `s`'s own sum. -/
theorem sum_tiles {K n b : ℕ} (hK : n * b = K) (g : Fin K → EReal) (M : ℕ → EReal)
    (hM : ∀ (s : ℕ) (hs : s < n), M s = ∑ r : Fin b, g ⟨b * s + r.val, by
      have hr := r.isLt
      calc b * s + r.val < b * s + b := by omega
        _ = (s + 1) * b := by ring
        _ ≤ n * b := Nat.mul_le_mul_right b hs
        _ = K := hK⟩) :
    ∑ s ∈ Finset.range n, M s = ∑ x, g x := by
  subst hK
  rw [← Equiv.sum_comp finProdFinEquiv g, Fintype.sum_prod_type, Finset.sum_range]
  refine Finset.sum_congr rfl fun s _ => ?_
  rw [hM s.val s.isLt]
  refine Finset.sum_congr rfl fun r _ => congrArg g (Fin.ext ?_)
  show b * s.val + r.val = r.val + b * s.val
  omega

/-- A running sum over `n` grid points, each adding the inner product of two tiles of `b` lanes, is the whole inner product. -/
theorem acc_tiles {N K n b : ℕ} {ι : Type} (first : (k : ℕ) → k < N → ι → EReal) (next : (k : ℕ) → k < N → (ι → EReal) → ι → EReal)
    (part : (k : ℕ) → k < N → ι → Fin b → EReal) (base : ℕ) (h : base + n < N) (i : ι)
    (hfirst : ∀ (h : base < N) (p : ι), first base h p = 0 + ∑ r, part base h p r)
    (hnext : ∀ (k : ℕ) (h : k < N) (a : ι → EReal) (p : ι), next k h a p = a p + ∑ r, part k h p r)
    (hK : (n + 1) * b = K) (g : Fin K → EReal)
    (hg : ∀ (s : ℕ) (hs : s < n + 1) (r : Fin b) (x : Fin K), x.val = b * s + r.val → part (base + s) (by omega) i r = g x) :
    Pipeline.accAt first next base n h i = ∑ x, g x := by
  rw [Pipeline.accAt_add_apply first next (fun _ => 0) (fun k p => if h : k < N then ∑ r, part k h p r else 0) base n
    (fun h p => by rw [dif_pos h]; exact hfirst h p) (fun k h a p _ _ => by rw [dif_pos h]; exact hnext k h a p) n le_rfl, zero_add]
  refine sum_tiles hK g _ fun s hs => ?_
  rw [dif_pos (by omega : base + s < N)]
  exact Finset.sum_congr rfl fun r _ => hg s hs r _ rfl

/-- Two indices of a matrix with the same row and column are the same. -/
theorem idx_ext {n : Fin 2 → ℕ} {p q : (a : Fin 2) → Fin (n a)} (h0 : (p 0).val = (q 0).val) (h1 : (p 1).val = (q 1).val) : p = q :=
  funext fun a => Fin.ext (match a with
    | 0 => h0
    | 1 => h1)

end Cert.Proof

end
-- ==== Proof.DwMain.lean ====
/- The gradient of the input projection's weights: the product over all tokens, added up tile by tile, is one sum. -/
module

public import proofs.«01_k».proof.Proof.Tiles
public import proofs.«01_k».proof.Proof.Gen.Kernel2.Frame
public import proofs.«01_k».proof.Proof.Gen.Kernel2Ideal.Value
public import proofs.«01_k».proof.Proof.Gen.Reference2Ideal.Run

@[expose] public section

set_option maxRecDepth 16384

noncomputable section

namespace Cert.Proof.DwMain

open Cert.Kernel2Ideal Cert.Kernel2Ideal.Gen
open Idealize.ShloMosaic Idealize.ShloMosaic.TcCoe Idealize.SL.Sem

section Kernel

variable (m : (ℓ : Loc nD τ sig) → Buf (Elt Ideal) ℓ) (c : Dev nD)

/-- The activations, one row per token. -/
abbrev left : S16384x1024.Idx → EReal := m ((c : Thread nD τ).loc main_arg0)
/-- The cotangent of the projection, one row per token. -/
abbrev right : S16384x9216.Idx → EReal := m ((c : Thread nD τ).loc main_arg1)
/-- The tiles of the two at a grid point. -/
abbrev leftT (t : Fin cfg0.N) : S1024x1024.Idx → EReal := iblk m c 0 t
abbrev rightT (t : Fin cfg0.N) : S1024x2304.Idx → EReal := iblk m c 1 t

/-- One step adds the product of two tiles. -/
theorem step_at (a : Vec Ideal S1024x2304 .f32) (x : Vec Ideal S1024x1024 .bf16) (y : Vec Ideal S1024x2304 .bf16)
    (i : Fin 1024) (j : Fin 2304) : k0_pay2 a x y (ix2 i j) = a (ix2 i j) + ∑ r : Fin 1024, x (ix2 r i) * y (ix2 r j) := by
  pointwise [k0_pay2]
/-- A tile starts at zero. -/
theorem start_at (i : Fin 1024) (j : Fin 2304) : k0_pay1 (F := Ideal) (ix2 i j) = 0 := by
  pointwise [k0_pay1]

/-- Where the tiles of the two arguments lie. -/
theorem place : ∀ t : Fin cfg0.N, (win0_0.index t (0 : Fin 2) = t.val % 16 ∧ win0_0.index t (1 : Fin 2) = 0)
    ∧ win0_1.index t (0 : Fin 2) = t.val % 16 ∧ win0_1.index t (1 : Fin 2) = t.val / 16 :=
  (by decide +kernel : ∀ t : Fin grid0.N, _)

theorem left_at (t : Fin cfg0.N) (r i : Fin 1024) (x : Fin 16384) (hx : x.val = 1024 * (t.val % 16) + r.val) :
    leftT m c t (ix2 r i) = left m c (ix2 x i) := by
  obtain ⟨⟨e0, e1⟩, -⟩ := place t
  refine congrArg (m (c.tc.loc main_arg0)) (idx_ext ?_ ?_)
  · show win0_0.index t (0 : Fin 2) * 1024 + 1 * r.val = x.val; omega
  · show win0_0.index t (1 : Fin 2) * 1024 + 1 * i.val = i.val; omega

theorem right_at (t : Fin cfg0.N) (r : Fin 1024) (j : Fin 2304) (x : Fin 16384) (y : Fin 9216)
    (hx : x.val = 1024 * (t.val % 16) + r.val) (hy : y.val = 2304 * (t.val / 16) + j.val) :
    rightT m c t (ix2 r j) = right m c (ix2 x y) := by
  obtain ⟨-, e0, e1⟩ := place t
  refine congrArg (m (c.tc.loc main_arg1)) (idx_ext ?_ ?_)
  · show win0_1.index t (0 : Fin 2) * 1024 + 1 * r.val = x.val; omega
  · show win0_1.index t (1 : Fin 2) * 2304 + 1 * j.val = y.val; omega

/-- The kernel's result at an entry: the sum over all tokens. -/
theorem result_at (i : Fin 1024) (j : Fin 9216) :
    Value.G2 m c (ix2 i j) = ∑ x : Fin 16384, left m c (ix2 x i) * right m c (ix2 x j) := by
  have hi := i.isLt
  have hj := j.isLt
  have hN : cfg0.N = 64 := N_0
  have hr : Value.run2Of (ix2 i j) = j.val / 2304 := by
    show 4 * (i.val / 1024 - 0) + 1 * (j.val / 2304 - 0) = _
    omega
  have hB : 16 * Value.run2Of (ix2 i j) + 15 < cfg0.N := by rw [hr]; omega
  unfold Value.G2
  rw [dif_pos hB]
  refine acc_tiles _ _ (fun k h (p : S1024x2304.Idx) (r : Fin 1024) => leftT m c ⟨k, h⟩ (ix2 r (p 0)) * rightT m c ⟨k, h⟩ (ix2 r (p 1)))
    _ hB _ (fun h p => ?_) (fun k h a p => ?_) (by norm_num)
    (fun x : Fin 16384 => left m c (ix2 x i) * right m c (ix2 x j)) fun s hs r x hx => ?_
  · rw [eq_ix2 p]
    unfold Value.reset2
    exact (step_at _ _ _ _ _).trans (congrArg (· + _) (start_at _ _))
  · rw [eq_ix2 p]
    unfold Value.step2
    exact step_at _ _ _ _ _
  · have hm : (16 * Value.run2Of (ix2 i j) + s) % 16 = s := by omega
    have hd : (16 * Value.run2Of (ix2 i j) + s) / 16 = j.val / 2304 := by omega
    have e : (Value.loc2Of (ix2 i j)) 0 = i := Fin.ext (show i.val % 1024 = i.val by omega)
    have e0 := left_at m c ⟨16 * Value.run2Of (ix2 i j) + s, by omega⟩ r i x (by show _ = 1024 * (_ % 16) + _; rw [hm]; exact hx)
    have e1 := right_at m c ⟨16 * Value.run2Of (ix2 i j) + s, by omega⟩ r ((Value.loc2Of (ix2 i j)) 1) x j
      (by show _ = 1024 * (_ % 16) + _; rw [hm]; exact hx)
      (by show j.val = 2304 * (_ / 16) + j.val % 2304; rw [hd]; omega)
    show leftT m c _ (ix2 r ((Value.loc2Of (ix2 i j)) 0)) * rightT m c _ _ = _
    rw [e, e0, e1]

end Kernel

section Reference

open Cert.Reference2Ideal Cert.Reference2Ideal.Gen

/-- The reference's result at an entry. -/
theorem reference_at (a : FVec Ideal Cert.Reference2Ideal.S16384x1024 .bf16) (b : FVec Ideal Cert.Reference2Ideal.S16384x9216 .bf16)
    (i : Fin 1024) (j : Fin 9216) :
    transpose Cert.Reference2Ideal.S1024x9216 [1, 0] (Host.dotGeneral Cert.Reference2Ideal.dot_S16384x9216_S16384x1024_S9216x1024_0_0_1_1_n_n none
      (extf .f32 b Cert.Reference2Ideal.Facts₀.bitsLt_bf16_f32) (extf .f32 a Cert.Reference2Ideal.Facts₀.bitsLt_bf16_f32))
      Cert.Reference2Ideal.Facts₀.transposes_S9216x1024_S1024x9216_1_0 (ix2 i j)
    = ∑ x : Fin 16384, a (ix2 x i) * b (ix2 x j) := by
  refine Eq.trans (b := ∑ x : Fin 16384, b (ix2 x j) * a (ix2 x i)) (by pointwise) (Finset.sum_congr rfl fun x _ => mul_comm _ _)

end Reference

end Cert.Proof.DwMain

namespace Cert.Proof

open Idealize.ShloMosaic Idealize.ShloMosaic.TcCoe Idealize.SL.Sem

theorem frame_reference2 [Cert.Reference2Ideal.Facts] : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The value claim: both leave the sum over all tokens. -/
theorem algebraic2 [Cert.Kernel2Ideal.Facts] [Cert.Reference2Ideal.Facts] : Cert.algebraic_Kernel2Ideal_Reference2Ideal :=
  fun m g m' g' _ ha => ⟨fun c => Cert.Kernel2Ideal.Value.G2 m c, Cert.Kernel2Ideal.Value.run m g,
    (θ_run Cert.Reference2Ideal.defs _ _).mono (fun r h c => ⟨(h c).1.trans (by
      rw [(ha c).1, (ha c).2]
      funext p
      rw [ValueIdx.eq_ix2 p]
      exact (DwMain.reference_at _ _ _ _).trans (DwMain.result_at m c _ _).symm), (h c).2⟩)
      (Cert.Reference2Ideal.Value.run (F := Ideal) m' g')⟩

end Cert.Proof

end
-- ==== Proof.ProjBwd.lean ====
/- The gradient passed back through the input projection: each block is summed over three tiles, then added to what was there. -/
module

public import proofs.«01_k».proof.Proof.Tiles
public import proofs.«01_k».proof.Proof.Gen.Kernel3.Frame
public import proofs.«01_k».proof.Proof.Gen.Kernel3Ideal.Value
public import proofs.«01_k».proof.Proof.Gen.Reference3Ideal.Run

@[expose] public section

set_option maxRecDepth 16384

noncomputable section

namespace Cert.Proof.ProjBwd

open Cert.Kernel3Ideal Cert.Kernel3Ideal.Gen
open Idealize.ShloMosaic Idealize.ShloMosaic.TcCoe Idealize.SL.Sem

section Kernel

variable (m : (ℓ : Loc nD τ sig) → Buf (Elt Ideal) ℓ) (c : Dev nD)

/-- The cotangent of the projection, one row per token. -/
abbrev left : S16384x9216.Idx → EReal := m ((c : Thread nD τ).loc main_arg0)
/-- The weights. -/
abbrev right : S1024x9216.Idx → EReal := m ((c : Thread nD τ).loc main_arg1)
/-- What the product is added to. -/
abbrev base : S16384x1024.Idx → EReal := m ((c : Thread nD τ).loc main_arg2)
/-- The bands of the three at a grid point. -/
abbrev leftT (t : Fin cfg0.N) : S1024x3072.Idx → EReal := iblk m c 0 t
abbrev rightT (t : Fin cfg0.N) : S1024x3072.Idx → EReal := iblk m c 1 t
abbrev baseT (t : Fin cfg0.N) : S1024x1024.Idx → EReal := iblk m c 2 t

/-- The product of the two arrays, by rows of both, added to the third. -/
def product : Buf (Elt Ideal) ((c : Thread nD τ).loc main_v0) :=
  fun (p : S16384x1024.Idx) => (base m c p + ∑ x : Fin 9216, left m c (ix2 (p 0) x) * right m c (ix2 (p 1) x) : EReal)

/-- One step adds the product of two tiles. -/
theorem step_at (a : Vec Ideal S1024x1024 .f32) (x y : Vec Ideal S1024x3072 .bf16) (i j : Fin 1024) :
    k0_pay2 a x y (ix2 i j) = a (ix2 i j) + ∑ r : Fin 3072, x (ix2 i r) * y (ix2 j r) := by
  pointwise [k0_pay2]
/-- A block starts at zero. -/
theorem start_at (i j : Fin 1024) : k0_pay1 (F := Ideal) (ix2 i j) = 0 := by
  pointwise [k0_pay1]
/-- The last step adds what was there. -/
theorem last_at (a z : Vec Ideal S1024x1024 .f32) (i j : Fin 1024) : k0_pay3 a z (ix2 i j) = a (ix2 i j) + z (ix2 i j) := by
  pointwise [k0_pay3]

/-- The sum after the first, a middle and the last point of a block. -/
theorem sum_first (t : Fin cfg0.N) (h : t.val % 3 = 0) :
    (outsAt0 m c t.val t.isLt).2 = k0_pay2 (k0_pay1 (F := Ideal)) (iblk m c 0 t) (iblk m c 1 t) := by
  rw [outsAt0_A m c t h (by omega)]
  frame_out
theorem sum_next (t : Fin cfg0.N) (h : t.val % 3 = 1) :
    (outsAt0 m c t.val t.isLt).2 = k0_pay2 (outsAt0 m c (t.val - 1) (by omega)).2 (iblk m c 0 t) (iblk m c 1 t) := by
  rw [outsAt0_B m c t (by omega) (by omega)]
  frame_out
  exact congrArg (k0_pay2 · _ _) ((Memref.isWhole_whole cc0_scratch0).read_unread _)
theorem sum_last (t : Fin cfg0.N) (h : t.val % 3 = 2) :
    (outsAt0 m c t.val t.isLt).1 = k0_pay3 (k0_pay2 (outsAt0 m c (t.val - 1) (by omega)).2 (iblk m c 0 t) (iblk m c 1 t)) (iblk m c 2 t) := by
  rw [outsAt0_C m c t (by omega) h]
  frame_out
  exact congrArg (fun a => k0_pay3 (k0_pay2 a _ _) _) ((Memref.isWhole_whole cc0_scratch0).read_unread _)

/-- Where the blocks of the four arrays lie. -/
theorem place : ∀ t : Fin cfg0.N, (win0_0.index t (0 : Fin 2) = t.val / 3 ∧ win0_0.index t (1 : Fin 2) = t.val % 3)
    ∧ (win0_1.index t (0 : Fin 2) = 0 ∧ win0_1.index t (1 : Fin 2) = t.val % 3)
    ∧ (win0_2.index t (0 : Fin 2) = t.val / 3 ∧ win0_2.index t (1 : Fin 2) = 0)
    ∧ win0_3.index t (0 : Fin 2) = t.val / 3 ∧ win0_3.index t (1 : Fin 2) = 0 :=
  (by decide +kernel : ∀ t : Fin grid0.N, _)
/-- Only a block's last point writes it back. -/
theorem writes : ∀ t : Fin cfg0.N, (cfg0.win 3).flush t = true → t.val % 3 = 2 :=
  (by decide +kernel : ∀ t : Fin grid0.N, (cfg0.win 3).flush t = true → t.val % 3 = 2)

theorem left_at (t : Fin cfg0.N) (i : Fin 1024) (r : Fin 3072) (x : Fin 16384) (z : Fin 9216)
    (hx : x.val = 1024 * (t.val / 3) + i.val) (hz : z.val = 3072 * (t.val % 3) + r.val) : leftT m c t (ix2 i r) = left m c (ix2 x z) := by
  obtain ⟨⟨e0, e1⟩, -⟩ := place t
  refine congrArg (m (c.tc.loc main_arg0)) (idx_ext ?_ ?_)
  · show win0_0.index t (0 : Fin 2) * 1024 + 1 * i.val = x.val; omega
  · show win0_0.index t (1 : Fin 2) * 3072 + 1 * r.val = z.val; omega

theorem right_at (t : Fin cfg0.N) (j : Fin 1024) (r : Fin 3072) (y : Fin 1024) (z : Fin 9216) (hy : y.val = j.val)
    (hz : z.val = 3072 * (t.val % 3) + r.val) : rightT m c t (ix2 j r) = right m c (ix2 y z) := by
  obtain ⟨-, ⟨e0, e1⟩, -⟩ := place t
  refine congrArg (m (c.tc.loc main_arg1)) (idx_ext ?_ ?_)
  · show win0_1.index t (0 : Fin 2) * 1024 + 1 * j.val = y.val; omega
  · show win0_1.index t (1 : Fin 2) * 3072 + 1 * r.val = z.val; omega

theorem base_at (t : Fin cfg0.N) (i j : Fin 1024) (p : S16384x1024.Idx) (hx : (p 0).val = 1024 * (t.val / 3) + i.val) (hy : (p 1).val = j.val) :
    baseT m c t (ix2 i j) = base m c p := by
  obtain ⟨-, -, ⟨e0, e1⟩, -⟩ := place t
  refine congrArg (m (c.tc.loc main_arg2)) (idx_ext ?_ ?_)
  · show win0_2.index t (0 : Fin 2) * 1024 + 1 * i.val = (p 0).val; omega
  · show win0_2.index t (1 : Fin 2) * 1024 + 1 * j.val = (p 1).val; omega

/-- What a point of a block adds at an entry of it. -/
def part (n : ℕ) (i j : Fin 1024) : EReal :=
  if h : n < cfg0.N then ∑ r : Fin 3072, leftT m c ⟨n, h⟩ (ix2 i r) * rightT m c ⟨n, h⟩ (ix2 j r) else 0
theorem part_eq (t : Fin cfg0.N) (i j : Fin 1024) : part m c t.val i j = ∑ r : Fin 3072, leftT m c t (ix2 i r) * rightT m c t (ix2 j r) :=
  dif_pos t.isLt

/-- A block's last point leaves the three points' parts and what was there. -/
theorem block_at (t : Fin cfg0.N) (h : t.val % 3 = 2) (i j : Fin 1024) :
    (outsAt0 m c t.val t.isLt).1 (ix2 i j) = (∑ s ∈ Finset.range 3, part m c (3 * (t.val / 3) + s) i j) + baseT m c t (ix2 i j) := by
  have ht := t.isLt
  have e0 : (outsAt0 m c (t.val - 2) (by omega)).2 (ix2 i j) = part m c (3 * (t.val / 3) + 0) i j := by
    rw [sum_first m c ⟨t.val - 2, by omega⟩ (by show (t.val - 2) % 3 = 0; omega)]
    refine (step_at _ _ _ _ _).trans ?_
    rw [start_at, zero_add, show 3 * (t.val / 3) + 0 = t.val - 2 by omega]
    exact (part_eq m c ⟨t.val - 2, by omega⟩ i j).symm
  have e1 : (outsAt0 m c (t.val - 1) (by omega)).2 (ix2 i j) = part m c (3 * (t.val / 3) + 0) i j + part m c (3 * (t.val / 3) + 1) i j := by
    rw [sum_next m c ⟨t.val - 1, by omega⟩ (by show (t.val - 1) % 3 = 1; omega)]
    refine (step_at _ _ _ _ _).trans (congrArg₂ (· + ·) e0 ?_)
    rw [show 3 * (t.val / 3) + 1 = t.val - 1 by omega]
    exact (part_eq m c ⟨t.val - 1, by omega⟩ i j).symm
  rw [sum_last m c t h]
  refine (last_at _ _ _ _).trans (congrArg (· + _) ((step_at _ _ _ _ _).trans ?_))
  rw [Finset.sum_range_succ, Finset.sum_range_succ, Finset.sum_range_succ, Finset.sum_range_zero, zero_add]
  refine congrArg₂ (· + ·) e1 ?_
  rw [show 3 * (t.val / 3) + 2 = t.val by omega]
  exact (part_eq m c t i j).symm

/-- The kernel's result is the sum. -/
theorem result : (dats m 0 c).arrAt 3 cfg0.N = product m c := by
  refine (dats m 0 c).arrAt_eq_of_covers 3 _ (by decide +kernel) fun t hf y => ?_
  have h2 := writes t hf
  have ht := t.isLt
  blk_simp
  rw [after0_3]
  obtain ⟨-, -, -, e0, e1⟩ := place t
  have h0 : ((((cfg0.win 3).blk t).view.emb (ix2 (y 0) (y 1))) 0).val = 1024 * (t.val / 3) + (y 0).val := by
    show win0_3.index t (0 : Fin 2) * 1024 + 1 * (y 0).val = _
    omega
  have h1 : ((((cfg0.win 3).blk t).view.emb (ix2 (y 0) (y 1))) 1).val = (y 1).val := by
    show win0_3.index t (1 : Fin 2) * 1024 + 1 * (y 1).val = _
    omega
  rw [ValueIdx.eq_ix2 y]
  refine (block_at m c t h2 _ _).trans ((add_comm _ _).trans (congrArg₂ (· + ·) (base_at m c t _ _ _ h0 h1) ?_))
  refine sum_tiles (b := 3072) (by norm_num) _ _ fun s hs => ?_
  unfold part
  rw [dif_pos (by omega : 3 * (t.val / 3) + s < cfg0.N)]
  have hd : (3 * (t.val / 3) + s) / 3 = t.val / 3 := by omega
  have hm : (3 * (t.val / 3) + s) % 3 = s := by omega
  refine Finset.sum_congr rfl fun r _ => congrArg₂ (· * ·) (left_at m c _ _ r _ _ ?_ ?_) (right_at m c _ _ r _ _ h1 ?_)
  · refine h0.trans ?_; show _ = 1024 * ((3 * (t.val / 3) + s) / 3) + _; rw [hd]
  · show _ = 3072 * ((3 * (t.val / 3) + s) % 3) + _; rw [hm]
  · show _ = 3072 * ((3 * (t.val / 3) + s) % 3) + _; rw [hm]

end Kernel

section Reference

/-- The reference's result at an entry. -/
theorem reference_at (a : FVec Ideal Cert.Reference3Ideal.S16384x9216 .bf16) (b : FVec Ideal Cert.Reference3Ideal.S1024x9216 .bf16)
    (z : FVec Ideal Cert.Reference3Ideal.S16384x1024 .f32) (i : Fin 16384) (j : Fin 1024) :
    addf z (Host.dotGeneral Cert.Reference3Ideal.dot_S16384x9216_S1024x9216_S16384x1024_1_1_0_0_n_n none
      (extf .f32 a Cert.Reference3Ideal.Facts₀.bitsLt_bf16_f32) (extf .f32 b Cert.Reference3Ideal.Facts₀.bitsLt_bf16_f32)) (ix2 i j)
    = z (ix2 i j) + ∑ x : Fin 9216, a (ix2 i x) * b (ix2 j x) := by
  pointwise

end Reference

end Cert.Proof.ProjBwd

namespace Cert.Proof

open Idealize.ShloMosaic Idealize.ShloMosaic.TcCoe Idealize.SL.Sem

theorem frame_reference3 [Cert.Reference3Ideal.Facts] : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The value claim: both leave the sum. -/
theorem algebraic3 [Cert.Kernel3Ideal.Facts] [Cert.Reference3Ideal.Facts] : Cert.algebraic_Kernel3Ideal_Reference3Ideal :=
  fun m g m' g' _ ha => ⟨fun c => ProjBwd.product m c,
    (θ_run Cert.Kernel3Ideal.defs _ _).mono (fun r h c => ⟨(h c).1.trans (ProjBwd.result m c), (h c).2⟩) (Cert.Kernel3Ideal.Value.run_blocks m g),
    (θ_run Cert.Reference3Ideal.defs _ _).mono (fun r h c => ⟨(h c).1.trans (by
      rw [(ha c).1, (ha c).2.1, (ha c).2.2]
      funext p
      rw [ValueIdx.eq_ix2 p]
      exact ProjBwd.reference_at _ _ _ _ _), (h c).2⟩)
      (Cert.Reference3Ideal.Value.run (F := Ideal) m' g')⟩

end Cert.Proof

end
-- ==== Proof.Proj.lean ====
/- The input projection: every block of the result is the product of a band of rows by a band of columns. -/
module

public import proofs.«01_k».proof.Proof.Tiles
public import proofs.«01_k».proof.Proof.Gen.Kernel4.Frame
public import proofs.«01_k».proof.Proof.Gen.Kernel4Ideal.Value
public import proofs.«01_k».proof.Proof.Gen.Reference4Ideal.Run

@[expose] public section

set_option maxRecDepth 16384

noncomputable section

namespace Cert.Proof.Proj

open Cert.Kernel4Ideal Cert.Kernel4Ideal.Gen
open Idealize.ShloMosaic Idealize.ShloMosaic.TcCoe Idealize.SL.Sem

section Kernel

variable (m : (ℓ : Loc nD τ sig) → Buf (Elt Ideal) ℓ) (c : Dev nD)

/-- The activations, one row per token. -/
abbrev left : S16384x1024.Idx → EReal := m ((c : Thread nD τ).loc main_arg0)
/-- The weights. -/
abbrev right : S1024x9216.Idx → EReal := m ((c : Thread nD τ).loc main_arg1)
/-- The bands of the two at a grid point. -/
abbrev leftT (t : Fin cfg0.N) : S2048x1024.Idx → EReal := iblk m c 0 t
abbrev rightT (t : Fin cfg0.N) : S1024x1024.Idx → EReal := iblk m c 1 t

/-- The product of the two arrays. -/
def product : Buf (Elt Ideal) ((c : Thread nD τ).loc main_v0) :=
  fun (p : S16384x9216.Idx) => (∑ x : Fin 1024, left m c (ix2 (p 0) x) * right m c (ix2 x (p 1)) : EReal)

/-- A block is the product of two bands. -/
theorem block_at (x : Vec Ideal S2048x1024 .bf16) (y : Vec Ideal S1024x1024 .bf16) (i : Fin 2048) (j : Fin 1024) :
    k0_pay1 x y (ix2 i j) = ∑ r : Fin 1024, x (ix2 i r) * y (ix2 r j) := by
  pointwise [k0_pay1]

/-- Where the blocks of the three arrays lie. -/
theorem place : ∀ t : Fin cfg0.N, (win0_0.index t (0 : Fin 2) = t.val / 9 ∧ win0_0.index t (1 : Fin 2) = 0)
    ∧ (win0_1.index t (0 : Fin 2) = 0 ∧ win0_1.index t (1 : Fin 2) = t.val % 9)
    ∧ win0_2.index t (0 : Fin 2) = t.val / 9 ∧ win0_2.index t (1 : Fin 2) = t.val % 9 :=
  (by decide +kernel : ∀ t : Fin grid0.N, _)

theorem left_at (t : Fin cfg0.N) (i : Fin 2048) (r : Fin 1024) (x : Fin 16384) (hx : x.val = 2048 * (t.val / 9) + i.val) :
    leftT m c t (ix2 i r) = left m c (ix2 x r) := by
  obtain ⟨⟨e0, e1⟩, -⟩ := place t
  refine congrArg (m (c.tc.loc main_arg0)) (idx_ext ?_ ?_)
  · show win0_0.index t (0 : Fin 2) * 2048 + 1 * i.val = x.val; omega
  · show win0_0.index t (1 : Fin 2) * 1024 + 1 * r.val = r.val; omega

theorem right_at (t : Fin cfg0.N) (r : Fin 1024) (j : Fin 1024) (y : Fin 9216) (hy : y.val = 1024 * (t.val % 9) + j.val) :
    rightT m c t (ix2 r j) = right m c (ix2 r y) := by
  obtain ⟨-, ⟨e0, e1⟩, -⟩ := place t
  refine congrArg (m (c.tc.loc main_arg1)) (idx_ext ?_ ?_)
  · show win0_1.index t (0 : Fin 2) * 1024 + 1 * r.val = r.val; omega
  · show win0_1.index t (1 : Fin 2) * 1024 + 1 * j.val = y.val; omega

/-- The kernel's result is the product. -/
theorem result : (dats m 0 c).arrAt 2 cfg0.N = product m c := by
  refine (dats m 0 c).arrAt_eq_of_covers 2 _ (by decide +kernel) fun t hf y => ?_
  blk_simp
  rw [after0_2]
  frame_out
  obtain ⟨-, -, e0, e1⟩ := place t
  rw [ValueIdx.eq_ix2 y]
  refine (block_at _ _ _ _).trans (Finset.sum_congr rfl fun r _ => ?_)
  refine congrArg₂ (· * ·) ((left_at m c t _ r ((((cfg0.win 2).blk t).view.emb (ix2 (y 0) (y 1))) 0) ?_)) ((right_at m c t r _ ((((cfg0.win 2).blk t).view.emb (ix2 (y 0) (y 1))) 1) ?_))
  · show win0_2.index t (0 : Fin 2) * 2048 + 1 * (y 0).val = _
    omega
  · show win0_2.index t (1 : Fin 2) * 1024 + 1 * (y 1).val = _
    omega

end Kernel

section Reference

/-- The reference's result at an entry. -/
theorem reference_at (a : FVec Ideal Cert.Reference4Ideal.S16384x1024 .bf16) (b : FVec Ideal Cert.Reference4Ideal.S1024x9216 .bf16)
    (i : Fin 16384) (j : Fin 9216) :
    Host.dotGeneral Cert.Reference4Ideal.dot_S16384x1024_S1024x9216_S16384x9216_1_0_0_1_n_n none
      (extf .f32 a Cert.Reference4Ideal.Facts₀.bitsLt_bf16_f32) (extf .f32 b Cert.Reference4Ideal.Facts₀.bitsLt_bf16_f32) (ix2 i j)
    = ∑ x : Fin 1024, a (ix2 i x) * b (ix2 x j) := by
  pointwise

end Reference

end Cert.Proof.Proj

namespace Cert.Proof

open Idealize.ShloMosaic Idealize.ShloMosaic.TcCoe Idealize.SL.Sem

theorem frame_reference4 [Cert.Reference4Ideal.Facts] : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The value claim: both leave the product. -/
theorem algebraic4 [Cert.Kernel4Ideal.Facts] [Cert.Reference4Ideal.Facts] : Cert.algebraic_Kernel4Ideal_Reference4Ideal :=
  fun m g m' g' _ ha => ⟨fun c => Proj.product m c,
    (θ_run Cert.Kernel4Ideal.defs _ _).mono (fun r h c => ⟨(h c).1.trans (Proj.result m c), (h c).2⟩) (Cert.Kernel4Ideal.Value.run_blocks m g),
    (θ_run Cert.Reference4Ideal.defs _ _).mono (fun r h c => ⟨(h c).1.trans (by
      rw [(ha c).1, (ha c).2]
      funext p
      rw [ValueIdx.eq_ix2 p]
      exact Proj.reference_at _ _ _ _), (h c).2⟩)
      (Cert.Reference4Ideal.Value.run (F := Ideal) m' g')⟩

end Cert.Proof

end
-- ==== Proof.DwDown.lean ====
/- The gradient of the MLP's second weights: the product over all tokens, added up tile by tile, is one sum. -/
module

public import proofs.«01_k».proof.Proof.Tiles
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

namespace Cert.Proof.DwDown

open Cert.Kernel5Ideal Cert.Kernel5Ideal.Gen
open Idealize.ShloMosaic Idealize.ShloMosaic.TcCoe Idealize.SL.Sem

section Kernel

variable (m : (ℓ : Loc nD τ sig) → Buf (Elt Ideal) ℓ) (c : Dev nD)

/-- The hidden layer's values, one row per token. -/
abbrev left : S16384x4096.Idx → EReal := m ((c : Thread nD τ).loc main_arg0)
/-- The cotangent of the MLP's output, one row per token. -/
abbrev right : S16384x1024.Idx → EReal := m ((c : Thread nD τ).loc main_arg1)
/-- The tiles of the two at a grid point. -/
abbrev leftT (t : Fin cfg0.N) : S2048x2048.Idx → EReal := iblk m c 0 t
abbrev rightT (t : Fin cfg0.N) : S2048x1024.Idx → EReal := iblk m c 1 t

/-- One step adds the product of two tiles. -/
theorem step_at (a : Vec Ideal S2048x1024 .f32) (x : Vec Ideal S2048x2048 .bf16) (y : Vec Ideal S2048x1024 .bf16)
    (i : Fin 2048) (j : Fin 1024) : k0_pay2 a x y (ix2 i j) = a (ix2 i j) + ∑ r : Fin 2048, x (ix2 r i) * y (ix2 r j) := by
  pointwise [k0_pay2]
/-- A tile starts at zero. -/
theorem start_at (i : Fin 2048) (j : Fin 1024) : k0_pay1 (F := Ideal) (ix2 i j) = 0 := by
  pointwise [k0_pay1]

/-- Where the tiles of the two arguments lie. -/
theorem place : ∀ t : Fin cfg0.N, (win0_0.index t (0 : Fin 2) = t.val % 8 ∧ win0_0.index t (1 : Fin 2) = t.val / 8)
    ∧ win0_1.index t (0 : Fin 2) = t.val % 8 ∧ win0_1.index t (1 : Fin 2) = 0 :=
  (by decide +kernel : ∀ t : Fin grid0.N, _)

theorem left_at (t : Fin cfg0.N) (r i : Fin 2048) (x : Fin 16384) (y : Fin 4096)
    (hx : x.val = 2048 * (t.val % 8) + r.val) (hy : y.val = 2048 * (t.val / 8) + i.val) :
    leftT m c t (ix2 r i) = left m c (ix2 x y) := by
  obtain ⟨⟨e0, e1⟩, -⟩ := place t
  refine congrArg (m (c.tc.loc main_arg0)) (idx_ext ?_ ?_)
  · show win0_0.index t (0 : Fin 2) * 2048 + 1 * r.val = x.val; omega
  · show win0_0.index t (1 : Fin 2) * 2048 + 1 * i.val = y.val; omega

theorem right_at (t : Fin cfg0.N) (r : Fin 2048) (j : Fin 1024) (x : Fin 16384)
    (hx : x.val = 2048 * (t.val % 8) + r.val) : rightT m c t (ix2 r j) = right m c (ix2 x j) := by
  obtain ⟨-, e0, e1⟩ := place t
  refine congrArg (m (c.tc.loc main_arg1)) (idx_ext ?_ ?_)
  · show win0_1.index t (0 : Fin 2) * 2048 + 1 * r.val = x.val; omega
  · show win0_1.index t (1 : Fin 2) * 1024 + 1 * j.val = j.val; omega

/-- The kernel's result at an entry: the sum over all tokens. -/
theorem result_at (i : Fin 4096) (j : Fin 1024) :
    Value.G2 m c (ix2 i j) = ∑ x : Fin 16384, left m c (ix2 x i) * right m c (ix2 x j) := by
  have hi := i.isLt
  have hj := j.isLt
  have hN : cfg0.N = 16 := N_0
  have hr : Value.run2Of (ix2 i j) = i.val / 2048 := by
    show 1 * (i.val / 2048 - 0) + 1 * (j.val / 1024 - 0) = _
    omega
  have hB : 8 * Value.run2Of (ix2 i j) + 7 < cfg0.N := by rw [hr]; omega
  unfold Value.G2
  rw [dif_pos hB]
  refine acc_tiles _ _ (fun k h (p : S2048x1024.Idx) (r : Fin 2048) => leftT m c ⟨k, h⟩ (ix2 r (p 0)) * rightT m c ⟨k, h⟩ (ix2 r (p 1)))
    _ hB _ (fun h p => ?_) (fun k h a p => ?_) (by norm_num)
    (fun x : Fin 16384 => left m c (ix2 x i) * right m c (ix2 x j)) fun s hs r x hx => ?_
  · rw [eq_ix2 p]
    unfold Value.reset2
    exact (step_at _ _ _ _ _).trans (congrArg (· + _) (start_at _ _))
  · rw [eq_ix2 p]
    unfold Value.step2
    exact step_at _ _ _ _ _
  · have hm : (8 * Value.run2Of (ix2 i j) + s) % 8 = s := by omega
    have hd : (8 * Value.run2Of (ix2 i j) + s) / 8 = i.val / 2048 := by omega
    have e : (Value.loc2Of (ix2 i j)) 1 = j := Fin.ext (show j.val % 1024 = j.val by omega)
    have e0 := left_at m c ⟨8 * Value.run2Of (ix2 i j) + s, by omega⟩ r ((Value.loc2Of (ix2 i j)) 0) x i
      (by show _ = 2048 * (_ % 8) + _; rw [hm]; exact hx)
      (by show i.val = 2048 * (_ / 8) + i.val % 2048; rw [hd]; omega)
    have e1 := right_at m c ⟨8 * Value.run2Of (ix2 i j) + s, by omega⟩ r j x (by show _ = 2048 * (_ % 8) + _; rw [hm]; exact hx)
    show leftT m c _ _ * rightT m c _ (ix2 r ((Value.loc2Of (ix2 i j)) 1)) = _
    rw [e, e0, e1]

end Kernel

section Reference

open Cert.Reference5Ideal Cert.Reference5Ideal.Gen

/-- The reference's result at an entry. -/
theorem reference_at (a : FVec Ideal Cert.Reference5Ideal.S16384x4096 .bf16) (b : FVec Ideal Cert.Reference5Ideal.S16384x1024 .bf16)
    (i : Fin 4096) (j : Fin 1024) :
    transpose Cert.Reference5Ideal.S4096x1024 [1, 0] (Host.dotGeneral Cert.Reference5Ideal.dot_S16384x1024_S16384x4096_S1024x4096_0_0_1_1_n_n none
      (extf .f32 b Cert.Reference5Ideal.Facts₀.bitsLt_bf16_f32) (extf .f32 a Cert.Reference5Ideal.Facts₀.bitsLt_bf16_f32))
      Cert.Reference5Ideal.Facts₀.transposes_S1024x4096_S4096x1024_1_0 (ix2 i j)
    = ∑ x : Fin 16384, a (ix2 x i) * b (ix2 x j) := by
  refine Eq.trans (b := ∑ x : Fin 16384, b (ix2 x j) * a (ix2 x i)) (by pointwise) (Finset.sum_congr rfl fun x _ => mul_comm _ _)

end Reference

end Cert.Proof.DwDown

namespace Cert.Proof

open Idealize.ShloMosaic Idealize.ShloMosaic.TcCoe Idealize.SL.Sem

theorem frame_reference5 [Cert.Reference5Ideal.Facts] : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The value claim: both leave the sum over all tokens. -/
theorem algebraic5 [Cert.Kernel5Ideal.Facts] [Cert.Reference5Ideal.Facts] : Cert.algebraic_Kernel5Ideal_Reference5Ideal :=
  fun m g m' g' _ ha => ⟨fun c => Cert.Kernel5Ideal.Value.G2 m c, Cert.Kernel5Ideal.Value.run m g,
    (θ_run Cert.Reference5Ideal.defs _ _).mono (fun r h c => ⟨(h c).1.trans (by
      rw [(ha c).1, (ha c).2]
      funext p
      rw [ValueIdx.eq_ix2 p]
      exact (DwDown.reference_at _ _ _ _).trans (DwDown.result_at m c _ _).symm), (h c).2⟩)
      (Cert.Reference5Ideal.Value.run (F := Ideal) m' g')⟩

end Cert.Proof

end
-- ==== Proof.DownBwd.lean ====
/- The gradient passed back through the MLP's second product and the squared rectifier, and its sum over tokens in eight rows. -/
module

public import proofs.«01_k».proof.Proof.Tiles
public import proofs.«01_k».proof.Proof.Gen.Kernel6.Frame
public import proofs.«01_k».proof.Proof.Gen.Kernel6Ideal.Value
public import proofs.«01_k».proof.Proof.Gen.Reference6Ideal.Run

@[expose] public section

set_option maxRecDepth 16384

noncomputable section

namespace Cert.Proof.DownBwd

/-- The factor of the squared rectifier's derivative, as both programs write it. -/
abbrev two : EReal := Idealize.ShloMosaic.Ideal.ofBits .f32 0x40000000#32

end Cert.Proof.DownBwd

namespace Cert.Proof.DownBwd

open Cert.Kernel6Ideal Cert.Kernel6Ideal.Gen
open Idealize.ShloMosaic Idealize.ShloMosaic.TcCoe Idealize.SL.Sem

section Kernel

variable (m : (ℓ : Loc nD τ sig) → Buf (Elt Ideal) ℓ) (c : Dev nD)

/-- The pre-activations, the weights, and the cotangent of the output. -/
abbrev pre : S16384x4096.Idx → EReal := m ((c : Thread nD τ).loc main_arg0)
abbrev weight : S4096x1024.Idx → EReal := m ((c : Thread nD τ).loc main_arg1)
abbrev cot : S16384x1024.Idx → EReal := m ((c : Thread nD τ).loc main_arg2)
/-- The bands of the three at a grid point; the third is the rectifier's derivative. -/
abbrev cotT (t : Fin cfg0.N) : S2048x1024.Idx → EReal := iblk m c 0 t
abbrev weightT (t : Fin cfg0.N) : S1024x1024.Idx → EReal := iblk m c 1 t
abbrev slopeT (t : Fin cfg0.N) : S2048x1024.Idx → EReal := iblk m c 2 t

/-- The gradient at a token and a unit. -/
def grad (i : Fin 16384) (j : Fin 4096) : EReal :=
  (∑ x : Fin 1024, cot m c (ix2 i x) * weight m c (ix2 j x)) * (two * max (pre m c (ix2 i j)) 0)
/-- The gradient, and its sum over tokens in the first of eight rows. -/
def grads : Buf (Elt Ideal) ((c : Thread nD τ).loc main_v5_0) := fun (p : S16384x4096.Idx) => (grad m c (p 0) (p 1) : EReal)
def sums : Buf (Elt Ideal) ((c : Thread nD τ).loc main_v5_1) :=
  fun (p : S8x4096.Idx) => (if (p 0).val = 0 then ∑ x : Fin 16384, grad m c x (p 1) else 0 : EReal)

/-- Whether a row is the first of the eight, as a bit. -/
theorem isFirst : ∀ i : Fin 8, IntOp.cmpi .eq (BitVec.ofNat 32 i.val) 0#32 = if i.val = 0 then 1#1 else 0#1 := by decide

/-- A block from its bands, and what it adds to the rows. -/
theorem block_at (x : Vec Ideal S2048x1024 .bf16) (y : Vec Ideal S1024x1024 .bf16) (z : Vec Ideal S2048x1024 .bf16) (i : Fin 2048) (j : Fin 1024) :
    k0_pay4 x y z (ix2 i j) = (∑ r : Fin 1024, x (ix2 i r) * y (ix2 j r)) * z (ix2 i j) := by
  pointwise [k0_pay4, k0_pay1]
theorem step_at (x : Vec Ideal S2048x1024 .bf16) (y : Vec Ideal S1024x1024 .bf16) (z : Vec Ideal S2048x1024 .bf16) (a : Vec Ideal S8x1024 .f32)
    (i : Fin 8) (j : Fin 1024) : k0_pay3 x y z a (ix2 i j) = a (ix2 i j)
      + if i.val = 0 then ∑ s : Fin 2048, (∑ r : Fin 1024, x (ix2 s r) * y (ix2 j r)) * z (ix2 s j) else 0 := by
  pointwise [k0_pay3, k0_pay1]
  rw [isFirst]
  by_cases h : i.val = 0
  · rw [if_pos h, if_pos h]; rfl
  · rw [if_neg h, if_neg h]; rfl
theorem start_at (i : Fin 8) (j : Fin 1024) : k0_pay2 (F := Ideal) (ix2 i j) = 0 := by
  pointwise [k0_pay2]

/-- The slope as the call reads it. -/
theorem slope_eq (p : S16384x4096.Idx) : (V m c main_v4 : S16384x4096.Idx → EReal) p = two * max (pre m c p) 0 := by
  entry_read
  rw [ValueIdx.eq_ix2 p]
  pointwise

/-- What the two outputs hold after a point. -/
theorem block_of (t : Fin cfg0.N) : (outsAt0 m c t.val t.isLt).1 = k0_pay4 (iblk m c 0 t) (iblk m c 1 t) (iblk m c 2 t) := by
  by_cases h : t.val % 8 = 0
  · rw [outsAt0_A m c t h]
    frame_out
  · rw [outsAt0_B m c t h]
    frame_out
theorem rows_first (t : Fin cfg0.N) (h : t.val % 8 = 0) :
    (outsAt0 m c t.val t.isLt).2 = k0_pay3 (iblk m c 0 t) (iblk m c 1 t) (iblk m c 2 t) (k0_pay2 (F := Ideal)) := by
  rw [outsAt0_A m c t h]
  frame_out
theorem rows_next (t : Fin cfg0.N) (h : ¬t.val % 8 = 0) :
    (outsAt0 m c t.val t.isLt).2 = k0_pay3 (iblk m c 0 t) (iblk m c 1 t) (iblk m c 2 t) (outsAt0 m c (t.val - 1) (by omega)).2 := by
  rw [outsAt0_B m c t h]
  frame_out

/-- Where the blocks of the five arrays lie, and which points write the rows back. -/
theorem place : ∀ t : Fin cfg0.N, (win0_0.index t (0 : Fin 2) = t.val % 8 ∧ win0_0.index t (1 : Fin 2) = 0)
    ∧ (win0_1.index t (0 : Fin 2) = t.val / 8 ∧ win0_1.index t (1 : Fin 2) = 0)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ win0_4.index t (0 : Fin 2) = 0 ∧ win0_4.index t (1 : Fin 2) = t.val / 8 :=
  (by decide +kernel : ∀ t : Fin grid0.N, _)
theorem writes : ∀ t : Fin cfg0.N, (cfg0.win 4).flush t = true → t.val % 8 = 7 :=
  (by decide +kernel : ∀ t : Fin grid0.N, (cfg0.win 4).flush t = true → t.val % 8 = 7)

theorem cot_at (t : Fin cfg0.N) (i : Fin 2048) (r : Fin 1024) (x : Fin 16384) (hx : x.val = 2048 * (t.val % 8) + i.val) :
    cotT m c t (ix2 i r) = cot m c (ix2 x r) := by
  obtain ⟨⟨e0, e1⟩, -⟩ := place t
  refine (congrFun (V_main_arg2 m c) _).trans (congrArg (m (c.tc.loc main_arg2)) (idx_ext ?_ ?_))
  · show win0_0.index t (0 : Fin 2) * 2048 + 1 * i.val = x.val; omega
  · show win0_0.index t (1 : Fin 2) * 1024 + 1 * r.val = r.val; omega

theorem weight_at (t : Fin cfg0.N) (j r : Fin 1024) (y : Fin 4096) (hy : y.val = 1024 * (t.val / 8) + j.val) :
    weightT m c t (ix2 j r) = weight m c (ix2 y r) := by
  obtain ⟨-, ⟨e0, e1⟩, -⟩ := place t
  refine (congrFun (V_main_arg1 m c) _).trans (congrArg (m (c.tc.loc main_arg1)) (idx_ext ?_ ?_))
  · show win0_1.index t (0 : Fin 2) * 1024 + 1 * j.val = y.val; omega
  · show win0_1.index t (1 : Fin 2) * 1024 + 1 * r.val = r.val; omega

theorem slope_at (t : Fin cfg0.N) (i : Fin 2048) (j : Fin 1024) (x : Fin 16384) (y : Fin 4096)
    (hx : x.val = 2048 * (t.val % 8) + i.val) (hy : y.val = 1024 * (t.val / 8) + j.val) :
    slopeT m c t (ix2 i j) = two * max (pre m c (ix2 x y)) 0 := by
  obtain ⟨-, -, ⟨e0, e1⟩, -⟩ := place t
  rw [← slope_eq m c (ix2 x y)]
  unfold slopeT iblk
  rw [View.read_apply]
  show V m c main_v4 _ = V m c main_v4 _
  congr 1
  exact idx_ext (by show win0_2.index t (0 : Fin 2) * 2048 + 1 * i.val = x.val; omega) (by show win0_2.index t (1 : Fin 2) * 1024 + 1 * j.val = y.val; omega)

/-- A point's bands give the gradient at the block's own place. -/
theorem grad_of (t : Fin cfg0.N) (i : Fin 2048) (j : Fin 1024) (x : Fin 16384) (y : Fin 4096)
    (hx : x.val = 2048 * (t.val % 8) + i.val) (hy : y.val = 1024 * (t.val / 8) + j.val) :
    (∑ r : Fin 1024, cotT m c t (ix2 i r) * weightT m c t (ix2 j r)) * slopeT m c t (ix2 i j) = grad m c x y :=
  congrArg₂ (· * ·) (Finset.sum_congr rfl fun r _ => congrArg₂ (· * ·) (cot_at m c t i r x hx) (weight_at m c t j r y hy)) (slope_at m c t i j x y hx hy)

theorem result_grads : (dats m 0 c).arrAt 3 cfg0.N = grads m c := by
  refine (dats m 0 c).arrAt_eq_of_covers 3 _ (by decide +kernel) fun t hf y => ?_
  blk_simp
  rw [after0_3, block_of]
  obtain ⟨-, -, -, ⟨e0, e1⟩, -⟩ := place t
  rw [ValueIdx.eq_ix2 y]
  exact (block_at _ _ _ _ _).trans (grad_of m c t _ _ ((((cfg0.win 3).blk t).view.emb (ix2 (y 0) (y 1))) 0)
    ((((cfg0.win 3).blk t).view.emb (ix2 (y 0) (y 1))) 1)
    (by show win0_3.index t (0 : Fin 2) * 2048 + 1 * (y 0).val = _; omega)
    (by show win0_3.index t (1 : Fin 2) * 1024 + 1 * (y 1).val = _; omega))

/-- What a point adds to a unit's sum. -/
def part (n : ℕ) (j : Fin 1024) : EReal :=
  if h : n < cfg0.N then ∑ s : Fin 2048, (∑ r : Fin 1024, cotT m c ⟨n, h⟩ (ix2 s r) * weightT m c ⟨n, h⟩ (ix2 j r)) * slopeT m c ⟨n, h⟩ (ix2 s j) else 0
theorem part_eq (t : Fin cfg0.N) (j : Fin 1024) : part m c t.val j
    = ∑ s : Fin 2048, (∑ r : Fin 1024, cotT m c t (ix2 s r) * weightT m c t (ix2 j r)) * slopeT m c t (ix2 s j) :=
  dif_pos t.isLt

/-- The rows after each point: the parts of the points so far in the first row, zero in the others. -/
theorem rows_at (k : ℕ) : ∀ (t : Fin cfg0.N), t.val % 8 = k → ∀ (i : Fin 8) (j : Fin 1024), (outsAt0 m c t.val t.isLt).2 (ix2 i j)
    = if i.val = 0 then ∑ s ∈ Finset.range (k + 1), part m c (8 * (t.val / 8) + s) j else 0 := by
  induction k with
  | zero =>
    intro t h i j
    rw [rows_first m c t h]
    refine (step_at _ _ _ _ _ _).trans ?_
    rw [start_at, zero_add, Finset.sum_range_one, show 8 * (t.val / 8) + 0 = t.val by omega]
    exact congrArg (fun x : EReal => if i.val = 0 then x else 0) (part_eq m c t j).symm
  | succ k ih =>
    intro t h i j
    have ht := t.isLt
    rw [rows_next m c t (by omega)]
    refine (step_at _ _ _ _ _ _).trans ?_
    rw [ih ⟨t.val - 1, by omega⟩ (by show (t.val - 1) % 8 = k; omega) i j]
    show (if i.val = 0 then ∑ s ∈ Finset.range (k + 1), part m c (8 * ((t.val - 1) / 8) + s) j else 0) + _ = _
    rw [show (t.val - 1) / 8 = t.val / 8 by omega, Finset.sum_range_succ _ (k + 1), show 8 * (t.val / 8) + (k + 1) = t.val by omega]
    by_cases h0 : i.val = 0
    · rw [if_pos h0, if_pos h0, if_pos h0]
      exact congrArg (_ + ·) (part_eq m c t j).symm
    · rw [if_neg h0, if_neg h0, if_neg h0, add_zero]

theorem result_sums : (dats m 0 c).arrAt 4 cfg0.N = sums m c := by
  refine (dats m 0 c).arrAt_eq_of_covers 4 _ (by decide +kernel) fun t hf y => ?_
  have h7 := writes t hf
  have ht := t.isLt
  blk_simp
  rw [after0_4]
  obtain ⟨-, -, -, -, e0, e1⟩ := place t
  rw [ValueIdx.eq_ix2 y]
  have h0 : ((((cfg0.win 4).blk t).view.emb (ix2 (y 0) (y 1))) 0).val = (y 0).val := by
    show win0_4.index t (0 : Fin 2) * 8 + 1 * (y 0).val = _
    omega
  have h1 : ((((cfg0.win 4).blk t).view.emb (ix2 (y 0) (y 1))) 1).val = 1024 * (t.val / 8) + (y 1).val := by
    show win0_4.index t (1 : Fin 2) * 1024 + 1 * (y 1).val = _
    omega
  refine (rows_at m c 7 t h7 _ _).trans ?_
  show _ = if ((((cfg0.win 4).blk t).view.emb (ix2 (y 0) (y 1))) 0).val = 0 then _ else _
  rw [h0]
  refine congrArg (fun x : EReal => if (y 0).val = 0 then x else 0) (sum_tiles (b := 2048) (by norm_num) _ _ fun s hs => ?_)
  unfold part
  rw [dif_pos (by omega : 8 * (t.val / 8) + s < cfg0.N)]
  have hd : (8 * (t.val / 8) + s) / 8 = t.val / 8 := by omega
  have hm : (8 * (t.val / 8) + s) % 8 = s := by omega
  refine Finset.sum_congr rfl fun r _ => grad_of m c _ r _ _ _ ?_ ?_
  · show _ = 2048 * ((8 * (t.val / 8) + s) % 8) + _; rw [hm]
  · refine h1.trans ?_; show _ = 1024 * ((8 * (t.val / 8) + s) / 8) + _; rw [hd]

end Kernel

end Cert.Proof.DownBwd

namespace Cert.Proof.DownBwd

section Reference

open Cert.Reference6Ideal Cert.Reference6Ideal.Facts₀
open Idealize.ShloMosaic

/-- The reference's gradient, the rectifier's condition included. -/
abbrev refGrad (a : FVec Ideal S16384x4096 .f32) (b : FVec Ideal S4096x1024 .bf16) (z : FVec Ideal S16384x1024 .bf16) : FVec Ideal S16384x4096 .f32 :=
  select (cmpf .ogt a (broadcastInDim S16384x4096 ![] bcast_S_S16384x4096 (constant S_ .f32 0x00000000#32)))
    (mulf (Host.dotGeneral dot_S16384x1024_S4096x1024_S16384x4096_1_1_0_0_n_n none (extf .f32 z bitsLt_bf16_f32) (extf .f32 b bitsLt_bf16_f32))
      (mulf (broadcastInDim S16384x4096 ![] bcast_S_S16384x4096 (constant S_ .f32 0x40000000#32))
        (maximumf a (broadcastInDim S16384x4096 ![] bcast_S_S16384x4096 (constant S_ .f32 0x00000000#32)))))
    (broadcastInDim S16384x4096 ![] bcast_S_S16384x4096 (constant S_ .f32 0x00000000#32))

theorem refGrad_at (a : FVec Ideal S16384x4096 .f32) (b : FVec Ideal S4096x1024 .bf16) (z : FVec Ideal S16384x1024 .bf16) (i : Fin 16384) (j : Fin 4096) :
    refGrad a b z (ix2 i j) = (∑ x : Fin 1024, z (ix2 i x) * b (ix2 j x)) * (two * max (a (ix2 i j)) 0) := by
  pointwise [refGrad]
  by_cases h : 0 < a (ix2 i j)
  · rw [if_pos h]
  · rw [if_neg h, max_eq_right (not_lt.mp h), mul_zero, mul_zero]
theorem refBlock_at (u : FVec Ideal S16384x4096 .f32) (i : Fin 16384) (j : Fin 4096) : truncf .bf16 u bitsLt_bf16_f32 (ix2 i j) = u (ix2 i j) := by
  pointwise
theorem refSum_at (u : FVec Ideal S16384x4096 .f32) (i : Fin 8) (j : Fin 4096) :
    pad S8x4096 ![0, 0] ![7, 0] ![0, 0] (broadcastInDim S1x4096 ![1] bcast_S4096_S1x4096_1
      (Host.reduceAdd u (constant S_ .f32 0x00000000#32) reducesTo_S16384x4096_S4096_d0 h_S_)) (sitofp .f32 (constantI S_ 32 0#32))
      pads_S1x4096_S8x4096_070_000 h_S_ (ix2 i j) = if i.val = 0 then ∑ x : Fin 16384, u (ix2 x j) else 0 := by
  pointwise
  by_cases h : i.val = 0
  · rw [dif_pos (by omega), if_pos h]
  · rw [dif_neg (by omega), if_neg h]
    exact sitofp_zero

end Reference

end Cert.Proof.DownBwd

namespace Cert.Proof

open Idealize.ShloMosaic Idealize.ShloMosaic.TcCoe Idealize.SL.Sem

theorem frame_reference6 [Cert.Reference6Ideal.Facts] : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The value claim: both leave the gradient, and its sum over tokens. -/
theorem algebraic6 [Cert.Kernel6Ideal.Facts] [Cert.Reference6Ideal.Facts] : Cert.algebraic_Kernel6Ideal_Reference6Ideal :=
  fun m g m' g' _ ha => ⟨fun c => DownBwd.grads m c, fun c => DownBwd.sums m c,
    (θ_run Cert.Kernel6Ideal.defs _ _).mono (fun r h c => ⟨(h c).1.trans (DownBwd.result_grads m c), (h c).2.1.trans (DownBwd.result_sums m c), (h c).2.2⟩)
      (Cert.Kernel6Ideal.Value.run_blocks m g),
    (θ_run Cert.Reference6Ideal.defs _ _).mono (fun r h c => ⟨(h c).1.trans (by
      rw [(ha c).1, (ha c).2.1, (ha c).2.2]
      funext p
      rw [ValueIdx.eq_ix2 p]
      exact (DownBwd.refBlock_at _ _ _).trans (DownBwd.refGrad_at _ _ _ _ _)), (h c).2.1.trans (by
      rw [(ha c).1, (ha c).2.1, (ha c).2.2]
      funext p
      rw [ValueIdx.eq_ix2 p]
      exact (DownBwd.refSum_at _ _ _).trans (congrArg (fun x : EReal => if (p 0).val = 0 then x else 0)
        (Finset.sum_congr rfl fun x _ => DownBwd.refGrad_at _ _ _ _ _))), (h c).2.2⟩)
      (Cert.Reference6Ideal.Value.run (F := Ideal) m' g')⟩

end Cert.Proof

end
-- ==== Proof.DwUp.lean ====
/- The gradient of the MLP's first weights: the product over all tokens, added up tile by tile, is one sum. -/
module

public import proofs.«01_k».proof.Proof.Tiles
public import proofs.«01_k».proof.Proof.Gen.Kernel7.Frame
public import proofs.«01_k».proof.Proof.Gen.Kernel7Ideal.Value
public import proofs.«01_k».proof.Proof.Gen.Reference7Ideal.Run

@[expose] public section

set_option maxRecDepth 16384

noncomputable section

namespace Cert.Proof.DwUp

open Cert.Kernel7Ideal Cert.Kernel7Ideal.Gen
open Idealize.ShloMosaic Idealize.ShloMosaic.TcCoe Idealize.SL.Sem

section Kernel

variable (m : (ℓ : Loc nD τ sig) → Buf (Elt Ideal) ℓ) (c : Dev nD)

/-- The activations, one row per token. -/
abbrev left : S16384x1024.Idx → EReal := m ((c : Thread nD τ).loc main_arg0)
/-- The cotangent of the pre-activation, one row per token. -/
abbrev right : S16384x4096.Idx → EReal := m ((c : Thread nD τ).loc main_arg1)
/-- The tiles of the two at a grid point. -/
abbrev leftT (t : Fin cfg0.N) : S2048x1024.Idx → EReal := iblk m c 0 t
abbrev rightT (t : Fin cfg0.N) : S2048x2048.Idx → EReal := iblk m c 1 t

/-- One step adds the product of two tiles. -/
theorem step_at (a : Vec Ideal S1024x2048 .f32) (x : Vec Ideal S2048x1024 .bf16) (y : Vec Ideal S2048x2048 .bf16)
    (i : Fin 1024) (j : Fin 2048) : k0_pay2 a x y (ix2 i j) = a (ix2 i j) + ∑ r : Fin 2048, x (ix2 r i) * y (ix2 r j) := by
  pointwise [k0_pay2]
/-- A tile starts at zero. -/
theorem start_at (i : Fin 1024) (j : Fin 2048) : k0_pay1 (F := Ideal) (ix2 i j) = 0 := by
  pointwise [k0_pay1]

/-- Where the tiles of the two arguments lie. -/
theorem place : ∀ t : Fin cfg0.N, (win0_0.index t (0 : Fin 2) = t.val % 8 ∧ win0_0.index t (1 : Fin 2) = 0)
    ∧ win0_1.index t (0 : Fin 2) = t.val % 8 ∧ win0_1.index t (1 : Fin 2) = t.val / 8 :=
  (by decide +kernel : ∀ t : Fin grid0.N, _)

theorem left_at (t : Fin cfg0.N) (r : Fin 2048) (i : Fin 1024) (x : Fin 16384) (hx : x.val = 2048 * (t.val % 8) + r.val) :
    leftT m c t (ix2 r i) = left m c (ix2 x i) := by
  obtain ⟨⟨e0, e1⟩, -⟩ := place t
  refine congrArg (m (c.tc.loc main_arg0)) (idx_ext ?_ ?_)
  · show win0_0.index t (0 : Fin 2) * 2048 + 1 * r.val = x.val; omega
  · show win0_0.index t (1 : Fin 2) * 1024 + 1 * i.val = i.val; omega

theorem right_at (t : Fin cfg0.N) (r : Fin 2048) (j : Fin 2048) (x : Fin 16384) (y : Fin 4096)
    (hx : x.val = 2048 * (t.val % 8) + r.val) (hy : y.val = 2048 * (t.val / 8) + j.val) :
    rightT m c t (ix2 r j) = right m c (ix2 x y) := by
  obtain ⟨-, e0, e1⟩ := place t
  refine congrArg (m (c.tc.loc main_arg1)) (idx_ext ?_ ?_)
  · show win0_1.index t (0 : Fin 2) * 2048 + 1 * r.val = x.val; omega
  · show win0_1.index t (1 : Fin 2) * 2048 + 1 * j.val = y.val; omega

/-- The kernel's result at an entry: the sum over all tokens. -/
theorem result_at (i : Fin 1024) (j : Fin 4096) :
    Value.G2 m c (ix2 i j) = ∑ x : Fin 16384, left m c (ix2 x i) * right m c (ix2 x j) := by
  have hi := i.isLt
  have hj := j.isLt
  have hN : cfg0.N = 16 := N_0
  have hr : Value.run2Of (ix2 i j) = j.val / 2048 := by
    show 2 * (i.val / 1024 - 0) + 1 * (j.val / 2048 - 0) = _
    omega
  have hB : 8 * Value.run2Of (ix2 i j) + 7 < cfg0.N := by rw [hr]; omega
  unfold Value.G2
  rw [dif_pos hB]
  refine acc_tiles _ _ (fun k h (p : S1024x2048.Idx) (r : Fin 2048) => leftT m c ⟨k, h⟩ (ix2 r (p 0)) * rightT m c ⟨k, h⟩ (ix2 r (p 1)))
    _ hB _ (fun h p => ?_) (fun k h a p => ?_) (by norm_num)
    (fun x : Fin 16384 => left m c (ix2 x i) * right m c (ix2 x j)) fun s hs r x hx => ?_
  · rw [eq_ix2 p]
    unfold Value.reset2
    exact (step_at _ _ _ _ _).trans (congrArg (· + _) (start_at _ _))
  · rw [eq_ix2 p]
    unfold Value.step2
    exact step_at _ _ _ _ _
  · have hm : (8 * Value.run2Of (ix2 i j) + s) % 8 = s := by omega
    have hd : (8 * Value.run2Of (ix2 i j) + s) / 8 = j.val / 2048 := by omega
    have e : (Value.loc2Of (ix2 i j)) 0 = i := Fin.ext (show i.val % 1024 = i.val by omega)
    have e0 := left_at m c ⟨8 * Value.run2Of (ix2 i j) + s, by omega⟩ r i x (by show _ = 2048 * (_ % 8) + _; rw [hm]; exact hx)
    have e1 := right_at m c ⟨8 * Value.run2Of (ix2 i j) + s, by omega⟩ r ((Value.loc2Of (ix2 i j)) 1) x j
      (by show _ = 2048 * (_ % 8) + _; rw [hm]; exact hx)
      (by show j.val = 2048 * (_ / 8) + j.val % 2048; rw [hd]; omega)
    show leftT m c _ (ix2 r ((Value.loc2Of (ix2 i j)) 0)) * rightT m c _ _ = _
    rw [e, e0, e1]

end Kernel

section Reference

open Cert.Reference7Ideal Cert.Reference7Ideal.Gen

/-- The reference's result at an entry. -/
theorem reference_at (a : FVec Ideal Cert.Reference7Ideal.S16384x1024 .bf16) (b : FVec Ideal Cert.Reference7Ideal.S16384x4096 .bf16)
    (i : Fin 1024) (j : Fin 4096) :
    transpose Cert.Reference7Ideal.S1024x4096 [1, 0] (Host.dotGeneral Cert.Reference7Ideal.dot_S16384x4096_S16384x1024_S4096x1024_0_0_1_1_n_n none
      (extf .f32 b Cert.Reference7Ideal.Facts₀.bitsLt_bf16_f32) (extf .f32 a Cert.Reference7Ideal.Facts₀.bitsLt_bf16_f32))
      Cert.Reference7Ideal.Facts₀.transposes_S4096x1024_S1024x4096_1_0 (ix2 i j)
    = ∑ x : Fin 16384, a (ix2 x i) * b (ix2 x j) := by
  refine Eq.trans (b := ∑ x : Fin 16384, b (ix2 x j) * a (ix2 x i)) (by pointwise) (Finset.sum_congr rfl fun x _ => mul_comm _ _)

end Reference

end Cert.Proof.DwUp

namespace Cert.Proof

open Idealize.ShloMosaic Idealize.ShloMosaic.TcCoe Idealize.SL.Sem

theorem frame_reference7 [Cert.Reference7Ideal.Facts] : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The value claim: both leave the sum over all tokens. -/
theorem algebraic7 [Cert.Kernel7Ideal.Facts] [Cert.Reference7Ideal.Facts] : Cert.algebraic_Kernel7Ideal_Reference7Ideal :=
  fun m g m' g' _ ha => ⟨fun c => Cert.Kernel7Ideal.Value.G2 m c, Cert.Kernel7Ideal.Value.run m g,
    (θ_run Cert.Reference7Ideal.defs _ _).mono (fun r h c => ⟨(h c).1.trans (by
      rw [(ha c).1, (ha c).2]
      funext p
      rw [ValueIdx.eq_ix2 p]
      exact (DwUp.reference_at _ _ _ _).trans (DwUp.result_at m c _ _).symm), (h c).2⟩)
      (Cert.Reference7Ideal.Value.run (F := Ideal) m' g')⟩

end Cert.Proof

end
-- ==== Proof.UpBwd.lean ====
/- The gradient passed back through the MLP's first product: a band of rows by the whole weights, added to what was there. -/
module

public import proofs.«01_k».proof.Proof.Tiles
public import proofs.«01_k».proof.Proof.Gen.Kernel8.Frame
public import proofs.«01_k».proof.Proof.Gen.Kernel8Ideal.Value
public import proofs.«01_k».proof.Proof.Gen.Reference8Ideal.Run

@[expose] public section

set_option maxRecDepth 16384

noncomputable section

namespace Cert.Proof.UpBwd

open Cert.Kernel8Ideal Cert.Kernel8Ideal.Gen
open Idealize.ShloMosaic Idealize.ShloMosaic.TcCoe Idealize.SL.Sem

section Kernel

variable (m : (ℓ : Loc nD τ sig) → Buf (Elt Ideal) ℓ) (c : Dev nD)

/-- The cotangent of the pre-activation, one row per token. -/
abbrev left : S16384x4096.Idx → EReal := m ((c : Thread nD τ).loc main_arg0)
/-- The weights. -/
abbrev right : S1024x4096.Idx → EReal := m ((c : Thread nD τ).loc main_arg1)
/-- What the product is added to. -/
abbrev base : S16384x1024.Idx → EReal := m ((c : Thread nD τ).loc main_arg2)
/-- The bands of the three at a grid point. -/
abbrev leftT (t : Fin cfg0.N) : S1024x4096.Idx → EReal := iblk m c 0 t
abbrev rightT (t : Fin cfg0.N) : S1024x4096.Idx → EReal := iblk m c 1 t
abbrev baseT (t : Fin cfg0.N) : S1024x1024.Idx → EReal := iblk m c 2 t

/-- The product of the two arrays, by rows of both, added to the third. -/
def product : Buf (Elt Ideal) ((c : Thread nD τ).loc main_v0) :=
  fun (p : S16384x1024.Idx) => (base m c p + ∑ x : Fin 4096, left m c (ix2 (p 0) x) * right m c (ix2 (p 1) x) : EReal)

/-- A block is the product of two bands added to a third. -/
theorem block_at (x : Vec Ideal S1024x4096 .bf16) (y : Vec Ideal S1024x4096 .bf16) (z : Vec Ideal S1024x1024 .f32)
    (i j : Fin 1024) : k0_pay1 x y z (ix2 i j) = z (ix2 i j) + ∑ r : Fin 4096, x (ix2 i r) * y (ix2 j r) := by
  refine Eq.trans (b := (∑ r : Fin 4096, x (ix2 i r) * y (ix2 j r)) + z (ix2 i j)) (by pointwise [k0_pay1]) (add_comm _ _)

/-- Where the blocks of the four arrays lie. -/
theorem place : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ win0_3.index t (0 : Fin 2) = t.val ∧ win0_3.index t (1 : Fin 2) = 0 :=
  (by decide +kernel : ∀ t : Fin grid0.N, _)

theorem left_at (t : Fin cfg0.N) (i : Fin 1024) (r : Fin 4096) (x : Fin 16384) (hx : x.val = 1024 * t.val + i.val) :
    leftT m c t (ix2 i r) = left m c (ix2 x r) := by
  obtain ⟨⟨e0, e1⟩, -⟩ := place t
  refine congrArg (m (c.tc.loc main_arg0)) (idx_ext ?_ ?_)
  · show win0_0.index t (0 : Fin 2) * 1024 + 1 * i.val = x.val; omega
  · show win0_0.index t (1 : Fin 2) * 4096 + 1 * r.val = r.val; omega

theorem right_at (t : Fin cfg0.N) (j : Fin 1024) (r : Fin 4096) (y : Fin 1024) (hy : y.val = j.val) :
    rightT m c t (ix2 j r) = right m c (ix2 y r) := by
  obtain ⟨-, ⟨e0, e1⟩, -⟩ := place t
  refine congrArg (m (c.tc.loc main_arg1)) (idx_ext ?_ ?_)
  · show win0_1.index t (0 : Fin 2) * 1024 + 1 * j.val = y.val; omega
  · show win0_1.index t (1 : Fin 2) * 4096 + 1 * r.val = r.val; omega

theorem base_at (t : Fin cfg0.N) (i j : Fin 1024) (p : S16384x1024.Idx) (hx : (p 0).val = 1024 * t.val + i.val) (hy : (p 1).val = j.val) :
    baseT m c t (ix2 i j) = base m c p := by
  obtain ⟨-, -, ⟨e0, e1⟩, -⟩ := place t
  refine congrArg (m (c.tc.loc main_arg2)) (idx_ext ?_ ?_)
  · show win0_2.index t (0 : Fin 2) * 1024 + 1 * i.val = (p 0).val; omega
  · show win0_2.index t (1 : Fin 2) * 1024 + 1 * j.val = (p 1).val; omega

/-- The kernel's result is the sum. -/
theorem result : (dats m 0 c).arrAt 3 cfg0.N = product m c := by
  refine (dats m 0 c).arrAt_eq_of_covers 3 _ (by decide +kernel) fun t hf y => ?_
  blk_simp
  rw [after0_3]
  frame_out
  obtain ⟨-, -, -, e0, e1⟩ := place t
  have h0 : ((((cfg0.win 3).blk t).view.emb (ix2 (y 0) (y 1))) 0).val = 1024 * t.val + (y 0).val := by
    show win0_3.index t (0 : Fin 2) * 1024 + 1 * (y 0).val = _
    omega
  have h1 : ((((cfg0.win 3).blk t).view.emb (ix2 (y 0) (y 1))) 1).val = (y 1).val := by
    show win0_3.index t (1 : Fin 2) * 1024 + 1 * (y 1).val = _
    omega
  rw [ValueIdx.eq_ix2 y]
  refine (block_at _ _ _ _ _).trans (congrArg₂ (· + ·) (base_at m c t _ _ _ h0 h1) (Finset.sum_congr rfl fun r _ => ?_))
  exact congrArg₂ (· * ·) (left_at m c t _ r _ h0) (right_at m c t _ r _ h1)

end Kernel

section Reference

/-- The reference's result at an entry. -/
theorem reference_at (a : FVec Ideal Cert.Reference8Ideal.S16384x4096 .bf16) (b : FVec Ideal Cert.Reference8Ideal.S1024x4096 .bf16)
    (z : FVec Ideal Cert.Reference8Ideal.S16384x1024 .f32) (i : Fin 16384) (j : Fin 1024) :
    addf z (Host.dotGeneral Cert.Reference8Ideal.dot_S16384x4096_S1024x4096_S16384x1024_1_1_0_0_n_n none
      (extf .f32 a Cert.Reference8Ideal.Facts₀.bitsLt_bf16_f32) (extf .f32 b Cert.Reference8Ideal.Facts₀.bitsLt_bf16_f32)) (ix2 i j)
    = z (ix2 i j) + ∑ x : Fin 4096, a (ix2 i x) * b (ix2 j x) := by
  pointwise

end Reference

end Cert.Proof.UpBwd

namespace Cert.Proof

open Idealize.ShloMosaic Idealize.ShloMosaic.TcCoe Idealize.SL.Sem

theorem frame_reference8 [Cert.Reference8Ideal.Facts] : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The value claim: both leave the sum. -/
theorem algebraic8 [Cert.Kernel8Ideal.Facts] [Cert.Reference8Ideal.Facts] : Cert.algebraic_Kernel8Ideal_Reference8Ideal :=
  fun m g m' g' _ ha => ⟨fun c => UpBwd.product m c,
    (θ_run Cert.Kernel8Ideal.defs _ _).mono (fun r h c => ⟨(h c).1.trans (UpBwd.result m c), (h c).2⟩) (Cert.Kernel8Ideal.Value.run_blocks m g),
    (θ_run Cert.Reference8Ideal.defs _ _).mono (fun r h c => ⟨(h c).1.trans (by
      rw [(ha c).1, (ha c).2.1, (ha c).2.2]
      funext p
      rw [ValueIdx.eq_ix2 p]
      exact UpBwd.reference_at _ _ _ _ _), (h c).2⟩)
      (Cert.Reference8Ideal.Value.run (F := Ideal) m' g')⟩

end Cert.Proof

end
-- ==== Proof.Up.lean ====
/- The MLP's first product with its bias and the squared rectifier: every block from a band of rows and a band of columns. -/
module

public import proofs.«01_k».proof.Proof.Tiles
public import proofs.«01_k».proof.Proof.Gen.Kernel9.Frame
public import proofs.«01_k».proof.Proof.Gen.Kernel9Ideal.Value
public import proofs.«01_k».proof.Proof.Gen.Reference9Ideal.Run

@[expose] public section

set_option maxRecDepth 16384

noncomputable section

namespace Cert.Proof.Up

/-- The factor of the squared rectifier's derivative, as both programs write it. -/
abbrev two : EReal := Idealize.ShloMosaic.Ideal.ofBits .f32 0x40000000#32

end Cert.Proof.Up

namespace Cert.Proof.Up

open Cert.Kernel9Ideal Cert.Kernel9Ideal.Gen
open Idealize.ShloMosaic Idealize.ShloMosaic.TcCoe Idealize.SL.Sem

section Kernel

variable (m : (ℓ : Loc nD τ sig) → Buf (Elt Ideal) ℓ) (c : Dev nD)

/-- The activations, one row per token. -/
abbrev left : S16384x1024.Idx → EReal := m ((c : Thread nD τ).loc main_arg0)
/-- The weights. -/
abbrev right : S1024x4096.Idx → EReal := m ((c : Thread nD τ).loc main_arg1)
/-- The bias. -/
abbrev bias : S4096.Idx → EReal := m ((c : Thread nD τ).loc main_arg2)
/-- The bands of the three at a grid point. -/
abbrev leftT (t : Fin cfg0.N) : S2048x1024.Idx → EReal := iblk m c 0 t
abbrev rightT (t : Fin cfg0.N) : S1024x1024.Idx → EReal := iblk m c 1 t
abbrev biasT (t : Fin cfg0.N) : S1x1024.Idx → EReal := iblk m c 2 t

/-- The rectified value at a token and a unit. -/
def unit (i : Fin 16384) (j : Fin 4096) : EReal := max ((∑ x : Fin 1024, left m c (ix2 i x) * right m c (ix2 x j)) + bias m c (ix1 j)) 0
/-- Twice it, and its square. -/
def twice : Buf (Elt Ideal) ((c : Thread nD τ).loc main_v1_0) := fun (p : S16384x4096.Idx) => (two * unit m c (p 0) (p 1) : EReal)
def square : Buf (Elt Ideal) ((c : Thread nD τ).loc main_v1_1) := fun (p : S16384x4096.Idx) => (unit m c (p 0) (p 1) * unit m c (p 0) (p 1) : EReal)

/-- A block from its bands. -/
theorem unit_at (x : Vec Ideal S2048x1024 .bf16) (y : Vec Ideal S1024x1024 .bf16) (z : Vec Ideal S1x1024 .f32) (i : Fin 2048) (j : Fin 1024) :
    k0_pay1 x y z (ix2 i j) = max ((∑ r : Fin 1024, x (ix2 i r) * y (ix2 r j)) + z (ix2 0 j)) 0 := by
  pointwise [k0_pay1]
theorem twice_at (x : Vec Ideal S2048x1024 .bf16) (y : Vec Ideal S1024x1024 .bf16) (z : Vec Ideal S1x1024 .f32) (i : Fin 2048) (j : Fin 1024) :
    k0_pay2 x y z (ix2 i j) = two * max ((∑ r : Fin 1024, x (ix2 i r) * y (ix2 r j)) + z (ix2 0 j)) 0 := by
  pointwise [k0_pay2, k0_pay1]
theorem square_at (x : Vec Ideal S2048x1024 .bf16) (y : Vec Ideal S1024x1024 .bf16) (z : Vec Ideal S1x1024 .f32) (i : Fin 2048) (j : Fin 1024) :
    k0_pay3 x y z (ix2 i j) = max ((∑ r : Fin 1024, x (ix2 i r) * y (ix2 r j)) + z (ix2 0 j)) 0
      * max ((∑ r : Fin 1024, x (ix2 i r) * y (ix2 r j)) + z (ix2 0 j)) 0 := by
  pointwise [k0_pay3, k0_pay1]

/-- Where the blocks of the five arrays lie. -/
theorem place : ∀ t : Fin cfg0.N, (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = 0 ∧ win0_2.index t (1 : Fin 2) = t.val % 4)
    ∧ (win0_3.index t (0 : Fin 2) = t.val / 4 ∧ win0_3.index t (1 : Fin 2) = t.val % 4)
    ∧ win0_4.index t (0 : Fin 2) = t.val / 4 ∧ win0_4.index t (1 : Fin 2) = t.val % 4 :=
  (by decide +kernel : ∀ t : Fin grid0.N, _)

theorem left_at (t : Fin cfg0.N) (i : Fin 2048) (r : Fin 1024) (x : Fin 16384) (hx : x.val = 2048 * (t.val / 4) + i.val) :
    leftT m c t (ix2 i r) = left m c (ix2 x r) := by
  obtain ⟨⟨e0, e1⟩, -⟩ := place t
  refine (congrFun (V_main_arg0 m c) _).trans (congrArg (m (c.tc.loc main_arg0)) (idx_ext ?_ ?_))
  · show win0_0.index t (0 : Fin 2) * 2048 + 1 * i.val = x.val; omega
  · show win0_0.index t (1 : Fin 2) * 1024 + 1 * r.val = r.val; omega

theorem right_at (t : Fin cfg0.N) (r : Fin 1024) (j : Fin 1024) (y : Fin 4096) (hy : y.val = 1024 * (t.val % 4) + j.val) :
    rightT m c t (ix2 r j) = right m c (ix2 r y) := by
  obtain ⟨-, ⟨e0, e1⟩, -⟩ := place t
  refine (congrFun (V_main_arg1 m c) _).trans (congrArg (m (c.tc.loc main_arg1)) (idx_ext ?_ ?_))
  · show win0_1.index t (0 : Fin 2) * 1024 + 1 * r.val = r.val; omega
  · show win0_1.index t (1 : Fin 2) * 1024 + 1 * j.val = y.val; omega

/-- The bias as the call reads it: one row. -/
theorem row_at (y : Fin 4096) : (V m c main_v0 : S1x4096.Idx → EReal) (ix2 0 y) = bias m c (ix1 y) := by
  entry_read
  pointwise

theorem bias_at (t : Fin cfg0.N) (j : Fin 1024) (y : Fin 4096) (hy : y.val = 1024 * (t.val % 4) + j.val) :
    biasT m c t (ix2 0 j) = bias m c (ix1 y) := by
  obtain ⟨-, -, ⟨e0, e1⟩, -⟩ := place t
  rw [← row_at m c y]
  unfold biasT iblk
  rw [View.read_apply]
  show V m c main_v0 _ = V m c main_v0 _
  congr 1
  exact idx_ext (by show win0_2.index t (0 : Fin 2) * 1 + 1 * 0 = 0; omega) (by show win0_2.index t (1 : Fin 2) * 1024 + 1 * j.val = y.val; omega)

/-- A point's bands give the rectified value at the block's own place. -/
theorem unit_of (t : Fin cfg0.N) (i : Fin 2048) (j : Fin 1024) (x : Fin 16384) (y : Fin 4096)
    (hx : x.val = 2048 * (t.val / 4) + i.val) (hy : y.val = 1024 * (t.val % 4) + j.val) :
    max ((∑ r : Fin 1024, leftT m c t (ix2 i r) * rightT m c t (ix2 r j)) + biasT m c t (ix2 0 j)) 0 = unit m c x y :=
  congrArg (max · 0) (congrArg₂ (· + ·) (Finset.sum_congr rfl fun r _ =>
    congrArg₂ (· * ·) (left_at m c t i r x hx) (right_at m c t r j y hy)) (bias_at m c t j y hy))

theorem result_twice : (dats m 0 c).arrAt 3 cfg0.N = twice m c := by
  refine (dats m 0 c).arrAt_eq_of_covers 3 _ (by decide +kernel) fun t hf y => ?_
  blk_simp
  rw [after0_3]
  frame_out
  obtain ⟨-, -, -, ⟨e0, e1⟩, -⟩ := place t
  rw [ValueIdx.eq_ix2 y]
  refine (twice_at _ _ _ _ _).trans (congrArg (two * ·) (unit_of m c t _ _ ((((cfg0.win 3).blk t).view.emb (ix2 (y 0) (y 1))) 0)
    ((((cfg0.win 3).blk t).view.emb (ix2 (y 0) (y 1))) 1) ?_ ?_))
  · show win0_3.index t (0 : Fin 2) * 2048 + 1 * (y 0).val = _
    omega
  · show win0_3.index t (1 : Fin 2) * 1024 + 1 * (y 1).val = _
    omega

theorem result_square : (dats m 0 c).arrAt 4 cfg0.N = square m c := by
  refine (dats m 0 c).arrAt_eq_of_covers 4 _ (by decide +kernel) fun t hf y => ?_
  blk_simp
  rw [after0_4]
  frame_out
  obtain ⟨-, -, -, -, e0, e1⟩ := place t
  rw [ValueIdx.eq_ix2 y]
  have e := unit_of m c t (y 0) (y 1) ((((cfg0.win 4).blk t).view.emb (ix2 (y 0) (y 1))) 0) ((((cfg0.win 4).blk t).view.emb (ix2 (y 0) (y 1))) 1)
    (by show win0_4.index t (0 : Fin 2) * 2048 + 1 * (y 0).val = _; omega)
    (by show win0_4.index t (1 : Fin 2) * 1024 + 1 * (y 1).val = _; omega)
  exact (square_at _ _ _ _ _).trans (congrArg₂ (· * ·) e e)

end Kernel

end Cert.Proof.Up

namespace Cert.Proof.Up

section Reference

open Cert.Reference9Ideal Cert.Reference9Ideal.Facts₀
open Idealize.ShloMosaic

/-- The reference's pre-activation after the rectifier. -/
abbrev refUnit (a : FVec Ideal S16384x1024 .bf16) (b : FVec Ideal S1024x4096 .bf16) (z : FVec Ideal S4096 .f32) : FVec Ideal S16384x4096 .f32 :=
  maximumf (addf (Host.dotGeneral dot_S16384x1024_S1024x4096_S16384x4096_1_0_0_1_n_n none (extf .f32 a bitsLt_bf16_f32) (extf .f32 b bitsLt_bf16_f32))
    (broadcastInDim S16384x4096 ![0, 1] bcast_S1x4096_S16384x4096_0_1 (broadcastInDim S1x4096 ![1] bcast_S4096_S1x4096_1 z)))
    (broadcastInDim S16384x4096 ![] bcast_S_S16384x4096 (constant S_ .f32 0x00000000#32))

theorem refUnit_at (a : FVec Ideal S16384x1024 .bf16) (b : FVec Ideal S1024x4096 .bf16) (z : FVec Ideal S4096 .f32) (i : Fin 16384) (j : Fin 4096) :
    refUnit a b z (ix2 i j) = max ((∑ x : Fin 1024, a (ix2 i x) * b (ix2 x j)) + z (ix1 j)) 0 := by
  pointwise [refUnit]
theorem refTwice_at (u : FVec Ideal S16384x4096 .f32) (i : Fin 16384) (j : Fin 4096) :
    truncf .bf16 (mulf (broadcastInDim S16384x4096 ![] bcast_S_S16384x4096 (constant S_ .f32 0x40000000#32)) u) bitsLt_bf16_f32 (ix2 i j)
      = two * u (ix2 i j) := by
  pointwise
theorem refSquare_at (u : FVec Ideal S16384x4096 .f32) (i : Fin 16384) (j : Fin 4096) :
    truncf .bf16 (mulf u u) bitsLt_bf16_f32 (ix2 i j) = u (ix2 i j) * u (ix2 i j) := by
  pointwise

end Reference

end Cert.Proof.Up

namespace Cert.Proof

open Idealize.ShloMosaic Idealize.ShloMosaic.TcCoe Idealize.SL.Sem

theorem frame_reference9 [Cert.Reference9Ideal.Facts] : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The value claim: both leave twice the rectified value, and its square. -/
theorem algebraic9 [Cert.Kernel9Ideal.Facts] [Cert.Reference9Ideal.Facts] : Cert.algebraic_Kernel9Ideal_Reference9Ideal :=
  fun m g m' g' _ ha => ⟨fun c => Up.twice m c, fun c => Up.square m c,
    (θ_run Cert.Kernel9Ideal.defs _ _).mono (fun r h c => ⟨(h c).1.trans (Up.result_twice m c), (h c).2.1.trans (Up.result_square m c), (h c).2.2⟩)
      (Cert.Kernel9Ideal.Value.run_blocks m g),
    (θ_run Cert.Reference9Ideal.defs _ _).mono (fun r h c => ⟨(h c).1.trans (by
      rw [(ha c).1, (ha c).2.1, (ha c).2.2]
      funext p
      rw [ValueIdx.eq_ix2 p]
      exact (Up.refTwice_at _ _ _).trans (congrArg (Up.two * ·) (Up.refUnit_at _ _ _ _ _))), (h c).2.1.trans (by
      rw [(ha c).1, (ha c).2.1, (ha c).2.2]
      funext p
      rw [ValueIdx.eq_ix2 p]
      have e := Up.refUnit_at (m (c.tc.loc Cert.Kernel9Ideal.main_arg0)) (m (c.tc.loc Cert.Kernel9Ideal.main_arg1)) (m (c.tc.loc Cert.Kernel9Ideal.main_arg2)) (p 0) (p 1)
      exact (Up.refSquare_at _ _ _).trans (congrArg₂ (· * ·) e e)), (h c).2.2⟩)
      (Cert.Reference9Ideal.Value.run (F := Ideal) m' g')⟩

end Cert.Proof

end
-- ==== Proof.Down.lean ====
/- The MLP's second product: every block of the result is the product of a band of rows by the whole weights. -/
module

public import proofs.«01_k».proof.Proof.Tiles
public import proofs.«01_k».proof.Proof.Gen.Kernel10.Frame
public import proofs.«01_k».proof.Proof.Gen.Kernel10Ideal.Value
public import proofs.«01_k».proof.Proof.Gen.Reference10Ideal.Run

@[expose] public section

set_option maxRecDepth 16384

noncomputable section

namespace Cert.Proof.Down

open Cert.Kernel10Ideal Cert.Kernel10Ideal.Gen
open Idealize.ShloMosaic Idealize.ShloMosaic.TcCoe Idealize.SL.Sem

section Kernel

variable (m : (ℓ : Loc nD τ sig) → Buf (Elt Ideal) ℓ) (c : Dev nD)

/-- The hidden layer's values, one row per token. -/
abbrev left : S16384x4096.Idx → EReal := m ((c : Thread nD τ).loc main_arg0)
/-- The weights. -/
abbrev right : S4096x1024.Idx → EReal := m ((c : Thread nD τ).loc main_arg1)
/-- The bands of the two at a grid point. -/
abbrev leftT (t : Fin cfg0.N) : S1024x4096.Idx → EReal := iblk m c 0 t
abbrev rightT (t : Fin cfg0.N) : S4096x1024.Idx → EReal := iblk m c 1 t

/-- The product of the two arrays. -/
def product : Buf (Elt Ideal) ((c : Thread nD τ).loc main_v0) :=
  fun (p : S16384x1024.Idx) => (∑ x : Fin 4096, left m c (ix2 (p 0) x) * right m c (ix2 x (p 1)) : EReal)

/-- A block is the product of two bands. -/
theorem block_at (x : Vec Ideal S1024x4096 .bf16) (y : Vec Ideal S4096x1024 .bf16) (i : Fin 1024) (j : Fin 1024) :
    k0_pay1 x y (ix2 i j) = ∑ r : Fin 4096, x (ix2 i r) * y (ix2 r j) := by
  pointwise [k0_pay1]

/-- Where the blocks of the three arrays lie. -/
theorem place : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

theorem left_at (t : Fin cfg0.N) (i : Fin 1024) (r : Fin 4096) (x : Fin 16384) (hx : x.val = 1024 * t.val + i.val) :
    leftT m c t (ix2 i r) = left m c (ix2 x r) := by
  obtain ⟨⟨e0, e1⟩, -⟩ := place t
  refine congrArg (m (c.tc.loc main_arg0)) (idx_ext ?_ ?_)
  · show win0_0.index t (0 : Fin 2) * 1024 + 1 * i.val = x.val; omega
  · show win0_0.index t (1 : Fin 2) * 4096 + 1 * r.val = r.val; omega

theorem right_at (t : Fin cfg0.N) (r : Fin 4096) (j : Fin 1024) (y : Fin 1024) (hy : y.val = j.val) :
    rightT m c t (ix2 r j) = right m c (ix2 r y) := by
  obtain ⟨-, ⟨e0, e1⟩, -⟩ := place t
  refine congrArg (m (c.tc.loc main_arg1)) (idx_ext ?_ ?_)
  · show win0_1.index t (0 : Fin 2) * 4096 + 1 * r.val = r.val; omega
  · show win0_1.index t (1 : Fin 2) * 1024 + 1 * j.val = y.val; omega

/-- The kernel's result is the product. -/
theorem result : (dats m 0 c).arrAt 2 cfg0.N = product m c := by
  refine (dats m 0 c).arrAt_eq_of_covers 2 _ (by decide +kernel) fun t hf y => ?_
  blk_simp
  rw [after0_2]
  frame_out
  obtain ⟨-, -, e0, e1⟩ := place t
  rw [ValueIdx.eq_ix2 y]
  refine (block_at _ _ _ _).trans (Finset.sum_congr rfl fun r _ => ?_)
  refine congrArg₂ (· * ·) ((left_at m c t _ r ((((cfg0.win 2).blk t).view.emb (ix2 (y 0) (y 1))) 0) ?_)) ((right_at m c t r _ ((((cfg0.win 2).blk t).view.emb (ix2 (y 0) (y 1))) 1) ?_))
  · show win0_2.index t (0 : Fin 2) * 1024 + 1 * (y 0).val = _
    omega
  · show win0_2.index t (1 : Fin 2) * 1024 + 1 * (y 1).val = _
    omega

end Kernel

section Reference

/-- The reference's result at an entry. -/
theorem reference_at (a : FVec Ideal Cert.Reference10Ideal.S16384x4096 .bf16) (b : FVec Ideal Cert.Reference10Ideal.S4096x1024 .bf16)
    (i : Fin 16384) (j : Fin 1024) :
    Host.dotGeneral Cert.Reference10Ideal.dot_S16384x4096_S4096x1024_S16384x1024_1_0_0_1_n_n none
      (extf .f32 a Cert.Reference10Ideal.Facts₀.bitsLt_bf16_f32) (extf .f32 b Cert.Reference10Ideal.Facts₀.bitsLt_bf16_f32) (ix2 i j)
    = ∑ x : Fin 4096, a (ix2 i x) * b (ix2 x j) := by
  pointwise

end Reference

end Cert.Proof.Down

namespace Cert.Proof

open Idealize.ShloMosaic Idealize.ShloMosaic.TcCoe Idealize.SL.Sem

theorem frame_reference10 [Cert.Reference10Ideal.Facts] : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The value claim: both leave the product. -/
theorem algebraic10 [Cert.Kernel10Ideal.Facts] [Cert.Reference10Ideal.Facts] : Cert.algebraic_Kernel10Ideal_Reference10Ideal :=
  fun m g m' g' _ ha => ⟨fun c => Down.product m c,
    (θ_run Cert.Kernel10Ideal.defs _ _).mono (fun r h c => ⟨(h c).1.trans (Down.result m c), (h c).2⟩) (Cert.Kernel10Ideal.Value.run_blocks m g),
    (θ_run Cert.Reference10Ideal.defs _ _).mono (fun r h c => ⟨(h c).1.trans (by
      rw [(ha c).1, (ha c).2]
      funext p
      rw [ValueIdx.eq_ix2 p]
      exact Down.reference_at _ _ _ _), (h c).2⟩)
      (Cert.Reference10Ideal.Value.run (F := Ideal) m' g')⟩

end Cert.Proof

end
-- ==== Proof.DwOut.lean ====
/- The gradient of the output projection's weights: the product over all tokens, added up tile by tile, is one sum. -/
module

public import proofs.«01_k».proof.Proof.Tiles
public import proofs.«01_k».proof.Proof.Gen.Kernel11.Frame
public import proofs.«01_k».proof.Proof.Gen.Kernel11Ideal.Value
public import proofs.«01_k».proof.Proof.Gen.Reference11Ideal.Run

@[expose] public section

set_option maxRecDepth 16384

noncomputable section

namespace Cert.Proof.DwOut

open Cert.Kernel11Ideal Cert.Kernel11Ideal.Gen
open Idealize.ShloMosaic Idealize.ShloMosaic.TcCoe Idealize.SL.Sem

section Kernel

variable (m : (ℓ : Loc nD τ sig) → Buf (Elt Ideal) ℓ) (c : Dev nD)

/-- The activations, one row per token. -/
abbrev left : S16384x1024.Idx → EReal := m ((c : Thread nD τ).loc main_arg0)
/-- The cotangent of the projection, one row per token. -/
abbrev right : S16384x1024.Idx → EReal := m ((c : Thread nD τ).loc main_arg1)
/-- The tiles of the two at a grid point. -/
abbrev leftT (t : Fin cfg0.N) : S1024x1024.Idx → EReal := iblk m c 0 t
abbrev rightT (t : Fin cfg0.N) : S1024x1024.Idx → EReal := iblk m c 1 t

/-- One step adds the product of two tiles. -/
theorem step_at (a : Vec Ideal S1024x1024 .f32) (x : Vec Ideal S1024x1024 .bf16) (y : Vec Ideal S1024x1024 .bf16)
    (i : Fin 1024) (j : Fin 1024) : k0_pay2 a x y (ix2 i j) = a (ix2 i j) + ∑ r : Fin 1024, x (ix2 r i) * y (ix2 r j) := by
  pointwise [k0_pay2]
/-- A tile starts at zero. -/
theorem start_at (i : Fin 1024) (j : Fin 1024) : k0_pay1 (F := Ideal) (ix2 i j) = 0 := by
  pointwise [k0_pay1]

/-- Where the tiles of the two arguments lie. -/
theorem place : ∀ t : Fin cfg0.N, (win0_0.index t (0 : Fin 2) = t.val % 16 ∧ win0_0.index t (1 : Fin 2) = 0)
    ∧ win0_1.index t (0 : Fin 2) = t.val % 16 ∧ win0_1.index t (1 : Fin 2) = 0 :=
  (by decide +kernel : ∀ t : Fin grid0.N, _)

theorem left_at (t : Fin cfg0.N) (r i : Fin 1024) (x : Fin 16384) (hx : x.val = 1024 * (t.val % 16) + r.val) :
    leftT m c t (ix2 r i) = left m c (ix2 x i) := by
  obtain ⟨⟨e0, e1⟩, -⟩ := place t
  refine congrArg (m (c.tc.loc main_arg0)) (idx_ext ?_ ?_)
  · show win0_0.index t (0 : Fin 2) * 1024 + 1 * r.val = x.val; omega
  · show win0_0.index t (1 : Fin 2) * 1024 + 1 * i.val = i.val; omega

theorem right_at (t : Fin cfg0.N) (r : Fin 1024) (j : Fin 1024) (x : Fin 16384) (y : Fin 1024)
    (hx : x.val = 1024 * (t.val % 16) + r.val) (hy : y.val = j.val) :
    rightT m c t (ix2 r j) = right m c (ix2 x y) := by
  obtain ⟨-, e0, e1⟩ := place t
  refine congrArg (m (c.tc.loc main_arg1)) (idx_ext ?_ ?_)
  · show win0_1.index t (0 : Fin 2) * 1024 + 1 * r.val = x.val; omega
  · show win0_1.index t (1 : Fin 2) * 1024 + 1 * j.val = y.val; omega

/-- The kernel's result at an entry: the sum over all tokens. -/
theorem result_at (i : Fin 1024) (j : Fin 1024) :
    Value.G2 m c (ix2 i j) = ∑ x : Fin 16384, left m c (ix2 x i) * right m c (ix2 x j) := by
  have hi := i.isLt
  have hj := j.isLt
  have hN : cfg0.N = 16 := N_0
  have hr : Value.run2Of (ix2 i j) = 0 := by
    show 1 * (i.val / 1024 - 0) + 1 * (j.val / 1024 - 0) = _
    omega
  have hB : 16 * Value.run2Of (ix2 i j) + 15 < cfg0.N := by rw [hr]; omega
  unfold Value.G2
  rw [dif_pos hB]
  refine acc_tiles _ _ (fun k h (p : S1024x1024.Idx) (r : Fin 1024) => leftT m c ⟨k, h⟩ (ix2 r (p 0)) * rightT m c ⟨k, h⟩ (ix2 r (p 1)))
    _ hB _ (fun h p => ?_) (fun k h a p => ?_) (by norm_num)
    (fun x : Fin 16384 => left m c (ix2 x i) * right m c (ix2 x j)) fun s hs r x hx => ?_
  · rw [eq_ix2 p]
    unfold Value.reset2
    exact (step_at _ _ _ _ _).trans (congrArg (· + _) (start_at _ _))
  · rw [eq_ix2 p]
    unfold Value.step2
    exact step_at _ _ _ _ _
  · have hm : (16 * Value.run2Of (ix2 i j) + s) % 16 = s := by omega
    have e : (Value.loc2Of (ix2 i j)) 0 = i := Fin.ext (show i.val % 1024 = i.val by omega)
    have e0 := left_at m c ⟨16 * Value.run2Of (ix2 i j) + s, by omega⟩ r i x (by show _ = 1024 * (_ % 16) + _; rw [hm]; exact hx)
    have e1 := right_at m c ⟨16 * Value.run2Of (ix2 i j) + s, by omega⟩ r ((Value.loc2Of (ix2 i j)) 1) x j
      (by show _ = 1024 * (_ % 16) + _; rw [hm]; exact hx)
      (by show j.val = j.val % 1024; omega)
    show leftT m c _ (ix2 r ((Value.loc2Of (ix2 i j)) 0)) * rightT m c _ _ = _
    rw [e, e0, e1]

end Kernel

section Reference

open Cert.Reference11Ideal Cert.Reference11Ideal.Gen

/-- The reference's result at an entry. -/
theorem reference_at (a : FVec Ideal Cert.Reference11Ideal.S16384x1024 .bf16) (b : FVec Ideal Cert.Reference11Ideal.S16384x1024 .bf16)
    (i : Fin 1024) (j : Fin 1024) :
    transpose Cert.Reference11Ideal.S1024x1024 [1, 0] (Host.dotGeneral Cert.Reference11Ideal.dot_S16384x1024_S16384x1024_S1024x1024_0_0_1_1_n_n none
      (extf .f32 b Cert.Reference11Ideal.Facts₀.bitsLt_bf16_f32) (extf .f32 a Cert.Reference11Ideal.Facts₀.bitsLt_bf16_f32))
      Cert.Reference11Ideal.Facts₀.transposes_S1024x1024_S1024x1024_1_0 (ix2 i j)
    = ∑ x : Fin 16384, a (ix2 x i) * b (ix2 x j) := by
  refine Eq.trans (b := ∑ x : Fin 16384, b (ix2 x j) * a (ix2 x i)) (by pointwise) (Finset.sum_congr rfl fun x _ => mul_comm _ _)

end Reference

end Cert.Proof.DwOut

namespace Cert.Proof

open Idealize.ShloMosaic Idealize.ShloMosaic.TcCoe Idealize.SL.Sem

theorem frame_reference11 [Cert.Reference11Ideal.Facts] : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The value claim: both leave the sum over all tokens. -/
theorem algebraic11 [Cert.Kernel11Ideal.Facts] [Cert.Reference11Ideal.Facts] : Cert.algebraic_Kernel11Ideal_Reference11Ideal :=
  fun m g m' g' _ ha => ⟨fun c => Cert.Kernel11Ideal.Value.G2 m c, Cert.Kernel11Ideal.Value.run m g,
    (θ_run Cert.Reference11Ideal.defs _ _).mono (fun r h c => ⟨(h c).1.trans (by
      rw [(ha c).1, (ha c).2]
      funext p
      rw [ValueIdx.eq_ix2 p]
      exact (DwOut.reference_at _ _ _ _).trans (DwOut.result_at m c _ _).symm), (h c).2⟩)
      (Cert.Reference11Ideal.Value.run (F := Ideal) m' g')⟩

end Cert.Proof

end
-- ==== Proof.OutBwd.lean ====
/- The gradient passed back through the output projection: a band of rows by the whole weights, by rows. -/
module

public import proofs.«01_k».proof.Proof.Tiles
public import proofs.«01_k».proof.Proof.Gen.Kernel12.Frame
public import proofs.«01_k».proof.Proof.Gen.Kernel12Ideal.Value
public import proofs.«01_k».proof.Proof.Gen.Reference12Ideal.Run

@[expose] public section

set_option maxRecDepth 16384

noncomputable section

namespace Cert.Proof.OutBwd

open Cert.Kernel12Ideal Cert.Kernel12Ideal.Gen
open Idealize.ShloMosaic Idealize.ShloMosaic.TcCoe Idealize.SL.Sem

section Kernel

variable (m : (ℓ : Loc nD τ sig) → Buf (Elt Ideal) ℓ) (c : Dev nD)

/-- The cotangent of the projection, one row per token. -/
abbrev left : S16384x1024.Idx → EReal := m ((c : Thread nD τ).loc main_arg0)
/-- The weights. -/
abbrev right : S1024x1024.Idx → EReal := m ((c : Thread nD τ).loc main_arg1)
/-- The bands of the two at a grid point. -/
abbrev leftT (t : Fin cfg0.N) : S1024x1024.Idx → EReal := iblk m c 0 t
abbrev rightT (t : Fin cfg0.N) : S1024x1024.Idx → EReal := iblk m c 1 t

/-- The product of the two arrays, by rows of both. -/
def product : Buf (Elt Ideal) ((c : Thread nD τ).loc main_v0) :=
  fun (p : S16384x1024.Idx) => (∑ x : Fin 1024, left m c (ix2 (p 0) x) * right m c (ix2 (p 1) x) : EReal)

/-- A block is the product of a band and the weights. -/
theorem block_at (x y : Vec Ideal S1024x1024 .bf16) (i j : Fin 1024) : k0_pay1 x y (ix2 i j) = ∑ r : Fin 1024, x (ix2 i r) * y (ix2 j r) := by
  pointwise [k0_pay1]

/-- Where the blocks of the three arrays lie. -/
theorem place : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

theorem left_at (t : Fin cfg0.N) (i : Fin 1024) (r : Fin 1024) (x : Fin 16384) (hx : x.val = 1024 * t.val + i.val) :
    leftT m c t (ix2 i r) = left m c (ix2 x r) := by
  obtain ⟨⟨e0, e1⟩, -⟩ := place t
  refine congrArg (m (c.tc.loc main_arg0)) (idx_ext ?_ ?_)
  · show win0_0.index t (0 : Fin 2) * 1024 + 1 * i.val = x.val; omega
  · show win0_0.index t (1 : Fin 2) * 1024 + 1 * r.val = r.val; omega

theorem right_at (t : Fin cfg0.N) (j : Fin 1024) (r : Fin 1024) (y : Fin 1024) (hy : y.val = j.val) :
    rightT m c t (ix2 j r) = right m c (ix2 y r) := by
  obtain ⟨-, ⟨e0, e1⟩, -⟩ := place t
  refine congrArg (m (c.tc.loc main_arg1)) (idx_ext ?_ ?_)
  · show win0_1.index t (0 : Fin 2) * 1024 + 1 * j.val = y.val; omega
  · show win0_1.index t (1 : Fin 2) * 1024 + 1 * r.val = r.val; omega

/-- The kernel's result is the product. -/
theorem result : (dats m 0 c).arrAt 2 cfg0.N = product m c := by
  refine (dats m 0 c).arrAt_eq_of_covers 2 _ (by decide +kernel) fun t hf y => ?_
  blk_simp
  rw [after0_2]
  frame_out
  obtain ⟨-, -, e0, e1⟩ := place t
  have h0 : ((((cfg0.win 2).blk t).view.emb (ix2 (y 0) (y 1))) 0).val = 1024 * t.val + (y 0).val := by
    show win0_2.index t (0 : Fin 2) * 1024 + 1 * (y 0).val = _
    omega
  have h1 : ((((cfg0.win 2).blk t).view.emb (ix2 (y 0) (y 1))) 1).val = (y 1).val := by
    show win0_2.index t (1 : Fin 2) * 1024 + 1 * (y 1).val = _
    omega
  rw [ValueIdx.eq_ix2 y]
  refine (block_at _ _ _ _).trans (Finset.sum_congr rfl fun r _ => ?_)
  exact congrArg₂ (· * ·) (left_at m c t _ r _ h0) (right_at m c t _ r _ h1)

end Kernel

section Reference

/-- The reference's result at an entry. -/
theorem reference_at (a : FVec Ideal Cert.Reference12Ideal.S16384x1024 .bf16) (b : FVec Ideal Cert.Reference12Ideal.S1024x1024 .bf16)
    (i : Fin 16384) (j : Fin 1024) :
    Host.dotGeneral Cert.Reference12Ideal.dot_S16384x1024_S1024x1024_S16384x1024_1_1_0_0_n_n none
      (extf .f32 a Cert.Reference12Ideal.Facts₀.bitsLt_bf16_f32) (extf .f32 b Cert.Reference12Ideal.Facts₀.bitsLt_bf16_f32) (ix2 i j)
    = ∑ x : Fin 1024, a (ix2 i x) * b (ix2 j x) := by
  pointwise

end Reference

end Cert.Proof.OutBwd

namespace Cert.Proof

open Idealize.ShloMosaic Idealize.ShloMosaic.TcCoe Idealize.SL.Sem

theorem frame_reference12 [Cert.Reference12Ideal.Facts] : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The value claim: both leave the product. -/
theorem algebraic12 [Cert.Kernel12Ideal.Facts] [Cert.Reference12Ideal.Facts] : Cert.algebraic_Kernel12Ideal_Reference12Ideal :=
  fun m g m' g' _ ha => ⟨fun c => OutBwd.product m c,
    (θ_run Cert.Kernel12Ideal.defs _ _).mono (fun r h c => ⟨(h c).1.trans (OutBwd.result m c), (h c).2⟩) (Cert.Kernel12Ideal.Value.run_blocks m g),
    (θ_run Cert.Reference12Ideal.defs _ _).mono (fun r h c => ⟨(h c).1.trans (by
      rw [(ha c).1, (ha c).2]
      funext p
      rw [ValueIdx.eq_ix2 p]
      exact OutBwd.reference_at _ _ _ _), (h c).2⟩)
      (Cert.Reference12Ideal.Value.run (F := Ideal) m' g')⟩

end Cert.Proof

end
-- ==== Proof.Out.lean ====
/- The output projection: a band of rows by the whole weights. -/
module

public import proofs.«01_k».proof.Proof.Tiles
public import proofs.«01_k».proof.Proof.Gen.Kernel13.Frame
public import proofs.«01_k».proof.Proof.Gen.Kernel13Ideal.Value
public import proofs.«01_k».proof.Proof.Gen.Reference13Ideal.Run

@[expose] public section

set_option maxRecDepth 16384

noncomputable section

namespace Cert.Proof.Out

open Cert.Kernel13Ideal Cert.Kernel13Ideal.Gen
open Idealize.ShloMosaic Idealize.ShloMosaic.TcCoe Idealize.SL.Sem

section Kernel

variable (m : (ℓ : Loc nD τ sig) → Buf (Elt Ideal) ℓ) (c : Dev nD)

/-- The activations, one row per token. -/
abbrev left : S16384x1024.Idx → EReal := m ((c : Thread nD τ).loc main_arg0)
/-- The weights. -/
abbrev right : S1024x1024.Idx → EReal := m ((c : Thread nD τ).loc main_arg1)
/-- The bands of the two at a grid point. -/
abbrev leftT (t : Fin cfg0.N) : S1024x1024.Idx → EReal := iblk m c 0 t
abbrev rightT (t : Fin cfg0.N) : S1024x1024.Idx → EReal := iblk m c 1 t

/-- The product of the two arrays. -/
def product : Buf (Elt Ideal) ((c : Thread nD τ).loc main_v0) :=
  fun (p : S16384x1024.Idx) => (∑ x : Fin 1024, left m c (ix2 (p 0) x) * right m c (ix2 x (p 1)) : EReal)

/-- A block is the product of a band and the weights. -/
theorem block_at (x : Vec Ideal S1024x1024 .bf16) (y : Vec Ideal S1024x1024 .bf16) (i : Fin 1024) (j : Fin 1024) :
    k0_pay1 x y (ix2 i j) = ∑ r : Fin 1024, x (ix2 i r) * y (ix2 r j) := by
  pointwise [k0_pay1]

/-- Where the blocks of the three arrays lie. -/
theorem place : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

theorem left_at (t : Fin cfg0.N) (i : Fin 1024) (r : Fin 1024) (x : Fin 16384) (hx : x.val = 1024 * t.val + i.val) :
    leftT m c t (ix2 i r) = left m c (ix2 x r) := by
  obtain ⟨⟨e0, e1⟩, -⟩ := place t
  refine congrArg (m (c.tc.loc main_arg0)) (idx_ext ?_ ?_)
  · show win0_0.index t (0 : Fin 2) * 1024 + 1 * i.val = x.val; omega
  · show win0_0.index t (1 : Fin 2) * 1024 + 1 * r.val = r.val; omega

theorem right_at (t : Fin cfg0.N) (r : Fin 1024) (j : Fin 1024) (y : Fin 1024) (hy : y.val = j.val) :
    rightT m c t (ix2 r j) = right m c (ix2 r y) := by
  obtain ⟨-, ⟨e0, e1⟩, -⟩ := place t
  refine congrArg (m (c.tc.loc main_arg1)) (idx_ext ?_ ?_)
  · show win0_1.index t (0 : Fin 2) * 1024 + 1 * r.val = r.val; omega
  · show win0_1.index t (1 : Fin 2) * 1024 + 1 * j.val = y.val; omega

/-- The kernel's result is the product. -/
theorem result : (dats m 0 c).arrAt 2 cfg0.N = product m c := by
  refine (dats m 0 c).arrAt_eq_of_covers 2 _ (by decide +kernel) fun t hf y => ?_
  blk_simp
  rw [after0_2]
  frame_out
  obtain ⟨-, -, e0, e1⟩ := place t
  rw [ValueIdx.eq_ix2 y]
  refine (block_at _ _ _ _).trans (Finset.sum_congr rfl fun r _ => ?_)
  refine congrArg₂ (· * ·) ((left_at m c t _ r ((((cfg0.win 2).blk t).view.emb (ix2 (y 0) (y 1))) 0) ?_)) ((right_at m c t r _ ((((cfg0.win 2).blk t).view.emb (ix2 (y 0) (y 1))) 1) ?_))
  · show win0_2.index t (0 : Fin 2) * 1024 + 1 * (y 0).val = _
    omega
  · show win0_2.index t (1 : Fin 2) * 1024 + 1 * (y 1).val = _
    omega

end Kernel

section Reference

/-- The reference's result at an entry. -/
theorem reference_at (a : FVec Ideal Cert.Reference13Ideal.S16384x1024 .bf16) (b : FVec Ideal Cert.Reference13Ideal.S1024x1024 .bf16)
    (i : Fin 16384) (j : Fin 1024) :
    Host.dotGeneral Cert.Reference13Ideal.dot_S16384x1024_S1024x1024_S16384x1024_1_0_0_1_n_n none
      (extf .f32 a Cert.Reference13Ideal.Facts₀.bitsLt_bf16_f32) (extf .f32 b Cert.Reference13Ideal.Facts₀.bitsLt_bf16_f32) (ix2 i j)
    = ∑ x : Fin 1024, a (ix2 i x) * b (ix2 x j) := by
  pointwise

end Reference

end Cert.Proof.Out

namespace Cert.Proof

open Idealize.ShloMosaic Idealize.ShloMosaic.TcCoe Idealize.SL.Sem

theorem frame_reference13 [Cert.Reference13Ideal.Facts] : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The value claim: both leave the product. -/
theorem algebraic13 [Cert.Kernel13Ideal.Facts] [Cert.Reference13Ideal.Facts] : Cert.algebraic_Kernel13Ideal_Reference13Ideal :=
  fun m g m' g' _ ha => ⟨fun c => Out.product m c,
    (θ_run Cert.Kernel13Ideal.defs _ _).mono (fun r h c => ⟨(h c).1.trans (Out.result m c), (h c).2⟩) (Cert.Kernel13Ideal.Value.run_blocks m g),
    (θ_run Cert.Reference13Ideal.defs _ _).mono (fun r h c => ⟨(h c).1.trans (by
      rw [(ha c).1, (ha c).2]
      funext p
      rw [ValueIdx.eq_ix2 p]
      exact Out.reference_at _ _ _ _), (h c).2⟩)
      (Cert.Reference13Ideal.Value.run (F := Ideal) m' g')⟩

end Cert.Proof

end
-- ==== Proof.NormBwd.lean ====
/- The gradient of the layer norm: of the two arrays whose sum it normalises, and of the bias, the scale and the shift. -/
module

public import proofs.«01_k».proof.Proof.Tiles
public import proofs.«01_k».proof.Proof.Gen.Kernel14.Frame
public import proofs.«01_k».proof.Proof.Gen.Kernel14Ideal.Value
public import proofs.«01_k».proof.Proof.Gen.Reference14Ideal.Run

@[expose] public section

set_option maxRecDepth 16384

noncomputable section

namespace Cert.Proof.NormBwd

open Idealize.ShloMosaic (Ideal)

/-- The constants as both programs write them: the weight of the residual, the width, the variance's offset, and the
factors of the derivatives of the square and of the inverse root. -/
abbrev alpha : EReal := Idealize.ShloMosaic.Ideal.ofBits .f32 0x3FD744FD#32
abbrev size : EReal := Idealize.ShloMosaic.Ideal.ofBits .f32 0x44800000#32
abbrev offset : EReal := Idealize.ShloMosaic.Ideal.ofBits .f32 0x3727C5AC#32
abbrev two : EReal := Idealize.ShloMosaic.Ideal.ofBits .f32 0x40000000#32
abbrev minusHalf : EReal := Idealize.ShloMosaic.Ideal.ofBits .f32 0xBF000000#32

section Row

/- A row to be normalised, its scale, and the cotangent of the normalised row. -/
variable (r g d : Fin 1024 → EReal)

def mean : EReal := Idealize.ShloMosaic.Ideal.div (∑ x, r x) size
/-- The row less its mean. -/
def centred (j : Fin 1024) : EReal := r j - mean r
/-- The variance with its offset, and the inverse root's derivative there. -/
def spread : EReal := Idealize.ShloMosaic.Ideal.div (∑ x, centred r x * centred r x) size + offset
def slope : EReal := minusHalf * Idealize.ShloMosaic.Ideal.div (Idealize.ShloMosaic.Ideal.rsqrt (spread r)) (spread r)
/-- The row, normalised. -/
def hat (j : Fin 1024) : EReal := centred r j * Idealize.ShloMosaic.Ideal.rsqrt (spread r)
/-- What reaches an entry through the quotient's numerator, and through the variance. -/
def direct (j : Fin 1024) : EReal := d j * g j * Idealize.ShloMosaic.Ideal.rsqrt (spread r)
def through (j : Fin 1024) : EReal :=
  Idealize.ShloMosaic.Ideal.div ((∑ x, centred r x * (d x * g x)) * slope r) size * (two * centred r j)
/-- The gradient of the row; the last term is what reaches it through the mean. -/
def rowGrad (j : Fin 1024) : EReal :=
  direct r g d j + through r g d j + Idealize.ShloMosaic.Ideal.div ((∑ x, -direct r g d x) + ∑ x, -through r g d x) size

end Row

/-- Three rows of eight, the other five zero. -/
def three (a b d : EReal) (i : ℕ) : EReal := if i = 0 then a else if i = 1 then b else if i = 2 then d else 0

end Cert.Proof.NormBwd

namespace Cert.Proof.NormBwd

open Cert.Kernel14Ideal Cert.Kernel14Ideal.Gen
open Idealize.ShloMosaic Idealize.ShloMosaic.TcCoe Idealize.SL.Sem

section Block

variable (x y : Vec Ideal S1024x1024 .f32) (b g : Vec Ideal S1x1024 .f32) (d : Vec Ideal S1024x1024 .f32) (i : Fin 1024)

/-- The row of a block that is normalised. -/
abbrev blockRow (j : Fin 1024) : EReal := alpha * x (ix2 i j) + y (ix2 i j) + b (ix2 0 j)

theorem row_at (j : Fin 1024) : k0_pay4 x y b (ix2 i j) = blockRow x y b i j := by
  pointwise [k0_pay4]
theorem mean_at (j : Fin 1) : k0_pay5 x y b (ix2 i j) = mean (blockRow x y b i) := by
  pointwise [k0_pay5]
  simp only [row_at]
  rfl
theorem centred_at (j : Fin 1024) : k0_pay6 x y b (ix2 i j) = centred (blockRow x y b i) j := by
  pointwise [k0_pay6]
  rw [row_at, mean_at]
  rfl
theorem centred_at' (j : Fin 1024) : k0_pay8 x y b (ix2 i j) = centred (blockRow x y b i) j := by
  pointwise [k0_pay8]
  rw [row_at, mean_at]
  rfl
theorem twice_at (j : Fin 1024) : k0_pay7 x y b (ix2 i j) = two * centred (blockRow x y b i) j := by
  pointwise [k0_pay7]
  rw [centred_at]
theorem spread_at (j : Fin 1) : k0_pay9 x y b (ix2 i j) = spread (blockRow x y b i) := by
  pointwise [k0_pay9]
  simp only [centred_at]
  rfl
theorem root_at (j : Fin 1) : k0_pay10 x y b (ix2 i j) = Idealize.ShloMosaic.Ideal.rsqrt (spread (blockRow x y b i)) := by
  pointwise [k0_pay10]
  rw [spread_at]
theorem slope_at (j : Fin 1) : k0_pay11 x y b (ix2 i j) = slope (blockRow x y b i) := by
  pointwise [k0_pay11]
  rw [root_at, spread_at]
  rfl
theorem hat_at (j : Fin 1024) : k0_pay12 x y b (ix2 i j) = hat (blockRow x y b i) j := by
  pointwise [k0_pay12]
  rw [centred_at', root_at]
  rfl
theorem grad_at (j : Fin 1024) : k0_pay16 d (k0_pay3 g) (k0_pay7 x y b) (k0_pay8 x y b) (k0_pay10 x y b) (k0_pay11 x y b) (ix2 i j)
    = rowGrad (blockRow x y b i) (fun j => g (ix2 0 j)) (fun j => d (ix2 i j)) j := by
  pointwise [k0_pay16, k0_pay13, k0_pay3]
  simp only [twice_at, centred_at', root_at, slope_at, Fin.sum_univ_one, zero_sub]
  rfl

end Block

/-- Whether a row of the eight is the one named, as a bit. -/
theorem isRow : ∀ (i : Fin 8) (k : Fin 3), IntOp.cmpi .eq (BitVec.ofNat 32 i.val) (BitVec.ofNat 32 k.val) = if i.val = k.val then 1#1 else 0#1 := by decide

/-- What a point adds to the eight rows. -/
theorem step_at (a b d : FVec Ideal S1x1024 .f32) (z : Vec Ideal S8x1024 .f32) (i : Fin 8) (j : Fin 1024) :
    k0_pay1 a b d z (ix2 i j) = z (ix2 i j) + three (d (ix2 0 j)) (b (ix2 0 j)) (a (ix2 0 j)) i.val := by
  pointwise [k0_pay1]
  rw [show IntOp.cmpi .eq (BitVec.ofNat 32 i.val) 0#32 = _ from isRow i 0, show IntOp.cmpi .eq (BitVec.ofNat 32 i.val) 1#32 = _ from isRow i 1,
    show IntOp.cmpi .eq (BitVec.ofNat 32 i.val) 2#32 = _ from isRow i 2]
  fin_cases i <;> rfl
theorem start_at (i : Fin 8) (j : Fin 1024) : k0_pay2 (F := Ideal) (ix2 i j) = 0 := by
  pointwise [k0_pay2]
theorem shift_at (d : Vec Ideal S1024x1024 .f32) (i : Fin 1) (j : Fin 1024) : k0_pay14 d (ix2 i j) = ∑ s : Fin 1024, d (ix2 s j) := by
  pointwise [k0_pay14]
theorem scale_at (d v : Vec Ideal S1024x1024 .f32) (i : Fin 1) (j : Fin 1024) : k0_pay15 d v (ix2 i j) = ∑ s : Fin 1024, v (ix2 s j) * d (ix2 s j) := by
  pointwise [k0_pay15, k0_pay13]
theorem bias_at (v3 : Vec Ideal S1024x1024 .f32) (v9 : FVec Ideal S1x1024 .f32) (v23 v29 : FVec Ideal S1024x1024 .f32) (v32 v35 : FVec Ideal S1024x1 .f32)
    (i : Fin 1) (j : Fin 1024) : k0_pay17 v3 v9 v23 v29 v32 v35 (ix2 i j) = ∑ s : Fin 1024, k0_pay16 v3 v9 v23 v29 v32 v35 (ix2 s j) := by
  pointwise [k0_pay17]
theorem first_at (v3 : Vec Ideal S1024x1024 .f32) (v9 : FVec Ideal S1x1024 .f32) (v23 v29 : FVec Ideal S1024x1024 .f32) (v32 v35 : FVec Ideal S1024x1 .f32)
    (i j : Fin 1024) : k0_pay18 v3 v9 v23 v29 v32 v35 (ix2 i j) = alpha * k0_pay16 v3 v9 v23 v29 v32 v35 (ix2 i j) := by
  pointwise [k0_pay18]
theorem second_at (v3 : Vec Ideal S1024x1024 .f32) (v9 : FVec Ideal S1x1024 .f32) (v23 v29 : FVec Ideal S1024x1024 .f32) (v32 v35 : FVec Ideal S1024x1 .f32)
    (i j : Fin 1024) : k0_pay19 v3 v9 v23 v29 v32 v35 (ix2 i j) = k0_pay16 v3 v9 v23 v29 v32 v35 (ix2 i j) := by
  pointwise [k0_pay19]

section Kernel

variable (m : (ℓ : Loc nD τ sig) → Buf (Elt Ideal) ℓ) (c : Dev nD)

/-- The two arrays whose sum is normalised, the bias, the scale and the shift, and the cotangent of the output. -/
abbrev skip : S16384x1024.Idx → EReal := m ((c : Thread nD τ).loc main_arg0)
abbrev branch : S16384x1024.Idx → EReal := m ((c : Thread nD τ).loc main_arg1)
abbrev bias : S1024.Idx → EReal := m ((c : Thread nD τ).loc main_arg2)
abbrev gain : S1024.Idx → EReal := m ((c : Thread nD τ).loc main_arg3)
abbrev shift : S1024.Idx → EReal := m ((c : Thread nD τ).loc main_arg4)
abbrev cot : S16384x1024.Idx → EReal := m ((c : Thread nD τ).loc main_arg5)
/-- The bands of the arrays at a grid point, and two of the packed rows. -/
abbrev skipT (t : Fin cfg0.N) : Vec Ideal S1024x1024 .f32 := iblk m c 0 t
abbrev branchT (t : Fin cfg0.N) : Vec Ideal S1024x1024 .f32 := iblk m c 1 t
abbrev cotT (t : Fin cfg0.N) : Vec Ideal S1024x1024 .f32 := iblk m c 3 t
abbrev biasT (t : Fin cfg0.N) : Vec Ideal S1x1024 .f32 := View.ld (iblk m c 2 t) (Rect.unit ![0, 0] ![1, 1024] inb_S8x1024_S1x1024_0_0)
abbrev gainT (t : Fin cfg0.N) : Vec Ideal S1x1024 .f32 := View.ld (iblk m c 2 t) (Rect.unit ![1, 0] ![1, 1024] inb_S8x1024_S1x1024_1_0)

/-- A token's row to be normalised, and its gradient. -/
def row (i : Fin 16384) (j : Fin 1024) : EReal := alpha * skip m c (ix2 i j) + branch m c (ix2 i j) + bias m c (ix1 j)
def grad (i : Fin 16384) (j : Fin 1024) : EReal := rowGrad (row m c i) (fun j => gain m c (ix1 j)) (fun j => cot m c (ix2 i j)) j
/-- What a token adds to the gradient of the scale. -/
def scaled (i : Fin 16384) (j : Fin 1024) : EReal := hat (row m c i) j * cot m c (ix2 i j)
/-- The three results: the gradients of the two arrays, and those of the bias, the scale and the shift in three of eight rows. -/
def firsts : Buf (Elt Ideal) ((c : Thread nD τ).loc main_v5_0) := fun (p : S16384x1024.Idx) => (alpha * grad m c (p 0) (p 1) : EReal)
def seconds : Buf (Elt Ideal) ((c : Thread nD τ).loc main_v5_1) := fun (p : S16384x1024.Idx) => (grad m c (p 0) (p 1) : EReal)
def sums : Buf (Elt Ideal) ((c : Thread nD τ).loc main_v5_2) := fun (p : S8x1024.Idx) =>
  (three (∑ x : Fin 16384, grad m c x (p 1)) (∑ x : Fin 16384, scaled m c x (p 1)) (∑ x : Fin 16384, cot m c (ix2 x (p 1))) (p 0).val : EReal)

/-- The bias, the scale and the shift as the call reads them: three of eight rows. -/
abbrev rows (a b d : FVec Ideal S1024 .f32) : FVec Ideal S8x1024 .f32 :=
  pad S8x1024 ![0, 0] ![5, 0] ![0, 0] (concatenate S3x1024 0 [⟨S1x1024, broadcastInDim S1x1024 ![1] bcast_S1024_S1x1024_1 a⟩,
    ⟨S1x1024, broadcastInDim S1x1024 ![1] bcast_S1024_S1x1024_1 b⟩, ⟨S1x1024, broadcastInDim S1x1024 ![1] bcast_S1024_S1x1024_1 d⟩]
    concatenates_S1x1024_S1x1024_S1x1024_S3x1024_d0) (sitofp .f32 (constantI S_ 32 0#32)) pads_S3x1024_S8x1024_050_000 h_S_
theorem rows_eq : V m c main_v4 = rows (bias m c) (gain m c) (shift m c) := by
  show StableHlo.after (hostOps0 ++ hostOps0_1) (fun b => m (c, b)) (Proc.tc.devRef main_v4) = _
  simp only [hostOps0, hostOps0_1, List.cons_append, List.nil_append, StableHlo.TRef.binary, StableHlo.TRef.unary, StableHlo.TRef.toBuf, StableHlo.TRef.ofBuf, cast_eq]
  after_results_simp
  rfl
theorem rows_at (a b d : FVec Ideal S1024 .f32) (i : Fin 8) (j : Fin 1024) :
    rows a b d (ix2 i j) = three (a (ix1 j)) (b (ix1 j)) (d (ix1 j)) i.val := by
  pointwise [rows]
  fin_cases i <;> first | rfl | exact sitofp_zero

/-- What the three outputs hold after a point. -/
theorem first_of (t : Fin cfg0.N) : (outsAt0 m c t.val t.isLt).1 = k0_pay18 (cotT m c t) (k0_pay3 (gainT m c t)) (k0_pay7 (skipT m c t) (branchT m c t) (biasT m c t))
    (k0_pay8 (skipT m c t) (branchT m c t) (biasT m c t)) (k0_pay10 (skipT m c t) (branchT m c t) (biasT m c t)) (k0_pay11 (skipT m c t) (branchT m c t) (biasT m c t)) := by
  by_cases h : t.val % 16 = 0
  · rw [outsAt0_A m c t h]
    frame_out
    rfl
  · rw [outsAt0_B m c t h]
    frame_out
    rfl
theorem second_of (t : Fin cfg0.N) : (outsAt0 m c t.val t.isLt).2.1 = k0_pay19 (cotT m c t) (k0_pay3 (gainT m c t)) (k0_pay7 (skipT m c t) (branchT m c t) (biasT m c t))
    (k0_pay8 (skipT m c t) (branchT m c t) (biasT m c t)) (k0_pay10 (skipT m c t) (branchT m c t) (biasT m c t)) (k0_pay11 (skipT m c t) (branchT m c t) (biasT m c t)) := by
  by_cases h : t.val % 16 = 0
  · rw [outsAt0_A m c t h]
    frame_out
    rfl
  · rw [outsAt0_B m c t h]
    frame_out
    rfl
/-- A point's step on the eight rows. -/
abbrev step (t : Fin cfg0.N) (z : Vec Ideal S8x1024 .f32) : FVec Ideal S8x1024 .f32 :=
  k0_pay1 (k0_pay14 (cotT m c t)) (k0_pay15 (cotT m c t) (k0_pay12 (skipT m c t) (branchT m c t) (biasT m c t)))
    (k0_pay17 (cotT m c t) (k0_pay3 (gainT m c t)) (k0_pay7 (skipT m c t) (branchT m c t) (biasT m c t)) (k0_pay8 (skipT m c t) (branchT m c t) (biasT m c t))
      (k0_pay10 (skipT m c t) (branchT m c t) (biasT m c t)) (k0_pay11 (skipT m c t) (branchT m c t) (biasT m c t))) z
theorem rows_first (t : Fin cfg0.N) (h : t.val % 16 = 0) : (outsAt0 m c t.val t.isLt).2.2 = step m c t (k0_pay2 (F := Ideal)) := by
  rw [outsAt0_A m c t h]
  frame_out
  rfl
theorem rows_next (t : Fin cfg0.N) (h : ¬t.val % 16 = 0) : (outsAt0 m c t.val t.isLt).2.2 = step m c t (outsAt0 m c (t.val - 1) (by omega)).2.2 := by
  rw [outsAt0_B m c t h]
  frame_out
  rfl

/-- Where the blocks of the seven arrays lie, and which point writes the rows back. -/
theorem place : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ win0_6.index t (0 : Fin 2) = 0 ∧ win0_6.index t (1 : Fin 2) = 0 :=
  (by decide +kernel : ∀ t : Fin grid0.N, _)
theorem writes : ∀ t : Fin cfg0.N, (cfg0.win 6).flush t = true → t.val = 15 :=
  (by decide +kernel : ∀ t : Fin grid0.N, (cfg0.win 6).flush t = true → t.val = 15)
theorem points : ∀ t : Fin cfg0.N, t.val < 16 := (by decide +kernel : ∀ t : Fin grid0.N, t.val < 16)

section Bands

variable (t : Fin cfg0.N) (i : Fin 1024) (x : Fin 16384) (hx : x.val = 1024 * t.val + i.val)

include hx in
theorem skip_at (j : Fin 1024) : skipT m c t (ix2 i j) = skip m c (ix2 x j) := by
  obtain ⟨⟨e0, e1⟩, -⟩ := place t
  refine (congrFun (V_main_arg0 m c) _).trans (congrArg (m (c.tc.loc main_arg0)) (idx_ext ?_ ?_))
  · show win0_0.index t (0 : Fin 2) * 1024 + 1 * i.val = x.val; omega
  · show win0_0.index t (1 : Fin 2) * 1024 + 1 * j.val = j.val; omega

include hx in
theorem branch_at (j : Fin 1024) : branchT m c t (ix2 i j) = branch m c (ix2 x j) := by
  obtain ⟨-, ⟨e0, e1⟩, -⟩ := place t
  refine (congrFun (V_main_arg1 m c) _).trans (congrArg (m (c.tc.loc main_arg1)) (idx_ext ?_ ?_))
  · show win0_1.index t (0 : Fin 2) * 1024 + 1 * i.val = x.val; omega
  · show win0_1.index t (1 : Fin 2) * 1024 + 1 * j.val = j.val; omega

include hx in
theorem cot_at (j : Fin 1024) : cotT m c t (ix2 i j) = cot m c (ix2 x j) := by
  obtain ⟨-, -, -, ⟨e0, e1⟩, -⟩ := place t
  refine (congrFun (V_main_arg5 m c) _).trans (congrArg (m (c.tc.loc main_arg5)) (idx_ext ?_ ?_))
  · show win0_3.index t (0 : Fin 2) * 1024 + 1 * i.val = x.val; omega
  · show win0_3.index t (1 : Fin 2) * 1024 + 1 * j.val = j.val; omega

/-- The packed rows are the whole array at every point. -/
theorem packed_at (k : Fin 8) (j : Fin 1024) : (iblk m c 2 t : Vec Ideal S8x1024 .f32) (ix2 k j) = three (bias m c (ix1 j)) (gain m c (ix1 j)) (shift m c (ix1 j)) k.val := by
  obtain ⟨-, -, ⟨e0, e1⟩, -⟩ := place t
  rw [← rows_at, ← rows_eq]
  unfold iblk
  rw [View.read_apply]
  show V m c main_v4 _ = V m c main_v4 _
  congr 1
  exact idx_ext (by show win0_2.index t (0 : Fin 2) * 8 + 1 * k.val = k.val; omega) (by show win0_2.index t (1 : Fin 2) * 1024 + 1 * j.val = j.val; omega)
theorem biasT_at (j : Fin 1024) : biasT m c t (ix2 0 j) = bias m c (ix1 j) := by
  refine Eq.trans (congrArg (iblk m c 2 t : Vec Ideal S8x1024 .f32) ?_) (packed_at m c t 0 j)
  exact idx_ext rfl (by show 0 + 1 * j.val = j.val; omega)
theorem gainT_at (j : Fin 1024) : gainT m c t (ix2 0 j) = gain m c (ix1 j) := by
  refine Eq.trans (congrArg (iblk m c 2 t : Vec Ideal S8x1024 .f32) ?_) (packed_at m c t 1 j)
  exact idx_ext rfl (by show 0 + 1 * j.val = j.val; omega)

include hx in
theorem row_of : blockRow (skipT m c t) (branchT m c t) (biasT m c t) i = row m c x :=
  funext fun j => congrArg₂ (· + ·) (congrArg₂ (· + ·) (congrArg (alpha * ·) (skip_at m c t i x hx j)) (branch_at m c t i x hx j)) (biasT_at m c t j)

include hx in
/-- A point's bands give the gradient of a token's row. -/
theorem grad_of (j : Fin 1024) : k0_pay16 (cotT m c t) (k0_pay3 (gainT m c t)) (k0_pay7 (skipT m c t) (branchT m c t) (biasT m c t))
    (k0_pay8 (skipT m c t) (branchT m c t) (biasT m c t)) (k0_pay10 (skipT m c t) (branchT m c t) (biasT m c t)) (k0_pay11 (skipT m c t) (branchT m c t) (biasT m c t)) (ix2 i j)
    = grad m c x j := by
  rw [grad_at, row_of m c t i x hx, show (fun j => gainT m c t (ix2 0 j)) = fun j => gain m c (ix1 j) from funext (gainT_at m c t),
    show (fun j => cotT m c t (ix2 i j)) = fun j => cot m c (ix2 x j) from funext (cot_at m c t i x hx)]
  rfl
include hx in
theorem scaled_of (j : Fin 1024) : k0_pay12 (skipT m c t) (branchT m c t) (biasT m c t) (ix2 i j) * cotT m c t (ix2 i j) = scaled m c x j := by
  rw [hat_at, row_of m c t i x hx, cot_at m c t i x hx]
  rfl

end Bands

theorem result_firsts : (dats m 0 c).arrAt 4 cfg0.N = firsts m c := by
  refine (dats m 0 c).arrAt_eq_of_covers 4 _ (by decide +kernel) fun t hf y => ?_
  blk_simp
  rw [after0_4, first_of]
  obtain ⟨-, -, -, -, ⟨e0, e1⟩, -⟩ := place t
  rw [ValueIdx.eq_ix2 y]
  have h1 : ((((cfg0.win 4).blk t).view.emb (ix2 (y 0) (y 1))) 1) = y 1 := by
    apply Fin.ext
    show win0_4.index t (1 : Fin 2) * 1024 + 1 * (y 1).val = _
    omega
  refine (first_at _ _ _ _ _ _ _ _).trans (congrArg (alpha * ·) ((grad_of m c t _ ((((cfg0.win 4).blk t).view.emb (ix2 (y 0) (y 1))) 0) ?_ _).trans
    (congrArg (grad m c _) h1.symm)))
  show win0_4.index t (0 : Fin 2) * 1024 + 1 * (y 0).val = _
  omega

theorem result_seconds : (dats m 0 c).arrAt 5 cfg0.N = seconds m c := by
  refine (dats m 0 c).arrAt_eq_of_covers 5 _ (by decide +kernel) fun t hf y => ?_
  blk_simp
  rw [after0_5, second_of]
  obtain ⟨-, -, -, -, -, ⟨e0, e1⟩, -⟩ := place t
  rw [ValueIdx.eq_ix2 y]
  have h1 : ((((cfg0.win 5).blk t).view.emb (ix2 (y 0) (y 1))) 1) = y 1 := by
    apply Fin.ext
    show win0_5.index t (1 : Fin 2) * 1024 + 1 * (y 1).val = _
    omega
  refine (second_at _ _ _ _ _ _ _ _).trans ((grad_of m c t _ ((((cfg0.win 5).blk t).view.emb (ix2 (y 0) (y 1))) 0) ?_ _).trans
    (congrArg (grad m c _) h1.symm))
  show win0_5.index t (0 : Fin 2) * 1024 + 1 * (y 0).val = _
  omega

/-- The sum of a token's share over the tokens of point `n`. -/
def part (f : Fin 16384 → EReal) (n : ℕ) : EReal := if h : n < 16 then ∑ s : Fin 1024, f ⟨1024 * n + s.val, by have := s.isLt; omega⟩ else 0
theorem part_sum (f : Fin 16384 → EReal) : ∑ s ∈ Finset.range 16, part f s = ∑ x, f x :=
  sum_tiles (b := 1024) (by norm_num) _ _ fun s hs => dif_pos hs
theorem three_eq {a b d a' b' d' : EReal} (h : a = a') (h' : b = b') (h'' : d = d') (i : ℕ) : three a b d i = three a' b' d' i := by
  rw [h, h', h'']
theorem step_of (t : Fin cfg0.N) (z : Vec Ideal S8x1024 .f32) (i : Fin 8) (j : Fin 1024) : step m c t z (ix2 i j) = z (ix2 i j)
    + three (part (fun x => grad m c x j) t.val) (part (fun x => scaled m c x j) t.val) (part (fun x => cot m c (ix2 x j)) t.val) i.val := by
  have ht := points t
  unfold part
  rw [dif_pos ht, dif_pos ht, dif_pos ht, step, step_at, bias_at, scale_at, shift_at]
  exact congrArg (z (ix2 i j) + ·) (three_eq (Finset.sum_congr rfl fun s _ => grad_of m c t s ⟨1024 * t.val + s.val, by have := s.isLt; omega⟩ rfl j)
    (Finset.sum_congr rfl fun s _ => scaled_of m c t s ⟨1024 * t.val + s.val, by have := s.isLt; omega⟩ rfl j)
    (Finset.sum_congr rfl fun s _ => cot_at m c t s ⟨1024 * t.val + s.val, by have := s.isLt; omega⟩ rfl j) i.val)
theorem three_add (a b d a' b' d' : EReal) (i : ℕ) : three a b d i + three a' b' d' i = three (a + a') (b + b') (d + d') i := by
  unfold three
  split_ifs <;> first | rfl | exact add_zero 0

/-- The rows after each point: the sums over the points so far. -/
theorem sums_at (k : ℕ) : ∀ (t : Fin cfg0.N), t.val = k → ∀ (i : Fin 8) (j : Fin 1024), (outsAt0 m c t.val t.isLt).2.2 (ix2 i j)
    = three (∑ s ∈ Finset.range (k + 1), part (fun x => grad m c x j) s) (∑ s ∈ Finset.range (k + 1), part (fun x => scaled m c x j) s)
      (∑ s ∈ Finset.range (k + 1), part (fun x => cot m c (ix2 x j)) s) i.val := by
  induction k with
  | zero =>
    intro t h i j
    rw [rows_first m c t (by omega), step_of, start_at, zero_add, h, Finset.sum_range_one, Finset.sum_range_one, Finset.sum_range_one]
  | succ k ih =>
    intro t h i j
    have ht := points t
    rw [rows_next m c t (by omega), step_of]
    rw [ih ⟨t.val - 1, by have := t.isLt; omega⟩ (by show t.val - 1 = k; omega) i j, three_add, h,
      Finset.sum_range_succ _ (k + 1), Finset.sum_range_succ _ (k + 1), Finset.sum_range_succ _ (k + 1)]

theorem result_sums : (dats m 0 c).arrAt 6 cfg0.N = sums m c := by
  refine (dats m 0 c).arrAt_eq_of_covers 6 _ (by decide +kernel) fun t hf y => ?_
  have h15 := writes t hf
  blk_simp
  rw [after0_6]
  obtain ⟨-, -, -, -, -, -, e0, e1⟩ := place t
  rw [ValueIdx.eq_ix2 y]
  have h0 : ((((cfg0.win 6).blk t).view.emb (ix2 (y 0) (y 1))) 0) = y 0 := by
    apply Fin.ext
    show win0_6.index t (0 : Fin 2) * 8 + 1 * (y 0).val = _
    omega
  have h1 : ((((cfg0.win 6).blk t).view.emb (ix2 (y 0) (y 1))) 1) = y 1 := by
    apply Fin.ext
    show win0_6.index t (1 : Fin 2) * 1024 + 1 * (y 1).val = _
    omega
  refine (sums_at m c 15 t h15 _ _).trans ?_
  rw [part_sum, part_sum, part_sum]
  exact (congrArg₂ (fun (q : Fin 1024) (n : ℕ) => three (∑ x : Fin 16384, grad m c x q) (∑ x : Fin 16384, scaled m c x q)
    (∑ x : Fin 16384, cot m c (ix2 x q)) n) h1 (congrArg Fin.val h0)).symm

end Kernel

end Cert.Proof.NormBwd

namespace Cert.Proof.NormBwd

section Reference

open Cert.Reference14Ideal Cert.Reference14Ideal.Facts₀
open Idealize.ShloMosaic Idealize.ShloMosaic.TcCoe

variable (x y : FVec Ideal S16384x1024 .f32) (b g : FVec Ideal S1024 .f32) (d : FVec Ideal S16384x1024 .f32)

/-- The reference's steps, as it composes them. -/
def refRow : FVec Ideal S16384x1024 .f32 :=
  addf (addf (mulf (broadcastInDim S16384x1024 ![] bcast_S_S16384x1024 (constant S_ .f32 0x3FD744FD#32)) x) y)
    (broadcastInDim S16384x1024 ![0, 1] bcast_S1x1024_S16384x1024_0_1 (broadcastInDim S1x1024 ![1] bcast_S1024_S1x1024_1 b))
def refMean : FVec Ideal S16384x1 .f32 :=
  Host.divf (broadcastInDim S16384x1 ![0] bcast_S16384_S16384x1_0 (Host.reduceAdd (refRow x y b) (constant S_ .f32 0x00000000#32) reducesTo_S16384x1024_S16384_d1 h_S_))
    (broadcastInDim S16384x1 ![] bcast_S_S16384x1 (constant S_ .f32 0x44800000#32))
def refCentred : FVec Ideal S16384x1024 .f32 :=
  subf (refRow x y b) (broadcastInDim S16384x1024 ![0, 1] bcast_S16384x1_S16384x1024_0_1 (refMean x y b))
def refSpread : FVec Ideal S16384x1 .f32 :=
  addf (Host.divf (broadcastInDim S16384x1 ![0] bcast_S16384_S16384x1_0 (Host.reduceAdd (mulf (refCentred x y b) (refCentred x y b))
      (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x3727C5AC#32))
def refSlope : FVec Ideal S16384x1 .f32 :=
  mulf (broadcastInDim S16384x1 ![] bcast_S_S16384x1 (constant S_ .f32 0xBF000000#32)) (Host.divf (Host.rsqrt (refSpread x y b)) (refSpread x y b))
def refHat : FVec Ideal S16384x1024 .f32 :=
  mulf (refCentred x y b) (broadcastInDim S16384x1024 ![0, 1] bcast_S16384x1_S16384x1024_0_1 (Host.rsqrt (refSpread x y b)))
def refCot : FVec Ideal S16384x1024 .f32 := shapeCast _ d shapeCasts_S16384x1024_S16384x1024
def refScaled : FVec Ideal S16384x1024 .f32 :=
  mulf (refCot d) (broadcastInDim S16384x1024 ![0, 1] bcast_S1x1024_S16384x1024_0_1 (broadcastInDim S1x1024 ![1] bcast_S1024_S1x1024_1 g))
def refDirect : FVec Ideal S16384x1024 .f32 :=
  mulf (refScaled g d) (broadcastInDim S16384x1024 ![0, 1] bcast_S16384x1_S16384x1024_0_1 (Host.rsqrt (refSpread x y b)))
def refThrough : FVec Ideal S16384x1024 .f32 :=
  mulf (broadcastInDim S16384x1024 ![0] bcast_S16384_S16384x1024_0 (Host.reduceAdd (Host.divf (mulf (shapeCast _ (Host.reduceAdd (mulf (refCentred x y b) (refScaled g d))
      (constant S_ .f32 0x00000000#32) reducesTo_S16384x1024_S16384_d1 h_S_) shapeCasts_S16384_S16384x1) (refSlope x y b))
      (broadcastInDim S16384x1 ![] bcast_S_S16384x1 (constant S_ .f32 0x44800000#32))) (constant S_ .f32 0x00000000#32) reducesTo_S16384x1_S16384_d1 h_S_))
    (mulf (broadcastInDim S16384x1024 ![] bcast_S_S16384x1024 (constant S_ .f32 0x40000000#32)) (refCentred x y b))
def refGrad : FVec Ideal S16384x1024 .f32 :=
  addf (addf (refDirect x y b g d) (refThrough x y b g d)) (broadcastInDim S16384x1024 ![0] bcast_S16384_S16384x1024_0 (Host.reduceAdd (Host.divf
    (addf (shapeCast _ (Host.reduceAdd (Host.negf (refDirect x y b g d)) (constant S_ .f32 0x00000000#32) reducesTo_S16384x1024_S16384_d1 h_S_) shapeCasts_S16384_S16384x1)
      (shapeCast _ (Host.reduceAdd (Host.negf (refThrough x y b g d)) (constant S_ .f32 0x00000000#32) reducesTo_S16384x1024_S16384_d1 h_S_) shapeCasts_S16384_S16384x1))
    (broadcastInDim S16384x1 ![] bcast_S_S16384x1 (constant S_ .f32 0x44800000#32))) (constant S_ .f32 0x00000000#32) reducesTo_S16384x1_S16384_d1 h_S_))
/-- The sum over tokens, as one row. -/
def refSum (u : FVec Ideal S16384x1024 .f32) : FVec Ideal S1x1024 .f32 :=
  broadcastInDim S1x1024 ![1] bcast_S1024_S1x1024_1 (Host.reduceAdd (shapeCast _ (Host.reduceAdd u (constant S_ .f32 0x00000000#32)
    reducesTo_S16384x1024_S1024_d0 h_S_) shapeCasts_S1024_S1x1024) (constant S_ .f32 0x00000000#32) reducesTo_S1x1024_S1024_d0 h_S_)
def refRows (u v w : FVec Ideal S1x1024 .f32) : FVec Ideal S8x1024 .f32 :=
  pad S8x1024 ![0, 0] ![5, 0] ![0, 0] (concatenate S3x1024 0 [⟨S1x1024, u⟩, ⟨S1x1024, v⟩, ⟨S1x1024, w⟩] concatenates_S1x1024_S1x1024_S1x1024_S3x1024_d0)
    (sitofp .f32 (constantI S_ 32 0#32)) pads_S3x1024_S8x1024_050_000 h_S_

/-- A token's row in the reference. -/
abbrev tokenRow (i : Fin 16384) (j : Fin 1024) : EReal := alpha * x (ix2 i j) + y (ix2 i j) + b (ix1 j)

variable (i : Fin 16384)

theorem refRow_at (j : Fin 1024) : refRow x y b (ix2 i j) = tokenRow x y b i j := by
  pointwise [refRow]
theorem refMean_at (j : Fin 1) : refMean x y b (ix2 i j) = mean (tokenRow x y b i) := by
  pointwise [refMean]
  simp only [refRow_at]
  rfl
theorem refCentred_at (j : Fin 1024) : refCentred x y b (ix2 i j) = centred (tokenRow x y b i) j := by
  pointwise [refCentred]
  rw [refRow_at, refMean_at]
  rfl
theorem refSpread_at (j : Fin 1) : refSpread x y b (ix2 i j) = spread (tokenRow x y b i) := by
  pointwise [refSpread]
  simp only [refCentred_at]
  rfl
theorem refSlope_at (j : Fin 1) : refSlope x y b (ix2 i j) = slope (tokenRow x y b i) := by
  pointwise [refSlope]
  rw [refSpread_at]
  rfl
theorem refHat_at (j : Fin 1024) : refHat x y b (ix2 i j) = hat (tokenRow x y b i) j := by
  pointwise [refHat]
  rw [refCentred_at, refSpread_at]
  rfl
theorem refCot_at (j : Fin 1024) : refCot d (ix2 i j) = d (ix2 i j) := by
  pointwise [refCot]
theorem refScaled_at (j : Fin 1024) : refScaled g d (ix2 i j) = d (ix2 i j) * g (ix1 j) := by
  pointwise [refScaled]
  rw [refCot_at]
theorem refDirect_at (j : Fin 1024) : refDirect x y b g d (ix2 i j) = direct (tokenRow x y b i) (fun j => g (ix1 j)) (fun j => d (ix2 i j)) j := by
  pointwise [refDirect]
  rw [refScaled_at, refSpread_at]
  rfl
theorem refThrough_at (j : Fin 1024) : refThrough x y b g d (ix2 i j) = through (tokenRow x y b i) (fun j => g (ix1 j)) (fun j => d (ix2 i j)) j := by
  pointwise [refThrough]
  simp only [refCentred_at, refScaled_at, refSlope_at, Fin.sum_univ_one]
  rfl
theorem refGrad_at (j : Fin 1024) : refGrad x y b g d (ix2 i j) = rowGrad (tokenRow x y b i) (fun j => g (ix1 j)) (fun j => d (ix2 i j)) j := by
  pointwise [refGrad]
  simp only [refDirect_at, refThrough_at, Fin.sum_univ_one]
  rfl
theorem refSum_at (u : FVec Ideal S16384x1024 .f32) (k : Fin 1) (j : Fin 1024) : refSum u (ix2 k j) = ∑ s : Fin 16384, u (ix2 s j) := by
  pointwise [refSum]
  simp only [Fin.sum_univ_one]
theorem refRows_at (u v w : FVec Ideal S1x1024 .f32) (k : Fin 8) (j : Fin 1024) :
    refRows u v w (ix2 k j) = three (u (ix2 0 j)) (v (ix2 0 j)) (w (ix2 0 j)) k.val := by
  pointwise [refRows]
  fin_cases k <;> first | rfl | exact sitofp_zero

section Results

variable (m : (ℓ : Loc nD τ sig) → Buf (Elt Ideal) ℓ) (c : Dev nD)

/-- The gradient over a device's arguments. -/
abbrev devGrad : FVec Ideal S16384x1024 .f32 := refGrad (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg5))

theorem out0 : Value.res_out0 m c = mulf (broadcastInDim S16384x1024 ![] bcast_S_S16384x1024 (constant S_ .f32 0x3FD744FD#32)) (devGrad m c) := rfl
theorem out1 : Value.res_out1 m c = truncf .bf16 (devGrad m c) bitsLt_bf16_f32 := rfl
theorem out2 : Value.res_out2 m c = refRows (refSum (devGrad m c)) (refSum (mulf (refHat (m ((c.tc : Thread nD τ).loc main_arg0)) (m ((c.tc : Thread nD τ).loc main_arg1))
    (m ((c.tc : Thread nD τ).loc main_arg2))) (refCot (m ((c.tc : Thread nD τ).loc main_arg5))))) (refSum (m ((c.tc : Thread nD τ).loc main_arg5))) := rfl

end Results

theorem times_at (u : FVec Ideal S16384x1024 .f32) (j : Fin 1024) :
    mulf (broadcastInDim S16384x1024 ![] bcast_S_S16384x1024 (constant S_ .f32 0x3FD744FD#32)) u (ix2 i j) = alpha * u (ix2 i j) := by
  pointwise
theorem refScaledCot_at (j : Fin 1024) : mulf (refHat x y b) (refCot d) (ix2 i j) = hat (tokenRow x y b i) j * d (ix2 i j) := by
  pointwise
  rw [refHat_at, refCot_at]
theorem cast_at (u : FVec Ideal S16384x1024 .f32) (j : Fin 1024) : truncf .bf16 u bitsLt_bf16_f32 (ix2 i j) = u (ix2 i j) := by
  pointwise

end Reference

end Cert.Proof.NormBwd

namespace Cert.Proof

open Idealize.ShloMosaic Idealize.ShloMosaic.TcCoe Idealize.SL.Sem

theorem frame_reference14 [Cert.Reference14Ideal.Facts] : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- The value claim: both leave the gradients. -/
theorem algebraic14 [Cert.Kernel14Ideal.Facts] [Cert.Reference14Ideal.Facts] : Cert.algebraic_Kernel14Ideal_Reference14Ideal :=
  fun m g m' g' _ ha => ⟨fun c => NormBwd.firsts m c, fun c => NormBwd.seconds m c, fun c => NormBwd.sums m c,
    (θ_run Cert.Kernel14Ideal.defs _ _).mono (fun r h c => ⟨(h c).1.trans (NormBwd.result_firsts m c), (h c).2.1.trans (NormBwd.result_seconds m c),
      (h c).2.2.1.trans (NormBwd.result_sums m c), (h c).2.2.2⟩) (Cert.Kernel14Ideal.Value.run_blocks m g),
    (θ_run Cert.Reference14Ideal.defs _ _).mono (fun r h c => by
      obtain ⟨a0, a1, a2, a3, -, a5⟩ := ha c
      have hd : ∀ i j, NormBwd.devGrad m' c (ix2 i j) = NormBwd.grad m c i j := fun i j => by
        unfold NormBwd.devGrad
        rw [a0, a1, a2, a3, a5]
        exact NormBwd.refGrad_at _ _ _ _ _ _ _
      refine ⟨(h c).1.trans ?_, (h c).2.1.trans ?_, (h c).2.2.1.trans ?_, (h c).2.2.2⟩
      · refine (NormBwd.out0 m' c).trans (funext fun p => ?_)
        rw [ValueIdx.eq_ix2 p]
        exact (NormBwd.times_at _ _ _).trans (congrArg (NormBwd.alpha * ·) (hd _ _))
      · refine (NormBwd.out1 m' c).trans (funext fun p => ?_)
        rw [ValueIdx.eq_ix2 p]
        exact (NormBwd.cast_at _ _ _).trans (hd _ _)
      · refine (NormBwd.out2 m' c).trans (funext fun p => ?_)
        rw [ValueIdx.eq_ix2 p, a0, a1, a2, a5]
        refine (NormBwd.refRows_at _ _ _ _ _).trans (NormBwd.three_eq ?_ ?_ ?_ _)
        · exact (NormBwd.refSum_at _ _ _).trans (Finset.sum_congr rfl fun s _ => hd s _)
        · exact (NormBwd.refSum_at _ _ _).trans (Finset.sum_congr rfl fun s _ => NormBwd.refScaledCot_at _ _ _ _ _ _)
        · exact NormBwd.refSum_at _ _ _)
      (Cert.Reference14Ideal.Value.run (F := Ideal) m' g')⟩

end Cert.Proof

end
-- ==== Proof.Loss.lean ====
/- The loss and its gradient, from the last layer's output. -/
module

public import proofs.«01_k».proof.Proof.NormBwd
public import proofs.«01_k».proof.Proof.Gen.Kernel15.Frame
public import proofs.«01_k».proof.Proof.Gen.Kernel15Ideal.Value
public import proofs.«01_k».proof.Proof.Gen.Reference15Ideal.Run

@[expose] public section

set_option maxRecDepth 16384

noncomputable section

open Idealize.ShloMosaic Idealize.ShloMosaic.TcCoe Idealize.SL.Sem

namespace Cert.Proof.Loss

open Cert.Kernel15Ideal Cert.Kernel15Ideal.Gen
open Cert.Proof.NormBwd (size two part part_sum)

/-- The constants: a half, and what the kernel multiplies the error by for the gradient. -/
abbrev half : EReal := Ideal.ofBits .f32 0x3F000000#32
abbrev scale : EReal := Ideal.ofBits .f32 0x3A800000#32
theorem half_eq : half = ((1 / 2 : ℝ) : EReal) := by
  simp [Ideal.ofBits, Ideal.ieee, -EReal.coe_mul]
  norm_num
theorem two_eq : two = ((2 : ℝ) : EReal) := by
  simp [Ideal.ofBits, Ideal.ieee, -EReal.coe_mul]
  norm_num
theorem size_eq : size = ((1024 : ℝ) : EReal) := by
  simp [Ideal.ofBits, Ideal.ieee, -EReal.coe_mul]
  norm_num
theorem scale_eq : scale = ((1 / 1024 : ℝ) : EReal) := by
  simp [Ideal.ofBits, Ideal.ieee, -EReal.coe_mul]
  norm_num
/-- The reference's factors of an error make the kernel's. -/
theorem factor (e : EReal) : Ideal.div half size * (two * e) = e * scale := by
  rw [half_eq, size_eq, two_eq, scale_eq, Ideal.div_coe (by norm_num), ← mul_assoc, ← EReal.coe_mul, ← EReal.coe_mul, mul_comm e]
  norm_num
/-- A half of a sum is the sum of the halves. -/
theorem half_sum {ι : Type} (s : Finset ι) (f : ι → EReal) : half * ∑ x ∈ s, f x = ∑ x ∈ s, half * f x := by
  classical
  induction s using Finset.induction_on with
  | empty => exact mul_zero _
  | insert a s h ih =>
    rw [Finset.sum_insert h, Finset.sum_insert h, ← ih]
    exact EReal.left_distrib_of_nonneg_of_ne_top (by rw [half_eq]; exact_mod_cast (by norm_num : (0 : ℝ) ≤ 1 / 2)) (by rw [half_eq]; exact EReal.coe_ne_top _) _ _

/-- A token's share of the loss, doubled: the mean of its squared errors. -/
abbrev meanSquare (d : Fin 1024 → EReal) : EReal := Ideal.div (∑ r, d r * d r) size

theorem grad_at (x y : Vec Ideal S1024x1024 .f32) (i j : Fin 1024) : k0_pay3 x y (ix2 i j) = (x (ix2 i j) - y (ix2 i j)) * scale := by
  pointwise [k0_pay3, k0_pay2]
theorem start_at (i : Fin 8) (j : Fin 128) : k0_pay1 (F := Ideal) (ix2 i j) = 0 := by
  pointwise [k0_pay1]
theorem step_at (x y : Vec Ideal S1024x1024 .f32) (z : Vec Ideal S8x128 .f32) (i : Fin 8) (j : Fin 128) :
    k0_pay4 x y z (ix2 i j) = z (ix2 i j) + half * ∑ s : Fin 1024, meanSquare fun r => x (ix2 s r) - y (ix2 s r) := by
  pointwise [k0_pay4, k0_pay2]

variable (m : (ℓ : Loc nD τ sig) → Buf (Elt Ideal) ℓ) (c : Dev nD)

/-- The output and the target, and an entry's error. -/
abbrev out : S16384x1024.Idx → EReal := m ((c : Thread nD τ).loc main_arg0)
abbrev target : S16384x1024.Idx → EReal := m ((c : Thread nD τ).loc main_arg1)
abbrev error (x : Fin 16384) (r : Fin 1024) : EReal := out m c (ix2 x r) - target m c (ix2 x r)
/-- The two results: the loss, repeated, and the gradient. -/
def loss : Buf (Elt Ideal) ((c : Thread nD τ).loc main_v0_0) := fun (p : S8x128.Idx) => (∑ x : Fin 16384, half * meanSquare (error m c x) : EReal)
def grad : Buf (Elt Ideal) ((c : Thread nD τ).loc main_v0_1) := fun (p : S16384x1024.Idx) => (error m c (p 0) (p 1) * scale : EReal)

/-- Where the blocks of the four arrays lie, and which point writes the loss back. -/
theorem place : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_3.index t (0 : Fin 2) = t.val ∧ win0_3.index t (1 : Fin 2) = 0) ∧ t.val < 16 :=
  (by decide +kernel : ∀ t : Fin grid0.N, _)
theorem writes : ∀ t : Fin cfg0.N, (cfg0.win 2).flush t = true → t.val = 15 :=
  (by decide +kernel : ∀ t : Fin grid0.N, (cfg0.win 2).flush t = true → t.val = 15)

/-- The bands of the two arrays at a grid point. -/
abbrev outT (t : Fin cfg0.N) : Vec Ideal S1024x1024 .f32 := iblk m c 0 t
abbrev targetT (t : Fin cfg0.N) : Vec Ideal S1024x1024 .f32 := iblk m c 1 t
theorem error_of (t : Fin cfg0.N) (i : Fin 1024) (x : Fin 16384) (hx : x.val = 1024 * t.val + i.val) (j : Fin 1024) :
    outT m c t (ix2 i j) - targetT m c t (ix2 i j) = error m c x j := by
  obtain ⟨⟨a0, a1⟩, ⟨b0, b1⟩, -⟩ := place t
  refine congrArg₂ (· - ·) (congrArg (m (c.tc.loc main_arg0)) (idx_ext ?_ ?_)) (congrArg (m (c.tc.loc main_arg1)) (idx_ext ?_ ?_))
  · show win0_0.index t (0 : Fin 2) * 1024 + 1 * i.val = x.val
    omega
  · show win0_0.index t (1 : Fin 2) * 1024 + 1 * j.val = j.val
    omega
  · show win0_1.index t (0 : Fin 2) * 1024 + 1 * i.val = x.val
    omega
  · show win0_1.index t (1 : Fin 2) * 1024 + 1 * j.val = j.val
    omega

/-- What the two outputs hold after a point. -/
theorem grad_of (t : Fin cfg0.N) : (outsAt0 m c t.val t.isLt).2 = k0_pay3 (outT m c t) (targetT m c t) := by
  by_cases h : t.val % 16 = 0
  · rw [outsAt0_A m c t h]
    frame_out
  · rw [outsAt0_B m c t h]
    frame_out
theorem loss_first (t : Fin cfg0.N) (h : t.val % 16 = 0) : (outsAt0 m c t.val t.isLt).1 = k0_pay4 (outT m c t) (targetT m c t) (k0_pay1 (F := Ideal)) := by
  rw [outsAt0_A m c t h]
  frame_out
theorem loss_next (t : Fin cfg0.N) (h : ¬t.val % 16 = 0) : (outsAt0 m c t.val t.isLt).1 = k0_pay4 (outT m c t) (targetT m c t) (outsAt0 m c (t.val - 1) (by omega)).1 := by
  rw [outsAt0_B m c t h]
  frame_out

/-- A point adds its tokens' shares. -/
theorem step_of (t : Fin cfg0.N) (z : Vec Ideal S8x128 .f32) (i : Fin 8) (j : Fin 128) : k0_pay4 (outT m c t) (targetT m c t) z (ix2 i j)
    = z (ix2 i j) + part (fun x => half * meanSquare (error m c x)) t.val := by
  have ht := (place t).2.2.2
  unfold part
  rw [dif_pos ht, step_at, half_sum]
  exact congrArg (z (ix2 i j) + ·) (Finset.sum_congr rfl fun s _ => congrArg (fun d => half * meanSquare d)
    (funext fun r => error_of m c t s ⟨1024 * t.val + s.val, by have := s.isLt; omega⟩ rfl r))

/-- The loss after each point: the sum over the points so far. -/
theorem loss_at (k : ℕ) : ∀ (t : Fin cfg0.N), t.val = k → ∀ (i : Fin 8) (j : Fin 128), (outsAt0 m c t.val t.isLt).1 (ix2 i j)
    = ∑ s ∈ Finset.range (k + 1), part (fun x => half * meanSquare (error m c x)) s := by
  induction k with
  | zero =>
    intro t h i j
    rw [loss_first m c t (by omega), step_of, start_at, zero_add, h, Finset.sum_range_one]
  | succ k ih =>
    intro t h i j
    have ht := (place t).2.2.2
    rw [loss_next m c t (by omega), step_of]
    rw [ih ⟨t.val - 1, by have := t.isLt; omega⟩ (by show t.val - 1 = k; omega) i j, h, Finset.sum_range_succ _ (k + 1)]

theorem result_loss : (dats m 0 c).arrAt 2 cfg0.N = loss m c := by
  refine (dats m 0 c).arrAt_eq_of_covers 2 _ (by decide +kernel) fun t hf y => ?_
  have h15 := writes t hf
  blk_simp
  rw [after0_2]
  rw [ValueIdx.eq_ix2 y]
  exact (loss_at m c 15 t h15 _ _).trans (part_sum _)
theorem result_grad : (dats m 0 c).arrAt 3 cfg0.N = grad m c := by
  refine (dats m 0 c).arrAt_eq_of_covers 3 _ (by decide +kernel) fun t hf y => ?_
  blk_simp
  rw [after0_3, grad_of]
  obtain ⟨-, -, ⟨e0, e1⟩, -⟩ := place t
  rw [ValueIdx.eq_ix2 y]
  refine (grad_at _ _ _ _).trans (congrArg (· * scale) ((error_of m c t _ ((((cfg0.win 3).blk t).view.emb (ix2 (y 0) (y 1))) 0) ?_ _).trans (congrArg (error m c _) (Fin.ext ?_))))
  · show win0_3.index t (0 : Fin 2) * 1024 + 1 * (y 0).val = _
    omega
  · show (y 1).val = win0_3.index t (1 : Fin 2) * 1024 + 1 * (y 1).val
    omega

end Cert.Proof.Loss

namespace Cert.Proof

theorem frame_reference15 [Cert.Reference15Ideal.Facts] : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The value claim: both leave the loss and its gradient. -/
theorem algebraic15 [Cert.Kernel15Ideal.Facts] [Cert.Reference15Ideal.Facts] : Cert.algebraic_Kernel15Ideal_Reference15Ideal :=
  fun m g m' g' _ ha => ⟨fun c => Loss.loss m c, fun c => Loss.grad m c,
    (θ_run Cert.Kernel15Ideal.defs _ _).mono (fun r h c => ⟨(h c).1.trans (Loss.result_loss m c), (h c).2.1.trans (Loss.result_grad m c), (h c).2.2⟩)
      (Cert.Kernel15Ideal.Value.run_blocks m g),
    (θ_run Cert.Reference15Ideal.defs _ _).mono (fun r h c => by
      refine ⟨(h c).1.trans ?_, (h c).2.1.trans ?_, (h c).2.2⟩
      · rw [(ha c).1, (ha c).2]
        funext p
        rw [ValueIdx.eq_ix2 p]
        refine Eq.trans ?_ (Loss.half_sum _ _)
        pointwise
      · rw [(ha c).1, (ha c).2]
        funext p
        rw [ValueIdx.eq_ix2 p]
        refine Eq.trans ?_ (Loss.factor _)
        pointwise
        rfl)
      (Cert.Reference15Ideal.Value.run (F := Ideal) m' g')⟩

end Cert.Proof

end
-- ==== Proof.Merge.lean ====
/- The merge of the two branches by their gates, and its gradient with respect to the branches. -/
module

public import proofs.«01_k».proof.Proof.Tiles
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run

@[expose] public section

set_option maxRecDepth 16384

noncomputable section

open Idealize.ShloMosaic Idealize.ShloMosaic.TcCoe Idealize.SL.Sem

namespace Cert.Proof.Merge

/-- A gate. -/
def gate (x : EReal) : EReal := Ideal.div 1 (1 + Ideal.exp (-x))
/-- The columns of the projection that hold the two gates. -/
abbrev colA (j : Fin 1024) : Fin 9216 := ⟨6144 + j.val, by have := j.isLt; omega⟩
abbrev colB (j : Fin 1024) : Fin 9216 := ⟨7168 + j.val, by have := j.isLt; omega⟩

end Cert.Proof.Merge

namespace Cert.Proof.Merge

open Cert.Kernel17Ideal Cert.Kernel17Ideal.Gen

variable (m : (ℓ : Loc nD τ sig) → Buf (Elt Ideal) ℓ) (c : Dev nD)

/-- The two branches and the projection. -/
abbrev branchA : S16384x1024.Idx → EReal := m ((c : Thread nD τ).loc main_arg0)
abbrev branchB : S16384x1024.Idx → EReal := m ((c : Thread nD τ).loc main_arg1)
abbrev proj : S16384x9216.Idx → EReal := m ((c : Thread nD τ).loc main_arg2)

/-- The merged branches. -/
def merged : Buf (Elt Ideal) ((c : Thread nD τ).loc main_v0) := fun (p : S16384x1024.Idx) =>
  (gate (proj m c (ix2 (p 0) (colA (p 1)))) * branchA m c p + gate (proj m c (ix2 (p 0) (colB (p 1)))) * branchB m c p : EReal)

theorem block_at (x u y v : Vec Ideal S1024x1024 .f32) (i j : Fin 1024) :
    k0_pay1 u x v y (ix2 i j) = gate (u (ix2 i j)) * x (ix2 i j) + gate (v (ix2 i j)) * y (ix2 i j) := by
  pointwise [k0_pay1]
  simp only [zero_sub]
  rfl

/-- Where the blocks of the five arrays lie. -/
theorem place : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 6)
    ∧ (win0_3.index t (0 : Fin 2) = t.val ∧ win0_3.index t (1 : Fin 2) = 7)
    ∧ win0_4.index t (0 : Fin 2) = t.val ∧ win0_4.index t (1 : Fin 2) = 0 :=
  (by decide +kernel : ∀ t : Fin grid0.N, _)

/-- The kernel's result is the merge. -/
theorem result : (dats m 0 c).arrAt 4 cfg0.N = merged m c := by
  refine (dats m 0 c).arrAt_eq_of_covers 4 _ (by decide +kernel) fun t hf y => ?_
  blk_simp
  rw [after0_4]
  frame_out
  obtain ⟨⟨a0, a1⟩, ⟨b0, b1⟩, ⟨c0, c1⟩, ⟨d0, d1⟩, e0, e1⟩ := place t
  rw [ValueIdx.eq_ix2 y]
  refine (block_at _ _ _ _ _ _).trans (congrArg₂ (· + ·) (congrArg₂ (· * ·) (congrArg gate (congrArg (m (c.tc.loc main_arg2)) (idx_ext ?_ ?_)))
    (congrArg (m (c.tc.loc main_arg0)) (idx_ext ?_ ?_))) (congrArg₂ (· * ·) (congrArg gate (congrArg (m (c.tc.loc main_arg2)) (idx_ext ?_ ?_)))
    (congrArg (m (c.tc.loc main_arg1)) (idx_ext ?_ ?_))))
  · show win0_2.index t (0 : Fin 2) * 1024 + 1 * (y 0).val = win0_4.index t (0 : Fin 2) * 1024 + 1 * (y 0).val
    omega
  · show win0_2.index t (1 : Fin 2) * 1024 + 1 * (y 1).val = 6144 + (win0_4.index t (1 : Fin 2) * 1024 + 1 * (y 1).val)
    omega
  · show win0_0.index t (0 : Fin 2) * 1024 + 1 * (y 0).val = win0_4.index t (0 : Fin 2) * 1024 + 1 * (y 0).val
    omega
  · show win0_0.index t (1 : Fin 2) * 1024 + 1 * (y 1).val = win0_4.index t (1 : Fin 2) * 1024 + 1 * (y 1).val
    omega
  · show win0_3.index t (0 : Fin 2) * 1024 + 1 * (y 0).val = win0_4.index t (0 : Fin 2) * 1024 + 1 * (y 0).val
    omega
  · show win0_3.index t (1 : Fin 2) * 1024 + 1 * (y 1).val = 7168 + (win0_4.index t (1 : Fin 2) * 1024 + 1 * (y 1).val)
    omega
  · show win0_1.index t (0 : Fin 2) * 1024 + 1 * (y 0).val = win0_4.index t (0 : Fin 2) * 1024 + 1 * (y 0).val
    omega
  · show win0_1.index t (1 : Fin 2) * 1024 + 1 * (y 1).val = win0_4.index t (1 : Fin 2) * 1024 + 1 * (y 1).val
    omega

end Cert.Proof.Merge

namespace Cert.Proof.MergeBwd

open Cert.Kernel16Ideal Cert.Kernel16Ideal.Gen
open Cert.Proof.Merge (gate colA colB)

variable (m : (ℓ : Loc nD τ sig) → Buf (Elt Ideal) ℓ) (c : Dev nD)

/-- The projection and the cotangent. -/
abbrev proj : S16384x9216.Idx → EReal := m ((c : Thread nD τ).loc main_arg2)
abbrev cot : S16384x1024.Idx → EReal := m ((c : Thread nD τ).loc main_arg3)

/-- The gradients of the two branches. -/
def gradA : Buf (Elt Ideal) ((c : Thread nD τ).loc main_v0_0) := fun (p : S16384x1024.Idx) => (cot m c p * gate (proj m c (ix2 (p 0) (colA (p 1)))) : EReal)
def gradB : Buf (Elt Ideal) ((c : Thread nD τ).loc main_v0_1) := fun (p : S16384x1024.Idx) => (cot m c p * gate (proj m c (ix2 (p 0) (colB (p 1)))) : EReal)

variable (d x : Vec Ideal S512x1024 .f32) (i : Fin 512) (j : Fin 1024)

theorem blockA_at : k0_pay4 d x (ix2 i j) = d (ix2 i j) * gate (x (ix2 i j)) := by
  pointwise [k0_pay4, k0_pay2]
  rw [zero_sub]
  rfl
theorem blockB_at : k0_pay5 d x (ix2 i j) = d (ix2 i j) * gate (x (ix2 i j)) := by
  pointwise [k0_pay5, k0_pay3]
  rw [zero_sub]
  rfl

/-- Where the blocks of the gates, the cotangent and the two gradients lie. -/
theorem place : ∀ t : Fin cfg0.N, (win0_2.index t (0 : Fin 2) = t.val ∧ win0_2.index t (1 : Fin 2) = 6)
    ∧ (win0_3.index t (0 : Fin 2) = t.val ∧ win0_3.index t (1 : Fin 2) = 7)
    ∧ (win0_4.index t (0 : Fin 2) = t.val ∧ win0_4.index t (1 : Fin 2) = 0)
    ∧ (win0_5.index t (0 : Fin 2) = t.val ∧ win0_5.index t (1 : Fin 2) = 0)
    ∧ win0_6.index t (0 : Fin 2) = t.val ∧ win0_6.index t (1 : Fin 2) = 0 :=
  (by decide +kernel : ∀ t : Fin grid0.N, _)

theorem resultA : (dats m 0 c).arrAt 5 cfg0.N = gradA m c := by
  refine (dats m 0 c).arrAt_eq_of_covers 5 _ (by decide +kernel) fun t hf y => ?_
  blk_simp
  rw [after0_5]
  frame_out
  obtain ⟨⟨c0, c1⟩, -, ⟨d0, d1⟩, ⟨e0, e1⟩, -⟩ := place t
  rw [ValueIdx.eq_ix2 y]
  refine (blockA_at _ _ _ _).trans (congrArg₂ (· * ·) (congrArg (m (c.tc.loc main_arg3)) (idx_ext ?_ ?_)) (congrArg gate (congrArg (m (c.tc.loc main_arg2)) (idx_ext ?_ ?_))))
  · show win0_4.index t (0 : Fin 2) * 512 + 1 * (y 0).val = win0_5.index t (0 : Fin 2) * 512 + 1 * (y 0).val
    omega
  · show win0_4.index t (1 : Fin 2) * 1024 + 1 * (y 1).val = win0_5.index t (1 : Fin 2) * 1024 + 1 * (y 1).val
    omega
  · show win0_2.index t (0 : Fin 2) * 512 + 1 * (y 0).val = win0_5.index t (0 : Fin 2) * 512 + 1 * (y 0).val
    omega
  · show win0_2.index t (1 : Fin 2) * 1024 + 1 * (y 1).val = 6144 + (win0_5.index t (1 : Fin 2) * 1024 + 1 * (y 1).val)
    omega

theorem resultB : (dats m 0 c).arrAt 6 cfg0.N = gradB m c := by
  refine (dats m 0 c).arrAt_eq_of_covers 6 _ (by decide +kernel) fun t hf y => ?_
  blk_simp
  rw [after0_6]
  frame_out
  obtain ⟨-, ⟨c0, c1⟩, ⟨d0, d1⟩, -, e0, e1⟩ := place t
  rw [ValueIdx.eq_ix2 y]
  refine (blockB_at _ _ _ _).trans (congrArg₂ (· * ·) (congrArg (m (c.tc.loc main_arg3)) (idx_ext ?_ ?_)) (congrArg gate (congrArg (m (c.tc.loc main_arg2)) (idx_ext ?_ ?_))))
  · show win0_4.index t (0 : Fin 2) * 512 + 1 * (y 0).val = win0_6.index t (0 : Fin 2) * 512 + 1 * (y 0).val
    omega
  · show win0_4.index t (1 : Fin 2) * 1024 + 1 * (y 1).val = win0_6.index t (1 : Fin 2) * 1024 + 1 * (y 1).val
    omega
  · show win0_3.index t (0 : Fin 2) * 512 + 1 * (y 0).val = win0_6.index t (0 : Fin 2) * 512 + 1 * (y 0).val
    omega
  · show win0_3.index t (1 : Fin 2) * 1024 + 1 * (y 1).val = 7168 + (win0_6.index t (1 : Fin 2) * 1024 + 1 * (y 1).val)
    omega

end Cert.Proof.MergeBwd

namespace Cert.Proof

theorem frame_reference16 [Cert.Reference16Ideal.Facts] : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)
theorem frame_reference17 [Cert.Reference17Ideal.Facts] : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The value claim: both leave the gradients of the branches. -/
theorem algebraic16 [Cert.Kernel16Ideal.Facts] [Cert.Reference16Ideal.Facts] : Cert.algebraic_Kernel16Ideal_Reference16Ideal :=
  fun m g m' g' _ ha => ⟨fun c => MergeBwd.gradA m c, fun c => MergeBwd.gradB m c,
    (θ_run Cert.Kernel16Ideal.defs _ _).mono (fun r h c => ⟨(h c).1.trans (MergeBwd.resultA m c), (h c).2.1.trans (MergeBwd.resultB m c), (h c).2.2.2⟩)
      (Cert.Kernel16Ideal.Value.run_blocks m g),
    (θ_run Cert.Reference16Ideal.defs _ _).mono (fun r h c => ⟨(h c).1.trans (by
      rw [(ha c).2.2.1, (ha c).2.2.2]
      funext p
      rw [ValueIdx.eq_ix2 p]
      refine Eq.trans ?_ (mul_comm _ _)
      pointwise
      rfl), (h c).2.1.trans (by
      rw [(ha c).2.2.1, (ha c).2.2.2]
      funext p
      rw [ValueIdx.eq_ix2 p]
      refine Eq.trans ?_ (mul_comm _ _)
      pointwise
      rfl), (h c).2.2⟩)
      (Cert.Reference16Ideal.Value.run (F := Ideal) m' g')⟩

/-- The value claim: both leave the merged branches. -/
theorem algebraic17 [Cert.Kernel17Ideal.Facts] [Cert.Reference17Ideal.Facts] : Cert.algebraic_Kernel17Ideal_Reference17Ideal :=
  fun m g m' g' _ ha => ⟨fun c => Merge.merged m c,
    (θ_run Cert.Kernel17Ideal.defs _ _).mono (fun r h c => ⟨(h c).1.trans (Merge.result m c), (h c).2⟩) (Cert.Kernel17Ideal.Value.run_blocks m g),
    (θ_run Cert.Reference17Ideal.defs _ _).mono (fun r h c => ⟨(h c).1.trans (by
      rw [(ha c).1, (ha c).2.1, (ha c).2.2]
      funext p
      rw [ValueIdx.eq_ix2 p]
      pointwise
      rfl), (h c).2⟩)
      (Cert.Reference17Ideal.Value.run (F := Ideal) m' g')⟩

end Cert.Proof

end
-- ==== Proof.NormFwd.lean ====
/- The layer norm. -/
module

public import proofs.«01_k».proof.Proof.NormBwd
public import proofs.«01_k».proof.Proof.Gen.Kernel18.Frame
public import proofs.«01_k».proof.Proof.Gen.Kernel18Ideal.Value
public import proofs.«01_k».proof.Proof.Gen.Reference18Ideal.Run

@[expose] public section

set_option maxRecDepth 16384

noncomputable section

open Idealize.ShloMosaic Idealize.ShloMosaic.TcCoe Idealize.SL.Sem

namespace Cert.Proof.NormFwd

open Cert.Kernel18Ideal Cert.Kernel18Ideal.Gen
open Cert.Proof.NormBwd (alpha hat three)

section Block

variable (x y : Vec Ideal S1024x1024 .f32) (b g d : Vec Ideal S1x1024 .f32) (i j : Fin 1024)

/-- The normalised block is the one of the gradient's call, scaled and shifted. -/
theorem block_eq : k0_pay1 x y b g d = addf (mulf (Cert.Kernel14Ideal.Gen.k0_pay12 x y b) (broadcastTo S1024x1024 (shapeCast S1x1024 g shapeCasts_S1x1024_S1x1024) broadcasts_S1x1024_S1024x1024))
    (broadcastTo S1024x1024 (shapeCast S1x1024 d shapeCasts_S1x1024_S1x1024) broadcasts_S1x1024_S1024x1024) := rfl
theorem block_at : k0_pay1 x y b g d (ix2 i j) = hat (NormBwd.blockRow x y b i) j * g (ix2 0 j) + d (ix2 0 j) := by
  rw [block_eq]
  pointwise
  rw [← NormBwd.hat_at]
theorem cast_at : k0_pay2 x y b g d (ix2 i j) = k0_pay1 x y b g d (ix2 i j) := by
  pointwise [k0_pay2]

end Block

variable (m : (ℓ : Loc nD τ sig) → Buf (Elt Ideal) ℓ) (c : Dev nD)

/-- The two arrays whose sum is normalised, the bias, the scale and the shift. -/
abbrev skip : S16384x1024.Idx → EReal := m ((c : Thread nD τ).loc main_arg0)
abbrev branch : S16384x1024.Idx → EReal := m ((c : Thread nD τ).loc main_arg1)
abbrev bias : S1024.Idx → EReal := m ((c : Thread nD τ).loc main_arg2)
abbrev gain : S1024.Idx → EReal := m ((c : Thread nD τ).loc main_arg3)
abbrev shift : S1024.Idx → EReal := m ((c : Thread nD τ).loc main_arg4)

/-- The layer norm, which both results hold. -/
def norm (i : Fin 16384) (j : Fin 1024) : EReal :=
  hat (NormBwd.tokenRow (skip m c) (branch m c) (bias m c) i) j * gain m c (ix1 j) + shift m c (ix1 j)
def wide : Buf (Elt Ideal) ((c : Thread nD τ).loc main_v5_0) := fun (p : S16384x1024.Idx) => (norm m c (p 0) (p 1) : EReal)
def narrow : Buf (Elt Ideal) ((c : Thread nD τ).loc main_v5_1) := fun (p : S16384x1024.Idx) => (norm m c (p 0) (p 1) : EReal)

theorem rows_eq : V m c main_v4 = NormBwd.rows (bias m c) (gain m c) (shift m c) := by
  show StableHlo.after (hostOps0 ++ hostOps0_1) (fun b => m (c, b)) (Proc.tc.devRef main_v4) = _
  simp only [hostOps0, hostOps0_1, List.cons_append, List.nil_append, StableHlo.TRef.binary, StableHlo.TRef.unary, StableHlo.TRef.toBuf, StableHlo.TRef.ofBuf, cast_eq]
  after_results_simp
  rfl

/-- Where the blocks of the five arrays lie. -/
theorem place : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ win0_4.index t (0 : Fin 2) = t.val ∧ win0_4.index t (1 : Fin 2) = 0 :=
  (by decide +kernel : ∀ t : Fin grid0.N, _)

variable (t : Fin cfg0.N)

/-- The bands of the two arrays at a grid point, and the three packed rows. -/
abbrev skipT : Vec Ideal S1024x1024 .f32 := iblk m c 0 t
abbrev branchT : Vec Ideal S1024x1024 .f32 := iblk m c 1 t
abbrev biasT : Vec Ideal S1x1024 .f32 := View.ld (iblk m c 2 t) (Rect.unit ![0, 0] ![1, 1024] inb_S8x1024_S1x1024_0_0)
abbrev gainT : Vec Ideal S1x1024 .f32 := View.ld (iblk m c 2 t) (Rect.unit ![1, 0] ![1, 1024] inb_S8x1024_S1x1024_1_0)
abbrev shiftT : Vec Ideal S1x1024 .f32 := View.ld (iblk m c 2 t) (Rect.unit ![2, 0] ![1, 1024] inb_S8x1024_S1x1024_2_0)

theorem packed_at (k : Fin 8) (j : Fin 1024) : (iblk m c 2 t : Vec Ideal S8x1024 .f32) (ix2 k j) = three (bias m c (ix1 j)) (gain m c (ix1 j)) (shift m c (ix1 j)) k.val := by
  obtain ⟨-, -, ⟨e0, e1⟩, -⟩ := place t
  rw [← NormBwd.rows_at, ← rows_eq]
  refine congrArg (V m c main_v4) (idx_ext ?_ ?_)
  · show win0_2.index t (0 : Fin 2) * 8 + 1 * k.val = k.val
    omega
  · show win0_2.index t (1 : Fin 2) * 1024 + 1 * j.val = j.val
    omega
theorem biasT_at (j : Fin 1024) : biasT m c t (ix2 0 j) = bias m c (ix1 j) := by
  refine Eq.trans (congrArg (iblk m c 2 t : Vec Ideal S8x1024 .f32) ?_) (packed_at m c t 0 j)
  exact idx_ext rfl (by show 0 + 1 * j.val = j.val; omega)
theorem gainT_at (j : Fin 1024) : gainT m c t (ix2 0 j) = gain m c (ix1 j) := by
  refine Eq.trans (congrArg (iblk m c 2 t : Vec Ideal S8x1024 .f32) ?_) (packed_at m c t 1 j)
  exact idx_ext rfl (by show 0 + 1 * j.val = j.val; omega)
theorem shiftT_at (j : Fin 1024) : shiftT m c t (ix2 0 j) = shift m c (ix1 j) := by
  refine Eq.trans (congrArg (iblk m c 2 t : Vec Ideal S8x1024 .f32) ?_) (packed_at m c t 2 j)
  exact idx_ext rfl (by show 0 + 1 * j.val = j.val; omega)

/-- A point's block is a band of the layer norm. -/
theorem norm_of (i : Fin 1024) (x : Fin 16384) (hx : x.val = 1024 * t.val + i.val) (j : Fin 1024) :
    k0_pay1 (skipT m c t) (branchT m c t) (biasT m c t) (gainT m c t) (shiftT m c t) (ix2 i j) = norm m c x j := by
  obtain ⟨⟨a0, a1⟩, ⟨b0, b1⟩, -⟩ := place t
  rw [block_at, gainT_at, shiftT_at]
  refine congrArg (fun r => hat r j * gain m c (ix1 j) + shift m c (ix1 j)) (funext fun k => congrArg₂ (· + ·) (congrArg₂ (· + ·) (congrArg (alpha * ·)
    ((congrFun (V_main_arg0 m c) _).trans (congrArg (m (c.tc.loc main_arg0)) (idx_ext ?_ ?_)))) ((congrFun (V_main_arg1 m c) _).trans (congrArg (m (c.tc.loc main_arg1)) (idx_ext ?_ ?_)))) (biasT_at m c t k))
  · show win0_0.index t (0 : Fin 2) * 1024 + 1 * i.val = x.val
    omega
  · show win0_0.index t (1 : Fin 2) * 1024 + 1 * k.val = k.val
    omega
  · show win0_1.index t (0 : Fin 2) * 1024 + 1 * i.val = x.val
    omega
  · show win0_1.index t (1 : Fin 2) * 1024 + 1 * k.val = k.val
    omega

theorem result_wide : (dats m 0 c).arrAt 3 cfg0.N = wide m c := by
  refine (dats m 0 c).arrAt_eq_of_covers 3 _ (by decide +kernel) fun t hf y => ?_
  blk_simp
  rw [after0_3]
  frame_out
  obtain ⟨-, -, -, ⟨e0, e1⟩, -⟩ := place t
  rw [ValueIdx.eq_ix2 y]
  refine (norm_of m c t _ ((((cfg0.win 3).blk t).view.emb (ix2 (y 0) (y 1))) 0) ?_ _).trans (congrArg (norm m c _) (Fin.ext ?_))
  · show win0_3.index t (0 : Fin 2) * 1024 + 1 * (y 0).val = _
    omega
  · show (y 1).val = win0_3.index t (1 : Fin 2) * 1024 + 1 * (y 1).val
    omega
theorem result_narrow : (dats m 0 c).arrAt 4 cfg0.N = narrow m c := by
  refine (dats m 0 c).arrAt_eq_of_covers 4 _ (by decide +kernel) fun t hf y => ?_
  blk_simp
  rw [after0_4]
  frame_out
  obtain ⟨-, -, -, -, e0, e1⟩ := place t
  rw [ValueIdx.eq_ix2 y]
  refine (cast_at _ _ _ _ _ _ _).trans ((norm_of m c t _ ((((cfg0.win 4).blk t).view.emb (ix2 (y 0) (y 1))) 0) ?_ _).trans (congrArg (norm m c _) (Fin.ext ?_)))
  · show win0_4.index t (0 : Fin 2) * 1024 + 1 * (y 0).val = _
    omega
  · show (y 1).val = win0_4.index t (1 : Fin 2) * 1024 + 1 * (y 1).val
    omega

end Cert.Proof.NormFwd

namespace Cert.Proof.NormFwd

open Cert.Reference18Ideal Cert.Reference18Ideal.Gen
open Cert.Proof.NormBwd (hat)

variable (x y : FVec Ideal S16384x1024 .f32) (b g d : FVec Ideal S1024 .f32) (i : Fin 16384) (j : Fin 1024)

/-- The reference: the normalised rows, as the reference of the gradient has them, scaled and shifted. -/
def refNorm : FVec Ideal S16384x1024 .f32 :=
  addf (mulf (NormBwd.refHat x y b) (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 d))
theorem refNorm_at : refNorm x y b g d (ix2 i j) = hat (NormBwd.tokenRow x y b i) j * g (ix1 j) + d (ix1 j) := by
  pointwise [refNorm]
  rw [NormBwd.refHat_at]
theorem refCast_at : truncf .bf16 (refNorm x y b g d) bitsLt_bf16_f32 (ix2 i j) = refNorm x y b g d (ix2 i j) := by
  pointwise

end Cert.Proof.NormFwd

namespace Cert.Proof

theorem frame_reference18 [Cert.Reference18Ideal.Facts] : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

/-- The value claim: both leave the layer norm. -/
theorem algebraic18 [Cert.Kernel18Ideal.Facts] [Cert.Reference18Ideal.Facts] : Cert.algebraic_Kernel18Ideal_Reference18Ideal :=
  fun m g m' g' _ ha => ⟨fun c => NormFwd.wide m c, fun c => NormFwd.narrow m c,
    (θ_run Cert.Kernel18Ideal.defs _ _).mono (fun r h c => ⟨(h c).1.trans (NormFwd.result_wide m c), (h c).2.1.trans (NormFwd.result_narrow m c), (h c).2.2⟩)
      (Cert.Kernel18Ideal.Value.run_blocks m g),
    (θ_run Cert.Reference18Ideal.defs _ _).mono (fun r h c => by
      obtain ⟨a0, a1, a2, a3, a4⟩ := ha c
      refine ⟨(h c).1.trans ?_, (h c).2.1.trans ?_, (h c).2.2⟩
      · rw [a0, a1, a2, a3, a4]
        funext p
        rw [ValueIdx.eq_ix2 p]
        exact NormFwd.refNorm_at _ _ _ _ _ _ _
      · rw [a0, a1, a2, a3, a4]
        funext p
        rw [ValueIdx.eq_ix2 p]
        exact (NormFwd.refCast_at _ _ _ _ _ _ _).trans (NormFwd.refNorm_at _ _ _ _ _ _ _))
      (Cert.Reference18Ideal.Value.run (F := Ideal) m' g')⟩

end Cert.Proof

end
-- ==== Proof.lean ====
/- The certificate, put together. -/
module

public import proofs.«01_k».proof.Defs
public import proofs.«01_k».proof.Proof.Frames
public import proofs.«01_k».proof.Proof.RefFrame
public import proofs.«01_k».proof.Proof.Algebraic
public import proofs.«01_k».proof.Proof.DwMain
public import proofs.«01_k».proof.Proof.ProjBwd
public import proofs.«01_k».proof.Proof.Proj
public import proofs.«01_k».proof.Proof.DwDown
public import proofs.«01_k».proof.Proof.DownBwd
public import proofs.«01_k».proof.Proof.DwUp
public import proofs.«01_k».proof.Proof.UpBwd
public import proofs.«01_k».proof.Proof.Up
public import proofs.«01_k».proof.Proof.Down
public import proofs.«01_k».proof.Proof.DwOut
public import proofs.«01_k».proof.Proof.OutBwd
public import proofs.«01_k».proof.Proof.Out
public import proofs.«01_k».proof.Proof.NormBwd
public import proofs.«01_k».proof.Proof.Loss
public import proofs.«01_k».proof.Proof.Merge
public import proofs.«01_k».proof.Proof.NormFwd

@[expose] public section

noncomputable section

namespace Cert.Proof

/-- Everything this certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    frame_kernel, frame_ideal, frame_reference,
    fun m ρ _ => Cert.Kernel2.Gen.frame (F := Idealize.ShloMosaic.Bits) m ρ, fun m ρ _ => Cert.Kernel2Ideal.Gen.frame (F := Idealize.ShloMosaic.Ideal) m ρ, frame_reference2,
    fun m ρ _ => Cert.Kernel3.Gen.frame (F := Idealize.ShloMosaic.Bits) m ρ, fun m ρ _ => Cert.Kernel3Ideal.Gen.frame (F := Idealize.ShloMosaic.Ideal) m ρ, frame_reference3,
    fun m ρ _ => Cert.Kernel4.Gen.frame (F := Idealize.ShloMosaic.Bits) m ρ, fun m ρ _ => Cert.Kernel4Ideal.Gen.frame (F := Idealize.ShloMosaic.Ideal) m ρ, frame_reference4,
    fun m ρ _ => Cert.Kernel5.Gen.frame (F := Idealize.ShloMosaic.Bits) m ρ, fun m ρ _ => Cert.Kernel5Ideal.Gen.frame (F := Idealize.ShloMosaic.Ideal) m ρ, frame_reference5,
    fun m ρ _ => Cert.Kernel6.Gen.frame (F := Idealize.ShloMosaic.Bits) m ρ, fun m ρ _ => Cert.Kernel6Ideal.Gen.frame (F := Idealize.ShloMosaic.Ideal) m ρ, frame_reference6,
    fun m ρ _ => Cert.Kernel7.Gen.frame (F := Idealize.ShloMosaic.Bits) m ρ, fun m ρ _ => Cert.Kernel7Ideal.Gen.frame (F := Idealize.ShloMosaic.Ideal) m ρ, frame_reference7,
    fun m ρ _ => Cert.Kernel8.Gen.frame (F := Idealize.ShloMosaic.Bits) m ρ, fun m ρ _ => Cert.Kernel8Ideal.Gen.frame (F := Idealize.ShloMosaic.Ideal) m ρ, frame_reference8,
    fun m ρ _ => Cert.Kernel9.Gen.frame (F := Idealize.ShloMosaic.Bits) m ρ, fun m ρ _ => Cert.Kernel9Ideal.Gen.frame (F := Idealize.ShloMosaic.Ideal) m ρ, frame_reference9,
    fun m ρ _ => Cert.Kernel10.Gen.frame (F := Idealize.ShloMosaic.Bits) m ρ, fun m ρ _ => Cert.Kernel10Ideal.Gen.frame (F := Idealize.ShloMosaic.Ideal) m ρ, frame_reference10,
    fun m ρ _ => Cert.Kernel11.Gen.frame (F := Idealize.ShloMosaic.Bits) m ρ, fun m ρ _ => Cert.Kernel11Ideal.Gen.frame (F := Idealize.ShloMosaic.Ideal) m ρ, frame_reference11,
    fun m ρ _ => Cert.Kernel12.Gen.frame (F := Idealize.ShloMosaic.Bits) m ρ, fun m ρ _ => Cert.Kernel12Ideal.Gen.frame (F := Idealize.ShloMosaic.Ideal) m ρ, frame_reference12,
    fun m ρ _ => Cert.Kernel13.Gen.frame (F := Idealize.ShloMosaic.Bits) m ρ, fun m ρ _ => Cert.Kernel13Ideal.Gen.frame (F := Idealize.ShloMosaic.Ideal) m ρ, frame_reference13,
    fun m ρ _ => Cert.Kernel14.Gen.frame (F := Idealize.ShloMosaic.Bits) m ρ, fun m ρ _ => Cert.Kernel14Ideal.Gen.frame (F := Idealize.ShloMosaic.Ideal) m ρ, frame_reference14,
    fun m ρ _ => Cert.Kernel15.Gen.frame (F := Idealize.ShloMosaic.Bits) m ρ, fun m ρ _ => Cert.Kernel15Ideal.Gen.frame (F := Idealize.ShloMosaic.Ideal) m ρ, frame_reference15,
    fun m ρ _ => Cert.Kernel16.Gen.frame (F := Idealize.ShloMosaic.Bits) m ρ, fun m ρ _ => Cert.Kernel16Ideal.Gen.frame (F := Idealize.ShloMosaic.Ideal) m ρ, frame_reference16,
    fun m ρ _ => Cert.Kernel17.Gen.frame (F := Idealize.ShloMosaic.Bits) m ρ, fun m ρ _ => Cert.Kernel17Ideal.Gen.frame (F := Idealize.ShloMosaic.Ideal) m ρ, frame_reference17,
    fun m ρ _ => Cert.Kernel18.Gen.frame (F := Idealize.ShloMosaic.Bits) m ρ, fun m ρ _ => Cert.Kernel18Ideal.Gen.frame (F := Idealize.ShloMosaic.Ideal) m ρ, frame_reference18,
    trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13,
    trivial, algebraic14, trivial, algebraic15, trivial, algebraic16, trivial, algebraic17, trivial, algebraic18⟩

end Cert.Proof

end
